-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_FfnDgu (m : (ℓ : Loc Cert.FfnDgu.nD Cert.FfnDgu.τ Cert.FfnDgu.sig) → Buf (Elt Bits) ℓ) : Prop :=
  True

def Pre_FfnDguIdeal (m : (ℓ : Loc Cert.FfnDguIdeal.nD Cert.FfnDguIdeal.τ Cert.FfnDguIdeal.sig) → Buf (Elt Ideal) ℓ) : Prop :=
  True

def Pre_FfnDguIdeal_finite_ffndgu [hPre_finite_ffndgu : Cert.Pre_finite_ffndgu.Facts] (m : (ℓ : Loc Cert.FfnDguIdeal.nD Cert.FfnDguIdeal.τ Cert.FfnDguIdeal.sig) → Buf (Elt Ideal) ℓ) : Prop :=
  ∀ c : Dev Cert.FfnDguIdeal.nD,
    (Cert.Pre_finite_ffndgu.fn (F := Ideal) (m ((c.tc : Thread Cert.FfnDguIdeal.nD Cert.FfnDguIdeal.τ).loc Cert.FfnDguIdeal.main_arg0)) (m ((c.tc : Thread Cert.FfnDguIdeal.nD Cert.FfnDguIdeal.τ).loc Cert.FfnDguIdeal.main_arg1)) (m ((c.tc : Thread Cert.FfnDguIdeal.nD Cert.FfnDguIdeal.τ).loc Cert.FfnDguIdeal.main_arg2))).1 = (fun _ => 1#1)
    ∧ (Cert.Pre_finite_ffndgu.fn (F := Ideal) (m ((c.tc : Thread Cert.FfnDguIdeal.nD Cert.FfnDguIdeal.τ).loc Cert.FfnDguIdeal.main_arg0)) (m ((c.tc : Thread Cert.FfnDguIdeal.nD Cert.FfnDguIdeal.τ).loc Cert.FfnDguIdeal.main_arg1)) (m ((c.tc : Thread Cert.FfnDguIdeal.nD Cert.FfnDguIdeal.τ).loc Cert.FfnDguIdeal.main_arg2))).2.1 = (fun _ => 1#1)
    ∧ (Cert.Pre_finite_ffndgu.fn (F := Ideal) (m ((c.tc : Thread Cert.FfnDguIdeal.nD Cert.FfnDguIdeal.τ).loc Cert.FfnDguIdeal.main_arg0)) (m ((c.tc : Thread Cert.FfnDguIdeal.nD Cert.FfnDguIdeal.τ).loc Cert.FfnDguIdeal.main_arg1)) (m ((c.tc : Thread Cert.FfnDguIdeal.nD Cert.FfnDguIdeal.τ).loc Cert.FfnDguIdeal.main_arg2))).2.2 = (fun _ => 1#1)

def Pre_FfnDguRefIdeal (m : (ℓ : Loc Cert.FfnDguRefIdeal.nD Cert.FfnDguRefIdeal.τ Cert.FfnDguRefIdeal.sig) → Buf (Elt Ideal) ℓ) : Prop :=
  True

def Pre_FfnDguRefIdeal_finite_ffndgu [hPre_finite_ffndgu : Cert.Pre_finite_ffndgu.Facts] (m : (ℓ : Loc Cert.FfnDguRefIdeal.nD Cert.FfnDguRefIdeal.τ Cert.FfnDguRefIdeal.sig) → Buf (Elt Ideal) ℓ) : Prop :=
  ∀ c : Dev Cert.FfnDguRefIdeal.nD,
    (Cert.Pre_finite_ffndgu.fn (F := Ideal) (m ((c.tc : Thread Cert.FfnDguRefIdeal.nD Cert.FfnDguRefIdeal.τ).loc Cert.FfnDguRefIdeal.main_arg0)) (m ((c.tc : Thread Cert.FfnDguRefIdeal.nD Cert.FfnDguRefIdeal.τ).loc Cert.FfnDguRefIdeal.main_arg1)) (m ((c.tc : Thread Cert.FfnDguRefIdeal.nD Cert.FfnDguRefIdeal.τ).loc Cert.FfnDguRefIdeal.main_arg2))).1 = (fun _ => 1#1)
    ∧ (Cert.Pre_finite_ffndgu.fn (F := Ideal) (m ((c.tc : Thread Cert.FfnDguRefIdeal.nD Cert.FfnDguRefIdeal.τ).loc Cert.FfnDguRefIdeal.main_arg0)) (m ((c.tc : Thread Cert.FfnDguRefIdeal.nD Cert.FfnDguRefIdeal.τ).loc Cert.FfnDguRefIdeal.main_arg1)) (m ((c.tc : Thread Cert.FfnDguRefIdeal.nD Cert.FfnDguRefIdeal.τ).loc Cert.FfnDguRefIdeal.main_arg2))).2.1 = (fun _ => 1#1)
    ∧ (Cert.Pre_finite_ffndgu.fn (F := Ideal) (m ((c.tc : Thread Cert.FfnDguRefIdeal.nD Cert.FfnDguRefIdeal.τ).loc Cert.FfnDguRefIdeal.main_arg0)) (m ((c.tc : Thread Cert.FfnDguRefIdeal.nD Cert.FfnDguRefIdeal.τ).loc Cert.FfnDguRefIdeal.main_arg1)) (m ((c.tc : Thread Cert.FfnDguRefIdeal.nD Cert.FfnDguRefIdeal.τ).loc Cert.FfnDguRefIdeal.main_arg2))).2.2 = (fun _ => 1#1)

def Pre_MixDmerge (m : (ℓ : Loc Cert.MixDmerge.nD Cert.MixDmerge.τ Cert.MixDmerge.sig) → Buf (Elt Bits) ℓ) : Prop :=
  True

def Pre_MixDmergeIdeal (m : (ℓ : Loc Cert.MixDmergeIdeal.nD Cert.MixDmergeIdeal.τ Cert.MixDmergeIdeal.sig) → Buf (Elt Ideal) ℓ) : Prop :=
  True

def Pre_MixDmergeRefIdeal (m : (ℓ : Loc Cert.MixDmergeRefIdeal.nD Cert.MixDmergeRefIdeal.τ Cert.MixDmergeRefIdeal.sig) → Buf (Elt Ideal) ℓ) : Prop :=
  True

def Pre_CrossDn (m : (ℓ : Loc Cert.CrossDn.nD Cert.CrossDn.τ Cert.CrossDn.sig) → Buf (Elt Bits) ℓ) : Prop :=
  True

def Pre_CrossDnIdeal (m : (ℓ : Loc Cert.CrossDnIdeal.nD Cert.CrossDnIdeal.τ Cert.CrossDnIdeal.sig) → Buf (Elt Ideal) ℓ) : Prop :=
  True

def Pre_CrossDnRefIdeal (m : (ℓ : Loc Cert.CrossDnRefIdeal.nD Cert.CrossDnRefIdeal.τ Cert.CrossDnRefIdeal.sig) → Buf (Elt Ideal) ℓ) : Prop :=
  True

def Pre_MixDn (m : (ℓ : Loc Cert.MixDn.nD Cert.MixDn.τ Cert.MixDn.sig) → Buf (Elt Bits) ℓ) : Prop :=
  True

def Pre_MixDnIdeal (m : (ℓ : Loc Cert.MixDnIdeal.nD Cert.MixDnIdeal.τ Cert.MixDnIdeal.sig) → Buf (Elt Ideal) ℓ) : Prop :=
  True

def Pre_MixDnRefIdeal (m : (ℓ : Loc Cert.MixDnRefIdeal.nD Cert.MixDnRefIdeal.τ Cert.MixDnRefIdeal.sig) → Buf (Elt Ideal) ℓ) : Prop :=
  True

def Pre_Ffn2Dn (m : (ℓ : Loc Cert.Ffn2Dn.nD Cert.Ffn2Dn.τ Cert.Ffn2Dn.sig) → Buf (Elt Bits) ℓ) : Prop :=
  True

def Pre_Ffn2DnIdeal (m : (ℓ : Loc Cert.Ffn2DnIdeal.nD Cert.Ffn2DnIdeal.τ Cert.Ffn2DnIdeal.sig) → Buf (Elt Ideal) ℓ) : Prop :=
  True

def Pre_Ffn2DnRefIdeal (m : (ℓ : Loc Cert.Ffn2DnRefIdeal.nD Cert.Ffn2DnRefIdeal.τ Cert.Ffn2DnRefIdeal.sig) → Buf (Elt Ideal) ℓ) : Prop :=
  True

def Pre_Ffn1Dn (m : (ℓ : Loc Cert.Ffn1Dn.nD Cert.Ffn1Dn.τ Cert.Ffn1Dn.sig) → Buf (Elt Bits) ℓ) : Prop :=
  True

def Pre_Ffn1DnIdeal (m : (ℓ : Loc Cert.Ffn1DnIdeal.nD Cert.Ffn1DnIdeal.τ Cert.Ffn1DnIdeal.sig) → Buf (Elt Ideal) ℓ) : Prop :=
  True

def Pre_Ffn1DnRefIdeal (m : (ℓ : Loc Cert.Ffn1DnRefIdeal.nD Cert.Ffn1DnRefIdeal.τ Cert.Ffn1DnRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_xattn [hPre_finite_xattn : Cert.Pre_finite_xattn.Facts] (m : (ℓ : Loc Cert.XattnIdeal.nD Cert.XattnIdeal.τ Cert.XattnIdeal.sig) → Buf (Elt Ideal) ℓ) : Prop :=
  ∀ c : Dev Cert.XattnIdeal.nD,
    (Cert.Pre_finite_xattn.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).1 = (fun _ => 1#1)
    ∧ (Cert.Pre_finite_xattn.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite_xattn [hPre_finite_xattn : Cert.Pre_finite_xattn.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite_xattn.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).1 = (fun _ => 1#1)
    ∧ (Cert.Pre_finite_xattn.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).2 = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))).1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))).2 = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))).1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))).2 = (fun _ => 1#1)

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_sbfwd [hPre_finite_sbfwd : Cert.Pre_finite_sbfwd.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_sbfwd.fn (F := Ideal) (m ((c.tc : Thread Cert.SbFwdIdeal.nD Cert.SbFwdIdeal.τ).loc Cert.SbFwdIdeal.main_arg0))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_finite_sbfwd [hPre_finite_sbfwd : Cert.Pre_finite_sbfwd.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_finite_sbfwd.fn (F := Ideal) (m ((c.tc : Thread Cert.SbFwdRefIdeal.nD Cert.SbFwdRefIdeal.τ).loc Cert.SbFwdRefIdeal.main_arg0))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdRefIdeal (m : (ℓ : Loc Cert.XattnFwdRefIdeal.nD Cert.XattnFwdRefIdeal.τ Cert.XattnFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_MixMerge (m : (ℓ : Loc Cert.MixMerge.nD Cert.MixMerge.τ Cert.MixMerge.sig) → Buf (Elt Bits) ℓ) : Prop :=
  True

def Pre_MixMergeIdeal (m : (ℓ : Loc Cert.MixMergeIdeal.nD Cert.MixMergeIdeal.τ Cert.MixMergeIdeal.sig) → Buf (Elt Ideal) ℓ) : Prop :=
  True

def Pre_MixMergeRefIdeal (m : (ℓ : Loc Cert.MixMergeRefIdeal.nD Cert.MixMergeRefIdeal.τ Cert.MixMergeRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1)
      ∧ r.2.mem ((c.tc : Thread Cert.MemNorm.nD Cert.MemNorm.τ).loc Cert.MemNorm.main_arg2) = m ((c.tc : Thread Cert.MemNorm.nD Cert.MemNorm.τ).loc Cert.MemNorm.main_arg2))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
      ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1)
      ∧ r.2.mem ((c.tc : Thread Cert.MemNormRefIdeal.nD Cert.MemNormRefIdeal.τ).loc Cert.MemNormRefIdeal.main_arg2) = m ((c.tc : Thread Cert.MemNormRefIdeal.nD Cert.MemNormRefIdeal.τ).loc Cert.MemNormRefIdeal.main_arg2))
      ∧ r.2.sem = fun _ => 0)

def quiescent_FfnDgu [hFfnDgu : Cert.FfnDgu.Facts] : Prop :=
  ∀ (m : (ℓ : Loc Cert.FfnDgu.nD Cert.FfnDgu.τ Cert.FfnDgu.sig) → Buf (Elt Bits) ℓ) (g : Dev Cert.FfnDgu.nD → PrngReg), Pre_FfnDgu m →
    θ_run (Cert.FfnDgu.defs (F := Bits)) (onTc (τ := Cert.FfnDgu.τ) (Cert.FfnDgu.main (F := Bits))) ⟨m, fun _ => 0, g⟩ (fun r => (∀ c : Dev Cert.FfnDgu.nD,
      r.2.mem ((c.tc : Thread Cert.FfnDgu.nD Cert.FfnDgu.τ).loc Cert.FfnDgu.main_arg0) = m ((c.tc : Thread Cert.FfnDgu.nD Cert.FfnDgu.τ).loc Cert.FfnDgu.main_arg0)
      ∧ r.2.mem ((c.tc : Thread Cert.FfnDgu.nD Cert.FfnDgu.τ).loc Cert.FfnDgu.main_arg1) = m ((c.tc : Thread Cert.FfnDgu.nD Cert.FfnDgu.τ).loc Cert.FfnDgu.main_arg1)
      ∧ r.2.mem ((c.tc : Thread Cert.FfnDgu.nD Cert.FfnDgu.τ).loc Cert.FfnDgu.main_arg2) = m ((c.tc : Thread Cert.FfnDgu.nD Cert.FfnDgu.τ).loc Cert.FfnDgu.main_arg2))
      ∧ r.2.sem = fun _ => 0)

def quiescent_FfnDguIdeal [hFfnDguIdeal : Cert.FfnDguIdeal.Facts] : Prop :=
  ∀ (m : (ℓ : Loc Cert.FfnDguIdeal.nD Cert.FfnDguIdeal.τ Cert.FfnDguIdeal.sig) → Buf (Elt Ideal) ℓ) (g : Dev Cert.FfnDguIdeal.nD → PrngReg), Pre_FfnDguIdeal m →
    θ_run (Cert.FfnDguIdeal.defs (F := Ideal)) (onTc (τ := Cert.FfnDguIdeal.τ) (Cert.FfnDguIdeal.main (F := Ideal))) ⟨m, fun _ => 0, g⟩ (fun r => (∀ c : Dev Cert.FfnDguIdeal.nD,
      r.2.mem ((c.tc : Thread Cert.FfnDguIdeal.nD Cert.FfnDguIdeal.τ).loc Cert.FfnDguIdeal.main_arg0) = m ((c.tc : Thread Cert.FfnDguIdeal.nD Cert.FfnDguIdeal.τ).loc Cert.FfnDguIdeal.main_arg0)
      ∧ r.2.mem ((c.tc : Thread Cert.FfnDguIdeal.nD Cert.FfnDguIdeal.τ).loc Cert.FfnDguIdeal.main_arg1) = m ((c.tc : Thread Cert.FfnDguIdeal.nD Cert.FfnDguIdeal.τ).loc Cert.FfnDguIdeal.main_arg1)
      ∧ r.2.mem ((c.tc : Thread Cert.FfnDguIdeal.nD Cert.FfnDguIdeal.τ).loc Cert.FfnDguIdeal.main_arg2) = m ((c.tc : Thread Cert.FfnDguIdeal.nD Cert.FfnDguIdeal.τ).loc Cert.FfnDguIdeal.main_arg2))
      ∧ r.2.sem = fun _ => 0)

def quiescent_FfnDguIdeal_pre_finite_ffndgu [hFfnDguIdeal : Cert.FfnDguIdeal.Facts] [hPre_finite_ffndgu : Cert.Pre_finite_ffndgu.Facts] : Prop :=
  ∀ (m : (ℓ : Loc Cert.FfnDguIdeal.nD Cert.FfnDguIdeal.τ Cert.FfnDguIdeal.sig) → Buf (Elt Ideal) ℓ) (g : Dev Cert.FfnDguIdeal.nD → PrngReg), Pre_FfnDguIdeal_finite_ffndgu m →
    θ_run (Cert.FfnDguIdeal.defs (F := Ideal)) (onTc (τ := Cert.FfnDguIdeal.τ) (Cert.FfnDguIdeal.main (F := Ideal))) ⟨m, fun _ => 0, g⟩ (fun r => (∀ c : Dev Cert.FfnDguIdeal.nD,
      r.2.mem ((c.tc : Thread Cert.FfnDguIdeal.nD Cert.FfnDguIdeal.τ).loc Cert.FfnDguIdeal.main_arg0) = m ((c.tc : Thread Cert.FfnDguIdeal.nD Cert.FfnDguIdeal.τ).loc Cert.FfnDguIdeal.main_arg0)
      ∧ r.2.mem ((c.tc : Thread Cert.FfnDguIdeal.nD Cert.FfnDguIdeal.τ).loc Cert.FfnDguIdeal.main_arg1) = m ((c.tc : Thread Cert.FfnDguIdeal.nD Cert.FfnDguIdeal.τ).loc Cert.FfnDguIdeal.main_arg1)
      ∧ r.2.mem ((c.tc : Thread Cert.FfnDguIdeal.nD Cert.FfnDguIdeal.τ).loc Cert.FfnDguIdeal.main_arg2) = m ((c.tc : Thread Cert.FfnDguIdeal.nD Cert.FfnDguIdeal.τ).loc Cert.FfnDguIdeal.main_arg2))
      ∧ r.2.sem = fun _ => 0)

def quiescent_FfnDguRefIdeal [hFfnDguRefIdeal : Cert.FfnDguRefIdeal.Facts] : Prop :=
  ∀ (m : (ℓ : Loc Cert.FfnDguRefIdeal.nD Cert.FfnDguRefIdeal.τ Cert.FfnDguRefIdeal.sig) → Buf (Elt Ideal) ℓ) (g : Dev Cert.FfnDguRefIdeal.nD → PrngReg), Pre_FfnDguRefIdeal m →
    θ_run (Cert.FfnDguRefIdeal.defs (F := Ideal)) (onTc (τ := Cert.FfnDguRefIdeal.τ) (Cert.FfnDguRefIdeal.main (F := Ideal))) ⟨m, fun _ => 0, g⟩ (fun r => (∀ c : Dev Cert.FfnDguRefIdeal.nD,
      r.2.mem ((c.tc : Thread Cert.FfnDguRefIdeal.nD Cert.FfnDguRefIdeal.τ).loc Cert.FfnDguRefIdeal.main_arg0) = m ((c.tc : Thread Cert.FfnDguRefIdeal.nD Cert.FfnDguRefIdeal.τ).loc Cert.FfnDguRefIdeal.main_arg0)
      ∧ r.2.mem ((c.tc : Thread Cert.FfnDguRefIdeal.nD Cert.FfnDguRefIdeal.τ).loc Cert.FfnDguRefIdeal.main_arg1) = m ((c.tc : Thread Cert.FfnDguRefIdeal.nD Cert.FfnDguRefIdeal.τ).loc Cert.FfnDguRefIdeal.main_arg1)
      ∧ r.2.mem ((c.tc : Thread Cert.FfnDguRefIdeal.nD Cert.FfnDguRefIdeal.τ).loc Cert.FfnDguRefIdeal.main_arg2) = m ((c.tc : Thread Cert.FfnDguRefIdeal.nD Cert.FfnDguRefIdeal.τ).loc Cert.FfnDguRefIdeal.main_arg2))
      ∧ r.2.sem = fun _ => 0)

def quiescent_FfnDguRefIdeal_pre_finite_ffndgu [hFfnDguRefIdeal : Cert.FfnDguRefIdeal.Facts] [hPre_finite_ffndgu : Cert.Pre_finite_ffndgu.Facts] : Prop :=
  ∀ (m : (ℓ : Loc Cert.FfnDguRefIdeal.nD Cert.FfnDguRefIdeal.τ Cert.FfnDguRefIdeal.sig) → Buf (Elt Ideal) ℓ) (g : Dev Cert.FfnDguRefIdeal.nD → PrngReg), Pre_FfnDguRefIdeal_finite_ffndgu m →
    θ_run (Cert.FfnDguRefIdeal.defs (F := Ideal)) (onTc (τ := Cert.FfnDguRefIdeal.τ) (Cert.FfnDguRefIdeal.main (F := Ideal))) ⟨m, fun _ => 0, g⟩ (fun r => (∀ c : Dev Cert.FfnDguRefIdeal.nD,
      r.2.mem ((c.tc : Thread Cert.FfnDguRefIdeal.nD Cert.FfnDguRefIdeal.τ).loc Cert.FfnDguRefIdeal.main_arg0) = m ((c.tc : Thread Cert.FfnDguRefIdeal.nD Cert.FfnDguRefIdeal.τ).loc Cert.FfnDguRefIdeal.main_arg0)
      ∧ r.2.mem ((c.tc : Thread Cert.FfnDguRefIdeal.nD Cert.FfnDguRefIdeal.τ).loc Cert.FfnDguRefIdeal.main_arg1) = m ((c.tc : Thread Cert.FfnDguRefIdeal.nD Cert.FfnDguRefIdeal.τ).loc Cert.FfnDguRefIdeal.main_arg1)
      ∧ r.2.mem ((c.tc : Thread Cert.FfnDguRefIdeal.nD Cert.FfnDguRefIdeal.τ).loc Cert.FfnDguRefIdeal.main_arg2) = m ((c.tc : Thread Cert.FfnDguRefIdeal.nD Cert.FfnDguRefIdeal.τ).loc Cert.FfnDguRefIdeal.main_arg2))
      ∧ r.2.sem = fun _ => 0)

def quiescent_MixDmerge [hMixDmerge : Cert.MixDmerge.Facts] : Prop :=
  ∀ (m : (ℓ : Loc Cert.MixDmerge.nD Cert.MixDmerge.τ Cert.MixDmerge.sig) → Buf (Elt Bits) ℓ) (g : Dev Cert.MixDmerge.nD → PrngReg), Pre_MixDmerge m →
    θ_run (Cert.MixDmerge.defs (F := Bits)) (onTc (τ := Cert.MixDmerge.τ) (Cert.MixDmerge.main (F := Bits))) ⟨m, fun _ => 0, g⟩ (fun r => (∀ c : Dev Cert.MixDmerge.nD,
      r.2.mem ((c.tc : Thread Cert.MixDmerge.nD Cert.MixDmerge.τ).loc Cert.MixDmerge.main_arg0) = m ((c.tc : Thread Cert.MixDmerge.nD Cert.MixDmerge.τ).loc Cert.MixDmerge.main_arg0)
      ∧ r.2.mem ((c.tc : Thread Cert.MixDmerge.nD Cert.MixDmerge.τ).loc Cert.MixDmerge.main_arg1) = m ((c.tc : Thread Cert.MixDmerge.nD Cert.MixDmerge.τ).loc Cert.MixDmerge.main_arg1)
      ∧ r.2.mem ((c.tc : Thread Cert.MixDmerge.nD Cert.MixDmerge.τ).loc Cert.MixDmerge.main_arg2) = m ((c.tc : Thread Cert.MixDmerge.nD Cert.MixDmerge.τ).loc Cert.MixDmerge.main_arg2)
      ∧ r.2.mem ((c.tc : Thread Cert.MixDmerge.nD Cert.MixDmerge.τ).loc Cert.MixDmerge.main_arg3) = m ((c.tc : Thread Cert.MixDmerge.nD Cert.MixDmerge.τ).loc Cert.MixDmerge.main_arg3)
      ∧ r.2.mem ((c.tc : Thread Cert.MixDmerge.nD Cert.MixDmerge.τ).loc Cert.MixDmerge.main_arg4) = m ((c.tc : Thread Cert.MixDmerge.nD Cert.MixDmerge.τ).loc Cert.MixDmerge.main_arg4)
      ∧ r.2.mem ((c.tc : Thread Cert.MixDmerge.nD Cert.MixDmerge.τ).loc Cert.MixDmerge.main_arg5) = m ((c.tc : Thread Cert.MixDmerge.nD Cert.MixDmerge.τ).loc Cert.MixDmerge.main_arg5))
      ∧ r.2.sem = fun _ => 0)

def quiescent_MixDmergeIdeal [hMixDmergeIdeal : Cert.MixDmergeIdeal.Facts] : Prop :=
  ∀ (m : (ℓ : Loc Cert.MixDmergeIdeal.nD Cert.MixDmergeIdeal.τ Cert.MixDmergeIdeal.sig) → Buf (Elt Ideal) ℓ) (g : Dev Cert.MixDmergeIdeal.nD → PrngReg), Pre_MixDmergeIdeal m →
    θ_run (Cert.MixDmergeIdeal.defs (F := Ideal)) (onTc (τ := Cert.MixDmergeIdeal.τ) (Cert.MixDmergeIdeal.main (F := Ideal))) ⟨m, fun _ => 0, g⟩ (fun r => (∀ c : Dev Cert.MixDmergeIdeal.nD,
      r.2.mem ((c.tc : Thread Cert.MixDmergeIdeal.nD Cert.MixDmergeIdeal.τ).loc Cert.MixDmergeIdeal.main_arg0) = m ((c.tc : Thread Cert.MixDmergeIdeal.nD Cert.MixDmergeIdeal.τ).loc Cert.MixDmergeIdeal.main_arg0)
      ∧ r.2.mem ((c.tc : Thread Cert.MixDmergeIdeal.nD Cert.MixDmergeIdeal.τ).loc Cert.MixDmergeIdeal.main_arg1) = m ((c.tc : Thread Cert.MixDmergeIdeal.nD Cert.MixDmergeIdeal.τ).loc Cert.MixDmergeIdeal.main_arg1)
      ∧ r.2.mem ((c.tc : Thread Cert.MixDmergeIdeal.nD Cert.MixDmergeIdeal.τ).loc Cert.MixDmergeIdeal.main_arg2) = m ((c.tc : Thread Cert.MixDmergeIdeal.nD Cert.MixDmergeIdeal.τ).loc Cert.MixDmergeIdeal.main_arg2)
      ∧ r.2.mem ((c.tc : Thread Cert.MixDmergeIdeal.nD Cert.MixDmergeIdeal.τ).loc Cert.MixDmergeIdeal.main_arg3) = m ((c.tc : Thread Cert.MixDmergeIdeal.nD Cert.MixDmergeIdeal.τ).loc Cert.MixDmergeIdeal.main_arg3)
      ∧ r.2.mem ((c.tc : Thread Cert.MixDmergeIdeal.nD Cert.MixDmergeIdeal.τ).loc Cert.MixDmergeIdeal.main_arg4) = m ((c.tc : Thread Cert.MixDmergeIdeal.nD Cert.MixDmergeIdeal.τ).loc Cert.MixDmergeIdeal.main_arg4)
      ∧ r.2.mem ((c.tc : Thread Cert.MixDmergeIdeal.nD Cert.MixDmergeIdeal.τ).loc Cert.MixDmergeIdeal.main_arg5) = m ((c.tc : Thread Cert.MixDmergeIdeal.nD Cert.MixDmergeIdeal.τ).loc Cert.MixDmergeIdeal.main_arg5))
      ∧ r.2.sem = fun _ => 0)

def quiescent_MixDmergeRefIdeal [hMixDmergeRefIdeal : Cert.MixDmergeRefIdeal.Facts] : Prop :=
  ∀ (m : (ℓ : Loc Cert.MixDmergeRefIdeal.nD Cert.MixDmergeRefIdeal.τ Cert.MixDmergeRefIdeal.sig) → Buf (Elt Ideal) ℓ) (g : Dev Cert.MixDmergeRefIdeal.nD → PrngReg), Pre_MixDmergeRefIdeal m →
    θ_run (Cert.MixDmergeRefIdeal.defs (F := Ideal)) (onTc (τ := Cert.MixDmergeRefIdeal.τ) (Cert.MixDmergeRefIdeal.main (F := Ideal))) ⟨m, fun _ => 0, g⟩ (fun r => (∀ c : Dev Cert.MixDmergeRefIdeal.nD,
      r.2.mem ((c.tc : Thread Cert.MixDmergeRefIdeal.nD Cert.MixDmergeRefIdeal.τ).loc Cert.MixDmergeRefIdeal.main_arg0) = m ((c.tc : Thread Cert.MixDmergeRefIdeal.nD Cert.MixDmergeRefIdeal.τ).loc Cert.MixDmergeRefIdeal.main_arg0)
      ∧ r.2.mem ((c.tc : Thread Cert.MixDmergeRefIdeal.nD Cert.MixDmergeRefIdeal.τ).loc Cert.MixDmergeRefIdeal.main_arg1) = m ((c.tc : Thread Cert.MixDmergeRefIdeal.nD Cert.MixDmergeRefIdeal.τ).loc Cert.MixDmergeRefIdeal.main_arg1)
      ∧ r.2.mem ((c.tc : Thread Cert.MixDmergeRefIdeal.nD Cert.MixDmergeRefIdeal.τ).loc Cert.MixDmergeRefIdeal.main_arg2) = m ((c.tc : Thread Cert.MixDmergeRefIdeal.nD Cert.MixDmergeRefIdeal.τ).loc Cert.MixDmergeRefIdeal.main_arg2)
      ∧ r.2.mem ((c.tc : Thread Cert.MixDmergeRefIdeal.nD Cert.MixDmergeRefIdeal.τ).loc Cert.MixDmergeRefIdeal.main_arg3) = m ((c.tc : Thread Cert.MixDmergeRefIdeal.nD Cert.MixDmergeRefIdeal.τ).loc Cert.MixDmergeRefIdeal.main_arg3)
      ∧ r.2.mem ((c.tc : Thread Cert.MixDmergeRefIdeal.nD Cert.MixDmergeRefIdeal.τ).loc Cert.MixDmergeRefIdeal.main_arg4) = m ((c.tc : Thread Cert.MixDmergeRefIdeal.nD Cert.MixDmergeRefIdeal.τ).loc Cert.MixDmergeRefIdeal.main_arg4)
      ∧ r.2.mem ((c.tc : Thread Cert.MixDmergeRefIdeal.nD Cert.MixDmergeRefIdeal.τ).loc Cert.MixDmergeRefIdeal.main_arg5) = m ((c.tc : Thread Cert.MixDmergeRefIdeal.nD Cert.MixDmergeRefIdeal.τ).loc Cert.MixDmergeRefIdeal.main_arg5))
      ∧ r.2.sem = fun _ => 0)

def quiescent_CrossDn [hCrossDn : Cert.CrossDn.Facts] : Prop :=
  ∀ (m : (ℓ : Loc Cert.CrossDn.nD Cert.CrossDn.τ Cert.CrossDn.sig) → Buf (Elt Bits) ℓ) (g : Dev Cert.CrossDn.nD → PrngReg), Pre_CrossDn m →
    θ_run (Cert.CrossDn.defs (F := Bits)) (onTc (τ := Cert.CrossDn.τ) (Cert.CrossDn.main (F := Bits))) ⟨m, fun _ => 0, g⟩ (fun r => (∀ c : Dev Cert.CrossDn.nD,
      r.2.mem ((c.tc : Thread Cert.CrossDn.nD Cert.CrossDn.τ).loc Cert.CrossDn.main_arg0) = m ((c.tc : Thread Cert.CrossDn.nD Cert.CrossDn.τ).loc Cert.CrossDn.main_arg0)
      ∧ r.2.mem ((c.tc : Thread Cert.CrossDn.nD Cert.CrossDn.τ).loc Cert.CrossDn.main_arg1) = m ((c.tc : Thread Cert.CrossDn.nD Cert.CrossDn.τ).loc Cert.CrossDn.main_arg1)
      ∧ r.2.mem ((c.tc : Thread Cert.CrossDn.nD Cert.CrossDn.τ).loc Cert.CrossDn.main_arg2) = m ((c.tc : Thread Cert.CrossDn.nD Cert.CrossDn.τ).loc Cert.CrossDn.main_arg2)
      ∧ r.2.mem ((c.tc : Thread Cert.CrossDn.nD Cert.CrossDn.τ).loc Cert.CrossDn.main_arg3) = m ((c.tc : Thread Cert.CrossDn.nD Cert.CrossDn.τ).loc Cert.CrossDn.main_arg3)
      ∧ r.2.mem ((c.tc : Thread Cert.CrossDn.nD Cert.CrossDn.τ).loc Cert.CrossDn.main_arg4) = m ((c.tc : Thread Cert.CrossDn.nD Cert.CrossDn.τ).loc Cert.CrossDn.main_arg4))
      ∧ r.2.sem = fun _ => 0)

def quiescent_CrossDnIdeal [hCrossDnIdeal : Cert.CrossDnIdeal.Facts] : Prop :=
  ∀ (m : (ℓ : Loc Cert.CrossDnIdeal.nD Cert.CrossDnIdeal.τ Cert.CrossDnIdeal.sig) → Buf (Elt Ideal) ℓ) (g : Dev Cert.CrossDnIdeal.nD → PrngReg), Pre_CrossDnIdeal m →
    θ_run (Cert.CrossDnIdeal.defs (F := Ideal)) (onTc (τ := Cert.CrossDnIdeal.τ) (Cert.CrossDnIdeal.main (F := Ideal))) ⟨m, fun _ => 0, g⟩ (fun r => (∀ c : Dev Cert.CrossDnIdeal.nD,
      r.2.mem ((c.tc : Thread Cert.CrossDnIdeal.nD Cert.CrossDnIdeal.τ).loc Cert.CrossDnIdeal.main_arg0) = m ((c.tc : Thread Cert.CrossDnIdeal.nD Cert.CrossDnIdeal.τ).loc Cert.CrossDnIdeal.main_arg0)
      ∧ r.2.mem ((c.tc : Thread Cert.CrossDnIdeal.nD Cert.CrossDnIdeal.τ).loc Cert.CrossDnIdeal.main_arg1) = m ((c.tc : Thread Cert.CrossDnIdeal.nD Cert.CrossDnIdeal.τ).loc Cert.CrossDnIdeal.main_arg1)
      ∧ r.2.mem ((c.tc : Thread Cert.CrossDnIdeal.nD Cert.CrossDnIdeal.τ).loc Cert.CrossDnIdeal.main_arg2) = m ((c.tc : Thread Cert.CrossDnIdeal.nD Cert.CrossDnIdeal.τ).loc Cert.CrossDnIdeal.main_arg2)
      ∧ r.2.mem ((c.tc : Thread Cert.CrossDnIdeal.nD Cert.CrossDnIdeal.τ).loc Cert.CrossDnIdeal.main_arg3) = m ((c.tc : Thread Cert.CrossDnIdeal.nD Cert.CrossDnIdeal.τ).loc Cert.CrossDnIdeal.main_arg3)
      ∧ r.2.mem ((c.tc : Thread Cert.CrossDnIdeal.nD Cert.CrossDnIdeal.τ).loc Cert.CrossDnIdeal.main_arg4) = m ((c.tc : Thread Cert.CrossDnIdeal.nD Cert.CrossDnIdeal.τ).loc Cert.CrossDnIdeal.main_arg4))
      ∧ r.2.sem = fun _ => 0)

def quiescent_CrossDnRefIdeal [hCrossDnRefIdeal : Cert.CrossDnRefIdeal.Facts] : Prop :=
  ∀ (m : (ℓ : Loc Cert.CrossDnRefIdeal.nD Cert.CrossDnRefIdeal.τ Cert.CrossDnRefIdeal.sig) → Buf (Elt Ideal) ℓ) (g : Dev Cert.CrossDnRefIdeal.nD → PrngReg), Pre_CrossDnRefIdeal m →
    θ_run (Cert.CrossDnRefIdeal.defs (F := Ideal)) (onTc (τ := Cert.CrossDnRefIdeal.τ) (Cert.CrossDnRefIdeal.main (F := Ideal))) ⟨m, fun _ => 0, g⟩ (fun r => (∀ c : Dev Cert.CrossDnRefIdeal.nD,
      r.2.mem ((c.tc : Thread Cert.CrossDnRefIdeal.nD Cert.CrossDnRefIdeal.τ).loc Cert.CrossDnRefIdeal.main_arg0) = m ((c.tc : Thread Cert.CrossDnRefIdeal.nD Cert.CrossDnRefIdeal.τ).loc Cert.CrossDnRefIdeal.main_arg0)
      ∧ r.2.mem ((c.tc : Thread Cert.CrossDnRefIdeal.nD Cert.CrossDnRefIdeal.τ).loc Cert.CrossDnRefIdeal.main_arg1) = m ((c.tc : Thread Cert.CrossDnRefIdeal.nD Cert.CrossDnRefIdeal.τ).loc Cert.CrossDnRefIdeal.main_arg1)
      ∧ r.2.mem ((c.tc : Thread Cert.CrossDnRefIdeal.nD Cert.CrossDnRefIdeal.τ).loc Cert.CrossDnRefIdeal.main_arg2) = m ((c.tc : Thread Cert.CrossDnRefIdeal.nD Cert.CrossDnRefIdeal.τ).loc Cert.CrossDnRefIdeal.main_arg2)
      ∧ r.2.mem ((c.tc : Thread Cert.CrossDnRefIdeal.nD Cert.CrossDnRefIdeal.τ).loc Cert.CrossDnRefIdeal.main_arg3) = m ((c.tc : Thread Cert.CrossDnRefIdeal.nD Cert.CrossDnRefIdeal.τ).loc Cert.CrossDnRefIdeal.main_arg3)
      ∧ r.2.mem ((c.tc : Thread Cert.CrossDnRefIdeal.nD Cert.CrossDnRefIdeal.τ).loc Cert.CrossDnRefIdeal.main_arg4) = m ((c.tc : Thread Cert.CrossDnRefIdeal.nD Cert.CrossDnRefIdeal.τ).loc Cert.CrossDnRefIdeal.main_arg4))
      ∧ r.2.sem = fun _ => 0)

def quiescent_MixDn [hMixDn : Cert.MixDn.Facts] : Prop :=
  ∀ (m : (ℓ : Loc Cert.MixDn.nD Cert.MixDn.τ Cert.MixDn.sig) → Buf (Elt Bits) ℓ) (g : Dev Cert.MixDn.nD → PrngReg), Pre_MixDn m →
    θ_run (Cert.MixDn.defs (F := Bits)) (onTc (τ := Cert.MixDn.τ) (Cert.MixDn.main (F := Bits))) ⟨m, fun _ => 0, g⟩ (fun r => (∀ c : Dev Cert.MixDn.nD,
      r.2.mem ((c.tc : Thread Cert.MixDn.nD Cert.MixDn.τ).loc Cert.MixDn.main_arg0) = m ((c.tc : Thread Cert.MixDn.nD Cert.MixDn.τ).loc Cert.MixDn.main_arg0)
      ∧ r.2.mem ((c.tc : Thread Cert.MixDn.nD Cert.MixDn.τ).loc Cert.MixDn.main_arg1) = m ((c.tc : Thread Cert.MixDn.nD Cert.MixDn.τ).loc Cert.MixDn.main_arg1)
      ∧ r.2.mem ((c.tc : Thread Cert.MixDn.nD Cert.MixDn.τ).loc Cert.MixDn.main_arg2) = m ((c.tc : Thread Cert.MixDn.nD Cert.MixDn.τ).loc Cert.MixDn.main_arg2)
      ∧ r.2.mem ((c.tc : Thread Cert.MixDn.nD Cert.MixDn.τ).loc Cert.MixDn.main_arg3) = m ((c.tc : Thread Cert.MixDn.nD Cert.MixDn.τ).loc Cert.MixDn.main_arg3)
      ∧ r.2.mem ((c.tc : Thread Cert.MixDn.nD Cert.MixDn.τ).loc Cert.MixDn.main_arg4) = m ((c.tc : Thread Cert.MixDn.nD Cert.MixDn.τ).loc Cert.MixDn.main_arg4))
      ∧ r.2.sem = fun _ => 0)

def quiescent_MixDnIdeal [hMixDnIdeal : Cert.MixDnIdeal.Facts] : Prop :=
  ∀ (m : (ℓ : Loc Cert.MixDnIdeal.nD Cert.MixDnIdeal.τ Cert.MixDnIdeal.sig) → Buf (Elt Ideal) ℓ) (g : Dev Cert.MixDnIdeal.nD → PrngReg), Pre_MixDnIdeal m →
    θ_run (Cert.MixDnIdeal.defs (F := Ideal)) (onTc (τ := Cert.MixDnIdeal.τ) (Cert.MixDnIdeal.main (F := Ideal))) ⟨m, fun _ => 0, g⟩ (fun r => (∀ c : Dev Cert.MixDnIdeal.nD,
      r.2.mem ((c.tc : Thread Cert.MixDnIdeal.nD Cert.MixDnIdeal.τ).loc Cert.MixDnIdeal.main_arg0) = m ((c.tc : Thread Cert.MixDnIdeal.nD Cert.MixDnIdeal.τ).loc Cert.MixDnIdeal.main_arg0)
      ∧ r.2.mem ((c.tc : Thread Cert.MixDnIdeal.nD Cert.MixDnIdeal.τ).loc Cert.MixDnIdeal.main_arg1) = m ((c.tc : Thread Cert.MixDnIdeal.nD Cert.MixDnIdeal.τ).loc Cert.MixDnIdeal.main_arg1)
      ∧ r.2.mem ((c.tc : Thread Cert.MixDnIdeal.nD Cert.MixDnIdeal.τ).loc Cert.MixDnIdeal.main_arg2) = m ((c.tc : Thread Cert.MixDnIdeal.nD Cert.MixDnIdeal.τ).loc Cert.MixDnIdeal.main_arg2)
      ∧ r.2.mem ((c.tc : Thread Cert.MixDnIdeal.nD Cert.MixDnIdeal.τ).loc Cert.MixDnIdeal.main_arg3) = m ((c.tc : Thread Cert.MixDnIdeal.nD Cert.MixDnIdeal.τ).loc Cert.MixDnIdeal.main_arg3)
      ∧ r.2.mem ((c.tc : Thread Cert.MixDnIdeal.nD Cert.MixDnIdeal.τ).loc Cert.MixDnIdeal.main_arg4) = m ((c.tc : Thread Cert.MixDnIdeal.nD Cert.MixDnIdeal.τ).loc Cert.MixDnIdeal.main_arg4))
      ∧ r.2.sem = fun _ => 0)

def quiescent_MixDnRefIdeal [hMixDnRefIdeal : Cert.MixDnRefIdeal.Facts] : Prop :=
  ∀ (m : (ℓ : Loc Cert.MixDnRefIdeal.nD Cert.MixDnRefIdeal.τ Cert.MixDnRefIdeal.sig) → Buf (Elt Ideal) ℓ) (g : Dev Cert.MixDnRefIdeal.nD → PrngReg), Pre_MixDnRefIdeal m →
    θ_run (Cert.MixDnRefIdeal.defs (F := Ideal)) (onTc (τ := Cert.MixDnRefIdeal.τ) (Cert.MixDnRefIdeal.main (F := Ideal))) ⟨m, fun _ => 0, g⟩ (fun r => (∀ c : Dev Cert.MixDnRefIdeal.nD,
      r.2.mem ((c.tc : Thread Cert.MixDnRefIdeal.nD Cert.MixDnRefIdeal.τ).loc Cert.MixDnRefIdeal.main_arg0) = m ((c.tc : Thread Cert.MixDnRefIdeal.nD Cert.MixDnRefIdeal.τ).loc Cert.MixDnRefIdeal.main_arg0)
      ∧ r.2.mem ((c.tc : Thread Cert.MixDnRefIdeal.nD Cert.MixDnRefIdeal.τ).loc Cert.MixDnRefIdeal.main_arg1) = m ((c.tc : Thread Cert.MixDnRefIdeal.nD Cert.MixDnRefIdeal.τ).loc Cert.MixDnRefIdeal.main_arg1)
      ∧ r.2.mem ((c.tc : Thread Cert.MixDnRefIdeal.nD Cert.MixDnRefIdeal.τ).loc Cert.MixDnRefIdeal.main_arg2) = m ((c.tc : Thread Cert.MixDnRefIdeal.nD Cert.MixDnRefIdeal.τ).loc Cert.MixDnRefIdeal.main_arg2)
      ∧ r.2.mem ((c.tc : Thread Cert.MixDnRefIdeal.nD Cert.MixDnRefIdeal.τ).loc Cert.MixDnRefIdeal.main_arg3) = m ((c.tc : Thread Cert.MixDnRefIdeal.nD Cert.MixDnRefIdeal.τ).loc Cert.MixDnRefIdeal.main_arg3)
      ∧ r.2.mem ((c.tc : Thread Cert.MixDnRefIdeal.nD Cert.MixDnRefIdeal.τ).loc Cert.MixDnRefIdeal.main_arg4) = m ((c.tc : Thread Cert.MixDnRefIdeal.nD Cert.MixDnRefIdeal.τ).loc Cert.MixDnRefIdeal.main_arg4))
      ∧ r.2.sem = fun _ => 0)

def quiescent_Ffn2Dn [hFfn2Dn : Cert.Ffn2Dn.Facts] : Prop :=
  ∀ (m : (ℓ : Loc Cert.Ffn2Dn.nD Cert.Ffn2Dn.τ Cert.Ffn2Dn.sig) → Buf (Elt Bits) ℓ) (g : Dev Cert.Ffn2Dn.nD → PrngReg), Pre_Ffn2Dn m →
    θ_run (Cert.Ffn2Dn.defs (F := Bits)) (onTc (τ := Cert.Ffn2Dn.τ) (Cert.Ffn2Dn.main (F := Bits))) ⟨m, fun _ => 0, g⟩ (fun r => (∀ c : Dev Cert.Ffn2Dn.nD,
      r.2.mem ((c.tc : Thread Cert.Ffn2Dn.nD Cert.Ffn2Dn.τ).loc Cert.Ffn2Dn.main_arg0) = m ((c.tc : Thread Cert.Ffn2Dn.nD Cert.Ffn2Dn.τ).loc Cert.Ffn2Dn.main_arg0)
      ∧ r.2.mem ((c.tc : Thread Cert.Ffn2Dn.nD Cert.Ffn2Dn.τ).loc Cert.Ffn2Dn.main_arg1) = m ((c.tc : Thread Cert.Ffn2Dn.nD Cert.Ffn2Dn.τ).loc Cert.Ffn2Dn.main_arg1)
      ∧ r.2.mem ((c.tc : Thread Cert.Ffn2Dn.nD Cert.Ffn2Dn.τ).loc Cert.Ffn2Dn.main_arg2) = m ((c.tc : Thread Cert.Ffn2Dn.nD Cert.Ffn2Dn.τ).loc Cert.Ffn2Dn.main_arg2)
      ∧ r.2.mem ((c.tc : Thread Cert.Ffn2Dn.nD Cert.Ffn2Dn.τ).loc Cert.Ffn2Dn.main_arg3) = m ((c.tc : Thread Cert.Ffn2Dn.nD Cert.Ffn2Dn.τ).loc Cert.Ffn2Dn.main_arg3)
      ∧ r.2.mem ((c.tc : Thread Cert.Ffn2Dn.nD Cert.Ffn2Dn.τ).loc Cert.Ffn2Dn.main_arg4) = m ((c.tc : Thread Cert.Ffn2Dn.nD Cert.Ffn2Dn.τ).loc Cert.Ffn2Dn.main_arg4))
      ∧ r.2.sem = fun _ => 0)

def quiescent_Ffn2DnIdeal [hFfn2DnIdeal : Cert.Ffn2DnIdeal.Facts] : Prop :=
  ∀ (m : (ℓ : Loc Cert.Ffn2DnIdeal.nD Cert.Ffn2DnIdeal.τ Cert.Ffn2DnIdeal.sig) → Buf (Elt Ideal) ℓ) (g : Dev Cert.Ffn2DnIdeal.nD → PrngReg), Pre_Ffn2DnIdeal m →
    θ_run (Cert.Ffn2DnIdeal.defs (F := Ideal)) (onTc (τ := Cert.Ffn2DnIdeal.τ) (Cert.Ffn2DnIdeal.main (F := Ideal))) ⟨m, fun _ => 0, g⟩ (fun r => (∀ c : Dev Cert.Ffn2DnIdeal.nD,
      r.2.mem ((c.tc : Thread Cert.Ffn2DnIdeal.nD Cert.Ffn2DnIdeal.τ).loc Cert.Ffn2DnIdeal.main_arg0) = m ((c.tc : Thread Cert.Ffn2DnIdeal.nD Cert.Ffn2DnIdeal.τ).loc Cert.Ffn2DnIdeal.main_arg0)
      ∧ r.2.mem ((c.tc : Thread Cert.Ffn2DnIdeal.nD Cert.Ffn2DnIdeal.τ).loc Cert.Ffn2DnIdeal.main_arg1) = m ((c.tc : Thread Cert.Ffn2DnIdeal.nD Cert.Ffn2DnIdeal.τ).loc Cert.Ffn2DnIdeal.main_arg1)
      ∧ r.2.mem ((c.tc : Thread Cert.Ffn2DnIdeal.nD Cert.Ffn2DnIdeal.τ).loc Cert.Ffn2DnIdeal.main_arg2) = m ((c.tc : Thread Cert.Ffn2DnIdeal.nD Cert.Ffn2DnIdeal.τ).loc Cert.Ffn2DnIdeal.main_arg2)
      ∧ r.2.mem ((c.tc : Thread Cert.Ffn2DnIdeal.nD Cert.Ffn2DnIdeal.τ).loc Cert.Ffn2DnIdeal.main_arg3) = m ((c.tc : Thread Cert.Ffn2DnIdeal.nD Cert.Ffn2DnIdeal.τ).loc Cert.Ffn2DnIdeal.main_arg3)
      ∧ r.2.mem ((c.tc : Thread Cert.Ffn2DnIdeal.nD Cert.Ffn2DnIdeal.τ).loc Cert.Ffn2DnIdeal.main_arg4) = m ((c.tc : Thread Cert.Ffn2DnIdeal.nD Cert.Ffn2DnIdeal.τ).loc Cert.Ffn2DnIdeal.main_arg4))
      ∧ r.2.sem = fun _ => 0)

def quiescent_Ffn2DnRefIdeal [hFfn2DnRefIdeal : Cert.Ffn2DnRefIdeal.Facts] : Prop :=
  ∀ (m : (ℓ : Loc Cert.Ffn2DnRefIdeal.nD Cert.Ffn2DnRefIdeal.τ Cert.Ffn2DnRefIdeal.sig) → Buf (Elt Ideal) ℓ) (g : Dev Cert.Ffn2DnRefIdeal.nD → PrngReg), Pre_Ffn2DnRefIdeal m →
    θ_run (Cert.Ffn2DnRefIdeal.defs (F := Ideal)) (onTc (τ := Cert.Ffn2DnRefIdeal.τ) (Cert.Ffn2DnRefIdeal.main (F := Ideal))) ⟨m, fun _ => 0, g⟩ (fun r => (∀ c : Dev Cert.Ffn2DnRefIdeal.nD,
      r.2.mem ((c.tc : Thread Cert.Ffn2DnRefIdeal.nD Cert.Ffn2DnRefIdeal.τ).loc Cert.Ffn2DnRefIdeal.main_arg0) = m ((c.tc : Thread Cert.Ffn2DnRefIdeal.nD Cert.Ffn2DnRefIdeal.τ).loc Cert.Ffn2DnRefIdeal.main_arg0)
      ∧ r.2.mem ((c.tc : Thread Cert.Ffn2DnRefIdeal.nD Cert.Ffn2DnRefIdeal.τ).loc Cert.Ffn2DnRefIdeal.main_arg1) = m ((c.tc : Thread Cert.Ffn2DnRefIdeal.nD Cert.Ffn2DnRefIdeal.τ).loc Cert.Ffn2DnRefIdeal.main_arg1)
      ∧ r.2.mem ((c.tc : Thread Cert.Ffn2DnRefIdeal.nD Cert.Ffn2DnRefIdeal.τ).loc Cert.Ffn2DnRefIdeal.main_arg2) = m ((c.tc : Thread Cert.Ffn2DnRefIdeal.nD Cert.Ffn2DnRefIdeal.τ).loc Cert.Ffn2DnRefIdeal.main_arg2)
      ∧ r.2.mem ((c.tc : Thread Cert.Ffn2DnRefIdeal.nD Cert.Ffn2DnRefIdeal.τ).loc Cert.Ffn2DnRefIdeal.main_arg3) = m ((c.tc : Thread Cert.Ffn2DnRefIdeal.nD Cert.Ffn2DnRefIdeal.τ).loc Cert.Ffn2DnRefIdeal.main_arg3)
      ∧ r.2.mem ((c.tc : Thread Cert.Ffn2DnRefIdeal.nD Cert.Ffn2DnRefIdeal.τ).loc Cert.Ffn2DnRefIdeal.main_arg4) = m ((c.tc : Thread Cert.Ffn2DnRefIdeal.nD Cert.Ffn2DnRefIdeal.τ).loc Cert.Ffn2DnRefIdeal.main_arg4))
      ∧ r.2.sem = fun _ => 0)

def quiescent_Ffn1Dn [hFfn1Dn : Cert.Ffn1Dn.Facts] : Prop :=
  ∀ (m : (ℓ : Loc Cert.Ffn1Dn.nD Cert.Ffn1Dn.τ Cert.Ffn1Dn.sig) → Buf (Elt Bits) ℓ) (g : Dev Cert.Ffn1Dn.nD → PrngReg), Pre_Ffn1Dn m →
    θ_run (Cert.Ffn1Dn.defs (F := Bits)) (onTc (τ := Cert.Ffn1Dn.τ) (Cert.Ffn1Dn.main (F := Bits))) ⟨m, fun _ => 0, g⟩ (fun r => (∀ c : Dev Cert.Ffn1Dn.nD,
      r.2.mem ((c.tc : Thread Cert.Ffn1Dn.nD Cert.Ffn1Dn.τ).loc Cert.Ffn1Dn.main_arg0) = m ((c.tc : Thread Cert.Ffn1Dn.nD Cert.Ffn1Dn.τ).loc Cert.Ffn1Dn.main_arg0)
      ∧ r.2.mem ((c.tc : Thread Cert.Ffn1Dn.nD Cert.Ffn1Dn.τ).loc Cert.Ffn1Dn.main_arg1) = m ((c.tc : Thread Cert.Ffn1Dn.nD Cert.Ffn1Dn.τ).loc Cert.Ffn1Dn.main_arg1)
      ∧ r.2.mem ((c.tc : Thread Cert.Ffn1Dn.nD Cert.Ffn1Dn.τ).loc Cert.Ffn1Dn.main_arg2) = m ((c.tc : Thread Cert.Ffn1Dn.nD Cert.Ffn1Dn.τ).loc Cert.Ffn1Dn.main_arg2)
      ∧ r.2.mem ((c.tc : Thread Cert.Ffn1Dn.nD Cert.Ffn1Dn.τ).loc Cert.Ffn1Dn.main_arg3) = m ((c.tc : Thread Cert.Ffn1Dn.nD Cert.Ffn1Dn.τ).loc Cert.Ffn1Dn.main_arg3)
      ∧ r.2.mem ((c.tc : Thread Cert.Ffn1Dn.nD Cert.Ffn1Dn.τ).loc Cert.Ffn1Dn.main_arg4) = m ((c.tc : Thread Cert.Ffn1Dn.nD Cert.Ffn1Dn.τ).loc Cert.Ffn1Dn.main_arg4))
      ∧ r.2.sem = fun _ => 0)

def quiescent_Ffn1DnIdeal [hFfn1DnIdeal : Cert.Ffn1DnIdeal.Facts] : Prop :=
  ∀ (m : (ℓ : Loc Cert.Ffn1DnIdeal.nD Cert.Ffn1DnIdeal.τ Cert.Ffn1DnIdeal.sig) → Buf (Elt Ideal) ℓ) (g : Dev Cert.Ffn1DnIdeal.nD → PrngReg), Pre_Ffn1DnIdeal m →
    θ_run (Cert.Ffn1DnIdeal.defs (F := Ideal)) (onTc (τ := Cert.Ffn1DnIdeal.τ) (Cert.Ffn1DnIdeal.main (F := Ideal))) ⟨m, fun _ => 0, g⟩ (fun r => (∀ c : Dev Cert.Ffn1DnIdeal.nD,
      r.2.mem ((c.tc : Thread Cert.Ffn1DnIdeal.nD Cert.Ffn1DnIdeal.τ).loc Cert.Ffn1DnIdeal.main_arg0) = m ((c.tc : Thread Cert.Ffn1DnIdeal.nD Cert.Ffn1DnIdeal.τ).loc Cert.Ffn1DnIdeal.main_arg0)
      ∧ r.2.mem ((c.tc : Thread Cert.Ffn1DnIdeal.nD Cert.Ffn1DnIdeal.τ).loc Cert.Ffn1DnIdeal.main_arg1) = m ((c.tc : Thread Cert.Ffn1DnIdeal.nD Cert.Ffn1DnIdeal.τ).loc Cert.Ffn1DnIdeal.main_arg1)
      ∧ r.2.mem ((c.tc : Thread Cert.Ffn1DnIdeal.nD Cert.Ffn1DnIdeal.τ).loc Cert.Ffn1DnIdeal.main_arg2) = m ((c.tc : Thread Cert.Ffn1DnIdeal.nD Cert.Ffn1DnIdeal.τ).loc Cert.Ffn1DnIdeal.main_arg2)
      ∧ r.2.mem ((c.tc : Thread Cert.Ffn1DnIdeal.nD Cert.Ffn1DnIdeal.τ).loc Cert.Ffn1DnIdeal.main_arg3) = m ((c.tc : Thread Cert.Ffn1DnIdeal.nD Cert.Ffn1DnIdeal.τ).loc Cert.Ffn1DnIdeal.main_arg3)
      ∧ r.2.mem ((c.tc : Thread Cert.Ffn1DnIdeal.nD Cert.Ffn1DnIdeal.τ).loc Cert.Ffn1DnIdeal.main_arg4) = m ((c.tc : Thread Cert.Ffn1DnIdeal.nD Cert.Ffn1DnIdeal.τ).loc Cert.Ffn1DnIdeal.main_arg4))
      ∧ r.2.sem = fun _ => 0)

def quiescent_Ffn1DnRefIdeal [hFfn1DnRefIdeal : Cert.Ffn1DnRefIdeal.Facts] : Prop :=
  ∀ (m : (ℓ : Loc Cert.Ffn1DnRefIdeal.nD Cert.Ffn1DnRefIdeal.τ Cert.Ffn1DnRefIdeal.sig) → Buf (Elt Ideal) ℓ) (g : Dev Cert.Ffn1DnRefIdeal.nD → PrngReg), Pre_Ffn1DnRefIdeal m →
    θ_run (Cert.Ffn1DnRefIdeal.defs (F := Ideal)) (onTc (τ := Cert.Ffn1DnRefIdeal.τ) (Cert.Ffn1DnRefIdeal.main (F := Ideal))) ⟨m, fun _ => 0, g⟩ (fun r => (∀ c : Dev Cert.Ffn1DnRefIdeal.nD,
      r.2.mem ((c.tc : Thread Cert.Ffn1DnRefIdeal.nD Cert.Ffn1DnRefIdeal.τ).loc Cert.Ffn1DnRefIdeal.main_arg0) = m ((c.tc : Thread Cert.Ffn1DnRefIdeal.nD Cert.Ffn1DnRefIdeal.τ).loc Cert.Ffn1DnRefIdeal.main_arg0)
      ∧ r.2.mem ((c.tc : Thread Cert.Ffn1DnRefIdeal.nD Cert.Ffn1DnRefIdeal.τ).loc Cert.Ffn1DnRefIdeal.main_arg1) = m ((c.tc : Thread Cert.Ffn1DnRefIdeal.nD Cert.Ffn1DnRefIdeal.τ).loc Cert.Ffn1DnRefIdeal.main_arg1)
      ∧ r.2.mem ((c.tc : Thread Cert.Ffn1DnRefIdeal.nD Cert.Ffn1DnRefIdeal.τ).loc Cert.Ffn1DnRefIdeal.main_arg2) = m ((c.tc : Thread Cert.Ffn1DnRefIdeal.nD Cert.Ffn1DnRefIdeal.τ).loc Cert.Ffn1DnRefIdeal.main_arg2)
      ∧ r.2.mem ((c.tc : Thread Cert.Ffn1DnRefIdeal.nD Cert.Ffn1DnRefIdeal.τ).loc Cert.Ffn1DnRefIdeal.main_arg3) = m ((c.tc : Thread Cert.Ffn1DnRefIdeal.nD Cert.Ffn1DnRefIdeal.τ).loc Cert.Ffn1DnRefIdeal.main_arg3)
      ∧ r.2.mem ((c.tc : Thread Cert.Ffn1DnRefIdeal.nD Cert.Ffn1DnRefIdeal.τ).loc Cert.Ffn1DnRefIdeal.main_arg4) = m ((c.tc : Thread Cert.Ffn1DnRefIdeal.nD Cert.Ffn1DnRefIdeal.τ).loc Cert.Ffn1DnRefIdeal.main_arg4))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_finite_xattn [hXattnIdeal : Cert.XattnIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_xattn m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_XattnRefIdeal_pre_finite_xattn [hXattnRefIdeal : Cert.XattnRefIdeal.Facts] [hPre_finite_xattn : Cert.Pre_finite_xattn.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite_xattn m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdIdeal_pre_finite_sbfwd [hSbFwdIdeal : Cert.SbFwdIdeal.Facts] [hPre_finite_sbfwd : Cert.Pre_finite_sbfwd.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_sbfwd m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def quiescent_SbFwdRefIdeal_pre_finite_sbfwd [hSbFwdRefIdeal : Cert.SbFwdRefIdeal.Facts] [hPre_finite_sbfwd : Cert.Pre_finite_sbfwd.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_finite_sbfwd m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_MixMerge [hMixMerge : Cert.MixMerge.Facts] : Prop :=
  ∀ (m : (ℓ : Loc Cert.MixMerge.nD Cert.MixMerge.τ Cert.MixMerge.sig) → Buf (Elt Bits) ℓ) (g : Dev Cert.MixMerge.nD → PrngReg), Pre_MixMerge m →
    θ_run (Cert.MixMerge.defs (F := Bits)) (onTc (τ := Cert.MixMerge.τ) (Cert.MixMerge.main (F := Bits))) ⟨m, fun _ => 0, g⟩ (fun r => (∀ c : Dev Cert.MixMerge.nD,
      r.2.mem ((c.tc : Thread Cert.MixMerge.nD Cert.MixMerge.τ).loc Cert.MixMerge.main_arg0) = m ((c.tc : Thread Cert.MixMerge.nD Cert.MixMerge.τ).loc Cert.MixMerge.main_arg0)
      ∧ r.2.mem ((c.tc : Thread Cert.MixMerge.nD Cert.MixMerge.τ).loc Cert.MixMerge.main_arg1) = m ((c.tc : Thread Cert.MixMerge.nD Cert.MixMerge.τ).loc Cert.MixMerge.main_arg1)
      ∧ r.2.mem ((c.tc : Thread Cert.MixMerge.nD Cert.MixMerge.τ).loc Cert.MixMerge.main_arg2) = m ((c.tc : Thread Cert.MixMerge.nD Cert.MixMerge.τ).loc Cert.MixMerge.main_arg2)
      ∧ r.2.mem ((c.tc : Thread Cert.MixMerge.nD Cert.MixMerge.τ).loc Cert.MixMerge.main_arg3) = m ((c.tc : Thread Cert.MixMerge.nD Cert.MixMerge.τ).loc Cert.MixMerge.main_arg3)
      ∧ r.2.mem ((c.tc : Thread Cert.MixMerge.nD Cert.MixMerge.τ).loc Cert.MixMerge.main_arg4) = m ((c.tc : Thread Cert.MixMerge.nD Cert.MixMerge.τ).loc Cert.MixMerge.main_arg4)
      ∧ r.2.mem ((c.tc : Thread Cert.MixMerge.nD Cert.MixMerge.τ).loc Cert.MixMerge.main_arg5) = m ((c.tc : Thread Cert.MixMerge.nD Cert.MixMerge.τ).loc Cert.MixMerge.main_arg5))
      ∧ r.2.sem = fun _ => 0)

def quiescent_MixMergeIdeal [hMixMergeIdeal : Cert.MixMergeIdeal.Facts] : Prop :=
  ∀ (m : (ℓ : Loc Cert.MixMergeIdeal.nD Cert.MixMergeIdeal.τ Cert.MixMergeIdeal.sig) → Buf (Elt Ideal) ℓ) (g : Dev Cert.MixMergeIdeal.nD → PrngReg), Pre_MixMergeIdeal m →
    θ_run (Cert.MixMergeIdeal.defs (F := Ideal)) (onTc (τ := Cert.MixMergeIdeal.τ) (Cert.MixMergeIdeal.main (F := Ideal))) ⟨m, fun _ => 0, g⟩ (fun r => (∀ c : Dev Cert.MixMergeIdeal.nD,
      r.2.mem ((c.tc : Thread Cert.MixMergeIdeal.nD Cert.MixMergeIdeal.τ).loc Cert.MixMergeIdeal.main_arg0) = m ((c.tc : Thread Cert.MixMergeIdeal.nD Cert.MixMergeIdeal.τ).loc Cert.MixMergeIdeal.main_arg0)
      ∧ r.2.mem ((c.tc : Thread Cert.MixMergeIdeal.nD Cert.MixMergeIdeal.τ).loc Cert.MixMergeIdeal.main_arg1) = m ((c.tc : Thread Cert.MixMergeIdeal.nD Cert.MixMergeIdeal.τ).loc Cert.MixMergeIdeal.main_arg1)
      ∧ r.2.mem ((c.tc : Thread Cert.MixMergeIdeal.nD Cert.MixMergeIdeal.τ).loc Cert.MixMergeIdeal.main_arg2) = m ((c.tc : Thread Cert.MixMergeIdeal.nD Cert.MixMergeIdeal.τ).loc Cert.MixMergeIdeal.main_arg2)
      ∧ r.2.mem ((c.tc : Thread Cert.MixMergeIdeal.nD Cert.MixMergeIdeal.τ).loc Cert.MixMergeIdeal.main_arg3) = m ((c.tc : Thread Cert.MixMergeIdeal.nD Cert.MixMergeIdeal.τ).loc Cert.MixMergeIdeal.main_arg3)
      ∧ r.2.mem ((c.tc : Thread Cert.MixMergeIdeal.nD Cert.MixMergeIdeal.τ).loc Cert.MixMergeIdeal.main_arg4) = m ((c.tc : Thread Cert.MixMergeIdeal.nD Cert.MixMergeIdeal.τ).loc Cert.MixMergeIdeal.main_arg4)
      ∧ r.2.mem ((c.tc : Thread Cert.MixMergeIdeal.nD Cert.MixMergeIdeal.τ).loc Cert.MixMergeIdeal.main_arg5) = m ((c.tc : Thread Cert.MixMergeIdeal.nD Cert.MixMergeIdeal.τ).loc Cert.MixMergeIdeal.main_arg5))
      ∧ r.2.sem = fun _ => 0)

def quiescent_MixMergeRefIdeal [hMixMergeRefIdeal : Cert.MixMergeRefIdeal.Facts] : Prop :=
  ∀ (m : (ℓ : Loc Cert.MixMergeRefIdeal.nD Cert.MixMergeRefIdeal.τ Cert.MixMergeRefIdeal.sig) → Buf (Elt Ideal) ℓ) (g : Dev Cert.MixMergeRefIdeal.nD → PrngReg), Pre_MixMergeRefIdeal m →
    θ_run (Cert.MixMergeRefIdeal.defs (F := Ideal)) (onTc (τ := Cert.MixMergeRefIdeal.τ) (Cert.MixMergeRefIdeal.main (F := Ideal))) ⟨m, fun _ => 0, g⟩ (fun r => (∀ c : Dev Cert.MixMergeRefIdeal.nD,
      r.2.mem ((c.tc : Thread Cert.MixMergeRefIdeal.nD Cert.MixMergeRefIdeal.τ).loc Cert.MixMergeRefIdeal.main_arg0) = m ((c.tc : Thread Cert.MixMergeRefIdeal.nD Cert.MixMergeRefIdeal.τ).loc Cert.MixMergeRefIdeal.main_arg0)
      ∧ r.2.mem ((c.tc : Thread Cert.MixMergeRefIdeal.nD Cert.MixMergeRefIdeal.τ).loc Cert.MixMergeRefIdeal.main_arg1) = m ((c.tc : Thread Cert.MixMergeRefIdeal.nD Cert.MixMergeRefIdeal.τ).loc Cert.MixMergeRefIdeal.main_arg1)
      ∧ r.2.mem ((c.tc : Thread Cert.MixMergeRefIdeal.nD Cert.MixMergeRefIdeal.τ).loc Cert.MixMergeRefIdeal.main_arg2) = m ((c.tc : Thread Cert.MixMergeRefIdeal.nD Cert.MixMergeRefIdeal.τ).loc Cert.MixMergeRefIdeal.main_arg2)
      ∧ r.2.mem ((c.tc : Thread Cert.MixMergeRefIdeal.nD Cert.MixMergeRefIdeal.τ).loc Cert.MixMergeRefIdeal.main_arg3) = m ((c.tc : Thread Cert.MixMergeRefIdeal.nD Cert.MixMergeRefIdeal.τ).loc Cert.MixMergeRefIdeal.main_arg3)
      ∧ r.2.mem ((c.tc : Thread Cert.MixMergeRefIdeal.nD Cert.MixMergeRefIdeal.τ).loc Cert.MixMergeRefIdeal.main_arg4) = m ((c.tc : Thread Cert.MixMergeRefIdeal.nD Cert.MixMergeRefIdeal.τ).loc Cert.MixMergeRefIdeal.main_arg4)
      ∧ r.2.mem ((c.tc : Thread Cert.MixMergeRefIdeal.nD Cert.MixMergeRefIdeal.τ).loc Cert.MixMergeRefIdeal.main_arg5) = m ((c.tc : Thread Cert.MixMergeRefIdeal.nD Cert.MixMergeRefIdeal.τ).loc Cert.MixMergeRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v71) = v0 c
          ∧ r.2.mem ((c.tc : Thread Cert.ConvRefIdeal.nD Cert.ConvRefIdeal.τ).loc Cert.ConvRefIdeal.main_v72) = v1 c
          ∧ r.2.mem ((c.tc : Thread Cert.ConvRefIdeal.nD Cert.ConvRefIdeal.τ).loc Cert.ConvRefIdeal.main_v73) = v2 c
          ∧ r.2.mem ((c.tc : Thread Cert.ConvRefIdeal.nD Cert.ConvRefIdeal.τ).loc Cert.ConvRefIdeal.main_v64) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)
      ∧ m' ((c.tc : Thread Cert.MemNormRefIdeal.nD Cert.MemNormRefIdeal.τ).loc Cert.MemNormRefIdeal.main_arg2) = m ((c.tc : Thread Cert.MemNormIdeal.nD Cert.MemNormIdeal.τ).loc Cert.MemNormIdeal.main_arg2)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
          ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v17) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1)
          ∧ r.2.mem ((c.tc : Thread Cert.MemNormRefIdeal.nD Cert.MemNormRefIdeal.τ).loc Cert.MemNormRefIdeal.main_arg2) = m' ((c.tc : Thread Cert.MemNormRefIdeal.nD Cert.MemNormRefIdeal.τ).loc Cert.MemNormRefIdeal.main_arg2))

def preserves_FfnDgu_FfnDguIdeal : Prop :=
  True

def algebraic_FfnDguIdeal_FfnDguRefIdeal_pre_finite_ffndgu [hFfnDguIdeal : Cert.FfnDguIdeal.Facts] [hFfnDguRefIdeal : Cert.FfnDguRefIdeal.Facts] [hPre_finite_ffndgu : Cert.Pre_finite_ffndgu.Facts] : Prop :=
  ∀ (m : (ℓ : Loc Cert.FfnDguIdeal.nD Cert.FfnDguIdeal.τ Cert.FfnDguIdeal.sig) → Buf (Elt Ideal) ℓ) (g : Dev Cert.FfnDguIdeal.nD → PrngReg)
    (m' : (ℓ : Loc Cert.FfnDguRefIdeal.nD Cert.FfnDguRefIdeal.τ Cert.FfnDguRefIdeal.sig) → Buf (Elt Ideal) ℓ) (g' : Dev Cert.FfnDguRefIdeal.nD → PrngReg), Pre_FfnDguIdeal_finite_ffndgu m →
    (∀ c : Dev Cert.FfnDguIdeal.nD,
      m' ((c.tc : Thread Cert.FfnDguRefIdeal.nD Cert.FfnDguRefIdeal.τ).loc Cert.FfnDguRefIdeal.main_arg0) = m ((c.tc : Thread Cert.FfnDguIdeal.nD Cert.FfnDguIdeal.τ).loc Cert.FfnDguIdeal.main_arg0)
      ∧ m' ((c.tc : Thread Cert.FfnDguRefIdeal.nD Cert.FfnDguRefIdeal.τ).loc Cert.FfnDguRefIdeal.main_arg1) = m ((c.tc : Thread Cert.FfnDguIdeal.nD Cert.FfnDguIdeal.τ).loc Cert.FfnDguIdeal.main_arg1)
      ∧ m' ((c.tc : Thread Cert.FfnDguRefIdeal.nD Cert.FfnDguRefIdeal.τ).loc Cert.FfnDguRefIdeal.main_arg2) = m ((c.tc : Thread Cert.FfnDguIdeal.nD Cert.FfnDguIdeal.τ).loc Cert.FfnDguIdeal.main_arg2)) →
    ∃ (v0 : (c : Dev Cert.FfnDguIdeal.nD) → Buf (Elt Ideal) ((c.tc : Thread Cert.FfnDguIdeal.nD Cert.FfnDguIdeal.τ).loc Cert.FfnDguIdeal.main_v5)),
      θ_run (Cert.FfnDguIdeal.defs (F := Ideal)) (onTc (τ := Cert.FfnDguIdeal.τ) (Cert.FfnDguIdeal.main (F := Ideal))) ⟨m, fun _ => 0, g⟩ (fun r => ∀ c : Dev Cert.FfnDguIdeal.nD,
          r.2.mem ((c.tc : Thread Cert.FfnDguIdeal.nD Cert.FfnDguIdeal.τ).loc Cert.FfnDguIdeal.main_v5) = v0 c
          ∧ r.2.mem ((c.tc : Thread Cert.FfnDguIdeal.nD Cert.FfnDguIdeal.τ).loc Cert.FfnDguIdeal.main_arg0) = m ((c.tc : Thread Cert.FfnDguIdeal.nD Cert.FfnDguIdeal.τ).loc Cert.FfnDguIdeal.main_arg0)
          ∧ r.2.mem ((c.tc : Thread Cert.FfnDguIdeal.nD Cert.FfnDguIdeal.τ).loc Cert.FfnDguIdeal.main_arg1) = m ((c.tc : Thread Cert.FfnDguIdeal.nD Cert.FfnDguIdeal.τ).loc Cert.FfnDguIdeal.main_arg1)
          ∧ r.2.mem ((c.tc : Thread Cert.FfnDguIdeal.nD Cert.FfnDguIdeal.τ).loc Cert.FfnDguIdeal.main_arg2) = m ((c.tc : Thread Cert.FfnDguIdeal.nD Cert.FfnDguIdeal.τ).loc Cert.FfnDguIdeal.main_arg2))
      ∧ θ_run (Cert.FfnDguRefIdeal.defs (F := Ideal)) (onTc (τ := Cert.FfnDguRefIdeal.τ) (Cert.FfnDguRefIdeal.main (F := Ideal))) ⟨m', fun _ => 0, g'⟩ (fun r => ∀ c : Dev Cert.FfnDguRefIdeal.nD,
          r.2.mem ((c.tc : Thread Cert.FfnDguRefIdeal.nD Cert.FfnDguRefIdeal.τ).loc Cert.FfnDguRefIdeal.main_v18) = v0 c
          ∧ r.2.mem ((c.tc : Thread Cert.FfnDguRefIdeal.nD Cert.FfnDguRefIdeal.τ).loc Cert.FfnDguRefIdeal.main_arg0) = m' ((c.tc : Thread Cert.FfnDguRefIdeal.nD Cert.FfnDguRefIdeal.τ).loc Cert.FfnDguRefIdeal.main_arg0)
          ∧ r.2.mem ((c.tc : Thread Cert.FfnDguRefIdeal.nD Cert.FfnDguRefIdeal.τ).loc Cert.FfnDguRefIdeal.main_arg1) = m' ((c.tc : Thread Cert.FfnDguRefIdeal.nD Cert.FfnDguRefIdeal.τ).loc Cert.FfnDguRefIdeal.main_arg1)
          ∧ r.2.mem ((c.tc : Thread Cert.FfnDguRefIdeal.nD Cert.FfnDguRefIdeal.τ).loc Cert.FfnDguRefIdeal.main_arg2) = m' ((c.tc : Thread Cert.FfnDguRefIdeal.nD Cert.FfnDguRefIdeal.τ).loc Cert.FfnDguRefIdeal.main_arg2))

def preserves_MixDmerge_MixDmergeIdeal : Prop :=
  True

def algebraic_MixDmergeIdeal_MixDmergeRefIdeal [hMixDmergeIdeal : Cert.MixDmergeIdeal.Facts] [hMixDmergeRefIdeal : Cert.MixDmergeRefIdeal.Facts] : Prop :=
  ∀ (m : (ℓ : Loc Cert.MixDmergeIdeal.nD Cert.MixDmergeIdeal.τ Cert.MixDmergeIdeal.sig) → Buf (Elt Ideal) ℓ) (g : Dev Cert.MixDmergeIdeal.nD → PrngReg)
    (m' : (ℓ : Loc Cert.MixDmergeRefIdeal.nD Cert.MixDmergeRefIdeal.τ Cert.MixDmergeRefIdeal.sig) → Buf (Elt Ideal) ℓ) (g' : Dev Cert.MixDmergeRefIdeal.nD → PrngReg), Pre_MixDmergeIdeal m →
    (∀ c : Dev Cert.MixDmergeIdeal.nD,
      m' ((c.tc : Thread Cert.MixDmergeRefIdeal.nD Cert.MixDmergeRefIdeal.τ).loc Cert.MixDmergeRefIdeal.main_arg0) = m ((c.tc : Thread Cert.MixDmergeIdeal.nD Cert.MixDmergeIdeal.τ).loc Cert.MixDmergeIdeal.main_arg0)
      ∧ m' ((c.tc : Thread Cert.MixDmergeRefIdeal.nD Cert.MixDmergeRefIdeal.τ).loc Cert.MixDmergeRefIdeal.main_arg1) = m ((c.tc : Thread Cert.MixDmergeIdeal.nD Cert.MixDmergeIdeal.τ).loc Cert.MixDmergeIdeal.main_arg1)
      ∧ m' ((c.tc : Thread Cert.MixDmergeRefIdeal.nD Cert.MixDmergeRefIdeal.τ).loc Cert.MixDmergeRefIdeal.main_arg2) = m ((c.tc : Thread Cert.MixDmergeIdeal.nD Cert.MixDmergeIdeal.τ).loc Cert.MixDmergeIdeal.main_arg2)
      ∧ m' ((c.tc : Thread Cert.MixDmergeRefIdeal.nD Cert.MixDmergeRefIdeal.τ).loc Cert.MixDmergeRefIdeal.main_arg3) = m ((c.tc : Thread Cert.MixDmergeIdeal.nD Cert.MixDmergeIdeal.τ).loc Cert.MixDmergeIdeal.main_arg3)
      ∧ m' ((c.tc : Thread Cert.MixDmergeRefIdeal.nD Cert.MixDmergeRefIdeal.τ).loc Cert.MixDmergeRefIdeal.main_arg4) = m ((c.tc : Thread Cert.MixDmergeIdeal.nD Cert.MixDmergeIdeal.τ).loc Cert.MixDmergeIdeal.main_arg4)
      ∧ m' ((c.tc : Thread Cert.MixDmergeRefIdeal.nD Cert.MixDmergeRefIdeal.τ).loc Cert.MixDmergeRefIdeal.main_arg5) = m ((c.tc : Thread Cert.MixDmergeIdeal.nD Cert.MixDmergeIdeal.τ).loc Cert.MixDmergeIdeal.main_arg5)) →
    ∃ (v0 : (c : Dev Cert.MixDmergeIdeal.nD) → Buf (Elt Ideal) ((c.tc : Thread Cert.MixDmergeIdeal.nD Cert.MixDmergeIdeal.τ).loc Cert.MixDmergeIdeal.main_v3_0)) (v1 : (c : Dev Cert.MixDmergeIdeal.nD) → Buf (Elt Ideal) ((c.tc : Thread Cert.MixDmergeIdeal.nD Cert.MixDmergeIdeal.τ).loc Cert.MixDmergeIdeal.main_v3_1)) (v2 : (c : Dev Cert.MixDmergeIdeal.nD) → Buf (Elt Ideal) ((c.tc : Thread Cert.MixDmergeIdeal.nD Cert.MixDmergeIdeal.τ).loc Cert.MixDmergeIdeal.main_v3_2)) (v3 : (c : Dev Cert.MixDmergeIdeal.nD) → Buf (Elt Ideal) ((c.tc : Thread Cert.MixDmergeIdeal.nD Cert.MixDmergeIdeal.τ).loc Cert.MixDmergeIdeal.main_v3_3)) (v4 : (c : Dev Cert.MixDmergeIdeal.nD) → Buf (Elt Ideal) ((c.tc : Thread Cert.MixDmergeIdeal.nD Cert.MixDmergeIdeal.τ).loc Cert.MixDmergeIdeal.main_v3_4)) (v5 : (c : Dev Cert.MixDmergeIdeal.nD) → Buf (Elt Ideal) ((c.tc : Thread Cert.MixDmergeIdeal.nD Cert.MixDmergeIdeal.τ).loc Cert.MixDmergeIdeal.main_v3_5)),
      θ_run (Cert.MixDmergeIdeal.defs (F := Ideal)) (onTc (τ := Cert.MixDmergeIdeal.τ) (Cert.MixDmergeIdeal.main (F := Ideal))) ⟨m, fun _ => 0, g⟩ (fun r => ∀ c : Dev Cert.MixDmergeIdeal.nD,
          r.2.mem ((c.tc : Thread Cert.MixDmergeIdeal.nD Cert.MixDmergeIdeal.τ).loc Cert.MixDmergeIdeal.main_v3_0) = v0 c
          ∧ r.2.mem ((c.tc : Thread Cert.MixDmergeIdeal.nD Cert.MixDmergeIdeal.τ).loc Cert.MixDmergeIdeal.main_v3_1) = v1 c
          ∧ r.2.mem ((c.tc : Thread Cert.MixDmergeIdeal.nD Cert.MixDmergeIdeal.τ).loc Cert.MixDmergeIdeal.main_v3_2) = v2 c
          ∧ r.2.mem ((c.tc : Thread Cert.MixDmergeIdeal.nD Cert.MixDmergeIdeal.τ).loc Cert.MixDmergeIdeal.main_v3_3) = v3 c
          ∧ r.2.mem ((c.tc : Thread Cert.MixDmergeIdeal.nD Cert.MixDmergeIdeal.τ).loc Cert.MixDmergeIdeal.main_v3_4) = v4 c
          ∧ r.2.mem ((c.tc : Thread Cert.MixDmergeIdeal.nD Cert.MixDmergeIdeal.τ).loc Cert.MixDmergeIdeal.main_v3_5) = v5 c
          ∧ r.2.mem ((c.tc : Thread Cert.MixDmergeIdeal.nD Cert.MixDmergeIdeal.τ).loc Cert.MixDmergeIdeal.main_arg0) = m ((c.tc : Thread Cert.MixDmergeIdeal.nD Cert.MixDmergeIdeal.τ).loc Cert.MixDmergeIdeal.main_arg0)
          ∧ r.2.mem ((c.tc : Thread Cert.MixDmergeIdeal.nD Cert.MixDmergeIdeal.τ).loc Cert.MixDmergeIdeal.main_arg1) = m ((c.tc : Thread Cert.MixDmergeIdeal.nD Cert.MixDmergeIdeal.τ).loc Cert.MixDmergeIdeal.main_arg1)
          ∧ r.2.mem ((c.tc : Thread Cert.MixDmergeIdeal.nD Cert.MixDmergeIdeal.τ).loc Cert.MixDmergeIdeal.main_arg2) = m ((c.tc : Thread Cert.MixDmergeIdeal.nD Cert.MixDmergeIdeal.τ).loc Cert.MixDmergeIdeal.main_arg2)
          ∧ r.2.mem ((c.tc : Thread Cert.MixDmergeIdeal.nD Cert.MixDmergeIdeal.τ).loc Cert.MixDmergeIdeal.main_arg3) = m ((c.tc : Thread Cert.MixDmergeIdeal.nD Cert.MixDmergeIdeal.τ).loc Cert.MixDmergeIdeal.main_arg3)
          ∧ r.2.mem ((c.tc : Thread Cert.MixDmergeIdeal.nD Cert.MixDmergeIdeal.τ).loc Cert.MixDmergeIdeal.main_arg4) = m ((c.tc : Thread Cert.MixDmergeIdeal.nD Cert.MixDmergeIdeal.τ).loc Cert.MixDmergeIdeal.main_arg4)
          ∧ r.2.mem ((c.tc : Thread Cert.MixDmergeIdeal.nD Cert.MixDmergeIdeal.τ).loc Cert.MixDmergeIdeal.main_arg5) = m ((c.tc : Thread Cert.MixDmergeIdeal.nD Cert.MixDmergeIdeal.τ).loc Cert.MixDmergeIdeal.main_arg5))
      ∧ θ_run (Cert.MixDmergeRefIdeal.defs (F := Ideal)) (onTc (τ := Cert.MixDmergeRefIdeal.τ) (Cert.MixDmergeRefIdeal.main (F := Ideal))) ⟨m', fun _ => 0, g'⟩ (fun r => ∀ c : Dev Cert.MixDmergeRefIdeal.nD,
          r.2.mem ((c.tc : Thread Cert.MixDmergeRefIdeal.nD Cert.MixDmergeRefIdeal.τ).loc Cert.MixDmergeRefIdeal.main_v40) = v0 c
          ∧ r.2.mem ((c.tc : Thread Cert.MixDmergeRefIdeal.nD Cert.MixDmergeRefIdeal.τ).loc Cert.MixDmergeRefIdeal.main_v41) = v1 c
          ∧ r.2.mem ((c.tc : Thread Cert.MixDmergeRefIdeal.nD Cert.MixDmergeRefIdeal.τ).loc Cert.MixDmergeRefIdeal.main_v35) = v2 c
          ∧ r.2.mem ((c.tc : Thread Cert.MixDmergeRefIdeal.nD Cert.MixDmergeRefIdeal.τ).loc Cert.MixDmergeRefIdeal.main_v36) = v3 c
          ∧ r.2.mem ((c.tc : Thread Cert.MixDmergeRefIdeal.nD Cert.MixDmergeRefIdeal.τ).loc Cert.MixDmergeRefIdeal.main_v38) = v4 c
          ∧ r.2.mem ((c.tc : Thread Cert.MixDmergeRefIdeal.nD Cert.MixDmergeRefIdeal.τ).loc Cert.MixDmergeRefIdeal.main_v39) = v5 c
          ∧ r.2.mem ((c.tc : Thread Cert.MixDmergeRefIdeal.nD Cert.MixDmergeRefIdeal.τ).loc Cert.MixDmergeRefIdeal.main_arg0) = m' ((c.tc : Thread Cert.MixDmergeRefIdeal.nD Cert.MixDmergeRefIdeal.τ).loc Cert.MixDmergeRefIdeal.main_arg0)
          ∧ r.2.mem ((c.tc : Thread Cert.MixDmergeRefIdeal.nD Cert.MixDmergeRefIdeal.τ).loc Cert.MixDmergeRefIdeal.main_arg1) = m' ((c.tc : Thread Cert.MixDmergeRefIdeal.nD Cert.MixDmergeRefIdeal.τ).loc Cert.MixDmergeRefIdeal.main_arg1)
          ∧ r.2.mem ((c.tc : Thread Cert.MixDmergeRefIdeal.nD Cert.MixDmergeRefIdeal.τ).loc Cert.MixDmergeRefIdeal.main_arg2) = m' ((c.tc : Thread Cert.MixDmergeRefIdeal.nD Cert.MixDmergeRefIdeal.τ).loc Cert.MixDmergeRefIdeal.main_arg2)
          ∧ r.2.mem ((c.tc : Thread Cert.MixDmergeRefIdeal.nD Cert.MixDmergeRefIdeal.τ).loc Cert.MixDmergeRefIdeal.main_arg3) = m' ((c.tc : Thread Cert.MixDmergeRefIdeal.nD Cert.MixDmergeRefIdeal.τ).loc Cert.MixDmergeRefIdeal.main_arg3)
          ∧ r.2.mem ((c.tc : Thread Cert.MixDmergeRefIdeal.nD Cert.MixDmergeRefIdeal.τ).loc Cert.MixDmergeRefIdeal.main_arg4) = m' ((c.tc : Thread Cert.MixDmergeRefIdeal.nD Cert.MixDmergeRefIdeal.τ).loc Cert.MixDmergeRefIdeal.main_arg4)
          ∧ r.2.mem ((c.tc : Thread Cert.MixDmergeRefIdeal.nD Cert.MixDmergeRefIdeal.τ).loc Cert.MixDmergeRefIdeal.main_arg5) = m' ((c.tc : Thread Cert.MixDmergeRefIdeal.nD Cert.MixDmergeRefIdeal.τ).loc Cert.MixDmergeRefIdeal.main_arg5))

def preserves_CrossDn_CrossDnIdeal : Prop :=
  True

def algebraic_CrossDnIdeal_CrossDnRefIdeal [hCrossDnIdeal : Cert.CrossDnIdeal.Facts] [hCrossDnRefIdeal : Cert.CrossDnRefIdeal.Facts] : Prop :=
  ∀ (m : (ℓ : Loc Cert.CrossDnIdeal.nD Cert.CrossDnIdeal.τ Cert.CrossDnIdeal.sig) → Buf (Elt Ideal) ℓ) (g : Dev Cert.CrossDnIdeal.nD → PrngReg)
    (m' : (ℓ : Loc Cert.CrossDnRefIdeal.nD Cert.CrossDnRefIdeal.τ Cert.CrossDnRefIdeal.sig) → Buf (Elt Ideal) ℓ) (g' : Dev Cert.CrossDnRefIdeal.nD → PrngReg), Pre_CrossDnIdeal m →
    (∀ c : Dev Cert.CrossDnIdeal.nD,
      m' ((c.tc : Thread Cert.CrossDnRefIdeal.nD Cert.CrossDnRefIdeal.τ).loc Cert.CrossDnRefIdeal.main_arg0) = m ((c.tc : Thread Cert.CrossDnIdeal.nD Cert.CrossDnIdeal.τ).loc Cert.CrossDnIdeal.main_arg0)
      ∧ m' ((c.tc : Thread Cert.CrossDnRefIdeal.nD Cert.CrossDnRefIdeal.τ).loc Cert.CrossDnRefIdeal.main_arg1) = m ((c.tc : Thread Cert.CrossDnIdeal.nD Cert.CrossDnIdeal.τ).loc Cert.CrossDnIdeal.main_arg1)
      ∧ m' ((c.tc : Thread Cert.CrossDnRefIdeal.nD Cert.CrossDnRefIdeal.τ).loc Cert.CrossDnRefIdeal.main_arg2) = m ((c.tc : Thread Cert.CrossDnIdeal.nD Cert.CrossDnIdeal.τ).loc Cert.CrossDnIdeal.main_arg2)
      ∧ m' ((c.tc : Thread Cert.CrossDnRefIdeal.nD Cert.CrossDnRefIdeal.τ).loc Cert.CrossDnRefIdeal.main_arg3) = m ((c.tc : Thread Cert.CrossDnIdeal.nD Cert.CrossDnIdeal.τ).loc Cert.CrossDnIdeal.main_arg3)
      ∧ m' ((c.tc : Thread Cert.CrossDnRefIdeal.nD Cert.CrossDnRefIdeal.τ).loc Cert.CrossDnRefIdeal.main_arg4) = m ((c.tc : Thread Cert.CrossDnIdeal.nD Cert.CrossDnIdeal.τ).loc Cert.CrossDnIdeal.main_arg4)) →
    ∃ (v0 : (c : Dev Cert.CrossDnIdeal.nD) → Buf (Elt Ideal) ((c.tc : Thread Cert.CrossDnIdeal.nD Cert.CrossDnIdeal.τ).loc Cert.CrossDnIdeal.main_v1_0)) (v1 : (c : Dev Cert.CrossDnIdeal.nD) → Buf (Elt Ideal) ((c.tc : Thread Cert.CrossDnIdeal.nD Cert.CrossDnIdeal.τ).loc Cert.CrossDnIdeal.main_v1_1)) (v2 : (c : Dev Cert.CrossDnIdeal.nD) → Buf (Elt Ideal) ((c.tc : Thread Cert.CrossDnIdeal.nD Cert.CrossDnIdeal.τ).loc Cert.CrossDnIdeal.main_v1_2)),
      θ_run (Cert.CrossDnIdeal.defs (F := Ideal)) (onTc (τ := Cert.CrossDnIdeal.τ) (Cert.CrossDnIdeal.main (F := Ideal))) ⟨m, fun _ => 0, g⟩ (fun r => ∀ c : Dev Cert.CrossDnIdeal.nD,
          r.2.mem ((c.tc : Thread Cert.CrossDnIdeal.nD Cert.CrossDnIdeal.τ).loc Cert.CrossDnIdeal.main_v1_0) = v0 c
          ∧ r.2.mem ((c.tc : Thread Cert.CrossDnIdeal.nD Cert.CrossDnIdeal.τ).loc Cert.CrossDnIdeal.main_v1_1) = v1 c
          ∧ r.2.mem ((c.tc : Thread Cert.CrossDnIdeal.nD Cert.CrossDnIdeal.τ).loc Cert.CrossDnIdeal.main_v1_2) = v2 c
          ∧ r.2.mem ((c.tc : Thread Cert.CrossDnIdeal.nD Cert.CrossDnIdeal.τ).loc Cert.CrossDnIdeal.main_arg0) = m ((c.tc : Thread Cert.CrossDnIdeal.nD Cert.CrossDnIdeal.τ).loc Cert.CrossDnIdeal.main_arg0)
          ∧ r.2.mem ((c.tc : Thread Cert.CrossDnIdeal.nD Cert.CrossDnIdeal.τ).loc Cert.CrossDnIdeal.main_arg1) = m ((c.tc : Thread Cert.CrossDnIdeal.nD Cert.CrossDnIdeal.τ).loc Cert.CrossDnIdeal.main_arg1)
          ∧ r.2.mem ((c.tc : Thread Cert.CrossDnIdeal.nD Cert.CrossDnIdeal.τ).loc Cert.CrossDnIdeal.main_arg2) = m ((c.tc : Thread Cert.CrossDnIdeal.nD Cert.CrossDnIdeal.τ).loc Cert.CrossDnIdeal.main_arg2)
          ∧ r.2.mem ((c.tc : Thread Cert.CrossDnIdeal.nD Cert.CrossDnIdeal.τ).loc Cert.CrossDnIdeal.main_arg3) = m ((c.tc : Thread Cert.CrossDnIdeal.nD Cert.CrossDnIdeal.τ).loc Cert.CrossDnIdeal.main_arg3)
          ∧ r.2.mem ((c.tc : Thread Cert.CrossDnIdeal.nD Cert.CrossDnIdeal.τ).loc Cert.CrossDnIdeal.main_arg4) = m ((c.tc : Thread Cert.CrossDnIdeal.nD Cert.CrossDnIdeal.τ).loc Cert.CrossDnIdeal.main_arg4))
      ∧ θ_run (Cert.CrossDnRefIdeal.defs (F := Ideal)) (onTc (τ := Cert.CrossDnRefIdeal.τ) (Cert.CrossDnRefIdeal.main (F := Ideal))) ⟨m', fun _ => 0, g'⟩ (fun r => ∀ c : Dev Cert.CrossDnRefIdeal.nD,
          r.2.mem ((c.tc : Thread Cert.CrossDnRefIdeal.nD Cert.CrossDnRefIdeal.τ).loc Cert.CrossDnRefIdeal.main_v40) = v0 c
          ∧ r.2.mem ((c.tc : Thread Cert.CrossDnRefIdeal.nD Cert.CrossDnRefIdeal.τ).loc Cert.CrossDnRefIdeal.main_v41) = v1 c
          ∧ r.2.mem ((c.tc : Thread Cert.CrossDnRefIdeal.nD Cert.CrossDnRefIdeal.τ).loc Cert.CrossDnRefIdeal.main_v42) = v2 c
          ∧ r.2.mem ((c.tc : Thread Cert.CrossDnRefIdeal.nD Cert.CrossDnRefIdeal.τ).loc Cert.CrossDnRefIdeal.main_arg0) = m' ((c.tc : Thread Cert.CrossDnRefIdeal.nD Cert.CrossDnRefIdeal.τ).loc Cert.CrossDnRefIdeal.main_arg0)
          ∧ r.2.mem ((c.tc : Thread Cert.CrossDnRefIdeal.nD Cert.CrossDnRefIdeal.τ).loc Cert.CrossDnRefIdeal.main_arg1) = m' ((c.tc : Thread Cert.CrossDnRefIdeal.nD Cert.CrossDnRefIdeal.τ).loc Cert.CrossDnRefIdeal.main_arg1)
          ∧ r.2.mem ((c.tc : Thread Cert.CrossDnRefIdeal.nD Cert.CrossDnRefIdeal.τ).loc Cert.CrossDnRefIdeal.main_arg2) = m' ((c.tc : Thread Cert.CrossDnRefIdeal.nD Cert.CrossDnRefIdeal.τ).loc Cert.CrossDnRefIdeal.main_arg2)
          ∧ r.2.mem ((c.tc : Thread Cert.CrossDnRefIdeal.nD Cert.CrossDnRefIdeal.τ).loc Cert.CrossDnRefIdeal.main_arg3) = m' ((c.tc : Thread Cert.CrossDnRefIdeal.nD Cert.CrossDnRefIdeal.τ).loc Cert.CrossDnRefIdeal.main_arg3)
          ∧ r.2.mem ((c.tc : Thread Cert.CrossDnRefIdeal.nD Cert.CrossDnRefIdeal.τ).loc Cert.CrossDnRefIdeal.main_arg4) = m' ((c.tc : Thread Cert.CrossDnRefIdeal.nD Cert.CrossDnRefIdeal.τ).loc Cert.CrossDnRefIdeal.main_arg4))

def preserves_MixDn_MixDnIdeal : Prop :=
  True

def algebraic_MixDnIdeal_MixDnRefIdeal [hMixDnIdeal : Cert.MixDnIdeal.Facts] [hMixDnRefIdeal : Cert.MixDnRefIdeal.Facts] : Prop :=
  ∀ (m : (ℓ : Loc Cert.MixDnIdeal.nD Cert.MixDnIdeal.τ Cert.MixDnIdeal.sig) → Buf (Elt Ideal) ℓ) (g : Dev Cert.MixDnIdeal.nD → PrngReg)
    (m' : (ℓ : Loc Cert.MixDnRefIdeal.nD Cert.MixDnRefIdeal.τ Cert.MixDnRefIdeal.sig) → Buf (Elt Ideal) ℓ) (g' : Dev Cert.MixDnRefIdeal.nD → PrngReg), Pre_MixDnIdeal m →
    (∀ c : Dev Cert.MixDnIdeal.nD,
      m' ((c.tc : Thread Cert.MixDnRefIdeal.nD Cert.MixDnRefIdeal.τ).loc Cert.MixDnRefIdeal.main_arg0) = m ((c.tc : Thread Cert.MixDnIdeal.nD Cert.MixDnIdeal.τ).loc Cert.MixDnIdeal.main_arg0)
      ∧ m' ((c.tc : Thread Cert.MixDnRefIdeal.nD Cert.MixDnRefIdeal.τ).loc Cert.MixDnRefIdeal.main_arg1) = m ((c.tc : Thread Cert.MixDnIdeal.nD Cert.MixDnIdeal.τ).loc Cert.MixDnIdeal.main_arg1)
      ∧ m' ((c.tc : Thread Cert.MixDnRefIdeal.nD Cert.MixDnRefIdeal.τ).loc Cert.MixDnRefIdeal.main_arg2) = m ((c.tc : Thread Cert.MixDnIdeal.nD Cert.MixDnIdeal.τ).loc Cert.MixDnIdeal.main_arg2)
      ∧ m' ((c.tc : Thread Cert.MixDnRefIdeal.nD Cert.MixDnRefIdeal.τ).loc Cert.MixDnRefIdeal.main_arg3) = m ((c.tc : Thread Cert.MixDnIdeal.nD Cert.MixDnIdeal.τ).loc Cert.MixDnIdeal.main_arg3)
      ∧ m' ((c.tc : Thread Cert.MixDnRefIdeal.nD Cert.MixDnRefIdeal.τ).loc Cert.MixDnRefIdeal.main_arg4) = m ((c.tc : Thread Cert.MixDnIdeal.nD Cert.MixDnIdeal.τ).loc Cert.MixDnIdeal.main_arg4)) →
    ∃ (v0 : (c : Dev Cert.MixDnIdeal.nD) → Buf (Elt Ideal) ((c.tc : Thread Cert.MixDnIdeal.nD Cert.MixDnIdeal.τ).loc Cert.MixDnIdeal.main_v1_0)) (v1 : (c : Dev Cert.MixDnIdeal.nD) → Buf (Elt Ideal) ((c.tc : Thread Cert.MixDnIdeal.nD Cert.MixDnIdeal.τ).loc Cert.MixDnIdeal.main_v1_1)) (v2 : (c : Dev Cert.MixDnIdeal.nD) → Buf (Elt Ideal) ((c.tc : Thread Cert.MixDnIdeal.nD Cert.MixDnIdeal.τ).loc Cert.MixDnIdeal.main_v1_2)),
      θ_run (Cert.MixDnIdeal.defs (F := Ideal)) (onTc (τ := Cert.MixDnIdeal.τ) (Cert.MixDnIdeal.main (F := Ideal))) ⟨m, fun _ => 0, g⟩ (fun r => ∀ c : Dev Cert.MixDnIdeal.nD,
          r.2.mem ((c.tc : Thread Cert.MixDnIdeal.nD Cert.MixDnIdeal.τ).loc Cert.MixDnIdeal.main_v1_0) = v0 c
          ∧ r.2.mem ((c.tc : Thread Cert.MixDnIdeal.nD Cert.MixDnIdeal.τ).loc Cert.MixDnIdeal.main_v1_1) = v1 c
          ∧ r.2.mem ((c.tc : Thread Cert.MixDnIdeal.nD Cert.MixDnIdeal.τ).loc Cert.MixDnIdeal.main_v1_2) = v2 c
          ∧ r.2.mem ((c.tc : Thread Cert.MixDnIdeal.nD Cert.MixDnIdeal.τ).loc Cert.MixDnIdeal.main_arg0) = m ((c.tc : Thread Cert.MixDnIdeal.nD Cert.MixDnIdeal.τ).loc Cert.MixDnIdeal.main_arg0)
          ∧ r.2.mem ((c.tc : Thread Cert.MixDnIdeal.nD Cert.MixDnIdeal.τ).loc Cert.MixDnIdeal.main_arg1) = m ((c.tc : Thread Cert.MixDnIdeal.nD Cert.MixDnIdeal.τ).loc Cert.MixDnIdeal.main_arg1)
          ∧ r.2.mem ((c.tc : Thread Cert.MixDnIdeal.nD Cert.MixDnIdeal.τ).loc Cert.MixDnIdeal.main_arg2) = m ((c.tc : Thread Cert.MixDnIdeal.nD Cert.MixDnIdeal.τ).loc Cert.MixDnIdeal.main_arg2)
          ∧ r.2.mem ((c.tc : Thread Cert.MixDnIdeal.nD Cert.MixDnIdeal.τ).loc Cert.MixDnIdeal.main_arg3) = m ((c.tc : Thread Cert.MixDnIdeal.nD Cert.MixDnIdeal.τ).loc Cert.MixDnIdeal.main_arg3)
          ∧ r.2.mem ((c.tc : Thread Cert.MixDnIdeal.nD Cert.MixDnIdeal.τ).loc Cert.MixDnIdeal.main_arg4) = m ((c.tc : Thread Cert.MixDnIdeal.nD Cert.MixDnIdeal.τ).loc Cert.MixDnIdeal.main_arg4))
      ∧ θ_run (Cert.MixDnRefIdeal.defs (F := Ideal)) (onTc (τ := Cert.MixDnRefIdeal.τ) (Cert.MixDnRefIdeal.main (F := Ideal))) ⟨m', fun _ => 0, g'⟩ (fun r => ∀ c : Dev Cert.MixDnRefIdeal.nD,
          r.2.mem ((c.tc : Thread Cert.MixDnRefIdeal.nD Cert.MixDnRefIdeal.τ).loc Cert.MixDnRefIdeal.main_v40) = v0 c
          ∧ r.2.mem ((c.tc : Thread Cert.MixDnRefIdeal.nD Cert.MixDnRefIdeal.τ).loc Cert.MixDnRefIdeal.main_v43) = v1 c
          ∧ r.2.mem ((c.tc : Thread Cert.MixDnRefIdeal.nD Cert.MixDnRefIdeal.τ).loc Cert.MixDnRefIdeal.main_v44) = v2 c
          ∧ r.2.mem ((c.tc : Thread Cert.MixDnRefIdeal.nD Cert.MixDnRefIdeal.τ).loc Cert.MixDnRefIdeal.main_arg0) = m' ((c.tc : Thread Cert.MixDnRefIdeal.nD Cert.MixDnRefIdeal.τ).loc Cert.MixDnRefIdeal.main_arg0)
          ∧ r.2.mem ((c.tc : Thread Cert.MixDnRefIdeal.nD Cert.MixDnRefIdeal.τ).loc Cert.MixDnRefIdeal.main_arg1) = m' ((c.tc : Thread Cert.MixDnRefIdeal.nD Cert.MixDnRefIdeal.τ).loc Cert.MixDnRefIdeal.main_arg1)
          ∧ r.2.mem ((c.tc : Thread Cert.MixDnRefIdeal.nD Cert.MixDnRefIdeal.τ).loc Cert.MixDnRefIdeal.main_arg2) = m' ((c.tc : Thread Cert.MixDnRefIdeal.nD Cert.MixDnRefIdeal.τ).loc Cert.MixDnRefIdeal.main_arg2)
          ∧ r.2.mem ((c.tc : Thread Cert.MixDnRefIdeal.nD Cert.MixDnRefIdeal.τ).loc Cert.MixDnRefIdeal.main_arg3) = m' ((c.tc : Thread Cert.MixDnRefIdeal.nD Cert.MixDnRefIdeal.τ).loc Cert.MixDnRefIdeal.main_arg3)
          ∧ r.2.mem ((c.tc : Thread Cert.MixDnRefIdeal.nD Cert.MixDnRefIdeal.τ).loc Cert.MixDnRefIdeal.main_arg4) = m' ((c.tc : Thread Cert.MixDnRefIdeal.nD Cert.MixDnRefIdeal.τ).loc Cert.MixDnRefIdeal.main_arg4))

def preserves_Ffn2Dn_Ffn2DnIdeal : Prop :=
  True

def algebraic_Ffn2DnIdeal_Ffn2DnRefIdeal [hFfn2DnIdeal : Cert.Ffn2DnIdeal.Facts] [hFfn2DnRefIdeal : Cert.Ffn2DnRefIdeal.Facts] : Prop :=
  ∀ (m : (ℓ : Loc Cert.Ffn2DnIdeal.nD Cert.Ffn2DnIdeal.τ Cert.Ffn2DnIdeal.sig) → Buf (Elt Ideal) ℓ) (g : Dev Cert.Ffn2DnIdeal.nD → PrngReg)
    (m' : (ℓ : Loc Cert.Ffn2DnRefIdeal.nD Cert.Ffn2DnRefIdeal.τ Cert.Ffn2DnRefIdeal.sig) → Buf (Elt Ideal) ℓ) (g' : Dev Cert.Ffn2DnRefIdeal.nD → PrngReg), Pre_Ffn2DnIdeal m →
    (∀ c : Dev Cert.Ffn2DnIdeal.nD,
      m' ((c.tc : Thread Cert.Ffn2DnRefIdeal.nD Cert.Ffn2DnRefIdeal.τ).loc Cert.Ffn2DnRefIdeal.main_arg0) = m ((c.tc : Thread Cert.Ffn2DnIdeal.nD Cert.Ffn2DnIdeal.τ).loc Cert.Ffn2DnIdeal.main_arg0)
      ∧ m' ((c.tc : Thread Cert.Ffn2DnRefIdeal.nD Cert.Ffn2DnRefIdeal.τ).loc Cert.Ffn2DnRefIdeal.main_arg1) = m ((c.tc : Thread Cert.Ffn2DnIdeal.nD Cert.Ffn2DnIdeal.τ).loc Cert.Ffn2DnIdeal.main_arg1)
      ∧ m' ((c.tc : Thread Cert.Ffn2DnRefIdeal.nD Cert.Ffn2DnRefIdeal.τ).loc Cert.Ffn2DnRefIdeal.main_arg2) = m ((c.tc : Thread Cert.Ffn2DnIdeal.nD Cert.Ffn2DnIdeal.τ).loc Cert.Ffn2DnIdeal.main_arg2)
      ∧ m' ((c.tc : Thread Cert.Ffn2DnRefIdeal.nD Cert.Ffn2DnRefIdeal.τ).loc Cert.Ffn2DnRefIdeal.main_arg3) = m ((c.tc : Thread Cert.Ffn2DnIdeal.nD Cert.Ffn2DnIdeal.τ).loc Cert.Ffn2DnIdeal.main_arg3)
      ∧ m' ((c.tc : Thread Cert.Ffn2DnRefIdeal.nD Cert.Ffn2DnRefIdeal.τ).loc Cert.Ffn2DnRefIdeal.main_arg4) = m ((c.tc : Thread Cert.Ffn2DnIdeal.nD Cert.Ffn2DnIdeal.τ).loc Cert.Ffn2DnIdeal.main_arg4)) →
    ∃ (v0 : (c : Dev Cert.Ffn2DnIdeal.nD) → Buf (Elt Ideal) ((c.tc : Thread Cert.Ffn2DnIdeal.nD Cert.Ffn2DnIdeal.τ).loc Cert.Ffn2DnIdeal.main_v6_0)) (v1 : (c : Dev Cert.Ffn2DnIdeal.nD) → Buf (Elt Ideal) ((c.tc : Thread Cert.Ffn2DnIdeal.nD Cert.Ffn2DnIdeal.τ).loc Cert.Ffn2DnIdeal.main_v6_1)) (v2 : (c : Dev Cert.Ffn2DnIdeal.nD) → Buf (Elt Ideal) ((c.tc : Thread Cert.Ffn2DnIdeal.nD Cert.Ffn2DnIdeal.τ).loc Cert.Ffn2DnIdeal.main_v6_2)),
      θ_run (Cert.Ffn2DnIdeal.defs (F := Ideal)) (onTc (τ := Cert.Ffn2DnIdeal.τ) (Cert.Ffn2DnIdeal.main (F := Ideal))) ⟨m, fun _ => 0, g⟩ (fun r => ∀ c : Dev Cert.Ffn2DnIdeal.nD,
          r.2.mem ((c.tc : Thread Cert.Ffn2DnIdeal.nD Cert.Ffn2DnIdeal.τ).loc Cert.Ffn2DnIdeal.main_v6_0) = v0 c
          ∧ r.2.mem ((c.tc : Thread Cert.Ffn2DnIdeal.nD Cert.Ffn2DnIdeal.τ).loc Cert.Ffn2DnIdeal.main_v6_1) = v1 c
          ∧ r.2.mem ((c.tc : Thread Cert.Ffn2DnIdeal.nD Cert.Ffn2DnIdeal.τ).loc Cert.Ffn2DnIdeal.main_v6_2) = v2 c
          ∧ r.2.mem ((c.tc : Thread Cert.Ffn2DnIdeal.nD Cert.Ffn2DnIdeal.τ).loc Cert.Ffn2DnIdeal.main_arg0) = m ((c.tc : Thread Cert.Ffn2DnIdeal.nD Cert.Ffn2DnIdeal.τ).loc Cert.Ffn2DnIdeal.main_arg0)
          ∧ r.2.mem ((c.tc : Thread Cert.Ffn2DnIdeal.nD Cert.Ffn2DnIdeal.τ).loc Cert.Ffn2DnIdeal.main_arg1) = m ((c.tc : Thread Cert.Ffn2DnIdeal.nD Cert.Ffn2DnIdeal.τ).loc Cert.Ffn2DnIdeal.main_arg1)
          ∧ r.2.mem ((c.tc : Thread Cert.Ffn2DnIdeal.nD Cert.Ffn2DnIdeal.τ).loc Cert.Ffn2DnIdeal.main_arg2) = m ((c.tc : Thread Cert.Ffn2DnIdeal.nD Cert.Ffn2DnIdeal.τ).loc Cert.Ffn2DnIdeal.main_arg2)
          ∧ r.2.mem ((c.tc : Thread Cert.Ffn2DnIdeal.nD Cert.Ffn2DnIdeal.τ).loc Cert.Ffn2DnIdeal.main_arg3) = m ((c.tc : Thread Cert.Ffn2DnIdeal.nD Cert.Ffn2DnIdeal.τ).loc Cert.Ffn2DnIdeal.main_arg3)
          ∧ r.2.mem ((c.tc : Thread Cert.Ffn2DnIdeal.nD Cert.Ffn2DnIdeal.τ).loc Cert.Ffn2DnIdeal.main_arg4) = m ((c.tc : Thread Cert.Ffn2DnIdeal.nD Cert.Ffn2DnIdeal.τ).loc Cert.Ffn2DnIdeal.main_arg4))
      ∧ θ_run (Cert.Ffn2DnRefIdeal.defs (F := Ideal)) (onTc (τ := Cert.Ffn2DnRefIdeal.τ) (Cert.Ffn2DnRefIdeal.main (F := Ideal))) ⟨m', fun _ => 0, g'⟩ (fun r => ∀ c : Dev Cert.Ffn2DnRefIdeal.nD,
          r.2.mem ((c.tc : Thread Cert.Ffn2DnRefIdeal.nD Cert.Ffn2DnRefIdeal.τ).loc Cert.Ffn2DnRefIdeal.main_v40) = v0 c
          ∧ r.2.mem ((c.tc : Thread Cert.Ffn2DnRefIdeal.nD Cert.Ffn2DnRefIdeal.τ).loc Cert.Ffn2DnRefIdeal.main_v41) = v1 c
          ∧ r.2.mem ((c.tc : Thread Cert.Ffn2DnRefIdeal.nD Cert.Ffn2DnRefIdeal.τ).loc Cert.Ffn2DnRefIdeal.main_v42) = v2 c
          ∧ r.2.mem ((c.tc : Thread Cert.Ffn2DnRefIdeal.nD Cert.Ffn2DnRefIdeal.τ).loc Cert.Ffn2DnRefIdeal.main_arg0) = m' ((c.tc : Thread Cert.Ffn2DnRefIdeal.nD Cert.Ffn2DnRefIdeal.τ).loc Cert.Ffn2DnRefIdeal.main_arg0)
          ∧ r.2.mem ((c.tc : Thread Cert.Ffn2DnRefIdeal.nD Cert.Ffn2DnRefIdeal.τ).loc Cert.Ffn2DnRefIdeal.main_arg1) = m' ((c.tc : Thread Cert.Ffn2DnRefIdeal.nD Cert.Ffn2DnRefIdeal.τ).loc Cert.Ffn2DnRefIdeal.main_arg1)
          ∧ r.2.mem ((c.tc : Thread Cert.Ffn2DnRefIdeal.nD Cert.Ffn2DnRefIdeal.τ).loc Cert.Ffn2DnRefIdeal.main_arg2) = m' ((c.tc : Thread Cert.Ffn2DnRefIdeal.nD Cert.Ffn2DnRefIdeal.τ).loc Cert.Ffn2DnRefIdeal.main_arg2)
          ∧ r.2.mem ((c.tc : Thread Cert.Ffn2DnRefIdeal.nD Cert.Ffn2DnRefIdeal.τ).loc Cert.Ffn2DnRefIdeal.main_arg3) = m' ((c.tc : Thread Cert.Ffn2DnRefIdeal.nD Cert.Ffn2DnRefIdeal.τ).loc Cert.Ffn2DnRefIdeal.main_arg3)
          ∧ r.2.mem ((c.tc : Thread Cert.Ffn2DnRefIdeal.nD Cert.Ffn2DnRefIdeal.τ).loc Cert.Ffn2DnRefIdeal.main_arg4) = m' ((c.tc : Thread Cert.Ffn2DnRefIdeal.nD Cert.Ffn2DnRefIdeal.τ).loc Cert.Ffn2DnRefIdeal.main_arg4))

def preserves_Ffn1Dn_Ffn1DnIdeal : Prop :=
  True

def algebraic_Ffn1DnIdeal_Ffn1DnRefIdeal [hFfn1DnIdeal : Cert.Ffn1DnIdeal.Facts] [hFfn1DnRefIdeal : Cert.Ffn1DnRefIdeal.Facts] : Prop :=
  ∀ (m : (ℓ : Loc Cert.Ffn1DnIdeal.nD Cert.Ffn1DnIdeal.τ Cert.Ffn1DnIdeal.sig) → Buf (Elt Ideal) ℓ) (g : Dev Cert.Ffn1DnIdeal.nD → PrngReg)
    (m' : (ℓ : Loc Cert.Ffn1DnRefIdeal.nD Cert.Ffn1DnRefIdeal.τ Cert.Ffn1DnRefIdeal.sig) → Buf (Elt Ideal) ℓ) (g' : Dev Cert.Ffn1DnRefIdeal.nD → PrngReg), Pre_Ffn1DnIdeal m →
    (∀ c : Dev Cert.Ffn1DnIdeal.nD,
      m' ((c.tc : Thread Cert.Ffn1DnRefIdeal.nD Cert.Ffn1DnRefIdeal.τ).loc Cert.Ffn1DnRefIdeal.main_arg0) = m ((c.tc : Thread Cert.Ffn1DnIdeal.nD Cert.Ffn1DnIdeal.τ).loc Cert.Ffn1DnIdeal.main_arg0)
      ∧ m' ((c.tc : Thread Cert.Ffn1DnRefIdeal.nD Cert.Ffn1DnRefIdeal.τ).loc Cert.Ffn1DnRefIdeal.main_arg1) = m ((c.tc : Thread Cert.Ffn1DnIdeal.nD Cert.Ffn1DnIdeal.τ).loc Cert.Ffn1DnIdeal.main_arg1)
      ∧ m' ((c.tc : Thread Cert.Ffn1DnRefIdeal.nD Cert.Ffn1DnRefIdeal.τ).loc Cert.Ffn1DnRefIdeal.main_arg2) = m ((c.tc : Thread Cert.Ffn1DnIdeal.nD Cert.Ffn1DnIdeal.τ).loc Cert.Ffn1DnIdeal.main_arg2)
      ∧ m' ((c.tc : Thread Cert.Ffn1DnRefIdeal.nD Cert.Ffn1DnRefIdeal.τ).loc Cert.Ffn1DnRefIdeal.main_arg3) = m ((c.tc : Thread Cert.Ffn1DnIdeal.nD Cert.Ffn1DnIdeal.τ).loc Cert.Ffn1DnIdeal.main_arg3)
      ∧ m' ((c.tc : Thread Cert.Ffn1DnRefIdeal.nD Cert.Ffn1DnRefIdeal.τ).loc Cert.Ffn1DnRefIdeal.main_arg4) = m ((c.tc : Thread Cert.Ffn1DnIdeal.nD Cert.Ffn1DnIdeal.τ).loc Cert.Ffn1DnIdeal.main_arg4)) →
    ∃ (v0 : (c : Dev Cert.Ffn1DnIdeal.nD) → Buf (Elt Ideal) ((c.tc : Thread Cert.Ffn1DnIdeal.nD Cert.Ffn1DnIdeal.τ).loc Cert.Ffn1DnIdeal.main_v6_0)) (v1 : (c : Dev Cert.Ffn1DnIdeal.nD) → Buf (Elt Ideal) ((c.tc : Thread Cert.Ffn1DnIdeal.nD Cert.Ffn1DnIdeal.τ).loc Cert.Ffn1DnIdeal.main_v6_1)),
      θ_run (Cert.Ffn1DnIdeal.defs (F := Ideal)) (onTc (τ := Cert.Ffn1DnIdeal.τ) (Cert.Ffn1DnIdeal.main (F := Ideal))) ⟨m, fun _ => 0, g⟩ (fun r => ∀ c : Dev Cert.Ffn1DnIdeal.nD,
          r.2.mem ((c.tc : Thread Cert.Ffn1DnIdeal.nD Cert.Ffn1DnIdeal.τ).loc Cert.Ffn1DnIdeal.main_v6_0) = v0 c
          ∧ r.2.mem ((c.tc : Thread Cert.Ffn1DnIdeal.nD Cert.Ffn1DnIdeal.τ).loc Cert.Ffn1DnIdeal.main_v6_1) = v1 c
          ∧ r.2.mem ((c.tc : Thread Cert.Ffn1DnIdeal.nD Cert.Ffn1DnIdeal.τ).loc Cert.Ffn1DnIdeal.main_arg0) = m ((c.tc : Thread Cert.Ffn1DnIdeal.nD Cert.Ffn1DnIdeal.τ).loc Cert.Ffn1DnIdeal.main_arg0)
          ∧ r.2.mem ((c.tc : Thread Cert.Ffn1DnIdeal.nD Cert.Ffn1DnIdeal.τ).loc Cert.Ffn1DnIdeal.main_arg1) = m ((c.tc : Thread Cert.Ffn1DnIdeal.nD Cert.Ffn1DnIdeal.τ).loc Cert.Ffn1DnIdeal.main_arg1)
          ∧ r.2.mem ((c.tc : Thread Cert.Ffn1DnIdeal.nD Cert.Ffn1DnIdeal.τ).loc Cert.Ffn1DnIdeal.main_arg2) = m ((c.tc : Thread Cert.Ffn1DnIdeal.nD Cert.Ffn1DnIdeal.τ).loc Cert.Ffn1DnIdeal.main_arg2)
          ∧ r.2.mem ((c.tc : Thread Cert.Ffn1DnIdeal.nD Cert.Ffn1DnIdeal.τ).loc Cert.Ffn1DnIdeal.main_arg3) = m ((c.tc : Thread Cert.Ffn1DnIdeal.nD Cert.Ffn1DnIdeal.τ).loc Cert.Ffn1DnIdeal.main_arg3)
          ∧ r.2.mem ((c.tc : Thread Cert.Ffn1DnIdeal.nD Cert.Ffn1DnIdeal.τ).loc Cert.Ffn1DnIdeal.main_arg4) = m ((c.tc : Thread Cert.Ffn1DnIdeal.nD Cert.Ffn1DnIdeal.τ).loc Cert.Ffn1DnIdeal.main_arg4))
      ∧ θ_run (Cert.Ffn1DnRefIdeal.defs (F := Ideal)) (onTc (τ := Cert.Ffn1DnRefIdeal.τ) (Cert.Ffn1DnRefIdeal.main (F := Ideal))) ⟨m', fun _ => 0, g'⟩ (fun r => ∀ c : Dev Cert.Ffn1DnRefIdeal.nD,
          r.2.mem ((c.tc : Thread Cert.Ffn1DnRefIdeal.nD Cert.Ffn1DnRefIdeal.τ).loc Cert.Ffn1DnRefIdeal.main_v40) = v0 c
          ∧ r.2.mem ((c.tc : Thread Cert.Ffn1DnRefIdeal.nD Cert.Ffn1DnRefIdeal.τ).loc Cert.Ffn1DnRefIdeal.main_v41) = v1 c
          ∧ r.2.mem ((c.tc : Thread Cert.Ffn1DnRefIdeal.nD Cert.Ffn1DnRefIdeal.τ).loc Cert.Ffn1DnRefIdeal.main_arg0) = m' ((c.tc : Thread Cert.Ffn1DnRefIdeal.nD Cert.Ffn1DnRefIdeal.τ).loc Cert.Ffn1DnRefIdeal.main_arg0)
          ∧ r.2.mem ((c.tc : Thread Cert.Ffn1DnRefIdeal.nD Cert.Ffn1DnRefIdeal.τ).loc Cert.Ffn1DnRefIdeal.main_arg1) = m' ((c.tc : Thread Cert.Ffn1DnRefIdeal.nD Cert.Ffn1DnRefIdeal.τ).loc Cert.Ffn1DnRefIdeal.main_arg1)
          ∧ r.2.mem ((c.tc : Thread Cert.Ffn1DnRefIdeal.nD Cert.Ffn1DnRefIdeal.τ).loc Cert.Ffn1DnRefIdeal.main_arg2) = m' ((c.tc : Thread Cert.Ffn1DnRefIdeal.nD Cert.Ffn1DnRefIdeal.τ).loc Cert.Ffn1DnRefIdeal.main_arg2)
          ∧ r.2.mem ((c.tc : Thread Cert.Ffn1DnRefIdeal.nD Cert.Ffn1DnRefIdeal.τ).loc Cert.Ffn1DnRefIdeal.main_arg3) = m' ((c.tc : Thread Cert.Ffn1DnRefIdeal.nD Cert.Ffn1DnRefIdeal.τ).loc Cert.Ffn1DnRefIdeal.main_arg3)
          ∧ r.2.mem ((c.tc : Thread Cert.Ffn1DnRefIdeal.nD Cert.Ffn1DnRefIdeal.τ).loc Cert.Ffn1DnRefIdeal.main_arg4) = m' ((c.tc : Thread Cert.Ffn1DnRefIdeal.nD Cert.Ffn1DnRefIdeal.τ).loc Cert.Ffn1DnRefIdeal.main_arg4))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v1_0)) (v1 : (c : Dev Cert.DownLossIdeal.nD) → Buf (Elt Ideal) ((c.tc : Thread Cert.DownLossIdeal.nD Cert.DownLossIdeal.τ).loc Cert.DownLossIdeal.main_v1_1)) (v2 : (c : Dev Cert.DownLossIdeal.nD) → Buf (Elt Ideal) ((c.tc : Thread Cert.DownLossIdeal.nD Cert.DownLossIdeal.τ).loc Cert.DownLossIdeal.main_v1_2)) (v3 : (c : Dev Cert.DownLossIdeal.nD) → Buf (Elt Ideal) ((c.tc : Thread Cert.DownLossIdeal.nD Cert.DownLossIdeal.τ).loc Cert.DownLossIdeal.main_v1_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v1_0) = v0 c
          ∧ r.2.mem ((c.tc : Thread Cert.DownLossIdeal.nD Cert.DownLossIdeal.τ).loc Cert.DownLossIdeal.main_v1_1) = v1 c
          ∧ r.2.mem ((c.tc : Thread Cert.DownLossIdeal.nD Cert.DownLossIdeal.τ).loc Cert.DownLossIdeal.main_v1_2) = v2 c
          ∧ r.2.mem ((c.tc : Thread Cert.DownLossIdeal.nD Cert.DownLossIdeal.τ).loc Cert.DownLossIdeal.main_v1_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v56) = v0 c
          ∧ r.2.mem ((c.tc : Thread Cert.DownLossRefIdeal.nD Cert.DownLossRefIdeal.τ).loc Cert.DownLossRefIdeal.main_v59) = v1 c
          ∧ r.2.mem ((c.tc : Thread Cert.DownLossRefIdeal.nD Cert.DownLossRefIdeal.τ).loc Cert.DownLossRefIdeal.main_v60) = v2 c
          ∧ r.2.mem ((c.tc : Thread Cert.DownLossRefIdeal.nD Cert.DownLossRefIdeal.τ).loc Cert.DownLossRefIdeal.main_v61) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_Xattn_XattnIdeal : Prop :=
  True

def algebraic_XattnIdeal_XattnRefIdeal_pre_finite_xattn [hXattnIdeal : Cert.XattnIdeal.Facts] [hXattnRefIdeal : Cert.XattnRefIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite_xattn m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v0_0)) (v1 : (c : Dev Cert.XattnIdeal.nD) → Buf (Elt Ideal) ((c.tc : Thread Cert.XattnIdeal.nD Cert.XattnIdeal.τ).loc Cert.XattnIdeal.main_v0_1)) (v2 : (c : Dev Cert.XattnIdeal.nD) → Buf (Elt Ideal) ((c.tc : Thread Cert.XattnIdeal.nD Cert.XattnIdeal.τ).loc Cert.XattnIdeal.main_v0_2)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0_0) = v0 c
          ∧ r.2.mem ((c.tc : Thread Cert.XattnIdeal.nD Cert.XattnIdeal.τ).loc Cert.XattnIdeal.main_v0_1) = v1 c
          ∧ r.2.mem ((c.tc : Thread Cert.XattnIdeal.nD Cert.XattnIdeal.τ).loc Cert.XattnIdeal.main_v0_2) = v2 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v72) = v0 c
          ∧ r.2.mem ((c.tc : Thread Cert.XattnRefIdeal.nD Cert.XattnRefIdeal.τ).loc Cert.XattnRefIdeal.main_v70) = v1 c
          ∧ r.2.mem ((c.tc : Thread Cert.XattnRefIdeal.nD Cert.XattnRefIdeal.τ).loc Cert.XattnRefIdeal.main_v71) = v2 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_Sb_SbIdeal : Prop :=
  True

def algebraic_SbIdeal_SbRefIdeal_pre_finite_sb [hSbIdeal : Cert.SbIdeal.Facts] [hSbRefIdeal : Cert.SbRefIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_sb m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v41_0)) (v1 : (c : Dev Cert.SbIdeal.nD) → Buf (Elt Ideal) ((c.tc : Thread Cert.SbIdeal.nD Cert.SbIdeal.τ).loc Cert.SbIdeal.main_v41_1)) (v2 : (c : Dev Cert.SbIdeal.nD) → Buf (Elt Ideal) ((c.tc : Thread Cert.SbIdeal.nD Cert.SbIdeal.τ).loc Cert.SbIdeal.main_v41_2)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v41_0) = v0 c
          ∧ r.2.mem ((c.tc : Thread Cert.SbIdeal.nD Cert.SbIdeal.τ).loc Cert.SbIdeal.main_v41_1) = v1 c
          ∧ r.2.mem ((c.tc : Thread Cert.SbIdeal.nD Cert.SbIdeal.τ).loc Cert.SbIdeal.main_v41_2) = v2 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v60) = v0 c
          ∧ r.2.mem ((c.tc : Thread Cert.SbRefIdeal.nD Cert.SbRefIdeal.τ).loc Cert.SbRefIdeal.main_v61) = v1 c
          ∧ r.2.mem ((c.tc : Thread Cert.SbRefIdeal.nD Cert.SbRefIdeal.τ).loc Cert.SbRefIdeal.main_v62) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_SbFwd_SbFwdIdeal : Prop :=
  True

def algebraic_SbFwdIdeal_SbFwdRefIdeal_pre_finite_sbfwd [hSbFwdIdeal : Cert.SbFwdIdeal.Facts] [hSbFwdRefIdeal : Cert.SbFwdRefIdeal.Facts] [hPre_finite_sbfwd : Cert.Pre_finite_sbfwd.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_finite_sbfwd m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)) →
    ∃ (v0 : (c : Dev Cert.SbFwdIdeal.nD) → Buf (Elt Ideal) ((c.tc : Thread Cert.SbFwdIdeal.nD Cert.SbFwdIdeal.τ).loc Cert.SbFwdIdeal.main_v0_0)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v0_0) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v33) = v0 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v1)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v1) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v13) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1))

def preserves_XattnFwd_XattnFwdIdeal : Prop :=
  True

def algebraic_XattnFwdIdeal_XattnFwdRefIdeal [hXattnFwdIdeal : Cert.XattnFwdIdeal.Facts] [hXattnFwdRefIdeal : Cert.XattnFwdRefIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)) →
    ∃ (v0 : (c : Dev Cert.XattnFwdIdeal.nD) → Buf (Elt Ideal) ((c.tc : Thread Cert.XattnFwdIdeal.nD Cert.XattnFwdIdeal.τ).loc Cert.XattnFwdIdeal.main_v0)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v0) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v24) = v0 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v31) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_v11) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_MixMerge_MixMergeIdeal : Prop :=
  True

def algebraic_MixMergeIdeal_MixMergeRefIdeal [hMixMergeIdeal : Cert.MixMergeIdeal.Facts] [hMixMergeRefIdeal : Cert.MixMergeRefIdeal.Facts] : Prop :=
  ∀ (m : (ℓ : Loc Cert.MixMergeIdeal.nD Cert.MixMergeIdeal.τ Cert.MixMergeIdeal.sig) → Buf (Elt Ideal) ℓ) (g : Dev Cert.MixMergeIdeal.nD → PrngReg)
    (m' : (ℓ : Loc Cert.MixMergeRefIdeal.nD Cert.MixMergeRefIdeal.τ Cert.MixMergeRefIdeal.sig) → Buf (Elt Ideal) ℓ) (g' : Dev Cert.MixMergeRefIdeal.nD → PrngReg), Pre_MixMergeIdeal m →
    (∀ c : Dev Cert.MixMergeIdeal.nD,
      m' ((c.tc : Thread Cert.MixMergeRefIdeal.nD Cert.MixMergeRefIdeal.τ).loc Cert.MixMergeRefIdeal.main_arg0) = m ((c.tc : Thread Cert.MixMergeIdeal.nD Cert.MixMergeIdeal.τ).loc Cert.MixMergeIdeal.main_arg0)
      ∧ m' ((c.tc : Thread Cert.MixMergeRefIdeal.nD Cert.MixMergeRefIdeal.τ).loc Cert.MixMergeRefIdeal.main_arg1) = m ((c.tc : Thread Cert.MixMergeIdeal.nD Cert.MixMergeIdeal.τ).loc Cert.MixMergeIdeal.main_arg1)
      ∧ m' ((c.tc : Thread Cert.MixMergeRefIdeal.nD Cert.MixMergeRefIdeal.τ).loc Cert.MixMergeRefIdeal.main_arg2) = m ((c.tc : Thread Cert.MixMergeIdeal.nD Cert.MixMergeIdeal.τ).loc Cert.MixMergeIdeal.main_arg2)
      ∧ m' ((c.tc : Thread Cert.MixMergeRefIdeal.nD Cert.MixMergeRefIdeal.τ).loc Cert.MixMergeRefIdeal.main_arg3) = m ((c.tc : Thread Cert.MixMergeIdeal.nD Cert.MixMergeIdeal.τ).loc Cert.MixMergeIdeal.main_arg3)
      ∧ m' ((c.tc : Thread Cert.MixMergeRefIdeal.nD Cert.MixMergeRefIdeal.τ).loc Cert.MixMergeRefIdeal.main_arg4) = m ((c.tc : Thread Cert.MixMergeIdeal.nD Cert.MixMergeIdeal.τ).loc Cert.MixMergeIdeal.main_arg4)
      ∧ m' ((c.tc : Thread Cert.MixMergeRefIdeal.nD Cert.MixMergeRefIdeal.τ).loc Cert.MixMergeRefIdeal.main_arg5) = m ((c.tc : Thread Cert.MixMergeIdeal.nD Cert.MixMergeIdeal.τ).loc Cert.MixMergeIdeal.main_arg5)) →
    ∃ (v0 : (c : Dev Cert.MixMergeIdeal.nD) → Buf (Elt Ideal) ((c.tc : Thread Cert.MixMergeIdeal.nD Cert.MixMergeIdeal.τ).loc Cert.MixMergeIdeal.main_v3_0)) (v1 : (c : Dev Cert.MixMergeIdeal.nD) → Buf (Elt Ideal) ((c.tc : Thread Cert.MixMergeIdeal.nD Cert.MixMergeIdeal.τ).loc Cert.MixMergeIdeal.main_v3_1)) (v2 : (c : Dev Cert.MixMergeIdeal.nD) → Buf (Elt Ideal) ((c.tc : Thread Cert.MixMergeIdeal.nD Cert.MixMergeIdeal.τ).loc Cert.MixMergeIdeal.main_v3_2)),
      θ_run (Cert.MixMergeIdeal.defs (F := Ideal)) (onTc (τ := Cert.MixMergeIdeal.τ) (Cert.MixMergeIdeal.main (F := Ideal))) ⟨m, fun _ => 0, g⟩ (fun r => ∀ c : Dev Cert.MixMergeIdeal.nD,
          r.2.mem ((c.tc : Thread Cert.MixMergeIdeal.nD Cert.MixMergeIdeal.τ).loc Cert.MixMergeIdeal.main_v3_0) = v0 c
          ∧ r.2.mem ((c.tc : Thread Cert.MixMergeIdeal.nD Cert.MixMergeIdeal.τ).loc Cert.MixMergeIdeal.main_v3_1) = v1 c
          ∧ r.2.mem ((c.tc : Thread Cert.MixMergeIdeal.nD Cert.MixMergeIdeal.τ).loc Cert.MixMergeIdeal.main_v3_2) = v2 c
          ∧ r.2.mem ((c.tc : Thread Cert.MixMergeIdeal.nD Cert.MixMergeIdeal.τ).loc Cert.MixMergeIdeal.main_arg0) = m ((c.tc : Thread Cert.MixMergeIdeal.nD Cert.MixMergeIdeal.τ).loc Cert.MixMergeIdeal.main_arg0)
          ∧ r.2.mem ((c.tc : Thread Cert.MixMergeIdeal.nD Cert.MixMergeIdeal.τ).loc Cert.MixMergeIdeal.main_arg1) = m ((c.tc : Thread Cert.MixMergeIdeal.nD Cert.MixMergeIdeal.τ).loc Cert.MixMergeIdeal.main_arg1)
          ∧ r.2.mem ((c.tc : Thread Cert.MixMergeIdeal.nD Cert.MixMergeIdeal.τ).loc Cert.MixMergeIdeal.main_arg2) = m ((c.tc : Thread Cert.MixMergeIdeal.nD Cert.MixMergeIdeal.τ).loc Cert.MixMergeIdeal.main_arg2)
          ∧ r.2.mem ((c.tc : Thread Cert.MixMergeIdeal.nD Cert.MixMergeIdeal.τ).loc Cert.MixMergeIdeal.main_arg3) = m ((c.tc : Thread Cert.MixMergeIdeal.nD Cert.MixMergeIdeal.τ).loc Cert.MixMergeIdeal.main_arg3)
          ∧ r.2.mem ((c.tc : Thread Cert.MixMergeIdeal.nD Cert.MixMergeIdeal.τ).loc Cert.MixMergeIdeal.main_arg4) = m ((c.tc : Thread Cert.MixMergeIdeal.nD Cert.MixMergeIdeal.τ).loc Cert.MixMergeIdeal.main_arg4)
          ∧ r.2.mem ((c.tc : Thread Cert.MixMergeIdeal.nD Cert.MixMergeIdeal.τ).loc Cert.MixMergeIdeal.main_arg5) = m ((c.tc : Thread Cert.MixMergeIdeal.nD Cert.MixMergeIdeal.τ).loc Cert.MixMergeIdeal.main_arg5))
      ∧ θ_run (Cert.MixMergeRefIdeal.defs (F := Ideal)) (onTc (τ := Cert.MixMergeRefIdeal.τ) (Cert.MixMergeRefIdeal.main (F := Ideal))) ⟨m', fun _ => 0, g'⟩ (fun r => ∀ c : Dev Cert.MixMergeRefIdeal.nD,
          r.2.mem ((c.tc : Thread Cert.MixMergeRefIdeal.nD Cert.MixMergeRefIdeal.τ).loc Cert.MixMergeRefIdeal.main_v18) = v0 c
          ∧ r.2.mem ((c.tc : Thread Cert.MixMergeRefIdeal.nD Cert.MixMergeRefIdeal.τ).loc Cert.MixMergeRefIdeal.main_v19) = v1 c
          ∧ r.2.mem ((c.tc : Thread Cert.MixMergeRefIdeal.nD Cert.MixMergeRefIdeal.τ).loc Cert.MixMergeRefIdeal.main_v23) = v2 c
          ∧ r.2.mem ((c.tc : Thread Cert.MixMergeRefIdeal.nD Cert.MixMergeRefIdeal.τ).loc Cert.MixMergeRefIdeal.main_arg0) = m' ((c.tc : Thread Cert.MixMergeRefIdeal.nD Cert.MixMergeRefIdeal.τ).loc Cert.MixMergeRefIdeal.main_arg0)
          ∧ r.2.mem ((c.tc : Thread Cert.MixMergeRefIdeal.nD Cert.MixMergeRefIdeal.τ).loc Cert.MixMergeRefIdeal.main_arg1) = m' ((c.tc : Thread Cert.MixMergeRefIdeal.nD Cert.MixMergeRefIdeal.τ).loc Cert.MixMergeRefIdeal.main_arg1)
          ∧ r.2.mem ((c.tc : Thread Cert.MixMergeRefIdeal.nD Cert.MixMergeRefIdeal.τ).loc Cert.MixMergeRefIdeal.main_arg2) = m' ((c.tc : Thread Cert.MixMergeRefIdeal.nD Cert.MixMergeRefIdeal.τ).loc Cert.MixMergeRefIdeal.main_arg2)
          ∧ r.2.mem ((c.tc : Thread Cert.MixMergeRefIdeal.nD Cert.MixMergeRefIdeal.τ).loc Cert.MixMergeRefIdeal.main_arg3) = m' ((c.tc : Thread Cert.MixMergeRefIdeal.nD Cert.MixMergeRefIdeal.τ).loc Cert.MixMergeRefIdeal.main_arg3)
          ∧ r.2.mem ((c.tc : Thread Cert.MixMergeRefIdeal.nD Cert.MixMergeRefIdeal.τ).loc Cert.MixMergeRefIdeal.main_arg4) = m' ((c.tc : Thread Cert.MixMergeRefIdeal.nD Cert.MixMergeRefIdeal.τ).loc Cert.MixMergeRefIdeal.main_arg4)
          ∧ r.2.mem ((c.tc : Thread Cert.MixMergeRefIdeal.nD Cert.MixMergeRefIdeal.τ).loc Cert.MixMergeRefIdeal.main_arg5) = m' ((c.tc : Thread Cert.MixMergeRefIdeal.nD Cert.MixMergeRefIdeal.τ).loc Cert.MixMergeRefIdeal.main_arg5))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v1_0)) (v1 : (c : Dev Cert.MixOutIdeal.nD) → Buf (Elt Ideal) ((c.tc : Thread Cert.MixOutIdeal.nD Cert.MixOutIdeal.τ).loc Cert.MixOutIdeal.main_v1_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1_0) = v0 c
          ∧ r.2.mem ((c.tc : Thread Cert.MixOutIdeal.nD Cert.MixOutIdeal.τ).loc Cert.MixOutIdeal.main_v1_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v17) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1_0)) (v1 : (c : Dev Cert.FfnDownIdeal.nD) → Buf (Elt Ideal) ((c.tc : Thread Cert.FfnDownIdeal.nD Cert.FfnDownIdeal.τ).loc Cert.FfnDownIdeal.main_v1_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1_0) = v0 c
          ∧ r.2.mem ((c.tc : Thread Cert.FfnDownIdeal.nD Cert.FfnDownIdeal.τ).loc Cert.FfnDownIdeal.main_v1_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_v19) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def Claim : Prop :=
  ∃ (hConv : Cert.Conv.Facts) (hConvIdeal : Cert.ConvIdeal.Facts) (hConvRefIdeal : Cert.ConvRefIdeal.Facts) (hMemNorm : Cert.MemNorm.Facts) (hMemNormIdeal : Cert.MemNormIdeal.Facts) (hMemNormRefIdeal : Cert.MemNormRefIdeal.Facts) (hFfnDgu : Cert.FfnDgu.Facts) (hFfnDguIdeal : Cert.FfnDguIdeal.Facts) (hFfnDguRefIdeal : Cert.FfnDguRefIdeal.Facts) (hMixDmerge : Cert.MixDmerge.Facts) (hMixDmergeIdeal : Cert.MixDmergeIdeal.Facts) (hMixDmergeRefIdeal : Cert.MixDmergeRefIdeal.Facts) (hCrossDn : Cert.CrossDn.Facts) (hCrossDnIdeal : Cert.CrossDnIdeal.Facts) (hCrossDnRefIdeal : Cert.CrossDnRefIdeal.Facts) (hMixDn : Cert.MixDn.Facts) (hMixDnIdeal : Cert.MixDnIdeal.Facts) (hMixDnRefIdeal : Cert.MixDnRefIdeal.Facts) (hFfn2Dn : Cert.Ffn2Dn.Facts) (hFfn2DnIdeal : Cert.Ffn2DnIdeal.Facts) (hFfn2DnRefIdeal : Cert.Ffn2DnRefIdeal.Facts) (hFfn1Dn : Cert.Ffn1Dn.Facts) (hFfn1DnIdeal : Cert.Ffn1DnIdeal.Facts) (hFfn1DnRefIdeal : Cert.Ffn1DnRefIdeal.Facts) (hDownLoss : Cert.DownLoss.Facts) (hDownLossIdeal : Cert.DownLossIdeal.Facts) (hDownLossRefIdeal : Cert.DownLossRefIdeal.Facts) (hXattn : Cert.Xattn.Facts) (hXattnIdeal : Cert.XattnIdeal.Facts) (hXattnRefIdeal : Cert.XattnRefIdeal.Facts) (hSb : Cert.Sb.Facts) (hSbIdeal : Cert.SbIdeal.Facts) (hSbRefIdeal : Cert.SbRefIdeal.Facts) (hSbFwd : Cert.SbFwd.Facts) (hSbFwdIdeal : Cert.SbFwdIdeal.Facts) (hSbFwdRefIdeal : Cert.SbFwdRefIdeal.Facts) (hNormFwd : Cert.NormFwd.Facts) (hNormFwdIdeal : Cert.NormFwdIdeal.Facts) (hNormFwdRefIdeal : Cert.NormFwdRefIdeal.Facts) (hMemFwd : Cert.MemFwd.Facts) (hMemFwdIdeal : Cert.MemFwdIdeal.Facts) (hMemFwdRefIdeal : Cert.MemFwdRefIdeal.Facts) (hXattnFwd : Cert.XattnFwd.Facts) (hXattnFwdIdeal : Cert.XattnFwdIdeal.Facts) (hXattnFwdRefIdeal : Cert.XattnFwdRefIdeal.Facts) (hConvFwd : Cert.ConvFwd.Facts) (hConvFwdIdeal : Cert.ConvFwdIdeal.Facts) (hConvFwdRefIdeal : Cert.ConvFwdRefIdeal.Facts) (hFfnUp : Cert.FfnUp.Facts) (hFfnUpIdeal : Cert.FfnUpIdeal.Facts) (hFfnUpRefIdeal : Cert.FfnUpRefIdeal.Facts) (hMixMerge : Cert.MixMerge.Facts) (hMixMergeIdeal : Cert.MixMergeIdeal.Facts) (hMixMergeRefIdeal : Cert.MixMergeRefIdeal.Facts) (hMixOut : Cert.MixOut.Facts) (hMixOutIdeal : Cert.MixOutIdeal.Facts) (hMixOutRefIdeal : Cert.MixOutRefIdeal.Facts) (hFfnDown : Cert.FfnDown.Facts) (hFfnDownIdeal : Cert.FfnDownIdeal.Facts) (hFfnDownRefIdeal : Cert.FfnDownRefIdeal.Facts) (hPre_finite_ffndgu : Cert.Pre_finite_ffndgu.Facts) (hPre_finite_xattn : Cert.Pre_finite_xattn.Facts) (hPre_finite_sb : Cert.Pre_finite_sb.Facts) (hPre_finite_sbfwd : Cert.Pre_finite_sbfwd.Facts),
    quiescent_Conv (hConv := hConv)
    ∧ quiescent_ConvIdeal (hConvIdeal := hConvIdeal)
    ∧ quiescent_ConvRefIdeal (hConvRefIdeal := hConvRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_FfnDgu (hFfnDgu := hFfnDgu)
    ∧ quiescent_FfnDguIdeal (hFfnDguIdeal := hFfnDguIdeal)
    ∧ quiescent_FfnDguIdeal_pre_finite_ffndgu (hFfnDguIdeal := hFfnDguIdeal) (hPre_finite_ffndgu := hPre_finite_ffndgu)
    ∧ quiescent_FfnDguRefIdeal (hFfnDguRefIdeal := hFfnDguRefIdeal)
    ∧ quiescent_FfnDguRefIdeal_pre_finite_ffndgu (hFfnDguRefIdeal := hFfnDguRefIdeal) (hPre_finite_ffndgu := hPre_finite_ffndgu)
    ∧ quiescent_MixDmerge (hMixDmerge := hMixDmerge)
    ∧ quiescent_MixDmergeIdeal (hMixDmergeIdeal := hMixDmergeIdeal)
    ∧ quiescent_MixDmergeRefIdeal (hMixDmergeRefIdeal := hMixDmergeRefIdeal)
    ∧ quiescent_CrossDn (hCrossDn := hCrossDn)
    ∧ quiescent_CrossDnIdeal (hCrossDnIdeal := hCrossDnIdeal)
    ∧ quiescent_CrossDnRefIdeal (hCrossDnRefIdeal := hCrossDnRefIdeal)
    ∧ quiescent_MixDn (hMixDn := hMixDn)
    ∧ quiescent_MixDnIdeal (hMixDnIdeal := hMixDnIdeal)
    ∧ quiescent_MixDnRefIdeal (hMixDnRefIdeal := hMixDnRefIdeal)
    ∧ quiescent_Ffn2Dn (hFfn2Dn := hFfn2Dn)
    ∧ quiescent_Ffn2DnIdeal (hFfn2DnIdeal := hFfn2DnIdeal)
    ∧ quiescent_Ffn2DnRefIdeal (hFfn2DnRefIdeal := hFfn2DnRefIdeal)
    ∧ quiescent_Ffn1Dn (hFfn1Dn := hFfn1Dn)
    ∧ quiescent_Ffn1DnIdeal (hFfn1DnIdeal := hFfn1DnIdeal)
    ∧ quiescent_Ffn1DnRefIdeal (hFfn1DnRefIdeal := hFfn1DnRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_Xattn (hXattn := hXattn)
    ∧ quiescent_XattnIdeal (hXattnIdeal := hXattnIdeal)
    ∧ quiescent_XattnIdeal_pre_finite_xattn (hXattnIdeal := hXattnIdeal) (hPre_finite_xattn := hPre_finite_xattn)
    ∧ quiescent_XattnRefIdeal (hXattnRefIdeal := hXattnRefIdeal)
    ∧ quiescent_XattnRefIdeal_pre_finite_xattn (hXattnRefIdeal := hXattnRefIdeal) (hPre_finite_xattn := hPre_finite_xattn)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_SbFwd (hSbFwd := hSbFwd)
    ∧ quiescent_SbFwdIdeal (hSbFwdIdeal := hSbFwdIdeal)
    ∧ quiescent_SbFwdIdeal_pre_finite_sbfwd (hSbFwdIdeal := hSbFwdIdeal) (hPre_finite_sbfwd := hPre_finite_sbfwd)
    ∧ quiescent_SbFwdRefIdeal (hSbFwdRefIdeal := hSbFwdRefIdeal)
    ∧ quiescent_SbFwdRefIdeal_pre_finite_sbfwd (hSbFwdRefIdeal := hSbFwdRefIdeal) (hPre_finite_sbfwd := hPre_finite_sbfwd)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_XattnFwd (hXattnFwd := hXattnFwd)
    ∧ quiescent_XattnFwdIdeal (hXattnFwdIdeal := hXattnFwdIdeal)
    ∧ quiescent_XattnFwdRefIdeal (hXattnFwdRefIdeal := hXattnFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_MixMerge (hMixMerge := hMixMerge)
    ∧ quiescent_MixMergeIdeal (hMixMergeIdeal := hMixMergeIdeal)
    ∧ quiescent_MixMergeRefIdeal (hMixMergeRefIdeal := hMixMergeRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ preserves_Conv_ConvIdeal
    ∧ algebraic_ConvIdeal_ConvRefIdeal (hConvIdeal := hConvIdeal) (hConvRefIdeal := hConvRefIdeal)
    ∧ preserves_MemNorm_MemNormIdeal
    ∧ algebraic_MemNormIdeal_MemNormRefIdeal (hMemNormIdeal := hMemNormIdeal) (hMemNormRefIdeal := hMemNormRefIdeal)
    ∧ preserves_FfnDgu_FfnDguIdeal
    ∧ algebraic_FfnDguIdeal_FfnDguRefIdeal_pre_finite_ffndgu (hFfnDguIdeal := hFfnDguIdeal) (hFfnDguRefIdeal := hFfnDguRefIdeal) (hPre_finite_ffndgu := hPre_finite_ffndgu)
    ∧ preserves_MixDmerge_MixDmergeIdeal
    ∧ algebraic_MixDmergeIdeal_MixDmergeRefIdeal (hMixDmergeIdeal := hMixDmergeIdeal) (hMixDmergeRefIdeal := hMixDmergeRefIdeal)
    ∧ preserves_CrossDn_CrossDnIdeal
    ∧ algebraic_CrossDnIdeal_CrossDnRefIdeal (hCrossDnIdeal := hCrossDnIdeal) (hCrossDnRefIdeal := hCrossDnRefIdeal)
    ∧ preserves_MixDn_MixDnIdeal
    ∧ algebraic_MixDnIdeal_MixDnRefIdeal (hMixDnIdeal := hMixDnIdeal) (hMixDnRefIdeal := hMixDnRefIdeal)
    ∧ preserves_Ffn2Dn_Ffn2DnIdeal
    ∧ algebraic_Ffn2DnIdeal_Ffn2DnRefIdeal (hFfn2DnIdeal := hFfn2DnIdeal) (hFfn2DnRefIdeal := hFfn2DnRefIdeal)
    ∧ preserves_Ffn1Dn_Ffn1DnIdeal
    ∧ algebraic_Ffn1DnIdeal_Ffn1DnRefIdeal (hFfn1DnIdeal := hFfn1DnIdeal) (hFfn1DnRefIdeal := hFfn1DnRefIdeal)
    ∧ preserves_DownLoss_DownLossIdeal
    ∧ algebraic_DownLossIdeal_DownLossRefIdeal (hDownLossIdeal := hDownLossIdeal) (hDownLossRefIdeal := hDownLossRefIdeal)
    ∧ preserves_Xattn_XattnIdeal
    ∧ algebraic_XattnIdeal_XattnRefIdeal_pre_finite_xattn (hXattnIdeal := hXattnIdeal) (hXattnRefIdeal := hXattnRefIdeal) (hPre_finite_xattn := hPre_finite_xattn)
    ∧ preserves_Sb_SbIdeal
    ∧ algebraic_SbIdeal_SbRefIdeal_pre_finite_sb (hSbIdeal := hSbIdeal) (hSbRefIdeal := hSbRefIdeal) (hPre_finite_sb := hPre_finite_sb)
    ∧ preserves_SbFwd_SbFwdIdeal
    ∧ algebraic_SbFwdIdeal_SbFwdRefIdeal_pre_finite_sbfwd (hSbFwdIdeal := hSbFwdIdeal) (hSbFwdRefIdeal := hSbFwdRefIdeal) (hPre_finite_sbfwd := hPre_finite_sbfwd)
    ∧ preserves_NormFwd_NormFwdIdeal
    ∧ algebraic_NormFwdIdeal_NormFwdRefIdeal (hNormFwdIdeal := hNormFwdIdeal) (hNormFwdRefIdeal := hNormFwdRefIdeal)
    ∧ preserves_MemFwd_MemFwdIdeal
    ∧ algebraic_MemFwdIdeal_MemFwdRefIdeal (hMemFwdIdeal := hMemFwdIdeal) (hMemFwdRefIdeal := hMemFwdRefIdeal)
    ∧ preserves_XattnFwd_XattnFwdIdeal
    ∧ algebraic_XattnFwdIdeal_XattnFwdRefIdeal (hXattnFwdIdeal := hXattnFwdIdeal) (hXattnFwdRefIdeal := hXattnFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_MixMerge_MixMergeIdeal
    ∧ algebraic_MixMergeIdeal_MixMergeRefIdeal (hMixMergeIdeal := hMixMergeIdeal) (hMixMergeRefIdeal := hMixMergeRefIdeal)
    ∧ preserves_MixOut_MixOutIdeal
    ∧ algebraic_MixOutIdeal_MixOutRefIdeal (hMixOutIdeal := hMixOutIdeal) (hMixOutRefIdeal := hMixOutRefIdeal)
    ∧ preserves_FfnDown_FfnDownIdeal
    ∧ algebraic_FfnDownIdeal_FfnDownRefIdeal (hFfnDownIdeal := hFfnDownIdeal) (hFfnDownRefIdeal := hFfnDownRefIdeal)
-- ==== Pre_finite_ffndgu.lean ====
abbrev S2048x1024 : Shape := ⟨2, ![2048, 1024]⟩
abbrev S2816x1024 : Shape := ⟨2, ![2816, 1024]⟩
abbrev S2048x5632 : Shape := ⟨2, ![2048, 5632]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2816x1024 : S_.BroadcastsInDim S2816x1024 (![] : Fin 0 → Fin S2816x1024.rank)
  bcast_S_S2048x5632 : S_.BroadcastsInDim S2048x5632 (![] : Fin 0 → Fin S2048x5632.rank)

variable [Facts]

def fn {F : FTy → Type} [FloatOps F] (main_arg0 : FVec F S2048x1024 .bf16) (main_arg1 : FVec F S2816x1024 .bf16) (main_arg2 : FVec F S2048x5632 .bf16) : IVec S2048x1024 1 × IVec S2816x1024 1 × IVec S2048x5632 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2048x5632 .f32 := (extf .f32 · bitsLt_bf16_f32) main_arg2
  let main_v9 : FVec F S2048x5632 .f32 := Host.absf main_v8
  let main_cst_1 : FVec F S_ .f32 := constant S_ .f32 0x7F800000#32
  let main_v10 : FVec F S2048x5632 .f32 := broadcastInDim S2048x5632 ![] bcast_S_S2048x5632 main_cst_1
  let main_v11 : IVec S2048x5632 1 := cmpf .olt main_v9 main_v10
  (main_v3, main_v7, main_v11)
-- ==== Pre_finite_sb.lean ====
abbrev S2048x8192 : Shape := ⟨2, ![2048, 8192]⟩
abbrev S2048x1024 : Shape := ⟨2, ![2048, 1024]⟩
abbrev S_ : Shape := ⟨0, ![]⟩

class Facts : Prop where
  bitsLt_bf16_f32 : FTy.bits .bf16 < FTy.bits .f32
  bcast_S_S2048x8192 : S_.BroadcastsInDim S2048x8192 (![] : Fin 0 → Fin S2048x8192.rank)
  bcast_S_S2048x1024 : S_.BroadcastsInDim S2048x1024 (![] : Fin 0 → Fin S2048x1024.rank)

variable [Facts]

def fn {F : FTy → Type} [FloatOps F] (main_arg0 : FVec F S2048x8192 .bf16) (main_arg1 : FVec F S2048x1024 .bf16) : IVec S2048x8192 1 × IVec S2048x1024 1 :=
  let main_v0 : FVec F S2048x8192 .f32 := (extf .f32 · bitsLt_bf16_f32) main_arg0
  let main_v1 : FVec F S2048x8192 .f32 := Host.absf main_v0
  let main_cst : FVec F S_ .f32 := constant S_ .f32 0x7F800000#32
  let main_v2 : FVec F S2048x8192 .f32 := broadcastInDim S2048x8192 ![] bcast_S_S2048x8192 main_cst
  let main_v3 : IVec S2048x8192 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  (main_v3, main_v7)
-- ==== Pre_finite_sbfwd.lean ====
abbrev S2048x8192 : Shape := ⟨2, ![2048, 8192]⟩
abbrev S_ : Shape := ⟨0, ![]⟩

class Facts : Prop where
  bitsLt_bf16_f32 : FTy.bits .bf16 < FTy.bits .f32
  bcast_S_S2048x8192 : S_.BroadcastsInDim S2048x8192 (![] : Fin 0 → Fin S2048x8192.rank)

variable [Facts]

def fn {F : FTy → Type} [FloatOps F] (main_arg0 : FVec F S2048x8192 .bf16) : IVec S2048x8192 1 :=
  let main_v0 : FVec F S2048x8192 .f32 := (extf .f32 · bitsLt_bf16_f32) main_arg0
  let main_v1 : FVec F S2048x8192 .f32 := Host.absf main_v0
  let main_cst : FVec F S_ .f32 := constant S_ .f32 0x7F800000#32
  let main_v2 : FVec F S2048x8192 .f32 := broadcastInDim S2048x8192 ![] bcast_S_S2048x8192 main_cst
  let main_v3 : IVec S2048x8192 1 := cmpf .olt main_v1 main_v2
  main_v3
-- ==== Pre_finite_xattn.lean ====
abbrev S2048x1024 : Shape := ⟨2, ![2048, 1024]⟩
abbrev S256x2048 : Shape := ⟨2, ![256, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S256x2048 : S_.BroadcastsInDim S256x2048 (![] : Fin 0 → Fin S256x2048.rank)

variable [Facts]

def fn {F : FTy → Type} [FloatOps F] (main_arg0 : FVec F S2048x1024 .bf16) (main_arg1 : FVec F S256x2048 .bf16) (main_arg2 : FVec F S2048x1024 .bf16) : IVec S2048x1024 1 × IVec S256x2048 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  (main_v3, main_v7)
-- ==== Conv.lean ====
abbrev S2048x1024 : Shape := ⟨2, ![2048, 1024]⟩
abbrev S2048x8192 : Shape := ⟨2, ![2048, 8192]⟩
abbrev S3x1024 : Shape := ⟨2, ![3, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 7
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048x8192, .bf16⟩
  | .hbm, ⟨2, _⟩ => ⟨S3x1024, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S3x256, .f32⟩
  | .local _ .vmem, ⟨17, _⟩ => ⟨S3x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S2048x1024 : Shape := ⟨2, ![2048, 1024]⟩
abbrev S2048x8192 : Shape := ⟨2, ![2048, 8192]⟩
abbrev S3x1024 : Shape := ⟨2, ![3, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x8192, .bf16⟩
  | .hbm, ⟨2, _⟩ => ⟨S3x1024, .f32⟩
  | .hbm, ⟨3, _⟩ => ⟨S2048x1024, .bf16⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2x1024, .f32⟩
  | .hbm, ⟨12, _⟩ => ⟨S2050x1024, .f32⟩
  | .hbm, ⟨13, _⟩ => ⟨S_, .f32⟩
  | .hbm, ⟨14, _⟩ => ⟨S2x1024, .f32⟩
  | .hbm, ⟨15, _⟩ => ⟨S2048x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S3x1024, .f32⟩
  | .hbm, ⟨53, _⟩ => ⟨S_, .f32⟩
  | .hbm, ⟨54, _⟩ => ⟨S2050x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S3x1024, .f32⟩
  | .hbm, ⟨66, _⟩ => ⟨S3x1024, .f32⟩
  | .hbm, ⟨67, _⟩ => ⟨S_, .f32⟩
  | .hbm, ⟨68, _⟩ => ⟨S2050x1024, .f32⟩
  | .hbm, ⟨69, _⟩ => ⟨S2050x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S3x1024, .f32⟩
  | .hbm, ⟨81, _⟩ => ⟨S3x1024, .f32⟩
  | .hbm, ⟨82, _⟩ => ⟨S_, .f32⟩
  | .hbm, ⟨83, _⟩ => ⟨S2050x1024, .f32⟩
  | .hbm, ⟨84, _⟩ => ⟨S2050x1024, .f32⟩
  | .hbm, ⟨85, _⟩ => ⟨S2x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .bf16⟩
  | .hbm, ⟨90, _⟩ => ⟨S2048x1024, .bf16⟩
  | .hbm, ⟨91, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== MemNorm.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v16 : BitVec 32 := Scalar.extui v13
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32 : BitVec 32 := 0#32
  let v13 : BitVec 1 := Scalar.cmpi .eq arg0 c0_i32
  let v_true : BitVec 1 := 1#1
  let v18 : BitVec 1 := Scalar.xori v13 v_true
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== MemNormRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S1024, .f32⟩
  | .hbm, ⟨25, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== FfnDgu.lean ====
abbrev S2048x1024 : Shape := ⟨2, ![2048, 1024]⟩
abbrev S2816x1024 : Shape := ⟨2, ![2816, 1024]⟩
abbrev S2048x5632 : Shape := ⟨2, ![2048, 5632]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 9
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x5632, .bf16⟩
  | .hbm, ⟨3, _⟩ => ⟨S2048x2816, .bf16⟩
  | .hbm, ⟨4, _⟩ => ⟨S2048x2816, .bf16⟩
  | .hbm, ⟨5, _⟩ => ⟨S1x2048x2816, .bf16⟩
  | .hbm, ⟨6, _⟩ => ⟨S1x2048x2816, .bf16⟩
  | .hbm, ⟨7, _⟩ => ⟨S2x2048x2816, .bf16⟩
  | .hbm, ⟨8, _⟩ => ⟨S2x2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDguRefIdeal.lean ====
abbrev S2048x1024 : Shape := ⟨2, ![2048, 1024]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S1x2048x2816 : Shape := ⟨3, ![1, 2048, 2816]⟩
abbrev S2x2048x2816 : Shape := ⟨3, ![2, 2048, 2816]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x5632, .bf16⟩
  | .hbm, ⟨3, _⟩ => ⟨S2816x1024, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S2048x1024, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x5632, .f32⟩
  | .hbm, ⟨31, _⟩ => ⟨S2048x5632, .bf16⟩
  | .hbm, ⟨32, _⟩ => ⟨S2048x2816, .bf16⟩
  | .hbm, ⟨33, _⟩ => ⟨S2048x2816, .bf16⟩
  | .hbm, ⟨34, _⟩ => ⟨S1x2048x2816, .bf16⟩
  | .hbm, ⟨35, _⟩ => ⟨S1x2048x2816, .bf16⟩
  | .hbm, ⟨36, _⟩ => ⟨S2x2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== MixDmerge.lean ====
abbrev S2048x1024 : Shape := ⟨2, ![2048, 1024]⟩
abbrev S1024x1024 : Shape := ⟨2, ![1024, 1024]⟩
abbrev S2048x8192 : Shape := ⟨2, ![2048, 8192]⟩
abbrev S2048 : Shape := ⟨1, ![2048]⟩
abbrev S1x2048 : Shape := ⟨2, ![1, 2048]⟩
abbrev S1x1024 : Shape := ⟨2, ![1, 1024]⟩
abbrev S512x1024 : Shape := ⟨2, ![512, 1024]⟩
abbrev S1024x512 : Shape := ⟨2, ![1024, 512]⟩
abbrev S1x512 : Shape := ⟨2, ![1, 512]⟩
abbrev S512 : Shape := ⟨1, ![512]⟩

abbrev nBuf : Space → Nat
  | .hbm => 15
  | .vmem => 28
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x8192, .bf16⟩
  | .hbm, ⟨5, _⟩ => ⟨S2048, .f32⟩
  | .hbm, ⟨6, _⟩ => ⟨S1x2048, .f32⟩
  | .hbm, ⟨7, _⟩ => ⟨S1x1024, .f32⟩
  | .hbm, ⟨8, _⟩ => ⟨S1x1024, .f32⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S1x1024, .f32⟩
  | .hbm, ⟨14, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v57 : BitVec 1 := Scalar.cmpi .eq arg1 c0_i32
  let v58 : BitVec 32 := Scalar.extui v57
  let c0_i32_33 : BitVec 32 := 0#32
  let v59 : BitVec 1 := Scalar.cmpi .ne v58 c0_i32_33
  v59

def k0_cond2 (i : grid0.Coords) : BitVec 1 :=
  let arg1 : BitVec 32 := BitVec.ofNat 32 (i 1).val
  let c0_i32_34 : BitVec 32 := 0#32
  let v60 : BitVec 1 := Scalar.cmpi .sgt arg1 c0_i32_34
  let v61 : BitVec 32 := Scalar.extui v60
  let c0_i32_35 : BitVec 32 := 0#32
  let v62 : BitVec 1 := Scalar.cmpi .ne v61 c0_i32_35
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MixDmergeRefIdeal.lean ====
abbrev S2048x1024 : Shape := ⟨2, ![2048, 1024]⟩
abbrev S1024x1024 : Shape := ⟨2, ![1024, 1024]⟩
abbrev S2048x8192 : Shape := ⟨2, ![2048, 8192]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S2048x8192, .bf16⟩
  | .hbm, ⟨5, _⟩ => ⟨S2048, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x2048, .bf16⟩
  | .hbm, ⟨10, _⟩ => ⟨S2048x2048, .f32⟩
  | .hbm, ⟨11, _⟩ => ⟨S1x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S_, .f32⟩
  | .hbm, ⟨44, _⟩ => ⟨S2048, .f32⟩
  | .hbm, ⟨45, _⟩ => ⟨S2048x2048, .bf16⟩
  | .hbm, ⟨46, _⟩ => ⟨S2048x1024, .bf16⟩
  | .hbm, ⟨47, _⟩ => ⟨S2048x1024, .bf16⟩
  | .hbm, ⟨48, _⟩ => ⟨S1x2048, .f32⟩
  | .hbm, ⟨49, _⟩ => ⟨S1x1024, .f32⟩
  | .hbm, ⟨50, _⟩ => ⟨S1x1024, .f32⟩
  | .hbm, ⟨51, _⟩ => ⟨S2048x1024, .bf16⟩
  | .hbm, ⟨52, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== CrossDn.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_20 : BitVec 32 := 0#32
  let v40 : BitVec 1 := Scalar.cmpi .ne v39 c0_i32_20
  v40

def k0_cond2 (i : grid0.Coords) : BitVec 1 :=
  let arg0 : BitVec 32 := BitVec.ofNat 32 (i 0).val
  let c0_i32_21 : BitVec 32 := 0#32
  let v41 : BitVec 1 := Scalar.cmpi .sgt arg0 c0_i32_21
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== CrossDnRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .bf16⟩
  | .hbm, ⟨56, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== MixDn.lean ====
abbrev S2048x8192 : Shape := ⟨2, ![2048, 8192]⟩
abbrev S1024x8192 : Shape := ⟨2, ![1024, 8192]⟩
abbrev S2048x1024 : Shape := ⟨2, ![2048, 1024]⟩
abbrev S1024 : Shape := ⟨1, ![1024]⟩
abbrev S1x1024 : Shape := ⟨2, ![1, 1024]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S2048x8192, .bf16⟩
  | .hbm, ⟨1, _⟩ => ⟨S1024x8192, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_26 : BitVec 32 := 0#32
  let v48 : BitVec 1 := Scalar.cmpi .eq arg0 c0_i32_26
  let v49 : BitVec 32 := Scalar.extui v48
  let c0_i32_27 : BitVec 32 := 0#32
  let v50 : BitVec 1 := Scalar.cmpi .ne v49 c0_i32_27
  v50

def k0_cond5 (i : grid0.Coords) : BitVec 1 :=
  let arg0 : BitVec 32 := BitVec.ofNat 32 (i 0).val
  let c0_i32_28 : BitVec 32 := 0#32
  let v51 : BitVec 1 := Scalar.cmpi .sgt arg0 c0_i32_28
  let v52 : BitVec 32 := Scalar.extui v51
  let c0_i32_29 : BitVec 32 := 0#32
  let v53 : BitVec 1 := Scalar.cmpi .ne v52 c0_i32_29
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== MixDnRefIdeal.lean ====
abbrev S2048x8192 : Shape := ⟨2, ![2048, 8192]⟩
abbrev S1024x8192 : Shape := ⟨2, ![1024, 8192]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S1024x8192, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x8192, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x8192, .f32⟩
  | .hbm, ⟨27, _⟩ => ⟨S2048x8192, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S2048x1024, .bf16⟩
  | .hbm, ⟨59, _⟩ => ⟨S1x1024, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Ffn2Dn.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x2816, .bf16⟩
  | .hbm, ⟨6, _⟩ => ⟨S2048x2816, .bf16⟩
  | .hbm, ⟨7, _⟩ => ⟨S1x2048x2816, .bf16⟩
  | .hbm, ⟨8, _⟩ => ⟨S1x2048x2816, .bf16⟩
  | .hbm, ⟨9, _⟩ => ⟨S2x2048x2816, .bf16⟩
  | .hbm, ⟨10, _⟩ => ⟨S1x1024, .f32⟩
  | .hbm, ⟨11, _⟩ => ⟨S2048x1024, .f32⟩
  | .hbm, ⟨12, _⟩ => ⟨S2048x1024, .bf16⟩
  | .hbm, ⟨13, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_27 : BitVec 32 := 0#32
  let v49 : BitVec 1 := Scalar.cmpi .eq arg0 c0_i32_27
  let v50 : BitVec 32 := Scalar.extui v49
  let c0_i32_28 : BitVec 32 := 0#32
  let v51 : BitVec 1 := Scalar.cmpi .ne v50 c0_i32_28
  v51

def k0_cond5 (i : grid0.Coords) : BitVec 1 :=
  let arg0 : BitVec 32 := BitVec.ofNat 32 (i 0).val
  let c0_i32_29 : BitVec 32 := 0#32
  let v52 : BitVec 1 := Scalar.cmpi .sgt arg0 c0_i32_29
  let v53 : BitVec 32 := Scalar.extui v52
  let c0_i32_30 : BitVec 32 := 0#32
  let v54 : BitVec 1 := Scalar.cmpi .ne v53 c0_i32_30
  v54

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Ffn2DnRefIdeal.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x5632, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x5632, .f32⟩
  | .hbm, ⟨27, _⟩ => ⟨S2048x5632, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .bf16⟩
  | .hbm, ⟨56, _⟩ => ⟨S1x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Ffn1Dn.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x2816, .bf16⟩
  | .hbm, ⟨6, _⟩ => ⟨S2048x2816, .bf16⟩
  | .hbm, ⟨7, _⟩ => ⟨S1x2048x2816, .bf16⟩
  | .hbm, ⟨8, _⟩ => ⟨S1x2048x2816, .bf16⟩
  | .hbm, ⟨9, _⟩ => ⟨S2x2048x2816, .bf16⟩
  | .hbm, ⟨10, _⟩ => ⟨S1x1024, .f32⟩
  | .hbm, ⟨11, _⟩ => ⟨S2048x1024, .f32⟩
  | .hbm, ⟨12, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_24 : BitVec 32 := 0#32
  let v45 : BitVec 1 := Scalar.cmpi .eq arg0 c0_i32_24
  let v46 : BitVec 32 := Scalar.extui v45
  let c0_i32_25 : BitVec 32 := 0#32
  let v47 : BitVec 1 := Scalar.cmpi .ne v46 c0_i32_25
  v47

def k0_cond5 (i : grid0.Coords) : BitVec 1 :=
  let arg0 : BitVec 32 := BitVec.ofNat 32 (i 0).val
  let c0_i32_26 : BitVec 32 := 0#32
  let v48 : BitVec 1 := Scalar.cmpi .sgt arg0 c0_i32_26
  let v49 : BitVec 32 := Scalar.extui v48
  let c0_i32_27 : BitVec 32 := 0#32
  let v50 : BitVec 1 := Scalar.cmpi .ne v49 c0_i32_27
  v50

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Ffn1DnRefIdeal.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x5632, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x5632, .f32⟩
  | .hbm, ⟨27, _⟩ => ⟨S2048x5632, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DownLoss.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_26 : BitVec 32 := 0#32
  let v58 : BitVec 1 := Scalar.cmpi .ne v57 c0_i32_26
  v58

def k0_cond2 (i : grid0.Coords) : BitVec 1 :=
  let arg0 : BitVec 32 := BitVec.ofNat 32 (i 0).val
  let c0_i32_27 : BitVec 32 := 0#32
  let v59 : BitVec 1 := Scalar.cmpi .sgt arg0 c0_i32_27
  let v60 : BitVec 32 := Scalar.extui v59
  let c0_i32_28 : BitVec 32 := 0#32
  let v61 : BitVec 1 := Scalar.cmpi .ne v60 c0_i32_28
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x2816, .f32⟩
  | .hbm, ⟨6, _⟩ => ⟨S2816x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S2048x1024, .f32⟩
  | .hbm, ⟨82, _⟩ => ⟨S2048x1024, .f32⟩
  | .hbm, ⟨83, _⟩ => ⟨S2048x1024, .bf16⟩
  | .hbm, ⟨84, _⟩ => ⟨S1x1024, .f32⟩
  | .hbm, ⟨85, _⟩ => ⟨S1x128, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Xattn.lean ====
abbrev S2048x1024 : Shape := ⟨2, ![2048, 1024]⟩
abbrev S256x2048 : Shape := ⟨2, ![256, 2048]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 6
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .bf16⟩
  | .hbm, ⟨4, _⟩ => ⟨S256x1024, .bf16⟩
  | .hbm, ⟨5, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .f32⟩
  | .local _ .vmem, ⟨15, _⟩ => ⟨S256x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_21 : BitVec 32 := 0#32
  let v40 : BitVec 1 := Scalar.cmpi .eq arg1 c0_i32_21
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== XattnRefIdeal.lean ====
abbrev S2048x1024 : Shape := ⟨2, ![2048, 1024]⟩
abbrev S256x2048 : Shape := ⟨2, ![256, 2048]⟩
abbrev S2048x4x256 : Shape := ⟨3, ![2048, 4, 256]⟩
abbrev S256x1024 : Shape := ⟨2, ![256, 1024]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .f32⟩
  | .hbm, ⟨4, _⟩ => ⟨S256x2048, .f32⟩
  | .hbm, ⟨5, _⟩ => ⟨S2048x4x256, .f32⟩
  | .hbm, ⟨6, _⟩ => ⟨S256x1024, .f32⟩
  | .hbm, ⟨7, _⟩ => ⟨S256x1024, .f32⟩
  | .hbm, ⟨8, _⟩ => ⟨S256x4x256, .f32⟩
  | .hbm, ⟨9, _⟩ => ⟨S256x4x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x256x2048, .f32⟩
  | .hbm, ⟨53, _⟩ => ⟨S2048x4x256, .f32⟩
  | .hbm, ⟨54, _⟩ => ⟨S2048x1024, .f32⟩
  | .hbm, ⟨55, _⟩ => ⟨S2048x1024, .f32⟩
  | .hbm, ⟨56, _⟩ => ⟨S2048x4x256, .f32⟩
  | .hbm, ⟨57, _⟩ => ⟨S4x256x2048, .f32⟩
  | .hbm, ⟨58, _⟩ => ⟨S4x2048x256, .f32⟩
  | .hbm, ⟨59, _⟩ => ⟨S4x256x256, .f32⟩
  | .hbm, ⟨60, _⟩ => ⟨S256x4x256, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x256, .f32⟩
  | .hbm, ⟨79, _⟩ => ⟨S256x4x256, .f32⟩
  | .hbm, ⟨80, _⟩ => ⟨S4x2048x256, .f32⟩
  | .hbm, ⟨81, _⟩ => ⟨S2048x4x256, .f32⟩
  | .hbm, ⟨82, _⟩ => ⟨S256x1024, .f32⟩
  | .hbm, ⟨83, _⟩ => ⟨S256x1024, .f32⟩
  | .hbm, ⟨84, _⟩ => ⟨S256x2048, .f32⟩
  | .hbm, ⟨85, _⟩ => ⟨S2048x1024, .f32⟩
  | .hbm, ⟨86, _⟩ => ⟨S256x2048, .bf16⟩
  | .hbm, ⟨87, _⟩ => ⟨S256x1024, .bf16⟩
  | .hbm, ⟨88, _⟩ => ⟨S256x1024, .bf16⟩
  | .hbm, ⟨89, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Sb.lean ====
abbrev S2048x8192 : Shape := ⟨2, ![2048, 8192]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x8x256 : Shape := ⟨4, ![8, 2048, 8, 256]⟩
abbrev S8x8x2048x256 : Shape := ⟨4, ![8, 8, 2048, 256]⟩
abbrev S512x256 : Shape := ⟨2, ![512, 256]⟩
abbrev S2048x256 : Shape := ⟨2, ![2048, 256]⟩
abbrev S2x8x512x256 : Shape := ⟨4, ![2, 8, 512, 256]⟩
abbrev S512x128 : Shape := ⟨2, ![512, 128]⟩
abbrev S512 : Shape := ⟨1, ![512]⟩
abbrev S512x1 : Shape := ⟨2, ![512, 1]⟩
abbrev S256x256 : Shape := ⟨2, ![256, 256]⟩
abbrev S256x128 : Shape := ⟨2, ![256, 128]⟩
abbrev S1x1x512x256 : Shape := ⟨4, ![1, 1, 512, 256]⟩

abbrev nBuf : Space → Nat
  | .hbm => 87
  | .vmem => 22
  | .smem => 0
  | _ => 0

abbrev bufTy : (tb : Table) → Fin (tcTables nBuf tb) → BufTy
  | .hbm, ⟨0, _⟩ => ⟨S2048x8192, .bf16⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x8x128, .f32⟩
  | .hbm, ⟨5, _⟩ => ⟨S8x2048x128, .f32⟩
  | .hbm, ⟨6, _⟩ => ⟨S2048x1024, .bf16⟩
  | .hbm, ⟨7, _⟩ => ⟨S2048x1024, .f32⟩
  | .hbm, ⟨8, _⟩ => ⟨S2048x8x128, .f32⟩
  | .hbm, ⟨9, _⟩ => ⟨S8x2048x128, .f32⟩
  | .hbm, ⟨10, _⟩ => ⟨S2048x1024, .bf16⟩
  | .hbm, ⟨11, _⟩ => ⟨S2048x1024, .f32⟩
  | .hbm, ⟨12, _⟩ => ⟨S2048x8x128, .f32⟩
  | .hbm, ⟨13, _⟩ => ⟨S8x2048x128, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S_, .f32⟩
  | .hbm, ⟨44, _⟩ => ⟨S8x2048x2048, .i1⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S_, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .i1⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S_, .f32⟩
  | .hbm, ⟨71, _⟩ => ⟨S8x2048x2048, .i1⟩
  | .hbm, ⟨72, _⟩ => ⟨S8x2048x2048, .f32⟩
  | .hbm, ⟨73, _⟩ => ⟨S8x2048x2048, .f32⟩
  | .hbm, ⟨74, _⟩ => ⟨S8x2048x128, .f32⟩
  | .hbm, ⟨75, _⟩ => ⟨S2048x8x128, .f32⟩
  | .hbm, ⟨76, _⟩ => ⟨S2048x1024, .f32⟩
  | .hbm, ⟨77, _⟩ => ⟨S8x2048x2048, .bf16⟩
  | .hbm, ⟨78, _⟩ => ⟨S8x2048x8x256, .bf16⟩
  | .hbm, ⟨79, _⟩ => ⟨S8x8x2048x256, .bf16⟩
  | .hbm, ⟨80, _⟩ => ⟨S8x2048x2048, .f32⟩
  | .hbm, ⟨81, _⟩ => ⟨S8x2048x2048, .bf16⟩
  | .hbm, ⟨82, _⟩ => ⟨S8x2048x8x256, .bf16⟩
  | .hbm, ⟨83, _⟩ => ⟨S8x8x2048x256, .bf16⟩
  | .hbm, ⟨84, _⟩ => ⟨S2048x1024, .bf16⟩
  | .hbm, ⟨85, _⟩ => ⟨S2048x1024, .bf16⟩
  | .hbm, ⟨86, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .f32⟩
  | .local _ .vmem, ⟨7, _⟩ => ⟨S512x256, .f32⟩
  | .local _ .vmem, ⟨8, _⟩ => ⟨S2x8x512x256, .bf16⟩
  | .local _ .vmem, ⟨9, _⟩ => ⟨S2x8x512x256, .bf16⟩
  | .local _ .vmem, ⟨10, _⟩ => ⟨S2x8x512x256, .bf16⟩
  | .local _ .vmem, ⟨11, _⟩ => ⟨S2x8x512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .f32⟩
  | .local _ .vmem, ⟨21, _⟩ => ⟨S2048x256, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v23 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_call2_cst : Ref sig .tc := ⟨.hbm, 47, rfl⟩
abbrev main_call2_v0 : Ref sig .tc := ⟨.hbm, 48, rfl⟩
abbrev main_v25 : Ref sig .tc := ⟨.hbm, 49, rfl⟩
abbrev main_v26 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41_0 : Ref sig .tc := ⟨.hbm, 84, rfl⟩
abbrev main_v41_1 : Ref sig .tc := ⟨.hbm, 85, rfl⟩
abbrev main_v41_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c2_i32 : BitVec 32 := 2#32
  let v37 : BitVec 32 := Scalar.muli arg1 c2_i32
  let c1_i32 : BitVec 32 := 1#32
  let v38 : BitVec 32 := Scalar.addi v37 c1_i32
  let c256_i32_17 : BitVec 32 := 256#32
  let v39 : BitVec 32 := Scalar.muli v38 c256_i32_17
  v39
def k0_off1 (i : grid0.Coords) (c1_i32 : BitVec 32) : Fin 2 → Nat :=
  let arg1 : BitVec 32 := BitVec.ofNat 32 (i 1).val
  let c2_i32 : BitVec 32 := 2#32
  let v37 : BitVec 32 := Scalar.muli arg1 c2_i32
  let v38 : BitVec 32 := Scalar.addi v37 c1_i32
  let c256_i32_17 : BitVec 32 := 256#32
  let v39 : BitVec 32 := Scalar.muli v38 c256_i32_17
  let v40 : BitVec 32 := v39
  let v41 : Index := Scalar.indexCast v40
  let c0_18 : Index := 0#32
  ![v41.toNat, 0]
def k0_off2 (i : grid0.Coords) (c1_i32 : BitVec 32) : Fin 4 → Nat :=
  let c0_20 : Index := 0#32
  let arg1 : BitVec 32 := BitVec.ofNat 32 (i 1).val
  let c2_i32 : BitVec 32 := 2#32
  let v37 : BitVec 32 := Scalar.muli arg1 c2_i32
  let v38 : BitVec 32 := Scalar.addi v37 c1_i32
  let v45 : Index := Scalar.indexCast v38
  let c0_21 : Index := 0#32
  let c0_22 : Index := 0#32
  ![0, v45.toNat, 0, 0]
def k0_mult2 (i : grid0.Coords) : BitVec 32 :=
  let arg1 : BitVec 32 := BitVec.ofNat 32 (i 1).val
  let c2_i32_37 : BitVec 32 := 2#32
  let v87 : BitVec 32 := Scalar.muli arg1 c2_i32_37
  let c1_i32_38 : BitVec 32 := 1#32
  let v88 : BitVec 32 := Scalar.addi v87 c1_i32_38
  let c256_i32_39 : BitVec 32 := 256#32
  let v89 : BitVec 32 := Scalar.muli v88 c256_i32_39
  v89
def k0_off3 (i : grid0.Coords) (c1_i32_38 : BitVec 32) : Fin 2 → Nat :=
  let arg1 : BitVec 32 := BitVec.ofNat 32 (i 1).val
  let c2_i32_37 : BitVec 32 := 2#32
  let v87 : BitVec 32 := Scalar.muli arg1 c2_i32_37
  let v88 : BitVec 32 := Scalar.addi v87 c1_i32_38
  let c256_i32_39 : BitVec 32 := 256#32
  let v89 : BitVec 32 := Scalar.muli v88 c256_i32_39
  let v90 : BitVec 32 := v89
  let v91 : Index := Scalar.indexCast v90
  let c128_40 : Index := 128#32
  ![v91.toNat, 128]
def k0_off4 (i : grid0.Coords) (c1_i32_38 : BitVec 32) : Fin 4 → Nat :=
  let c1 : Index := 1#32
  let arg1 : BitVec 32 := BitVec.ofNat 32 (i 1).val
  let c2_i32_37 : BitVec 32 := 2#32
  let v87 : BitVec 32 := Scalar.muli arg1 c2_i32_37
  let v88 : BitVec 32 := Scalar.addi v87 c1_i32_38
  let v95 : Index := Scalar.indexCast v88
  let c0_42 : Index := 0#32
  let c0_43 : Index := 0#32
  ![1, v95.toNat, 0, 0]
def k0_mult3 (i : grid0.Coords) : BitVec 32 :=
  let arg1 : BitVec 32 := BitVec.ofNat 32 (i 1).val
  let c2_i32_58 : BitVec 32 := 2#32
  let v137 : BitVec 32 := Scalar.muli arg1 c2_i32_58
  let c0_i32_59 : BitVec 32 := 0#32
  let v138 : BitVec 32 := Scalar.addi v137 c0_i32_59
  let c256_i32_60 : BitVec 32 := 256#32
  let v139 : BitVec 32 := Scalar.muli v138 c256_i32_60
  v139
def k0_mult4 (i : grid0.Coords) : BitVec 32 :=
  let arg1 : BitVec 32 := BitVec.ofNat 32 (i 1).val
  let c2_i32_80 : BitVec 32 := 2#32
  let v187 : BitVec 32 := Scalar.muli arg1 c2_i32_80
  let c0_i32_81 : BitVec 32 := 0#32
  let v188 : BitVec 32 := Scalar.addi v187 c0_i32_81
  let c256_i32_82 : BitVec 32 := 256#32
  let v189 : BitVec 32 := Scalar.muli v188 c256_i32_82
  v189
@[reducible] def k0_t1_loop (i : grid0.Coords) : Scf.Loop 32 :=
  let c0_i32_102 : BitVec 32 := 0#32
  let arg1 : BitVec 32 := BitVec.ofNat 32 (i 1).val
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_104 : BitVec 32 := 1#32
  ⟨c0_i32_102, v241, c1_i32_104⟩
def k0_mult5 (i : grid0.Coords) (k0_t1 : Fin (k0_t1_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_114 : BitVec 32 := 2#32
  let v257 : BitVec 32 := Scalar.muli v256 c2_i32_114
  let c1_i32_115 : BitVec 32 := 1#32
  let v258 : BitVec 32 := Scalar.addi v257 c1_i32_115
  let c256_i32_116 : BitVec 32 := 256#32
  let v259 : BitVec 32 := Scalar.muli v258 c256_i32_116
  v259
def k0_off5 (i : grid0.Coords) (k0_t1 : Fin (k0_t1_loop i).trips) (c1_i32_115 : BitVec 32) : Fin 2 → Nat :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_114 : BitVec 32 := 2#32
  let v257 : BitVec 32 := Scalar.muli v256 c2_i32_114
  let v258 : BitVec 32 := Scalar.addi v257 c1_i32_115
  let c256_i32_116 : BitVec 32 := 256#32
  let v259 : BitVec 32 := Scalar.muli v258 c256_i32_116
  let v260 : BitVec 32 := v259
  let v261 : Index := Scalar.indexCast v260
  let c0_117 : Index := 0#32
  ![v261.toNat, 0]
def k0_off6 (i : grid0.Coords) (k0_t1 : Fin (k0_t1_loop i).trips) (c1_i32_115 : BitVec 32) : Fin 4 → Nat :=
  let c0_119 : Index := 0#32
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_114 : BitVec 32 := 2#32
  let v257 : BitVec 32 := Scalar.muli v256 c2_i32_114
  let v258 : BitVec 32 := Scalar.addi v257 c1_i32_115
  let v265 : Index := Scalar.indexCast v258
  let c0_120 : Index := 0#32
  let c0_121 : Index := 0#32
  ![0, v265.toNat, 0, 0]
def k0_mult6 (i : grid0.Coords) (k0_t1 : Fin (k0_t1_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_135 : BitVec 32 := 2#32
  let v305 : BitVec 32 := Scalar.muli v256 c2_i32_135
  let c1_i32_136 : BitVec 32 := 1#32
  let v306 : BitVec 32 := Scalar.addi v305 c1_i32_136
  let c256_i32_137 : BitVec 32 := 256#32
  let v307 : BitVec 32 := Scalar.muli v306 c256_i32_137
  v307
def k0_off7 (i : grid0.Coords) (k0_t1 : Fin (k0_t1_loop i).trips) (c1_i32_136 : BitVec 32) : Fin 2 → Nat :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_135 : BitVec 32 := 2#32
  let v305 : BitVec 32 := Scalar.muli v256 c2_i32_135
  let v306 : BitVec 32 := Scalar.addi v305 c1_i32_136
  let c256_i32_137 : BitVec 32 := 256#32
  let v307 : BitVec 32 := Scalar.muli v306 c256_i32_137
  let v308 : BitVec 32 := v307
  let v309 : Index := Scalar.indexCast v308
  let c128_138 : Index := 128#32
  ![v309.toNat, 128]
def k0_off8 (i : grid0.Coords) (k0_t1 : Fin (k0_t1_loop i).trips) (c1_i32_136 : BitVec 32) : Fin 4 → Nat :=
  let c1_140 : Index := 1#32
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_135 : BitVec 32 := 2#32
  let v305 : BitVec 32 := Scalar.muli v256 c2_i32_135
  let v306 : BitVec 32 := Scalar.addi v305 c1_i32_136
  let v313 : Index := Scalar.indexCast v306
  let c0_141 : Index := 0#32
  let c0_142 : Index := 0#32
  ![1, v313.toNat, 0, 0]
def k0_mult7 (i : grid0.Coords) (k0_t1 : Fin (k0_t1_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_156 : BitVec 32 := 2#32
  let v353 : BitVec 32 := Scalar.muli v256 c2_i32_156
  let c0_i32_157 : BitVec 32 := 0#32
  let v354 : BitVec 32 := Scalar.addi v353 c0_i32_157
  let c256_i32_158 : BitVec 32 := 256#32
  let v355 : BitVec 32 := Scalar.muli v354 c256_i32_158
  v355
def k0_mult8 (i : grid0.Coords) (k0_t1 : Fin (k0_t1_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let c1_i32_104 : BitVec 32 := 1#32
  let arg14 : BitVec 32 := Scf.iv c0_i32_102 c1_i32_104 k0_t1
  let v256 : BitVec 32 := Scalar.subi v255 arg14
  let c2_i32_177 : BitVec 32 := 2#32
  let v401 : BitVec 32 := Scalar.muli v256 c2_i32_177
  let c0_i32_178 : BitVec 32 := 0#32
  let v402 : BitVec 32 := Scalar.addi v401 c0_i32_178
  let c256_i32_179 : BitVec 32 := 256#32
  let v403 : BitVec 32 := Scalar.muli v402 c256_i32_179
  v403
@[reducible] def k0_t2_loop (i : grid0.Coords) : Scf.Loop 32 :=
  let c0_i32_102 : BitVec 32 := 0#32
  let arg1 : BitVec 32 := BitVec.ofNat 32 (i 1).val
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let v238 : BitVec 32 := Scalar.addi c0_i32_102 v237
  let c1_i32_105 : BitVec 32 := 1#32
  ⟨v241, v238, c1_i32_105⟩
def k0_mult9 (i : grid0.Coords) (k0_t2 : Fin (k0_t2_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_114 : BitVec 32 := 2#32
  let v257 : BitVec 32 := Scalar.muli v256 c2_i32_114
  let c1_i32_115 : BitVec 32 := 1#32
  let v258 : BitVec 32 := Scalar.addi v257 c1_i32_115
  let c256_i32_116 : BitVec 32 := 256#32
  let v259 : BitVec 32 := Scalar.muli v258 c256_i32_116
  v259
def k0_off9 (i : grid0.Coords) (k0_t2 : Fin (k0_t2_loop i).trips) (c1_i32_115 : BitVec 32) : Fin 2 → Nat :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_114 : BitVec 32 := 2#32
  let v257 : BitVec 32 := Scalar.muli v256 c2_i32_114
  let v258 : BitVec 32 := Scalar.addi v257 c1_i32_115
  let c256_i32_116 : BitVec 32 := 256#32
  let v259 : BitVec 32 := Scalar.muli v258 c256_i32_116
  let v260 : BitVec 32 := v259
  let v261 : Index := Scalar.indexCast v260
  let c0_117 : Index := 0#32
  ![v261.toNat, 0]
def k0_off10 (i : grid0.Coords) (k0_t2 : Fin (k0_t2_loop i).trips) (c1_i32_115 : BitVec 32) : Fin 4 → Nat :=
  let c0_119 : Index := 0#32
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_114 : BitVec 32 := 2#32
  let v257 : BitVec 32 := Scalar.muli v256 c2_i32_114
  let v258 : BitVec 32 := Scalar.addi v257 c1_i32_115
  let v265 : Index := Scalar.indexCast v258
  let c0_120 : Index := 0#32
  let c0_121 : Index := 0#32
  ![0, v265.toNat, 0, 0]
def k0_mult10 (i : grid0.Coords) (k0_t2 : Fin (k0_t2_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_135 : BitVec 32 := 2#32
  let v305 : BitVec 32 := Scalar.muli v256 c2_i32_135
  let c1_i32_136 : BitVec 32 := 1#32
  let v306 : BitVec 32 := Scalar.addi v305 c1_i32_136
  let c256_i32_137 : BitVec 32 := 256#32
  let v307 : BitVec 32 := Scalar.muli v306 c256_i32_137
  v307
def k0_off11 (i : grid0.Coords) (k0_t2 : Fin (k0_t2_loop i).trips) (c1_i32_136 : BitVec 32) : Fin 2 → Nat :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_135 : BitVec 32 := 2#32
  let v305 : BitVec 32 := Scalar.muli v256 c2_i32_135
  let v306 : BitVec 32 := Scalar.addi v305 c1_i32_136
  let c256_i32_137 : BitVec 32 := 256#32
  let v307 : BitVec 32 := Scalar.muli v306 c256_i32_137
  let v308 : BitVec 32 := v307
  let v309 : Index := Scalar.indexCast v308
  let c128_138 : Index := 128#32
  ![v309.toNat, 128]
def k0_off12 (i : grid0.Coords) (k0_t2 : Fin (k0_t2_loop i).trips) (c1_i32_136 : BitVec 32) : Fin 4 → Nat :=
  let c1_140 : Index := 1#32
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_135 : BitVec 32 := 2#32
  let v305 : BitVec 32 := Scalar.muli v256 c2_i32_135
  let v306 : BitVec 32 := Scalar.addi v305 c1_i32_136
  let v313 : Index := Scalar.indexCast v306
  let c0_141 : Index := 0#32
  let c0_142 : Index := 0#32
  ![1, v313.toNat, 0, 0]
def k0_mult11 (i : grid0.Coords) (k0_t2 : Fin (k0_t2_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_156 : BitVec 32 := 2#32
  let v353 : BitVec 32 := Scalar.muli v256 c2_i32_156
  let c0_i32_157 : BitVec 32 := 0#32
  let v354 : BitVec 32 := Scalar.addi v353 c0_i32_157
  let c256_i32_158 : BitVec 32 := 256#32
  let v355 : BitVec 32 := Scalar.muli v354 c256_i32_158
  v355
def k0_mult12 (i : grid0.Coords) (k0_t2 : Fin (k0_t2_loop i).trips) : BitVec 32 :=
  let arg1 : BitVec 32 := BitVec.ofNat 32 (i 1).val
  let c1_i32_113 : BitVec 32 := 1#32
  let v255 : BitVec 32 := Scalar.subi arg1 c1_i32_113
  let c0_i32_102 : BitVec 32 := 0#32
  let v237 : BitVec 32 := Scalar.subi arg1 c0_i32_102
  let c1_i32_103 : BitVec 32 := 1#32
  let v239 : BitVec 32 := Scalar.divsi v237 c1_i32_103
  let v240 : BitVec 32 := Scalar.muli v239 c1_i32_103
  let v241 : BitVec 32 := Scalar.addi c0_i32_102 v240
  let c1_i32_105 : BitVec 32 := 1#32
  let arg14 : BitVec 32 := Scf.iv v241 c1_i32_105 k0_t2
  let v256 : BitVec 32 := Scalar.subi v255 arg14
  let c2_i32_177 : BitVec 32 := 2#32
  let v401 : BitVec 32 := Scalar.muli v256 c2_i32_177
  let c0_i32_178 : BitVec 32 := 0#32
  let v402 : BitVec 32 := Scalar.addi v401 c0_i32_178
  let c256_i32_179 : BitVec 32 := 256#32
  let v403 : BitVec 32 := Scalar.muli v402 c256_i32_179
  v403
def k0_cond2 (i : grid0.Coords) : BitVec 1 :=
  let arg1 : BitVec 32 := BitVec.ofNat 32 (i 1).val
  let c3_i32 : BitVec 32 := 3#32
  let v252 : BitVec 1 := Scalar.cmpi .eq arg1 c3_i32
  let v253 : BitVec 32 := Scalar.extui v252
  let c0_i32_112 : BitVec 32 := 0#32
  let v254 : BitVec 1 := Scalar.cmpi .ne v253 c0_i32_112
  v254

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== SbRefIdeal.lean ====
abbrev S2048x8192 : Shape := ⟨2, ![2048, 8192]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩

abbrev nBuf : Space → Nat
  | .hbm => 185
  | .vmem => 0
  | .smem => 0
  | _ => 0

abbrev hbmTy0_0 (i : Nat) : BufTy := match i % 128 with
  | 0 => ⟨S2048x8192, .bf16⟩
  | 1 => ⟨S2048x1024, .bf16⟩
  | 2 => ⟨S2048x1024, .bf16⟩
  | 3 => ⟨S2048x1024, .f32⟩
  | 4 => ⟨S2048x1024, .bf16⟩
  | 5 => ⟨S2048x1024, .f32⟩
  | 6 => ⟨S2048x1024, .bf16⟩
  | 7 => ⟨S2048x1024, .f32⟩
  | 8 => ⟨S2048x8x128, .f32⟩
  | 9 => ⟨S8x2048x128, .f32⟩
  | 10 => ⟨S2048x8x128, .f32⟩
  | 11 => ⟨S8x2048x128, .f32⟩
  | 12 => ⟨S2048x8x128, .f32⟩
  | 13 => ⟨S8x2048x128, .f32⟩
  | 14 => ⟨S8x2048x2048, .f32⟩
  | 15 => ⟨S_, .f32⟩
  | 16 => ⟨S8x2048x2048, .f32⟩
  | 17 => ⟨S8x2048x2048, .f32⟩
  | 18 => ⟨S2048, .i32⟩
  | 19 => ⟨S1x2048, .i32⟩
  | 20 => ⟨S2048, .i32⟩
  | 21 => ⟨S2048x1, .i32⟩
  | 22 => ⟨S2048x2048, .i32⟩
  | 23 => ⟨S2048x2048, .i32⟩
  | 24 => ⟨S2048x2048, .i1⟩
  | 25 => ⟨S8x2048x2048, .f32⟩
  | 26 => ⟨S8x2048x2048, .f32⟩
  | 27 => ⟨S_, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .i1⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S_, .f32⟩
  | 42 => ⟨S8x2048x2048, .f32⟩
  | 43 => ⟨S8x2048x2048, .i1⟩
  | 44 => ⟨S_, .f32⟩
  | 45 => ⟨S8x2048x2048, .f32⟩
  | 46 => ⟨S8x2048x2048, .f32⟩
  | 47 => ⟨S_, .f32⟩
  | 48 => ⟨S8x2048x2048, .f32⟩
  | 49 => ⟨S8x2048x2048, .i1⟩
  | 50 => ⟨S_, .f32⟩
  | 51 => ⟨S8x2048x2048, .f32⟩
  | 52 => ⟨S8x2048x2048, .f32⟩
  | 53 => ⟨S8x2048x2048, .f32⟩
  | 54 => ⟨S8x2048x2048, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S8x2048x2048, .f32⟩
  | 63 => ⟨S8x2048x2048, .i1⟩
  | 64 => ⟨S_, .f32⟩
  | 65 => ⟨S8x2048x2048, .f32⟩
  | 66 => ⟨S8x2048x2048, .f32⟩
  | 67 => ⟨S8x2048x2048, .f32⟩
  | 68 => ⟨S8x2048x2048, .f32⟩
  | 69 => ⟨S8x2048x2048, .f32⟩
  | 70 => ⟨S_, .f32⟩
  | 71 => ⟨S8x2048x2048, .f32⟩
  | 72 => ⟨S8x2048x2048, .f32⟩
  | 73 => ⟨S8x2048x2048, .f32⟩
  | 74 => ⟨S_, .f32⟩
  | 75 => ⟨S_, .f32⟩
  | 76 => ⟨S8x2048x2048, .i1⟩
  | 77 => ⟨S8x2048x2048, .f32⟩
  | 78 => ⟨S8x2048x2048, .f32⟩
  | 79 => ⟨S_, .f32⟩
  | 80 => ⟨S8x2048x2048, .f32⟩
  | 81 => ⟨S_, .f32⟩
  | 82 => ⟨S_, .f32⟩
  | 83 => ⟨S8x2048x2048, .f32⟩
  | 84 => ⟨S8x2048x2048, .f32⟩
  | 85 => ⟨S8x2048x2048, .f32⟩
  | 86 => ⟨S_, .f32⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .i1⟩
  | 92 => ⟨S8x2048x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S8x2048x2048, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .i1⟩
  | 103 => ⟨S_, .f32⟩
  | 104 => ⟨S8x2048x2048, .f32⟩
  | 105 => ⟨S8x2048x2048, .f32⟩
  | 106 => ⟨S_, .f32⟩
  | 107 => ⟨S8x2048x2048, .f32⟩
  | 108 => ⟨S8x2048x2048, .i1⟩
  | 109 => ⟨S_, .f32⟩
  | 110 => ⟨S8x2048x2048, .f32⟩
  | 111 => ⟨S8x2048x2048, .f32⟩
  | 112 => ⟨S8x2048x2048, .f32⟩
  | 113 => ⟨S8x2048x2048, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S8x2048x2048, .f32⟩
  | 122 => ⟨S8x2048x2048, .i1⟩
  | 123 => ⟨S_, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x8192, .bf16⟩

abbrev hbmTy0_1 (i : Nat) : BufTy := match i % 128 with
  | 0 => ⟨S8x2048x2048, .f32⟩
  | 1 => ⟨S_, .f32⟩
  | 2 => ⟨S8x2048x2048, .f32⟩
  | 3 => ⟨S8x2048x2048, .f32⟩
  | 4 => ⟨S8x2048x2048, .f32⟩
  | 5 => ⟨S8x2048x2048, .f32⟩
  | 6 => ⟨S8x2048x2048, .f32⟩
  | 7 => ⟨S_, .f32⟩
  | 8 => ⟨S_, .f32⟩
  | 9 => ⟨S8x2048x2048, .i1⟩
  | 10 => ⟨S8x2048x2048, .f32⟩
  | 11 => ⟨S8x2048x2048, .f32⟩
  | 12 => ⟨S_, .f32⟩
  | 13 => ⟨S8x2048x2048, .f32⟩
  | 14 => ⟨S8x2048x128, .f32⟩
  | 15 => ⟨S2048x8x128, .f32⟩
  | 16 => ⟨S2048x1024, .f32⟩
  | 17 => ⟨S2048x1024, .f32⟩
  | 18 => ⟨S2048x8x128, .f32⟩
  | 19 => ⟨S8x2048x128, .f32⟩
  | 20 => ⟨S8x128x2048, .f32⟩
  | 21 => ⟨S8x2048x128, .f32⟩
  | 22 => ⟨S8x2048x2048, .f32⟩
  | 23 => ⟨S_, .f32⟩
  | 24 => ⟨S8x2048x2048, .f32⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S_, .f32⟩
  | 32 => ⟨S_, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .f32⟩
  | 46 => ⟨S8x2048x128, .f32⟩
  | 47 => ⟨S8x2048x128, .f32⟩
  | 48 => ⟨S2048x8x128, .f32⟩
  | 49 => ⟨S2048x1024, .f32⟩
  | 50 => ⟨S2048x8x128, .f32⟩
  | 51 => ⟨S2048x1024, .f32⟩
  | 52 => ⟨S2048x8x128, .f32⟩
  | 53 => ⟨S2048x1024, .f32⟩
  | 54 => ⟨S2048x1024, .bf16⟩
  | 55 => ⟨S2048x1024, .bf16⟩
  | 56 => ⟨S2048x1024, .bf16⟩
  | _ => ⟨S2048x8192, .bf16⟩

abbrev hbmTy (i : Nat) : BufTy := match i / 128 with
  | 0 => hbmTy0_0 i
  | 1 => hbmTy0_1 i
  | _ => ⟨S2048x8192, .bf16⟩

abbrev bufTy : (tb : Table) → Fin (tcTables nBuf tb) → BufTy
  | .hbm, ⟨i, _⟩ => hbmTy i
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_cst : Ref sig .tc := ⟨.hbm, 81, rfl⟩
abbrev main_call2_v0 : Ref sig .tc := ⟨.hbm, 82, rfl⟩
abbrev main_v25 : Ref sig .tc := ⟨.hbm, 83, rfl⟩
abbrev main_v26 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v27_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v27_2 : Ref sig .tc := ⟨.hbm, 131, rfl⟩
abbrev main_v27_0 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_v41 : Ref sig .tc := ⟨.hbm, 154, rfl⟩
abbrev main_call6_v0 : Ref sig .tc := ⟨.hbm, 155, rfl⟩
abbrev main_call6_v1 : Ref sig .tc := ⟨.hbm, 156, rfl⟩
abbrev main_v42 : Ref sig .tc := ⟨.hbm, 157, rfl⟩
abbrev main_v43 : Ref sig .tc := ⟨.hbm, 158, rfl⟩
abbrev main_call7_cst : Ref sig .tc := ⟨.hbm, 159, rfl⟩
abbrev main_call7_v0 : Ref sig .tc := ⟨.hbm, 160, rfl⟩
abbrev main_v44 : Ref sig .tc := ⟨.hbm, 161, rfl⟩
abbrev main_v45 : Ref sig .tc := ⟨.hbm, 162, rfl⟩
abbrev main_call8_cst : Ref sig .tc := ⟨.hbm, 163, rfl⟩
abbrev main_call8_v0 : Ref sig .tc := ⟨.hbm, 164, rfl⟩
abbrev main_v46 : Ref sig .tc := ⟨.hbm, 165, rfl⟩
abbrev main_call9_v0 : Ref sig .tc := ⟨.hbm, 166, rfl⟩
abbrev main_call9_v1 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_cst_2 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩

abbrev nD : Nat := 1
abbrev τ : Topo := Topo.v7x

variable {F : FTy → Type} [FloatOps F]
-- ==== SbFwd.lean ====
abbrev S2048x8192 : Shape := ⟨2, ![2048, 8192]⟩
abbrev S2048x1024 : Shape := ⟨2, ![2048, 1024]⟩
abbrev S8x8x2048x256 : Shape := ⟨4, ![8, 8, 2048, 256]⟩
abbrev S1024x128 : Shape := ⟨2, ![1024, 128]⟩
abbrev S2048x128 : Shape := ⟨2, ![2048, 128]⟩
abbrev S1x8x1024x256 : Shape := ⟨4, ![1, 8, 1024, 256]⟩
abbrev S1024x256 : Shape := ⟨2, ![1024, 256]⟩
abbrev S256x256 : Shape := ⟨2, ![256, 256]⟩
abbrev S1024x1 : Shape := ⟨2, ![1024, 1]⟩
abbrev S256x128 : Shape := ⟨2, ![256, 128]⟩
abbrev S256x1 : Shape := ⟨2, ![256, 1]⟩
abbrev S1x1x256x256 : Shape := ⟨4, ![1, 1, 256, 256]⟩
abbrev S768x256 : Shape := ⟨2, ![768, 256]⟩
abbrev S1x1x768x256 : Shape := ⟨4, ![1, 1, 768, 256]⟩
abbrev S256 : Shape := ⟨1, ![256]⟩
abbrev S768x1 : Shape := ⟨2, ![768, 1]⟩
abbrev S768x128 : Shape := ⟨2, ![768, 128]⟩
abbrev S512x128 : Shape := ⟨2, ![512, 128]⟩
abbrev S512x1 : Shape := ⟨2, ![512, 1]⟩
abbrev S512x256 : Shape := ⟨2, ![512, 256]⟩
abbrev S1x1x512x256 : Shape := ⟨4, ![1, 1, 512, 256]⟩
abbrev S512 : Shape := ⟨1, ![512]⟩
abbrev S768 : Shape := ⟨1, ![768]⟩
abbrev S1x1x1024x256 : Shape := ⟨4, ![1, 1, 1024, 256]⟩
abbrev S1024 : Shape := ⟨1, ![1024]⟩

abbrev nBuf : Space → Nat
  | .hbm => 4
  | .vmem => 12
  | .smem => 0
  | _ => 0

abbrev bufTy : (tb : Table) → Fin (tcTables nBuf tb) → BufTy
  | .hbm, ⟨0, _⟩ => ⟨S2048x8192, .bf16⟩
  | .hbm, ⟨1, _⟩ => ⟨S2048x1024, .f32⟩
  | .hbm, ⟨2, _⟩ => ⟨S8x8x2048x256, .bf16⟩
  | .hbm, ⟨3, _⟩ => ⟨S8x8x2048x256, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S1x8x1024x256, .bf16⟩
  | .local _ .vmem, ⟨9, _⟩ => ⟨S1x8x1024x256, .bf16⟩
  | .local _ .vmem, ⟨10, _⟩ => ⟨S1x8x1024x256, .bf16⟩
  | .local _ .vmem, ⟨11, _⟩ => ⟨S1x8x1024x256, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c4_i32 : BitVec 32 := 4#32
  let v23 : BitVec 32 := Scalar.muli arg1 c4_i32
  let c3_i32 : BitVec 32 := 3#32
  let v24 : BitVec 32 := Scalar.addi v23 c3_i32
  let c256_i32_2 : BitVec 32 := 256#32
  let v25 : BitVec 32 := Scalar.muli v24 c256_i32_2
  v25
def k0_off1 (i : grid0.Coords) (c3_i32 : BitVec 32) : Fin 2 → Nat :=
  let arg1 : BitVec 32 := BitVec.ofNat 32 (i 1).val
  let c4_i32 : BitVec 32 := 4#32
  let v23 : BitVec 32 := Scalar.muli arg1 c4_i32
  let v24 : BitVec 32 := Scalar.addi v23 c3_i32
  let c256_i32_2 : BitVec 32 := 256#32
  let v25 : BitVec 32 := Scalar.muli v24 c256_i32_2
  let v26 : BitVec 32 := v25
  let v27 : Index := Scalar.indexCast v26
  let c0_3 : Index := 0#32
  ![v27.toNat, 0]
def k0_off2 (i : grid0.Coords) : Fin 4 → Nat :=
  let c0_13 : Index := 0#32
  let arg1 : BitVec 32 := BitVec.ofNat 32 (i 1).val
  let c4_i32 : BitVec 32 := 4#32
  let v23 : BitVec 32 := Scalar.muli arg1 c4_i32
  let c3_i32 : BitVec 32 := 3#32
  let v24 : BitVec 32 := Scalar.addi v23 c3_i32
  let v59 : Index := Scalar.indexCast v24
  let c768 : Index := 768#32
  let c0_14 : Index := 0#32
  ![0, v59.toNat, 768, 0]
def k0_off3 (i : grid0.Coords) : Fin 4 → Nat :=
  let c0_19 : Index := 0#32
  let arg1 : BitVec 32 := BitVec.ofNat 32 (i 1).val
  let c4_i32 : BitVec 32 := 4#32
  let v23 : BitVec 32 := Scalar.muli arg1 c4_i32
  let c3_i32 : BitVec 32 := 3#32
  let v24 : BitVec 32 := Scalar.addi v23 c3_i32
  let v70 : Index := Scalar.indexCast v24
  let c0_20 : Index := 0#32
  let c0_21 : Index := 0#32
  ![0, v70.toNat, 0, 0]
def k0_mult2 (i : grid0.Coords) : BitVec 32 :=
  let arg1 : BitVec 32 := BitVec.ofNat 32 (i 1).val
  let c4_i32_28 : BitVec 32 := 4#32
  let v91 : BitVec 32 := Scalar.muli arg1 c4_i32_28
  let c2_i32 : BitVec 32 := 2#32
  let v92 : BitVec 32 := Scalar.addi v91 c2_i32
  let c256_i32_29 : BitVec 32 := 256#32
  let v93 : BitVec 32 := Scalar.muli v92 c256_i32_29
  v93
def k0_off4 (i : grid0.Coords) : Fin 4 → Nat :=
  let c0_40 : Index := 0#32
  let arg1 : BitVec 32 := BitVec.ofNat 32 (i 1).val
  let c4_i32_28 : BitVec 32 := 4#32
  let v91 : BitVec 32 := Scalar.muli arg1 c4_i32_28
  let c2_i32 : BitVec 32 := 2#32
  let v92 : BitVec 32 := Scalar.addi v91 c2_i32
  let v127 : Index := Scalar.indexCast v92
  let c512 : Index := 512#32
  let c0_41 : Index := 0#32
  ![0, v127.toNat, 512, 0]
def k0_off5 (i : grid0.Coords) : Fin 4 → Nat :=
  let c0_46 : Index := 0#32
  let arg1 : BitVec 32 := BitVec.ofNat 32 (i 1).val
  let c4_i32_28 : BitVec 32 := 4#32
  let v91 : BitVec 32 := Scalar.muli arg1 c4_i32_28
  let c2_i32 : BitVec 32 := 2#32
  let v92 : BitVec 32 := Scalar.addi v91 c2_i32
  let v138 : Index := Scalar.indexCast v92
  let c0_47 : Index := 0#32
  let c0_48 : Index := 0#32
  ![0, v138.toNat, 0, 0]
def k0_mult3 (i : grid0.Coords) : BitVec 32 :=
  let arg1 : BitVec 32 := BitVec.ofNat 32 (i 1).val
  let c4_i32_55 : BitVec 32 := 4#32
  let v159 : BitVec 32 := Scalar.muli arg1 c4_i32_55
  let c1_i32 : BitVec 32 := 1#32
  let v160 : BitVec 32 := Scalar.addi v159 c1_i32
  let c256_i32_56 : BitVec 32 := 256#32
  let v161 : BitVec 32 := Scalar.muli v160 c256_i32_56
  v161
def k0_off6 (i : grid0.Coords) : Fin 4 → Nat :=
  let c0_67 : Index := 0#32
  let arg1 : BitVec 32 := BitVec.ofNat 32 (i 1).val
  let c4_i32_55 : BitVec 32 := 4#32
  let v159 : BitVec 32 := Scalar.muli arg1 c4_i32_55
  let c1_i32 : BitVec 32 := 1#32
  let v160 : BitVec 32 := Scalar.addi v159 c1_i32
  let v195 : Index := Scalar.indexCast v160
  let c256 : Index := 256#32
  let c0_68 : Index := 0#32
  ![0, v195.toNat, 256, 0]
def k0_off7 (i : grid0.Coords) : Fin 4 → Nat :=
  let c0_73 : Index := 0#32
  let arg1 : BitVec 32 := BitVec.ofNat 32 (i 1).val
  let c4_i32_55 : BitVec 32 := 4#32
  let v159 : BitVec 32 := Scalar.muli arg1 c4_i32_55
  let c1_i32 : BitVec 32 := 1#32
  let v160 : BitVec 32 := Scalar.addi v159 c1_i32
  let v206 : Index := Scalar.indexCast v160
  let c0_74 : Index := 0#32
  let c0_75 : Index := 0#32
  ![0, v206.toNat, 0, 0]
def k0_mult4 (i : grid0.Coords) : BitVec 32 :=
  let arg1 : BitVec 32 := BitVec.ofNat 32 (i 1).val
  let c4_i32_82 : BitVec 32 := 4#32
  let v227 : BitVec 32 := Scalar.muli arg1 c4_i32_82
  let c0_i32_83 : BitVec 32 := 0#32
  let v228 : BitVec 32 := Scalar.addi v227 c0_i32_83
  let c256_i32_84 : BitVec 32 := 256#32
  let v229 : BitVec 32 := Scalar.muli v228 c256_i32_84
  v229
def k0_off8 (i : grid0.Coords) : Fin 4 → Nat :=
  let c0_95 : Index := 0#32
  let arg1 : BitVec 32 := BitVec.ofNat 32 (i 1).val
  let c4_i32_82 : BitVec 32 := 4#32
  let v227 : BitVec 32 := Scalar.muli arg1 c4_i32_82
  let c0_i32_83 : BitVec 32 := 0#32
  let v228 : BitVec 32 := Scalar.addi v227 c0_i32_83
  let v260 : Index := Scalar.indexCast v228
  let c0_96 : Index := 0#32
  let c0_97 : Index := 0#32
  ![0, v260.toNat, 0, 0]
@[reducible] def k0_t1_loop (i : grid0.Coords) : Scf.Loop 32 :=
  let c0_i32_103 : BitVec 32 := 0#32
  let arg1 : BitVec 32 := BitVec.ofNat 32 (i 1).val
  let v276 : BitVec 32 := Scalar.subi arg1 c0_i32_103
  let c1_i32_104 : BitVec 32 := 1#32
  let v278 : BitVec 32 := Scalar.divsi v276 c1_i32_104
  let v279 : BitVec 32 := Scalar.muli v278 c1_i32_104
  let v280 : BitVec 32 := Scalar.addi c0_i32_103 v279
  let c1_i32_105 : BitVec 32 := 1#32
  ⟨c0_i32_103, v280, c1_i32_105⟩
def k0_mult5 (i : grid0.Coords) (k0_t1 : Fin (k0_t1_loop i).trips) : BitVec 32 :=
  let arg1 : BitVec 32 := BitVec.ofNat 32 (i 1).val
  let c1_i32_109 : BitVec 32 := 1#32
  let v284 : BitVec 32 := Scalar.subi arg1 c1_i32_109
  let c0_i32_103 : BitVec 32 := 0#32
  let c1_i32_105 : BitVec 32 := 1#32
  let arg8 : BitVec 32 := Scf.iv c0_i32_103 c1_i32_105 k0_t1
  let v285 : BitVec 32 := Scalar.subi v284 arg8
  let c4_i32_110 : BitVec 32 := 4#32
  let v286 : BitVec 32 := Scalar.muli v285 c4_i32_110
  let c3_i32_111 : BitVec 32 := 3#32
  let v287 : BitVec 32 := Scalar.addi v286 c3_i32_111
  let c256_i32_112 : BitVec 32 := 256#32
  let v288 : BitVec 32 := Scalar.muli v287 c256_i32_112
  v288
def k0_off9 (i : grid0.Coords) (k0_t1 : Fin (k0_t1_loop i).trips) (c3_i32_111 : BitVec 32) : Fin 2 → Nat :=
  let arg1 : BitVec 32 := BitVec.ofNat 32 (i 1).val
  let c1_i32_109 : BitVec 32 := 1#32
  let v284 : BitVec 32 := Scalar.subi arg1 c1_i32_109
  let c0_i32_103 : BitVec 32 := 0#32
  let c1_i32_105 : BitVec 32 := 1#32
  let arg8 : BitVec 32 := Scf.iv c0_i32_103 c1_i32_105 k0_t1
  let v285 : BitVec 32 := Scalar.subi v284 arg8
  let c4_i32_110 : BitVec 32 := 4#32
  let v286 : BitVec 32 := Scalar.muli v285 c4_i32_110
  let v287 : BitVec 32 := Scalar.addi v286 c3_i32_111
  let c256_i32_112 : BitVec 32 := 256#32
  let v288 : BitVec 32 := Scalar.muli v287 c256_i32_112
  let v289 : BitVec 32 := v288
  let v290 : Index := Scalar.indexCast v289
  let c0_113 : Index := 0#32
  ![v290.toNat, 0]
def k0_off10 (i : grid0.Coords) (k0_t1 : Fin (k0_t1_loop i).trips) (c3_i32_111 : BitVec 32) : Fin 4 → Nat :=
  let c0_121 : Index := 0#32
  let arg1 : BitVec 32 := BitVec.ofNat 32 (i 1).val
  let c1_i32_109 : BitVec 32 := 1#32
  let v284 : BitVec 32 := Scalar.subi arg1 c1_i32_109
  let c0_i32_103 : BitVec 32 := 0#32
  let c1_i32_105 : BitVec 32 := 1#32
  let arg8 : BitVec 32 := Scf.iv c0_i32_103 c1_i32_105 k0_t1
  let v285 : BitVec 32 := Scalar.subi v284 arg8
  let c4_i32_110 : BitVec 32 := 4#32
  let v286 : BitVec 32 := Scalar.muli v285 c4_i32_110
  let v287 : BitVec 32 := Scalar.addi v286 c3_i32_111
  let v315 : Index := Scalar.indexCast v287
  let c0_122 : Index := 0#32
  let c0_123 : Index := 0#32
  ![0, v315.toNat, 0, 0]
def k0_mult6 (i : grid0.Coords) (k0_t1 : Fin (k0_t1_loop i).trips) : BitVec 32 :=
  let arg1 : BitVec 32 := BitVec.ofNat 32 (i 1).val
  let c1_i32_129 : BitVec 32 := 1#32
  let v331 : BitVec 32 := Scalar.subi arg1 c1_i32_129
  let c0_i32_103 : BitVec 32 := 0#32
  let c1_i32_105 : BitVec 32 := 1#32
  let arg8 : BitVec 32 := Scf.iv c0_i32_103 c1_i32_105 k0_t1
  let v332 : BitVec 32 := Scalar.subi v331 arg8
  let c4_i32_130 : BitVec 32 := 4#32
  let v333 : BitVec 32 := Scalar.muli v332 c4_i32_130
  let c2_i32_131 : BitVec 32 := 2#32
  let v334 : BitVec 32 := Scalar.addi v333 c2_i32_131
  let c256_i32_132 : BitVec 32 := 256#32
  let v335 : BitVec 32 := Scalar.muli v334 c256_i32_132
  v335
def k0_mult7 (i : grid0.Coords) (k0_t1 : Fin (k0_t1_loop i).trips) : BitVec 32 :=
  let arg1 : BitVec 32 := BitVec.ofNat 32 (i 1).val
  let c1_i32_149 : BitVec 32 := 1#32
  let v378 : BitVec 32 := Scalar.subi arg1 c1_i32_149
  let c0_i32_103 : BitVec 32 := 0#32
  let c1_i32_105 : BitVec 32 := 1#32
  let arg8 : BitVec 32 := Scf.iv c0_i32_103 c1_i32_105 k0_t1
  let v379 : BitVec 32 := Scalar.subi v378 arg8
  let c4_i32_150 : BitVec 32 := 4#32
  let v380 : BitVec 32 := Scalar.muli v379 c4_i32_150
  let c1_i32_151 : BitVec 32 := 1#32
  let v381 : BitVec 32 := Scalar.addi v380 c1_i32_151
  let c256_i32_152 : BitVec 32 := 256#32
  let v382 : BitVec 32 := Scalar.muli v381 c256_i32_152
  v382
def k0_mult8 (i : grid0.Coords) (k0_t1 : Fin (k0_t1_loop i).trips) : BitVec 32 :=
  let arg1 : BitVec 32 := BitVec.ofNat 32 (i 1).val
  let c1_i32_169 : BitVec 32 := 1#32
  let v425 : BitVec 32 := Scalar.subi arg1 c1_i32_169
  let c0_i32_103 : BitVec 32 := 0#32
  let c1_i32_105 : BitVec 32 := 1#32
  let arg8 : BitVec 32 := Scf.iv c0_i32_103 c1_i32_105 k0_t1
  let v426 : BitVec 32 := Scalar.subi v425 arg8
  let c4_i32_170 : BitVec 32 := 4#32
  let v427 : BitVec 32 := Scalar.muli v426 c4_i32_170
  let c0_i32_171 : BitVec 32 := 0#32
  let v428 : BitVec 32 := Scalar.addi v427 c0_i32_171
  let c256_i32_172 : BitVec 32 := 256#32
  let v429 : BitVec 32 := Scalar.muli v428 c256_i32_172
  v429
@[reducible] def k0_t2_loop (i : grid0.Coords) : Scf.Loop 32 :=
  let c0_i32_103 : BitVec 32 := 0#32
  let arg1 : BitVec 32 := BitVec.ofNat 32 (i 1).val
  let v276 : BitVec 32 := Scalar.subi arg1 c0_i32_103
  let c1_i32_104 : BitVec 32 := 1#32
  let v278 : BitVec 32 := Scalar.divsi v276 c1_i32_104
  let v279 : BitVec 32 := Scalar.muli v278 c1_i32_104
  let v280 : BitVec 32 := Scalar.addi c0_i32_103 v279
  let v277 : BitVec 32 := Scalar.addi c0_i32_103 v276
  let c1_i32_106 : BitVec 32 := 1#32
  ⟨v280, v277, c1_i32_106⟩
def k0_mult9 (i : grid0.Coords) (k0_t2 : Fin (k0_t2_loop i).trips) : BitVec 32 :=
  let arg1 : BitVec 32 := BitVec.ofNat 32 (i 1).val
  let c1_i32_109 : BitVec 32 := 1#32
  let v284 : BitVec 32 := Scalar.subi arg1 c1_i32_109
  let c0_i32_103 : BitVec 32 := 0#32
  let v276 : BitVec 32 := Scalar.subi arg1 c0_i32_103
  let c1_i32_104 : BitVec 32 := 1#32
  let v278 : BitVec 32 := Scalar.divsi v276 c1_i32_104
  let v279 : BitVec 32 := Scalar.muli v278 c1_i32_104
  let v280 : BitVec 32 := Scalar.addi c0_i32_103 v279
  let c1_i32_106 : BitVec 32 := 1#32
  let arg8 : BitVec 32 := Scf.iv v280 c1_i32_106 k0_t2
  let v285 : BitVec 32 := Scalar.subi v284 arg8
  let c4_i32_110 : BitVec 32 := 4#32
  let v286 : BitVec 32 := Scalar.muli v285 c4_i32_110
  let c3_i32_111 : BitVec 32 := 3#32
  let v287 : BitVec 32 := Scalar.addi v286 c3_i32_111
  let c256_i32_112 : BitVec 32 := 256#32
  let v288 : BitVec 32 := Scalar.muli v287 c256_i32_112
  v288
def k0_off11 (i : grid0.Coords) (k0_t2 : Fin (k0_t2_loop i).trips) (c3_i32_111 : BitVec 32) : Fin 2 → Nat :=
  let arg1 : BitVec 32 := BitVec.ofNat 32 (i 1).val
  let c1_i32_109 : BitVec 32 := 1#32
  let v284 : BitVec 32 := Scalar.subi arg1 c1_i32_109
  let c0_i32_103 : BitVec 32 := 0#32
  let v276 : BitVec 32 := Scalar.subi arg1 c0_i32_103
  let c1_i32_104 : BitVec 32 := 1#32
  let v278 : BitVec 32 := Scalar.divsi v276 c1_i32_104
  let v279 : BitVec 32 := Scalar.muli v278 c1_i32_104
  let v280 : BitVec 32 := Scalar.addi c0_i32_103 v279
  let c1_i32_106 : BitVec 32 := 1#32
  let arg8 : BitVec 32 := Scf.iv v280 c1_i32_106 k0_t2
  let v285 : BitVec 32 := Scalar.subi v284 arg8
  let c4_i32_110 : BitVec 32 := 4#32
  let v286 : BitVec 32 := Scalar.muli v285 c4_i32_110
  let v287 : BitVec 32 := Scalar.addi v286 c3_i32_111
  let c256_i32_112 : BitVec 32 := 256#32
  let v288 : BitVec 32 := Scalar.muli v287 c256_i32_112
  let v289 : BitVec 32 := v288
  let v290 : Index := Scalar.indexCast v289
  let c0_113 : Index := 0#32
  ![v290.toNat, 0]
def k0_off12 (i : grid0.Coords) (k0_t2 : Fin (k0_t2_loop i).trips) (c3_i32_111 : BitVec 32) : Fin 4 → Nat :=
  let c0_121 : Index := 0#32
  let arg1 : BitVec 32 := BitVec.ofNat 32 (i 1).val
  let c1_i32_109 : BitVec 32 := 1#32
  let v284 : BitVec 32 := Scalar.subi arg1 c1_i32_109
  let c0_i32_103 : BitVec 32 := 0#32
  let v276 : BitVec 32 := Scalar.subi arg1 c0_i32_103
  let c1_i32_104 : BitVec 32 := 1#32
  let v278 : BitVec 32 := Scalar.divsi v276 c1_i32_104
  let v279 : BitVec 32 := Scalar.muli v278 c1_i32_104
  let v280 : BitVec 32 := Scalar.addi c0_i32_103 v279
  let c1_i32_106 : BitVec 32 := 1#32
  let arg8 : BitVec 32 := Scf.iv v280 c1_i32_106 k0_t2
  let v285 : BitVec 32 := Scalar.subi v284 arg8
  let c4_i32_110 : BitVec 32 := 4#32
  let v286 : BitVec 32 := Scalar.muli v285 c4_i32_110
  let v287 : BitVec 32 := Scalar.addi v286 c3_i32_111
  let v315 : Index := Scalar.indexCast v287
  let c0_122 : Index := 0#32
  let c0_123 : Index := 0#32
  ![0, v315.toNat, 0, 0]
def k0_mult10 (i : grid0.Coords) (k0_t2 : Fin (k0_t2_loop i).trips) : BitVec 32 :=
  let arg1 : BitVec 32 := BitVec.ofNat 32 (i 1).val
  let c1_i32_129 : BitVec 32 := 1#32
  let v331 : BitVec 32 := Scalar.subi arg1 c1_i32_129
  let c0_i32_103 : BitVec 32 := 0#32
  let v276 : BitVec 32 := Scalar.subi arg1 c0_i32_103
  let c1_i32_104 : BitVec 32 := 1#32
  let v278 : BitVec 32 := Scalar.divsi v276 c1_i32_104
  let v279 : BitVec 32 := Scalar.muli v278 c1_i32_104
  let v280 : BitVec 32 := Scalar.addi c0_i32_103 v279
  let c1_i32_106 : BitVec 32 := 1#32
  let arg8 : BitVec 32 := Scf.iv v280 c1_i32_106 k0_t2
  let v332 : BitVec 32 := Scalar.subi v331 arg8
  let c4_i32_130 : BitVec 32 := 4#32
  let v333 : BitVec 32 := Scalar.muli v332 c4_i32_130
  let c2_i32_131 : BitVec 32 := 2#32
  let v334 : BitVec 32 := Scalar.addi v333 c2_i32_131
  let c256_i32_132 : BitVec 32 := 256#32
  let v335 : BitVec 32 := Scalar.muli v334 c256_i32_132
  v335
def k0_mult11 (i : grid0.Coords) (k0_t2 : Fin (k0_t2_loop i).trips) : BitVec 32 :=
  let arg1 : BitVec 32 := BitVec.ofNat 32 (i 1).val
  let c1_i32_149 : BitVec 32 := 1#32
  let v378 : BitVec 32 := Scalar.subi arg1 c1_i32_149
  let c0_i32_103 : BitVec 32 := 0#32
  let v276 : BitVec 32 := Scalar.subi arg1 c0_i32_103
  let c1_i32_104 : BitVec 32 := 1#32
  let v278 : BitVec 32 := Scalar.divsi v276 c1_i32_104
  let v279 : BitVec 32 := Scalar.muli v278 c1_i32_104
  let v280 : BitVec 32 := Scalar.addi c0_i32_103 v279
  let c1_i32_106 : BitVec 32 := 1#32
  let arg8 : BitVec 32 := Scf.iv v280 c1_i32_106 k0_t2
  let v379 : BitVec 32 := Scalar.subi v378 arg8
  let c4_i32_150 : BitVec 32 := 4#32
  let v380 : BitVec 32 := Scalar.muli v379 c4_i32_150
  let c1_i32_151 : BitVec 32 := 1#32
  let v381 : BitVec 32 := Scalar.addi v380 c1_i32_151
  let c256_i32_152 : BitVec 32 := 256#32
  let v382 : BitVec 32 := Scalar.muli v381 c256_i32_152
  v382
def k0_mult12 (i : grid0.Coords) (k0_t2 : Fin (k0_t2_loop i).trips) : BitVec 32 :=
  let arg1 : BitVec 32 := BitVec.ofNat 32 (i 1).val
  let c1_i32_169 : BitVec 32 := 1#32
  let v425 : BitVec 32 := Scalar.subi arg1 c1_i32_169
  let c0_i32_103 : BitVec 32 := 0#32
  let v276 : BitVec 32 := Scalar.subi arg1 c0_i32_103
  let c1_i32_104 : BitVec 32 := 1#32
  let v278 : BitVec 32 := Scalar.divsi v276 c1_i32_104
  let v279 : BitVec 32 := Scalar.muli v278 c1_i32_104
  let v280 : BitVec 32 := Scalar.addi c0_i32_103 v279
  let c1_i32_106 : BitVec 32 := 1#32
  let arg8 : BitVec 32 := Scf.iv v280 c1_i32_106 k0_t2
  let v426 : BitVec 32 := Scalar.subi v425 arg8
  let c4_i32_170 : BitVec 32 := 4#32
  let v427 : BitVec 32 := Scalar.muli v426 c4_i32_170
  let c0_i32_171 : BitVec 32 := 0#32
  let v428 : BitVec 32 := Scalar.addi v427 c0_i32_171
  let c256_i32_172 : BitVec 32 := 256#32
  let v429 : BitVec 32 := Scalar.muli v428 c256_i32_172
  v429
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbFwdRefIdeal.lean ====
abbrev S2048x8192 : Shape := ⟨2, ![2048, 8192]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 76
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x1024, .bf16⟩
  | .hbm, ⟨2, _⟩ => ⟨S2048x1024, .f32⟩
  | .hbm, ⟨3, _⟩ => ⟨S2048x8x128, .f32⟩
  | .hbm, ⟨4, _⟩ => ⟨S8x2048x128, .f32⟩
  | .hbm, ⟨5, _⟩ => ⟨S2048x1024, .bf16⟩
  | .hbm, ⟨6, _⟩ => ⟨S2048x1024, .f32⟩
  | .hbm, ⟨7, _⟩ => ⟨S2048x8x128, .f32⟩
  | .hbm, ⟨8, _⟩ => ⟨S8x2048x128, .f32⟩
  | .hbm, ⟨9, _⟩ => ⟨S2048x1024, .bf16⟩
  | .hbm, ⟨10, _⟩ => ⟨S2048x1024, .f32⟩
  | .hbm, ⟨11, _⟩ => ⟨S2048x8x128, .f32⟩
  | .hbm, ⟨12, _⟩ => ⟨S8x2048x128, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .i1⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S_, .f32⟩
  | .hbm, ⟨43, _⟩ => ⟨S8x2048x2048, .i1⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S_, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .i1⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S_, .f32⟩
  | .hbm, ⟨70, _⟩ => ⟨S8x2048x2048, .i1⟩
  | .hbm, ⟨71, _⟩ => ⟨S8x2048x2048, .f32⟩
  | .hbm, ⟨72, _⟩ => ⟨S8x2048x2048, .f32⟩
  | .hbm, ⟨73, _⟩ => ⟨S8x2048x128, .f32⟩
  | .hbm, ⟨74, _⟩ => ⟨S2048x8x128, .f32⟩
  | .hbm, ⟨75, _⟩ => ⟨S2048x1024, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v23 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_call2_cst : Ref sig .tc := ⟨.hbm, 46, rfl⟩
abbrev main_call2_v0 : Ref sig .tc := ⟨.hbm, 47, rfl⟩
abbrev main_v25 : Ref sig .tc := ⟨.hbm, 48, rfl⟩
abbrev main_v26 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== NormFwd.lean ====
abbrev S2048x1024 : Shape := ⟨2, ![2048, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemFwd.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemFwdRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== XattnFwd.lean ====
abbrev S2048x1024 : Shape := ⟨2, ![2048, 1024]⟩
abbrev S256x2048 : Shape := ⟨2, ![256, 2048]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XattnFwdRefIdeal.lean ====
abbrev S2048x1024 : Shape := ⟨2, ![2048, 1024]⟩
abbrev S256x2048 : Shape := ⟨2, ![256, 2048]⟩
abbrev S2048x4x256 : Shape := ⟨3, ![2048, 4, 256]⟩
abbrev S256x1024 : Shape := ⟨2, ![256, 1024]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S256x2048, .f32⟩
  | .hbm, ⟨4, _⟩ => ⟨S2048x4x256, .f32⟩
  | .hbm, ⟨5, _⟩ => ⟨S256x1024, .f32⟩
  | .hbm, ⟨6, _⟩ => ⟨S256x1024, .f32⟩
  | .hbm, ⟨7, _⟩ => ⟨S256x4x256, .f32⟩
  | .hbm, ⟨8, _⟩ => ⟨S256x4x256, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S4x256x2048, .f32⟩
  | .hbm, ⟨28, _⟩ => ⟨S2048x4x256, .f32⟩
  | .hbm, ⟨29, _⟩ => ⟨S2048x1024, .f32⟩
  | .hbm, ⟨30, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== ConvFwd.lean ====
abbrev S2048x8192 : Shape := ⟨2, ![2048, 8192]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x8192, .bf16⟩
  | .hbm, ⟨1, _⟩ => ⟨S3x1024, .f32⟩
  | .hbm, ⟨2, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S2048x8192 : Shape := ⟨2, ![2048, 8192]⟩
abbrev S3x1024 : Shape := ⟨2, ![3, 1024]⟩
abbrev S2048x3072 : Shape := ⟨2, ![2048, 3072]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S3x1024, .f32⟩
  | .hbm, ⟨2, _⟩ => ⟨S2048x3072, .bf16⟩
  | .hbm, ⟨3, _⟩ => ⟨S2048x3072, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2x1024, .f32⟩
  | .hbm, ⟨10, _⟩ => ⟨S2050x1024, .f32⟩
  | .hbm, ⟨11, _⟩ => ⟨S2048x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== FfnUp.lean ====
abbrev S2048x1024 : Shape := ⟨2, ![2048, 1024]⟩
abbrev S1024x5632 : Shape := ⟨2, ![1024, 5632]⟩
abbrev S2x2048x2816 : Shape := ⟨3, ![2, 2048, 2816]⟩
abbrev S2048x2816 : Shape := ⟨2, ![2048, 2816]⟩
abbrev S1024x1024 : Shape := ⟨2, ![1024, 1024]⟩
abbrev S1024x1408 : Shape := ⟨2, ![1024, 1408]⟩
abbrev S2x1024x1408 : Shape := ⟨3, ![2, 1024, 1408]⟩
abbrev S1x1024x1408 : Shape := ⟨3, ![1, 1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2x2048x2816, .bf16⟩
  | .hbm, ⟨3, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S1x2048x2816, .f32⟩
  | .hbm, ⟨8, _⟩ => ⟨S1x2048x2816, .f32⟩
  | .hbm, ⟨9, _⟩ => ⟨S2x2048x2816, .f32⟩
  | .hbm, ⟨10, _⟩ => ⟨S2x2048x2816, .bf16⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== MixMerge.lean ====
abbrev S2048x1024 : Shape := ⟨2, ![2048, 1024]⟩
abbrev S1024x1024 : Shape := ⟨2, ![1024, 1024]⟩
abbrev S2048x8192 : Shape := ⟨2, ![2048, 8192]⟩
abbrev S2048 : Shape := ⟨1, ![2048]⟩
abbrev S1x2048 : Shape := ⟨2, ![1, 2048]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 12
  | .vmem => 22
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .hbm, ⟨3, _⟩ => ⟨S1024x1024, .bf16⟩
  | .hbm, ⟨4, _⟩ => ⟨S2048x8192, .bf16⟩
  | .hbm, ⟨5, _⟩ => ⟨S2048, .f32⟩
  | .hbm, ⟨6, _⟩ => ⟨S1x2048, .f32⟩
  | .hbm, ⟨7, _⟩ => ⟨S1x1024, .f32⟩
  | .hbm, ⟨8, _⟩ => ⟨S1x1024, .f32⟩
  | .hbm, ⟨9, _⟩ => ⟨S2048x1024, .bf16⟩
  | .hbm, ⟨10, _⟩ => ⟨S2048x1024, .bf16⟩
  | .hbm, ⟨11, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixMergeRefIdeal.lean ====
abbrev S2048x1024 : Shape := ⟨2, ![2048, 1024]⟩
abbrev S1024x1024 : Shape := ⟨2, ![1024, 1024]⟩
abbrev S2048x8192 : Shape := ⟨2, ![2048, 8192]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .hbm, ⟨3, _⟩ => ⟨S1024x1024, .bf16⟩
  | .hbm, ⟨4, _⟩ => ⟨S2048x8192, .bf16⟩
  | .hbm, ⟨5, _⟩ => ⟨S2048, .f32⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x2048, .bf16⟩
  | .hbm, ⟨12, _⟩ => ⟨S2048x2048, .f32⟩
  | .hbm, ⟨13, _⟩ => ⟨S1x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x1024, .f32⟩
  | .hbm, ⟨25, _⟩ => ⟨S2048x1024, .f32⟩
  | .hbm, ⟨26, _⟩ => ⟨S2048x1024, .bf16⟩
  | .hbm, ⟨27, _⟩ => ⟨S2048x1024, .bf16⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== MixOut.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixOutRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FfnDown.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDownRefIdeal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.MemNorm.lean ====
/- The gradient of the memory norm's gain: the kernel's one block is the reference's row of column sums. -/
module

public import proofs.«01_k».proof.Defs
public import proofs.«01_k».proof.Proof.Gen.MemNormIdeal.Value
public import proofs.«01_k».proof.Proof.Gen.MemNormRefIdeal.Read
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MemNormIdeal.Claims

open Cert.MemNormIdeal Cert.MemNormIdeal.Gen

variable (m : (ℓ : Loc nD τ sig) → Buf (Elt Ideal) ℓ)

theorem hz : (![0, 0] : Fin 2 → Nat) = fun _ => 0 := funext fun a => by fin_cases a <;> rfl

/-- The body leaves its first payload. -/
theorem out_A (c : Dev nD) (i : grid0.Coords) (a1 : Memref sig .tc .vmem S256x1024 .f32) (h1 : a1.IsWhole)
    (a2 : Memref sig .tc .vmem S256x1024 .f32) (h2 : a2.IsWhole) (a3 : Memref sig .tc .vmem S1x1024 .f32) (h3 : a3.IsWhole)
    (hc : cond0_0 i) (hc' : ¬cond0_1 i) (x0 x1 : Vec Ideal S256x1024 .f32) :
    out0_A_2 c i a1 h1 a2 h2 a3 h3 hc hc' x0 x1 = k0_pay1 x0 x1 := by
  unfold out0_A_2
  rw [View.read_writes_eq_canon _ _ _ (cover0_A_2 c i a1 h1 a2 h2 a3 h3 hc hc' x0 x1)]
  unfold kernelRun0_A
  dsimp only
  rw [View.canon_unit_zero hz]
  simp only [View.readAt_eq_ld, h1.read_unread, h2.read_unread, View.ld_unit_zero (S := S256x1024) hz]

/-- The first payload is the reference's result of the same two arrays. -/
theorem pay_eq (x0 x1 : Vec Ideal S256x1024 .f32) :
    k0_pay1 x0 x1 = MemNormRefIdeal.Read.val_main_v17 (F := Ideal) x0 x1 := by
  funext j
  idx_vars j
  pointwise [k0_pay1, MemNormRefIdeal.Read.val_main_v17, MemNormRefIdeal.Read.val_main_v16, MemNormRefIdeal.Read.val_main_v15,
    MemNormRefIdeal.Read.val_main_v14, MemNormRefIdeal.Read.val_main_v13, MemNormRefIdeal.Read.val_main_v9, MemNormRefIdeal.Read.val_main_v8,
    MemNormRefIdeal.Read.val_main_v7, MemNormRefIdeal.Read.val_main_v6, MemNormRefIdeal.Read.val_main_v5, MemNormRefIdeal.Read.val_main_v4,
    MemNormRefIdeal.Read.val_main_v3, MemNormRefIdeal.Read.val_main_v2, MemNormRefIdeal.Read.val_main_v1, MemNormRefIdeal.Read.val_main_v0,
    MemNormRefIdeal.Read.val_main_cst, MemNormRefIdeal.Read.val_main_cst_0, MemNormRefIdeal.Read.val_main_cst_1, MemNormRefIdeal.Read.val_main_cst_2, MemNormRefIdeal.Read.val_main_cst_3]
  rw [Fin.sum_univ_one]
  exact Finset.sum_congr rfl fun _ _ => mul_comm _ _

/-- What the result array ends holding: the reference's value of the arguments. -/
abbrev result (c : Dev nD) : Buf (Elt Ideal) ((c : Thread nD τ).loc main_v0) :=
  MemNormRefIdeal.Read.val_main_v17 (F := Ideal) (m ((c : Thread nD τ).loc main_arg0)) (m ((c : Thread nD τ).loc main_arg1))

/-- The one block of either input is its whole array. -/
theorem iblk_eq (c : Dev nD) (t : Fin cfg0.N) :
    iblk m c 0 t = m ((c : Thread nD τ).loc main_arg0) ∧ iblk m c 1 t = m ((c : Thread nD τ).loc main_arg1) := by
  rcases fin_N0 t with rfl
  refine ⟨?_, ?_⟩
  · unfold iblk
    rw [show V m c (Pipeline.arrRef spec0 0) = m ((c : Thread nD τ).loc main_arg0) from V_main_arg0 m c]
    exact Memref.read_access_unit_zero (Elt Ideal) main_arg0 (funext fun a => by fin_cases a <;> decide) _ _
  · unfold iblk
    rw [show V m c (Pipeline.arrRef spec0 1) = m ((c : Thread nD τ).loc main_arg1) from V_main_arg1 m c]
    exact Memref.read_access_unit_zero (Elt Ideal) main_arg1 (funext fun a => by fin_cases a <;> decide) _ _

/-- The one write-back writes it. -/
theorem flushed_eq (c : Dev nD) (t : Fin cfg0.N) (_ : (cfg0.win 2).flush t = true) :
    (dats m 0 c).flushed 2 t = ((cfg0.win 2).blk t).view.read (Elt Ideal) (result m c) := by
  rw [Value.flushed2_A, out_A, (iblk_eq m c t).1, (iblk_eq m c t).2, pay_eq]
  rcases fin_N0 t with rfl
  exact (Memref.read_access_unit_zero (Elt Ideal) main_v0 (funext fun a => by fin_cases a <;> decide) _ (result m c)).symm

theorem final (c : Dev nD) : (dats m 0 c).arrAt 2 cfg0.N = result m c :=
  (dats m 0 c).arrAt_eq_of_cover 2 (result m c) (flushed_eq m c) fun i =>
    ⟨t0_0, flush0_2 t0_0, by
      show i ∈ ((View.whole main_v0).slice (win0_2.rect t0_0)).set
      rw [View.set_slice_whole, Rect.mem_set_unit]
      intro a
      have h0 : (i 0 : Nat) < 1 := (i 0).isLt
      have h1 : (i 1 : Nat) < 1024 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 1 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 1024 from by decide +kernel]; omega⟩

theorem algebraic : Cert.algebraic_MemNormIdeal_MemNormRefIdeal := by
  intro m g m' g' _ hag
  refine ⟨fun c => result m c, ?_, ?_⟩
  · exact (θ_run defs _ _).mono (fun r h c => ⟨(h c).1.trans (final m c), (h c).2⟩) (Value.run_blocks m g)
  · refine (θ_run MemNormRefIdeal.defs _ _).mono (fun r h c => ⟨(h c).1.trans ?_, (h c).2⟩) (MemNormRefIdeal.Value.run (F := Ideal) m' g')
    rw [MemNormRefIdeal.Read.val_main_v17_eq, (hag c).1, (hag c).2.1]

end Cert.MemNormIdeal.Claims
-- ==== Proof.Finite.lean ====
/- What a precondition "every entry is finite" says on extended reals: no entry is an infinity, so each is a real number. -/
module

public import Idealize.ShloMosaic.Lib.Pointwise
public import Idealize.ShloMosaic.Lib.Tactic

@[expose] public section

noncomputable section

namespace Cert.Finite

open Idealize.ShloMosaic

/-- One entry: `|x| < +∞` holds of real numbers only. -/
theorem of_lt (x : EReal) (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  unfold Ideal.cmp at h
  constructor
  · rintro rfl; simp at h
  · rintro rfl; simp at h

/-- An array of real numbers: its entries are the images of their real parts. -/
theorem coe_toReal {x : EReal} (h : x ≠ ⊤ ∧ x ≠ ⊥) : x = ((x.toReal : ℝ) : EReal) := (EReal.coe_toReal h.1 h.2).symm

theorem of_pre {s : Shape} (x : s.Idx → EReal) (hb : (⟨0, ![]⟩ : Shape).BroadcastsInDim s (![] : Fin 0 → Fin s.rank))
    (h : cmpf (F := Ideal) (φ := .f32) .olt (Host.absf x) (broadcastInDim s ![] hb (constant (F := Ideal) ⟨0, ![]⟩ .f32 0x7F800000#32)) = fun _ => 1#1) (i : s.Idx) :
    x i ≠ ⊤ ∧ x i ≠ ⊥ := of_lt (x i) (congrFun h i)

end Cert.Finite

end
-- ==== Proof.Reals.lean ====
/- Sums, gates and sums of products of real numbers, written on extended reals. -/
module

public import Idealize.ShloMosaic.Lib.Pointwise
public import Idealize.ShloMosaic.Lib.Tactic

@[expose] public section

noncomputable section

namespace Cert.Reals

open Idealize.ShloMosaic

theorem sum_real {ι : Type} (s : Finset ι) (f : ι → ℝ) : ∑ i ∈ s, (f i : EReal) = ((∑ i ∈ s, f i : ℝ) : EReal) := by
  classical
  refine Finset.induction_on s (by simp) fun i s h ih => ?_
  rw [Finset.sum_insert h, Finset.sum_insert h, EReal.coe_add, ih]

/-- A sum of products of real numbers is a real number. -/
theorem dot_real {ι : Type} [Fintype ι] (x y : ι → EReal) (hx : ∀ i, x i ≠ ⊤ ∧ x i ≠ ⊥) (hy : ∀ i, y i ≠ ⊤ ∧ y i ≠ ⊥) :
    ∃ d : ℝ, ∑ i, x i * y i = (d : EReal) := by
  refine ⟨∑ i, (x i).toReal * (y i).toReal, ?_⟩
  rw [← sum_real]
  refine Finset.sum_congr rfl fun i _ => ?_
  rw [EReal.coe_mul, EReal.coe_toReal (hx i).1 (hx i).2, EReal.coe_toReal (hy i).1 (hy i).2]

theorem real {x : EReal} (h : x ≠ ⊤ ∧ x ≠ ⊥) : ∃ r : ℝ, x = (r : EReal) := ⟨x.toReal, (EReal.coe_toReal h.1 h.2).symm⟩

/-- The gate `1 / (1 + exp (-r))`. -/
theorem gate_real (r : ℝ) : Ideal.div 1 (1 + Ideal.exp (-(r : EReal))) = ((1 / (1 + Real.exp (-r)) : ℝ) : EReal) := by
  rw [← EReal.coe_neg, Ideal.exp_coe, ← EReal.coe_one, ← EReal.coe_add, Ideal.div_coe (by have := Real.exp_pos (-r); positivity),
    ← EReal.coe_mul, one_mul]

/-- A real factor that is not negative goes into a sum of extended reals. -/
theorem mul_sum {n : ℕ} (c : ℝ) (hc : 0 ≤ c) (f : Fin n → EReal) : (c : EReal) * ∑ k, f k = ∑ k, (c : EReal) * f k := by
  induction (Finset.univ : Finset (Fin n)) using Finset.induction_on with
  | empty => simp
  | insert a s ha ih => rw [Finset.sum_insert ha, Finset.sum_insert ha, EReal.left_distrib_of_nonneg_of_ne_top (EReal.coe_nonneg.2 hc) (EReal.coe_ne_top c), ih]

end Cert.Reals

end
-- ==== Proof.FfnDgu.lean ====
/- The gradient through a feed-forward block's gated unit, one block per point. -/
module

public import proofs.«01_k».proof.Defs
public import proofs.«01_k».proof.Proof.Gen.FfnDguIdeal.Value
public import proofs.«01_k».proof.Proof.Gen.FfnDguRefIdeal.Read
public import proofs.«01_k».proof.Proof.Finite
public import proofs.«01_k».proof.Proof.Gen.Pre_finite_ffndgu
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.FfnDguIdeal.Claims

open Cert.FfnDguIdeal Cert.FfnDguIdeal.Gen

variable (m : (ℓ : Loc nD τ sig) → Buf (Elt Ideal) ℓ)

open FfnDguRefIdeal.Read

/-- Every window's block at point `t`: row block `t % 2`, column block `t / 2` or the other way round. -/
theorem idx (t : Fin cfg0.N) : win0_0.index t = ![t.val / 2, 0] ∧ win0_1.index t = ![t.val % 2, 0] ∧ win0_2.index t = ![0, t.val / 2, t.val % 2]
    ∧ win0_3.index t = ![0, t.val / 2, t.val % 2] := by
  revert t; decide +kernel

theorem t_lt (t : Fin cfg0.N) : t.val < 4 := t.isLt

/-- The row and the column of a block's element in the whole array. -/
abbrev rowOf (t : Fin cfg0.N) (a : Fin 1024) : Fin 2048 := ⟨t.val / 2 * 1024 + a.val, by have h := t_lt t; omega⟩
abbrev colOf (t : Fin cfg0.N) (b : Fin 1408) : Fin 2816 := ⟨t.val % 2 * 1408 + b.val, by omega⟩

theorem emb3 (h : Fin 2) (a : Fin 1024) (b : Fin 1408) (t : Fin cfg0.N) :
    ((View.whole main_v5).slice (win0_3.rect t)).emb (ix3 h a b) = ix3 h (rowOf t a) (colOf t b) := by
  blk_ext [idx t]

theorem read0 (c : Dev nD) (t : Fin cfg0.N) (a b : Fin 1024) : iblk m c 0 t (ix2 a b) =
    m ((c : Thread nD τ).loc main_arg0) (ix2 (rowOf t a) b) := by
  unfold iblk
  rw [show V m c (Pipeline.arrRef spec0 0) = m ((c : Thread nD τ).loc main_arg0) from V_main_arg0 m c]
  blk_ext [idx t]

theorem read1 (c : Dev nD) (t : Fin cfg0.N) (a : Fin 1408) (b : Fin 1024) : iblk m c 1 t (ix2 a b) =
    m ((c : Thread nD τ).loc main_arg1) (ix2 (colOf t a) b) := by
  unfold iblk
  rw [show V m c (Pipeline.arrRef spec0 1) = m ((c : Thread nD τ).loc main_arg1) from V_main_arg1 m c]
  blk_ext [idx t]

/-- The two halves of the gate's input laid one over the other, as the program does before the call. -/
def halves (w : FVec Ideal S2048x5632 .bf16) : FVec Ideal S2x2048x2816 .bf16 :=
  concatenate S2x2048x2816 0 [⟨S1x2048x2816, broadcastInDim S1x2048x2816 ![1, 2] bcast_S2048x2816_S1x2048x2816_1_2
      (extractStridedSlice S2048x2816 ![0, 0] w slices_S2048x5632_S2048x2816_0_0)⟩,
    ⟨S1x2048x2816, broadcastInDim S1x2048x2816 ![1, 2] bcast_S2048x2816_S1x2048x2816_1_2
      (extractStridedSlice S2048x2816 ![0, 2816] w slices_S2048x5632_S2048x2816_0_2816)⟩]
    concatenates_S1x2048x2816_S1x2048x2816_S2x2048x2816_d0

theorem V2_is (c : Dev nD) : V m c (Pipeline.arrRef spec0 2) = halves (m ((c : Thread nD τ).loc main_arg2)) := by
  show V m c main_v4 = _
  unfold V; after_reads_simp; rfl

theorem halves_0 (w : FVec Ideal S2048x5632 .bf16) (a : Fin 2048) (b : Fin 2816) :
    halves w (ix3 0 a b) = w (ix2 a ⟨b.val, by omega⟩) := by
  unfold halves; pointwise
theorem halves_1 (w : FVec Ideal S2048x5632 .bf16) (a : Fin 2048) (b : Fin 2816) :
    halves w (ix3 1 a b) = w (ix2 a ⟨2816 + b.val, by omega⟩) := by
  unfold halves; pointwise

theorem read2 (c : Dev nD) (t : Fin cfg0.N) (h : Fin 2) (a : Fin 1024) (b : Fin 1408) (x) (hx : V m c (Pipeline.arrRef spec0 2) = x) :
    iblk m c 2 t (ix3 h a b) = x (ix3 h (rowOf t a) (colOf t b)) := by
  unfold iblk
  rw [hx]
  blk_ext [idx t]

theorem emb_half0 (a : Fin 1024) (b : Fin 1408) : (ix3 0 a b : S2x1024x1408.Idx) = r0_2.emb (ix3 (0 : Fin 1) a b) := by
  blk_ext []
theorem emb_half1 (a : Fin 1024) (b : Fin 1408) : (ix3 1 a b : S2x1024x1408.Idx) = r0_3.emb (ix3 (0 : Fin 1) a b) := by
  blk_ext []

theorem out_half1 (x0 : Vec Ideal S1024x1024 .bf16) (x1 : Vec Ideal S1408x1024 .bf16) (x2 : Vec Ideal S2x1024x1408 .bf16) (a : Fin 1024) (b : Fin 1408) :
    out0_3 x0 x1 x2 (ix3 1 a b) = k0_pay6 (View.ld x0 r0_0) (View.ld x1 r0_1) (View.ld x2 r0_2) (ix3 (0 : Fin 1) a b) := by
  unfold out0_3
  rw [emb_half1, View.canon_cons_emb]

theorem out_half0 (x0 : Vec Ideal S1024x1024 .bf16) (x1 : Vec Ideal S1408x1024 .bf16) (x2 : Vec Ideal S2x1024x1408 .bf16) (a : Fin 1024) (b : Fin 1408) :
    out0_3 x0 x1 x2 (ix3 0 a b) = k0_pay5 (View.ld x0 r0_0) (View.ld x1 r0_1) (View.ld x2 r0_2) (View.ld x2 r0_3) (ix3 (0 : Fin 1) a b) := by
  unfold out0_3
  rw [View.canon_cons_of_not_mem, emb_half0, View.canon_cons_emb]
  intro h
  obtain ⟨j, _, hj⟩ := (LoadRect.mem_set _).1 h 0
  have h0 : (0 : ℕ) = 1 + 1 * j := hj
  omega

theorem ld0 (x : Vec Ideal S1024x1024 .bf16) (a b : Fin 1024) : View.ld x r0_0 (ix2 a b) = x (ix2 a b) :=
  congrFun (View.ld_unit_zero (S := S1024x1024) (by funext a; fin_cases a <;> rfl) _ x) _
theorem ld1 (x : Vec Ideal S1408x1024 .bf16) (a : Fin 1408) (b : Fin 1024) : View.ld x r0_1 (ix2 a b) = x (ix2 a b) :=
  congrFun (View.ld_unit_zero (S := S1408x1024) (by funext a; fin_cases a <;> rfl) _ x) _
theorem ld2_0 (x : Vec Ideal S2x1024x1408 .bf16) (a : Fin 1024) (b : Fin 1408) : View.ld x r0_2 (ix3 (0 : Fin 1) a b) = x (ix3 0 a b) := by
  rw [emb_half0]; rfl
theorem ld2_1 (x : Vec Ideal S2x1024x1408 .bf16) (a : Fin 1024) (b : Fin 1408) : View.ld x r0_3 (ix3 (0 : Fin 1) a b) = x (ix3 1 a b) := by
  rw [emb_half1]; rfl

/-- The gate written with a subtraction from nought, as the kernel does. -/
abbrev sg (x : EReal) : EReal := Ideal.div 1 (1 + Ideal.exp (0 - x))

theorem pay6 (v0 : Vec Ideal S1024x1024 .bf16) (v1 : Vec Ideal S1408x1024 .bf16) (v3 : Vec Ideal S1x1024x1408 .bf16) (a : Fin 1024) (b : Fin 1408) :
    k0_pay6 v0 v1 v3 (ix3 (0 : Fin 1) a b) = (∑ x, v0 (ix2 a x) * v1 (ix2 b x)) * (v3 (ix3 0 a b) * sg (v3 (ix3 0 a b))) := by
  unfold_payloads
  pointwise
theorem pay5 (v0 : Vec Ideal S1024x1024 .bf16) (v1 : Vec Ideal S1408x1024 .bf16) (v3 v6 : Vec Ideal S1x1024x1408 .bf16) (a : Fin 1024) (b : Fin 1408) :
    k0_pay5 v0 v1 v3 v6 (ix3 (0 : Fin 1) a b) = (∑ x, v0 (ix2 a x) * v1 (ix2 b x)) * v6 (ix3 0 a b)
      * (sg (v3 (ix3 0 a b)) + v3 (ix3 0 a b) * sg (v3 (ix3 0 a b)) * (1 - sg (v3 (ix3 0 a b)))) := by
  unfold_payloads
  pointwise

/-- The two halves of a block, from the blocks the point reads. -/
theorem out1 (d g : EReal) (x0 : Vec Ideal S1024x1024 .bf16) (x1 : Vec Ideal S1408x1024 .bf16) (x2 : Vec Ideal S2x1024x1408 .bf16) (a : Fin 1024) (b : Fin 1408)
    (hd : ∑ x, x0 (ix2 a x) * x1 (ix2 b x) = d) (hg : x2 (ix3 0 a b) = g) : out0_3 x0 x1 x2 (ix3 1 a b) = d * (g * sg g) := by
  rw [out_half1, pay6, ld2_0, ← hd, ← hg]
  exact congrArg (· * _) (Finset.sum_congr rfl fun x _ => congrArg₂ (· * ·) (ld0 x0 a x) (ld1 x1 b x))
theorem out0 (d g u : EReal) (x0 : Vec Ideal S1024x1024 .bf16) (x1 : Vec Ideal S1408x1024 .bf16) (x2 : Vec Ideal S2x1024x1408 .bf16) (a : Fin 1024) (b : Fin 1408)
    (hd : ∑ x, x0 (ix2 a x) * x1 (ix2 b x) = d) (hg : x2 (ix3 0 a b) = g) (hu : x2 (ix3 1 a b) = u) :
    out0_3 x0 x1 x2 (ix3 0 a b) = d * u * (sg g + g * sg g * (1 - sg g)) := by
  rw [out_half0, pay5, ld2_0, ld2_1, ← hd, ← hg, ← hu]
  exact congrArg (· * _ * _) (Finset.sum_congr rfl fun x _ => congrArg₂ (· * ·) (ld0 x0 a x) (ld1 x1 b x))

section Reference

variable (x0 : FVec Ideal S2048x1024 .bf16) (x1 : FVec Ideal S2816x1024 .bf16) (x2 : FVec Ideal S2048x5632 .bf16) (a : Fin 2048) (b : Fin 2816)

/-- The gate's two inputs at an entry and its incoming gradient. -/
abbrev gIn : EReal := x2 (ix2 a ⟨b.val, by omega⟩)
abbrev uIn : EReal := x2 (ix2 a ⟨2816 + b.val, by omega⟩)
abbrev dIn : EReal := ∑ x, x0 (ix2 a x) * x1 (ix2 b x)

theorem ref0 : val_main_v18 (F := Ideal) x0 x1 x2 (ix3 0 a b) = dIn x0 x1 a b * uIn x2 a b * Ideal.div 1 (1 + Ideal.exp (-gIn x2 a b))
    + gIn x2 a b * (dIn x0 x1 a b * uIn x2 a b) * (Ideal.div 1 (1 + Ideal.exp (-gIn x2 a b)) * (1 - Ideal.div 1 (1 + Ideal.exp (-gIn x2 a b)))) := by
  unfold val_main_v18 val_main_v16 val_main_v14 val_main_v13 val_main_v12
  pointwise [val_main_v11, val_main_call1_v2, val_main_call1_v1, val_main_call1_v0, val_main_v10, val_main_v8, val_main_v7, val_main_v4_1, val_main_v4_2, val_main_v4_0, val_main_call0_v7, val_main_call0_v6, val_main_call0_cst_1, val_main_call0_v4, val_main_call0_cst_0, val_main_call0_v3, val_main_call0_v2, val_main_call0_cst, val_main_call0_v1, val_main_call0_v0, val_main_v3, val_main_v2, val_main_v1, val_main_v0]

theorem ref1 : val_main_v18 (F := Ideal) x0 x1 x2 (ix3 1 a b) = gIn x2 a b * Ideal.div 1 (1 + Ideal.exp (-gIn x2 a b)) * dIn x0 x1 a b := by
  unfold val_main_v18 val_main_v17 val_main_v15 val_main_v13 val_main_v12
  pointwise [val_main_v9, val_main_v8, val_main_v7, val_main_v4_2, val_main_v4_0, val_main_call0_v7, val_main_call0_v6, val_main_call0_cst_1, val_main_call0_v4, val_main_call0_cst_0, val_main_call0_v3, val_main_call0_v2, val_main_call0_cst, val_main_call0_v1, val_main_call0_v0, val_main_v3, val_main_v2, val_main_v1, val_main_v0]

end Reference

/-- The gradient through the gate in its two forms, on real numbers. -/
theorem gate_eq (d u g : EReal) (hd : ∃ r : ℝ, d = r) (hu : ∃ r : ℝ, u = r) (hg : ∃ r : ℝ, g = r) :
    d * u * (sg g + g * sg g * (1 - sg g)) = d * u * Ideal.div 1 (1 + Ideal.exp (-g))
      + g * (d * u) * (Ideal.div 1 (1 + Ideal.exp (-g)) * (1 - Ideal.div 1 (1 + Ideal.exp (-g)))) := by
  obtain ⟨d, rfl⟩ := hd; obtain ⟨u, rfl⟩ := hu; obtain ⟨g, rfl⟩ := hg
  rw [sg, zero_sub, Reals.gate_real]
  simp only [← EReal.coe_one, ← EReal.coe_mul, ← EReal.coe_add, ← EReal.coe_sub]
  exact congrArg (fun x : ℝ => (x : EReal)) (by ring)

theorem final3 (c : Dev nD) (h0 : ∀ i, m ((c : Thread nD τ).loc main_arg0) i ≠ (⊤ : EReal) ∧ m ((c : Thread nD τ).loc main_arg0) i ≠ (⊥ : EReal))
    (h1 : ∀ i, m ((c : Thread nD τ).loc main_arg1) i ≠ (⊤ : EReal) ∧ m ((c : Thread nD τ).loc main_arg1) i ≠ (⊥ : EReal))
    (h2 : ∀ i, m ((c : Thread nD τ).loc main_arg2) i ≠ (⊤ : EReal) ∧ m ((c : Thread nD τ).loc main_arg2) i ≠ (⊥ : EReal)) :
    (dats m 0 c).arrAt 3 cfg0.N = val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  rw [emb3]
  have hw := V2_is m c
  have hd : ∃ r : ℝ, dIn (m ((c : Thread nD τ).loc main_arg0)) (m ((c : Thread nD τ).loc main_arg1)) (rowOf t y1) (colOf t y2) = r :=
    Reals.dot_real _ _ (fun i => h0 _) (fun i => h1 _)
  have hs := Finset.sum_congr rfl fun (x : Fin 1024) (_ : x ∈ Finset.univ) =>
    congrArg₂ (fun p q : EReal => p * q) (read0 m c t y1 x) (read1 m c t y2 x)
  match y0 with
  | ⟨0, _⟩ =>
    refine (out0 _ _ _ _ _ _ y1 y2 hs ((read2 m c t 0 y1 y2 _ hw).trans (halves_0 _ _ _)) ((read2 m c t 1 y1 y2 _ hw).trans (halves_1 _ _ _))).trans
      (Eq.trans ?_ (ref0 _ _ _ (rowOf t y1) (colOf t y2)).symm)
    exact gate_eq _ _ _ hd (Reals.real (h2 _)) (Reals.real (h2 _))
  | ⟨1, _⟩ =>
    refine (out1 _ _ _ _ _ y1 y2 hs ((read2 m c t 0 y1 y2 _ hw).trans (halves_0 _ _ _))).trans
      (Eq.trans ?_ (ref1 _ _ _ (rowOf t y1) (colOf t y2)).symm)
    rw [sg, zero_sub]
    exact mul_comm _ _

theorem algebraic : Cert.algebraic_FfnDguIdeal_FfnDguRefIdeal_pre_finite_ffndgu := by
  intro m g m' g' hpre hag
  refine ⟨fun c => val_main_v18 (F := Ideal) (m ((c : Thread nD τ).loc main_arg0)) (m ((c : Thread nD τ).loc main_arg1)) (m ((c : Thread nD τ).loc main_arg2)), ?_, ?_⟩
  · exact (θ_run defs _ _).mono (fun r h c => ⟨(h c).1.trans (final3 m c (Finite.of_pre _ _ (hpre c).1)
      (Finite.of_pre _ _ (hpre c).2.1) (Finite.of_pre _ _ (hpre c).2.2)), (h c).2⟩) (Value.run_blocks m g)
  · refine (θ_run FfnDguRefIdeal.defs _ _).mono (fun r h c => ⟨(h c).1.trans ?_, (h c).2⟩) (FfnDguRefIdeal.Value.run (F := Ideal) m' g')
    rw [val_main_v18_eq, (hag c).1, (hag c).2.1, (hag c).2.2]

end Cert.FfnDguIdeal.Claims
-- ==== Proof.NormGrad.lean ====
/- The gradient through the norm of one row in the two forms the programs write it, on extended reals. -/
module

public import proofs.«01_k».proof.Proof.Reals
public import Idealize.ShloMosaic.Lib.Pointwise
public import Idealize.ShloMosaic.Lib.Tactic

@[expose] public section

noncomputable section

namespace Cert.NormGrad

open Idealize.ShloMosaic

/-- The programs' constants: the number of columns, the small number under the root, and minus a half. -/
abbrev cols : EReal := Ideal.ofBits .f32 1149239296#32
abbrev eps : EReal := Ideal.ofBits .f32 897988541#32
abbrev mhalf : EReal := Ideal.ofBits .f32 3204448256#32

theorem cols_real : cols = ((1024 : ℝ) : EReal) := by
  simp [cols, Ideal.ofBits, Ideal.ieee]; norm_num; rw [← EReal.coe_mul]; norm_num
theorem eps_real : ∃ e : ℝ, 0 < e ∧ eps = (e : EReal) := by
  refine ⟨_, ?_, by simp [eps, Ideal.ofBits, Ideal.ieee]; rfl⟩
  positivity
theorem mhalf_real : mhalf = ((-(1 / 2) : ℝ) : EReal) := by
  simp [mhalf, Ideal.ofBits, Ideal.ieee]; norm_num; rw [← EReal.coe_mul]; norm_num

variable {n : ℕ}

/-- One row's mean square with the small number, its inverse root, the gradient as the kernel writes it, and the reference's factor of the row. -/
abbrev sq (x : Fin n → EReal) : EReal := Ideal.div (∑ k, x k * x k) cols + eps
abbrev inv (x : Fin n → EReal) : EReal := Ideal.rsqrt (sq x)
abbrev grad (d x g : Fin n → EReal) (i : Fin n) : EReal :=
  inv x * (d i * g i - x i * inv x * Ideal.div (∑ k, d k * g k * (x k * inv x)) cols)
abbrev factor (d x g : Fin n → EReal) : EReal := Ideal.div ((∑ k, x k * (d k * g k)) * (mhalf * Ideal.div (inv x) (sq x))) cols

theorem grad_congr {d d' x x' g g' : Fin n → EReal} (hd : ∀ k, d k = d' k) (hx : ∀ k, x k = x' k) (hg : ∀ k, g k = g' k) (i : Fin n) :
    grad d x g i = grad d' x' g' i := by
  rw [funext hd, funext hx, funext hg]

/-- The inverse root of a row of real numbers is a positive real number whose square inverts what is under the root. -/
theorem inv_real (x : Fin n → ℝ) : ∃ v r : ℝ, v ≠ 0 ∧ 0 ≤ r ∧ 1 / v = r * r ∧ sq (fun k => (x k : EReal)) = v ∧ Ideal.rsqrt v = (r : EReal) := by
  obtain ⟨e, he, hs⟩ := eps_real
  have h0 : 0 ≤ ∑ k, x k * x k := Finset.sum_nonneg fun k _ => mul_self_nonneg _
  have hv : 0 < (∑ k, x k * x k) * (1 / 1024) + e := by positivity
  refine ⟨(∑ k, x k * x k) * (1 / 1024) + e, (Real.sqrt ((∑ k, x k * x k) * (1 / 1024) + e))⁻¹, hv.ne', by positivity, ?_, ?_, ?_⟩
  · rw [← mul_inv, Real.mul_self_sqrt hv.le, one_div]
  · simp only [sq, ← EReal.coe_mul, Reals.sum_real, hs]
    rw [cols_real, Ideal.div_coe (by norm_num), ← EReal.coe_mul, ← EReal.coe_add]
  · rw [Ideal.rsqrt_coe, if_neg (not_lt.2 hv.le), if_neg hv.ne']

theorem sq_nonneg (y : EReal) : 0 ≤ y * y := by
  induction y with
  | bot => simp
  | top => simp
  | coe r => exact_mod_cast mul_self_nonneg r

/-- An infinite entry of the row makes its mean square infinite. -/
theorem sq_top (x : Fin n → EReal) (k : Fin n) (hk : x k * x k = ⊤) : sq x = ⊤ := by
  obtain ⟨e, he, hs⟩ := eps_real
  have h : ∑ k, x k * x k = ⊤ := top_le_iff.1 (hk.symm.le.trans (Finset.single_le_sum (f := fun k => x k * x k) (fun k _ => sq_nonneg _) (Finset.mem_univ k)))
  unfold sq
  rw [h, hs, cols_real, Ideal.div_coe (by norm_num), EReal.top_mul_coe_of_pos (by norm_num), EReal.top_add_coe]

/-- The two forms agree, whatever is added to them: on a row of real numbers the factors are real, on any other row both gradients are zero. -/
theorem forms (h : EReal) (d x g : Fin n → EReal) (i : Fin n) :
    h + d i * g i * inv x + x i * factor d x g + factor d x g * x i = h + grad d x g i := by
  rw [add_assoc, add_assoc]
  refine congrArg (h + ·) ?_
  by_cases hx : ∃ k, x k * x k = ⊤
  · obtain ⟨k, hk⟩ := hx
    have hv := sq_top x k hk
    have hi : inv x = 0 := by unfold inv; rw [hv]; rfl
    have hf : factor d x g = 0 := by
      unfold factor
      rw [hi, hv, cols_real, Ideal.div_coe (by norm_num), show Ideal.div 0 ⊤ = 0 by simp [Ideal.div]]
      simp
    unfold grad
    rw [hf, hi]; simp
  obtain ⟨x, rfl⟩ : ∃ f : Fin n → ℝ, x = fun k => (f k : EReal) := ⟨fun k => (x k).toReal, funext fun k =>
    (EReal.coe_toReal (fun h => hx ⟨k, by rw [h]; rfl⟩) fun h => hx ⟨k, by rw [h]; rfl⟩).symm⟩
  obtain ⟨v, r, hv, h0, hr, hs, hi⟩ := inv_real x
  have hc : (1024 : ℝ) ≠ 0 := by norm_num
  have hS : ∑ k, d k * g k * ((x k : EReal) * r) = r * ∑ k, (x k : EReal) * (d k * g k) := by
    rw [Reals.mul_sum r h0]; exact Finset.sum_congr rfl fun k _ => by ac_rfl
  unfold factor grad inv
  rw [hs, hi, cols_real, mhalf_real, Ideal.div_coe hv, hr, Ideal.div_coe hc, Ideal.div_coe hc, hS]
  generalize ∑ k, (x k : EReal) * (d k * g k) = S
  generalize d i * g i = p
  have ha : ∀ a : EReal, a + a = ((2 : ℝ) : EReal) * a := fun a => by
    rw [show (2 : ℝ) = 1 + 1 by norm_num, EReal.coe_add, EReal.right_distrib_of_nonneg (by simp) (by simp), EReal.coe_one, one_mul]
  rw [sub_eq_add_neg, EReal.left_distrib_of_nonneg_of_ne_top (EReal.coe_nonneg.2 h0) (EReal.coe_ne_top r), mul_comm p,
    mul_comm _ (x i : EReal), ha, ← neg_mul, ← mul_assoc, ← EReal.coe_mul]
  refine congrArg (fun q : EReal => (r : EReal) * p + q) ?_
  trans ((-(x i * r * r * r / 1024) : ℝ) : EReal) * S
  · rw [show (-(x i * r * r * r / 1024) : ℝ) = 2 * x i * ((-(1 / 2)) * (r * (r * r))) * (1 / 1024) by ring]
    simp only [EReal.coe_mul]
    ac_rfl
  · rw [show (-(x i * r * r * r / 1024) : ℝ) = r * (-(x i * r)) * r * (1 / 1024) by ring]
    simp only [EReal.coe_mul, EReal.coe_neg]
    ac_rfl

/-- The sum over one of the four blocks of rows, and a sum accumulated block after block. -/
abbrev part (f : Fin 2048 → EReal) (n : ℕ) (hn : n < 4) : EReal := ∑ a : Fin 512, f ⟨n * 512 + a.val, by omega⟩

theorem accumulated (f : Fin 2048 → EReal) (acc : (n : ℕ) → n < 4 → EReal) (h0 : acc 0 (by decide) = part f 0 (by decide))
    (hs : ∀ n (hn : n + 1 < 4), acc (n + 1) hn = acc n (by omega) + part f (n + 1) hn) : acc 3 (by decide) = ∑ a, f a := by
  rw [hs 2 (by decide), hs 1 (by decide), hs 0 (by decide), h0]
  refine Eq.trans ?_ (Fin.sum_univ_add (a := 1536) (b := 512) f).symm
  rw [Fin.sum_univ_add (a := 1024) (b := 512), Fin.sum_univ_add (a := 512) (b := 512)]
  refine congrArg₂ (· + ·) (congrArg₂ (· + ·) (congrArg₂ (· + ·) ?_ ?_) ?_) ?_ <;>
    exact Finset.sum_congr rfl fun a _ => congrArg f (Fin.ext (by simp <;> omega))

/-- A sum in two and in four parts. -/
theorem halves (f : Fin 5632 → EReal) : ∑ k, f k = (∑ k : Fin 2816, f ⟨0 * 2816 + k.val, by omega⟩) + ∑ k : Fin 2816, f ⟨1 * 2816 + k.val, by omega⟩ := by
  refine (Fin.sum_univ_add (a := 2816) (b := 2816) f).trans ?_
  refine congrArg₂ (· + ·) ?_ ?_ <;> exact Finset.sum_congr rfl fun a _ => congrArg f (Fin.ext (by simp <;> omega))
theorem quarters (f : Fin 8192 → EReal) : ∑ k, f k = (∑ k : Fin 2048, f ⟨0 * 2048 + k.val, by omega⟩) + (∑ k : Fin 2048, f ⟨1 * 2048 + k.val, by omega⟩)
    + (∑ k : Fin 2048, f ⟨2 * 2048 + k.val, by omega⟩) + ∑ k : Fin 2048, f ⟨3 * 2048 + k.val, by omega⟩ := by
  refine (Fin.sum_univ_add (a := 6144) (b := 2048) f).trans ?_
  rw [Fin.sum_univ_add (a := 4096) (b := 2048), Fin.sum_univ_add (a := 2048) (b := 2048)]
  refine congrArg₂ (· + ·) (congrArg₂ (· + ·) (congrArg₂ (· + ·) ?_ ?_) ?_) ?_ <;>
    exact Finset.sum_congr rfl fun a _ => congrArg f (Fin.ext (by simp <;> omega))

end Cert.NormGrad

end
-- ==== Proof.CrossDn.lean ====
/- The gradient through a projection and the norm before it, a block of rows per point. -/
module

public import proofs.«01_k».proof.Defs
public import proofs.«01_k».proof.Proof.Gen.CrossDnIdeal.Value
public import proofs.«01_k».proof.Proof.Gen.CrossDnRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.CrossDnIdeal.Claims

open Cert.CrossDnIdeal Cert.CrossDnIdeal.Gen

variable (m : (ℓ : Loc nD τ sig) → Buf (Elt Ideal) ℓ)

open CrossDnRefIdeal.Read

theorem hz : (![0, 0] : Fin 2 → Nat) = fun _ => 0 := funext fun a => by fin_cases a <;> rfl

theorem pay3 (u : Vec Ideal S512x1024 .bf16) (v : Vec Ideal S1024x1024 .bf16) (a : Fin 512) (b : Fin 1024) :
    k0_pay3 u v (ix2 a b) = ∑ k, u (ix2 a k) * v (ix2 b k) := by
  unfold_payloads; pointwise
theorem pay4 (x : Vec Ideal S512x1024 .f32) (a : Fin 512) : k0_pay4 x (ix2 a 0) = NormGrad.inv fun k => x (ix2 a k) := by
  unfold_payloads; pointwise
theorem pay5 (x : Vec Ideal S512x1024 .f32) (a : Fin 512) (b : Fin 1024) : k0_pay5 x (ix2 a b) = x (ix2 a b) * NormGrad.inv fun k => x (ix2 a k) := by
  unfold k0_pay5; pointwise; rw [pay4]
theorem pay6 (u : Vec Ideal S512x1024 .bf16) (v : Vec Ideal S1024x1024 .bf16) (x : Vec Ideal S512x1024 .f32) (a : Fin 512) (b : Fin 1024) :
    k0_pay6 u v x (ix2 a b) = k0_pay3 u v (ix2 a b) * (x (ix2 a b) * NormGrad.inv fun k => x (ix2 a k)) := by
  unfold k0_pay6; pointwise; rw [pay5]
theorem pay7 (u : Vec Ideal S512x1024 .bf16) (v : Vec Ideal S1024x1024 .bf16) (x : Vec Ideal S512x1024 .f32) (g : Vec Ideal S1x1024 .f32) (h : Vec Ideal S512x1024 .f32) (a : Fin 512) (b : Fin 1024) :
    k0_pay7 u v x g h (ix2 a b) = h (ix2 a b) + NormGrad.grad (fun k => k0_pay3 u v (ix2 a k)) (fun k => x (ix2 a k)) (fun k => g (ix2 0 k)) b := by
  unfold k0_pay7; pointwise; simp only [pay4, pay5]
theorem pay8 (u : Vec Ideal S512x1024 .bf16) (v : Vec Ideal S1024x1024 .bf16) (x : Vec Ideal S512x1024 .f32) (g : Vec Ideal S1x1024 .f32) (h : Vec Ideal S512x1024 .f32) :
    k0_pay8 u v x g h = k0_pay7 u v x g h := by
  funext i; unfold k0_pay8; pointwise
theorem pay1 (x : FVec Ideal S512x1024 .f32) (b : Fin 1024) : k0_pay1 x (ix2 0 b) = ∑ a, x (ix2 a b) := by
  unfold_payloads; pointwise
theorem pay2 (x : FVec Ideal S512x1024 .f32) (p : Vec Ideal S1x1024 .f32) (b : Fin 1024) : k0_pay2 x p (ix2 0 b) = p (ix2 0 b) + ∑ a, x (ix2 a b) := by
  unfold k0_pay2; pointwise; rw [pay1]

section Reference

variable (x0 : FVec Ideal S2048x1024 .bf16) (x1 : FVec Ideal S1024x1024 .bf16) (x2 x3 : FVec Ideal S2048x1024 .f32) (x4 : FVec Ideal S1024 .f32)

/-- The gradient arriving at the norm, an entry and a row; a row of the norm's input; an entry of the summands of the weight's gradient. -/
abbrev dn (a : Fin 2048) (b : Fin 1024) : EReal := ∑ k, x0 (ix2 a k) * x1 (ix2 b k)
abbrev row (a : Fin 2048) (b : Fin 1024) : EReal := x3 (ix2 a b)
abbrev dgs (b : Fin 1024) (a : Fin 2048) : EReal := dn x0 x1 a b * (x3 (ix2 a b) * NormGrad.inv (row x3 a))

theorem v7 (a : Fin 2048) : val_main_v7 (F := Ideal) x3 (ix2 a 0) = NormGrad.sq (row x3 a) := by
  unfold val_main_v7 val_main_v5 val_main_v3 val_main_v2 val_main_v1
  pointwise [val_main_v6, val_main_v4, val_main_cst, val_main_cst_0, val_main_cst_1]
theorem v8 (a : Fin 2048) : val_main_v8 (F := Ideal) x3 (ix2 a 0) = NormGrad.inv (row x3 a) := by
  unfold val_main_v8; pointwise; rw [v7]
theorem v11 (a : Fin 2048) : val_main_v11 (F := Ideal) x3 (ix2 a 0) = NormGrad.mhalf * Ideal.div (NormGrad.inv (row x3 a)) (NormGrad.sq (row x3 a)) := by
  unfold val_main_v11 val_main_v9
  pointwise [val_main_v10, val_main_cst_2]
  rw [v7, v8]
theorem v19 (a : Fin 2048) (b : Fin 1024) : val_main_v19 (F := Ideal) x0 x1 (ix2 a b) = dn x0 x1 a b := by
  pointwise [val_main_v19, val_main_v18, val_main_v0]
theorem v24 (a : Fin 2048) (b : Fin 1024) : val_main_v24 (F := Ideal) x0 x1 x4 (ix2 a b) = dn x0 x1 a b * x4 (ix1 b) := by
  unfold val_main_v24
  pointwise [val_main_v23, val_main_v14]
  rw [v19]
theorem v28 (a : Fin 2048) : val_main_v28 (F := Ideal) x0 x1 x3 x4 (ix2 a 0) = ∑ k, x3 (ix2 a k) * (dn x0 x1 a k * x4 (ix1 k)) := by
  unfold val_main_v28 val_main_v27 val_main_v26
  pointwise [val_main_cst_5]
  simp only [v24]
theorem v36 (a : Fin 2048) (b : Fin 1024) : val_main_v36 (F := Ideal) x0 x1 x3 x4 (ix2 a b) = NormGrad.factor (dn x0 x1 a) (row x3 a) fun k => x4 (ix1 k) := by
  unfold val_main_v36 val_main_v35 val_main_v34 val_main_v32
  pointwise [val_main_cst_7, val_main_v33, val_main_cst_6]
  refine (Fin.sum_univ_one _).trans ?_
  rw [v28, v11]
theorem ref40 (a : Fin 2048) (b : Fin 1024) :
    val_main_v40 (F := Ideal) x0 x1 x2 x3 x4 (ix2 a b) = x2 (ix2 a b) + NormGrad.grad (dn x0 x1 a) (row x3 a) (fun k => x4 (ix1 k)) b := by
  unfold val_main_v40 val_main_v39 val_main_v38 val_main_v37 val_main_v31 val_main_v30 val_main_v29
  pointwise
  rw [v24, v36, v8]
  exact NormGrad.forms (x2 (ix2 a b)) (dn x0 x1 a) (row x3 a) (fun k => x4 (ix1 k)) b
theorem ref41 (i) : val_main_v41 (F := Ideal) x0 x1 x2 x3 x4 i = val_main_v40 (F := Ideal) x0 x1 x2 x3 x4 i := by
  unfold val_main_v41; pointwise
theorem ref42 (b : Fin 1024) : val_main_v42 (F := Ideal) x0 x1 x3 (ix2 0 b) = ∑ a, dgs x0 x1 x3 b a := by
  unfold val_main_v42 val_main_v25 val_main_v22 val_main_v21 val_main_v20 val_main_v13 val_main_v12
  pointwise [val_main_cst_3, val_main_cst_4]
  refine (Fin.sum_univ_one _).trans (Finset.sum_congr rfl fun a _ => ?_)
  rw [v8, v19, mul_comm]

end Reference

/-- The pieces of a point. -/
abbrev p6 (c : Dev nD) (t : Fin cfg0.N) : FVec Ideal S512x1024 .f32 := k0_pay6 (iblk m c 0 t) (iblk m c 1 t) (iblk m c 3 t)
abbrev p7 (c : Dev nD) (t : Fin cfg0.N) : FVec Ideal S512x1024 .f32 := k0_pay7 (iblk m c 0 t) (iblk m c 1 t) (iblk m c 3 t) (iblk m c 4 t) (iblk m c 2 t)
abbrev p8 (c : Dev nD) (t : Fin cfg0.N) : FVec Ideal S512x1024 .bf16 := k0_pay8 (iblk m c 0 t) (iblk m c 1 t) (iblk m c 3 t) (iblk m c 4 t) (iblk m c 2 t)

theorem outs_A (c : Dev nD) (t : Fin cfg0.N) (h0 : t.val % 4 = 0) (h1 : ¬1 ≤ t.val) :
    outsAt0 m c t.val t.isLt = (p7 m c t, p8 m c t, k0_pay1 (p6 m c t)) := by
  rw [outsAt0_A m c t h0 h1]
  refine Prod.ext ?_ (Prod.ext ?_ ?_)
  all_goals
    dsimp only
    first
      | unfold out0_A_5; rw [View.read_writes_eq_canon _ _ _ (fun y => ?_)]; swap; exact cover0_A_5 ..
      | unfold out0_A_6; rw [View.read_writes_eq_canon _ _ _ (fun y => ?_)]; swap; exact cover0_A_6 ..
      | unfold out0_A_7; rw [View.read_writes_eq_canon _ _ _ (fun y => ?_)]; swap; exact cover0_A_7 ..
    unfold kernelRun0_A
    dsimp only
    simp only [View.canon_unit_zero (S := S512x1024) hz, View.canon_unit_zero (S := S1x1024) hz, View.readAt_eq_ld, (hs0_0 t).read_unread, (hs0_1 t).read_unread, (hs0_2 t).read_unread, (hs0_3 t).read_unread,
      (hs0_4 t).read_unread, kernelRun0_A.sl.r, kernelRun0_A.sl.r_1, View.ld_unit_zero (S := S512x1024) hz, View.ld_unit_zero (S := S1024x1024) hz, View.ld_unit_zero (S := S1x1024) hz]

theorem outs_B (c : Dev nD) (t : Fin cfg0.N) (h0 : ¬t.val % 4 = 0) (h1 : 1 ≤ t.val) (p : FVec Ideal S1x1024 .f32)
    (hp : (outsAt0 m c (t.val - 1) (Nat.lt_of_le_of_lt (Nat.sub_le _ _) t.isLt)).2.2 = p) :
    outsAt0 m c t.val t.isLt = (p7 m c t, p8 m c t, k0_pay2 (p6 m c t) p) := by
  rw [outsAt0_B m c t h0 h1, hp]
  refine Prod.ext ?_ (Prod.ext ?_ ?_)
  all_goals
    dsimp only
    first
      | unfold out0_B_5; rw [View.read_writes_eq_canon _ _ _ (fun y => ?_)]; swap; exact cover0_B_5 ..
      | unfold out0_B_6; rw [View.read_writes_eq_canon _ _ _ (fun y => ?_)]; swap; exact cover0_B_6 ..
      | unfold out0_B_7; rw [View.read_writes_eq_canon _ _ _ (fun y => ?_)]; swap; exact cover0_B_7 ..
    unfold kernelRun0_B
    dsimp only
    simp only [View.canon_unit_zero (S := S512x1024) hz, View.canon_unit_zero (S := S1x1024) hz, View.readAt_eq_ld, (hs0_0 t).read_unread, (hs0_1 t).read_unread, (hs0_2 t).read_unread, (hs0_3 t).read_unread,
      (hs0_4 t).read_unread, (hs0_7 t).read_unread, kernelRun0_B.sl.r, kernelRun0_B.sl.r_1, View.ld_unit_zero (S := S512x1024) hz, View.ld_unit_zero (S := S1024x1024) hz, View.ld_unit_zero (S := S1x1024) hz]

theorem idx (t : Fin cfg0.N) : win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] ∧ win0_7.index t = ![0, 0] := by
  revert t; decide +kernel

theorem t_lt (t : Fin cfg0.N) : t.val < 4 := t.isLt

/-- The row of a block's element in the whole array. -/
abbrev rowOf (t : Fin cfg0.N) (a : Fin 512) : Fin 2048 := ⟨t.val * 512 + a.val, by have h := t_lt t; omega⟩

theorem emb5 (t : Fin cfg0.N) (a : Fin 512) (b : Fin 1024) : ((View.whole main_v1_0).slice (win0_5.rect t)).emb (ix2 a b) = ix2 (rowOf t a) b := by
  blk_ext [idx t]
theorem emb6 (t : Fin cfg0.N) (a : Fin 512) (b : Fin 1024) : ((View.whole main_v1_1).slice (win0_6.rect t)).emb (ix2 a b) = ix2 (rowOf t a) b := by
  blk_ext [idx t]
theorem emb7 (t : Fin cfg0.N) (a : Fin 1) (b : Fin 1024) : ((View.whole main_v1_2).slice (win0_7.rect t)).emb (ix2 a b) = ix2 a b := by
  blk_ext [idx t]

/-- The arguments. -/
abbrev X0 (c : Dev nD) : FVec Ideal S2048x1024 .bf16 := m ((c : Thread nD τ).loc main_arg0)
abbrev X1 (c : Dev nD) : FVec Ideal S1024x1024 .bf16 := m ((c : Thread nD τ).loc main_arg1)
abbrev X2 (c : Dev nD) : FVec Ideal S2048x1024 .f32 := m ((c : Thread nD τ).loc main_arg2)
abbrev X3 (c : Dev nD) : FVec Ideal S2048x1024 .f32 := m ((c : Thread nD τ).loc main_arg3)
abbrev X4 (c : Dev nD) : FVec Ideal S1024 .f32 := m ((c : Thread nD τ).loc main_arg4)

theorem read0 (c : Dev nD) (t : Fin cfg0.N) (a : Fin 512) (b : Fin 1024) : iblk m c 0 t (ix2 a b) = X0 m c (ix2 (rowOf t a) b) := by
  unfold iblk
  rw [show V m c (Pipeline.arrRef spec0 0) = m ((c : Thread nD τ).loc main_arg0) from V_main_arg0 m c]
  blk_ext [idx t]
theorem read1 (c : Dev nD) (t : Fin cfg0.N) (a b : Fin 1024) : iblk m c 1 t (ix2 a b) = X1 m c (ix2 a b) := by
  unfold iblk
  rw [show V m c (Pipeline.arrRef spec0 1) = m ((c : Thread nD τ).loc main_arg1) from V_main_arg1 m c]
  blk_ext [idx t]
theorem read2 (c : Dev nD) (t : Fin cfg0.N) (a : Fin 512) (b : Fin 1024) : iblk m c 2 t (ix2 a b) = X2 m c (ix2 (rowOf t a) b) := by
  unfold iblk
  rw [show V m c (Pipeline.arrRef spec0 2) = m ((c : Thread nD τ).loc main_arg2) from V_main_arg2 m c]
  blk_ext [idx t]
theorem read3 (c : Dev nD) (t : Fin cfg0.N) (a : Fin 512) (b : Fin 1024) : iblk m c 3 t (ix2 a b) = X3 m c (ix2 (rowOf t a) b) := by
  unfold iblk
  rw [show V m c (Pipeline.arrRef spec0 3) = m ((c : Thread nD τ).loc main_arg3) from V_main_arg3 m c]
  blk_ext [idx t]
theorem V4 (c : Dev nD) : V m c (Pipeline.arrRef spec0 4) = shapeCast S1x1024 (X4 m c) shapeCasts_S1024_S1x1024 := by
  show V m c main_v0 = _
  unfold V; after_reads_simp; rfl
theorem read4 (c : Dev nD) (t : Fin cfg0.N) (b : Fin 1024) : iblk m c 4 t (ix2 0 b) = X4 m c (ix1 b) := by
  have h : iblk m c 4 t (ix2 0 b) = shapeCast S1x1024 (X4 m c) shapeCasts_S1024_S1x1024 (ix2 0 b) := by
    unfold iblk
    rw [V4]
    blk_ext [idx t]
  rw [h]; pointwise

section Block

variable (c : Dev nD) (t : Fin cfg0.N)

/-- The pieces of a point at an entry are the reference's at the entry's place in the whole arrays. -/
theorem p3_at (a : Fin 512) (b : Fin 1024) : k0_pay3 (iblk m c 0 t) (iblk m c 1 t) (ix2 a b) = dn (X0 m c) (X1 m c) (rowOf t a) b :=
  (pay3 _ _ a b).trans (Finset.sum_congr rfl fun (x : Fin 1024) _ => congrArg₂ (fun p q : EReal => p * q) (read0 m c t a x) (read1 m c t b x))
theorem p6_at (a : Fin 512) (b : Fin 1024) : p6 m c t (ix2 a b) = dgs (X0 m c) (X1 m c) (X3 m c) b (rowOf t a) :=
  (pay6 _ _ _ a b).trans (congrArg₂ (fun p q : EReal => p * q) (p3_at m c t a b)
    (congrArg₂ (fun p q : EReal => p * q) (read3 m c t a b) (congrArg NormGrad.inv (funext fun k => read3 m c t a k))))
theorem p7_at (a : Fin 512) (b : Fin 1024) : p7 m c t (ix2 a b)
    = X2 m c (ix2 (rowOf t a) b) + NormGrad.grad (dn (X0 m c) (X1 m c) (rowOf t a)) (row (X3 m c) (rowOf t a)) (fun k => X4 m c (ix1 k)) b :=
  (pay7 _ _ _ _ _ a b).trans (congrArg₂ (fun p q : EReal => p + q) (read2 m c t a b)
    (NormGrad.grad_congr (fun k => p3_at m c t a k) (fun k => read3 m c t a k) (fun k => read4 m c t k) b))

/-- What the first two blocks of a point hold, on either branch. -/
theorem outs2 : (outsAt0 m c t.val t.isLt).1 = p7 m c t ∧ (outsAt0 m c t.val t.isLt).2.1 = p7 m c t := by
  by_cases h : t.val % 4 = 0
  · rw [outs_A m c t h (by have := t_lt t; omega)]; exact ⟨rfl, pay8 _ _ _ _ _⟩
  · rw [outs_B m c t h (by omega) _ rfl]; exact ⟨rfl, pay8 _ _ _ _ _⟩

/-- The row of sums at the last point. -/
theorem sums (b : Fin 1024) : (outsAt0 m c 3 (show 3 < cfg0.N from by decide)).2.2 (ix2 0 b) = ∑ a, dgs (X0 m c) (X1 m c) (X3 m c) b a := by
  refine NormGrad.accumulated _ (fun n hn => (outsAt0 m c n hn).2.2 (ix2 0 b)) ?_ fun n hn => ?_
  · refine (congrFun (congrArg (fun p => p.2.2) (outs_A m c ⟨0, by decide⟩ rfl (by decide))) (ix2 0 b)).trans ((pay1 _ b).trans ?_)
    exact Finset.sum_congr rfl fun a _ => p6_at m c _ a b
  · refine (congrFun (congrArg (fun p => p.2.2) (outs_B m c ⟨n + 1, hn⟩ (by show ¬(n + 1) % 4 = 0; omega) (by show 1 ≤ n + 1; omega) _ rfl)) (ix2 0 b)).trans ((pay2 _ _ b).trans ?_)
    exact congrArg₂ (fun p q : EReal => p + q) rfl (Finset.sum_congr rfl fun a _ => p6_at m c _ a b)

end Block

theorem last7 : ∀ t : Fin cfg0.N, (cfg0.win 7).flush t = true → t.val = 3 := by decide +kernel

theorem final7 (c : Dev nD) : (dats m 0 c).arrAt 7 cfg0.N = val_main_v42 (F := Ideal) (X0 m c) (X1 m c) (X3 m c) := by
  refine (dats m 0 c).arrAt_eq_of_covers 7 _ (by decide +kernel) fun t hf y => ?_
  blk_simp
  rw [after0_7]
  idx_vars y
  obtain rfl : y0 = 0 := Subsingleton.elim _ _
  rw [emb7, ref42]
  obtain rfl : t = ⟨3, by decide⟩ := Fin.ext (last7 t hf)
  exact sums m c y1

section Finals

variable (c : Dev nD)

theorem final5 : (dats m 0 c).arrAt 5 cfg0.N = val_main_v40 (F := Ideal) (X0 m c) (X1 m c) (X2 m c) (X3 m c) (X4 m c) := by
  refine (dats m 0 c).arrAt_eq_of_covers 5 _ (by decide +kernel) fun t hf y => ?_
  blk_simp
  rw [after0_5]
  idx_vars y
  rw [emb5, ref40 _ _ _ _ _ _ _, (outs2 m c t).1]
  exact p7_at m c t y0 y1
theorem final6 : (dats m 0 c).arrAt 6 cfg0.N = val_main_v41 (F := Ideal) (X0 m c) (X1 m c) (X2 m c) (X3 m c) (X4 m c) := by
  refine (dats m 0 c).arrAt_eq_of_covers 6 _ (by decide +kernel) fun t hf y => ?_
  blk_simp
  rw [after0_6]
  idx_vars y
  rw [emb6, ref41, ref40 _ _ _ _ _ _ _, (outs2 m c t).2]
  exact p7_at m c t y0 y1

end Finals

theorem algebraic : Cert.algebraic_CrossDnIdeal_CrossDnRefIdeal := by
  intro m g m' g' _ hag
  refine ⟨fun c => val_main_v40 (F := Ideal) (X0 m c) (X1 m c) (X2 m c) (X3 m c) (X4 m c), fun c => val_main_v41 (F := Ideal) (X0 m c) (X1 m c) (X2 m c) (X3 m c) (X4 m c),
    fun c => val_main_v42 (F := Ideal) (X0 m c) (X1 m c) (X3 m c), ?_, ?_⟩
  · refine (θ_run defs _ _).mono (fun r h c => ?_) (Value.run_blocks m g)
    exact ⟨(h c).1.trans (final5 m c), (h c).2.1.trans (final6 m c), (h c).2.2.1.trans (final7 m c), (h c).2.2.2⟩
  · refine (θ_run CrossDnRefIdeal.defs _ _).mono (fun r h c => ⟨(h c).1.trans ?_, (h c).2.1.trans ?_, (h c).2.2.1.trans ?_, (h c).2.2.2⟩) (CrossDnRefIdeal.Value.run (F := Ideal) m' g')
    · rw [val_main_v40_eq, (hag c).1, (hag c).2.1, (hag c).2.2.1, (hag c).2.2.2.1, (hag c).2.2.2.2]
    · rw [val_main_v41_eq, (hag c).1, (hag c).2.1, (hag c).2.2.1, (hag c).2.2.2.1, (hag c).2.2.2.2]
    · rw [val_main_v42_eq, (hag c).1, (hag c).2.1, (hag c).2.2.2.1]

end Cert.CrossDnIdeal.Claims
-- ==== Proof.MixDn.lean ====
/- The gradient through a projection and the norm before it, the product's columns in parts, a block of rows per round. -/
module

public import proofs.«01_k».proof.Defs
public import proofs.«01_k».proof.Proof.Gen.MixDnIdeal.Value
public import proofs.«01_k».proof.Proof.Gen.MixDnRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.MixDnIdeal.Claims

open Cert.MixDnIdeal Cert.MixDnIdeal.Gen

variable (m : (ℓ : Loc nD τ sig) → Buf (Elt Ideal) ℓ)

open MixDnRefIdeal.Read

theorem hz : (![0, 0] : Fin 2 → Nat) = fun _ => 0 := funext fun a => by fin_cases a <;> rfl

section Payloads

variable (u : Vec Ideal S512x2048 .bf16) (v : Vec Ideal S1024x2048 .bf16) (d x h : Vec Ideal S512x1024 .f32) (g : Vec Ideal S1x1024 .f32) (a : Fin 512) (b : Fin 1024)

theorem pay2 : k0_pay2 u v (ix2 a b) = ∑ k, u (ix2 a k) * v (ix2 b k) := by
  unfold_payloads; pointwise
theorem pay3 : k0_pay3 u v d (ix2 a b) = d (ix2 a b) + k0_pay2 u v (ix2 a b) := by
  rw [pay2]; unfold_payloads; pointwise
theorem pay5 : k0_pay5 x (ix2 a 0) = NormGrad.inv fun k => x (ix2 a k) := by
  unfold_payloads; pointwise
theorem pay6 : k0_pay6 x (ix2 a b) = x (ix2 a b) * NormGrad.inv fun k => x (ix2 a k) := by
  unfold k0_pay6; pointwise; rw [pay5]
theorem pay7 : k0_pay7 d x g h (ix2 a b) = h (ix2 a b) + NormGrad.grad (fun k => d (ix2 a k)) (fun k => x (ix2 a k)) (fun k => g (ix2 0 k)) b := by
  unfold k0_pay7; pointwise; simp only [pay5, pay6]
theorem pay8 : k0_pay8 d x g h (ix2 a b) = Ideal.ofBits .f32 1056964608#32 * k0_pay7 d x g h (ix2 a b) := by
  unfold k0_pay8; pointwise
theorem pay9 : k0_pay9 d x (ix2 0 b) = ∑ a, d (ix2 a b) * (x (ix2 a b) * NormGrad.inv fun k => x (ix2 a k)) := by
  unfold k0_pay9; pointwise; simp only [pay6]
theorem pay4 (s p : Vec Ideal S1x1024 .f32) : k0_pay4 s p (ix2 0 b) = p (ix2 0 b) + s (ix2 0 b) := by
  unfold_payloads; pointwise

end Payloads

section Reference

variable (x0 : FVec Ideal S2048x8192 .bf16) (x1 : FVec Ideal S1024x8192 .bf16) (x2 x3 : FVec Ideal S2048x1024 .f32) (x4 : FVec Ideal S1024 .f32)

/-- The gradient arriving at the norm, an entry and a row; a row of the norm's input; an entry of the summands of the weight's gradient. -/
abbrev dn (a : Fin 2048) (b : Fin 1024) : EReal := ∑ k, x0 (ix2 a k) * x1 (ix2 b k)
abbrev row (a : Fin 2048) (b : Fin 1024) : EReal := x3 (ix2 a b)
abbrev dgs (b : Fin 1024) (a : Fin 2048) : EReal := dn x0 x1 a b * (x3 (ix2 a b) * NormGrad.inv (row x3 a))

theorem v7 (a : Fin 2048) : val_main_v7 (F := Ideal) x3 (ix2 a 0) = NormGrad.sq (row x3 a) := by
  unfold val_main_v7 val_main_v5 val_main_v3 val_main_v2 val_main_v1
  pointwise [val_main_v6, val_main_v4, val_main_cst, val_main_cst_0, val_main_cst_1]
theorem v8 (a : Fin 2048) : val_main_v8 (F := Ideal) x3 (ix2 a 0) = NormGrad.inv (row x3 a) := by
  unfold val_main_v8; pointwise; rw [v7]
theorem v11 (a : Fin 2048) : val_main_v11 (F := Ideal) x3 (ix2 a 0) = NormGrad.mhalf * Ideal.div (NormGrad.inv (row x3 a)) (NormGrad.sq (row x3 a)) := by
  unfold val_main_v11 val_main_v9
  pointwise [val_main_v10, val_main_cst_2]
  rw [v7, v8]
theorem v19 (a : Fin 2048) (b : Fin 1024) : val_main_v19 (F := Ideal) x0 x1 (ix2 a b) = dn x0 x1 a b := by
  pointwise [val_main_v19, val_main_v18, val_main_v0]
theorem v24 (a : Fin 2048) (b : Fin 1024) : val_main_v24 (F := Ideal) x0 x1 x4 (ix2 a b) = dn x0 x1 a b * x4 (ix1 b) := by
  unfold val_main_v24
  pointwise [val_main_v23, val_main_v14]
  rw [v19]
theorem v28 (a : Fin 2048) : val_main_v28 (F := Ideal) x0 x1 x3 x4 (ix2 a 0) = ∑ k, x3 (ix2 a k) * (dn x0 x1 a k * x4 (ix1 k)) := by
  unfold val_main_v28 val_main_v27 val_main_v26
  pointwise [val_main_cst_5]
  simp only [v24]
theorem v36 (a : Fin 2048) (b : Fin 1024) : val_main_v36 (F := Ideal) x0 x1 x3 x4 (ix2 a b) = NormGrad.factor (dn x0 x1 a) (row x3 a) fun k => x4 (ix1 k) := by
  unfold val_main_v36 val_main_v35 val_main_v34 val_main_v32
  pointwise [val_main_cst_7, val_main_v33, val_main_cst_6]
  refine (Fin.sum_univ_one _).trans ?_
  rw [v28, v11]
theorem ref40 (a : Fin 2048) (b : Fin 1024) :
    val_main_v40 (F := Ideal) x0 x1 x2 x3 x4 (ix2 a b) = x2 (ix2 a b) + NormGrad.grad (dn x0 x1 a) (row x3 a) (fun k => x4 (ix1 k)) b := by
  unfold val_main_v40 val_main_v39 val_main_v38 val_main_v37 val_main_v31 val_main_v30 val_main_v29
  pointwise
  rw [v24, v36, v8]
  exact NormGrad.forms (x2 (ix2 a b)) (dn x0 x1 a) (row x3 a) (fun k => x4 (ix1 k)) b
theorem ref43 (i) : val_main_v43 (F := Ideal) x0 x1 x2 x3 x4 i = Ideal.ofBits .f32 1056964608#32 * val_main_v40 (F := Ideal) x0 x1 x2 x3 x4 i := by
  unfold val_main_v43 val_main_v42; pointwise [val_main_v41, val_main_cst_8]
theorem ref44 (b : Fin 1024) : val_main_v44 (F := Ideal) x0 x1 x3 (ix2 0 b) = ∑ a, dgs x0 x1 x3 b a := by
  unfold val_main_v44 val_main_v25 val_main_v22 val_main_v21 val_main_v20 val_main_v13 val_main_v12
  pointwise [val_main_cst_3, val_main_cst_4]
  refine (Fin.sum_univ_one _).trans (Finset.sum_congr rfl fun a _ => ?_)
  rw [v8, v19, mul_comm]

end Reference

/-- The point of a block of rows and a part of the columns of the product, what the points before it left, and the pieces of the last part's point. -/
abbrev pt (i j : Fin 4) : Fin cfg0.N := ⟨4 * i.val + j.val, by have : cfg0.N = 16 := rfl; omega⟩
abbrev outs (c : Dev nD) (t : Fin cfg0.N) := outsAt0 m c t.val t.isLt
abbrev prev (c : Dev nD) (t : Fin cfg0.N) := outsAt0 m c (t.val - 1) (Nat.lt_of_le_of_lt (Nat.sub_le _ _) t.isLt)
abbrev acc (c : Dev nD) (t : Fin cfg0.N) : FVec Ideal S512x1024 .f32 := k0_pay3 (iblk m c 0 t) (iblk m c 1 t) (prev m c t).2.2.2
abbrev p7 (c : Dev nD) (t : Fin cfg0.N) : FVec Ideal S512x1024 .f32 := k0_pay7 (acc m c t) (iblk m c 3 t) (iblk m c 4 t) (iblk m c 2 t)
abbrev p8 (c : Dev nD) (t : Fin cfg0.N) : FVec Ideal S512x1024 .bf16 := k0_pay8 (acc m c t) (iblk m c 3 t) (iblk m c 4 t) (iblk m c 2 t)
abbrev ps (c : Dev nD) (t : Fin cfg0.N) : FVec Ideal S1x1024 .f32 := k0_pay9 (acc m c t) (iblk m c 3 t)

theorem outs_A (c : Dev nD) (t : Fin cfg0.N) (h0 : t.val % 4 = 0) (h1 : ¬1 ≤ t.val % 4) (h2 : ¬t.val % 4 = 3) :
    (outs m c t).2.2.1 = (prev m c t).2.2.1 ∧ (outs m c t).2.2.2 = k0_pay2 (iblk m c 0 t) (iblk m c 1 t) := by
  unfold outs
  rw [outsAt0_A m c t h0 h1 h2]
  refine ⟨rfl, ?_⟩
  dsimp only
  unfold sout0_A_0
  rw [View.read_writes_eq_canon _ _ _ (fun y => ?_)]; swap; exact scover0_A_0 ..
  unfold kernelRun0_A
  dsimp only
  simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, View.ld_unit_zero (S := S512x2048) hz, View.ld_unit_zero (S := S1024x2048) hz, View.ld_unit_zero (S := S512x1024) hz, View.ld_unit_zero (S := S1x1024) hz]
theorem outs_B (c : Dev nD) (t : Fin cfg0.N) (h0 : ¬t.val % 4 = 0) (h1 : 1 ≤ t.val % 4) (h2 : ¬t.val % 4 = 3) :
    (outs m c t).2.2.1 = (prev m c t).2.2.1 ∧ (outs m c t).2.2.2 = acc m c t := by
  unfold outs acc prev
  rw [outsAt0_B m c t h0 h1 h2]
  refine ⟨rfl, ?_⟩
  dsimp only
  unfold sout0_B_0
  rw [View.read_writes_eq_canon _ _ _ (fun y => ?_)]; swap; exact scover0_B_0 ..
  unfold kernelRun0_B
  dsimp only
  simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, (Memref.isWhole_whole _).read_unread, View.ld_unit_zero (S := S512x2048) hz, View.ld_unit_zero (S := S1024x2048) hz, View.ld_unit_zero (S := S512x1024) hz, View.ld_unit_zero (S := S1x1024) hz]
theorem outs_C (c : Dev nD) (t : Fin cfg0.N) (h0 : ¬t.val % 4 = 0) (h1 : 1 ≤ t.val % 4) (h2 : t.val % 4 = 3) (h3 : t.val < 4) (h4 : ¬4 ≤ t.val) :
    (outs m c t).1 = p7 m c t ∧ (outs m c t).2.1 = p8 m c t ∧ (outs m c t).2.2.1 = ps m c t := by
  unfold outs p7 p8 ps acc prev
  rw [outsAt0_C m c t h0 h1 h2 h3 h4]
  refine ⟨?_, ?_, ?_⟩
  all_goals
    dsimp only
    first
      | unfold out0_C_5; rw [View.read_writes_eq_canon _ _ _ (fun y => ?_)]; swap; exact cover0_C_5 ..
      | unfold out0_C_6; rw [View.read_writes_eq_canon _ _ _ (fun y => ?_)]; swap; exact cover0_C_6 ..
      | unfold out0_C_7; rw [View.read_writes_eq_canon _ _ _ (fun y => ?_)]; swap; exact cover0_C_7 ..
    unfold kernelRun0_C
    dsimp only
    simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, (Memref.isWhole_whole _).read_unread, kernelRun0_C.sl.r, kernelRun0_C.sl.v12, kernelRun0_C.sl.HS0_1, View.readCov_unit_zero (S := S512x1024) _ hz, View.ld_unit_zero (S := S512x2048) hz, View.ld_unit_zero (S := S1024x2048) hz, View.ld_unit_zero (S := S512x1024) hz, View.ld_unit_zero (S := S1x1024) hz]
theorem outs_D (c : Dev nD) (t : Fin cfg0.N) (h0 : ¬t.val % 4 = 0) (h1 : 1 ≤ t.val % 4) (h2 : t.val % 4 = 3) (h3 : ¬t.val < 4) (h4 : 4 ≤ t.val) :
    (outs m c t).1 = p7 m c t ∧ (outs m c t).2.1 = p8 m c t ∧ (outs m c t).2.2.1 = k0_pay4 (ps m c t) (prev m c t).2.2.1 := by
  unfold outs p7 p8 ps acc prev
  rw [outsAt0_D m c t h0 h1 h2 h3 h4]
  refine ⟨?_, ?_, ?_⟩
  all_goals
    dsimp only
    first
      | unfold out0_D_5; rw [View.read_writes_eq_canon _ _ _ (fun y => ?_)]; swap; exact cover0_D_5 ..
      | unfold out0_D_6; rw [View.read_writes_eq_canon _ _ _ (fun y => ?_)]; swap; exact cover0_D_6 ..
      | unfold out0_D_7; rw [View.read_writes_eq_canon _ _ _ (fun y => ?_)]; swap; exact cover0_D_7 ..
    unfold kernelRun0_D
    dsimp only
    simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, (hs0_7 t).read_unread, (Memref.isWhole_whole _).read_unread, kernelRun0_D.sl.r, kernelRun0_D.sl.v12, kernelRun0_D.sl.HS0_1, View.readCov_unit_zero (S := S512x1024) _ hz, View.ld_unit_zero (S := S512x2048) hz, View.ld_unit_zero (S := S1024x2048) hz, View.ld_unit_zero (S := S512x1024) hz, View.ld_unit_zero (S := S1x1024) hz]

theorem idx : ∀ (i j : Fin 4), win0_0.index (pt i j) = ![i.val, j.val] ∧ win0_1.index (pt i j) = ![0, j.val] ∧ win0_2.index (pt i j) = ![i.val, 0]
    ∧ win0_3.index (pt i j) = ![i.val, 0] ∧ win0_4.index (pt i j) = ![0, 0] ∧ win0_5.index (pt i j) = ![i.val, 0] ∧ win0_6.index (pt i j) = ![i.val, 0] ∧ win0_7.index (pt i j) = ![0, 0] := by
  decide +kernel

/-- The row of a block's element in the whole array, and the column of a part's. -/
abbrev rowOf (i : Fin 4) (a : Fin 512) : Fin 2048 := ⟨i.val * 512 + a.val, by omega⟩
abbrev colOf (j : Fin 4) (k : Fin 2048) : Fin 8192 := ⟨j.val * 2048 + k.val, by omega⟩

theorem emb5 (i j : Fin 4) (a : Fin 512) (b : Fin 1024) : ((View.whole main_v1_0).slice (win0_5.rect (pt i j))).emb (ix2 a b) = ix2 (rowOf i a) b := by
  blk_ext [idx i j]
theorem emb6 (i j : Fin 4) (a : Fin 512) (b : Fin 1024) : ((View.whole main_v1_1).slice (win0_6.rect (pt i j))).emb (ix2 a b) = ix2 (rowOf i a) b := by
  blk_ext [idx i j]
theorem emb7 (i j : Fin 4) (a : Fin 1) (b : Fin 1024) : ((View.whole main_v1_2).slice (win0_7.rect (pt i j))).emb (ix2 a b) = ix2 a b := by
  blk_ext [idx i j]

/-- The arguments. -/
abbrev X0 (c : Dev nD) : FVec Ideal S2048x8192 .bf16 := m ((c : Thread nD τ).loc main_arg0)
abbrev X1 (c : Dev nD) : FVec Ideal S1024x8192 .bf16 := m ((c : Thread nD τ).loc main_arg1)
abbrev X2 (c : Dev nD) : FVec Ideal S2048x1024 .f32 := m ((c : Thread nD τ).loc main_arg2)
abbrev X3 (c : Dev nD) : FVec Ideal S2048x1024 .f32 := m ((c : Thread nD τ).loc main_arg3)
abbrev X4 (c : Dev nD) : FVec Ideal S1024 .f32 := m ((c : Thread nD τ).loc main_arg4)
theorem read0 (c : Dev nD) (i j : Fin 4) (a : Fin 512) (k : Fin 2048) : iblk m c 0 (pt i j) (ix2 a k) = X0 m c (ix2 (rowOf i a) (colOf j k)) := by
  unfold iblk
  rw [show V m c (Pipeline.arrRef spec0 0) = m ((c : Thread nD τ).loc main_arg0) from V_main_arg0 m c]
  blk_ext [idx i j]
theorem read1 (c : Dev nD) (i j : Fin 4) (b : Fin 1024) (k : Fin 2048) : iblk m c 1 (pt i j) (ix2 b k) = X1 m c (ix2 b (colOf j k)) := by
  unfold iblk
  rw [show V m c (Pipeline.arrRef spec0 1) = m ((c : Thread nD τ).loc main_arg1) from V_main_arg1 m c]
  blk_ext [idx i j]
theorem read2 (c : Dev nD) (i j : Fin 4) (a : Fin 512) (b : Fin 1024) : iblk m c 2 (pt i j) (ix2 a b) = X2 m c (ix2 (rowOf i a) b) := by
  unfold iblk
  rw [show V m c (Pipeline.arrRef spec0 2) = m ((c : Thread nD τ).loc main_arg2) from V_main_arg2 m c]
  blk_ext [idx i j]
theorem read3 (c : Dev nD) (i j : Fin 4) (a : Fin 512) (b : Fin 1024) : iblk m c 3 (pt i j) (ix2 a b) = X3 m c (ix2 (rowOf i a) b) := by
  unfold iblk
  rw [show V m c (Pipeline.arrRef spec0 3) = m ((c : Thread nD τ).loc main_arg3) from V_main_arg3 m c]
  blk_ext [idx i j]
theorem V4 (c : Dev nD) : V m c (Pipeline.arrRef spec0 4) = shapeCast S1x1024 (X4 m c) shapeCasts_S1024_S1x1024 := by
  show V m c main_v0 = _
  unfold V; after_reads_simp; rfl
theorem read4 (c : Dev nD) (i j : Fin 4) (b : Fin 1024) : iblk m c 4 (pt i j) (ix2 0 b) = X4 m c (ix1 b) := by
  have h : iblk m c 4 (pt i j) (ix2 0 b) = shapeCast S1x1024 (X4 m c) shapeCasts_S1024_S1x1024 (ix2 0 b) := by
    unfold iblk
    rw [V4]
    blk_ext [idx i j]
  rw [h]; pointwise

section Block

variable (c : Dev nD) (i : Fin 4)

/-- A part of the product; the parts added up; the pieces of the last part's point at an entry are the reference's at the entry's place in the whole arrays. -/
abbrev dot (a : Fin 2048) (b : Fin 1024) (j : Fin 4) : EReal := ∑ k, X0 m c (ix2 a (colOf j k)) * X1 m c (ix2 b (colOf j k))
theorem dot_at (j : Fin 4) (a : Fin 512) (b : Fin 1024) : k0_pay2 (iblk m c 0 (pt i j)) (iblk m c 1 (pt i j)) (ix2 a b) = dot m c (rowOf i a) b j :=
  (pay2 _ _ a b).trans <| Finset.sum_congr rfl fun k _ => congrArg₂ (fun p q : EReal => p * q) (read0 m c i j a k) (read1 m c i j b k)
theorem acc1 (a : Fin 512) (b : Fin 1024) : acc m c (pt i 1) (ix2 a b) = dot m c (rowOf i a) b 0 + dot m c (rowOf i a) b 1 := by
  refine (pay3 _ _ _ a b).trans (congrArg₂ (fun p q : EReal => p + q) ?_ (dot_at m c i 1 a b))
  exact (congrFun (outs_A m c (pt i 0) (by show (4 * i.val + 0) % 4 = 0; omega) (by show ¬1 ≤ (4 * i.val + 0) % 4; omega) (by show ¬(4 * i.val + 0) % 4 = 3; omega)).2 (ix2 a b)).trans
    (dot_at m c i 0 a b)
theorem acc2 (a : Fin 512) (b : Fin 1024) : acc m c (pt i 2) (ix2 a b) = dot m c (rowOf i a) b 0 + dot m c (rowOf i a) b 1 + dot m c (rowOf i a) b 2 := by
  refine (pay3 _ _ _ a b).trans (congrArg₂ (fun p q : EReal => p + q) ?_ (dot_at m c i 2 a b))
  exact (congrFun (outs_B m c (pt i 1) (by show ¬(4 * i.val + 1) % 4 = 0; omega) (by show 1 ≤ (4 * i.val + 1) % 4; omega) (by show ¬(4 * i.val + 1) % 4 = 3; omega)).2 (ix2 a b)).trans (acc1 m c i a b)
theorem acc_at (a : Fin 512) (b : Fin 1024) : acc m c (pt i 3) (ix2 a b) = dn (X0 m c) (X1 m c) (rowOf i a) b := by
  refine ((pay3 _ _ _ a b).trans (congrArg₂ (fun p q : EReal => p + q) ?_ (dot_at m c i 3 a b))).trans
    (NormGrad.quarters fun k => X0 m c (ix2 (rowOf i a) k) * X1 m c (ix2 b k)).symm
  exact (congrFun (outs_B m c (pt i 2) (by show ¬(4 * i.val + 2) % 4 = 0; omega) (by show 1 ≤ (4 * i.val + 2) % 4; omega) (by show ¬(4 * i.val + 2) % 4 = 3; omega)).2 (ix2 a b)).trans (acc2 m c i a b)
theorem p7_at (a : Fin 512) (b : Fin 1024) : p7 m c (pt i 3) (ix2 a b)
    = X2 m c (ix2 (rowOf i a) b) + NormGrad.grad (dn (X0 m c) (X1 m c) (rowOf i a)) (row (X3 m c) (rowOf i a)) (fun k => X4 m c (ix1 k)) b :=
  (pay7 _ _ _ _ a b).trans (congrArg₂ (fun p q : EReal => p + q) (read2 m c i 3 a b)
    (NormGrad.grad_congr (fun k => acc_at m c i a k) (fun k => read3 m c i 3 a k) (fun k => read4 m c i 3 k) b))
theorem ps_at (b : Fin 1024) : ps m c (pt i 3) (ix2 0 b) = NormGrad.part (dgs (X0 m c) (X1 m c) (X3 m c) b) i.val i.isLt :=
  (pay9 _ _ b).trans (Finset.sum_congr rfl fun a _ => congrArg₂ (fun p q : EReal => p * q) (acc_at m c i a b)
    (congrArg₂ (fun p q : EReal => p * q) (read3 m c i 3 a b) (congrArg NormGrad.inv (funext fun k => read3 m c i 3 a k))))

/-- What the last part's point leaves, and the row of sums after every block of rows. -/
theorem outs2 : (outs m c (pt i 3)).1 = p7 m c (pt i 3) ∧ (outs m c (pt i 3)).2.1 = p8 m c (pt i 3) := by
  by_cases h : i.val = 0
  · have q := outs_C m c (pt i 3) (by show ¬(4 * i.val + 3) % 4 = 0; omega) (by show 1 ≤ (4 * i.val + 3) % 4; omega) (by show (4 * i.val + 3) % 4 = 3; omega) (by show 4 * i.val + 3 < 4; omega) (by show ¬4 ≤ 4 * i.val + 3; omega); exact ⟨q.1, q.2.1⟩
  · have q := outs_D m c (pt i 3) (by show ¬(4 * i.val + 3) % 4 = 0; omega) (by show 1 ≤ (4 * i.val + 3) % 4; omega) (by show (4 * i.val + 3) % 4 = 3; omega) (by show ¬4 * i.val + 3 < 4; omega) (by show 4 ≤ 4 * i.val + 3; omega); exact ⟨q.1, q.2.1⟩
theorem row0 (h : i.val = 0) (b : Fin 1024) : (outs m c (pt i 3)).2.2.1 (ix2 0 b) = NormGrad.part (dgs (X0 m c) (X1 m c) (X3 m c) b) i.val i.isLt := by
  rw [(outs_C m c (pt i 3) (by show ¬(4 * i.val + 3) % 4 = 0; omega) (by show 1 ≤ (4 * i.val + 3) % 4; omega) (by show (4 * i.val + 3) % 4 = 3; omega) (by show 4 * i.val + 3 < 4; omega) (by show ¬4 ≤ 4 * i.val + 3; omega)).2.2, ps_at]
theorem rowS (h : ¬i.val = 0) (b : Fin 1024) : (outs m c (pt i 3)).2.2.1 (ix2 0 b)
    = (prev m c (pt i 3)).2.2.1 (ix2 0 b) + NormGrad.part (dgs (X0 m c) (X1 m c) (X3 m c) b) i.val i.isLt := by
  rw [(outs_D m c (pt i 3) (by show ¬(4 * i.val + 3) % 4 = 0; omega) (by show 1 ≤ (4 * i.val + 3) % 4; omega) (by show (4 * i.val + 3) % 4 = 3; omega) (by show ¬4 * i.val + 3 < 4; omega) (by show 4 ≤ 4 * i.val + 3; omega)).2.2, pay4, ps_at]
theorem carry (n : ℕ) (hn : n + 1 < 4) : (prev m c (pt ⟨n + 1, hn⟩ 3)).2.2.1 = (outs m c (pt ⟨n, by omega⟩ 3)).2.2.1 := by
  let i : Fin 4 := ⟨n + 1, hn⟩
  refine (outs_B m c (pt i 2) (by show ¬(4 * i.val + 2) % 4 = 0; omega) (by show 1 ≤ (4 * i.val + 2) % 4; omega) (by show ¬(4 * i.val + 2) % 4 = 3; omega)).1.trans ?_
  refine (outs_B m c (pt i 1) (by show ¬(4 * i.val + 1) % 4 = 0; omega) (by show 1 ≤ (4 * i.val + 1) % 4; omega) (by show ¬(4 * i.val + 1) % 4 = 3; omega)).1.trans ?_
  exact (outs_A m c (pt i 0) (by show (4 * i.val + 0) % 4 = 0; omega) (by show ¬1 ≤ (4 * i.val + 0) % 4; omega) (by show ¬(4 * i.val + 0) % 4 = 3; omega)).1
theorem sums (b : Fin 1024) : (outs m c (pt 3 3)).2.2.1 (ix2 0 b) = ∑ a, dgs (X0 m c) (X1 m c) (X3 m c) b a :=
  NormGrad.accumulated _ (fun n hn => (outs m c (pt ⟨n, hn⟩ 3)).2.2.1 (ix2 0 b)) (row0 m c 0 rfl b) fun n hn =>
    (rowS m c ⟨n + 1, hn⟩ (Nat.succ_ne_zero n) b).trans (congrArg₂ (fun p q : EReal => p + q) (congrFun (carry m c n hn) (ix2 0 b)) rfl)

end Block

theorem flushes : ∀ t : Fin cfg0.N, ((cfg0.win 5).flush t = true → ∃ i, t = pt i 3) ∧ ((cfg0.win 6).flush t = true → ∃ i, t = pt i 3) ∧ ((cfg0.win 7).flush t = true → t = pt 3 3) := by decide +kernel

theorem final7 (c : Dev nD) : (dats m 0 c).arrAt 7 cfg0.N = val_main_v44 (F := Ideal) (X0 m c) (X1 m c) (X3 m c) := by
  refine (dats m 0 c).arrAt_eq_of_covers 7 _ (by decide +kernel) fun t hf y => ?_
  obtain rfl := (flushes t).2.2 hf
  blk_simp
  rw [after0_7]
  idx_vars y
  obtain rfl : y0 = 0 := Subsingleton.elim _ _
  rw [emb7, ref44]
  exact sums m c y1

section Finals

variable (c : Dev nD)

theorem final5 : (dats m 0 c).arrAt 5 cfg0.N = val_main_v40 (F := Ideal) (X0 m c) (X1 m c) (X2 m c) (X3 m c) (X4 m c) := by
  refine (dats m 0 c).arrAt_eq_of_covers 5 _ (by decide +kernel) fun t hf y => ?_
  obtain ⟨i, rfl⟩ := (flushes t).1 hf
  blk_simp
  rw [after0_5]
  idx_vars y
  rw [emb5, ref40 _ _ _ _ _ _ _]
  exact (congrFun (outs2 m c i).1 (ix2 y0 y1)).trans (p7_at m c i y0 y1)
theorem final6 : (dats m 0 c).arrAt 6 cfg0.N = val_main_v43 (F := Ideal) (X0 m c) (X1 m c) (X2 m c) (X3 m c) (X4 m c) := by
  refine (dats m 0 c).arrAt_eq_of_covers 6 _ (by decide +kernel) fun t hf y => ?_
  obtain ⟨i, rfl⟩ := (flushes t).2.1 hf
  blk_simp
  rw [after0_6]
  idx_vars y
  rw [emb6, ref43, ref40 _ _ _ _ _ _ _]
  exact (congrFun (outs2 m c i).2 (ix2 y0 y1)).trans ((pay8 _ _ _ _ y0 y1).trans (congrArg (fun q : EReal => Ideal.ofBits .f32 1056964608#32 * q) (p7_at m c i y0 y1)))

end Finals

theorem algebraic : Cert.algebraic_MixDnIdeal_MixDnRefIdeal := by
  intro m g m' g' _ hag
  refine ⟨fun c => val_main_v40 (F := Ideal) (X0 m c) (X1 m c) (X2 m c) (X3 m c) (X4 m c), fun c => val_main_v43 (F := Ideal) (X0 m c) (X1 m c) (X2 m c) (X3 m c) (X4 m c), fun c => val_main_v44 (F := Ideal) (X0 m c) (X1 m c) (X3 m c), ?_, ?_⟩
  · refine (θ_run defs _ _).mono (fun r h c => ?_) (Value.run_blocks m g)
    exact ⟨(h c).1.trans (final5 m c), (h c).2.1.trans (final6 m c), (h c).2.2.1.trans (final7 m c), (h c).2.2.2⟩
  · refine (θ_run MixDnRefIdeal.defs _ _).mono (fun r h c => ⟨(h c).1.trans ?_, (h c).2.1.trans ?_, (h c).2.2.1.trans ?_, (h c).2.2.2⟩) (MixDnRefIdeal.Value.run (F := Ideal) m' g')
    · rw [val_main_v40_eq, (hag c).1, (hag c).2.1, (hag c).2.2.1, (hag c).2.2.2.1, (hag c).2.2.2.2]
    · rw [val_main_v43_eq, (hag c).1, (hag c).2.1, (hag c).2.2.1, (hag c).2.2.2.1, (hag c).2.2.2.2]
    · rw [val_main_v44_eq, (hag c).1, (hag c).2.1, (hag c).2.2.2.1]

end Cert.MixDnIdeal.Claims
-- ==== Proof.Ffn2Dn.lean ====
/- The gradient through a projection and the norm before it, the product's columns in parts, a block of rows per round. -/
module

public import proofs.«01_k».proof.Defs
public import proofs.«01_k».proof.Proof.Gen.Ffn2DnIdeal.Value
public import proofs.«01_k».proof.Proof.Gen.Ffn2DnRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.Ffn2DnIdeal.Claims

open Cert.Ffn2DnIdeal Cert.Ffn2DnIdeal.Gen

variable (m : (ℓ : Loc nD τ sig) → Buf (Elt Ideal) ℓ)

open Ffn2DnRefIdeal.Read

theorem hz : (![0, 0] : Fin 2 → Nat) = fun _ => 0 := funext fun a => by fin_cases a <;> rfl
theorem hz3 : (![0, 0, 0] : Fin 3 → Nat) = fun _ => 0 := funext fun a => by fin_cases a <;> rfl

section Payloads

variable (u : Vec Ideal S1x512x2816 .bf16) (v : Vec Ideal S1024x2816 .bf16) (d x h : Vec Ideal S512x1024 .f32) (g : Vec Ideal S1x1024 .f32) (a : Fin 512) (b : Fin 1024)

theorem pay2 : k0_pay2 u v (ix2 a b) = ∑ k, u (ix3 0 a k) * v (ix2 b k) := by
  unfold_payloads; pointwise
theorem pay3 : k0_pay3 u v d (ix2 a b) = d (ix2 a b) + k0_pay2 u v (ix2 a b) := by
  rw [pay2]; unfold_payloads; pointwise
theorem pay5 : k0_pay5 x (ix2 a 0) = NormGrad.inv fun k => x (ix2 a k) := by
  unfold_payloads; pointwise
theorem pay6 : k0_pay6 x (ix2 a b) = x (ix2 a b) * NormGrad.inv fun k => x (ix2 a k) := by
  unfold k0_pay6; pointwise; rw [pay5]
theorem pay7 : k0_pay7 d x g h (ix2 a b) = h (ix2 a b) + NormGrad.grad (fun k => d (ix2 a k)) (fun k => x (ix2 a k)) (fun k => g (ix2 0 k)) b := by
  unfold k0_pay7; pointwise; simp only [pay5, pay6]
theorem pay8 : k0_pay8 d x g h (ix2 a b) = k0_pay7 d x g h (ix2 a b) := by
  unfold k0_pay8; pointwise
theorem pay9 : k0_pay9 d x (ix2 0 b) = ∑ a, d (ix2 a b) * (x (ix2 a b) * NormGrad.inv fun k => x (ix2 a k)) := by
  unfold k0_pay9; pointwise; simp only [pay6]
theorem pay4 (s p : Vec Ideal S1x1024 .f32) : k0_pay4 s p (ix2 0 b) = p (ix2 0 b) + s (ix2 0 b) := by
  unfold_payloads; pointwise

end Payloads

section Reference

variable (x0 : FVec Ideal S2048x5632 .bf16) (x1 : FVec Ideal S1024x5632 .bf16) (x2 x3 : FVec Ideal S2048x1024 .f32) (x4 : FVec Ideal S1024 .f32)

/-- The gradient arriving at the norm, an entry and a row; a row of the norm's input; an entry of the summands of the weight's gradient. -/
abbrev dn (a : Fin 2048) (b : Fin 1024) : EReal := ∑ k, x0 (ix2 a k) * x1 (ix2 b k)
abbrev row (a : Fin 2048) (b : Fin 1024) : EReal := x3 (ix2 a b)
abbrev dgs (b : Fin 1024) (a : Fin 2048) : EReal := dn x0 x1 a b * (x3 (ix2 a b) * NormGrad.inv (row x3 a))

theorem v7 (a : Fin 2048) : val_main_v7 (F := Ideal) x3 (ix2 a 0) = NormGrad.sq (row x3 a) := by
  unfold val_main_v7 val_main_v5 val_main_v3 val_main_v2 val_main_v1
  pointwise [val_main_v6, val_main_v4, val_main_cst, val_main_cst_0, val_main_cst_1]
theorem v8 (a : Fin 2048) : val_main_v8 (F := Ideal) x3 (ix2 a 0) = NormGrad.inv (row x3 a) := by
  unfold val_main_v8; pointwise; rw [v7]
theorem v11 (a : Fin 2048) : val_main_v11 (F := Ideal) x3 (ix2 a 0) = NormGrad.mhalf * Ideal.div (NormGrad.inv (row x3 a)) (NormGrad.sq (row x3 a)) := by
  unfold val_main_v11 val_main_v9
  pointwise [val_main_v10, val_main_cst_2]
  rw [v7, v8]
theorem v19 (a : Fin 2048) (b : Fin 1024) : val_main_v19 (F := Ideal) x0 x1 (ix2 a b) = dn x0 x1 a b := by
  pointwise [val_main_v19, val_main_v18, val_main_v0]
theorem v24 (a : Fin 2048) (b : Fin 1024) : val_main_v24 (F := Ideal) x0 x1 x4 (ix2 a b) = dn x0 x1 a b * x4 (ix1 b) := by
  unfold val_main_v24
  pointwise [val_main_v23, val_main_v14]
  rw [v19]
theorem v28 (a : Fin 2048) : val_main_v28 (F := Ideal) x0 x1 x3 x4 (ix2 a 0) = ∑ k, x3 (ix2 a k) * (dn x0 x1 a k * x4 (ix1 k)) := by
  unfold val_main_v28 val_main_v27 val_main_v26
  pointwise [val_main_cst_5]
  simp only [v24]
theorem v36 (a : Fin 2048) (b : Fin 1024) : val_main_v36 (F := Ideal) x0 x1 x3 x4 (ix2 a b) = NormGrad.factor (dn x0 x1 a) (row x3 a) fun k => x4 (ix1 k) := by
  unfold val_main_v36 val_main_v35 val_main_v34 val_main_v32
  pointwise [val_main_cst_7, val_main_v33, val_main_cst_6]
  refine (Fin.sum_univ_one _).trans ?_
  rw [v28, v11]
theorem ref40 (a : Fin 2048) (b : Fin 1024) :
    val_main_v40 (F := Ideal) x0 x1 x2 x3 x4 (ix2 a b) = x2 (ix2 a b) + NormGrad.grad (dn x0 x1 a) (row x3 a) (fun k => x4 (ix1 k)) b := by
  unfold val_main_v40 val_main_v39 val_main_v38 val_main_v37 val_main_v31 val_main_v30 val_main_v29
  pointwise
  rw [v24, v36, v8]
  exact NormGrad.forms (x2 (ix2 a b)) (dn x0 x1 a) (row x3 a) (fun k => x4 (ix1 k)) b
theorem ref41 (i) : val_main_v41 (F := Ideal) x0 x1 x2 x3 x4 i = val_main_v40 (F := Ideal) x0 x1 x2 x3 x4 i := by
  unfold val_main_v41; pointwise
theorem ref42 (b : Fin 1024) : val_main_v42 (F := Ideal) x0 x1 x3 (ix2 0 b) = ∑ a, dgs x0 x1 x3 b a := by
  unfold val_main_v42 val_main_v25 val_main_v22 val_main_v21 val_main_v20 val_main_v13 val_main_v12
  pointwise [val_main_cst_3, val_main_cst_4]
  refine (Fin.sum_univ_one _).trans (Finset.sum_congr rfl fun a _ => ?_)
  rw [v8, v19, mul_comm]

end Reference

/-- The point of a block of rows and a part of the columns of the product, what the points before it left, and the pieces of the last part's point. -/
abbrev pt (i : Fin 4) (j : Fin 2) : Fin cfg0.N := ⟨2 * i.val + j.val, by have : cfg0.N = 8 := rfl; omega⟩
abbrev outs (c : Dev nD) (t : Fin cfg0.N) := outsAt0 m c t.val t.isLt
abbrev prev (c : Dev nD) (t : Fin cfg0.N) := outsAt0 m c (t.val - 1) (Nat.lt_of_le_of_lt (Nat.sub_le _ _) t.isLt)
abbrev acc (c : Dev nD) (t : Fin cfg0.N) : FVec Ideal S512x1024 .f32 := k0_pay3 (iblk m c 0 t) (iblk m c 1 t) (prev m c t).2.2.2
abbrev p7 (c : Dev nD) (t : Fin cfg0.N) : FVec Ideal S512x1024 .f32 := k0_pay7 (acc m c t) (iblk m c 3 t) (iblk m c 4 t) (iblk m c 2 t)
abbrev p8 (c : Dev nD) (t : Fin cfg0.N) : FVec Ideal S512x1024 .bf16 := k0_pay8 (acc m c t) (iblk m c 3 t) (iblk m c 4 t) (iblk m c 2 t)
abbrev ps (c : Dev nD) (t : Fin cfg0.N) : FVec Ideal S1x1024 .f32 := k0_pay9 (acc m c t) (iblk m c 3 t)

theorem outs_A (c : Dev nD) (t : Fin cfg0.N) (h0 : t.val % 2 = 0) (h1 : ¬t.val % 2 = 1) :
    (outs m c t).2.2.1 = (prev m c t).2.2.1 ∧ (outs m c t).2.2.2 = k0_pay2 (iblk m c 0 t) (iblk m c 1 t) := by
  unfold outs
  rw [outsAt0_A m c t h0 h1 h1]
  refine ⟨rfl, ?_⟩
  dsimp only
  unfold sout0_A_0
  rw [View.read_writes_eq_canon _ _ _ (fun y => ?_)]; swap; exact scover0_A_0 ..
  unfold kernelRun0_A
  dsimp only
  simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, View.ld_unit_zero (S := S1x512x2816) hz3, View.ld_unit_zero (S := S1024x2816) hz, View.ld_unit_zero (S := S512x1024) hz, View.ld_unit_zero (S := S1x1024) hz]
theorem outs_B (c : Dev nD) (t : Fin cfg0.N) (h0 : ¬t.val % 2 = 0) (h1 : t.val % 2 = 1) (h3 : t.val < 2) (h4 : ¬2 ≤ t.val) :
    (outs m c t).1 = p7 m c t ∧ (outs m c t).2.1 = p8 m c t ∧ (outs m c t).2.2.1 = ps m c t := by
  unfold outs p7 p8 ps acc prev
  rw [outsAt0_B m c t h0 h1 h1 h3 h4]
  refine ⟨?_, ?_, ?_⟩
  all_goals
    dsimp only
    first
      | unfold out0_B_5; rw [View.read_writes_eq_canon _ _ _ (fun y => ?_)]; swap; exact cover0_B_5 ..
      | unfold out0_B_6; rw [View.read_writes_eq_canon _ _ _ (fun y => ?_)]; swap; exact cover0_B_6 ..
      | unfold out0_B_7; rw [View.read_writes_eq_canon _ _ _ (fun y => ?_)]; swap; exact cover0_B_7 ..
    unfold kernelRun0_B
    dsimp only
    simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, (Memref.isWhole_whole _).read_unread, kernelRun0_B.sl.r, kernelRun0_B.sl.v13, kernelRun0_B.sl.HS0_1, View.readCov_unit_zero (S := S512x1024) _ hz, View.ld_unit_zero (S := S1x512x2816) hz3, View.ld_unit_zero (S := S1024x2816) hz, View.ld_unit_zero (S := S512x1024) hz, View.ld_unit_zero (S := S1x1024) hz]
theorem outs_C (c : Dev nD) (t : Fin cfg0.N) (h0 : ¬t.val % 2 = 0) (h1 : t.val % 2 = 1) (h3 : ¬t.val < 2) (h4 : 2 ≤ t.val) :
    (outs m c t).1 = p7 m c t ∧ (outs m c t).2.1 = p8 m c t ∧ (outs m c t).2.2.1 = k0_pay4 (ps m c t) (prev m c t).2.2.1 := by
  unfold outs p7 p8 ps acc prev
  rw [outsAt0_C m c t h0 h1 h1 h3 h4]
  refine ⟨?_, ?_, ?_⟩
  all_goals
    dsimp only
    first
      | unfold out0_C_5; rw [View.read_writes_eq_canon _ _ _ (fun y => ?_)]; swap; exact cover0_C_5 ..
      | unfold out0_C_6; rw [View.read_writes_eq_canon _ _ _ (fun y => ?_)]; swap; exact cover0_C_6 ..
      | unfold out0_C_7; rw [View.read_writes_eq_canon _ _ _ (fun y => ?_)]; swap; exact cover0_C_7 ..
    unfold kernelRun0_C
    dsimp only
    simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, (hs0_7 t).read_unread, (Memref.isWhole_whole _).read_unread, kernelRun0_C.sl.r, kernelRun0_C.sl.v13, kernelRun0_C.sl.HS0_1, View.readCov_unit_zero (S := S512x1024) _ hz, View.ld_unit_zero (S := S1x512x2816) hz3, View.ld_unit_zero (S := S1024x2816) hz, View.ld_unit_zero (S := S512x1024) hz, View.ld_unit_zero (S := S1x1024) hz]

theorem idx : ∀ (i : Fin 4) (j : Fin 2), win0_0.index (pt i j) = ![j.val, i.val, 0] ∧ win0_1.index (pt i j) = ![0, j.val] ∧ win0_2.index (pt i j) = ![i.val, 0]
    ∧ win0_3.index (pt i j) = ![i.val, 0] ∧ win0_4.index (pt i j) = ![0, 0] ∧ win0_5.index (pt i j) = ![i.val, 0] ∧ win0_6.index (pt i j) = ![i.val, 0] ∧ win0_7.index (pt i j) = ![0, 0] := by
  decide +kernel

/-- The row of a block's element in the whole array, and the column of a part's. -/
abbrev rowOf (i : Fin 4) (a : Fin 512) : Fin 2048 := ⟨i.val * 512 + a.val, by omega⟩
abbrev colOf (j : Fin 2) (k : Fin 2816) : Fin 5632 := ⟨j.val * 2816 + k.val, by omega⟩

theorem emb5 (i : Fin 4) (j : Fin 2) (a : Fin 512) (b : Fin 1024) : ((View.whole main_v6_0).slice (win0_5.rect (pt i j))).emb (ix2 a b) = ix2 (rowOf i a) b := by
  blk_ext [idx i j]
theorem emb6 (i : Fin 4) (j : Fin 2) (a : Fin 512) (b : Fin 1024) : ((View.whole main_v6_1).slice (win0_6.rect (pt i j))).emb (ix2 a b) = ix2 (rowOf i a) b := by
  blk_ext [idx i j]
theorem emb7 (i : Fin 4) (j : Fin 2) (a : Fin 1) (b : Fin 1024) : ((View.whole main_v6_2).slice (win0_7.rect (pt i j))).emb (ix2 a b) = ix2 a b := by
  blk_ext [idx i j]

/-- The arguments. -/
abbrev X0 (c : Dev nD) : FVec Ideal S2048x5632 .bf16 := m ((c : Thread nD τ).loc main_arg0)
abbrev X1 (c : Dev nD) : FVec Ideal S1024x5632 .bf16 := m ((c : Thread nD τ).loc main_arg1)
abbrev X2 (c : Dev nD) : FVec Ideal S2048x1024 .f32 := m ((c : Thread nD τ).loc main_arg2)
abbrev X3 (c : Dev nD) : FVec Ideal S2048x1024 .f32 := m ((c : Thread nD τ).loc main_arg3)
abbrev X4 (c : Dev nD) : FVec Ideal S1024 .f32 := m ((c : Thread nD τ).loc main_arg4)
/-- The two halves of the product's gradient laid one over the other, as the program does before the call. -/
def halves (w : FVec Ideal S2048x5632 .bf16) : FVec Ideal S2x2048x2816 .bf16 :=
  concatenate S2x2048x2816 0 [⟨S1x2048x2816, broadcastInDim S1x2048x2816 ![1, 2] bcast_S2048x2816_S1x2048x2816_1_2
      (extractStridedSlice S2048x2816 ![0, 0] w slices_S2048x5632_S2048x2816_0_0)⟩,
    ⟨S1x2048x2816, broadcastInDim S1x2048x2816 ![1, 2] bcast_S2048x2816_S1x2048x2816_1_2
      (extractStridedSlice S2048x2816 ![0, 2816] w slices_S2048x5632_S2048x2816_0_2816)⟩]
    concatenates_S1x2048x2816_S1x2048x2816_S2x2048x2816_d0
theorem halves_at (w : FVec Ideal S2048x5632 .bf16) (j : Fin 2) (a : Fin 2048) (k : Fin 2816) : halves w (ix3 j a k) = w (ix2 a (colOf j k)) := by
  unfold halves
  match j with
  | 0 => pointwise; exact congrArg (fun q => w (ix2 a q)) (Fin.ext (by simp))
  | 1 => pointwise; exact congrArg (fun q => w (ix2 a q)) (Fin.ext (by simp))
theorem V0 (c : Dev nD) : V m c (Pipeline.arrRef spec0 0) = halves (X0 m c) := by
  show V m c main_v4 = _
  unfold V; after_reads_simp; rfl
theorem read0 (c : Dev nD) (i : Fin 4) (j : Fin 2) (a : Fin 512) (k : Fin 2816) : iblk m c 0 (pt i j) (ix3 0 a k) = X0 m c (ix2 (rowOf i a) (colOf j k)) := by
  have h : iblk m c 0 (pt i j) (ix3 0 a k) = halves (X0 m c) (ix3 j (rowOf i a) k) := by
    unfold iblk
    rw [V0]
    blk_ext [idx i j]
  rw [h, halves_at]
theorem read1 (c : Dev nD) (i : Fin 4) (j : Fin 2) (b : Fin 1024) (k : Fin 2816) : iblk m c 1 (pt i j) (ix2 b k) = X1 m c (ix2 b (colOf j k)) := by
  unfold iblk
  rw [show V m c (Pipeline.arrRef spec0 1) = m ((c : Thread nD τ).loc main_arg1) from V_main_arg1 m c]
  blk_ext [idx i j]
theorem read2 (c : Dev nD) (i : Fin 4) (j : Fin 2) (a : Fin 512) (b : Fin 1024) : iblk m c 2 (pt i j) (ix2 a b) = X2 m c (ix2 (rowOf i a) b) := by
  unfold iblk
  rw [show V m c (Pipeline.arrRef spec0 2) = m ((c : Thread nD τ).loc main_arg2) from V_main_arg2 m c]
  blk_ext [idx i j]
theorem read3 (c : Dev nD) (i : Fin 4) (j : Fin 2) (a : Fin 512) (b : Fin 1024) : iblk m c 3 (pt i j) (ix2 a b) = X3 m c (ix2 (rowOf i a) b) := by
  unfold iblk
  rw [show V m c (Pipeline.arrRef spec0 3) = m ((c : Thread nD τ).loc main_arg3) from V_main_arg3 m c]
  blk_ext [idx i j]
theorem V4 (c : Dev nD) : V m c (Pipeline.arrRef spec0 4) = shapeCast S1x1024 (X4 m c) shapeCasts_S1024_S1x1024 := by
  show V m c main_v5 = _
  unfold V; after_reads_simp; rfl
theorem read4 (c : Dev nD) (i : Fin 4) (j : Fin 2) (b : Fin 1024) : iblk m c 4 (pt i j) (ix2 0 b) = X4 m c (ix1 b) := by
  have h : iblk m c 4 (pt i j) (ix2 0 b) = shapeCast S1x1024 (X4 m c) shapeCasts_S1024_S1x1024 (ix2 0 b) := by
    unfold iblk
    rw [V4]
    blk_ext [idx i j]
  rw [h]; pointwise

section Block

variable (c : Dev nD) (i : Fin 4)

/-- A part of the product; the parts added up; the pieces of the last part's point at an entry are the reference's at the entry's place in the whole arrays. -/
abbrev dot (a : Fin 2048) (b : Fin 1024) (j : Fin 2) : EReal := ∑ k, X0 m c (ix2 a (colOf j k)) * X1 m c (ix2 b (colOf j k))
theorem dot_at (j : Fin 2) (a : Fin 512) (b : Fin 1024) : k0_pay2 (iblk m c 0 (pt i j)) (iblk m c 1 (pt i j)) (ix2 a b) = dot m c (rowOf i a) b j :=
  (pay2 _ _ a b).trans <| Finset.sum_congr rfl fun k _ => congrArg₂ (fun p q : EReal => p * q) (read0 m c i j a k) (read1 m c i j b k)
theorem acc_at (a : Fin 512) (b : Fin 1024) : acc m c (pt i 1) (ix2 a b) = dn (X0 m c) (X1 m c) (rowOf i a) b := by
  refine ((pay3 _ _ _ a b).trans (congrArg₂ (fun p q : EReal => p + q) ?_ (dot_at m c i 1 a b))).trans
    (NormGrad.halves fun k => X0 m c (ix2 (rowOf i a) k) * X1 m c (ix2 b k)).symm
  exact (congrFun (outs_A m c (pt i 0) (by show (2 * i.val + 0) % 2 = 0; omega) (by show ¬(2 * i.val + 0) % 2 = 1; omega)).2 (ix2 a b)).trans
    (dot_at m c i 0 a b)
theorem p7_at (a : Fin 512) (b : Fin 1024) : p7 m c (pt i 1) (ix2 a b)
    = X2 m c (ix2 (rowOf i a) b) + NormGrad.grad (dn (X0 m c) (X1 m c) (rowOf i a)) (row (X3 m c) (rowOf i a)) (fun k => X4 m c (ix1 k)) b :=
  (pay7 _ _ _ _ a b).trans (congrArg₂ (fun p q : EReal => p + q) (read2 m c i 1 a b)
    (NormGrad.grad_congr (fun k => acc_at m c i a k) (fun k => read3 m c i 1 a k) (fun k => read4 m c i 1 k) b))
theorem ps_at (b : Fin 1024) : ps m c (pt i 1) (ix2 0 b) = NormGrad.part (dgs (X0 m c) (X1 m c) (X3 m c) b) i.val i.isLt :=
  (pay9 _ _ b).trans (Finset.sum_congr rfl fun a _ => congrArg₂ (fun p q : EReal => p * q) (acc_at m c i a b)
    (congrArg₂ (fun p q : EReal => p * q) (read3 m c i 1 a b) (congrArg NormGrad.inv (funext fun k => read3 m c i 1 a k))))

/-- What the last part's point leaves, and the row of sums after every block of rows. -/
theorem outs2 : (outs m c (pt i 1)).1 = p7 m c (pt i 1) ∧ (outs m c (pt i 1)).2.1 = p8 m c (pt i 1) := by
  by_cases h : i.val = 0
  · have q := outs_B m c (pt i 1) (by show ¬(2 * i.val + 1) % 2 = 0; omega) (by show (2 * i.val + 1) % 2 = 1; omega) (by show 2 * i.val + 1 < 2; omega) (by show ¬2 ≤ 2 * i.val + 1; omega); exact ⟨q.1, q.2.1⟩
  · have q := outs_C m c (pt i 1) (by show ¬(2 * i.val + 1) % 2 = 0; omega) (by show (2 * i.val + 1) % 2 = 1; omega) (by show ¬2 * i.val + 1 < 2; omega) (by show 2 ≤ 2 * i.val + 1; omega); exact ⟨q.1, q.2.1⟩
theorem row0 (h : i.val = 0) (b : Fin 1024) : (outs m c (pt i 1)).2.2.1 (ix2 0 b) = NormGrad.part (dgs (X0 m c) (X1 m c) (X3 m c) b) i.val i.isLt := by
  rw [(outs_B m c (pt i 1) (by show ¬(2 * i.val + 1) % 2 = 0; omega) (by show (2 * i.val + 1) % 2 = 1; omega) (by show 2 * i.val + 1 < 2; omega) (by show ¬2 ≤ 2 * i.val + 1; omega)).2.2, ps_at]
theorem rowS (h : ¬i.val = 0) (b : Fin 1024) : (outs m c (pt i 1)).2.2.1 (ix2 0 b)
    = (prev m c (pt i 1)).2.2.1 (ix2 0 b) + NormGrad.part (dgs (X0 m c) (X1 m c) (X3 m c) b) i.val i.isLt := by
  rw [(outs_C m c (pt i 1) (by show ¬(2 * i.val + 1) % 2 = 0; omega) (by show (2 * i.val + 1) % 2 = 1; omega) (by show ¬2 * i.val + 1 < 2; omega) (by show 2 ≤ 2 * i.val + 1; omega)).2.2, pay4, ps_at]
theorem carry (n : ℕ) (hn : n + 1 < 4) : (prev m c (pt ⟨n + 1, hn⟩ 1)).2.2.1 = (outs m c (pt ⟨n, by omega⟩ 1)).2.2.1 := by
  let i : Fin 4 := ⟨n + 1, hn⟩
  exact (outs_A m c (pt i 0) (by show (2 * i.val + 0) % 2 = 0; omega) (by show ¬(2 * i.val + 0) % 2 = 1; omega)).1
theorem sums (b : Fin 1024) : (outs m c (pt 3 1)).2.2.1 (ix2 0 b) = ∑ a, dgs (X0 m c) (X1 m c) (X3 m c) b a :=
  NormGrad.accumulated _ (fun n hn => (outs m c (pt ⟨n, hn⟩ 1)).2.2.1 (ix2 0 b)) (row0 m c 0 rfl b) fun n hn =>
    (rowS m c ⟨n + 1, hn⟩ (Nat.succ_ne_zero n) b).trans (congrArg₂ (fun p q : EReal => p + q) (congrFun (carry m c n hn) (ix2 0 b)) rfl)

end Block

theorem flushes : ∀ t : Fin cfg0.N, ((cfg0.win 5).flush t = true → ∃ i, t = pt i 1) ∧ ((cfg0.win 6).flush t = true → ∃ i, t = pt i 1) ∧ ((cfg0.win 7).flush t = true → t = pt 3 1) := by decide +kernel

theorem final7 (c : Dev nD) : (dats m 0 c).arrAt 7 cfg0.N = val_main_v42 (F := Ideal) (X0 m c) (X1 m c) (X3 m c) := by
  refine (dats m 0 c).arrAt_eq_of_covers 7 _ (by decide +kernel) fun t hf y => ?_
  obtain rfl := (flushes t).2.2 hf
  blk_simp
  rw [after0_7]
  idx_vars y
  obtain rfl : y0 = 0 := Subsingleton.elim _ _
  rw [emb7, ref42]
  exact sums m c y1

section Finals

variable (c : Dev nD)

theorem final5 : (dats m 0 c).arrAt 5 cfg0.N = val_main_v40 (F := Ideal) (X0 m c) (X1 m c) (X2 m c) (X3 m c) (X4 m c) := by
  refine (dats m 0 c).arrAt_eq_of_covers 5 _ (by decide +kernel) fun t hf y => ?_
  obtain ⟨i, rfl⟩ := (flushes t).1 hf
  blk_simp
  rw [after0_5]
  idx_vars y
  rw [emb5, ref40 _ _ _ _ _ _ _]
  exact (congrFun (outs2 m c i).1 (ix2 y0 y1)).trans (p7_at m c i y0 y1)
theorem final6 : (dats m 0 c).arrAt 6 cfg0.N = val_main_v41 (F := Ideal) (X0 m c) (X1 m c) (X2 m c) (X3 m c) (X4 m c) := by
  refine (dats m 0 c).arrAt_eq_of_covers 6 _ (by decide +kernel) fun t hf y => ?_
  obtain ⟨i, rfl⟩ := (flushes t).2.1 hf
  blk_simp
  rw [after0_6]
  idx_vars y
  rw [emb6, ref41, ref40 _ _ _ _ _ _ _]
  exact (congrFun (outs2 m c i).2 (ix2 y0 y1)).trans ((pay8 _ _ _ _ y0 y1).trans (p7_at m c i y0 y1))

end Finals

theorem algebraic : Cert.algebraic_Ffn2DnIdeal_Ffn2DnRefIdeal := by
  intro m g m' g' _ hag
  refine ⟨fun c => val_main_v40 (F := Ideal) (X0 m c) (X1 m c) (X2 m c) (X3 m c) (X4 m c), fun c => val_main_v41 (F := Ideal) (X0 m c) (X1 m c) (X2 m c) (X3 m c) (X4 m c), fun c => val_main_v42 (F := Ideal) (X0 m c) (X1 m c) (X3 m c), ?_, ?_⟩
  · refine (θ_run defs _ _).mono (fun r h c => ?_) (Value.run_blocks m g)
    exact ⟨(h c).1.trans (final5 m c), (h c).2.1.trans (final6 m c), (h c).2.2.1.trans (final7 m c), (h c).2.2.2⟩
  · refine (θ_run Ffn2DnRefIdeal.defs _ _).mono (fun r h c => ⟨(h c).1.trans ?_, (h c).2.1.trans ?_, (h c).2.2.1.trans ?_, (h c).2.2.2⟩) (Ffn2DnRefIdeal.Value.run (F := Ideal) m' g')
    · rw [val_main_v40_eq, (hag c).1, (hag c).2.1, (hag c).2.2.1, (hag c).2.2.2.1, (hag c).2.2.2.2]
    · rw [val_main_v41_eq, (hag c).1, (hag c).2.1, (hag c).2.2.1, (hag c).2.2.2.1, (hag c).2.2.2.2]
    · rw [val_main_v42_eq, (hag c).1, (hag c).2.1, (hag c).2.2.2.1]

end Cert.Ffn2DnIdeal.Claims
-- ==== Proof.Ffn1Dn.lean ====
/- The gradient through a projection and the norm before it, the product's columns in parts, a block of rows per round. -/
module

public import proofs.«01_k».proof.Defs
public import proofs.«01_k».proof.Proof.Gen.Ffn1DnIdeal.Value
public import proofs.«01_k».proof.Proof.Gen.Ffn1DnRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.Ffn1DnIdeal.Claims

open Cert.Ffn1DnIdeal Cert.Ffn1DnIdeal.Gen

variable (m : (ℓ : Loc nD τ sig) → Buf (Elt Ideal) ℓ)

open Ffn1DnRefIdeal.Read

theorem hz : (![0, 0] : Fin 2 → Nat) = fun _ => 0 := funext fun a => by fin_cases a <;> rfl
theorem hz3 : (![0, 0, 0] : Fin 3 → Nat) = fun _ => 0 := funext fun a => by fin_cases a <;> rfl

section Payloads

variable (u : Vec Ideal S1x512x2816 .bf16) (v : Vec Ideal S1024x2816 .bf16) (d x h : Vec Ideal S512x1024 .f32) (g : Vec Ideal S1x1024 .f32) (a : Fin 512) (b : Fin 1024)

theorem pay2 : k0_pay2 u v (ix2 a b) = ∑ k, u (ix3 0 a k) * v (ix2 b k) := by
  unfold_payloads; pointwise
theorem pay3 : k0_pay3 u v d (ix2 a b) = d (ix2 a b) + k0_pay2 u v (ix2 a b) := by
  rw [pay2]; unfold_payloads; pointwise
theorem pay5 : k0_pay5 x (ix2 a 0) = NormGrad.inv fun k => x (ix2 a k) := by
  unfold_payloads; pointwise
theorem pay6 : k0_pay6 x (ix2 a b) = x (ix2 a b) * NormGrad.inv fun k => x (ix2 a k) := by
  unfold k0_pay6; pointwise; rw [pay5]
theorem pay7 : k0_pay7 d x g h (ix2 a b) = h (ix2 a b) + NormGrad.grad (fun k => d (ix2 a k)) (fun k => x (ix2 a k)) (fun k => g (ix2 0 k)) b := by
  unfold k0_pay7; pointwise; simp only [pay5, pay6]
theorem pay8 : k0_pay8 d x (ix2 0 b) = ∑ a, d (ix2 a b) * (x (ix2 a b) * NormGrad.inv fun k => x (ix2 a k)) := by
  unfold k0_pay8; pointwise; simp only [pay6]
theorem pay4 (s p : Vec Ideal S1x1024 .f32) : k0_pay4 s p (ix2 0 b) = p (ix2 0 b) + s (ix2 0 b) := by
  unfold_payloads; pointwise

end Payloads

section Reference

variable (x0 : FVec Ideal S2048x5632 .bf16) (x1 : FVec Ideal S1024x5632 .bf16) (x2 x3 : FVec Ideal S2048x1024 .f32) (x4 : FVec Ideal S1024 .f32)

/-- The gradient arriving at the norm, an entry and a row; a row of the norm's input; an entry of the summands of the weight's gradient. -/
abbrev dn (a : Fin 2048) (b : Fin 1024) : EReal := ∑ k, x0 (ix2 a k) * x1 (ix2 b k)
abbrev row (a : Fin 2048) (b : Fin 1024) : EReal := x3 (ix2 a b)
abbrev dgs (b : Fin 1024) (a : Fin 2048) : EReal := dn x0 x1 a b * (x3 (ix2 a b) * NormGrad.inv (row x3 a))

theorem v7 (a : Fin 2048) : val_main_v7 (F := Ideal) x3 (ix2 a 0) = NormGrad.sq (row x3 a) := by
  unfold val_main_v7 val_main_v5 val_main_v3 val_main_v2 val_main_v1
  pointwise [val_main_v6, val_main_v4, val_main_cst, val_main_cst_0, val_main_cst_1]
theorem v8 (a : Fin 2048) : val_main_v8 (F := Ideal) x3 (ix2 a 0) = NormGrad.inv (row x3 a) := by
  unfold val_main_v8; pointwise; rw [v7]
theorem v11 (a : Fin 2048) : val_main_v11 (F := Ideal) x3 (ix2 a 0) = NormGrad.mhalf * Ideal.div (NormGrad.inv (row x3 a)) (NormGrad.sq (row x3 a)) := by
  unfold val_main_v11 val_main_v9
  pointwise [val_main_v10, val_main_cst_2]
  rw [v7, v8]
theorem v19 (a : Fin 2048) (b : Fin 1024) : val_main_v19 (F := Ideal) x0 x1 (ix2 a b) = dn x0 x1 a b := by
  pointwise [val_main_v19, val_main_v18, val_main_v0]
theorem v24 (a : Fin 2048) (b : Fin 1024) : val_main_v24 (F := Ideal) x0 x1 x4 (ix2 a b) = dn x0 x1 a b * x4 (ix1 b) := by
  unfold val_main_v24
  pointwise [val_main_v23, val_main_v14]
  rw [v19]
theorem v28 (a : Fin 2048) : val_main_v28 (F := Ideal) x0 x1 x3 x4 (ix2 a 0) = ∑ k, x3 (ix2 a k) * (dn x0 x1 a k * x4 (ix1 k)) := by
  unfold val_main_v28 val_main_v27 val_main_v26
  pointwise [val_main_cst_5]
  simp only [v24]
theorem v36 (a : Fin 2048) (b : Fin 1024) : val_main_v36 (F := Ideal) x0 x1 x3 x4 (ix2 a b) = NormGrad.factor (dn x0 x1 a) (row x3 a) fun k => x4 (ix1 k) := by
  unfold val_main_v36 val_main_v35 val_main_v34 val_main_v32
  pointwise [val_main_cst_7, val_main_v33, val_main_cst_6]
  refine (Fin.sum_univ_one _).trans ?_
  rw [v28, v11]
theorem ref40 (a : Fin 2048) (b : Fin 1024) :
    val_main_v40 (F := Ideal) x0 x1 x2 x3 x4 (ix2 a b) = x2 (ix2 a b) + NormGrad.grad (dn x0 x1 a) (row x3 a) (fun k => x4 (ix1 k)) b := by
  unfold val_main_v40 val_main_v39 val_main_v38 val_main_v37 val_main_v31 val_main_v30 val_main_v29
  pointwise
  rw [v24, v36, v8]
  exact NormGrad.forms (x2 (ix2 a b)) (dn x0 x1 a) (row x3 a) (fun k => x4 (ix1 k)) b
theorem ref41 (b : Fin 1024) : val_main_v41 (F := Ideal) x0 x1 x3 (ix2 0 b) = ∑ a, dgs x0 x1 x3 b a := by
  unfold val_main_v41 val_main_v25 val_main_v22 val_main_v21 val_main_v20 val_main_v13 val_main_v12
  pointwise [val_main_cst_3, val_main_cst_4]
  refine (Fin.sum_univ_one _).trans (Finset.sum_congr rfl fun a _ => ?_)
  rw [v8, v19, mul_comm]

end Reference

/-- The point of a block of rows and a part of the columns of the product, what the points before it left, and the pieces of the last part's point. -/
abbrev pt (i : Fin 4) (j : Fin 2) : Fin cfg0.N := ⟨2 * i.val + j.val, by have : cfg0.N = 8 := rfl; omega⟩
abbrev outs (c : Dev nD) (t : Fin cfg0.N) := outsAt0 m c t.val t.isLt
abbrev prev (c : Dev nD) (t : Fin cfg0.N) := outsAt0 m c (t.val - 1) (Nat.lt_of_le_of_lt (Nat.sub_le _ _) t.isLt)
abbrev acc (c : Dev nD) (t : Fin cfg0.N) : FVec Ideal S512x1024 .f32 := k0_pay3 (iblk m c 0 t) (iblk m c 1 t) (prev m c t).2.2
abbrev p7 (c : Dev nD) (t : Fin cfg0.N) : FVec Ideal S512x1024 .f32 := k0_pay7 (acc m c t) (iblk m c 3 t) (iblk m c 4 t) (iblk m c 2 t)
abbrev ps (c : Dev nD) (t : Fin cfg0.N) : FVec Ideal S1x1024 .f32 := k0_pay8 (acc m c t) (iblk m c 3 t)

theorem outs_A (c : Dev nD) (t : Fin cfg0.N) (h0 : t.val % 2 = 0) (h1 : ¬t.val % 2 = 1) :
    (outs m c t).2.1 = (prev m c t).2.1 ∧ (outs m c t).2.2 = k0_pay2 (iblk m c 0 t) (iblk m c 1 t) := by
  unfold outs
  rw [outsAt0_A m c t h0 h1 h1]
  refine ⟨rfl, ?_⟩
  dsimp only
  unfold sout0_A_0
  rw [View.read_writes_eq_canon _ _ _ (fun y => ?_)]; swap; exact scover0_A_0 ..
  unfold kernelRun0_A
  dsimp only
  simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, View.ld_unit_zero (S := S1x512x2816) hz3, View.ld_unit_zero (S := S1024x2816) hz, View.ld_unit_zero (S := S512x1024) hz, View.ld_unit_zero (S := S1x1024) hz]
theorem outs_B (c : Dev nD) (t : Fin cfg0.N) (h0 : ¬t.val % 2 = 0) (h1 : t.val % 2 = 1) (h3 : t.val < 2) (h4 : ¬2 ≤ t.val) :
    (outs m c t).1 = p7 m c t ∧ (outs m c t).2.1 = ps m c t := by
  unfold outs p7 ps acc prev
  rw [outsAt0_B m c t h0 h1 h1 h3 h4]
  refine ⟨?_, ?_⟩
  all_goals
    dsimp only
    first
      | unfold out0_B_5; rw [View.read_writes_eq_canon _ _ _ (fun y => ?_)]; swap; exact cover0_B_5 ..
      | unfold out0_B_6; rw [View.read_writes_eq_canon _ _ _ (fun y => ?_)]; swap; exact cover0_B_6 ..
    unfold kernelRun0_B
    dsimp only
    simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, (Memref.isWhole_whole _).read_unread, kernelRun0_B.sl.r, kernelRun0_B.sl.v13, kernelRun0_B.sl.HS0_1, View.readCov_unit_zero (S := S512x1024) _ hz, View.ld_unit_zero (S := S1x512x2816) hz3, View.ld_unit_zero (S := S1024x2816) hz, View.ld_unit_zero (S := S512x1024) hz, View.ld_unit_zero (S := S1x1024) hz]
theorem outs_C (c : Dev nD) (t : Fin cfg0.N) (h0 : ¬t.val % 2 = 0) (h1 : t.val % 2 = 1) (h3 : ¬t.val < 2) (h4 : 2 ≤ t.val) :
    (outs m c t).1 = p7 m c t ∧ (outs m c t).2.1 = k0_pay4 (ps m c t) (prev m c t).2.1 := by
  unfold outs p7 ps acc prev
  rw [outsAt0_C m c t h0 h1 h1 h3 h4]
  refine ⟨?_, ?_⟩
  all_goals
    dsimp only
    first
      | unfold out0_C_5; rw [View.read_writes_eq_canon _ _ _ (fun y => ?_)]; swap; exact cover0_C_5 ..
      | unfold out0_C_6; rw [View.read_writes_eq_canon _ _ _ (fun y => ?_)]; swap; exact cover0_C_6 ..
    unfold kernelRun0_C
    dsimp only
    simp only [View.canon_unit_zero (S := S512x1024) hz, View.canon_unit_zero (S := S1x1024) hz, View.readAt_eq_ld, (hs0_0 t).read_unread, (hs0_1 t).read_unread, (hs0_2 t).read_unread, (hs0_3 t).read_unread, (hs0_4 t).read_unread, (hs0_6 t).read_unread, (Memref.isWhole_whole _).read_unread, kernelRun0_C.sl.r, kernelRun0_C.sl.v13, kernelRun0_C.sl.HS0_1, View.readCov_unit_zero (S := S512x1024) _ hz, View.ld_unit_zero (S := S1x512x2816) hz3, View.ld_unit_zero (S := S1024x2816) hz, View.ld_unit_zero (S := S512x1024) hz, View.ld_unit_zero (S := S1x1024) hz]

theorem idx : ∀ (i : Fin 4) (j : Fin 2), win0_0.index (pt i j) = ![j.val, i.val, 0] ∧ win0_1.index (pt i j) = ![0, j.val] ∧ win0_2.index (pt i j) = ![i.val, 0]
    ∧ win0_3.index (pt i j) = ![i.val, 0] ∧ win0_4.index (pt i j) = ![0, 0] ∧ win0_5.index (pt i j) = ![i.val, 0] ∧ win0_6.index (pt i j) = ![0, 0] := by
  decide +kernel

/-- The row of a block's element in the whole array, and the column of a part's. -/
abbrev rowOf (i : Fin 4) (a : Fin 512) : Fin 2048 := ⟨i.val * 512 + a.val, by omega⟩
abbrev colOf (j : Fin 2) (k : Fin 2816) : Fin 5632 := ⟨j.val * 2816 + k.val, by omega⟩

theorem emb5 (i : Fin 4) (j : Fin 2) (a : Fin 512) (b : Fin 1024) : ((View.whole main_v6_0).slice (win0_5.rect (pt i j))).emb (ix2 a b) = ix2 (rowOf i a) b := by
  blk_ext [idx i j]
theorem emb6 (i : Fin 4) (j : Fin 2) (a : Fin 1) (b : Fin 1024) : ((View.whole main_v6_1).slice (win0_6.rect (pt i j))).emb (ix2 a b) = ix2 a b := by
  blk_ext [idx i j]

/-- The arguments. -/
abbrev X0 (c : Dev nD) : FVec Ideal S2048x5632 .bf16 := m ((c : Thread nD τ).loc main_arg0)
abbrev X1 (c : Dev nD) : FVec Ideal S1024x5632 .bf16 := m ((c : Thread nD τ).loc main_arg1)
abbrev X2 (c : Dev nD) : FVec Ideal S2048x1024 .f32 := m ((c : Thread nD τ).loc main_arg2)
abbrev X3 (c : Dev nD) : FVec Ideal S2048x1024 .f32 := m ((c : Thread nD τ).loc main_arg3)
abbrev X4 (c : Dev nD) : FVec Ideal S1024 .f32 := m ((c : Thread nD τ).loc main_arg4)
/-- The two halves of the product's gradient laid one over the other, as the program does before the call. -/
def halves (w : FVec Ideal S2048x5632 .bf16) : FVec Ideal S2x2048x2816 .bf16 :=
  concatenate S2x2048x2816 0 [⟨S1x2048x2816, broadcastInDim S1x2048x2816 ![1, 2] bcast_S2048x2816_S1x2048x2816_1_2
      (extractStridedSlice S2048x2816 ![0, 0] w slices_S2048x5632_S2048x2816_0_0)⟩,
    ⟨S1x2048x2816, broadcastInDim S1x2048x2816 ![1, 2] bcast_S2048x2816_S1x2048x2816_1_2
      (extractStridedSlice S2048x2816 ![0, 2816] w slices_S2048x5632_S2048x2816_0_2816)⟩]
    concatenates_S1x2048x2816_S1x2048x2816_S2x2048x2816_d0
theorem halves_at (w : FVec Ideal S2048x5632 .bf16) (j : Fin 2) (a : Fin 2048) (k : Fin 2816) : halves w (ix3 j a k) = w (ix2 a (colOf j k)) := by
  unfold halves
  match j with
  | 0 => pointwise; exact congrArg (fun q => w (ix2 a q)) (Fin.ext (by simp))
  | 1 => pointwise; exact congrArg (fun q => w (ix2 a q)) (Fin.ext (by simp))
theorem V0 (c : Dev nD) : V m c (Pipeline.arrRef spec0 0) = halves (X0 m c) := by
  show V m c main_v4 = _
  unfold V; after_reads_simp; rfl
theorem read0 (c : Dev nD) (i : Fin 4) (j : Fin 2) (a : Fin 512) (k : Fin 2816) : iblk m c 0 (pt i j) (ix3 0 a k) = X0 m c (ix2 (rowOf i a) (colOf j k)) := by
  have h : iblk m c 0 (pt i j) (ix3 0 a k) = halves (X0 m c) (ix3 j (rowOf i a) k) := by
    unfold iblk
    rw [V0]
    blk_ext [idx i j]
  rw [h, halves_at]
theorem read1 (c : Dev nD) (i : Fin 4) (j : Fin 2) (b : Fin 1024) (k : Fin 2816) : iblk m c 1 (pt i j) (ix2 b k) = X1 m c (ix2 b (colOf j k)) := by
  unfold iblk
  rw [show V m c (Pipeline.arrRef spec0 1) = m ((c : Thread nD τ).loc main_arg1) from V_main_arg1 m c]
  blk_ext [idx i j]
theorem read2 (c : Dev nD) (i : Fin 4) (j : Fin 2) (a : Fin 512) (b : Fin 1024) : iblk m c 2 (pt i j) (ix2 a b) = X2 m c (ix2 (rowOf i a) b) := by
  unfold iblk
  rw [show V m c (Pipeline.arrRef spec0 2) = m ((c : Thread nD τ).loc main_arg2) from V_main_arg2 m c]
  blk_ext [idx i j]
theorem read3 (c : Dev nD) (i : Fin 4) (j : Fin 2) (a : Fin 512) (b : Fin 1024) : iblk m c 3 (pt i j) (ix2 a b) = X3 m c (ix2 (rowOf i a) b) := by
  unfold iblk
  rw [show V m c (Pipeline.arrRef spec0 3) = m ((c : Thread nD τ).loc main_arg3) from V_main_arg3 m c]
  blk_ext [idx i j]
theorem V4 (c : Dev nD) : V m c (Pipeline.arrRef spec0 4) = shapeCast S1x1024 (X4 m c) shapeCasts_S1024_S1x1024 := by
  show V m c main_v5 = _
  unfold V; after_reads_simp; rfl
theorem read4 (c : Dev nD) (i : Fin 4) (j : Fin 2) (b : Fin 1024) : iblk m c 4 (pt i j) (ix2 0 b) = X4 m c (ix1 b) := by
  have h : iblk m c 4 (pt i j) (ix2 0 b) = shapeCast S1x1024 (X4 m c) shapeCasts_S1024_S1x1024 (ix2 0 b) := by
    unfold iblk
    rw [V4]
    blk_ext [idx i j]
  rw [h]; pointwise

section Block

variable (c : Dev nD) (i : Fin 4)

/-- A part of the product; the parts added up; the pieces of the last part's point at an entry are the reference's at the entry's place in the whole arrays. -/
abbrev dot (a : Fin 2048) (b : Fin 1024) (j : Fin 2) : EReal := ∑ k, X0 m c (ix2 a (colOf j k)) * X1 m c (ix2 b (colOf j k))
theorem dot_at (j : Fin 2) (a : Fin 512) (b : Fin 1024) : k0_pay2 (iblk m c 0 (pt i j)) (iblk m c 1 (pt i j)) (ix2 a b) = dot m c (rowOf i a) b j :=
  (pay2 _ _ a b).trans <| Finset.sum_congr rfl fun k _ => congrArg₂ (fun p q : EReal => p * q) (read0 m c i j a k) (read1 m c i j b k)
theorem acc_at (a : Fin 512) (b : Fin 1024) : acc m c (pt i 1) (ix2 a b) = dn (X0 m c) (X1 m c) (rowOf i a) b := by
  refine ((pay3 _ _ _ a b).trans (congrArg₂ (fun p q : EReal => p + q) ?_ (dot_at m c i 1 a b))).trans
    (NormGrad.halves fun k => X0 m c (ix2 (rowOf i a) k) * X1 m c (ix2 b k)).symm
  exact (congrFun (outs_A m c (pt i 0) (by show (2 * i.val + 0) % 2 = 0; omega) (by show ¬(2 * i.val + 0) % 2 = 1; omega)).2 (ix2 a b)).trans
    (dot_at m c i 0 a b)
theorem p7_at (a : Fin 512) (b : Fin 1024) : p7 m c (pt i 1) (ix2 a b)
    = X2 m c (ix2 (rowOf i a) b) + NormGrad.grad (dn (X0 m c) (X1 m c) (rowOf i a)) (row (X3 m c) (rowOf i a)) (fun k => X4 m c (ix1 k)) b :=
  (pay7 _ _ _ _ a b).trans (congrArg₂ (fun p q : EReal => p + q) (read2 m c i 1 a b)
    (NormGrad.grad_congr (fun k => acc_at m c i a k) (fun k => read3 m c i 1 a k) (fun k => read4 m c i 1 k) b))
theorem ps_at (b : Fin 1024) : ps m c (pt i 1) (ix2 0 b) = NormGrad.part (dgs (X0 m c) (X1 m c) (X3 m c) b) i.val i.isLt :=
  (pay8 _ _ b).trans (Finset.sum_congr rfl fun a _ => congrArg₂ (fun p q : EReal => p * q) (acc_at m c i a b)
    (congrArg₂ (fun p q : EReal => p * q) (read3 m c i 1 a b) (congrArg NormGrad.inv (funext fun k => read3 m c i 1 a k))))

/-- What the last part's point leaves, and the row of sums after every block of rows. -/
theorem outs2 : (outs m c (pt i 1)).1 = p7 m c (pt i 1) := by
  by_cases h : i.val = 0
  · exact (outs_B m c (pt i 1) (by show ¬(2 * i.val + 1) % 2 = 0; omega) (by show (2 * i.val + 1) % 2 = 1; omega) (by show 2 * i.val + 1 < 2; omega) (by show ¬2 ≤ 2 * i.val + 1; omega)).1
  · exact (outs_C m c (pt i 1) (by show ¬(2 * i.val + 1) % 2 = 0; omega) (by show (2 * i.val + 1) % 2 = 1; omega) (by show ¬2 * i.val + 1 < 2; omega) (by show 2 ≤ 2 * i.val + 1; omega)).1
theorem row0 (h : i.val = 0) (b : Fin 1024) : (outs m c (pt i 1)).2.1 (ix2 0 b) = NormGrad.part (dgs (X0 m c) (X1 m c) (X3 m c) b) i.val i.isLt := by
  rw [(outs_B m c (pt i 1) (by show ¬(2 * i.val + 1) % 2 = 0; omega) (by show (2 * i.val + 1) % 2 = 1; omega) (by show 2 * i.val + 1 < 2; omega) (by show ¬2 ≤ 2 * i.val + 1; omega)).2, ps_at]
theorem rowS (h : ¬i.val = 0) (b : Fin 1024) : (outs m c (pt i 1)).2.1 (ix2 0 b)
    = (prev m c (pt i 1)).2.1 (ix2 0 b) + NormGrad.part (dgs (X0 m c) (X1 m c) (X3 m c) b) i.val i.isLt := by
  rw [(outs_C m c (pt i 1) (by show ¬(2 * i.val + 1) % 2 = 0; omega) (by show (2 * i.val + 1) % 2 = 1; omega) (by show ¬2 * i.val + 1 < 2; omega) (by show 2 ≤ 2 * i.val + 1; omega)).2, pay4, ps_at]
theorem carry (n : ℕ) (hn : n + 1 < 4) : (prev m c (pt ⟨n + 1, hn⟩ 1)).2.1 = (outs m c (pt ⟨n, by omega⟩ 1)).2.1 := by
  let i : Fin 4 := ⟨n + 1, hn⟩
  exact (outs_A m c (pt i 0) (by show (2 * i.val + 0) % 2 = 0; omega) (by show ¬(2 * i.val + 0) % 2 = 1; omega)).1
theorem sums (b : Fin 1024) : (outs m c (pt 3 1)).2.1 (ix2 0 b) = ∑ a, dgs (X0 m c) (X1 m c) (X3 m c) b a :=
  NormGrad.accumulated _ (fun n hn => (outs m c (pt ⟨n, hn⟩ 1)).2.1 (ix2 0 b)) (row0 m c 0 rfl b) fun n hn =>
    (rowS m c ⟨n + 1, hn⟩ (Nat.succ_ne_zero n) b).trans (congrArg₂ (fun p q : EReal => p + q) (congrFun (carry m c n hn) (ix2 0 b)) rfl)

end Block

theorem flushes : ∀ t : Fin cfg0.N, ((cfg0.win 5).flush t = true → ∃ i, t = pt i 1) ∧ ((cfg0.win 6).flush t = true → t = pt 3 1) := by decide +kernel

theorem final6 (c : Dev nD) : (dats m 0 c).arrAt 6 cfg0.N = val_main_v41 (F := Ideal) (X0 m c) (X1 m c) (X3 m c) := by
  refine (dats m 0 c).arrAt_eq_of_covers 6 _ (by decide +kernel) fun t hf y => ?_
  obtain rfl := (flushes t).2 hf
  blk_simp
  rw [after0_6]
  idx_vars y
  obtain rfl : y0 = 0 := Subsingleton.elim _ _
  rw [emb6, ref41]
  exact sums m c y1

section Finals

variable (c : Dev nD)

theorem final5 : (dats m 0 c).arrAt 5 cfg0.N = val_main_v40 (F := Ideal) (X0 m c) (X1 m c) (X2 m c) (X3 m c) (X4 m c) := by
  refine (dats m 0 c).arrAt_eq_of_covers 5 _ (by decide +kernel) fun t hf y => ?_
  obtain ⟨i, rfl⟩ := (flushes t).1 hf
  blk_simp
  rw [after0_5]
  idx_vars y
  rw [emb5, ref40 _ _ _ _ _ _ _]
  exact (congrFun (outs2 m c i) (ix2 y0 y1)).trans (p7_at m c i y0 y1)

end Finals

theorem algebraic : Cert.algebraic_Ffn1DnIdeal_Ffn1DnRefIdeal := by
  intro m g m' g' _ hag
  refine ⟨fun c => val_main_v40 (F := Ideal) (X0 m c) (X1 m c) (X2 m c) (X3 m c) (X4 m c), fun c => val_main_v41 (F := Ideal) (X0 m c) (X1 m c) (X3 m c), ?_, ?_⟩
  · refine (θ_run defs _ _).mono (fun r h c => ?_) (Value.run_blocks m g)
    exact ⟨(h c).1.trans (final5 m c), (h c).2.1.trans (final6 m c), (h c).2.2⟩
  · refine (θ_run Ffn1DnRefIdeal.defs _ _).mono (fun r h c => ⟨(h c).1.trans ?_, (h c).2.1.trans ?_, (h c).2.2⟩) (Ffn1DnRefIdeal.Value.run (F := Ideal) m' g')
    · rw [val_main_v40_eq, (hag c).1, (hag c).2.1, (hag c).2.2.1, (hag c).2.2.2.1, (hag c).2.2.2.2]
    · rw [val_main_v41_eq, (hag c).1, (hag c).2.1, (hag c).2.2.2.1]

end Cert.Ffn1DnIdeal.Claims
-- ==== Proof.SbFwdRun.lean ====
/-
The stick-breaking attention forwards: its body run once at a point of the first block of queries (no block of keys to
the left) and once at a point of the second (one block to the left).
-/
module

public import proofs.«01_k».proof.Proof.Gen.SbFwdIdeal.Frame
public import Idealize.ShloMosaic.Lib.Pipeline.TableIdle

@[expose] public section

set_option maxRecDepth 16384

noncomputable section

namespace Cert.SbFwdIdeal.Hand

open Cert.SbFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S1024x128 .f32) (harg5 : arg5.IsWhole)
  (arg6 : Memref sig .tc .vmem S1x8x1024x256 .bf16) (harg6 : arg6.IsWhole)
  (arg7 : Memref sig .tc .vmem S1x8x1024x256 .bf16) (harg7 : arg7.IsWhole)
  (x0 : Vec F S1024x128 .bf16) (x1 x2 : Vec F S2048x128 .bf16)

/-- What the body holds of its windows: the three inputs at their contents, the result's buffer at contents of the form
`P f`, the two saved arrays' at any contents. -/
abbrev Held (P : arg5.view.ty.Contents (Elt F) → arg5.view.ty.Contents (Elt F)) : sProp 𝕄 :=
  iprop(owns (c : Thread nD τ) arg2 fullShare x0 ∗ owns (c : Thread nD τ) arg3 fullShare x1 ∗ owns (c : Thread nD τ) arg4 fullShare x2
    ∗ (∃ f, arg5.view.loc (c : Thread nD τ) ↦[arg5.view.set]{fullShare} P f)
    ∗ (∃ f, arg6.view.loc (c : Thread nD τ) ↦[arg6.view.set]{fullShare} f) ∗ (∃ f, arg7.view.loc (c : Thread nD τ) ↦[arg7.view.set]{fullShare} f))

theorem off10_eq : ∀ (i : grid0.Coords) (t : Fin (k0_t1_loop i).trips), ∀ r : Fin 4, k0_off10 i t (BitVec.ofNat 32 r.val) = ![0, (4 * (i 1).val + r.val) - (4 * t.val + 4), 0, 0] := by decide +kernel
instance closed10_0 (i : grid0.Coords) (t : Fin (k0_t1_loop i).trips) : ClosedOff (k0_off10 i t 0#32) := ⟨_, off10_eq i t 0⟩
instance closed10_1 (i : grid0.Coords) (t : Fin (k0_t1_loop i).trips) : ClosedOff (k0_off10 i t 1#32) := ⟨_, off10_eq i t 1⟩
instance closed10_2 (i : grid0.Coords) (t : Fin (k0_t1_loop i).trips) : ClosedOff (k0_off10 i t 2#32) := ⟨_, off10_eq i t 2⟩
instance closed10_3 (i : grid0.Coords) (t : Fin (k0_t1_loop i).trips) : ClosedOff (k0_off10 i t 3#32) := ⟨_, off10_eq i t 3⟩

theorem trips2 : (k0_t2_loop i).trips = 0 := Nat.le_zero.1 (k0_t2_abs i).2.1

set_option maxHeartbeats 2000000 in
/-- The body run in the first block of queries. -/
def runA (htr : (k0_t1_loop i).trips = 0) :
    { L : List (View.Piece (Elt F) S1024x128 .f32) // ∀ (E : Set ℕ) (K : PUnit → sProp 𝕄),
      iprop(Held c arg2 arg3 arg4 arg5 arg6 arg7 x0 x1 x2 id
        ∗ (Held c arg2 arg3 arg4 arg5 arg6 arg7 x0 x1 x2 (arg5.view.writes (Elt F) · L) -∗ K ⟨⟩))
      ⊢ wp frame (wpE (defs₀ (F := F)) Variants.none c none) E (cc0_sb_fwd i arg2 harg2 arg3 harg3 arg4 harg4 arg5 harg5 arg6 harg6 arg7 harg7) K } := by
  refine ⟨?_, fun E K => ?run⟩
  case run =>
    unfold cc0_sb_fwd k0_part9 k0_part10 k0_part11 k0_part12 k0_part13 k0_part14 k0_part15
    unfold Held owns
    iintro ⟨⟨⟨%f0, %hf0, H0⟩, ⟨%f1, %hf1, H1⟩, ⟨%f2, %hf2, H2⟩, ⟨%f3, H3⟩, ⟨%f4, H4⟩, ⟨%f5, H5⟩⟩, Hk⟩
    obtain rfl := harg2.eq_unread hf0; obtain rfl := harg3.eq_unread hf1; obtain rfl := harg4.eq_unread hf2
    simp only [id] at *
    sl_exec
    simp (config := { iota := false, proj := false, eta := false }) only [Scf.for_trips0_bind _ _ htr, Scf.for_trips0_bind _ _ (trips2 i), Prog.bind_assoc]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

set_option maxHeartbeats 2000000 in
/-- The body run in the second block of queries. -/
def runB (htr : (k0_t1_loop i).trips = 1) :
    { L : List (View.Piece (Elt F) S1024x128 .f32) // ∀ (E : Set ℕ) (K : PUnit → sProp 𝕄),
      iprop(Held c arg2 arg3 arg4 arg5 arg6 arg7 x0 x1 x2 id
        ∗ (Held c arg2 arg3 arg4 arg5 arg6 arg7 x0 x1 x2 (arg5.view.writes (Elt F) · L) -∗ K ⟨⟩))
      ⊢ wp frame (wpE (defs₀ (F := F)) Variants.none c none) E (cc0_sb_fwd i arg2 harg2 arg3 harg3 arg4 harg4 arg5 harg5 arg6 harg6 arg7 harg7) K } := by
  refine ⟨?_, fun E K => ?run⟩
  case run =>
    unfold cc0_sb_fwd k0_part9 k0_part10 k0_part11 k0_part12 k0_part13 k0_part14 k0_part15
    unfold Held owns
    iintro ⟨⟨⟨%f0, %hf0, H0⟩, ⟨%f1, %hf1, H1⟩, ⟨%f2, %hf2, H2⟩, ⟨%f3, H3⟩, ⟨%f4, H4⟩, ⟨%f5, H5⟩⟩, Hk⟩
    obtain rfl := harg2.eq_unread hf0; obtain rfl := harg3.eq_unread hf1; obtain rfl := harg4.eq_unread hf2
    simp only [id] at *
    sl_exec
    simp (config := { iota := false, proj := false, eta := false }) only [Scf.for_trips1_bind _ _ htr, Scf.for_trips0_bind _ _ (trips2 i), Prog.bind_assoc]
    unfold k0_part1 k0_part2 k0_part3 k0_part4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.SbFwdIdeal.Hand

end
-- ==== Proof.SbFwdFrame.lean ====
/-
The stick-breaking attention forwards: the proof data (the result named, the two arrays saved for the gradient, which
the body writes only in part, forgotten), the run and the frame.
-/
module

public import proofs.«01_k».proof.Proof.SbFwdRun
public import Idealize.ShloMosaic.Lib.Claim

@[expose] public section

set_option maxRecDepth 16384

noncomputable section

namespace Cert.SbFwdIdeal.Hand

open Cert.SbFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x1024x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x1024x256 .bf16 := win0_5.stage (cfg0.slots t 5)
abbrev hs5 (t : Fin cfg0.N) : (ms5 t).IsWhole := hstage0_5 ((cfg0.slots t 5).cast nbuf0_5)

theorem tripsA : ∀ t : Fin grid0.N, t.val % 2 = 0 → (k0_t1_loop (grid0.coords t)).trips = 0 := by decide +kernel
theorem tripsB : ∀ t : Fin grid0.N, ¬ t.val % 2 = 0 → (k0_t1_loop (grid0.coords t)).trips = 1 := by decide +kernel

abbrev runA0 (c : Dev nD) (t : Fin cfg0.N) (h : t.val % 2 = 0) :=
  runA c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (tripsA t h)
abbrev runB0 (c : Dev nD) (t : Fin cfg0.N) (h : ¬ t.val % 2 = 0) :=
  runB c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (tripsB t h)

/-- What the stores of point `t` into the result's block leave there. -/
def leftO (c : Dev nD) (t : Fin cfg0.N) : Vec F S1024x128 .f32 :=
  if h : t.val % 2 = 0 then View.canon (runA0 m c t h).1 else View.canon (runB0 m c t h).1

theorem leftO_A (c : Dev nD) (t : Fin cfg0.N) (h : t.val % 2 = 0) : leftO m c t = View.canon (runA0 m c t h).1 := dif_pos h
theorem leftO_B (c : Dev nD) (t : Fin cfg0.N) (h : ¬ t.val % 2 = 0) : leftO m c t = View.canon (runB0 m c t h).1 := dif_neg h

/-- The windows nothing is said of: the arrays saved for the gradient. -/
abbrev forgets : Fin 6 → Bool := fun w => w.val == 4 || w.val == 5

/-- The proof data: the inputs' buffers at their blocks, the result's at `leftO`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => leftO m c t
    | ⟨4, _⟩ => Classical.arbitrary _
    | ⟨5, _⟩ => Classical.arbitrary _
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = leftO m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at point `t`; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare d)
    ∗ (∃ d, owns (c : Thread nD τ) (ms5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (∃ d, owns (c : Thread nD τ) (ms4 t) fullShare d)
    ∗ (∃ d, owns (c : Thread nD τ) (ms5 t) fullShare d))

set_option maxHeartbeats 800000 in
/-- The body at any point, from its two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare (iblk m c 0 t) from after0 m c t ▸ rfl,
    show (dats m 0 c).leavesExact 1 t = owns (c : Thread nD τ) (ms1 t) fullShare (iblk m c 1 t) from after1 m c t ▸ rfl,
    show (dats m 0 c).leavesExact 2 t = owns (c : Thread nD τ) (ms2 t) fullShare (iblk m c 2 t) from after2 m c t ▸ rfl,
    show (dats m 0 c).leavesExact 3 t = owns (c : Thread nD τ) (ms3 t) fullShare (leftO m c t) from after3 m c t ▸ rfl]
  by_cases h : t.val % 2 = 0
  · rw [leftO_A m c t h]
    iintro ⟨HΦ, Ho, ⟨%d0, H0⟩, ⟨%d1, H1⟩, ⟨%d2, H2⟩, ⟨%d3, H3⟩, ⟨%d4, H4⟩, ⟨%d5, H5⟩⟩
    iapply ((runA0 m c t h).2 Set.univ _)
    isplitl [H0 H1 H2 H3 H4 H5]
    · unfold Held
      isplitl [H0]; · iexact H0
      isplitl [H1]; · iexact H1
      isplitl [H2]; · iexact H2
      unfold owns
      icases H3 with ⟨%f3, -, H3⟩; icases H4 with ⟨%f4, -, H4⟩; icases H5 with ⟨%f5, -, H5⟩
      isplitl [H3]; · iexists f3; iexact H3
      isplitl [H4]; · iexists f4; iexact H4
      iexists f5; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    unfold owns
    isplitl [H3]
    · iexists _; isplitr
      swap; · iexact H3
      ipureintro; exact View.read_writes_eq_canon _ _ _ (View.cover_of_wholeMem _ (by sl_whole_mem))
    isplitl [H4]
    · iexists _; iexists e4; isplitr
      swap; · iexact H4
      ipureintro; rfl
    iexists _; iexists e5; isplitr
    swap; · iexact H5
    ipureintro; rfl
  · rw [leftO_B m c t h]
    iintro ⟨HΦ, Ho, ⟨%d0, H0⟩, ⟨%d1, H1⟩, ⟨%d2, H2⟩, ⟨%d3, H3⟩, ⟨%d4, H4⟩, ⟨%d5, H5⟩⟩
    iapply ((runB0 m c t h).2 Set.univ _)
    isplitl [H0 H1 H2 H3 H4 H5]
    · unfold Held
      isplitl [H0]; · iexact H0
      isplitl [H1]; · iexact H1
      isplitl [H2]; · iexact H2
      unfold owns
      icases H3 with ⟨%f3, -, H3⟩; icases H4 with ⟨%f4, -, H4⟩; icases H5 with ⟨%f5, -, H5⟩
      isplitl [H3]; · iexists f3; iexact H3
      isplitl [H4]; · iexists f4; iexact H4
      iexists f5; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    unfold owns
    isplitl [H3]
    · iexists _; isplitr
      swap; · iexact H3
      ipureintro; exact View.read_writes_eq_canon _ _ _ (View.cover_of_wholeMem _ (by sl_whole_mem))
    isplitl [H4]
    · iexists _; iexists e4; isplitr
      swap; · iexact H4
      ipureintro; rfl
    iexists _; iexists e5; isplitr
    swap; · iexact H5
    ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

-- the implicit arguments of the launch theorem are found by unification with this statement, under definitions in types
set_option backward.isDefEq.respectTransparency.types false in
/-- The launch: the arrays at what the proof data name, the counters at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- THE RUN with the result named: its array at what the proof data make of it, the argument unchanged. -/
theorem run_blocks : θ_run defs (onTc (τ := τ) (main (F := F))) ⟨m, fun _ => 0, ρ⟩ fun r => ∀ c : Dev nD,
    r.2.mem ((c : Thread nD τ).loc main_v0_0) = (dats m 0 c).arrAt 3 cfg0.N
      ∧ r.2.mem ((c : Thread nD τ).loc main_arg0) = m ((c : Thread nD τ).loc main_arg0) :=
  (θ_run defs _ _).mono (fun _ h c => ⟨((dats m 0 c).toRForget_arrAt_iff (fgt := forgets) (w := 3) rfl cfg0.N _).1 ((h.1 c).1 3),
    (h.1.arr_in c 2 rfl).trans (A_eq m c 2)⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and ((θ_run defs _ _).mono (fun _ h c => (h c).2) (run_blocks m ρ)) ((θ_run defs _ _).mono (fun _ h => h.2) (run_main m ρ))

end Cert.SbFwdIdeal.Hand

end
-- ==== Proof.SbLoops.lean ====
/-
The stick-breaking gradient: the offsets that its two counted loops compute, in closed form, and the loops' invariants — the
contents of the two accumulators before a trip are what the loop found, written over by the pieces of the trips before.
-/
module

public import proofs.«01_k».proof.Proof.Gen.SbIdeal.Loops
public import Idealize.ShloMosaic.Lib.Tactic
public import Idealize.ShloMosaic.Lib.Ring
public import Idealize.ShloMosaic.Lib.WordCmp

@[expose] public section

set_option maxRecDepth 16384
set_option maxHeartbeats 4000000
noncomputable section

namespace Cert.SbIdeal.Hand

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- The kinds of buffers a point works on, what one holds, the vectors carried from tile to tile, and the pieces stored into an accumulator. -/
abbrev MW := Memref sig .tc .vmem S2x8x512x256 .bf16
abbrev MK := Memref sig .tc .vmem S2048x256 .bf16
abbrev MA := Memref sig .tc .vmem S2048x256 .f32
abbrev MQ := Memref sig .tc .vmem S512x256 .bf16
abbrev MO := Memref sig .tc .vmem S512x256 .f32
abbrev Held (F : FTy → Type) {s : Shape} {e : EltTy} (M : Memref sig .tc .vmem s e) := BufTy.Contents (Elt F) M.view.ty
abbrev Carry (F : FTy → Type) := FVec F S512x1 .f32 × FVec F S512x128 .f32 × FVec F S512x1 .f32 × FVec F S512x128 .f32
abbrev Pieces (F : FTy → Type) := List (View.Piece (Elt F) S2048x256 .f32)

section
variable (i : grid0.Coords) (k0_t1 : Fin (k0_t1_loop i).trips) (k0_t2 : Fin (k0_t2_loop i).trips)
theorem k0_off5_eq : ∀ (i : grid0.Coords) (k0_t1 : Fin (k0_t1_loop i).trips), ∀ (r : Fin 2), k0_off5 i k0_t1 (BitVec.ofNat 32 r.val) = ![(512 * (i 1).val + 256 * r.val) - (512 * k0_t1.val + 512), 0] := by decide +kernel
instance closedOff_k0_off5_0 : ClosedOff (k0_off5 i k0_t1 (BitVec.ofNat 32 0)) := ⟨![(512 * (i 1).val + 256 * 0) - (512 * k0_t1.val + 512), 0], k0_off5_eq i k0_t1 0⟩
instance closedOff_k0_off5_1 : ClosedOff (k0_off5 i k0_t1 (BitVec.ofNat 32 1)) := ⟨![(512 * (i 1).val + 256 * 1) - (512 * k0_t1.val + 512), 0], k0_off5_eq i k0_t1 1⟩
theorem k0_off6_eq : ∀ (i : grid0.Coords) (k0_t1 : Fin (k0_t1_loop i).trips), ∀ (r : Fin 2), k0_off6 i k0_t1 (BitVec.ofNat 32 r.val) = ![0, (2 * (i 1).val + r.val) - (2 * k0_t1.val + 2), 0, 0] := by decide +kernel
instance closedOff_k0_off6_0 : ClosedOff (k0_off6 i k0_t1 (BitVec.ofNat 32 0)) := ⟨![0, (2 * (i 1).val + 0) - (2 * k0_t1.val + 2), 0, 0], k0_off6_eq i k0_t1 0⟩
instance closedOff_k0_off6_1 : ClosedOff (k0_off6 i k0_t1 (BitVec.ofNat 32 1)) := ⟨![0, (2 * (i 1).val + 1) - (2 * k0_t1.val + 2), 0, 0], k0_off6_eq i k0_t1 1⟩
theorem k0_off7_eq : ∀ (i : grid0.Coords) (k0_t1 : Fin (k0_t1_loop i).trips), ∀ (r : Fin 2), k0_off7 i k0_t1 (BitVec.ofNat 32 r.val) = ![(512 * (i 1).val + 256 * r.val) - (512 * k0_t1.val + 512), 128] := by decide +kernel
instance closedOff_k0_off7_0 : ClosedOff (k0_off7 i k0_t1 (BitVec.ofNat 32 0)) := ⟨![(512 * (i 1).val + 256 * 0) - (512 * k0_t1.val + 512), 128], k0_off7_eq i k0_t1 0⟩
instance closedOff_k0_off7_1 : ClosedOff (k0_off7 i k0_t1 (BitVec.ofNat 32 1)) := ⟨![(512 * (i 1).val + 256 * 1) - (512 * k0_t1.val + 512), 128], k0_off7_eq i k0_t1 1⟩
theorem k0_off8_eq : ∀ (i : grid0.Coords) (k0_t1 : Fin (k0_t1_loop i).trips), ∀ (r : Fin 2), k0_off8 i k0_t1 (BitVec.ofNat 32 r.val) = ![1, (2 * (i 1).val + r.val) - (2 * k0_t1.val + 2), 0, 0] := by decide +kernel
instance closedOff_k0_off8_0 : ClosedOff (k0_off8 i k0_t1 (BitVec.ofNat 32 0)) := ⟨![1, (2 * (i 1).val + 0) - (2 * k0_t1.val + 2), 0, 0], k0_off8_eq i k0_t1 0⟩
instance closedOff_k0_off8_1 : ClosedOff (k0_off8 i k0_t1 (BitVec.ofNat 32 1)) := ⟨![1, (2 * (i 1).val + 1) - (2 * k0_t1.val + 2), 0, 0], k0_off8_eq i k0_t1 1⟩
theorem k0_off9_eq : ∀ (i : grid0.Coords) (k0_t2 : Fin (k0_t2_loop i).trips), ∀ (r : Fin 2), k0_off9 i k0_t2 (BitVec.ofNat 32 r.val) = ![256 * r.val, 0] := fun i k0_t2 => absurd k0_t2.isLt (Nat.not_lt.2 (Nat.le_trans (k0_t2_abs i).2.1 (Nat.zero_le _)))
instance closedOff_k0_off9_0 : ClosedOff (k0_off9 i k0_t2 (BitVec.ofNat 32 0)) := ⟨![256 * 0, 0], k0_off9_eq i k0_t2 0⟩
instance closedOff_k0_off9_1 : ClosedOff (k0_off9 i k0_t2 (BitVec.ofNat 32 1)) := ⟨![256 * 1, 0], k0_off9_eq i k0_t2 1⟩
theorem k0_off10_eq : ∀ (i : grid0.Coords) (k0_t2 : Fin (k0_t2_loop i).trips), ∀ (r : Fin 2), k0_off10 i k0_t2 (BitVec.ofNat 32 r.val) = ![0, r.val, 0, 0] := fun i k0_t2 => absurd k0_t2.isLt (Nat.not_lt.2 (Nat.le_trans (k0_t2_abs i).2.1 (Nat.zero_le _)))
instance closedOff_k0_off10_0 : ClosedOff (k0_off10 i k0_t2 (BitVec.ofNat 32 0)) := ⟨![0, 0, 0, 0], k0_off10_eq i k0_t2 0⟩
instance closedOff_k0_off10_1 : ClosedOff (k0_off10 i k0_t2 (BitVec.ofNat 32 1)) := ⟨![0, 1, 0, 0], k0_off10_eq i k0_t2 1⟩
theorem k0_off11_eq : ∀ (i : grid0.Coords) (k0_t2 : Fin (k0_t2_loop i).trips), ∀ (r : Fin 2), k0_off11 i k0_t2 (BitVec.ofNat 32 r.val) = ![256 * r.val, 128] := fun i k0_t2 => absurd k0_t2.isLt (Nat.not_lt.2 (Nat.le_trans (k0_t2_abs i).2.1 (Nat.zero_le _)))
instance closedOff_k0_off11_0 : ClosedOff (k0_off11 i k0_t2 (BitVec.ofNat 32 0)) := ⟨![256 * 0, 128], k0_off11_eq i k0_t2 0⟩
instance closedOff_k0_off11_1 : ClosedOff (k0_off11 i k0_t2 (BitVec.ofNat 32 1)) := ⟨![256 * 1, 128], k0_off11_eq i k0_t2 1⟩
theorem k0_off12_eq : ∀ (i : grid0.Coords) (k0_t2 : Fin (k0_t2_loop i).trips), ∀ (r : Fin 2), k0_off12 i k0_t2 (BitVec.ofNat 32 r.val) = ![1, r.val, 0, 0] := fun i k0_t2 => absurd k0_t2.isLt (Nat.not_lt.2 (Nat.le_trans (k0_t2_abs i).2.1 (Nat.zero_le _)))
instance closedOff_k0_off12_0 : ClosedOff (k0_off12 i k0_t2 (BitVec.ofNat 32 0)) := ⟨![1, 0, 0, 0], k0_off12_eq i k0_t2 0⟩
instance closedOff_k0_off12_1 : ClosedOff (k0_off12 i k0_t2 (BitVec.ofNat 32 1)) := ⟨![1, 1, 0, 0], k0_off12_eq i k0_t2 1⟩
end

/-! ## `cc0_sb_bwd` -/

/-- One trip's resources: what the region reads (a3, a4, a6, a7) at its contents, what it writes (a12, a13) at any. -/
abbrev Trip_k0_t1 (c : Dev nD) (a3 a4 : MK) (a6 a7 : MW) (a12 a13 : MA) (X3 : Held F a3) (X4 : Held F a4) (X6 : Held F a6) (X7 : Held F a7) (f_arg12 : Held F a12) (f_arg13 : Held F a13) : sProp 𝕄G :=
  iprop((a3.view.loc (c : Thread nD τ) ↦[a3.view.set]{fullShare} X3) ∗ (a4.view.loc (c : Thread nD τ) ↦[a4.view.set]{fullShare} X4) ∗ (a6.view.loc (c : Thread nD τ) ↦[a6.view.set]{fullShare} X6) ∗ (a7.view.loc (c : Thread nD τ) ↦[a7.view.set]{fullShare} X7) ∗ (a12.view.loc (c : Thread nD τ) ↦[a12.view.set]{fullShare} f_arg12) ∗ (a13.view.loc (c : Thread nD τ) ↦[a13.view.set]{fullShare} f_arg13))

section

variable (𝒱 : Variants) (c : Dev nD) (bd : Option 𝒱.V) (E : Set ℕ) (i : grid0.Coords) (a2 : MQ) (w2 : a2.IsWhole) (a3 : MK) (w3 : a3.IsWhole) (a4 : MK) (w4 : a4.IsWhole) (a5 : MO) (w5 : a5.IsWhole) (a6 : MW) (w6 : a6.IsWhole) (a7 : MW) (w7 : a7.IsWhole) (a8 : MQ) (w8 : a8.IsWhole) (a9 : MQ) (w9 : a9.IsWhole) (a10 : MK) (w10 : a10.IsWhole) (a11 : MK) (w11 : a11.IsWhole) (a12 : MA) (w12 : a12.IsWhole) (a13 : MA) (w13 : a13.IsWhole) (a1 : BitVec 32) (v3 v4 v5 v6 : Vec F S512x128 .bf16) (v12 v18 : FVec F S512x1 .f32) (v32 : FVec F S256x256 .bf16)

section

variable (c0_i32_102 : BitVec 32) (X3 : Held F a3) (X4 : Held F a4) (X6 : Held F a6) (X7 : Held F a7) (G_arg12 : Held F a12) (G_arg13 : Held F a13) (init : Carry F)

/-- ONE TRIP of `k0_t1_loop i` at a symbolic `k` and carried value `acc`, run by `sl_exec` (its rectangles where the program's in-range evidence puts them. -/
@[irreducible] def trip_k0_t1 (k : Fin (k0_t1_loop i).trips) :
    Σ' (R_k0_t1 : ((Carry F) → Held F a12 → Held F a13 → Carry F)) (L_arg12 : ((Carry F) → Held F a12 → Held F a13 → Pieces F)) , { L_arg13 : ((Carry F) → Held F a12 → Held F a13 → Pieces F) // ∀ (E : Set ℕ) (acc : Carry F) (f_arg12 : Held F a12) (f_arg13 : Held F a13),
      Trip_k0_t1 (F := F) c a3 a4 a6 a7 a12 a13 X3 X4 X6 X7 f_arg12 f_arg13
      ⊢ wp frame (wpE (defs₀ (F := F)) 𝒱 (c : Thread nD τ) bd) E (k0_t1_body (F := F) i _ w2 _ w3 _ w4 _ w5 _ w6 _ w7 _ w8 _ w9 _ w10 _ w11 _ w12 _ w13 a1 v3 v4 v5 v6 v12 v18 v32 c0_i32_102 k acc)
          (fun yld => iprop(⌜yld = R_k0_t1 acc f_arg12 f_arg13⌝ ∗ Trip_k0_t1 (F := F) c a3 a4 a6 a7 a12 a13 X3 X4 X6 X7 (a12.view.writes (Elt F) f_arg12 (L_arg12 acc f_arg12 f_arg13)) (a13.view.writes (Elt F) f_arg13 (L_arg13 acc f_arg12 f_arg13)))) } := by
  refine ⟨?_, ?_, ?_, fun E acc f_arg12 f_arg13 => ?run⟩
  case run =>
    unfold k0_t1_body
    iintro ⟨HR_arg3, HR_arg4, HR_arg6, HR_arg7, HW_arg12, HW_arg13⟩
    sl_exec
    sl_step
    sl_close

/-- The trip's result (a plain projection of `trip_…`, for the recursion below to cite without its proof). -/
abbrev tripR_k0_t1 (k : Fin (k0_t1_loop i).trips) (acc : Carry F) (f_arg12 : Held F a12) (f_arg13 : Held F a13) : Carry F :=
  (trip_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 k).1 acc f_arg12 f_arg13

/-- The trip's piece lists (plain projections of `trip_…`, for the recursion below to cite without its proof), at the carried value and the contents the trip. -/
abbrev tripL_k0_t1 (k : Fin (k0_t1_loop i).trips) (acc : Carry F) (f_arg12 : Held F a12) (f_arg13 : Held F a13) : Pieces F × Pieces F :=
  ((trip_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 k).2.1 acc f_arg12 f_arg13, (trip_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 k).2.2.1 acc f_arg12 f_arg13)

/-- One trip's outcome on the state before it. -/
abbrev next_k0_t1 (k : Fin (k0_t1_loop i).trips) (prev : Carry F × Pieces F × Pieces F) : Carry F × Pieces F × Pieces F :=
  (tripR_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 k prev.1 (a12.view.writes (Elt F) G_arg12 prev.2.1) (a13.view.writes (Elt F) G_arg13 prev.2.2), (tripL_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 k prev.1 (a12.view.writes (Elt F) G_arg12 prev.2.1) (a13.view.writes (Elt F) G_arg13 prev.2.2)).1 ++ prev.2.1, (tripL_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 k prev.1 (a12.view.writes (Elt F) G_arg12 prev.2.1) (a13.view.writes (Elt F) G_arg13 prev.2.2)).2 ++ prev.2.2)

/-- Trip `k`'s contribution to the state the recursion `st_k0_t1` below carries (`prev`). -/
@[irreducible] def st_k0_t1Step (k : ℕ) (prev : Carry F × Pieces F × Pieces F) : Carry F × Pieces F × Pieces F :=
  if h : k < (k0_t1_loop i).trips then next_k0_t1 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 ⟨k, h⟩ prev else prev

/-- The STATE before trip `k`. -/
def st_k0_t1 : ℕ → Carry F × Pieces F × Pieces F
  | 0 => (init, [], [])
  | k + 1 => st_k0_t1Step 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 k (st_k0_t1 k)

theorem st_k0_t1_succ (k : Fin (k0_t1_loop i).trips) :
    st_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 init (k.val + 1)
      = next_k0_t1 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 k (st_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 init k.val) := by
  rw [st_k0_t1.eq_2]; unfold st_k0_t1Step; exact dif_pos k.isLt

/-- The carried value before trip 0 is the initial one. -/
theorem st_k0_t1_zero :
    (st_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 init 0).1 = init := rfl

/-- THE INVARIANT before trip `k`. -/
abbrev inv_k0_t1 (k : ℕ) (acc : Carry F) : sProp 𝕄G :=
  iprop((a3.view.loc (c : Thread nD τ) ↦[a3.view.set]{fullShare} X3) ∗ (a4.view.loc (c : Thread nD τ) ↦[a4.view.set]{fullShare} X4) ∗ (a6.view.loc (c : Thread nD τ) ↦[a6.view.set]{fullShare} X6) ∗ (a7.view.loc (c : Thread nD τ) ↦[a7.view.set]{fullShare} X7) ∗ (∃ f, (a12.view.loc (c : Thread nD τ) ↦[a12.view.set]{fullShare} f) ∗ ⌜f = a12.view.writes (Elt F) G_arg12 (st_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 init k).2.1⌝) ∗ (∃ f, (a13.view.loc (c : Thread nD τ) ↦[a13.view.set]{fullShare} f) ∗ ⌜f = a13.view.writes (Elt F) G_arg13 (st_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 init k).2.2⌝) ∗ ⌜acc = (st_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 init k).1⌝)

set_option warn.classDefReducibility false in
/-- THE LOOP BY ITS INVARIANT. -/
@[sl_loop] def loopInv_k0_t1 :
    LoopInvTy_k0_t1 (F := F) Unit ℕ (UR sig nD τ) ℕ 𝒱 c bd E i _ w2 _ w3 _ w4 _ w5 _ w6 _ w7 _ w8 _ w9 _ w10 _ w11 _ w12 _ w13 a1 v3 v4 v5 v6 v12 v18 v32 c0_i32_102 init where
  inv := inv_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 init
  step k acc := by
    iintro ⟨HR_arg3, HR_arg4, HR_arg6, HR_arg7, ⟨%f_arg12, HW_arg12, %h_arg12⟩, ⟨%f_arg13, HW_arg13, %h_arg13⟩, %h_acc⟩
    subst h_acc
    iapply (wp_wand_r Idealize.ShloMosaic.frame (wpE (defs₀ (F := F)) 𝒱 (c : Thread nD τ) bd) E)
    isplitl [HR_arg3 HR_arg4 HR_arg6 HR_arg7 HW_arg12 HW_arg13]
    · iapply ((trip_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 k).2.2.2 E (st_k0_t1 (F := F) 𝒱 c bd i _ w2 _ w3 _ w4 _ w5 _ w6 _ w7 _ w8 _ w9 _ w10 _ w11 _ w12 _ w13 a1 v3 v4 v5 v6 v12 v18 v32 c0_i32_102 X3 X4 X6 X7 G_arg12 G_arg13 init k).1 f_arg12 f_arg13)
      isplitl [HR_arg3]; · iexact HR_arg3
      isplitl [HR_arg4]; · iexact HR_arg4
      isplitl [HR_arg6]; · iexact HR_arg6
      isplitl [HR_arg7]; · iexact HR_arg7
      isplitl [HW_arg12]; · iexact HW_arg12
      iexact HW_arg13
    · iintro %yld ⟨%h_res, HR_arg3, HR_arg4, HR_arg6, HR_arg7, HW_arg12, HW_arg13⟩
      isplitl [HR_arg3]; · iexact HR_arg3
      isplitl [HR_arg4]; · iexact HR_arg4
      isplitl [HR_arg6]; · iexact HR_arg6
      isplitl [HR_arg7]; · iexact HR_arg7
      simp only [st_k0_t1_succ, next_k0_t1]
      isplitl [HW_arg12]
      · iexists _; isplitl [HW_arg12]; · iexact HW_arg12
        ipureintro; rw [h_arg12, h_arg13, ← View.writes_append]
      isplitl [HW_arg13]
      · iexists _; isplitl [HW_arg13]; · iexact HW_arg13
        ipureintro; rw [h_arg12, h_arg13, ← View.writes_append]
      ipureintro; rw [h_res, h_arg12, h_arg13]

end

section

variable (v241 : BitVec 32) (X3 : Held F a3) (X4 : Held F a4) (X6 : Held F a6) (X7 : Held F a7) (G_arg12 : Held F a12) (G_arg13 : Held F a13) (init : Carry F)

/-- ONE TRIP of `k0_t2_loop i` at a symbolic `k` and carried value `acc`, run by `sl_exec` (its rectangles where the program's in-range evidence puts them. -/
@[irreducible] def trip_k0_t2 (k : Fin (k0_t2_loop i).trips) :
    Σ' (R_k0_t2 : ((Carry F) → Held F a12 → Held F a13 → Carry F)) (L_arg12 : ((Carry F) → Held F a12 → Held F a13 → Pieces F)) , { L_arg13 : ((Carry F) → Held F a12 → Held F a13 → Pieces F) // ∀ (E : Set ℕ) (acc : Carry F) (f_arg12 : Held F a12) (f_arg13 : Held F a13),
      Trip_k0_t1 (F := F) c a3 a4 a6 a7 a12 a13 X3 X4 X6 X7 f_arg12 f_arg13
      ⊢ wp frame (wpE (defs₀ (F := F)) 𝒱 (c : Thread nD τ) bd) E (k0_t2_body (F := F) i _ w2 _ w3 _ w4 _ w5 _ w6 _ w7 _ w8 _ w9 _ w10 _ w11 _ w12 _ w13 a1 v3 v4 v5 v6 v12 v18 v32 v241 k acc)
          (fun yld => iprop(⌜yld = R_k0_t2 acc f_arg12 f_arg13⌝ ∗ Trip_k0_t1 (F := F) c a3 a4 a6 a7 a12 a13 X3 X4 X6 X7 (a12.view.writes (Elt F) f_arg12 (L_arg12 acc f_arg12 f_arg13)) (a13.view.writes (Elt F) f_arg13 (L_arg13 acc f_arg12 f_arg13)))) } := by
  refine ⟨?_, ?_, ?_, fun E acc f_arg12 f_arg13 => ?run⟩
  case run =>
    unfold k0_t2_body
    iintro ⟨HR_arg3, HR_arg4, HR_arg6, HR_arg7, HW_arg12, HW_arg13⟩
    sl_exec
    sl_step
    sl_close

/-- The trip's result (a plain projection of `trip_…`, for the recursion below to cite without its proof). -/
abbrev tripR_k0_t2 (k : Fin (k0_t2_loop i).trips) (acc : Carry F) (f_arg12 : Held F a12) (f_arg13 : Held F a13) : Carry F :=
  (trip_k0_t2 (F := F) 𝒱 c bd i _ w2 _ w3 _ w4 _ w5 _ w6 _ w7 _ w8 _ w9 _ w10 _ w11 _ w12 _ w13 a1 v3 v4 v5 v6 v12 v18 v32 v241 X3 X4 X6 X7 k).1 acc f_arg12 f_arg13

/-- The trip's piece lists (plain projections of `trip_…`, for the recursion below to cite without its proof), at the carried value and the contents the trip. -/
abbrev tripL_k0_t2 (k : Fin (k0_t2_loop i).trips) (acc : Carry F) (f_arg12 : Held F a12) (f_arg13 : Held F a13) : Pieces F × Pieces F :=
  ((trip_k0_t2 (F := F) 𝒱 c bd i _ w2 _ w3 _ w4 _ w5 _ w6 _ w7 _ w8 _ w9 _ w10 _ w11 _ w12 _ w13 a1 v3 v4 v5 v6 v12 v18 v32 v241 X3 X4 X6 X7 k).2.1 acc f_arg12 f_arg13, (trip_k0_t2 (F := F) 𝒱 c bd i _ w2 _ w3 _ w4 _ w5 _ w6 _ w7 _ w8 _ w9 _ w10 _ w11 _ w12 _ w13 a1 v3 v4 v5 v6 v12 v18 v32 v241 X3 X4 X6 X7 k).2.2.1 acc f_arg12 f_arg13)

/-- One trip's outcome on the state before it. -/
abbrev next_k0_t2 (k : Fin (k0_t2_loop i).trips) (prev : Carry F × Pieces F × Pieces F) : Carry F × Pieces F × Pieces F :=
  (tripR_k0_t2 (F := F) 𝒱 c bd i _ w2 _ w3 _ w4 _ w5 _ w6 _ w7 _ w8 _ w9 _ w10 _ w11 _ w12 _ w13 a1 v3 v4 v5 v6 v12 v18 v32 v241 X3 X4 X6 X7 k prev.1 (a12.view.writes (Elt F) G_arg12 prev.2.1) (a13.view.writes (Elt F) G_arg13 prev.2.2), (tripL_k0_t2 (F := F) 𝒱 c bd i _ w2 _ w3 _ w4 _ w5 _ w6 _ w7 _ w8 _ w9 _ w10 _ w11 _ w12 _ w13 a1 v3 v4 v5 v6 v12 v18 v32 v241 X3 X4 X6 X7 k prev.1 (a12.view.writes (Elt F) G_arg12 prev.2.1) (a13.view.writes (Elt F) G_arg13 prev.2.2)).1 ++ prev.2.1, (tripL_k0_t2 (F := F) 𝒱 c bd i _ w2 _ w3 _ w4 _ w5 _ w6 _ w7 _ w8 _ w9 _ w10 _ w11 _ w12 _ w13 a1 v3 v4 v5 v6 v12 v18 v32 v241 X3 X4 X6 X7 k prev.1 (a12.view.writes (Elt F) G_arg12 prev.2.1) (a13.view.writes (Elt F) G_arg13 prev.2.2)).2 ++ prev.2.2)

/-- Trip `k`'s contribution to the state the recursion `st_k0_t2` below carries (`prev`). -/
@[irreducible] def st_k0_t2Step (k : ℕ) (prev : Carry F × Pieces F × Pieces F) : Carry F × Pieces F × Pieces F :=
  if h : k < (k0_t2_loop i).trips then next_k0_t2 𝒱 c bd i _ w2 _ w3 _ w4 _ w5 _ w6 _ w7 _ w8 _ w9 _ w10 _ w11 _ w12 _ w13 a1 v3 v4 v5 v6 v12 v18 v32 v241 X3 X4 X6 X7 G_arg12 G_arg13 ⟨k, h⟩ prev else prev

/-- The STATE before trip `k`. -/
def st_k0_t2 : ℕ → Carry F × Pieces F × Pieces F
  | 0 => (init, [], [])
  | k + 1 => st_k0_t2Step 𝒱 c bd i _ w2 _ w3 _ w4 _ w5 _ w6 _ w7 _ w8 _ w9 _ w10 _ w11 _ w12 _ w13 a1 v3 v4 v5 v6 v12 v18 v32 v241 X3 X4 X6 X7 G_arg12 G_arg13 k (st_k0_t2 k)

theorem st_k0_t2_succ (k : Fin (k0_t2_loop i).trips) :
    st_k0_t2 (F := F) 𝒱 c bd i _ w2 _ w3 _ w4 _ w5 _ w6 _ w7 _ w8 _ w9 _ w10 _ w11 _ w12 _ w13 a1 v3 v4 v5 v6 v12 v18 v32 v241 X3 X4 X6 X7 G_arg12 G_arg13 init (k.val + 1)
      = next_k0_t2 𝒱 c bd i _ w2 _ w3 _ w4 _ w5 _ w6 _ w7 _ w8 _ w9 _ w10 _ w11 _ w12 _ w13 a1 v3 v4 v5 v6 v12 v18 v32 v241 X3 X4 X6 X7 G_arg12 G_arg13 k (st_k0_t2 (F := F) 𝒱 c bd i _ w2 _ w3 _ w4 _ w5 _ w6 _ w7 _ w8 _ w9 _ w10 _ w11 _ w12 _ w13 a1 v3 v4 v5 v6 v12 v18 v32 v241 X3 X4 X6 X7 G_arg12 G_arg13 init k.val) := by
  rw [st_k0_t2.eq_2]; unfold st_k0_t2Step; exact dif_pos k.isLt

/-- The carried value before trip 0 is the initial one. -/
theorem st_k0_t2_zero :
    (st_k0_t2 (F := F) 𝒱 c bd i _ w2 _ w3 _ w4 _ w5 _ w6 _ w7 _ w8 _ w9 _ w10 _ w11 _ w12 _ w13 a1 v3 v4 v5 v6 v12 v18 v32 v241 X3 X4 X6 X7 G_arg12 G_arg13 init 0).1 = init := rfl

/-- THE INVARIANT before trip `k`. -/
abbrev inv_k0_t2 (k : ℕ) (acc : Carry F) : sProp 𝕄G :=
  iprop((a3.view.loc (c : Thread nD τ) ↦[a3.view.set]{fullShare} X3) ∗ (a4.view.loc (c : Thread nD τ) ↦[a4.view.set]{fullShare} X4) ∗ (a6.view.loc (c : Thread nD τ) ↦[a6.view.set]{fullShare} X6) ∗ (a7.view.loc (c : Thread nD τ) ↦[a7.view.set]{fullShare} X7) ∗ (∃ f, (a12.view.loc (c : Thread nD τ) ↦[a12.view.set]{fullShare} f) ∗ ⌜f = a12.view.writes (Elt F) G_arg12 (st_k0_t2 (F := F) 𝒱 c bd i _ w2 _ w3 _ w4 _ w5 _ w6 _ w7 _ w8 _ w9 _ w10 _ w11 _ w12 _ w13 a1 v3 v4 v5 v6 v12 v18 v32 v241 X3 X4 X6 X7 G_arg12 G_arg13 init k).2.1⌝) ∗ (∃ f, (a13.view.loc (c : Thread nD τ) ↦[a13.view.set]{fullShare} f) ∗ ⌜f = a13.view.writes (Elt F) G_arg13 (st_k0_t2 (F := F) 𝒱 c bd i _ w2 _ w3 _ w4 _ w5 _ w6 _ w7 _ w8 _ w9 _ w10 _ w11 _ w12 _ w13 a1 v3 v4 v5 v6 v12 v18 v32 v241 X3 X4 X6 X7 G_arg12 G_arg13 init k).2.2⌝) ∗ ⌜acc = (st_k0_t2 (F := F) 𝒱 c bd i _ w2 _ w3 _ w4 _ w5 _ w6 _ w7 _ w8 _ w9 _ w10 _ w11 _ w12 _ w13 a1 v3 v4 v5 v6 v12 v18 v32 v241 X3 X4 X6 X7 G_arg12 G_arg13 init k).1⌝)

set_option warn.classDefReducibility false in
/-- THE LOOP BY ITS INVARIANT. -/
@[sl_loop] def loopInv_k0_t2 :
    LoopInvTy_k0_t2 (F := F) Unit ℕ (UR sig nD τ) ℕ 𝒱 c bd E i _ w2 _ w3 _ w4 _ w5 _ w6 _ w7 _ w8 _ w9 _ w10 _ w11 _ w12 _ w13 a1 v3 v4 v5 v6 v12 v18 v32 v241 init where
  inv := inv_k0_t2 (F := F) 𝒱 c bd i _ w2 _ w3 _ w4 _ w5 _ w6 _ w7 _ w8 _ w9 _ w10 _ w11 _ w12 _ w13 a1 v3 v4 v5 v6 v12 v18 v32 v241 X3 X4 X6 X7 G_arg12 G_arg13 init
  step k acc := by
    iintro ⟨HR_arg3, HR_arg4, HR_arg6, HR_arg7, ⟨%f_arg12, HW_arg12, %h_arg12⟩, ⟨%f_arg13, HW_arg13, %h_arg13⟩, %h_acc⟩
    subst h_acc
    iapply (wp_wand_r Idealize.ShloMosaic.frame (wpE (defs₀ (F := F)) 𝒱 (c : Thread nD τ) bd) E)
    isplitl [HR_arg3 HR_arg4 HR_arg6 HR_arg7 HW_arg12 HW_arg13]
    · iapply ((trip_k0_t2 (F := F) 𝒱 c bd i _ w2 _ w3 _ w4 _ w5 _ w6 _ w7 _ w8 _ w9 _ w10 _ w11 _ w12 _ w13 a1 v3 v4 v5 v6 v12 v18 v32 v241 X3 X4 X6 X7 k).2.2.2 E (st_k0_t2 (F := F) 𝒱 c bd i _ w2 _ w3 _ w4 _ w5 _ w6 _ w7 _ w8 _ w9 _ w10 _ w11 _ w12 _ w13 a1 v3 v4 v5 v6 v12 v18 v32 v241 X3 X4 X6 X7 G_arg12 G_arg13 init k).1 f_arg12 f_arg13)
      isplitl [HR_arg3]; · iexact HR_arg3
      isplitl [HR_arg4]; · iexact HR_arg4
      isplitl [HR_arg6]; · iexact HR_arg6
      isplitl [HR_arg7]; · iexact HR_arg7
      isplitl [HW_arg12]; · iexact HW_arg12
      iexact HW_arg13
    · iintro %yld ⟨%h_res, HR_arg3, HR_arg4, HR_arg6, HR_arg7, HW_arg12, HW_arg13⟩
      isplitl [HR_arg3]; · iexact HR_arg3
      isplitl [HR_arg4]; · iexact HR_arg4
      isplitl [HR_arg6]; · iexact HR_arg6
      isplitl [HR_arg7]; · iexact HR_arg7
      simp only [st_k0_t2_succ, next_k0_t2]
      isplitl [HW_arg12]
      · iexists _; isplitl [HW_arg12]; · iexact HW_arg12
        ipureintro; rw [h_arg12, h_arg13, ← View.writes_append]
      isplitl [HW_arg13]
      · iexists _; isplitl [HW_arg13]; · iexact HW_arg13
        ipureintro; rw [h_arg12, h_arg13, ← View.writes_append]
      ipureintro; rw [h_res, h_arg12, h_arg13]

end

end

end Cert.SbIdeal.Hand

end
-- ==== Proof.SbRuns.lean ====
/-
The stick-breaking gradient: the branch conditions of the body over the grid's points, where its windows are idle, and
the body run once in each of its three cases (first, middle and last block of rows).
-/
module

public import proofs.«01_k».proof.Proof.Gen.SbIdeal.Frame
public import proofs.«01_k».proof.Proof.SbLoops

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar chain substituted). -/
abbrev cond0_1 (i : grid0.Coords) : Prop := k0_cond2 i = 1#1
/-- It holds at the points ≡ 3 (mod 4) — by arithmetic of the point. -/
theorem hcond0_1 : ∀ t : Fin cfg0.N, cond0_1 (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 7, through which its contents are stated (`View.read_writes_of_cover`: the choice does not matter). -/
abbrev VO0_7 : View sig .tc .vmem S512x256 .bf16 := (Memref.whole cc0_stg7_0 : MQ).view
/-- One staging buffer of output window 8, through which its contents are stated (`View.read_writes_of_cover`: the choice does not matter). -/
abbrev VO0_8 : View sig .tc .vmem S2048x256 .bf16 := (Memref.whole cc0_stg8_0 : MK).view
/-- One staging buffer of output window 9, through which its contents are stated (`View.read_writes_of_cover`: the choice does not matter). -/
abbrev VO0_9 : View sig .tc .vmem S2048x256 .bf16 := (Memref.whole cc0_stg9_0 : MK).view
/-- Each window's current staging memref at point `t`, spelled as the pipeline passes it (`bodyAt0`), and its wholeness. -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x8x512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x8x512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x256 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2048x256 .f32 := Memref.whole cc0_scratch0
abbrev scM0_1 : Memref sig .tc .vmem S2048x256 .f32 := Memref.whole cc0_scratch1
/-- The scratch `a12` the kernel carries between points, as a view: what it holds is stated through it. -/
abbrev VS0_0 : View sig .tc .vmem S2048x256 .f32 := scM0_0.view
/-- The scratch `a13` the kernel carries between points, as a view: what it holds is stated through it. -/
abbrev VS0_1 : View sig .tc .vmem S2048x256 .f32 := scM0_1.view

/-- The frame kit's invariant with the scratch operands as memrefs owned at some contents (`Gen.scopedRest0_eq`, Lib/Memref.lean `owns_whole`). -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

section

variable (c : Dev nD) (i : grid0.Coords) (a2 : MQ) (w2 : a2.IsWhole) (a3 : MK) (w3 : a3.IsWhole) (a4 : MK) (w4 : a4.IsWhole) (a5 : MO) (w5 : a5.IsWhole) (a6 : MW) (w6 : a6.IsWhole) (a7 : MW) (w7 : a7.IsWhole) (a8 : MQ) (w8 : a8.IsWhole) (a9 : MQ) (w9 : a9.IsWhole) (a10 : MK) (w10 : a10.IsWhole) (a11 : MK) (w11 : a11.IsWhole) (a12 : MA) (w12 : a12.IsWhole) (a13 : MA) (w13 : a13.IsWhole)

-- (the run's proof term is large: the definition's epilogue — `abstractNestedProofs` — walks it past the default budget)
set_option maxHeartbeats 1000000 in
/-- What the body's stores leave in each output's staging memref, as pieces (last first) IN CASE A (`scf.if` 0 taken, `scf.if` 1 not taken. -/
noncomputable def kernelRun0_A (hc0 : cond0_0 i) (hc1 : ¬cond0_1 i)
    (x0 : Vec F S512x256 .bf16) (x1 x2 : Vec F S2048x256 .bf16) (x3 : Vec F S512x256 .f32) (x4 x5 : Vec F S2x8x512x256 .bf16) (x6 : Vec F S512x256 .bf16) :
    Σ' (L7 : List (View.Piece (Elt F) S512x256 .bf16)), Σ' (L8 : List (View.Piece (Elt F) S2048x256 .bf16)), Σ' (L9 : List (View.Piece (Elt F) S2048x256 .bf16)), Σ' (LS0 : Pieces F), { LS1 : Pieces F //
      ∀ (xi8 xi9 : Vec F S2048x256 .bf16) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ owns (c : Thread nD τ) a10 fullShare xi8 ∗ owns (c : Thread nD τ) a11 fullShare xi9 ∗ (∃ d, owns (c : Thread nD τ) a12 fullShare d) ∗ (∃ d, owns (c : Thread nD τ) a13 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ f, a9.view.loc (c : Thread nD τ) ↦[a9.view.set]{fullShare} a9.view.writes (Elt F) f L7) ∗ owns (c : Thread nD τ) a10 fullShare xi8 ∗ owns (c : Thread nD τ) a11 fullShare xi9 ∗ (∃ f, a12.view.loc (c : Thread nD τ) ↦[a12.view.set]{fullShare} a12.view.writes (Elt F) f LS0) ∗ (∃ f, a13.view.loc (c : Thread nD τ) ↦[a13.view.set]{fullShare} a13.view.writes (Elt F) f LS1)) -∗ K ⟨⟩))
          ⊢ wp frame (wpE (defs₀ (F := F)) Variants.none c none) E (cc0_sb_bwd i a2 w2 a3 w3 a4 w4 a5 w5 a6 w6 a7 w7 a8 w8 a9 w9 a10 w10 a11 w11 a12 w12 a13 w13) K } := by
  refine ⟨?_, [], [], ?_, ?_, fun xi8 xi9 E K => ?run⟩
  case run =>
    simp only [cc0_sb_bwd_eq_skeleton]; unfold cc0_sb_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6; obtain rfl := w10.eq_unread hf8; obtain rfl := w11.eq_unread hf9
    sl_exec (disch := first | sl_exact hc0 | sl_exact hc1)
    sl_step
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; isplitr; · ipureintro; exact w5.read_unread _
      iexact H3
    isplitl [H4]
    · iexists _; isplitr; · ipureintro; exact w6.read_unread _
      iexact H4
    isplitl [H5]
    · iexists _; isplitr; · ipureintro; exact w7.read_unread _
      iexact H5
    isplitl [H6]
    · iexists _; isplitr; · ipureintro; exact w8.read_unread _
      iexact H6
    isplitl [H7]; · iexists _; iexact H7
    isplitl [H8]
    · iexists _; isplitr; · ipureintro; exact w10.read_unread _
      iexact H8
    isplitl [H9]
    · iexists _; isplitr; · ipureintro; exact w11.read_unread _
      iexact H9
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken, `scf.if` 1 not taken. -/
noncomputable def kernelRun0_B (hc0 : ¬cond0_0 i) (hc1 : ¬cond0_1 i)
    (x0 : Vec F S512x256 .bf16) (x1 x2 : Vec F S2048x256 .bf16) (x3 : Vec F S512x256 .f32) (x4 x5 : Vec F S2x8x512x256 .bf16) (x6 : Vec F S512x256 .bf16) (xs0 xs1 : Vec F S2048x256 .f32) :
    Σ' (L7 : List (View.Piece (Elt F) S512x256 .bf16)), Σ' (L8 : List (View.Piece (Elt F) S2048x256 .bf16)), Σ' (L9 : List (View.Piece (Elt F) S2048x256 .bf16)), Σ' (LS0 : Pieces F), { LS1 : Pieces F //
      ∀ (xi8 xi9 : Vec F S2048x256 .bf16) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ owns (c : Thread nD τ) a10 fullShare xi8 ∗ owns (c : Thread nD τ) a11 fullShare xi9 ∗ owns (c : Thread nD τ) a12 fullShare xs0 ∗ owns (c : Thread nD τ) a13 fullShare xs1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ f, a9.view.loc (c : Thread nD τ) ↦[a9.view.set]{fullShare} a9.view.writes (Elt F) f L7) ∗ owns (c : Thread nD τ) a10 fullShare xi8 ∗ owns (c : Thread nD τ) a11 fullShare xi9 ∗ (a12.view.loc (c : Thread nD τ) ↦[a12.view.set]{fullShare} a12.view.writes (Elt F) (w12.unread xs0) LS0) ∗ (a13.view.loc (c : Thread nD τ) ↦[a13.view.set]{fullShare} a13.view.writes (Elt F) (w13.unread xs1) LS1)) -∗ K ⟨⟩))
          ⊢ wp frame (wpE (defs₀ (F := F)) Variants.none c none) E (cc0_sb_bwd i a2 w2 a3 w3 a4 w4 a5 w5 a6 w6 a7 w7 a8 w8 a9 w9 a10 w10 a11 w11 a12 w12 a13 w13) K } := by
  refine ⟨?_, [], [], ?_, ?_, fun xi8 xi9 E K => ?run⟩
  case run =>
    simp only [cc0_sb_bwd_eq_skeleton]; unfold cc0_sb_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
    obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6; obtain rfl := w10.eq_unread hf8; obtain rfl := w11.eq_unread hf9; obtain rfl := w12.eq_unread hfs0; obtain rfl := w13.eq_unread hfs1
    sl_exec (disch := first | sl_exact hc0 | sl_exact hc1)
    sl_step
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; isplitr; · ipureintro; exact w5.read_unread _
      iexact H3
    isplitl [H4]
    · iexists _; isplitr; · ipureintro; exact w6.read_unread _
      iexact H4
    isplitl [H5]
    · iexists _; isplitr; · ipureintro; exact w7.read_unread _
      iexact H5
    isplitl [H6]
    · iexists _; isplitr; · ipureintro; exact w8.read_unread _
      iexact H6
    isplitl [H7]; · iexists _; iexact H7
    isplitl [H8]
    · iexists _; isplitr; · ipureintro; exact w10.read_unread _
      iexact H8
    isplitl [H9]
    · iexists _; isplitr; · ipureintro; exact w11.read_unread _
      iexact H9
    isplitl [HS0]; · iexact HS0
    iexact HS1

-- (the run's proof term is large: the definition's epilogue — `abstractNestedProofs` — walks it past the default budget)
set_option maxHeartbeats 1000000 in
/-- What the body's stores leave in each output's staging memref, as pieces (last first) IN CASE C (`scf.if` 0 not taken, `scf.if` 1 taken. -/
noncomputable def kernelRun0_C (hc0 : ¬cond0_0 i) (hc1 : cond0_1 i)
    (x0 : Vec F S512x256 .bf16) (x1 x2 : Vec F S2048x256 .bf16) (x3 : Vec F S512x256 .f32) (x4 x5 : Vec F S2x8x512x256 .bf16) (x6 : Vec F S512x256 .bf16) (xs0 xs1 : Vec F S2048x256 .f32) :
    Σ' (L7 : List (View.Piece (Elt F) S512x256 .bf16)), Σ' (L8 : List (View.Piece (Elt F) S2048x256 .bf16)), Σ' (L9 : List (View.Piece (Elt F) S2048x256 .bf16)), Σ' (LS0 : Pieces F), { LS1 : Pieces F //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ (∃ d, owns (c : Thread nD τ) a10 fullShare d) ∗ (∃ d, owns (c : Thread nD τ) a11 fullShare d) ∗ owns (c : Thread nD τ) a12 fullShare xs0 ∗ owns (c : Thread nD τ) a13 fullShare xs1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ f, a9.view.loc (c : Thread nD τ) ↦[a9.view.set]{fullShare} a9.view.writes (Elt F) f L7) ∗ (∃ f, a10.view.loc (c : Thread nD τ) ↦[a10.view.set]{fullShare} a10.view.writes (Elt F) f L8) ∗ (∃ f, a11.view.loc (c : Thread nD τ) ↦[a11.view.set]{fullShare} a11.view.writes (Elt F) f L9) ∗ (a12.view.loc (c : Thread nD τ) ↦[a12.view.set]{fullShare} a12.view.writes (Elt F) (w12.unread xs0) LS0) ∗ (a13.view.loc (c : Thread nD τ) ↦[a13.view.set]{fullShare} a13.view.writes (Elt F) (w13.unread xs1) LS1)) -∗ K ⟨⟩))
          ⊢ wp frame (wpE (defs₀ (F := F)) Variants.none c none) E (cc0_sb_bwd i a2 w2 a3 w3 a4 w4 a5 w5 a6 w6 a7 w7 a8 w8 a9 w9 a10 w10 a11 w11 a12 w12 a13 w13) K } := by
  refine ⟨?_, ?_, ?_, ?_, ?_, fun E K => ?run⟩
  case run =>
    simp only [cc0_sb_bwd_eq_skeleton]; unfold cc0_sb_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6; obtain rfl := w12.eq_unread hfs0; obtain rfl := w13.eq_unread hfs1
    sl_exec (disch := first | sl_exact hc0 | sl_exact hc1)
    sl_step
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; isplitr; · ipureintro; exact w5.read_unread _
      iexact H3
    isplitl [H4]
    · iexists _; isplitr; · ipureintro; exact w6.read_unread _
      iexact H4
    isplitl [H5]
    · iexists _; isplitr; · ipureintro; exact w7.read_unread _
      iexact H5
    isplitl [H6]
    · iexists _; isplitr; · ipureintro; exact w8.read_unread _
      iexact H6
    isplitl [H7]; · iexists _; iexact H7
    isplitl [H8]; · iexists _; iexact H8
    isplitl [H9]; · iexists _; iexact H9
    isplitl [HS0]; · iexact HS0
    iexact HS1

end

end Cert.SbIdeal.Hand

end
-- ==== Proof.SbFrame.lean ====
/-
The stick-breaking gradient: what its outputs and its accumulators hold point by point, the proof data, and the frame.
-/
module

public import proofs.«01_k».proof.Proof.SbRuns
public import Idealize.ShloMosaic.Lib.Claim

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) {a2 : MQ} (w2 : a2.IsWhole) {a3 : MK} (w3 : a3.IsWhole) {a4 : MK} (w4 : a4.IsWhole) {a5 : MO} (w5 : a5.IsWhole) {a6 : MW} (w6 : a6.IsWhole) {a7 : MW} (w7 : a7.IsWhole) {a8 : MQ} (w8 : a8.IsWhole) {a9 : MQ} (w9 : a9.IsWhole) {a10 : MK} (w10 : a10.IsWhole) {a11 : MK} (w11 : a11.IsWhole) (a12 : MA) (w12 : a12.IsWhole) (a13 : MA) (w13 : a13.IsWhole)

section

variable (hc0 : cond0_0 i) (hc1 : ¬cond0_1 i) (x0 : Vec F S512x256 .bf16) (x1 x2 : Vec F S2048x256 .bf16) (x3 : Vec F S512x256 .f32) (x4 x5 : Vec F S2x8x512x256 .bf16) (x6 : Vec F S512x256 .bf16)

/-- Case A's pieces for output 7 tile its block (2 stores of `S512x128`, checked by the kernel's evaluation. -/
theorem cover0_A_7 (y : S512x256.Idx) :
    ∃ pc ∈ (kernelRun0_A c i _ w2 _ w3 _ w4 _ w5 _ w6 _ w7 _ w8 _ w9 _ w10 _ w11 _ w12 _ w13 hc0 hc1 x0 x1 x2 x3 x4 x5 x6).1, y ∈ pc.1.set :=
  View.cover_of_tiledL (kernelRun0_A c i _ w2 _ w3 _ w4 _ w5 _ w6 _ w7 _ w8 _ w9 _ w10 _ w11 _ w12 _ w13 hc0 hc1 x0 x1 x2 x3 x4 x5 x6).1 S512x128.size (by sl_kernel_rfl) y

/-- What case A leaves in output 7's staging buffer: its pieces read back over junk. -/
def out0_A_7 : Vec F S512x256 .bf16 :=
  VO0_7.read (Elt F) (VO0_7.writes (Elt F) VO0_7.junk (kernelRun0_A c i _ w2 _ w3 _ w4 _ w5 _ w6 _ w7 _ w8 _ w9 _ w10 _ w11 _ w12 _ w13 hc0 hc1 x0 x1 x2 x3 x4 x5 x6).1)

/-- Case A stores nothing into output 8 (the window is idle at its points and not written back there). -/
def out0_A_8 : Vec F S2048x256 .bf16 :=
  VO0_8.read (Elt F) (VO0_8.writes (Elt F) VO0_8.junk (kernelRun0_A c i _ w2 _ w3 _ w4 _ w5 _ w6 _ w7 _ w8 _ w9 _ w10 _ w11 _ w12 _ w13 hc0 hc1 x0 x1 x2 x3 x4 x5 x6).2.1)

/-- Case A stores nothing into output 9 (the window is idle at its points and not written back there). -/
def out0_A_9 : Vec F S2048x256 .bf16 :=
  VO0_9.read (Elt F) (VO0_9.writes (Elt F) VO0_9.junk (kernelRun0_A c i _ w2 _ w3 _ w4 _ w5 _ w6 _ w7 _ w8 _ w9 _ w10 _ w11 _ w12 _ w13 hc0 hc1 x0 x1 x2 x3 x4 x5 x6).2.2.1)

/-- Case A's pieces for scratch `a12`, which the kernel carries between points, cover it. -/
theorem scover0_A_0 (y : S2048x256.Idx) :
    ∃ pc ∈ (kernelRun0_A c i _ w2 _ w3 _ w4 _ w5 _ w6 _ w7 _ w8 _ w9 _ w10 _ w11 _ w12 _ w13 hc0 hc1 x0 x1 x2 x3 x4 x5 x6).2.2.2.1, y ∈ pc.1.set :=
  View.cover_of_wholeMem _ (by sl_whole_mem) y

/-- What case A leaves in scratch `a12`: its pieces read back over junk. -/
def sout0_A_0 : Vec F S2048x256 .f32 :=
  VS0_0.read (Elt F) (VS0_0.writes (Elt F) VS0_0.junk (kernelRun0_A c i _ w2 _ w3 _ w4 _ w5 _ w6 _ w7 _ w8 _ w9 _ w10 _ w11 _ w12 _ w13 hc0 hc1 x0 x1 x2 x3 x4 x5 x6).2.2.2.1)

/-- Case A's pieces for scratch `a13`, which the kernel carries between points, cover it. -/
theorem scover0_A_1 (y : S2048x256.Idx) :
    ∃ pc ∈ (kernelRun0_A c i _ w2 _ w3 _ w4 _ w5 _ w6 _ w7 _ w8 _ w9 _ w10 _ w11 _ w12 _ w13 hc0 hc1 x0 x1 x2 x3 x4 x5 x6).2.2.2.2.1, y ∈ pc.1.set :=
  View.cover_of_wholeMem _ (by sl_whole_mem) y

/-- What case A leaves in scratch `a13`: its pieces read back over junk. -/
def sout0_A_1 : Vec F S2048x256 .f32 :=
  VS0_1.read (Elt F) (VS0_1.writes (Elt F) VS0_1.junk (kernelRun0_A c i _ w2 _ w3 _ w4 _ w5 _ w6 _ w7 _ w8 _ w9 _ w10 _ w11 _ w12 _ w13 hc0 hc1 x0 x1 x2 x3 x4 x5 x6).2.2.2.2.1)

end

section

variable (hc0 : ¬cond0_0 i) (hc1 : ¬cond0_1 i) (x0 : Vec F S512x256 .bf16) (x1 x2 : Vec F S2048x256 .bf16) (x3 : Vec F S512x256 .f32) (x4 x5 : Vec F S2x8x512x256 .bf16) (x6 : Vec F S512x256 .bf16) (xs0 xs1 : Vec F S2048x256 .f32)

/-- Case B's pieces for output 7 tile its block (2 stores of `S512x128`, checked by the kernel's evaluation. -/
theorem cover0_B_7 (y : S512x256.Idx) :
    ∃ pc ∈ (kernelRun0_B c i _ w2 _ w3 _ w4 _ w5 _ w6 _ w7 _ w8 _ w9 _ w10 _ w11 _ w12 _ w13 hc0 hc1 x0 x1 x2 x3 x4 x5 x6 xs0 xs1).1, y ∈ pc.1.set :=
  View.cover_of_tiledL (kernelRun0_B c i _ w2 _ w3 _ w4 _ w5 _ w6 _ w7 _ w8 _ w9 _ w10 _ w11 _ w12 _ w13 hc0 hc1 x0 x1 x2 x3 x4 x5 x6 xs0 xs1).1 S512x128.size (by sl_kernel_rfl) y

/-- What case B leaves in output 7's staging buffer: its pieces read back over junk. -/
def out0_B_7 : Vec F S512x256 .bf16 :=
  VO0_7.read (Elt F) (VO0_7.writes (Elt F) VO0_7.junk (kernelRun0_B c i _ w2 _ w3 _ w4 _ w5 _ w6 _ w7 _ w8 _ w9 _ w10 _ w11 _ w12 _ w13 hc0 hc1 x0 x1 x2 x3 x4 x5 x6 xs0 xs1).1)

/-- Case B stores nothing into output 8 (the window is idle at its points and not written back there). -/
def out0_B_8 : Vec F S2048x256 .bf16 :=
  VO0_8.read (Elt F) (VO0_8.writes (Elt F) VO0_8.junk (kernelRun0_B c i _ w2 _ w3 _ w4 _ w5 _ w6 _ w7 _ w8 _ w9 _ w10 _ w11 _ w12 _ w13 hc0 hc1 x0 x1 x2 x3 x4 x5 x6 xs0 xs1).2.1)

/-- Case B stores nothing into output 9 (the window is idle at its points and not written back there). -/
def out0_B_9 : Vec F S2048x256 .bf16 :=
  VO0_9.read (Elt F) (VO0_9.writes (Elt F) VO0_9.junk (kernelRun0_B c i _ w2 _ w3 _ w4 _ w5 _ w6 _ w7 _ w8 _ w9 _ w10 _ w11 _ w12 _ w13 hc0 hc1 x0 x1 x2 x3 x4 x5 x6 xs0 xs1).2.2.1)

/-- What case B leaves in scratch `a12`. -/
def sout0_B_0 : Vec F S2048x256 .f32 :=
  a12.view.read (Elt F) (a12.view.writes (Elt F) (w12.unread xs0) (kernelRun0_B c i _ w2 _ w3 _ w4 _ w5 _ w6 _ w7 _ w8 _ w9 _ w10 _ w11 _ w12 _ w13 hc0 hc1 x0 x1 x2 x3 x4 x5 x6 xs0 xs1).2.2.2.1)

/-- What case B leaves in scratch `a13`. -/
def sout0_B_1 : Vec F S2048x256 .f32 :=
  a13.view.read (Elt F) (a13.view.writes (Elt F) (w13.unread xs1) (kernelRun0_B c i _ w2 _ w3 _ w4 _ w5 _ w6 _ w7 _ w8 _ w9 _ w10 _ w11 _ w12 _ w13 hc0 hc1 x0 x1 x2 x3 x4 x5 x6 xs0 xs1).2.2.2.2.1)

end

section

variable (hc0 : ¬cond0_0 i) (hc1 : cond0_1 i) (x0 : Vec F S512x256 .bf16) (x1 x2 : Vec F S2048x256 .bf16) (x3 : Vec F S512x256 .f32) (x4 x5 : Vec F S2x8x512x256 .bf16) (x6 : Vec F S512x256 .bf16) (xs0 xs1 : Vec F S2048x256 .f32)

/-- Case C's pieces for output 7 tile its block (2 stores of `S512x128`, checked by the kernel's evaluation. -/
theorem cover0_C_7 (y : S512x256.Idx) :
    ∃ pc ∈ (kernelRun0_C c i _ w2 _ w3 _ w4 _ w5 _ w6 _ w7 _ w8 _ w9 _ w10 _ w11 _ w12 _ w13 hc0 hc1 x0 x1 x2 x3 x4 x5 x6 xs0 xs1).1, y ∈ pc.1.set :=
  View.cover_of_tiledL (kernelRun0_C c i _ w2 _ w3 _ w4 _ w5 _ w6 _ w7 _ w8 _ w9 _ w10 _ w11 _ w12 _ w13 hc0 hc1 x0 x1 x2 x3 x4 x5 x6 xs0 xs1).1 S512x128.size (by sl_kernel_rfl) y

/-- What case C leaves in output 7's staging buffer: its pieces read back over junk. -/
def out0_C_7 : Vec F S512x256 .bf16 :=
  VO0_7.read (Elt F) (VO0_7.writes (Elt F) VO0_7.junk (kernelRun0_C c i _ w2 _ w3 _ w4 _ w5 _ w6 _ w7 _ w8 _ w9 _ w10 _ w11 _ w12 _ w13 hc0 hc1 x0 x1 x2 x3 x4 x5 x6 xs0 xs1).1)

/-- Case C's pieces for output 8 tile its block (1 store of `S2048x256`, checked by the kernel's evaluation. -/
theorem cover0_C_8 (y : S2048x256.Idx) :
    ∃ pc ∈ (kernelRun0_C c i _ w2 _ w3 _ w4 _ w5 _ w6 _ w7 _ w8 _ w9 _ w10 _ w11 _ w12 _ w13 hc0 hc1 x0 x1 x2 x3 x4 x5 x6 xs0 xs1).2.1, y ∈ pc.1.set :=
  View.cover_of_tiledL _ S2048x256.size (by sl_kernel_rfl) y

/-- What case C leaves in output 8's staging buffer: its pieces read back over junk. -/
def out0_C_8 : Vec F S2048x256 .bf16 :=
  VO0_8.read (Elt F) (VO0_8.writes (Elt F) VO0_8.junk (kernelRun0_C c i _ w2 _ w3 _ w4 _ w5 _ w6 _ w7 _ w8 _ w9 _ w10 _ w11 _ w12 _ w13 hc0 hc1 x0 x1 x2 x3 x4 x5 x6 xs0 xs1).2.1)

/-- Case C's pieces for output 9 tile its block (1 store of `S2048x256`, checked by the kernel's evaluation. -/
theorem cover0_C_9 (y : S2048x256.Idx) :
    ∃ pc ∈ (kernelRun0_C c i _ w2 _ w3 _ w4 _ w5 _ w6 _ w7 _ w8 _ w9 _ w10 _ w11 _ w12 _ w13 hc0 hc1 x0 x1 x2 x3 x4 x5 x6 xs0 xs1).2.2.1, y ∈ pc.1.set :=
  View.cover_of_tiledL _ S2048x256.size (by sl_kernel_rfl) y

/-- What case C leaves in output 9's staging buffer: its pieces read back over junk. -/
def out0_C_9 : Vec F S2048x256 .bf16 :=
  VO0_9.read (Elt F) (VO0_9.writes (Elt F) VO0_9.junk (kernelRun0_C c i _ w2 _ w3 _ w4 _ w5 _ w6 _ w7 _ w8 _ w9 _ w10 _ w11 _ w12 _ w13 hc0 hc1 x0 x1 x2 x3 x4 x5 x6 xs0 xs1).2.2.1)

/-- What case C leaves in scratch `a12`. -/
def sout0_C_0 : Vec F S2048x256 .f32 :=
  a12.view.read (Elt F) (a12.view.writes (Elt F) (w12.unread xs0) (kernelRun0_C c i _ w2 _ w3 _ w4 _ w5 _ w6 _ w7 _ w8 _ w9 _ w10 _ w11 _ w12 _ w13 hc0 hc1 x0 x1 x2 x3 x4 x5 x6 xs0 xs1).2.2.2.1)

/-- What case C leaves in scratch `a13`. -/
def sout0_C_1 : Vec F S2048x256 .f32 :=
  a13.view.read (Elt F) (a13.view.writes (Elt F) (w13.unread xs1) (kernelRun0_C c i _ w2 _ w3 _ w4 _ w5 _ w6 _ w7 _ w8 _ w9 _ w10 _ w11 _ w12 _ w13 hc0 hc1 x0 x1 x2 x3 x4 x5 x6 xs0 xs1).2.2.2.2.1)

end

end

/-! ## What the outputs hold after each point -/

/-- What the outputs and the carried scratch hold after a point, in each case. -/
def caseA (c : Dev nD) (t : Fin cfg0.N) (h0 : t.val % 4 = 0) (h1 : ¬t.val % 4 = 3) :
    Vec F S512x256 .bf16 × Vec F S2048x256 .bf16 × Vec F S2048x256 .bf16 × Vec F S2048x256 .f32 × Vec F S2048x256 .f32 :=
  (out0_A_7 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_1 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
def caseB (c : Dev nD) (t : Fin cfg0.N) (h0 : ¬t.val % 4 = 0) (h1 : ¬t.val % 4 = 3) (p q : Vec F S2048x256 .f32) :
    Vec F S512x256 .bf16 × Vec F S2048x256 .bf16 × Vec F S2048x256 .bf16 × Vec F S2048x256 .f32 × Vec F S2048x256 .f32 :=
  (out0_B_7 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) p q, out0_B_8 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) p q, out0_B_9 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) p q, sout0_B_0 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) p q, sout0_B_1 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) p q)
def caseC (c : Dev nD) (t : Fin cfg0.N) (h0 : ¬t.val % 4 = 0) (h1 : t.val % 4 = 3) (p q : Vec F S2048x256 .f32) :
    Vec F S512x256 .bf16 × Vec F S2048x256 .bf16 × Vec F S2048x256 .bf16 × Vec F S2048x256 .f32 × Vec F S2048x256 .f32 :=
  (out0_C_7 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) p q, out0_C_8 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) p q, out0_C_9 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) p q, sout0_C_0 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) p q, sout0_C_1 c (grid0.coords t) (hs0_0 t) (hs0_1 t) (hs0_2 t) (hs0_3 t) (hs0_4 t) (hs0_5 t) (hs0_6 t) (hs0_7 t) (hs0_8 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) p q)

/-- THE ACCUMULATION. -/
def outsAt0 (c : Dev nD) : (n : ℕ) → n < cfg0.N → Vec F S512x256 .bf16 × Vec F S2048x256 .bf16 × Vec F S2048x256 .bf16 × Vec F S2048x256 .f32 × Vec F S2048x256 .f32
  | 0, hn => caseA m c ⟨0, hn⟩ (Nat.zero_mod _) (fun h => by (try dsimp only at h); omega)
  | n + 1, hn =>
    if h0 : (n + 1) % 4 = 0 then
      if h1 : (n + 1) % 4 = 3 then
        False.elim (by have hN : n + 1 < 16 := lt_of_lt_of_eq hn (show cfg0.N = 16 from N_0); omega)
      else
        caseA m c ⟨n + 1, hn⟩ h0 h1
    else
      if h1 : (n + 1) % 4 = 3 then
        caseC m c ⟨n + 1, hn⟩ h0 h1 (outsAt0 c n (Nat.lt_of_succ_lt hn)).2.2.2.1 (outsAt0 c n (Nat.lt_of_succ_lt hn)).2.2.2.2
      else
        caseB m c ⟨n + 1, hn⟩ h0 h1 (outsAt0 c n (Nat.lt_of_succ_lt hn)).2.2.2.1 (outsAt0 c n (Nat.lt_of_succ_lt hn)).2.2.2.2

/-- `outsAt0` at a point of case A: that case's contents. -/
theorem outsAt0_A (c : Dev nD) (t : Fin cfg0.N) (h0 : t.val % 4 = 0) (h1 : ¬t.val % 4 = 3) :
    outsAt0 m c t.val t.isLt = caseA m c t h0 h1 := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = caseB m c t h0 h1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = caseC m c t h0 h1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc m c t, PhiS_zero m c _ _ hz, PhiA0_eq]
        rw [outsAt0_A m c t h0 h1, caseA]
        unfold out0_A_7 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS0]; · iexact HS0
        isplitl [HS1]; · iexact HS1
        iintro ⟨H0, H1, H2, H3, H4, H5, H6, ⟨%e7, H7⟩, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun _ => scover0_A_0 ..)
            unfold owns; iexists _; isplitr
            swap; · iexact HS1
            ipureintro; exact View.read_writes_of_cover _ _ _ _ _ (fun _ => scover0_A_1 ..)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (fun _ => cover0_A_7 ..)
        isplitl [H8]; · iexists _; iexact H8
        iexists _; iexact H9
      · rw [PhiS_castSucc m c t, PhiS_pos m c _ _ hz]
        rw [outsAt0_A m c t h0 h1, caseA]
        unfold out0_A_7 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS0]; · iexists _; iexact HS0
        isplitl [HS1]; · iexists _; iexact HS1
        iintro ⟨H0, H1, H2, H3, H4, H5, H6, ⟨%e7, H7⟩, H8, H9, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (fun _ => scover0_A_0 ..)
            unfold owns; iexists _; isplitr
            swap; · iexact HS1
            ipureintro; exact View.read_writes_of_cover _ _ _ _ _ (fun _ => scover0_A_1 ..)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (fun _ => cover0_A_7 ..)
        isplitl [H8]; · iexists _; iexact H8
        iexists _; iexact H9
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1, caseC]
        unfold out0_C_7 out0_C_8 out0_C_9 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        iintro ⟨H0, H1, H2, H3, H4, H5, H6, ⟨%e7, H7⟩, ⟨%e8, H8⟩, ⟨%e9, H9⟩, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (fun _ => cover0_C_7 ..)
        isplitl [H8]
        · unfold owns; iexists _; isplitr
          swap; · iexact H8
          ipureintro; exact View.read_writes_of_cover _ _ _ _ _ (fun _ => cover0_C_8 ..)
        unfold owns; iexists _; isplitr
        swap; · iexact H9
        ipureintro; exact View.read_writes_of_cover _ _ _ _ _ (fun _ => cover0_C_9 ..)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1, caseB]
        unfold out0_B_7 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS0]; · iexact HS0
        isplitl [HS1]; · iexact HS1
        iintro ⟨H0, H1, H2, H3, H4, H5, H6, ⟨%e7, H7⟩, H8, H9, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (fun _ => cover0_B_7 ..)
        isplitl [H8]; · iexists _; iexact H8
        iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.SbIdeal.Hand

end
-- ==== Proof.SbValue.lean ====
/-
The stick-breaking gradient: its result arrays block by block, and its two accumulators point by point.
-/
module

public import proofs.«01_k».proof.Proof.SbFrame
public import Idealize.ShloMosaic.Lib.Pipeline.Value

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- WHAT POINT `t` WRITES BACK to output window 7's array. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- WHAT POINT `t` WRITES BACK to output window 8's array. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

-- no `blocks8`: window 8's index map revisits a block index, or its points could not be enumerated here;
-- the final array is still the frame's `arrAt`, to read with Lib/Pipeline/Value.lean's lemmas by hand

/-- WHAT POINT `t` WRITES BACK to output window 9's array. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

-- no `blocks9`: window 9's index map revisits a block index, or its points could not be enumerated here;
-- the final array is still the frame's `arrAt`, to read with Lib/Pipeline/Value.lean's lemmas by hand

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v41_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v41_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v41_2) = (dats m 0 c).arrAt 9 cfg0.N :=
  (h c).1 9

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 6 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 6).trans (((dats m 0 c).arrAt_in 6 rfl _).trans ((A_eq m c 6).trans (V_main_arg1 m c)))

/-- The frame run with each output array after the run NAMED — `(dats m 0 c).arrAt w N`, which `blocks_w` / `entry_w` read —, the arguments unchanged. -/
theorem run_blocks : θ_run defs (onTc (τ := τ) (main (F := F))) ⟨m, fun _ => 0, ρ⟩ fun r => ∀ c : Dev nD,
      r.2.mem ((c : Thread nD τ).loc main_v41_0) = (dats m 0 c).arrAt 7 cfg0.N
      ∧ r.2.mem ((c : Thread nD τ).loc main_v41_1) = (dats m 0 c).arrAt 8 cfg0.N
      ∧ r.2.mem ((c : Thread nD τ).loc main_v41_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post7 m r h c,
      post8 m r h c,
      post9 m r h c,
      kept_main_arg0 m r h c,
      kept_main_arg1 m r h c⟩)
    (run_main m ρ)

/-! ## Carried scratch 0: what each point leaves in it, and its fold -/

/-! ## Carried scratch 1: what each point leaves in it, and its fold -/

/-! ## The carried state as one fold: the named outputs and the carried scratch, from the first point -/

/-- What the fold starts from. -/
def junk0 : Vec F S512x256 .bf16 × Vec F S2048x256 .bf16 × Vec F S2048x256 .bf16 × Vec F S2048x256 .f32 × Vec F S2048x256 .f32 :=
  ((VO0_7.read (Elt F) VO0_7.junk, VO0_8.read (Elt F) VO0_8.junk, VO0_9.read (Elt F) VO0_9.junk, VS0_0.read (Elt F) VS0_0.junk, VS0_1.read (Elt F) VS0_1.junk) : Vec F S512x256 .bf16 × Vec F S2048x256 .bf16 × Vec F S2048x256 .bf16 × Vec F S2048x256 .f32 × Vec F S2048x256 .f32)

/-- THE STEP. -/
def stAt0 (c : Dev nD) (n : ℕ) (hb : n < cfg0.N) (acc : Vec F S512x256 .bf16 × Vec F S2048x256 .bf16 × Vec F S2048x256 .bf16 × Vec F S2048x256 .f32 × Vec F S2048x256 .f32) : Vec F S512x256 .bf16 × Vec F S2048x256 .bf16 × Vec F S2048x256 .bf16 × Vec F S2048x256 .f32 × Vec F S2048x256 .f32 :=
  if h0 : n % 4 = 0 then
    if h1 : n % 4 = 3 then
      False.elim (by have hN : n < 16 := lt_of_lt_of_eq hb (show cfg0.N = 16 from N_0); omega)
    else
      caseA m c ⟨n, hb⟩ h0 h1
  else
    if h1 : n % 4 = 3 then
      caseC m c ⟨n, hb⟩ h0 h1 acc.2.2.2.1 acc.2.2.2.2
    else
      caseB m c ⟨n, hb⟩ h0 h1 acc.2.2.2.1 acc.2.2.2.2

/-- `stAt0` at a point of case A: that case's contents. -/
theorem stAt0_A (c : Dev nD) (t : Fin cfg0.N) (acc : Vec F S512x256 .bf16 × Vec F S2048x256 .bf16 × Vec F S2048x256 .bf16 × Vec F S2048x256 .f32 × Vec F S2048x256 .f32) (h0 : t.val % 4 = 0) (h1 : ¬t.val % 4 = 3) :
    stAt0 m c t.val t.isLt acc = caseA m c t h0 h1 :=
  (dif_pos h0).trans ((dif_neg h1).trans rfl)

/-- `stAt0` at a point of case B: that case's contents, over `acc`. -/
theorem stAt0_B (c : Dev nD) (t : Fin cfg0.N) (acc : Vec F S512x256 .bf16 × Vec F S2048x256 .bf16 × Vec F S2048x256 .bf16 × Vec F S2048x256 .f32 × Vec F S2048x256 .f32) (h0 : ¬t.val % 4 = 0) (h1 : ¬t.val % 4 = 3) :
    stAt0 m c t.val t.isLt acc = caseB m c t h0 h1 acc.2.2.2.1 acc.2.2.2.2 :=
  (dif_neg h0).trans ((dif_neg h1).trans rfl)

/-- `stAt0` at a point of case C: that case's contents, over `acc`. -/
theorem stAt0_C (c : Dev nD) (t : Fin cfg0.N) (acc : Vec F S512x256 .bf16 × Vec F S2048x256 .bf16 × Vec F S2048x256 .bf16 × Vec F S2048x256 .f32 × Vec F S2048x256 .f32) (h0 : ¬t.val % 4 = 0) (h1 : t.val % 4 = 3) :
    stAt0 m c t.val t.isLt acc = caseC m c t h0 h1 acc.2.2.2.1 acc.2.2.2.2 :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`. -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 7 -/

/-- The block of the array that holds index `i`, numbered in the order the points write the blocks back (one per point), `i`'s place in it, and the point that. -/
abbrev run7Of (i : S2048x1024.Idx) : ℕ := 1 * ((i 0).val / 512 - 0) + 4 * ((i 1).val / 256 - 0)
set_option backward.proofsInPublic true in
abbrev loc7Of (i : S2048x1024.Idx) : S512x256.Idx := fun a => match a with
  | ⟨0, _⟩ => ⟨(i 0).val % 512, Nat.mod_lt _ (by decide)⟩
  | ⟨1, _⟩ => ⟨(i 1).val % 256, Nat.mod_lt _ (by decide)⟩
abbrev pt7Of (i : S2048x1024.Idx) : ℕ := run7Of i

/-- WHAT THE ARRAY ENDS HOLDING at index `i` inside the box the flushing blocks fill. -/
def G7 (c : Dev nD) : Buf (Elt F) ((c : Thread nD τ).loc main_v41_0) := fun i =>
  if h : pt7Of i < cfg0.N then
    (Pipeline.accAt (fun n h => stAt0 m c n h junk0) (stAt0 m c) 0 (pt7Of i) (by omega)).1 (loc7Of i)
  else V m c (Pipeline.arrRef spec0 7) i

/-- The printed index map, decided over the grid: output window 7's block indices stay in the box, and the block number read off them is the point's (`t`). -/
theorem idx_facts7 : ∀ t : Fin cfg0.N, 0 ≤ win0_7.index t (0 : Fin 2) ∧ win0_7.index t (0 : Fin 2) ≤ 3
    ∧ 0 ≤ win0_7.index t (1 : Fin 2) ∧ win0_7.index t (1 : Fin 2) ≤ 3
    ∧ 1 * (win0_7.index t (0 : Fin 2) - 0) + 4 * (win0_7.index t (1 : Fin 2) - 0) = t.val :=
  (by decide +kernel : ∀ t : Fin grid0.N, _)

/-- Every block of the box is SOME flushing point's: `onto7Pt`, the point that writes back the block at place `q` of the box. -/
abbrev onto7Pt (q0 q1 : Fin 4) : Fin grid0.N :=
  ⟨1 * q0.val + 4 * q1.val, lt_of_lt_of_eq (by omega) N_0.symm⟩
theorem idx_onto7 : ∀ (q0 q1 : Fin 4), ∃ t : Fin cfg0.N, (cfg0.win 7).flush t = true ∧ win0_7.index t = ![q0.val + 0, q1.val + 0] :=
  fun q0 q1 => ⟨onto7Pt q0 q1, (by decide +kernel : ∀ (q0 q1 : Fin 4), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  obtain ⟨e0, e1, e2⟩ := idx_facts7 t
  funext y
  have hy0 : (y 0).val < 512 := (y 0).isLt
  have hy1 : (y 1).val < 256 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 256 + 1 * (y 1).val := rfl
  have hr : run7Of (((cfg0.win 7).blk t).view.emb y) = t.val := by
    show 1 * ((((cfg0.win 7).blk t).view.emb y 0).val / 512 - 0) + 4 * ((((cfg0.win 7).blk t).view.emb y 1).val / 256 - 0) = _
    rw [hb0, hb1]
    rw [show (win0_7.index t (0 : Fin 2) * 512 + 1 * (y 0).val) / 512 = win0_7.index t (0 : Fin 2) from by omega]; rw [show (win0_7.index t (1 : Fin 2) * 256 + 1 * (y 1).val) / 256 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 512 = (y 0).val; rw [hb0]; omega
    | ⟨1, _⟩ => show (((cfg0.win 7).blk t).view.emb y 1).val % 256 = (y 1).val; rw [hb1]; omega
  have hp : pt7Of (((cfg0.win 7).blk t).view.emb y) = t.val := by
    exact hr
  show (Pipeline.accAt (fun n h => stAt0 m c n h junk0) (stAt0 m c) 0 t.val _).1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S2048x1024.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v41_0).slice (win0_7.rect t)).set ↔ _
  rw [View.set_slice_whole, Rect.mem_set_unit]
  exact Iff.rfl

/-- THE COVERED INDICES: in some flushing point's block iff inside the box those blocks fill. -/
theorem covered_iff7 (i : S2048x1024.Idx) :
    (∃ t : Fin cfg0.N, (cfg0.win 7).flush t = true ∧ i ∈ ((cfg0.win 7).blk t).view.set) ↔ 0 ≤ (i 0).val ∧ (i 0).val < 2048 ∧ 0 ≤ (i 1).val ∧ (i 1).val < 1024 := by
  constructor
  · rintro ⟨t, -, hi⟩
    rw [mem_blk7] at hi
    have b0 : win0_7.index t (0 : Fin 2) * 512 ≤ (i 0).val ∧ (i 0).val < win0_7.index t (0 : Fin 2) * 512 + 512 := hi 0
    have b1 : win0_7.index t (1 : Fin 2) * 256 ≤ (i 1).val ∧ (i 1).val < win0_7.index t (1 : Fin 2) * 256 + 256 := hi 1
    obtain ⟨e0, e1, e2⟩ := idx_facts7 t
    omega
  · intro h
    have hi0 : (i 0).val < 2048 := (i 0).isLt
    have hi1 : (i 1).val < 1024 := (i 1).isLt
    obtain ⟨t, hft, ht⟩ := idx_onto7 ⟨(i 0).val / 512 - 0, by omega⟩ ⟨(i 1).val / 256 - 0, by omega⟩
    have q0 : win0_7.index t (0 : Fin 2) = (i 0).val / 512 - 0 + 0 := congrFun ht 0
    have q1 : win0_7.index t (1 : Fin 2) = (i 1).val / 256 - 0 + 0 := congrFun ht 1
    refine ⟨t, hft, ?_⟩
    rw [mem_blk7]
    intro a
    match a with
    | ⟨0, _⟩ => show win0_7.index t (0 : Fin 2) * 512 ≤ (i 0).val ∧ (i 0).val < win0_7.index t (0 : Fin 2) * 512 + 512; omega
    | ⟨1, _⟩ => show win0_7.index t (1 : Fin 2) * 256 ≤ (i 1).val ∧ (i 1).val < win0_7.index t (1 : Fin 2) * 256 + 256; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 2048 := (i 0).isLt; have h1 : (i 1).val < 1024 := (i 1).isLt; omega))

/-! ## Output window 8 -/

/-- The block of the array that holds index `i`, numbered in the order the points write the blocks back (one every 4 points), `i`'s place in it, and the point. -/
abbrev run8Of (i : S2048x1024.Idx) : ℕ := 4 * ((i 0).val / 2048 - 0) + 1 * ((i 1).val / 256 - 0)
set_option backward.proofsInPublic true in
abbrev loc8Of (i : S2048x1024.Idx) : S2048x256.Idx := fun a => match a with
  | ⟨0, _⟩ => ⟨(i 0).val % 2048, Nat.mod_lt _ (by decide)⟩
  | ⟨1, _⟩ => ⟨(i 1).val % 256, Nat.mod_lt _ (by decide)⟩
abbrev pt8Of (i : S2048x1024.Idx) : ℕ := 4 * run8Of i + 3

/-- WHAT THE ARRAY ENDS HOLDING at index `i` inside the box the flushing blocks fill. -/
def G8 (c : Dev nD) : Buf (Elt F) ((c : Thread nD τ).loc main_v41_1) := fun i =>
  if h : pt8Of i < cfg0.N then
    (Pipeline.accAt (fun n h => stAt0 m c n h junk0) (stAt0 m c) 0 (pt8Of i) (by omega)).2.1 (loc8Of i)
  else V m c (Pipeline.arrRef spec0 8) i

/-- The printed index map, decided over the grid. -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 3
    ∧ 4 * (win0_8.index t (0 : Fin 2) - 0) + 1 * (win0_8.index t (1 : Fin 2) - 0) = t.val / 4 :=
  (by decide +kernel : ∀ t : Fin grid0.N, _)

/-- Every block of the box is SOME flushing point's: `onto8Pt`, the point that writes back the block at place `q` of the box (the last point of its run). -/
abbrev onto8Pt (q0 : Fin 1) (q1 : Fin 4) : Fin grid0.N :=
  ⟨4 * (4 * q0.val + 1 * q1.val) + 3, lt_of_lt_of_eq (by omega) N_0.symm⟩
theorem idx_onto8 : ∀ (q0 : Fin 1) (q1 : Fin 4), ∃ t : Fin cfg0.N, (cfg0.win 8).flush t = true ∧ win0_8.index t = ![q0.val + 0, q1.val + 0] :=
  fun q0 q1 => ⟨onto8Pt q0 q1, (by decide +kernel : ∀ (q0 : Fin 1) (q1 : Fin 4), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  have hm : t.val % 4 = 3 := (flush0_8 t).mp hf
  obtain ⟨e0, e1, e2⟩ := idx_facts8 t
  funext y
  have hy0 : (y 0).val < 2048 := (y 0).isLt
  have hy1 : (y 1).val < 256 := (y 1).isLt
  have hb0 : (((cfg0.win 8).blk t).view.emb y 0).val = win0_8.index t (0 : Fin 2) * 2048 + 1 * (y 0).val := rfl
  have hb1 : (((cfg0.win 8).blk t).view.emb y 1).val = win0_8.index t (1 : Fin 2) * 256 + 1 * (y 1).val := rfl
  have hr : run8Of (((cfg0.win 8).blk t).view.emb y) = t.val / 4 := by
    show 4 * ((((cfg0.win 8).blk t).view.emb y 0).val / 2048 - 0) + 1 * ((((cfg0.win 8).blk t).view.emb y 1).val / 256 - 0) = _
    rw [hb0, hb1]
    rw [show (win0_8.index t (0 : Fin 2) * 2048 + 1 * (y 0).val) / 2048 = win0_8.index t (0 : Fin 2) from by omega]; rw [show (win0_8.index t (1 : Fin 2) * 256 + 1 * (y 1).val) / 256 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 2048 = (y 0).val; rw [hb0]; omega
    | ⟨1, _⟩ => show (((cfg0.win 8).blk t).view.emb y 1).val % 256 = (y 1).val; rw [hb1]; omega
  have hp : pt8Of (((cfg0.win 8).blk t).view.emb y) = t.val := by
    show 4 * run8Of (((cfg0.win 8).blk t).view.emb y) + 3 = _
    rw [hr]; have := Nat.div_add_mod t.val 4; omega
  show (Pipeline.accAt (fun n h => stAt0 m c n h junk0) (stAt0 m c) 0 t.val _).2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S2048x1024.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v41_1).slice (win0_8.rect t)).set ↔ _
  rw [View.set_slice_whole, Rect.mem_set_unit]
  exact Iff.rfl

/-- THE COVERED INDICES: in some flushing point's block iff inside the box those blocks fill. -/
theorem covered_iff8 (i : S2048x1024.Idx) :
    (∃ t : Fin cfg0.N, (cfg0.win 8).flush t = true ∧ i ∈ ((cfg0.win 8).blk t).view.set) ↔ 0 ≤ (i 0).val ∧ (i 0).val < 2048 ∧ 0 ≤ (i 1).val ∧ (i 1).val < 1024 := by
  constructor
  · rintro ⟨t, -, hi⟩
    rw [mem_blk8] at hi
    have b0 : win0_8.index t (0 : Fin 2) * 2048 ≤ (i 0).val ∧ (i 0).val < win0_8.index t (0 : Fin 2) * 2048 + 2048 := hi 0
    have b1 : win0_8.index t (1 : Fin 2) * 256 ≤ (i 1).val ∧ (i 1).val < win0_8.index t (1 : Fin 2) * 256 + 256 := hi 1
    obtain ⟨e0, e1, e2⟩ := idx_facts8 t
    omega
  · intro h
    have hi0 : (i 0).val < 2048 := (i 0).isLt
    have hi1 : (i 1).val < 1024 := (i 1).isLt
    obtain ⟨t, hft, ht⟩ := idx_onto8 ⟨(i 0).val / 2048 - 0, by omega⟩ ⟨(i 1).val / 256 - 0, by omega⟩
    have q0 : win0_8.index t (0 : Fin 2) = (i 0).val / 2048 - 0 + 0 := congrFun ht 0
    have q1 : win0_8.index t (1 : Fin 2) = (i 1).val / 256 - 0 + 0 := congrFun ht 1
    refine ⟨t, hft, ?_⟩
    rw [mem_blk8]
    intro a
    match a with
    | ⟨0, _⟩ => show win0_8.index t (0 : Fin 2) * 2048 ≤ (i 0).val ∧ (i 0).val < win0_8.index t (0 : Fin 2) * 2048 + 2048; omega
    | ⟨1, _⟩ => show win0_8.index t (1 : Fin 2) * 256 ≤ (i 1).val ∧ (i 1).val < win0_8.index t (1 : Fin 2) * 256 + 256; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 2048 := (i 0).isLt; have h1 : (i 1).val < 1024 := (i 1).isLt; omega))

/-! ## Output window 9 -/

/-- The block of the array that holds index `i`, numbered in the order the points write the blocks back (one every 4 points), `i`'s place in it, and the point. -/
abbrev run9Of (i : S2048x1024.Idx) : ℕ := 4 * ((i 0).val / 2048 - 0) + 1 * ((i 1).val / 256 - 0)
set_option backward.proofsInPublic true in
abbrev loc9Of (i : S2048x1024.Idx) : S2048x256.Idx := fun a => match a with
  | ⟨0, _⟩ => ⟨(i 0).val % 2048, Nat.mod_lt _ (by decide)⟩
  | ⟨1, _⟩ => ⟨(i 1).val % 256, Nat.mod_lt _ (by decide)⟩
abbrev pt9Of (i : S2048x1024.Idx) : ℕ := 4 * run9Of i + 3

/-- WHAT THE ARRAY ENDS HOLDING at index `i` inside the box the flushing blocks fill. -/
def G9 (c : Dev nD) : Buf (Elt F) ((c : Thread nD τ).loc main_v41_2) := fun i =>
  if h : pt9Of i < cfg0.N then
    (Pipeline.accAt (fun n h => stAt0 m c n h junk0) (stAt0 m c) 0 (pt9Of i) (by omega)).2.2.1 (loc9Of i)
  else V m c (Pipeline.arrRef spec0 9) i

/-- The printed index map, decided over the grid. -/
theorem idx_facts9 : ∀ t : Fin cfg0.N, 0 ≤ win0_9.index t (0 : Fin 2) ∧ win0_9.index t (0 : Fin 2) ≤ 0
    ∧ 0 ≤ win0_9.index t (1 : Fin 2) ∧ win0_9.index t (1 : Fin 2) ≤ 3
    ∧ 4 * (win0_9.index t (0 : Fin 2) - 0) + 1 * (win0_9.index t (1 : Fin 2) - 0) = t.val / 4 :=
  (by decide +kernel : ∀ t : Fin grid0.N, _)

/-- Every block of the box is SOME flushing point's: `onto9Pt`, the point that writes back the block at place `q` of the box (the last point of its run). -/
abbrev onto9Pt (q0 : Fin 1) (q1 : Fin 4) : Fin grid0.N :=
  ⟨4 * (4 * q0.val + 1 * q1.val) + 3, lt_of_lt_of_eq (by omega) N_0.symm⟩
theorem idx_onto9 : ∀ (q0 : Fin 1) (q1 : Fin 4), ∃ t : Fin cfg0.N, (cfg0.win 9).flush t = true ∧ win0_9.index t = ![q0.val + 0, q1.val + 0] :=
  fun q0 q1 => ⟨onto9Pt q0 q1, (by decide +kernel : ∀ (q0 : Fin 1) (q1 : Fin 4), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  have hm : t.val % 4 = 3 := (flush0_9 t).mp hf
  obtain ⟨e0, e1, e2⟩ := idx_facts9 t
  funext y
  have hy0 : (y 0).val < 2048 := (y 0).isLt
  have hy1 : (y 1).val < 256 := (y 1).isLt
  have hb0 : (((cfg0.win 9).blk t).view.emb y 0).val = win0_9.index t (0 : Fin 2) * 2048 + 1 * (y 0).val := rfl
  have hb1 : (((cfg0.win 9).blk t).view.emb y 1).val = win0_9.index t (1 : Fin 2) * 256 + 1 * (y 1).val := rfl
  have hr : run9Of (((cfg0.win 9).blk t).view.emb y) = t.val / 4 := by
    show 4 * ((((cfg0.win 9).blk t).view.emb y 0).val / 2048 - 0) + 1 * ((((cfg0.win 9).blk t).view.emb y 1).val / 256 - 0) = _
    rw [hb0, hb1]
    rw [show (win0_9.index t (0 : Fin 2) * 2048 + 1 * (y 0).val) / 2048 = win0_9.index t (0 : Fin 2) from by omega]; rw [show (win0_9.index t (1 : Fin 2) * 256 + 1 * (y 1).val) / 256 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 2048 = (y 0).val; rw [hb0]; omega
    | ⟨1, _⟩ => show (((cfg0.win 9).blk t).view.emb y 1).val % 256 = (y 1).val; rw [hb1]; omega
  have hp : pt9Of (((cfg0.win 9).blk t).view.emb y) = t.val := by
    show 4 * run9Of (((cfg0.win 9).blk t).view.emb y) + 3 = _
    rw [hr]; have := Nat.div_add_mod t.val 4; omega
  show (Pipeline.accAt (fun n h => stAt0 m c n h junk0) (stAt0 m c) 0 t.val _).2.2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S2048x1024.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v41_2).slice (win0_9.rect t)).set ↔ _
  rw [View.set_slice_whole, Rect.mem_set_unit]
  exact Iff.rfl

/-- THE COVERED INDICES: in some flushing point's block iff inside the box those blocks fill. -/
theorem covered_iff9 (i : S2048x1024.Idx) :
    (∃ t : Fin cfg0.N, (cfg0.win 9).flush t = true ∧ i ∈ ((cfg0.win 9).blk t).view.set) ↔ 0 ≤ (i 0).val ∧ (i 0).val < 2048 ∧ 0 ≤ (i 1).val ∧ (i 1).val < 1024 := by
  constructor
  · rintro ⟨t, -, hi⟩
    rw [mem_blk9] at hi
    have b0 : win0_9.index t (0 : Fin 2) * 2048 ≤ (i 0).val ∧ (i 0).val < win0_9.index t (0 : Fin 2) * 2048 + 2048 := hi 0
    have b1 : win0_9.index t (1 : Fin 2) * 256 ≤ (i 1).val ∧ (i 1).val < win0_9.index t (1 : Fin 2) * 256 + 256 := hi 1
    obtain ⟨e0, e1, e2⟩ := idx_facts9 t
    omega
  · intro h
    have hi0 : (i 0).val < 2048 := (i 0).isLt
    have hi1 : (i 1).val < 1024 := (i 1).isLt
    obtain ⟨t, hft, ht⟩ := idx_onto9 ⟨(i 0).val / 2048 - 0, by omega⟩ ⟨(i 1).val / 256 - 0, by omega⟩
    have q0 : win0_9.index t (0 : Fin 2) = (i 0).val / 2048 - 0 + 0 := congrFun ht 0
    have q1 : win0_9.index t (1 : Fin 2) = (i 1).val / 256 - 0 + 0 := congrFun ht 1
    refine ⟨t, hft, ?_⟩
    rw [mem_blk9]
    intro a
    match a with
    | ⟨0, _⟩ => show win0_9.index t (0 : Fin 2) * 2048 ≤ (i 0).val ∧ (i 0).val < win0_9.index t (0 : Fin 2) * 2048 + 2048; omega
    | ⟨1, _⟩ => show win0_9.index t (1 : Fin 2) * 256 ≤ (i 1).val ∧ (i 1).val < win0_9.index t (1 : Fin 2) * 256 + 256; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 2048 := (i 0).isLt; have h1 : (i 1).val < 1024 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v41_0) = G7 m c
      ∧ r.2.mem ((c : Thread nD τ).loc main_v41_1) = G8 m c
      ∧ r.2.mem ((c : Thread nD τ).loc main_v41_2) = G9 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post7 m r h c).trans (final7 m c),
      (post8 m r h c).trans (final8 m c),
      (post9 m r h c).trans (final9 m c),
      kept_main_arg0 m r h c,
      kept_main_arg1 m r h c⟩)
    (run_main m ρ)

end Cert.SbIdeal.Hand

end
-- ==== Proof.SbTile.lean ====
/- One tile of the stick-breaking gradient: what each step of the body computes of real numbers. -/
module

public import proofs.«01_k».proof.Proof.SbValue
public import Idealize.ShloMosaic.Lib.Pointwise
public import Idealize.ShloMosaic.Lib.Tactic
public import Idealize.ShloMosaic.Lib.VecWindow
public import Idealize.ShloMosaic.Lib.Pipeline.ValueKit

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI Idealize.SL.Sem

/-- Every entry of a matrix is the real number a function of two naturals gives. -/
def Is2 {n m : ℕ} (x : (⟨2, ![n, m]⟩ : Shape).Idx → EReal) (f : ℕ → ℕ → ℝ) : Prop :=
  ∀ (a : Fin n) (b : Fin m), x (ix2 a b) = ((f a b : ℝ) : EReal)

/-- The same of a stack of tiles. -/
def Is4 {n0 n1 n m : ℕ} (x : (⟨4, ![n0, n1, n, m]⟩ : Shape).Idx → EReal) (f : ℕ → ℕ → ℕ → ℕ → ℝ) : Prop :=
  ∀ (a : Fin n0) (b : Fin n1) (c : Fin n) (d : Fin m), x (ix4 a b c d) = ((f a b c d : ℝ) : EReal)

theorem Is2.congr {n m : ℕ} {x : (⟨2, ![n, m]⟩ : Shape).Idx → EReal} {f g : ℕ → ℕ → ℝ} (h : Is2 x f)
    (e : ∀ a b, a < n → b < m → f a b = g a b) : Is2 x g :=
  fun a b => by rw [h a b, e a b a.isLt b.isLt]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem slt_iff (n k : ℕ) (hn : n < 4096) (hk : k < 4096) : (BitVec.ofNat 32 n).slt (BitVec.ofNat 32 k) = decide (n < k) := by
  have h : ∀ j : ℕ, j < 4096 → (BitVec.ofNat 32 j).toInt = j := fun j hj => by
    rw [BitVec.toInt_eq_toNat_of_lt] <;> simp only [BitVec.toNat_ofNat] <;> omega
  simp only [BitVec.slt, h _ hn, h _ hk]
  exact decide_eq_decide.2 (by omega)

theorem select_slt (n k : ℕ) (hn : n < 4096) (hk : k < 4096) (x y : EReal) :
    Scalar.select (IntOp.cmpi CmpIPredicate.slt (BitVec.ofNat 32 n) (BitVec.ofNat 32 k)) x y = if n < k then x else y := by
  simp only [Scalar.select, IntOp.cmpi, slt_iff n k hn hk]
  by_cases h : n < k <;> simp [h]

/-- The word of a comparison, read as a number. -/
theorem tri_slt (n k : ℕ) (hn : n < 4096) (hk : k < 4096) :
    (FloatOps.sitofp (F := Ideal) FTy.f32 (BitVec.setWidth 32 (IntOp.cmpi CmpIPredicate.slt (BitVec.ofNat 32 n) (BitVec.ofNat 32 k))) : EReal)
      = (((if n < k then 1 else 0 : ℝ)) : EReal) := by
  simp only [IntOp.cmpi, slt_iff n k hn hk]
  by_cases h : n < k
  · rw [if_pos h]; simp only [h, decide_true]
    show (((BitVec.setWidth 32 (BitVec.ofBool true)).toInt : ℝ) : EReal) = _
    rw [show (BitVec.setWidth 32 (BitVec.ofBool true)).toInt = 1 by decide]; norm_num
  · rw [if_neg h]; simp only [h, decide_false]
    show (((BitVec.setWidth 32 (BitVec.ofBool false)).toInt : ℝ) : EReal) = _
    rw [show (BitVec.setWidth 32 (BitVec.ofBool false)).toInt = 0 by decide]; norm_num

section Steps
variable {Do V A B G Cc D Z Q Kk O : ℕ → ℕ → ℝ}

/-- The weights' gradient times the weights. -/
def gT (dob : FVec Ideal S512x128 .bf16) (v : FVec Ideal S256x128 .bf16) (a : FVec Ideal S1x1x512x256 .bf16) : FVec Ideal S512x256 .f32 :=
  mulf (matmul dot_S512x128_S256x128_S512x256_1_1_0_0_n_n none dob v (constant S512x256 .f32 0x00000000#32))
    (extf .f32 (shapeCast S512x256 a shapeCasts_S1x1x512x256_S512x256) bitsLt_bf16_f32)

/-- The carried row sum. -/
def cT (c : FVec Ideal S512x1 .f32) (g : FVec Ideal S512x256 .f32) : FVec Ideal S512x1 .f32 :=
  addf c (shapeCast S512x1 (multiReduction .add [1] S512 g 0x00000000#32 reduces_S512x256_S512 (.inl rfl) rfl) shapeCasts_S512_S512x1)

/-- The scores' gradient. -/
def zT (delta c : FVec Ideal S512x1 .f32) (g : FVec Ideal S512x256 .f32) (b : FVec Ideal S1x1x512x256 .bf16) : FVec Ideal S512x256 .f32 :=
  subf g (mulf (extf .f32 (shapeCast S512x256 b shapeCasts_S1x1x512x256_S512x256) bitsLt_bf16_f32)
    (addf g (addf (broadcastTo S512x256 (subf delta c) broadcasts_S512x1_S512x256)
      (matmul dot_S512x256_S256x256_S512x256_1_0_0_1_n_n none (truncf .bf16 g bitsLt_bf16_f32) (k0_pay69 (F := Ideal)) (constant S512x256 .f32 0x00000000#32)))))

/-- The mask. -/
def mT (p : IVec S512x256 1) (z : FVec Ideal S512x256 .f32) : FVec Ideal S512x256 .f32 :=
  select p z (broadcast S512x256 (Scalar.ofBits .f32 0x00000000#32 : Ideal .f32))

/-- The keys' gradient's step, and the values'. -/
def kT (old : FVec Ideal S256x128 .f32) (z : FVec Ideal S512x256 .bf16) (q : FVec Ideal S512x128 .bf16) : FVec Ideal S256x128 .f32 :=
  shapeCast S256x128 (addf old (matmul dot_S512x256_S512x128_S256x128_0_0_1_1_n_n none z q (constant S256x128 .f32 0x00000000#32))) shapeCasts_S256x128_S256x128

/-- The queries' gradient's step. -/
def qT (dq : FVec Ideal S512x128 .f32) (z : FVec Ideal S512x256 .bf16) (k : FVec Ideal S256x128 .bf16) : FVec Ideal S512x128 .f32 :=
  addf dq (matmul dot_S512x256_S256x128_S512x128_1_0_0_1_n_n none z k (constant S512x128 .f32 0x00000000#32))

/-- A tile as the matrix it is. -/
def aT (a : FVec Ideal S1x1x512x256 .bf16) : FVec Ideal S512x256 .bf16 := shapeCast S512x256 a shapeCasts_S1x1x512x256_S512x256

/-- The row sums of `do · o`. -/
def dT (dob : FVec Ideal S512x128 .bf16) (o : FVec Ideal S512x128 .f32) : FVec Ideal S512x1 .f32 :=
  shapeCast S512x1 (multiReduction .add [1] S512 (mulf (extf .f32 dob bitsLt_bf16_f32) (shapeCast S512x128 o shapeCasts_S512x128_S512x128))
    0x00000000#32 reduces_S512x128_S512 (.inl rfl) rfl) shapeCasts_S512_S512x1

theorem gT_is {dob v a} (hd : Is2 dob Do) (hv : Is2 v V) (ha : Is4 a fun _ _ => A) :
    Is2 (gT dob v a) fun t s => (∑ d : Fin 128, Do t d * V s d) * A t s := by
  intro t s
  pointwise [gT]
  rw [ha]; simp only [hd _ _, hv _ _, ← EReal.coe_mul, ← coe_sum]

theorem cT_is {c g} (hc : Is2 c Cc) (hg : Is2 g G) : Is2 (cT c g) fun t _ => Cc t 0 + ∑ s : Fin 256, G t s := by
  intro t s
  obtain rfl : s = 0 := Subsingleton.elim _ _
  pointwise [cT]
  simp only [hc _ _, hg _ _, ← EReal.coe_add, ← coe_sum]; rfl

theorem zT_is {delta c g b} (hd : Is2 delta D) (hc : Is2 c Cc) (hg : Is2 g G) (hb : Is4 b fun _ _ => B) :
    Is2 (zT delta c g b) fun t s => G t s - B t s * (G t s + ((D t 0 - Cc t 0) + ∑ x : Fin 256, G t x * (if x.val < s then 1 else 0))) := by
  intro t s
  pointwise [zT, k0_pay69]
  have ht : ∀ x : Fin 256, _ := fun x : Fin 256 => tri_slt x.val s.val (by omega) (by omega)
  simp only [hd _ _, hc _ _, hg _ _, hb _ _ _ _, ht, ← EReal.coe_add, ← EReal.coe_sub, ← EReal.coe_mul, ← coe_sum]; rfl

theorem mT_is0 {z} (hz : Is2 z Z) : Is2 (mT k0_pay67 z) fun t s => if s < t then Z t s else 0 := by
  intro t s
  pointwise [mT, k0_pay67]
  simp (disch := omega) only [IntOp.addi, show (0#32 : BitVec 32) = BitVec.ofNat 32 0 from rfl, ← BitVec.ofNat_add, select_slt, hz _ _]
  by_cases h : s.val < t.val <;> simp [h]

theorem mT_is1 {z} (hz : Is2 z Z) : Is2 (mT k0_pay68 z) fun t s => if s + 256 < t then Z t s else 0 := by
  intro t s
  pointwise [mT, k0_pay68]
  simp (disch := omega) only [IntOp.addi, show (256#32 : BitVec 32) = BitVec.ofNat 32 256 from rfl, ← BitVec.ofNat_add, select_slt, hz _ _]
  by_cases h : s.val + 256 < t.val <;> simp [h]

theorem kT_is {old z q} (ho : Is2 old O) (hz : Is2 z Z) (hq : Is2 q Q) : Is2 (kT old z q) fun s d => O s d + ∑ t : Fin 512, Z t s * Q t d := by
  intro s d
  pointwise [kT]
  simp only [ho _ _, hz _ _, hq _ _, ← EReal.coe_add, ← EReal.coe_mul, ← coe_sum]

theorem qT_is {dq z k} (ho : Is2 dq O) (hz : Is2 z Z) (hk : Is2 k Kk) : Is2 (qT dq z k) fun t d => O t d + ∑ s : Fin 256, Z t s * Kk s d := by
  intro s d
  pointwise [qT]
  simp only [ho _ _, hz _ _, hk _ _, ← EReal.coe_add, ← EReal.coe_mul, ← coe_sum]

theorem aT_is {a} (ha : Is4 a fun _ _ => A) : Is2 (aT a) A := by
  intro s d
  pointwise [aT]
  exact ha _ _ _ _

theorem dT_is {dob o} (hd : Is2 dob Do) (ho : Is2 o O) : Is2 (dT dob o) fun t _ => ∑ d : Fin 128, Do t d * O t d := by
  intro t s
  pointwise [dT]
  simp only [hd _ _, ho _ _, ← EReal.coe_mul, ← coe_sum]

end Steps

/-! ## Windows of a matrix -/

theorem window_is {n m r q : ℕ} {x : (⟨2, ![n, m]⟩ : Shape).Idx → EReal} {f : ℕ → ℕ → ℝ} (h : Is2 x f) (o0 o1 : ℕ)
    (inb : ∀ a, (![o0, o1] : Fin 2 → ℕ) a + (![r, q] : Fin 2 → ℕ) a ≤ (![n, m] : Fin 2 → ℕ) a) :
    Is2 (n := r) (m := q) (VecWindow.window (s := ⟨2, ![n, m]⟩) x ![o0, o1] ![r, q] inb) fun a b => f (o0 + a) (o1 + b) := by
  intro a b
  have h0 := inb 0
  have h1 := inb 1
  simp at h0 h1
  have e : (VecWindow.window (s := ⟨2, ![n, m]⟩) x ![o0, o1] ![r, q] inb) (ix2 a b) = x (ix2 ⟨o0 + a, by omega⟩ ⟨o1 + b, by omega⟩) :=
    congrArg x (funext fun k => by fin_cases k <;> exact Fin.ext (by simp [Rect.emb, Rect.unit, ix2]))
  rw [e, h]

theorem window_is4 {n0 n1 n m : ℕ} {x : (⟨4, ![n0, n1, n, m]⟩ : Shape).Idx → EReal} {f : ℕ → ℕ → ℕ → ℕ → ℝ} (h : Is4 x f) (o0 o1 : ℕ)
    (inb : ∀ a, (![o0, o1, 0, 0] : Fin 4 → ℕ) a + (![1, 1, n, m] : Fin 4 → ℕ) a ≤ (![n0, n1, n, m] : Fin 4 → ℕ) a) :
    Is4 (n0 := 1) (n1 := 1) (n := n) (m := m) (VecWindow.window (s := ⟨4, ![n0, n1, n, m]⟩) x ![o0, o1, 0, 0] ![1, 1, n, m] inb) fun _ _ => f o0 o1 := by
  intro a b c d
  have h0 := inb 0
  have h1 := inb 1
  simp at h0 h1
  have e : (VecWindow.window (s := ⟨4, ![n0, n1, n, m]⟩) x ![o0, o1, 0, 0] ![1, 1, n, m] inb) (ix4 a b c d) = x (ix4 ⟨o0, by omega⟩ ⟨o1, by omega⟩ c d) :=
    congrArg x (funext fun k => by fin_cases k <;> exact Fin.ext (by simp [Rect.emb, Rect.unit, ix4]))
  rw [e, h]

theorem put_is {n m r q : ℕ} {x : (⟨2, ![n, m]⟩ : Shape).Idx → EReal} {f g : ℕ → ℕ → ℝ} (h : Is2 x f) (o0 o1 : ℕ)
    {w : (⟨2, ![r, q]⟩ : Shape).Idx → EReal} (hw : Is2 w g) :
    Is2 (VecWindow.put (s := ⟨2, ![n, m]⟩) x ![o0, o1] ![r, q] w)
      fun a b => if (o0 ≤ a ∧ a < o0 + r) ∧ (o1 ≤ b ∧ b < o1 + q) then g (a - o0) (b - o1) else f a b := by
  intro a b
  dsimp only
  by_cases hc : (o0 ≤ a.val ∧ a.val < o0 + r) ∧ (o1 ≤ b.val ∧ b.val < o1 + q)
  · have hh : ∀ k, (![o0, o1] : Fin 2 → ℕ) k ≤ ((ix2 a b : (⟨2, ![n, m]⟩ : Shape).Idx) k).val ∧ ((ix2 a b : (⟨2, ![n, m]⟩ : Shape).Idx) k).val < (![o0, o1] : Fin 2 → ℕ) k + (![r, q] : Fin 2 → ℕ) k := by
      intro k; fin_cases k
      · exact hc.1
      · exact hc.2
    rw [if_pos hc]
    refine (dif_pos hh).trans ?_
    rw [← hw ⟨a.val - o0, by omega⟩ ⟨b.val - o1, by omega⟩]
    exact congrArg w (funext fun k => by fin_cases k <;> exact Fin.ext (by simp [Rect.unitLocal, ix2]))
  · rw [if_neg hc]
    refine (dif_neg fun hh => hc ⟨hh 0, hh 1⟩).trans (h a b)

/-! ## A tile of the sweep -/

/-- A tile's scores' gradient, rounded. -/
def zb (delta c : FVec Ideal S512x1 .f32) (dob : FVec Ideal S512x128 .bf16) (v : FVec Ideal S256x128 .bf16) (a b : FVec Ideal S1x1x512x256 .bf16) :
    FVec Ideal S512x256 .bf16 :=
  truncf .bf16 (zT delta (cT c (gT dob v a)) (gT dob v a) b) bitsLt_bf16_f32

/-- The same under a mask. -/
def zm (p : IVec S512x256 1) (delta c : FVec Ideal S512x1 .f32) (dob : FVec Ideal S512x128 .bf16) (v : FVec Ideal S256x128 .bf16)
    (a b : FVec Ideal S1x1x512x256 .bf16) : FVec Ideal S512x256 .bf16 :=
  truncf .bf16 (mT p (zT delta (cT c (gT dob v a)) (gT dob v a) b)) bitsLt_bf16_f32

/-- The real numbers one grid point works on: its block of queries, the weights' and the sigmoids' tiles, and the heads' columns. -/
structure Pt where
  i : ℕ
  Q : ℕ → ℕ → ℝ
  Do : ℕ → ℕ → ℝ
  K : ℕ → ℕ → ℝ
  V : ℕ → ℕ → ℝ
  A : ℕ → ℕ → ℕ → ℝ
  B : ℕ → ℕ → ℕ → ℝ
  causal : ∀ h t s, t < 512 → 512 * i + t ≤ s → A h t s = 0

namespace Pt
variable (p : Pt)

/-- The weights' gradient times the weights. -/
def G (h t s : ℕ) : ℝ := (∑ d : Fin 128, p.Do t (128 * h + d) * p.V s (128 * h + d)) * p.A h t s

/-- The end of the block's causal columns. -/
def N : ℕ := 512 * p.i + 512

/-- The scores' gradient where it is not masked. -/
def Z (h t s : ℕ) : ℝ := p.G h t s - p.B h t s * (p.G h t s + ∑ x ∈ Finset.range s, p.G h t x)

/-- The scores' gradient. -/
def DZ (h t s : ℕ) : ℝ := if s < 512 * p.i + t then p.Z h t s else 0

/-- The carried sum down to tile `J`. -/
def C (h J t : ℕ) : ℝ := ∑ s ∈ Finset.Ico (256 * J) p.N, p.G h t s

/-- The queries' gradient down to tile `J`. -/
def DQ (h J t d : ℕ) : ℝ := ∑ s ∈ Finset.Ico (256 * J) p.N, p.DZ h t s * p.K s (128 * h + d)

/-- The whole row sum. -/
def De (h t : ℕ) : ℝ := ∑ s ∈ Finset.range p.N, p.G h t s

/-- What the point adds to the keys' gradient. -/
def CK (s c : ℕ) : ℝ := ∑ t : Fin 512, p.DZ (c / 128) t s * p.Q t c

/-- What the point adds to the values' gradient. -/
def CV (s c : ℕ) : ℝ := ∑ t : Fin 512, p.A (c / 128) t s * p.Do t c

/-- An accumulator that has taken `c` in down to tile `J0` of the first head, `J1` of the second. -/
def acc (O c : ℕ → ℕ → ℝ) (J0 J1 s d : ℕ) : ℝ := O s d + if 256 * (if d < 128 then J0 else J1) ≤ s ∧ s < p.N then c s d else 0

theorem G_zero (h t s : ℕ) (ht : t < 512) (hs : 512 * p.i + t ≤ s) : p.G h t s = 0 := by
  rw [G, p.causal h t s ht hs, mul_zero]

theorem sum_tile (f : ℕ → ℝ) (j n : ℕ) (h : 256 * (j + 1) ≤ n) :
    ∑ s ∈ Finset.Ico (256 * j) n, f s = ∑ s ∈ Finset.Ico (256 * (j + 1)) n, f s + ∑ x : Fin 256, f (256 * j + x) := by
  rw [← Finset.sum_Ico_consecutive f (show 256 * j ≤ 256 * (j + 1) by omega) h, add_comm,
    Finset.sum_Ico_eq_sum_range f (256 * j), show 256 * (j + 1) - 256 * j = 256 by omega, ← Fin.sum_univ_eq_sum_range (fun x => f (256 * j + x)) 256]

variable {p}
variable {h j : ℕ} {delta c : FVec Ideal S512x1 .f32} {dob q : FVec Ideal S512x128 .bf16} {v k : FVec Ideal S256x128 .bf16}
  {a b : FVec Ideal S1x1x512x256 .bf16}

theorem g_is (hd : Is2 dob fun t d => p.Do t (128 * h + d)) (hv : Is2 v fun s d => p.V (256 * j + s) (128 * h + d))
    (ha : Is4 a fun _ _ t s => p.A h t (256 * j + s)) : Is2 (gT dob v a) fun t s => p.G h t (256 * j + s) := gT_is hd hv ha

theorem c_is (hj : 256 * (j + 1) ≤ p.N) (hd : Is2 dob fun t d => p.Do t (128 * h + d)) (hv : Is2 v fun s d => p.V (256 * j + s) (128 * h + d))
    (ha : Is4 a fun _ _ t s => p.A h t (256 * j + s)) (hc : Is2 c fun t _ => p.C h (j + 1) t) :
    Is2 (cT c (gT dob v a)) fun t _ => p.C h j t :=
  (cT_is hc (g_is hd hv ha)).congr fun t _ _ _ => by
    rw [C, C, sum_tile _ _ _ hj]

theorem z_is (hj : 256 * (j + 1) ≤ p.N) (hd : Is2 dob fun t d => p.Do t (128 * h + d)) (hv : Is2 v fun s d => p.V (256 * j + s) (128 * h + d))
    (ha : Is4 a fun _ _ t s => p.A h t (256 * j + s)) (hb : Is4 b fun _ _ t s => p.B h t (256 * j + s))
    (hc : Is2 c fun t _ => p.C h (j + 1) t) (hde : Is2 delta fun t _ => p.De h t) :
    Is2 (zT delta (cT c (gT dob v a)) (gT dob v a) b) fun t s => p.Z h t (256 * j + s) :=
  (zT_is hde (c_is hj hd hv ha hc) (g_is hd hv ha) hb).congr fun t s _ hs => by
    rw [Z]
    congr 3
    rw [De, C, Finset.range_eq_Ico, Finset.range_eq_Ico, ← Finset.sum_Ico_consecutive _ (Nat.zero_le _) (show 256 * j ≤ p.N by omega),
      ← Finset.sum_Ico_consecutive _ (Nat.zero_le _) (show 256 * j ≤ 256 * j + s by omega), add_sub_cancel_right]
    congr 1
    rw [Finset.sum_Ico_eq_sum_range, show 256 * j + s - 256 * j = s by omega]
    rw [Fin.sum_univ_eq_sum_range (fun x => p.G h t (256 * j + x) * (if x < s then 1 else 0)) 256]
    rw [← Finset.sum_subset (Finset.range_subset_range.2 hs.le) (fun x _ hx => by rw [if_neg (by simpa using hx), mul_zero])]
    exact Finset.sum_congr rfl fun x hx => by rw [if_pos (Finset.mem_range.1 hx), mul_one]

theorem zb_is (hj : 256 * (j + 1) ≤ 512 * p.i) (hd : Is2 dob fun t d => p.Do t (128 * h + d)) (hv : Is2 v fun s d => p.V (256 * j + s) (128 * h + d))
    (ha : Is4 a fun _ _ t s => p.A h t (256 * j + s)) (hb : Is4 b fun _ _ t s => p.B h t (256 * j + s))
    (hc : Is2 c fun t _ => p.C h (j + 1) t) (hde : Is2 delta fun t _ => p.De h t) :
    Is2 (zb delta c dob v a b) fun t s => p.DZ h t (256 * j + s) :=
  Is2.congr (z_is (by unfold N; omega) hd hv ha hb hc hde) fun t s _ hs => by rw [DZ, if_pos (by omega)]

theorem zm0_is (hj : j = 2 * p.i) (hd : Is2 dob fun t d => p.Do t (128 * h + d)) (hv : Is2 v fun s d => p.V (256 * j + s) (128 * h + d))
    (ha : Is4 a fun _ _ t s => p.A h t (256 * j + s)) (hb : Is4 b fun _ _ t s => p.B h t (256 * j + s))
    (hc : Is2 c fun t _ => p.C h (j + 1) t) (hde : Is2 delta fun t _ => p.De h t) :
    Is2 (zm k0_pay67 delta c dob v a b) fun t s => p.DZ h t (256 * j + s) :=
  Is2.congr (mT_is0 (z_is (by unfold N; omega) hd hv ha hb hc hde)) fun t s _ hs => by
    rw [DZ]; exact if_congr (by omega) rfl rfl

theorem zm1_is (hj : j = 2 * p.i + 1) (hd : Is2 dob fun t d => p.Do t (128 * h + d)) (hv : Is2 v fun s d => p.V (256 * j + s) (128 * h + d))
    (ha : Is4 a fun _ _ t s => p.A h t (256 * j + s)) (hb : Is4 b fun _ _ t s => p.B h t (256 * j + s))
    (hc : Is2 c fun t _ => p.C h (j + 1) t) (hde : Is2 delta fun t _ => p.De h t) :
    Is2 (zm k0_pay68 delta c dob v a b) fun t s => p.DZ h t (256 * j + s) :=
  Is2.congr (mT_is1 (z_is (by unfold N; omega) hd hv ha hb hc hde)) fun t s _ hs => by
    rw [DZ]; exact if_congr (by omega) rfl rfl

theorem q_is {z : FVec Ideal S512x256 .bf16} {dq : FVec Ideal S512x128 .f32} (hj : 256 * (j + 1) ≤ p.N)
    (hz : Is2 z fun t s => p.DZ h t (256 * j + s)) (hk : Is2 k fun s d => p.K (256 * j + s) (128 * h + d))
    (hq : Is2 dq fun t d => p.DQ h (j + 1) t d) : Is2 (qT dq z k) fun t d => p.DQ h j t d :=
  (qT_is hq hz hk).congr fun t d _ _ => by
    rw [DQ, DQ, sum_tile _ _ _ hj]

theorem acc0 {x : FVec Ideal S2048x256 .f32} {w : FVec Ideal S256x128 .f32} {O c : ℕ → ℕ → ℝ} {J : ℕ} (hj : 256 * (j + 1) ≤ p.N)
    (hx : Is2 x (p.acc O c (j + 1) J)) (hw : Is2 w fun s d => p.acc O c (j + 1) J (256 * j + s) (0 + d) + c (256 * j + s) (0 + d)) :
    Is2 (VecWindow.put (s := S2048x256) x ![256 * j, 0] ![256, 128] w) (p.acc O c j J) :=
  (put_is hx (256 * j) 0 hw).congr fun s d _ _ => by
    by_cases hc : (256 * j ≤ s ∧ s < 256 * j + 256) ∧ (0 ≤ d ∧ d < 0 + 128)
    · rw [if_pos hc, show 256 * j + (s - 256 * j) = s by omega, show 0 + (d - 0) = d by omega, acc, acc,
        if_neg (by rw [if_pos (by omega)]; omega), if_pos (by rw [if_pos (by omega)]; omega), add_zero]
    · rw [if_neg hc, acc, acc]
      congr 1
      by_cases hd : d < 128
      · simp only [if_pos hd]; exact if_congr (by omega) rfl rfl
      · simp only [if_neg hd]

theorem acc1 {x : FVec Ideal S2048x256 .f32} {w : FVec Ideal S256x128 .f32} {O c : ℕ → ℕ → ℝ} {J : ℕ} (hj : 256 * (j + 1) ≤ p.N)
    (hx : Is2 x (p.acc O c J (j + 1))) (hw : Is2 w fun s d => p.acc O c J (j + 1) (256 * j + s) (128 + d) + c (256 * j + s) (128 + d)) :
    Is2 (VecWindow.put (s := S2048x256) x ![256 * j, 128] ![256, 128] w) (p.acc O c J j) :=
  (put_is hx (256 * j) 128 hw).congr fun s d _ _ => by
    by_cases hc : (256 * j ≤ s ∧ s < 256 * j + 256) ∧ (128 ≤ d ∧ d < 128 + 128)
    · rw [if_pos hc, show 256 * j + (s - 256 * j) = s by omega, show 128 + (d - 128) = d by omega, acc, acc,
        if_neg (by rw [if_neg (by omega)]; omega), if_pos (by rw [if_neg (by omega)]; omega), add_zero]
    · rw [if_neg hc, acc, acc]
      congr 1
      by_cases hd : d < 128
      · simp only [if_pos hd]
      · simp only [if_neg hd]; exact if_congr (by omega) rfl rfl

theorem ck_is {old : FVec Ideal S256x128 .f32} {z : FVec Ideal S512x256 .bf16} {O : ℕ → ℕ → ℝ} (hh : h < 2)
    (ho : Is2 old O) (hz : Is2 z fun t s => p.DZ h t (256 * j + s)) (hq : Is2 q fun t d => p.Q t (128 * h + d)) :
    Is2 (kT old z q) fun s d => O s d + p.CK (256 * j + s) (128 * h + d) :=
  (kT_is ho hz hq).congr fun s d _ hd => by rw [CK, show (128 * h + d) / 128 = h by omega]

theorem cv_is {old : FVec Ideal S256x128 .f32} {O : ℕ → ℕ → ℝ} (hh : h < 2)
    (ho : Is2 old O) (ha : Is4 a fun _ _ t s => p.A h t (256 * j + s)) (hd : Is2 dob fun t d => p.Do t (128 * h + d)) :
    Is2 (kT old (aT a) dob) fun s d => O s d + p.CV (256 * j + s) (128 * h + d) :=
  (kT_is ho (aT_is ha) hd).congr fun s d _ hd => by rw [CV, show (128 * h + d) / 128 = h by omega]

end Pt

end Cert.SbIdeal.Hand
-- ==== Proof.SbTrip.lean ====
/- One trip of the inner sweep, and the whole sweep of a grid point: what they leave is the sum over the tiles taken. -/
module

public import proofs.«01_k».proof.Proof.SbTile
public import Idealize.ShloMosaic.Lib.Pointwise
public import Idealize.ShloMosaic.Lib.Tactic
public import Idealize.ShloMosaic.Lib.VecWindow
public import Idealize.ShloMosaic.Lib.Pipeline.ValueKit

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI Idealize.SL.Sem

variable (𝒱 : Variants)
variable (c : Dev nD)
variable (bd : Option 𝒱.V)
variable (i : grid0.Coords)
variable (a2 : MQ)
variable (w2 : a2.IsWhole)
variable (a3 : MK)
variable (w3 : a3.IsWhole)
variable (a4 : MK)
variable (w4 : a4.IsWhole)
variable (a5 : MO)
variable (w5 : a5.IsWhole)
variable (a6 : MW)
variable (w6 : a6.IsWhole)
variable (a7 : MW)
variable (w7 : a7.IsWhole)
variable (a8 : MQ)
variable (w8 : a8.IsWhole)
variable (a9 : MQ)
variable (w9 : a9.IsWhole)
variable (a10 : MK)
variable (w10 : a10.IsWhole)
variable (a11 : MK)
variable (w11 : a11.IsWhole)
variable (a12 : MA)
variable (w12 : a12.IsWhole)
variable (a13 : MA)
variable (w13 : a13.IsWhole)
variable (a1 : BitVec 32)
variable (v3 : Vec Ideal S512x128 .bf16)
variable (v4 : Vec Ideal S512x128 .bf16)
variable (v5 : Vec Ideal S512x128 .bf16)
variable (v6 : Vec Ideal S512x128 .bf16)
variable (v12 : FVec Ideal S512x1 .f32)
variable (v18 : FVec Ideal S512x1 .f32)
variable (c0_i32_102 : BitVec 32)
variable (X3 : Held Ideal a3)
variable (X4 : Held Ideal a4)
variable (X6 : Held Ideal a6)
variable (X7 : Held Ideal a7)

/-- Head 0's tile of keys or values at a trip. -/
abbrev ld5 {e : EltTy} (M : Memref sig .tc .vmem S2048x256 e) (i : grid0.Coords) (k : Fin (k0_t1_loop i).trips) (r : Fin 2) (X : Held Ideal M) :=
  M.view.readAt (Elt Ideal) (Rect.unit (s := S2048x256) (k0_off5 i k (BitVec.ofNat 32 r.val)) S256x128.size (k0_off5_inb i k r)).toLoadRect X

/-- Head 1's tile of keys or values at a trip. -/
abbrev ld7 {e : EltTy} (M : Memref sig .tc .vmem S2048x256 e) (i : grid0.Coords) (k : Fin (k0_t1_loop i).trips) (r : Fin 2) (X : Held Ideal M) :=
  M.view.readAt (Elt Ideal) (Rect.unit (s := S2048x256) (k0_off7 i k (BitVec.ofNat 32 r.val)) S256x128.size (k0_off7_inb i k r)).toLoadRect X

/-- Head 0's tile of weights at a trip. -/
abbrev ld6 {e : EltTy} (M : Memref sig .tc .vmem S2x8x512x256 e) (i : grid0.Coords) (k : Fin (k0_t1_loop i).trips) (r : Fin 2) (X : Held Ideal M) :=
  M.view.readAt (Elt Ideal) (Rect.unit (s := S2x8x512x256) (k0_off6 i k (BitVec.ofNat 32 r.val)) S1x1x512x256.size (k0_off6_inb i k r)).toLoadRect X

/-- Head 1's tile of weights at a trip. -/
abbrev ld8 {e : EltTy} (M : Memref sig .tc .vmem S2x8x512x256 e) (i : grid0.Coords) (k : Fin (k0_t1_loop i).trips) (r : Fin 2) (X : Held Ideal M) :=
  M.view.readAt (Elt Ideal) (Rect.unit (s := S2x8x512x256) (k0_off8 i k (BitVec.ofNat 32 r.val)) S1x1x512x256.size (k0_off8_inb i k r)).toLoadRect X

theorem tripR_eq (k : Fin (k0_t1_loop i).trips) (acc : Carry Ideal) (f12 : Held Ideal a12) (f13 : Held Ideal a13) :
    tripR_k0_t1 (F := Ideal) 𝒱 c bd i _ w2 _ w3 _ w4 _ w5 _ w6 _ w7 _ w8 _ w9 _ w10 _ w11 _ w12 _ w13 a1 v3 v4 v5 v6 v12 v18 (k0_pay69 (F := Ideal)) c0_i32_102 X3 X4 X6 X7 k acc f12 f13
      = (cT (cT acc.1 (gT v5 (ld5 a4 i k 1 X4) (ld6 a6 i k 1 X6))) (gT v5 (ld5 a4 i k 0 X4) (ld6 a6 i k 0 X6)), (qT (qT acc.2.1 (zb v12 acc.1 v5 (ld5 a4 i k 1 X4) (ld6 a6 i k 1 X6) (ld6 a7 i k 1 X7)) (ld5 a3 i k 1 X3)) (zb v12 (cT acc.1 (gT v5 (ld5 a4 i k 1 X4) (ld6 a6 i k 1 X6))) v5 (ld5 a4 i k 0 X4) (ld6 a6 i k 0 X6) (ld6 a7 i k 0 X7)) (ld5 a3 i k 0 X3)),
         cT (cT acc.2.2.1 (gT v6 (ld7 a4 i k 1 X4) (ld8 a6 i k 1 X6))) (gT v6 (ld7 a4 i k 0 X4) (ld8 a6 i k 0 X6)), (qT (qT acc.2.2.2 (zb v18 acc.2.2.1 v6 (ld7 a4 i k 1 X4) (ld8 a6 i k 1 X6) (ld8 a7 i k 1 X7)) (ld7 a3 i k 1 X3)) (zb v18 (cT acc.2.2.1 (gT v6 (ld7 a4 i k 1 X4) (ld8 a6 i k 1 X6))) v6 (ld7 a4 i k 0 X4) (ld8 a6 i k 0 X6) (ld8 a7 i k 0 X7)) (ld7 a3 i k 0 X3))) := by
  unfold tripR_k0_t1 trip_k0_t1
  rfl

/-- The trip's first 1 tiles' pieces of the keys' accumulator. -/
abbrev pK0 (i : grid0.Coords) (a4 : MK) (a6 a7 : MW) (a12 : MA) (v3 v4 v5 v6 : Vec Ideal S512x128 .bf16) (v12 v18 : FVec Ideal S512x1 .f32) (X4 : Held Ideal a4) (X6 : Held Ideal a6) (X7 : Held Ideal a7) (k : Fin (k0_t1_loop i).trips) (acc : Carry Ideal) (f : Held Ideal a12) : Pieces Ideal :=
  ⟨Rect.unit (s := S2048x256) (k0_off5 i k (BitVec.ofNat 32 ((1 : Fin 2).val))) S256x128.size (k0_off5_inb i k 1), kT (ld5 a12 i k 1 f) (zb v12 acc.1 v5 (ld5 a4 i k 1 X4) (ld6 a6 i k 1 X6) (ld6 a7 i k 1 X7)) v3⟩ :: []

/-- The trip's first 2 tiles' pieces of the keys' accumulator. -/
abbrev pK1 (i : grid0.Coords) (a4 : MK) (a6 a7 : MW) (a12 : MA) (v3 v4 v5 v6 : Vec Ideal S512x128 .bf16) (v12 v18 : FVec Ideal S512x1 .f32) (X4 : Held Ideal a4) (X6 : Held Ideal a6) (X7 : Held Ideal a7) (k : Fin (k0_t1_loop i).trips) (acc : Carry Ideal) (f : Held Ideal a12) : Pieces Ideal :=
  ⟨Rect.unit (s := S2048x256) (k0_off7 i k (BitVec.ofNat 32 ((1 : Fin 2).val))) S256x128.size (k0_off7_inb i k 1), kT (ld7 a12 i k 1 f) (zb v18 acc.2.2.1 v6 (ld7 a4 i k 1 X4) (ld8 a6 i k 1 X6) (ld8 a7 i k 1 X7)) v4⟩ :: (pK0 i a4 a6 a7 a12 v3 v4 v5 v6 v12 v18 X4 X6 X7 k acc f)

/-- The trip's first 3 tiles' pieces of the keys' accumulator. -/
abbrev pK2 (i : grid0.Coords) (a4 : MK) (a6 a7 : MW) (a12 : MA) (v3 v4 v5 v6 : Vec Ideal S512x128 .bf16) (v12 v18 : FVec Ideal S512x1 .f32) (X4 : Held Ideal a4) (X6 : Held Ideal a6) (X7 : Held Ideal a7) (k : Fin (k0_t1_loop i).trips) (acc : Carry Ideal) (f : Held Ideal a12) : Pieces Ideal :=
  ⟨Rect.unit (s := S2048x256) (k0_off5 i k (BitVec.ofNat 32 ((0 : Fin 2).val))) S256x128.size (k0_off5_inb i k 0), kT (ld5 a12 i k 0 (a12.view.writes (Elt Ideal) f (pK1 i a4 a6 a7 a12 v3 v4 v5 v6 v12 v18 X4 X6 X7 k acc f))) (zb v12 (cT acc.1 (gT v5 (ld5 a4 i k 1 X4) (ld6 a6 i k 1 X6))) v5 (ld5 a4 i k 0 X4) (ld6 a6 i k 0 X6) (ld6 a7 i k 0 X7)) v3⟩ :: (pK1 i a4 a6 a7 a12 v3 v4 v5 v6 v12 v18 X4 X6 X7 k acc f)

/-- The trip's first 4 tiles' pieces of the keys' accumulator. -/
abbrev pK3 (i : grid0.Coords) (a4 : MK) (a6 a7 : MW) (a12 : MA) (v3 v4 v5 v6 : Vec Ideal S512x128 .bf16) (v12 v18 : FVec Ideal S512x1 .f32) (X4 : Held Ideal a4) (X6 : Held Ideal a6) (X7 : Held Ideal a7) (k : Fin (k0_t1_loop i).trips) (acc : Carry Ideal) (f : Held Ideal a12) : Pieces Ideal :=
  ⟨Rect.unit (s := S2048x256) (k0_off7 i k (BitVec.ofNat 32 ((0 : Fin 2).val))) S256x128.size (k0_off7_inb i k 0), kT (ld7 a12 i k 0 (a12.view.writes (Elt Ideal) f (pK2 i a4 a6 a7 a12 v3 v4 v5 v6 v12 v18 X4 X6 X7 k acc f))) (zb v18 (cT acc.2.2.1 (gT v6 (ld7 a4 i k 1 X4) (ld8 a6 i k 1 X6))) v6 (ld7 a4 i k 0 X4) (ld8 a6 i k 0 X6) (ld8 a7 i k 0 X7)) v4⟩ :: (pK2 i a4 a6 a7 a12 v3 v4 v5 v6 v12 v18 X4 X6 X7 k acc f)

/-- The trip's first 1 tiles' pieces of the values' accumulator. -/
abbrev pV0 (i : grid0.Coords) (a6 : MW) (a13 : MA) (v5 v6 : Vec Ideal S512x128 .bf16) (X6 : Held Ideal a6) (k : Fin (k0_t1_loop i).trips) (f : Held Ideal a13) : Pieces Ideal :=
  ⟨Rect.unit (s := S2048x256) (k0_off5 i k (BitVec.ofNat 32 ((1 : Fin 2).val))) S256x128.size (k0_off5_inb i k 1), kT (ld5 a13 i k 1 f) (aT (ld6 a6 i k 1 X6)) v5⟩ :: []

/-- The trip's first 2 tiles' pieces of the values' accumulator. -/
abbrev pV1 (i : grid0.Coords) (a6 : MW) (a13 : MA) (v5 v6 : Vec Ideal S512x128 .bf16) (X6 : Held Ideal a6) (k : Fin (k0_t1_loop i).trips) (f : Held Ideal a13) : Pieces Ideal :=
  ⟨Rect.unit (s := S2048x256) (k0_off7 i k (BitVec.ofNat 32 ((1 : Fin 2).val))) S256x128.size (k0_off7_inb i k 1), kT (ld7 a13 i k 1 f) (aT (ld8 a6 i k 1 X6)) v6⟩ :: (pV0 i a6 a13 v5 v6 X6 k f)

/-- The trip's first 3 tiles' pieces of the values' accumulator. -/
abbrev pV2 (i : grid0.Coords) (a6 : MW) (a13 : MA) (v5 v6 : Vec Ideal S512x128 .bf16) (X6 : Held Ideal a6) (k : Fin (k0_t1_loop i).trips) (f : Held Ideal a13) : Pieces Ideal :=
  ⟨Rect.unit (s := S2048x256) (k0_off5 i k (BitVec.ofNat 32 ((0 : Fin 2).val))) S256x128.size (k0_off5_inb i k 0), kT (ld5 a13 i k 0 (a13.view.writes (Elt Ideal) f (pV1 i a6 a13 v5 v6 X6 k f))) (aT (ld6 a6 i k 0 X6)) v5⟩ :: (pV1 i a6 a13 v5 v6 X6 k f)

/-- The trip's first 4 tiles' pieces of the values' accumulator. -/
abbrev pV3 (i : grid0.Coords) (a6 : MW) (a13 : MA) (v5 v6 : Vec Ideal S512x128 .bf16) (X6 : Held Ideal a6) (k : Fin (k0_t1_loop i).trips) (f : Held Ideal a13) : Pieces Ideal :=
  ⟨Rect.unit (s := S2048x256) (k0_off7 i k (BitVec.ofNat 32 ((0 : Fin 2).val))) S256x128.size (k0_off7_inb i k 0), kT (ld7 a13 i k 0 (a13.view.writes (Elt Ideal) f (pV2 i a6 a13 v5 v6 X6 k f))) (aT (ld8 a6 i k 0 X6)) v6⟩ :: (pV2 i a6 a13 v5 v6 X6 k f)

theorem hwK2 (k : Fin (k0_t1_loop i).trips) (acc : Carry Ideal) (f : Held Ideal a12) :
    trip_k0_t1.sl.HW_arg12_2 (F := Ideal) i a4 a6 a7 a12 v3 v4 v5 v6 v12 v18 (k0_pay69 (F := Ideal)) X4 X6 X7 k acc f = pK1 i a4 a6 a7 a12 v3 v4 v5 v6 v12 v18 X4 X6 X7 k acc f := rfl

theorem hwK3 (k : Fin (k0_t1_loop i).trips) (acc : Carry Ideal) (f : Held Ideal a12) :
    trip_k0_t1.sl.HW_arg12_3 (F := Ideal) i a4 a6 a7 a12 v3 v4 v5 v6 v12 v18 (k0_pay69 (F := Ideal)) X4 X6 X7 k acc f = pK2 i a4 a6 a7 a12 v3 v4 v5 v6 v12 v18 X4 X6 X7 k acc f := by
  unfold trip_k0_t1.sl.HW_arg12_3; rw [hwK2]; rfl

theorem hwV2 (k : Fin (k0_t1_loop i).trips)  (f : Held Ideal a13) :
    trip_k0_t1.sl.HW_arg13_2 (F := Ideal) i a6 a13 v5 v6 X6 k f = pV1 i a6 a13 v5 v6 X6 k f := rfl

theorem hwV3 (k : Fin (k0_t1_loop i).trips)  (f : Held Ideal a13) :
    trip_k0_t1.sl.HW_arg13_3 (F := Ideal) i a6 a13 v5 v6 X6 k f = pV2 i a6 a13 v5 v6 X6 k f := by
  unfold trip_k0_t1.sl.HW_arg13_3; rw [hwV2]; rfl

theorem tripL_eq (k : Fin (k0_t1_loop i).trips) (acc : Carry Ideal) (f12 : Held Ideal a12) (f13 : Held Ideal a13) :
    tripL_k0_t1 (F := Ideal) 𝒱 c bd i _ w2 _ w3 _ w4 _ w5 _ w6 _ w7 _ w8 _ w9 _ w10 _ w11 _ w12 _ w13 a1 v3 v4 v5 v6 v12 v18 (k0_pay69 (F := Ideal)) c0_i32_102 X3 X4 X6 X7 k acc f12 f13
      = (pK3 i a4 a6 a7 a12 v3 v4 v5 v6 v12 v18 X4 X6 X7 k acc f12, pV3 i a6 a13 v5 v6 X6 k f13) := by
  unfold tripL_k0_t1 trip_k0_t1
  dsimp only
  rw [hwK3, hwV3]
  refine Prod.ext ?_ ?_
  · rfl
  · rfl

/-! ## What a trip leaves -/

theorem trips_eq : ∀ i : grid0.Coords, (k0_t1_loop i).trips = (i 1).val := by decide +kernel

/-- A load of a tile's columns. -/
theorem rd2 {M : MA} {X : Held Ideal M} {f : ℕ → ℕ → ℝ} {off : Fin 2 → ℕ} {o0 o1 : ℕ}
    (h : Is2 (n := 2048) (m := 256) (M.view.read (Elt Ideal) X) f) (ho : off = ![o0, o1]) (inb : ∀ a, off a + S256x128.size a ≤ S2048x256.size a) :
    Is2 (n := 256) (m := 128) (M.view.readAt (Elt Ideal) (Rect.unit (s := S2048x256) off S256x128.size inb).toLoadRect X) fun s d => f (o0 + s) (o1 + d) := by
  have inb' : ∀ a, (![o0, o1] : Fin 2 → ℕ) a + S256x128.size a ≤ S2048x256.size a := ho ▸ inb
  have e1 := View.readAt_unit M.view X inb ho inb'
  intro a b
  rw [e1]
  exact window_is h o0 o1 inb' a b

/-- A load of a tile's columns, of the rounded format. -/
theorem rdb {M : MK} {X : Held Ideal M} {f : ℕ → ℕ → ℝ} {off : Fin 2 → ℕ} {o0 o1 : ℕ}
    (h : Is2 (n := 2048) (m := 256) (M.view.read (Elt Ideal) X) f) (ho : off = ![o0, o1]) (inb : ∀ a, off a + S256x128.size a ≤ S2048x256.size a) :
    Is2 (n := 256) (m := 128) (M.view.readAt (Elt Ideal) (Rect.unit (s := S2048x256) off S256x128.size inb).toLoadRect X) fun s d => f (o0 + s) (o1 + d) := by
  have inb' : ∀ a, (![o0, o1] : Fin 2 → ℕ) a + S256x128.size a ≤ S2048x256.size a := ho ▸ inb
  have e1 := View.readAt_unit M.view X inb ho inb'
  intro a b
  rw [e1]
  exact window_is h o0 o1 inb' a b

/-- A load of a tile of weights. -/
theorem rd4 {M : MW} {X : Held Ideal M} {f : ℕ → ℕ → ℕ → ℕ → ℝ} {off : Fin 4 → ℕ} {o0 o1 : ℕ}
    (h : Is4 (n0 := 2) (n1 := 8) (n := 512) (m := 256) (M.view.read (Elt Ideal) X) f) (ho : off = ![o0, o1, 0, 0]) (inb : ∀ a, off a + S1x1x512x256.size a ≤ S2x8x512x256.size a) :
    Is4 (n0 := 1) (n1 := 1) (n := 512) (m := 256) (M.view.readAt (Elt Ideal) (Rect.unit (s := S2x8x512x256) off S1x1x512x256.size inb).toLoadRect X) fun _ _ => f o0 o1 := by
  have inb' : ∀ a, (![o0, o1, 0, 0] : Fin 4 → ℕ) a + S1x1x512x256.size a ≤ S2x8x512x256.size a := ho ▸ inb
  have e1 := View.readAt_unit M.view X inb ho inb'
  intro a b c d
  rw [e1]
  exact window_is4 h o0 o1 inb' a b c d

/-- What an accumulator reads after one more tile's piece. -/
theorem wr2 {M : MA} {X : Held Ideal M} {L : Pieces Ideal}
    {g : ℕ → ℕ → ℝ} {off off' : Fin 2 → ℕ} (ho : off = off') (inb : ∀ a, off a + S256x128.size a ≤ S2048x256.size a)
    (w : FVec Ideal S256x128 .f32)
    (h : Is2 (n := 2048) (m := 256) (VecWindow.put (s := S2048x256) (M.view.read (Elt Ideal) (M.view.writes (Elt Ideal) X L)) off' S256x128.size w) g) :
    Is2 (n := 2048) (m := 256) (M.view.read (Elt Ideal) (M.view.writes (Elt Ideal) X (⟨Rect.unit (s := S2048x256) off S256x128.size inb, w⟩ :: L))) g := by
  have e1 := View.read_writes_cons_put M.view X inb w L ho
  intro a b
  rw [e1]
  exact h a b

/-- The state of the sweep when every tile from `J` up has been taken. -/
structure Sw (p : Pt) (O12 O13 : ℕ → ℕ → ℝ) (J : ℕ) (acc : Carry Ideal)
    (x12 x13 : FVec Ideal S2048x256 .f32) : Prop where
  c0 : Is2 acc.1 fun t _ => p.C 0 J t
  q0 : Is2 acc.2.1 (p.DQ 0 J)
  c1 : Is2 acc.2.2.1 fun t _ => p.C 1 J t
  q1 : Is2 acc.2.2.2 (p.DQ 1 J)
  k : Is2 x12 (p.acc O12 p.CK J J)
  v : Is2 x13 (p.acc O13 p.CV J J)

/-- What the blocks and the carried vectors hold. -/
structure Blk (p : Pt) (i : grid0.Coords) (x3 x4 : FVec Ideal S2048x256 .bf16) (x6 x7 : FVec Ideal S2x8x512x256 .bf16) (v3 v4 v5 v6 : FVec Ideal S512x128 .bf16)
    (v12 v18 : FVec Ideal S512x1 .f32) : Prop where
  i : p.i = (i 1).val
  K : Is2 x3 p.K
  V : Is2 x4 p.V
  A : Is4 x6 fun h j t s => p.A h t (256 * j + s)
  B : Is4 x7 fun h j t s => p.B h t (256 * j + s)
  q0 : Is2 v3 fun t d => p.Q t (128 * 0 + d)
  q1 : Is2 v4 fun t d => p.Q t (128 * 1 + d)
  d0 : Is2 v5 fun t d => p.Do t (128 * 0 + d)
  d1 : Is2 v6 fun t d => p.Do t (128 * 1 + d)
  e0 : Is2 v12 fun t _ => p.De 0 t
  e1 : Is2 v18 fun t _ => p.De 1 t

theorem Pt.acc_top (p : Pt) (O c : ℕ → ℕ → ℝ) {J0 J1 J0' J1' s d : ℕ} (h : (if d < 128 then J0 else J1) = (if d < 128 then J0' else J1')) :
    p.acc O c J0 J1 s d = p.acc O c J0' J1' s d := by rw [Pt.acc, Pt.acc, h]

variable {p : Pt} {O12 O13 : ℕ → ℕ → ℝ}

theorem trip_is
    (hb : Blk p i (a3.view.read (Elt Ideal) X3) (a4.view.read (Elt Ideal) X4) (a6.view.read (Elt Ideal) X6) (a7.view.read (Elt Ideal) X7)
      v3 v4 v5 v6 v12 v18) (k : Fin (k0_t1_loop i).trips) (acc : Carry Ideal)
    (f12 : Held Ideal a12) (f13 : Held Ideal a13) (J : ℕ) (hJ : J + k.val + 1 = (i 1).val)
    (hs : Sw p O12 O13 (2 * J + 1 + 1) acc (a12.view.read (Elt Ideal) f12) (a13.view.read (Elt Ideal) f13)) :
    Sw p O12 O13 (2 * J) (tripR_k0_t1 (F := Ideal) 𝒱 c bd i _ w2 _ w3 _ w4 _ w5 _ w6 _ w7 _ w8 _ w9 _ w10 _ w11 _ w12 _ w13 a1 v3 v4 v5 v6 v12 v18 (k0_pay69 (F := Ideal)) c0_i32_102 X3 X4 X6 X7 k acc f12 f13)
      (a12.view.read (Elt Ideal) (a12.view.writes (Elt Ideal) f12 (tripL_k0_t1 (F := Ideal) 𝒱 c bd i _ w2 _ w3 _ w4 _ w5 _ w6 _ w7 _ w8 _ w9 _ w10 _ w11 _ w12 _ w13 a1 v3 v4 v5 v6 v12 v18 (k0_pay69 (F := Ideal)) c0_i32_102 X3 X4 X6 X7 k acc f12 f13).1))
      (a13.view.read (Elt Ideal) (a13.view.writes (Elt Ideal) f13 (tripL_k0_t1 (F := Ideal) 𝒱 c bd i _ w2 _ w3 _ w4 _ w5 _ w6 _ w7 _ w8 _ w9 _ w10 _ w11 _ w12 _ w13 a1 v3 v4 v5 v6 v12 v18 (k0_pay69 (F := Ideal)) c0_i32_102 X3 X4 X6 X7 k acc f12 f13).2)) := by
  have hi := hb.i
  have o5 : ∀ r : Fin 2, k0_off5 i k (BitVec.ofNat 32 r.val) = ![256 * (2 * J + r.val), 0] := fun r => by
    rw [k0_off5_eq]; congr 1; omega
  have o7 : ∀ r : Fin 2, k0_off7 i k (BitVec.ofNat 32 r.val) = ![256 * (2 * J + r.val), 128] := fun r => by
    rw [k0_off7_eq]; congr 1; omega
  have o6 : ∀ r : Fin 2, k0_off6 i k (BitVec.ofNat 32 r.val) = ![0, 2 * J + r.val, 0, 0] := fun r => by
    rw [k0_off6_eq]; congr 2; omega
  have o8 : ∀ r : Fin 2, k0_off8 i k (BitVec.ofNat 32 r.val) = ![1, 2 * J + r.val, 0, 0] := fun r => by
    rw [k0_off8_eq]; congr 2; omega
  have hN : p.N = 512 * p.i + 512 := rfl
  -- the tiles read
  have V0 : ∀ r : Fin 2, Is2 (ld5 a4 i k r X4) fun s d => p.V (256 * (2 * J + r.val) + s) (128 * 0 + d) := fun r => rdb hb.V (o5 r) _
  have V1 : ∀ r : Fin 2, Is2 (ld7 a4 i k r X4) fun s d => p.V (256 * (2 * J + r.val) + s) (128 * 1 + d) := fun r => rdb hb.V (o7 r) _
  have K0 : ∀ r : Fin 2, Is2 (ld5 a3 i k r X3) fun s d => p.K (256 * (2 * J + r.val) + s) (128 * 0 + d) := fun r => rdb hb.K (o5 r) _
  have K1 : ∀ r : Fin 2, Is2 (ld7 a3 i k r X3) fun s d => p.K (256 * (2 * J + r.val) + s) (128 * 1 + d) := fun r => rdb hb.K (o7 r) _
  have A0 : ∀ r : Fin 2, Is4 (ld6 a6 i k r X6) fun _ _ t s => p.A 0 t (256 * (2 * J + r.val) + s) := fun r => rd4 hb.A (o6 r) _
  have A1 : ∀ r : Fin 2, Is4 (ld8 a6 i k r X6) fun _ _ t s => p.A 1 t (256 * (2 * J + r.val) + s) := fun r => rd4 hb.A (o8 r) _
  have B0 : ∀ r : Fin 2, Is4 (ld6 a7 i k r X7) fun _ _ t s => p.B 0 t (256 * (2 * J + r.val) + s) := fun r => rd4 hb.B (o6 r) _
  have B1 : ∀ r : Fin 2, Is4 (ld8 a7 i k r X7) fun _ _ t s => p.B 1 t (256 * (2 * J + r.val) + s) := fun r => rd4 hb.B (o8 r) _
  -- the four tiles' gradients
  have z01 := Pt.zb_is (p := p) (h := 0) (j := 2 * J + 1) (by omega) hb.d0 (V0 1) (A0 1) (B0 1) hs.c0 hb.e0
  have c01 := Pt.c_is (p := p) (h := 0) (j := 2 * J + 1) (by omega) hb.d0 (V0 1) (A0 1) hs.c0
  have z11 := Pt.zb_is (p := p) (h := 1) (j := 2 * J + 1) (by omega) hb.d1 (V1 1) (A1 1) (B1 1) hs.c1 hb.e1
  have c11 := Pt.c_is (p := p) (h := 1) (j := 2 * J + 1) (by omega) hb.d1 (V1 1) (A1 1) hs.c1
  have z00 := Pt.zb_is (p := p) (h := 0) (j := 2 * J) (by omega) hb.d0 (V0 0) (A0 0) (B0 0) c01 hb.e0
  have z10 := Pt.zb_is (p := p) (h := 1) (j := 2 * J) (by omega) hb.d1 (V1 0) (A1 0) (B1 0) c11 hb.e1
  have q01 := Pt.q_is (p := p) (h := 0) (j := 2 * J + 1) (by omega) z01 (K0 1) hs.q0
  have q11 := Pt.q_is (p := p) (h := 1) (j := 2 * J + 1) (by omega) z11 (K1 1) hs.q1
  rw [tripR_eq, tripL_eq]
  refine ⟨Pt.c_is (by omega) hb.d0 (V0 0) (A0 0) c01, Pt.q_is (by omega) z00 (K0 0) q01, Pt.c_is (by omega) hb.d1 (V1 0) (A1 0) c11,
    Pt.q_is (by omega) z10 (K1 0) q11, ?_, ?_⟩
  · have k1 := wr2 (L := []) (o5 1) (k0_off5_inb i k 1) _ (Pt.acc0 (p := p) (j := 2 * J + 1) (by omega) hs.k (Pt.ck_is (h := 0) (by omega) (rd2 hs.k (o5 1) (k0_off5_inb i k 1)) z01 hb.q0))
    have k2 := wr2 (o7 1) (k0_off7_inb i k 1) _ (Pt.acc1 (p := p) (j := 2 * J + 1) (by omega) k1 ((Pt.ck_is (h := 1) (by omega) (rd2 hs.k (o7 1) (k0_off7_inb i k 1)) z11 hb.q1).congr
      fun s d _ _ => congrArg (· + _) (p.acc_top _ _ (by rw [if_neg (by omega), if_neg (by omega)]))))
    have k3 := wr2 (o5 0) (k0_off5_inb i k 0) _ (Pt.acc0 (p := p) (j := 2 * J) (by omega) k2 (Pt.ck_is (h := 0) (by omega) (rd2 k2 (o5 0) (k0_off5_inb i k 0)) z00 hb.q0))
    exact wr2 (o7 0) (k0_off7_inb i k 0) _ (Pt.acc1 (p := p) (j := 2 * J) (by omega) k3 (Pt.ck_is (h := 1) (by omega) (rd2 k3 (o7 0) (k0_off7_inb i k 0)) z10 hb.q1))
  · have k1 := wr2 (L := []) (o5 1) (k0_off5_inb i k 1) _ (Pt.acc0 (p := p) (j := 2 * J + 1) (by omega) hs.v (Pt.cv_is (h := 0) (by omega) (rd2 hs.v (o5 1) (k0_off5_inb i k 1)) (A0 1) hb.d0))
    have k2 := wr2 (o7 1) (k0_off7_inb i k 1) _ (Pt.acc1 (p := p) (j := 2 * J + 1) (by omega) k1 ((Pt.cv_is (h := 1) (by omega) (rd2 hs.v (o7 1) (k0_off7_inb i k 1)) (A1 1) hb.d1).congr
      fun s d _ _ => congrArg (· + _) (p.acc_top _ _ (by rw [if_neg (by omega), if_neg (by omega)]))))
    have k3 := wr2 (o5 0) (k0_off5_inb i k 0) _ (Pt.acc0 (p := p) (j := 2 * J) (by omega) k2 (Pt.cv_is (h := 0) (by omega) (rd2 k2 (o5 0) (k0_off5_inb i k 0)) (A0 0) hb.d0))
    exact wr2 (o7 0) (k0_off7_inb i k 0) _ (Pt.acc1 (p := p) (j := 2 * J) (by omega) k3 (Pt.cv_is (h := 1) (by omega) (rd2 k3 (o7 0) (k0_off7_inb i k 0)) (A1 0) hb.d1))

/-- The sweep's state before trip `n`. -/
theorem st_is
    (hb : Blk p i (a3.view.read (Elt Ideal) X3) (a4.view.read (Elt Ideal) X4) (a6.view.read (Elt Ideal) X6) (a7.view.read (Elt Ideal) X7)
      v3 v4 v5 v6 v12 v18) (acc : Carry Ideal)
    (f12 : Held Ideal a12) (f13 : Held Ideal a13)
    (hs : Sw p O12 O13 (2 * (i 1).val) acc (a12.view.read (Elt Ideal) f12) (a13.view.read (Elt Ideal) f13)) (n : ℕ) (hn : n ≤ (i 1).val) :
    Sw p O12 O13 (2 * ((i 1).val - n)) (st_k0_t1 (F := Ideal) 𝒱 c bd i _ w2 _ w3 _ w4 _ w5 _ w6 _ w7 _ w8 _ w9 _ w10 _ w11 _ w12 _ w13 a1 v3 v4 v5 v6 v12 v18 (k0_pay69 (F := Ideal)) c0_i32_102 X3 X4 X6 X7 f12 f13 acc n).1
      (a12.view.read (Elt Ideal) (a12.view.writes (Elt Ideal) f12 (st_k0_t1 (F := Ideal) 𝒱 c bd i _ w2 _ w3 _ w4 _ w5 _ w6 _ w7 _ w8 _ w9 _ w10 _ w11 _ w12 _ w13 a1 v3 v4 v5 v6 v12 v18 (k0_pay69 (F := Ideal)) c0_i32_102 X3 X4 X6 X7 f12 f13 acc n).2.1))
      (a13.view.read (Elt Ideal) (a13.view.writes (Elt Ideal) f13 (st_k0_t1 (F := Ideal) 𝒱 c bd i _ w2 _ w3 _ w4 _ w5 _ w6 _ w7 _ w8 _ w9 _ w10 _ w11 _ w12 _ w13 a1 v3 v4 v5 v6 v12 v18 (k0_pay69 (F := Ideal)) c0_i32_102 X3 X4 X6 X7 f12 f13 acc n).2.2)) := by
  induction n with
  | zero => exact hs
  | succ n ih =>
    have h1 := ih (by omega)
    rw [show 2 * ((i 1).val - n) = 2 * ((i 1).val - (n + 1)) + 1 + 1 by omega] at h1
    have h2 := trip_is (hb := hb) (𝒱 := 𝒱) (c := c) (bd := bd) (i := i) (w2 := w2) (w3 := w3) (w4 := w4) (w5 := w5) (w6 := w6) (w7 := w7) (w8 := w8) (w9 := w9) (w10 := w10) (w11 := w11) (w12 := w12) (w13 := w13) (a1 := a1) (c0_i32_102 := c0_i32_102) (k := ⟨n, by rw [trips_eq]; omega⟩) (acc := _) (f12 := _) (f13 := _) (J := (i 1).val - (n + 1)) (hJ := by simp only []; omega) (hs := h1)
    have e := st_k0_t1_succ (F := Ideal) 𝒱 c bd i _ w2 _ w3 _ w4 _ w5 _ w6 _ w7 _ w8 _ w9 _ w10 _ w11 _ w12 _ w13 a1 v3 v4 v5 v6 v12 v18 (k0_pay69 (F := Ideal)) c0_i32_102 X3 X4 X6 X7 f12 f13 acc ⟨n, by rw [trips_eq]; omega⟩
    dsimp only at e
    rw [e, View.writes_append, View.writes_append]
    exact h2

end Cert.SbIdeal.Hand
-- ==== Proof.SbDiag.lean ====
/- The two diagonal tiles of each head, and what a whole grid point leaves. -/
module

public import proofs.«01_k».proof.Proof.SbTrip
public import Idealize.ShloMosaic.Lib.Pointwise
public import Idealize.ShloMosaic.Lib.Tactic
public import Idealize.ShloMosaic.Lib.VecWindow
public import Idealize.ShloMosaic.Lib.Pipeline.ValueKit

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI Idealize.SL.Sem

theorem k0_off1_eq : ∀ (i : grid0.Coords) (r : Fin 2), k0_off1 i (BitVec.ofNat 32 r.val) = ![256 * (2 * (i 1).val + r.val), 0] := by decide +kernel
theorem k0_off3_eq : ∀ (i : grid0.Coords) (r : Fin 2), k0_off3 i (BitVec.ofNat 32 r.val) = ![256 * (2 * (i 1).val + r.val), 128] := by decide +kernel
theorem k0_off2_eq : ∀ (i : grid0.Coords) (r : Fin 2), k0_off2 i (BitVec.ofNat 32 r.val) = ![0, 2 * (i 1).val + r.val, 0, 0] := by decide +kernel
theorem k0_off4_eq : ∀ (i : grid0.Coords) (r : Fin 2), k0_off4 i (BitVec.ofNat 32 r.val) = ![1, 2 * (i 1).val + r.val, 0, 0] := by decide +kernel

theorem t2_trips : ∀ i : grid0.Coords, (k0_t2_loop i).trips = 0 := by decide +kernel

/-- Head 0's diagonal tile of keys or values. -/
abbrev ld1 {e : EltTy} (M : Memref sig .tc .vmem S2048x256 e) (i : grid0.Coords) (r : Fin 2) (X : Held Ideal M) :=
  M.view.readAt (Elt Ideal) (Rect.unit (s := S2048x256) (k0_off1 i (BitVec.ofNat 32 r.val)) S256x128.size (k0_off1_inb i r)).toLoadRect X

/-- Head 1's diagonal tile of keys or values. -/
abbrev ld3 {e : EltTy} (M : Memref sig .tc .vmem S2048x256 e) (i : grid0.Coords) (r : Fin 2) (X : Held Ideal M) :=
  M.view.readAt (Elt Ideal) (Rect.unit (s := S2048x256) (k0_off3 i (BitVec.ofNat 32 r.val)) S256x128.size (k0_off3_inb i r)).toLoadRect X

/-- Head 0's diagonal tile of weights. -/
abbrev ld2 {e : EltTy} (M : Memref sig .tc .vmem S2x8x512x256 e) (i : grid0.Coords) (r : Fin 2) (X : Held Ideal M) :=
  M.view.readAt (Elt Ideal) (Rect.unit (s := S2x8x512x256) (k0_off2 i (BitVec.ofNat 32 r.val)) S1x1x512x256.size (k0_off2_inb i r)).toLoadRect X

/-- Head 1's diagonal tile of weights. -/
abbrev ld4 {e : EltTy} (M : Memref sig .tc .vmem S2x8x512x256 e) (i : grid0.Coords) (r : Fin 2) (X : Held Ideal M) :=
  M.view.readAt (Elt Ideal) (Rect.unit (s := S2x8x512x256) (k0_off4 i (BitVec.ofNat 32 r.val)) S1x1x512x256.size (k0_off4_inb i r)).toLoadRect X

/-- Head 0's carried sum past the last tile. -/
abbrev dC0 (i : grid0.Coords) (a4 : MK) (a6 : MW) (v5 : Vec Ideal S512x128 .bf16) (X4 : Held Ideal a4) (X6 : Held Ideal a6) : FVec Ideal S512x1 .f32 :=
  cT (k0_pay70 (F := Ideal)) (gT v5 (ld1 a4 i 1 X4) (ld2 a6 i 1 X6))

/-- Head 0's gradient at its last tile. -/
abbrev dZ01 (i : grid0.Coords) (a4 : MK) (a6 a7 : MW) (v12 : FVec Ideal S512x1 .f32) (v5 : Vec Ideal S512x128 .bf16) (X4 : Held Ideal a4) (X6 : Held Ideal a6) (X7 : Held Ideal a7) : FVec Ideal S512x256 .bf16 :=
  zm k0_pay68 v12 (k0_pay70 (F := Ideal)) v5 (ld1 a4 i 1 X4) (ld2 a6 i 1 X6) (ld2 a7 i 1 X7)

/-- Head 0's gradient at its last tile but one. -/
abbrev dZ00 (i : grid0.Coords) (a4 : MK) (a6 a7 : MW) (v12 : FVec Ideal S512x1 .f32) (v5 : Vec Ideal S512x128 .bf16) (X4 : Held Ideal a4) (X6 : Held Ideal a6) (X7 : Held Ideal a7) : FVec Ideal S512x256 .bf16 :=
  zm k0_pay67 v12 (dC0 i a4 a6 v5 X4 X6) v5 (ld1 a4 i 0 X4) (ld2 a6 i 0 X6) (ld2 a7 i 0 X7)

/-- Head 1's carried sum past the last tile. -/
abbrev dC1 (i : grid0.Coords) (a4 : MK) (a6 : MW) (v5 : Vec Ideal S512x128 .bf16) (X4 : Held Ideal a4) (X6 : Held Ideal a6) : FVec Ideal S512x1 .f32 :=
  cT (k0_pay72 (F := Ideal)) (gT v5 (ld3 a4 i 1 X4) (ld4 a6 i 1 X6))

/-- Head 1's gradient at its last tile. -/
abbrev dZ11 (i : grid0.Coords) (a4 : MK) (a6 a7 : MW) (v12 : FVec Ideal S512x1 .f32) (v5 : Vec Ideal S512x128 .bf16) (X4 : Held Ideal a4) (X6 : Held Ideal a6) (X7 : Held Ideal a7) : FVec Ideal S512x256 .bf16 :=
  zm k0_pay68 v12 (k0_pay72 (F := Ideal)) v5 (ld3 a4 i 1 X4) (ld4 a6 i 1 X6) (ld4 a7 i 1 X7)

/-- Head 1's gradient at its last tile but one. -/
abbrev dZ10 (i : grid0.Coords) (a4 : MK) (a6 a7 : MW) (v12 : FVec Ideal S512x1 .f32) (v5 : Vec Ideal S512x128 .bf16) (X4 : Held Ideal a4) (X6 : Held Ideal a6) (X7 : Held Ideal a7) : FVec Ideal S512x256 .bf16 :=
  zm k0_pay67 v12 (dC1 i a4 a6 v5 X4 X6) v5 (ld3 a4 i 0 X4) (ld4 a6 i 0 X6) (ld4 a7 i 0 X7)

/-- The carried vectors after the diagonal tiles. -/
abbrev dR (i : grid0.Coords) (a3 a4 : MK) (a6 a7 : MW) (v5 v6 : Vec Ideal S512x128 .bf16) (v12 v18 : FVec Ideal S512x1 .f32) (X3 : Held Ideal a3) (X4 : Held Ideal a4) (X6 : Held Ideal a6) (X7 : Held Ideal a7) : Carry Ideal :=
  (cT (dC0 i a4 a6 v5 X4 X6) (gT v5 (ld1 a4 i 0 X4) (ld2 a6 i 0 X6)), (qT (qT (k0_pay71 (F := Ideal)) (dZ01 i a4 a6 a7 v12 v5 X4 X6 X7) (ld1 a3 i 1 X3)) (dZ00 i a4 a6 a7 v12 v5 X4 X6 X7) (ld1 a3 i 0 X3),
   (cT (dC1 i a4 a6 v6 X4 X6) (gT v6 (ld3 a4 i 0 X4) (ld4 a6 i 0 X6)), qT (qT (k0_pay73 (F := Ideal)) (dZ11 i a4 a6 a7 v18 v6 X4 X6 X7) (ld3 a3 i 1 X3)) (dZ10 i a4 a6 a7 v18 v6 X4 X6 X7) (ld3 a3 i 0 X3))))

/-- The keys' pieces of the first 1 diagonal tiles, over what each found. -/
abbrev dK1 (i : grid0.Coords) (a4 : MK) (a6 a7 : MW) (v3 v4 v5 v6 : Vec Ideal S512x128 .bf16) (v12 v18 : FVec Ideal S512x1 .f32) (X4 : Held Ideal a4) (X6 : Held Ideal a6) (X7 : Held Ideal a7) (o1 : FVec Ideal S256x128 .f32) : Pieces Ideal :=
  ⟨Rect.unit (s := S2048x256) (k0_off1 i (BitVec.ofNat 32 ((1 : Fin 2).val))) S256x128.size (k0_off1_inb i 1), kT o1 (dZ01 i a4 a6 a7 v12 v5 X4 X6 X7) v3⟩ :: []

/-- The values' pieces of the first 1 diagonal tiles, over what each found. -/
abbrev dV1 (i : grid0.Coords) (a6 : MW) (v5 v6 : Vec Ideal S512x128 .bf16) (X6 : Held Ideal a6) (o1 : FVec Ideal S256x128 .f32) : Pieces Ideal :=
  ⟨Rect.unit (s := S2048x256) (k0_off1 i (BitVec.ofNat 32 ((1 : Fin 2).val))) S256x128.size (k0_off1_inb i 1), kT o1 (aT (ld2 a6 i 1 X6)) v5⟩ :: []

/-- The keys' pieces of the first 2 diagonal tiles, over what each found. -/
abbrev dK2 (i : grid0.Coords) (a4 : MK) (a6 a7 : MW) (v3 v4 v5 v6 : Vec Ideal S512x128 .bf16) (v12 v18 : FVec Ideal S512x1 .f32) (X4 : Held Ideal a4) (X6 : Held Ideal a6) (X7 : Held Ideal a7) (o1 o2 : FVec Ideal S256x128 .f32) : Pieces Ideal :=
  ⟨Rect.unit (s := S2048x256) (k0_off3 i (BitVec.ofNat 32 ((1 : Fin 2).val))) S256x128.size (k0_off3_inb i 1), kT o2 (dZ11 i a4 a6 a7 v18 v6 X4 X6 X7) v4⟩ :: (dK1 i a4 a6 a7 v3 v4 v5 v6 v12 v18 X4 X6 X7 o1)

/-- The values' pieces of the first 2 diagonal tiles, over what each found. -/
abbrev dV2 (i : grid0.Coords) (a6 : MW) (v5 v6 : Vec Ideal S512x128 .bf16) (X6 : Held Ideal a6) (o1 o2 : FVec Ideal S256x128 .f32) : Pieces Ideal :=
  ⟨Rect.unit (s := S2048x256) (k0_off3 i (BitVec.ofNat 32 ((1 : Fin 2).val))) S256x128.size (k0_off3_inb i 1), kT o2 (aT (ld4 a6 i 1 X6)) v6⟩ :: (dV1 i a6 v5 v6 X6 o1)

/-- The keys' pieces of the first 3 diagonal tiles, over what each found. -/
abbrev dK3 (i : grid0.Coords) (a4 : MK) (a6 a7 : MW) (v3 v4 v5 v6 : Vec Ideal S512x128 .bf16) (v12 v18 : FVec Ideal S512x1 .f32) (X4 : Held Ideal a4) (X6 : Held Ideal a6) (X7 : Held Ideal a7) (o1 o2 o3 : FVec Ideal S256x128 .f32) : Pieces Ideal :=
  ⟨Rect.unit (s := S2048x256) (k0_off1 i (BitVec.ofNat 32 ((0 : Fin 2).val))) S256x128.size (k0_off1_inb i 0), kT o3 (dZ00 i a4 a6 a7 v12 v5 X4 X6 X7) v3⟩ :: (dK2 i a4 a6 a7 v3 v4 v5 v6 v12 v18 X4 X6 X7 o1 o2)

/-- The values' pieces of the first 3 diagonal tiles, over what each found. -/
abbrev dV3 (i : grid0.Coords) (a6 : MW) (v5 v6 : Vec Ideal S512x128 .bf16) (X6 : Held Ideal a6) (o1 o2 o3 : FVec Ideal S256x128 .f32) : Pieces Ideal :=
  ⟨Rect.unit (s := S2048x256) (k0_off1 i (BitVec.ofNat 32 ((0 : Fin 2).val))) S256x128.size (k0_off1_inb i 0), kT o3 (aT (ld2 a6 i 0 X6)) v5⟩ :: (dV2 i a6 v5 v6 X6 o1 o2)

/-- The keys' pieces of the first 4 diagonal tiles, over what each found. -/
abbrev dK4 (i : grid0.Coords) (a4 : MK) (a6 a7 : MW) (v3 v4 v5 v6 : Vec Ideal S512x128 .bf16) (v12 v18 : FVec Ideal S512x1 .f32) (X4 : Held Ideal a4) (X6 : Held Ideal a6) (X7 : Held Ideal a7) (o1 o2 o3 o4 : FVec Ideal S256x128 .f32) : Pieces Ideal :=
  ⟨Rect.unit (s := S2048x256) (k0_off3 i (BitVec.ofNat 32 ((0 : Fin 2).val))) S256x128.size (k0_off3_inb i 0), kT o4 (dZ10 i a4 a6 a7 v18 v6 X4 X6 X7) v4⟩ :: (dK3 i a4 a6 a7 v3 v4 v5 v6 v12 v18 X4 X6 X7 o1 o2 o3)

/-- The values' pieces of the first 4 diagonal tiles, over what each found. -/
abbrev dV4 (i : grid0.Coords) (a6 : MW) (v5 v6 : Vec Ideal S512x128 .bf16) (X6 : Held Ideal a6) (o1 o2 o3 o4 : FVec Ideal S256x128 .f32) : Pieces Ideal :=
  ⟨Rect.unit (s := S2048x256) (k0_off3 i (BitVec.ofNat 32 ((0 : Fin 2).val))) S256x128.size (k0_off3_inb i 0), kT o4 (aT (ld4 a6 i 0 X6)) v6⟩ :: (dV3 i a6 v5 v6 X6 o1 o2 o3)

/-- A block's first head's columns, and its second's. -/
abbrev hd0 {e : EltTy} (M : Memref sig .tc .vmem S512x256 e) (X : Held Ideal M) :=
  M.view.readAt (Elt Ideal) (Rect.unit (s := S512x256) ![0, 0] S512x128.size inb_S512x256_S512x128_0_0).toLoadRect X
abbrev hd1 {e : EltTy} (M : Memref sig .tc .vmem S512x256 e) (X : Held Ideal M) :=
  M.view.readAt (Elt Ideal) (Rect.unit (s := S512x256) ![0, 128] S512x128.size inb_S512x256_S512x128_0_128).toLoadRect X

/-- The constant the scores are scaled by. -/
def scl : ℝ := 11863283 / 134217728

theorem scl_eq : Ideal.ofBits .f32 0x3DB504F3#32 = ((scl : ℝ) : EReal) := by
  simp [Ideal.ofBits, Ideal.ieee, -EReal.coe_mul, scl]; norm_num

theorem pay63_is : Is2 (k0_pay63 (F := Ideal)) fun _ _ => 0 := by intro a b; pointwise [k0_pay63]; exact EReal.coe_zero.symm
theorem pay64_is : Is2 (k0_pay64 (F := Ideal)) fun _ _ => 0 := by intro a b; pointwise [k0_pay64]; exact EReal.coe_zero.symm
theorem pay70_is : Is2 (k0_pay70 (F := Ideal)) fun _ _ => 0 := by intro a b; pointwise [k0_pay70]; exact EReal.coe_zero.symm
theorem pay71_is : Is2 (k0_pay71 (F := Ideal)) fun _ _ => 0 := by intro a b; pointwise [k0_pay71]; exact EReal.coe_zero.symm
theorem pay72_is : Is2 (k0_pay72 (F := Ideal)) fun _ _ => 0 := by intro a b; pointwise [k0_pay72]; exact EReal.coe_zero.symm
theorem pay73_is : Is2 (k0_pay73 (F := Ideal)) fun _ _ => 0 := by intro a b; pointwise [k0_pay73]; exact EReal.coe_zero.symm

theorem pay11_is {x : FVec Ideal S512x128 .f32} {f : ℕ → ℕ → ℝ} (h : Is2 x f) : Is2 (k0_pay11 (F := Ideal) x) fun a b => f a b * scl := by
  intro a b; pointwise [k0_pay11]; rw [h a b, scl_eq, EReal.coe_mul]
theorem pay12_is {x : FVec Ideal S512x128 .f32} {f : ℕ → ℕ → ℝ} (h : Is2 x f) : Is2 (k0_pay12 (F := Ideal) x) fun a b => f a b * scl := by
  intro a b; pointwise [k0_pay12]; rw [h a b, scl_eq, EReal.coe_mul]
theorem pay13_is {x : FVec Ideal S2048x256 .f32} {f : ℕ → ℕ → ℝ} (h : Is2 x f) : Is2 (k0_pay13 (F := Ideal) x) fun a b => f a b * scl := by
  intro a b; pointwise [k0_pay13]; rw [h a b, scl_eq, EReal.coe_mul]
theorem pay14_is {x : FVec Ideal S2048x256 .f32} {f : ℕ → ℕ → ℝ} (h : Is2 x f) : Is2 (k0_pay14 (F := Ideal) x) f := by
  intro a b; pointwise [k0_pay14]; exact h a b

variable (𝒱 : Variants)
variable (c : Dev nD)
variable (bd : Option 𝒱.V)
variable (i : grid0.Coords)
variable (a2 : MQ)
variable (w2 : a2.IsWhole)
variable (a3 : MK)
variable (w3 : a3.IsWhole)
variable (a4 : MK)
variable (w4 : a4.IsWhole)
variable (a5 : MO)
variable (w5 : a5.IsWhole)
variable (a6 : MW)
variable (w6 : a6.IsWhole)
variable (a7 : MW)
variable (w7 : a7.IsWhole)
variable (a8 : MQ)
variable (w8 : a8.IsWhole)
variable (a9 : MQ)
variable (w9 : a9.IsWhole)
variable (a10 : MK)
variable (w10 : a10.IsWhole)
variable (a11 : MK)
variable (w11 : a11.IsWhole)
variable (a12 : MA)
variable (w12 : a12.IsWhole)
variable (a13 : MA)
variable (w13 : a13.IsWhole)
variable (a1 : BitVec 32)
variable (v3 : Vec Ideal S512x128 .bf16)
variable (v4 : Vec Ideal S512x128 .bf16)
variable (v5 : Vec Ideal S512x128 .bf16)
variable (v6 : Vec Ideal S512x128 .bf16)
variable (v12 : FVec Ideal S512x1 .f32)
variable (v18 : FVec Ideal S512x1 .f32)
variable (c0_i32_102 : BitVec 32)
variable (X3 : Held Ideal a3)
variable (X4 : Held Ideal a4)
variable (X6 : Held Ideal a6)
variable (X7 : Held Ideal a7)

variable {p : Pt} {O12 O13 : ℕ → ℕ → ℝ}

theorem Pt.acc_full (p : Pt) (O c : ℕ → ℕ → ℝ) {J0 J1 s d : ℕ} (h : p.N ≤ 256 * J0) (h' : p.N ≤ 256 * J1) : p.acc O c J0 J1 s d = O s d := by
  rw [Pt.acc, if_neg, add_zero]
  split_ifs <;> omega

theorem Pt.acc_old (p : Pt) (O c : ℕ → ℕ → ℝ) {J0 J1 s d : ℕ} (h : s < 256 * (if d < 128 then J0 else J1)) : p.acc O c J0 J1 s d = O s d := by
  rw [Pt.acc, if_neg (by omega), add_zero]

theorem Pt.C_top (p : Pt) (h : ℕ) {J t : ℕ} (hJ : p.N ≤ 256 * J) : p.C h J t = 0 := by rw [Pt.C, Finset.Ico_eq_empty (by omega), Finset.sum_empty]
theorem Pt.DQ_top (p : Pt) (h : ℕ) {J t d : ℕ} (hJ : p.N ≤ 256 * J) : p.DQ h J t d = 0 := by rw [Pt.DQ, Finset.Ico_eq_empty (by omega), Finset.sum_empty]

/-- The first diagonal tile's piece. -/
theorem dg1 {M : MA} {X : Held Ideal M} {O c : ℕ → ℕ → ℝ} {w : FVec Ideal S256x128 .f32} (i : grid0.Coords) (hi : p.i = (i 1).val)
    (h : Is2 (n := 2048) (m := 256) (M.view.read (Elt Ideal) X) O)
    (hw : Is2 w fun s d => O (256 * (2 * (i 1).val + 1) + s) (0 + d) + c (256 * (2 * (i 1).val + 1) + s) (0 + d)) :
    Is2 (n := 2048) (m := 256) (M.view.read (Elt Ideal) (M.view.writes (Elt Ideal) X [⟨Rect.unit (s := S2048x256) (k0_off1 i (BitVec.ofNat 32 ((1 : Fin 2).val))) S256x128.size (k0_off1_inb i 1), w⟩])) (p.acc O c (2 * (i 1).val + 1) (2 * (i 1).val + 1 + 1)) := by
  have hN : p.N = 512 * p.i + 512 := rfl
  refine wr2 (L := []) (k0_off1_eq i 1) _ _ (Pt.acc0 (p := p) (j := 2 * (i 1).val + 1) (by omega) (h.congr fun s d _ _ => (p.acc_full _ _ (by omega) (by omega)).symm) ?_)
  exact hw.congr fun s d _ _ => by rw [p.acc_full _ _ (by omega) (by omega)]

/-- The second's. -/
theorem dg2 {M : MA} {X : Held Ideal M} {O c : ℕ → ℕ → ℝ} {w : FVec Ideal S256x128 .f32} {L : Pieces Ideal} (i : grid0.Coords) (hi : p.i = (i 1).val)
    (h : Is2 (n := 2048) (m := 256) (M.view.read (Elt Ideal) (M.view.writes (Elt Ideal) X L)) (p.acc O c (2 * (i 1).val + 1) (2 * (i 1).val + 1 + 1)))
    (hw : Is2 w fun s d => O (256 * (2 * (i 1).val + 1) + s) (128 + d) + c (256 * (2 * (i 1).val + 1) + s) (128 + d)) :
    Is2 (n := 2048) (m := 256) (M.view.read (Elt Ideal) (M.view.writes (Elt Ideal) X (⟨Rect.unit (s := S2048x256) (k0_off3 i (BitVec.ofNat 32 ((1 : Fin 2).val))) S256x128.size (k0_off3_inb i 1), w⟩ :: L))) (p.acc O c (2 * (i 1).val + 1) (2 * (i 1).val + 1)) := by
  have hN : p.N = 512 * p.i + 512 := rfl
  refine wr2 (k0_off3_eq i 1) _ _ (Pt.acc1 (p := p) (j := 2 * (i 1).val + 1) (by omega) h ?_)
  exact hw.congr fun s d hs hd => by rw [p.acc_old]; rw [if_neg (by omega)]; omega

/-- The third's. -/
theorem dg3 {M : MA} {X : Held Ideal M} {O c : ℕ → ℕ → ℝ} {w : FVec Ideal S256x128 .f32} {L : Pieces Ideal} (i : grid0.Coords) (hi : p.i = (i 1).val)
    (h : Is2 (n := 2048) (m := 256) (M.view.read (Elt Ideal) (M.view.writes (Elt Ideal) X L)) (p.acc O c (2 * (i 1).val + 1) (2 * (i 1).val + 1)))
    (hw : Is2 w fun s d => O (256 * (2 * (i 1).val) + s) (0 + d) + c (256 * (2 * (i 1).val) + s) (0 + d)) :
    Is2 (n := 2048) (m := 256) (M.view.read (Elt Ideal) (M.view.writes (Elt Ideal) X (⟨Rect.unit (s := S2048x256) (k0_off1 i (BitVec.ofNat 32 ((0 : Fin 2).val))) S256x128.size (k0_off1_inb i 0), w⟩ :: L))) (p.acc O c (2 * (i 1).val) (2 * (i 1).val + 1)) := by
  have hN : p.N = 512 * p.i + 512 := rfl
  refine wr2 (k0_off1_eq i 0) _ _ (Pt.acc0 (p := p) (j := 2 * (i 1).val) (by omega) h ?_)
  exact hw.congr fun s d hs hd => by rw [p.acc_old]; rw [if_pos (by omega)]; omega

/-- The fourth's. -/
theorem dg4 {M : MA} {X : Held Ideal M} {O c : ℕ → ℕ → ℝ} {w : FVec Ideal S256x128 .f32} {L : Pieces Ideal} (i : grid0.Coords) (hi : p.i = (i 1).val)
    (h : Is2 (n := 2048) (m := 256) (M.view.read (Elt Ideal) (M.view.writes (Elt Ideal) X L)) (p.acc O c (2 * (i 1).val) (2 * (i 1).val + 1)))
    (hw : Is2 w fun s d => O (256 * (2 * (i 1).val) + s) (128 + d) + c (256 * (2 * (i 1).val) + s) (128 + d)) :
    Is2 (n := 2048) (m := 256) (M.view.read (Elt Ideal) (M.view.writes (Elt Ideal) X (⟨Rect.unit (s := S2048x256) (k0_off3 i (BitVec.ofNat 32 ((0 : Fin 2).val))) S256x128.size (k0_off3_inb i 0), w⟩ :: L))) (p.acc O c (2 * (i 1).val) (2 * (i 1).val)) := by
  have hN : p.N = 512 * p.i + 512 := rfl
  refine wr2 (k0_off3_eq i 0) _ _ (Pt.acc1 (p := p) (j := 2 * (i 1).val) (by omega) h ?_)
  exact hw.congr fun s d hs hd => by rw [p.acc_old]; rw [if_neg (by omega)]; omega

/-- What a tile's load finds in an accumulator that no diagonal tile of its has reached. -/
structure Olds (i : grid0.Coords) (O : ℕ → ℕ → ℝ) (o1 o2 o3 o4 : FVec Ideal S256x128 .f32) : Prop where
  h1 : Is2 o1 fun s d => O (256 * (2 * (i 1).val + 1) + s) (0 + d)
  h2 : Is2 o2 fun s d => O (256 * (2 * (i 1).val + 1) + s) (128 + d)
  h3 : Is2 o3 fun s d => O (256 * (2 * (i 1).val) + s) (0 + d)
  h4 : Is2 o4 fun s d => O (256 * (2 * (i 1).val) + s) (128 + d)

theorem old2 {M : MA} {X : Held Ideal M} {O c : ℕ → ℕ → ℝ} (i : grid0.Coords)
    (h : Is2 (n := 2048) (m := 256) (M.view.read (Elt Ideal) X) (p.acc O c (2 * (i 1).val + 1) (2 * (i 1).val + 1 + 1))) :
    Is2 (ld3 M i 1 X) fun s d => O (256 * (2 * (i 1).val + 1) + s) (128 + d) :=
  (rd2 h (k0_off3_eq i 1) (k0_off3_inb i 1)).congr fun s d hs hd => by
    rw [p.acc_old]
    · rfl
    · rw [if_neg (by omega)]; exact (by omega : 256 * (2 * (i 1).val + 1) + s < 256 * (2 * (i 1).val + 1 + 1))

theorem old3 {M : MA} {X : Held Ideal M} {O c : ℕ → ℕ → ℝ} (i : grid0.Coords)
    (h : Is2 (n := 2048) (m := 256) (M.view.read (Elt Ideal) X) (p.acc O c (2 * (i 1).val + 1) (2 * (i 1).val + 1))) :
    Is2 (ld1 M i 0 X) fun s d => O (256 * (2 * (i 1).val) + s) (0 + d) :=
  (rd2 h (k0_off1_eq i 0) (k0_off1_inb i 0)).congr fun s d hs hd => by
    rw [p.acc_old]
    · rfl
    · rw [if_pos (by omega)]; exact (by omega : 256 * (2 * (i 1).val) + s < 256 * (2 * (i 1).val + 1))

theorem old4 {M : MA} {X : Held Ideal M} {O c : ℕ → ℕ → ℝ} (i : grid0.Coords)
    (h : Is2 (n := 2048) (m := 256) (M.view.read (Elt Ideal) X) (p.acc O c (2 * (i 1).val) (2 * (i 1).val + 1))) :
    Is2 (ld3 M i 0 X) fun s d => O (256 * (2 * (i 1).val) + s) (128 + d) :=
  (rd2 h (k0_off3_eq i 0) (k0_off3_inb i 0)).congr fun s d hs hd => by
    rw [p.acc_old]
    · rfl
    · rw [if_neg (by omega)]; exact (by omega : 256 * (2 * (i 1).val) + s < 256 * (2 * (i 1).val + 1))

theorem olds_of_entry {M : MA} {X : Held Ideal M} {O : ℕ → ℕ → ℝ} (i : grid0.Coords)
    (h : Is2 (n := 2048) (m := 256) (M.view.read (Elt Ideal) X) O) : Olds i O (ld1 M i 1 X) (ld3 M i 1 X) (ld1 M i 0 X) (ld3 M i 0 X) :=
  ⟨rd2 h (k0_off1_eq i 1) _, rd2 h (k0_off3_eq i 1) _, rd2 h (k0_off1_eq i 0) _, rd2 h (k0_off3_eq i 0) _⟩

/-- The four diagonal tiles' gradients and the carried vectors. -/
structure Diag (p : Pt) (i : grid0.Coords) (a3 a4 : MK) (a6 a7 : MW) (v5 v6 : Vec Ideal S512x128 .bf16) (v12 v18 : FVec Ideal S512x1 .f32) (X3 : Held Ideal a3) (X4 : Held Ideal a4) (X6 : Held Ideal a6) (X7 : Held Ideal a7) : Prop where
  z01 : Is2 (dZ01 i a4 a6 a7 v12 v5 X4 X6 X7) fun t s => p.DZ 0 t (256 * (2 * (i 1).val + 1) + s)
  z11 : Is2 (dZ11 i a4 a6 a7 v18 v6 X4 X6 X7) fun t s => p.DZ 1 t (256 * (2 * (i 1).val + 1) + s)
  z00 : Is2 (dZ00 i a4 a6 a7 v12 v5 X4 X6 X7) fun t s => p.DZ 0 t (256 * (2 * (i 1).val) + s)
  z10 : Is2 (dZ10 i a4 a6 a7 v18 v6 X4 X6 X7) fun t s => p.DZ 1 t (256 * (2 * (i 1).val) + s)
  a01 : Is4 (ld2 a6 i 1 X6) fun _ _ t s => p.A 0 t (256 * (2 * (i 1).val + 1) + s)
  a11 : Is4 (ld4 a6 i 1 X6) fun _ _ t s => p.A 1 t (256 * (2 * (i 1).val + 1) + s)
  a00 : Is4 (ld2 a6 i 0 X6) fun _ _ t s => p.A 0 t (256 * (2 * (i 1).val) + s)
  a10 : Is4 (ld4 a6 i 0 X6) fun _ _ t s => p.A 1 t (256 * (2 * (i 1).val) + s)
  c0 : Is2 (dR i a3 a4 a6 a7 v5 v6 v12 v18 X3 X4 X6 X7).1 fun t _ => p.C 0 (2 * (i 1).val) t
  q0 : Is2 (dR i a3 a4 a6 a7 v5 v6 v12 v18 X3 X4 X6 X7).2.1 (p.DQ 0 (2 * (i 1).val))
  c1 : Is2 (dR i a3 a4 a6 a7 v5 v6 v12 v18 X3 X4 X6 X7).2.2.1 fun t _ => p.C 1 (2 * (i 1).val) t
  q1 : Is2 (dR i a3 a4 a6 a7 v5 v6 v12 v18 X3 X4 X6 X7).2.2.2 (p.DQ 1 (2 * (i 1).val))

theorem diag_is
    (hb : Blk p i (a3.view.read (Elt Ideal) X3) (a4.view.read (Elt Ideal) X4) (a6.view.read (Elt Ideal) X6) (a7.view.read (Elt Ideal) X7)
      v3 v4 v5 v6 v12 v18) : Diag p i a3 a4 a6 a7 v5 v6 v12 v18 X3 X4 X6 X7 := by
  have hi := hb.i
  have hN : p.N = 512 * p.i + 512 := rfl
  have V0 : ∀ r : Fin 2, Is2 (ld1 a4 i r X4) fun s d => p.V (256 * (2 * (i 1).val + r.val) + s) (128 * 0 + d) := fun r => rdb hb.V (k0_off1_eq i r) _
  have V1 : ∀ r : Fin 2, Is2 (ld3 a4 i r X4) fun s d => p.V (256 * (2 * (i 1).val + r.val) + s) (128 * 1 + d) := fun r => rdb hb.V (k0_off3_eq i r) _
  have K0 : ∀ r : Fin 2, Is2 (ld1 a3 i r X3) fun s d => p.K (256 * (2 * (i 1).val + r.val) + s) (128 * 0 + d) := fun r => rdb hb.K (k0_off1_eq i r) _
  have K1 : ∀ r : Fin 2, Is2 (ld3 a3 i r X3) fun s d => p.K (256 * (2 * (i 1).val + r.val) + s) (128 * 1 + d) := fun r => rdb hb.K (k0_off3_eq i r) _
  have A0 : ∀ r : Fin 2, Is4 (ld2 a6 i r X6) fun _ _ t s => p.A 0 t (256 * (2 * (i 1).val + r.val) + s) := fun r => rd4 hb.A (k0_off2_eq i r) _
  have A1 : ∀ r : Fin 2, Is4 (ld4 a6 i r X6) fun _ _ t s => p.A 1 t (256 * (2 * (i 1).val + r.val) + s) := fun r => rd4 hb.A (k0_off4_eq i r) _
  have B0 : ∀ r : Fin 2, Is4 (ld2 a7 i r X7) fun _ _ t s => p.B 0 t (256 * (2 * (i 1).val + r.val) + s) := fun r => rd4 hb.B (k0_off2_eq i r) _
  have B1 : ∀ r : Fin 2, Is4 (ld4 a7 i r X7) fun _ _ t s => p.B 1 t (256 * (2 * (i 1).val + r.val) + s) := fun r => rd4 hb.B (k0_off4_eq i r) _
  have t0 : Is2 (k0_pay70 (F := Ideal)) fun t _ => p.C 0 (2 * (i 1).val + 1 + 1) t := pay70_is.congr fun t _ _ _ => (p.C_top 0 (by omega)).symm
  have t1 : Is2 (k0_pay72 (F := Ideal)) fun t _ => p.C 1 (2 * (i 1).val + 1 + 1) t := pay72_is.congr fun t _ _ _ => (p.C_top 1 (by omega)).symm
  have u0 : Is2 (k0_pay71 (F := Ideal)) (p.DQ 0 (2 * (i 1).val + 1 + 1)) := pay71_is.congr fun t _ _ _ => (p.DQ_top 0 (by omega)).symm
  have u1 : Is2 (k0_pay73 (F := Ideal)) (p.DQ 1 (2 * (i 1).val + 1 + 1)) := pay73_is.congr fun t _ _ _ => (p.DQ_top 1 (by omega)).symm
  have z01 := Pt.zm1_is (p := p) (h := 0) (j := 2 * (i 1).val + 1) (by omega) hb.d0 (V0 1) (A0 1) (B0 1) t0 hb.e0
  have c01 := Pt.c_is (p := p) (h := 0) (j := 2 * (i 1).val + 1) (by omega) hb.d0 (V0 1) (A0 1) t0
  have z11 := Pt.zm1_is (p := p) (h := 1) (j := 2 * (i 1).val + 1) (by omega) hb.d1 (V1 1) (A1 1) (B1 1) t1 hb.e1
  have c11 := Pt.c_is (p := p) (h := 1) (j := 2 * (i 1).val + 1) (by omega) hb.d1 (V1 1) (A1 1) t1
  have z00 := Pt.zm0_is (p := p) (h := 0) (j := 2 * (i 1).val) (by omega) hb.d0 (V0 0) (A0 0) (B0 0) c01 hb.e0
  have z10 := Pt.zm0_is (p := p) (h := 1) (j := 2 * (i 1).val) (by omega) hb.d1 (V1 0) (A1 0) (B1 0) c11 hb.e1
  have q01 := Pt.q_is (p := p) (h := 0) (j := 2 * (i 1).val + 1) (by omega) z01 (K0 1) u0
  have q11 := Pt.q_is (p := p) (h := 1) (j := 2 * (i 1).val + 1) (by omega) z11 (K1 1) u1
  exact ⟨z01, z11, z00, z10, A0 1, A1 1, A0 0, A1 0, Pt.c_is (by omega) hb.d0 (V0 0) (A0 0) c01, Pt.q_is (by omega) z00 (K0 0) q01,
    Pt.c_is (by omega) hb.d1 (V1 0) (A1 0) c11, Pt.q_is (by omega) z10 (K1 0) q11⟩

theorem dK1_is {o1 : FVec Ideal S256x128 .f32}
    (hb : Blk p i (a3.view.read (Elt Ideal) X3) (a4.view.read (Elt Ideal) X4) (a6.view.read (Elt Ideal) X6) (a7.view.read (Elt Ideal) X7)
      v3 v4 v5 v6 v12 v18) {f12 : Held Ideal a12} (h : Is2 (n := 2048) (m := 256) (a12.view.read (Elt Ideal) f12) O12) (h1 : Is2 o1 fun s d => O12 (256 * (2 * (i 1).val + 1) + s) (0 + d)) :
    Is2 (n := 2048) (m := 256) (a12.view.read (Elt Ideal) (a12.view.writes (Elt Ideal) f12 (dK1 i a4 a6 a7 v3 v4 v5 v6 v12 v18 X4 X6 X7 o1))) (p.acc O12 p.CK (2 * (i 1).val + 1) (2 * (i 1).val + 1 + 1)) :=
  have hd := diag_is (hb := hb) (i := i) (a3 := a3) (a4 := a4) (a6 := a6) (a7 := a7)
  dg1 (p := p) (i := i) (hi := hb.i) (h := h) (hw := Pt.ck_is (h := 0) (by omega) h1 hd.z01 hb.q0)

theorem dK2_is {o1 o2 : FVec Ideal S256x128 .f32}
    (hb : Blk p i (a3.view.read (Elt Ideal) X3) (a4.view.read (Elt Ideal) X4) (a6.view.read (Elt Ideal) X6) (a7.view.read (Elt Ideal) X7)
      v3 v4 v5 v6 v12 v18) {f12 : Held Ideal a12} (h : Is2 (n := 2048) (m := 256) (a12.view.read (Elt Ideal) f12) O12) (h1 : Is2 o1 fun s d => O12 (256 * (2 * (i 1).val + 1) + s) (0 + d)) (h2 : Is2 o2 fun s d => O12 (256 * (2 * (i 1).val + 1) + s) (128 + d)) :
    Is2 (n := 2048) (m := 256) (a12.view.read (Elt Ideal) (a12.view.writes (Elt Ideal) f12 (dK2 i a4 a6 a7 v3 v4 v5 v6 v12 v18 X4 X6 X7 o1 o2))) (p.acc O12 p.CK (2 * (i 1).val + 1) (2 * (i 1).val + 1)) :=
  have hd := diag_is (hb := hb) (i := i) (a3 := a3) (a4 := a4) (a6 := a6) (a7 := a7)
  dg2 (p := p) (i := i) (hi := hb.i) (h := (dK1_is (hb := hb) (h := h) (i := i) (a3 := a3) (a4 := a4) (a6 := a6) (a7 := a7) (a12 := a12) (h1 := h1))) (hw := Pt.ck_is (h := 1) (by omega) h2 hd.z11 hb.q1)

theorem dK3_is {o1 o2 o3 : FVec Ideal S256x128 .f32}
    (hb : Blk p i (a3.view.read (Elt Ideal) X3) (a4.view.read (Elt Ideal) X4) (a6.view.read (Elt Ideal) X6) (a7.view.read (Elt Ideal) X7)
      v3 v4 v5 v6 v12 v18) {f12 : Held Ideal a12} (h : Is2 (n := 2048) (m := 256) (a12.view.read (Elt Ideal) f12) O12) (h1 : Is2 o1 fun s d => O12 (256 * (2 * (i 1).val + 1) + s) (0 + d)) (h2 : Is2 o2 fun s d => O12 (256 * (2 * (i 1).val + 1) + s) (128 + d)) (h3 : Is2 o3 fun s d => O12 (256 * (2 * (i 1).val) + s) (0 + d)) :
    Is2 (n := 2048) (m := 256) (a12.view.read (Elt Ideal) (a12.view.writes (Elt Ideal) f12 (dK3 i a4 a6 a7 v3 v4 v5 v6 v12 v18 X4 X6 X7 o1 o2 o3))) (p.acc O12 p.CK (2 * (i 1).val) (2 * (i 1).val + 1)) :=
  have hd := diag_is (hb := hb) (i := i) (a3 := a3) (a4 := a4) (a6 := a6) (a7 := a7)
  dg3 (p := p) (i := i) (hi := hb.i) (h := (dK2_is (hb := hb) (h := h) (i := i) (a3 := a3) (a4 := a4) (a6 := a6) (a7 := a7) (a12 := a12) (h1 := h1) (h2 := h2))) (hw := Pt.ck_is (h := 0) (by omega) h3 hd.z00 hb.q0)

theorem dK4_is {o1 o2 o3 o4 : FVec Ideal S256x128 .f32}
    (hb : Blk p i (a3.view.read (Elt Ideal) X3) (a4.view.read (Elt Ideal) X4) (a6.view.read (Elt Ideal) X6) (a7.view.read (Elt Ideal) X7)
      v3 v4 v5 v6 v12 v18) {f12 : Held Ideal a12} (h : Is2 (n := 2048) (m := 256) (a12.view.read (Elt Ideal) f12) O12) (h1 : Is2 o1 fun s d => O12 (256 * (2 * (i 1).val + 1) + s) (0 + d)) (h2 : Is2 o2 fun s d => O12 (256 * (2 * (i 1).val + 1) + s) (128 + d)) (h3 : Is2 o3 fun s d => O12 (256 * (2 * (i 1).val) + s) (0 + d)) (h4 : Is2 o4 fun s d => O12 (256 * (2 * (i 1).val) + s) (128 + d)) :
    Is2 (n := 2048) (m := 256) (a12.view.read (Elt Ideal) (a12.view.writes (Elt Ideal) f12 (dK4 i a4 a6 a7 v3 v4 v5 v6 v12 v18 X4 X6 X7 o1 o2 o3 o4))) (p.acc O12 p.CK (2 * (i 1).val) (2 * (i 1).val)) :=
  have hd := diag_is (hb := hb) (i := i) (a3 := a3) (a4 := a4) (a6 := a6) (a7 := a7)
  dg4 (p := p) (i := i) (hi := hb.i) (h := (dK3_is (hb := hb) (h := h) (i := i) (a3 := a3) (a4 := a4) (a6 := a6) (a7 := a7) (a12 := a12) (h1 := h1) (h2 := h2) (h3 := h3))) (hw := Pt.ck_is (h := 1) (by omega) h4 hd.z10 hb.q1)

theorem dV1_is {o1 : FVec Ideal S256x128 .f32}
    (hb : Blk p i (a3.view.read (Elt Ideal) X3) (a4.view.read (Elt Ideal) X4) (a6.view.read (Elt Ideal) X6) (a7.view.read (Elt Ideal) X7)
      v3 v4 v5 v6 v12 v18) {f13 : Held Ideal a13} (h : Is2 (n := 2048) (m := 256) (a13.view.read (Elt Ideal) f13) O13) (h1 : Is2 o1 fun s d => O13 (256 * (2 * (i 1).val + 1) + s) (0 + d)) :
    Is2 (n := 2048) (m := 256) (a13.view.read (Elt Ideal) (a13.view.writes (Elt Ideal) f13 (dV1 i a6 v5 v6 X6 o1))) (p.acc O13 p.CV (2 * (i 1).val + 1) (2 * (i 1).val + 1 + 1)) :=
  have hd := diag_is (hb := hb) (i := i) (a3 := a3) (a4 := a4) (a6 := a6) (a7 := a7)
  dg1 (p := p) (i := i) (hi := hb.i) (h := h) (hw := Pt.cv_is (h := 0) (by omega) h1 hd.a01 hb.d0)

theorem dV2_is {o1 o2 : FVec Ideal S256x128 .f32}
    (hb : Blk p i (a3.view.read (Elt Ideal) X3) (a4.view.read (Elt Ideal) X4) (a6.view.read (Elt Ideal) X6) (a7.view.read (Elt Ideal) X7)
      v3 v4 v5 v6 v12 v18) {f13 : Held Ideal a13} (h : Is2 (n := 2048) (m := 256) (a13.view.read (Elt Ideal) f13) O13) (h1 : Is2 o1 fun s d => O13 (256 * (2 * (i 1).val + 1) + s) (0 + d)) (h2 : Is2 o2 fun s d => O13 (256 * (2 * (i 1).val + 1) + s) (128 + d)) :
    Is2 (n := 2048) (m := 256) (a13.view.read (Elt Ideal) (a13.view.writes (Elt Ideal) f13 (dV2 i a6 v5 v6 X6 o1 o2))) (p.acc O13 p.CV (2 * (i 1).val + 1) (2 * (i 1).val + 1)) :=
  have hd := diag_is (hb := hb) (i := i) (a3 := a3) (a4 := a4) (a6 := a6) (a7 := a7)
  dg2 (p := p) (i := i) (hi := hb.i) (h := (dV1_is (hb := hb) (h := h) (i := i) (a3 := a3) (a4 := a4) (a6 := a6) (a7 := a7) (a13 := a13) (h1 := h1))) (hw := Pt.cv_is (h := 1) (by omega) h2 hd.a11 hb.d1)

theorem dV3_is {o1 o2 o3 : FVec Ideal S256x128 .f32}
    (hb : Blk p i (a3.view.read (Elt Ideal) X3) (a4.view.read (Elt Ideal) X4) (a6.view.read (Elt Ideal) X6) (a7.view.read (Elt Ideal) X7)
      v3 v4 v5 v6 v12 v18) {f13 : Held Ideal a13} (h : Is2 (n := 2048) (m := 256) (a13.view.read (Elt Ideal) f13) O13) (h1 : Is2 o1 fun s d => O13 (256 * (2 * (i 1).val + 1) + s) (0 + d)) (h2 : Is2 o2 fun s d => O13 (256 * (2 * (i 1).val + 1) + s) (128 + d)) (h3 : Is2 o3 fun s d => O13 (256 * (2 * (i 1).val) + s) (0 + d)) :
    Is2 (n := 2048) (m := 256) (a13.view.read (Elt Ideal) (a13.view.writes (Elt Ideal) f13 (dV3 i a6 v5 v6 X6 o1 o2 o3))) (p.acc O13 p.CV (2 * (i 1).val) (2 * (i 1).val + 1)) :=
  have hd := diag_is (hb := hb) (i := i) (a3 := a3) (a4 := a4) (a6 := a6) (a7 := a7)
  dg3 (p := p) (i := i) (hi := hb.i) (h := (dV2_is (hb := hb) (h := h) (i := i) (a3 := a3) (a4 := a4) (a6 := a6) (a7 := a7) (a13 := a13) (h1 := h1) (h2 := h2))) (hw := Pt.cv_is (h := 0) (by omega) h3 hd.a00 hb.d0)

theorem dV4_is {o1 o2 o3 o4 : FVec Ideal S256x128 .f32}
    (hb : Blk p i (a3.view.read (Elt Ideal) X3) (a4.view.read (Elt Ideal) X4) (a6.view.read (Elt Ideal) X6) (a7.view.read (Elt Ideal) X7)
      v3 v4 v5 v6 v12 v18) {f13 : Held Ideal a13} (h : Is2 (n := 2048) (m := 256) (a13.view.read (Elt Ideal) f13) O13) (h1 : Is2 o1 fun s d => O13 (256 * (2 * (i 1).val + 1) + s) (0 + d)) (h2 : Is2 o2 fun s d => O13 (256 * (2 * (i 1).val + 1) + s) (128 + d)) (h3 : Is2 o3 fun s d => O13 (256 * (2 * (i 1).val) + s) (0 + d)) (h4 : Is2 o4 fun s d => O13 (256 * (2 * (i 1).val) + s) (128 + d)) :
    Is2 (n := 2048) (m := 256) (a13.view.read (Elt Ideal) (a13.view.writes (Elt Ideal) f13 (dV4 i a6 v5 v6 X6 o1 o2 o3 o4))) (p.acc O13 p.CV (2 * (i 1).val) (2 * (i 1).val)) :=
  have hd := diag_is (hb := hb) (i := i) (a3 := a3) (a4 := a4) (a6 := a6) (a7 := a7)
  dg4 (p := p) (i := i) (hi := hb.i) (h := (dV3_is (hb := hb) (h := h) (i := i) (a3 := a3) (a4 := a4) (a6 := a6) (a7 := a7) (a13 := a13) (h1 := h1) (h2 := h2) (h3 := h3))) (hw := Pt.cv_is (h := 1) (by omega) h4 hd.a10 hb.d1)

end Cert.SbIdeal.Hand
-- ==== Proof.SbPoint.lean ====
/- A whole grid point: what it leaves in its outputs and in the accumulators. -/
module

public import proofs.«01_k».proof.Proof.SbDiag
public import Idealize.ShloMosaic.Lib.Pointwise
public import Idealize.ShloMosaic.Lib.Tactic
public import Idealize.ShloMosaic.Lib.VecWindow
public import Idealize.ShloMosaic.Lib.Pipeline.ValueKit

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI Idealize.SL.Sem

/-- The kinds of blocks a point reads. -/
abbrev Bq := Vec Ideal S512x256 .bf16
abbrev Bk2 := Vec Ideal S2048x256 .bf16
abbrev Bo := Vec Ideal S512x256 .f32
abbrev Bw := Vec Ideal S2x8x512x256 .bf16
abbrev Bs := Vec Ideal S2048x256 .f32

variable (c : Dev nD) (i : grid0.Coords) {a2 : MQ} (w2 : a2.IsWhole) {a3 : MK} (w3 : a3.IsWhole) {a4 : MK} (w4 : a4.IsWhole) {a5 : MO} (w5 : a5.IsWhole) {a6 : MW} (w6 : a6.IsWhole) {a7 : MW} (w7 : a7.IsWhole) {a8 : MQ} (w8 : a8.IsWhole) {a9 : MQ} (w9 : a9.IsWhole) {a10 : MK} (w10 : a10.IsWhole) {a11 : MK} (w11 : a11.IsWhole) {a12 : MA} (w12 : a12.IsWhole) {a13 : MA} (w13 : a13.IsWhole)

/-- A grid point's inner sweep after its diagonal tiles. -/
abbrev sweep (x0 : Bq) (x1 x2 : Bk2) (x3 : Bo) (x4 x5 : Bw) (x6 : Bq) (f12 : Held Ideal a12) (f13 : Held Ideal a13) :=
  st_k0_t1 (F := Ideal) Variants.none c none i _ w2 _ w3 _ w4 _ w5 _ w6 _ w7 _ w8 _ w9 _ w10 _ w11 _ w12 _ w13 (BitVec.ofNat 32 (i 1).val) (hd0 a2 (w2.unread x0)) (hd1 a2 (w2.unread x0)) (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) (k0_pay69 (F := Ideal)) (0#32) (w3.unread x1) (w4.unread x2) (w6.unread x4) (w7.unread x5) f12 f13 (dR i a3 a4 a6 a7 (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) (w3.unread x1) (w4.unread x2) (w6.unread x4) (w7.unread x5)) (i 1).val

/-- The pieces that clear the two accumulators. -/
abbrev zK : Pieces Ideal := [⟨Rect.unit (s := S2048x256) ![0, 0] S2048x256.size inb_S2048x256_S2048x256_0_0, k0_pay63 (F := Ideal)⟩]
abbrev zV : Pieces Ideal := [⟨Rect.unit (s := S2048x256) ![0, 0] S2048x256.size inb_S2048x256_S2048x256_0_0, k0_pay64 (F := Ideal)⟩]

/-- The pieces of the diagonal tiles after a point that found `xs0` and `xs1` in the accumulators, and its sweep after them. -/
abbrev piecesK (x0 : Vec Ideal S512x256 .bf16) (x2 : Vec Ideal S2048x256 .bf16) (x3 : Vec Ideal S512x256 .f32) (x4 x5 : Vec Ideal S2x8x512x256 .bf16) (x6 : Vec Ideal S512x256 .bf16) (xs0 : Vec Ideal S2048x256 .f32) :=
  dK4 i a4 a6 a7 (hd0 a2 (w2.unread x0)) (hd1 a2 (w2.unread x0)) (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) (w4.unread x2) (w6.unread x4) (w7.unread x5) (ld1 a12 i 1 (w12.unread xs0)) (ld3 a12 i 1 (w12.unread xs0)) (ld1 a12 i 0 (w12.unread xs0)) (ld3 a12 i 0 (w12.unread xs0))
abbrev piecesV (x4 : Vec Ideal S2x8x512x256 .bf16) (x6 : Vec Ideal S512x256 .bf16) (xs1 : Vec Ideal S2048x256 .f32) :=
  dV4 i a6 (hd0 a8 (w8.unread x6)) (hd1 a8 (w8.unread x6)) (w6.unread x4) (ld1 a13 i 1 (w13.unread xs1)) (ld3 a13 i 1 (w13.unread xs1)) (ld1 a13 i 0 (w13.unread xs1)) (ld3 a13 i 0 (w13.unread xs1))
abbrev sweepB (x0 : Bq) (x1 x2 : Bk2) (x3 : Bo) (x4 x5 : Bw) (x6 : Bq) (xs0 xs1 : Bs) :=
  sweep c i w2 w3 w4 w5 w6 w7 w8 w9 w10 w11 w12 w13 x0 x1 x2 x3 x4 x5 x6 (a12.view.writes (Elt Ideal) (w12.unread xs0) (piecesK i w2 w4 w5 w6 w7 w8 w12 x0 x2 x3 x4 x5 x6 xs0)) (a13.view.writes (Elt Ideal) (w13.unread xs1) (piecesV i w6 w8 w13 x4 x6 xs1))

/-- The sweep of a point that cleared the accumulators first. -/
abbrev sweepA (x0 : Bq) (x1 x2 : Bk2) (x3 : Bo) (x4 x5 : Bw) (x6 : Bq) (o1 o2 o3 o4 p1 p2 p3 p4 : FVec Ideal S256x128 .f32) :=
  sweep c i w2 w3 w4 w5 w6 w7 w8 w9 w10 w11 w12 w13 x0 x1 x2 x3 x4 x5 x6 (a12.view.writes (Elt Ideal) a12.view.junk (dK4 i a4 a6 a7 (hd0 a2 (w2.unread x0)) (hd1 a2 (w2.unread x0)) (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) (w4.unread x2) (w6.unread x4) (w7.unread x5) o1 o2 o3 o4 ++ zK)) (a13.view.writes (Elt Ideal) a13.view.junk (dV4 i a6 (hd0 a8 (w8.unread x6)) (hd1 a8 (w8.unread x6)) (w6.unread x4) p1 p2 p3 p4 ++ zV))

variable (a2 a3 a4 a5 a6 a7 a8 a9 a10 a11 a12 a13)

/-- What a grid point's blocks hold. -/
structure Bk (p : Pt) (i : grid0.Coords) (x0 : Bq) (x1 x2 : Bk2) (x3 : Bo) (x4 x5 : Bw) (x6 : Bq) : Prop where
  i : p.i = (i 1).val
  q : Is2 x0 p.Q
  k : Is2 x1 p.K
  v : Is2 x2 p.V
  o : Is2 x3 fun t d => ∑ s ∈ Finset.range p.N, p.A (d / 128) t s * p.V s d
  a : Is4 x4 fun h j t s => p.A h t (256 * j + s)
  b : Is4 x5 fun h j t s => p.B h t (256 * j + s)
  dO : Is2 x6 p.Do

theorem hd0_is {x : Vec Ideal S512x256 .bf16} {M : MQ} (hM : M.IsWhole) {f : ℕ → ℕ → ℝ} (h : Is2 x f) :
    Is2 (hd0 M (hM.unread x)) fun t d => f t (128 * 0 + d) := by
  have e1 := View.readAt_unit M.view (hM.unread x) inb_S512x256_S512x128_0_0 rfl inb_S512x256_S512x128_0_0
  intro a b
  refine (congrFun e1 (ix2 a b)).trans ?_
  rw [hM.read_unread]
  refine (window_is h 0 0 inb_S512x256_S512x128_0_0 a b).trans ?_
  simp only [Nat.zero_add, Nat.mul_zero, Nat.mul_one]

theorem hd1_is {x : Vec Ideal S512x256 .bf16} {M : MQ} (hM : M.IsWhole) {f : ℕ → ℕ → ℝ} (h : Is2 x f) :
    Is2 (hd1 M (hM.unread x)) fun t d => f t (128 * 1 + d) := by
  have e1 := View.readAt_unit M.view (hM.unread x) inb_S512x256_S512x128_0_128 rfl inb_S512x256_S512x128_0_128
  intro a b
  refine (congrFun e1 (ix2 a b)).trans ?_
  rw [hM.read_unread]
  refine (window_is h 0 128 inb_S512x256_S512x128_0_128 a b).trans ?_
  simp only [Nat.zero_add, Nat.mul_zero, Nat.mul_one]

theorem hf0_is {x : Vec Ideal S512x256 .f32} {M : MO} (hM : M.IsWhole) {f : ℕ → ℕ → ℝ} (h : Is2 x f) :
    Is2 (hd0 M (hM.unread x)) fun t d => f t (128 * 0 + d) := by
  have e1 := View.readAt_unit M.view (hM.unread x) inb_S512x256_S512x128_0_0 rfl inb_S512x256_S512x128_0_0
  intro a b
  refine (congrFun e1 (ix2 a b)).trans ?_
  rw [hM.read_unread]
  refine (window_is h 0 0 inb_S512x256_S512x128_0_0 a b).trans ?_
  simp only [Nat.zero_add, Nat.mul_zero, Nat.mul_one]

theorem hf1_is {x : Vec Ideal S512x256 .f32} {M : MO} (hM : M.IsWhole) {f : ℕ → ℕ → ℝ} (h : Is2 x f) :
    Is2 (hd1 M (hM.unread x)) fun t d => f t (128 * 1 + d) := by
  have e1 := View.readAt_unit M.view (hM.unread x) inb_S512x256_S512x128_0_128 rfl inb_S512x256_S512x128_0_128
  intro a b
  refine (congrFun e1 (ix2 a b)).trans ?_
  rw [hM.read_unread]
  refine (window_is h 0 128 inb_S512x256_S512x128_0_128 a b).trans ?_
  simp only [Nat.zero_add, Nat.mul_zero, Nat.mul_one]

theorem De_eq (p : Pt) (h t : ℕ) (hh : h < 2) :
    ∑ d : Fin 128, p.Do t (128 * h + d) * (∑ s ∈ Finset.range p.N, p.A ((128 * h + d) / 128) t s * p.V s (128 * h + d)) = p.De h t := by
  rw [Pt.De]
  simp only [Pt.G, Finset.mul_sum, Finset.sum_mul]
  rw [Finset.sum_comm]
  refine Finset.sum_congr rfl fun s _ => Finset.sum_congr rfl fun d _ => ?_
  rw [show (128 * h + d.val) / 128 = h by omega]
  ring

variable {p : Pt} {O12 O13 : ℕ → ℕ → ℝ}

theorem blk_of (x0 : Bq) (x1 x2 : Bk2) (x3 : Bo) (x4 x5 : Bw) (x6 : Bq) (hb : Bk p i x0 x1 x2 x3 x4 x5 x6) :
    Blk p i (a3.view.read (Elt Ideal) (w3.unread x1)) (a4.view.read (Elt Ideal) (w4.unread x2)) (a6.view.read (Elt Ideal) (w6.unread x4)) (a7.view.read (Elt Ideal) (w7.unread x5))
      (hd0 a2 (w2.unread x0)) (hd1 a2 (w2.unread x0)) (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) := by
  refine ⟨hb.i, ?_, ?_, ?_, ?_, hd0_is w2 hb.q, hd1_is w2 hb.q, hd0_is w8 hb.dO, hd1_is w8 hb.dO, ?_, ?_⟩
  · rw [w3.read_unread]; exact hb.k
  · rw [w4.read_unread]; exact hb.v
  · rw [w6.read_unread]; exact hb.a
  · rw [w7.read_unread]; exact hb.b
  · exact (dT_is (hd0_is w8 hb.dO) (hf0_is w5 hb.o)).congr fun t _ _ _ => De_eq p 0 t (by omega)
  · exact (dT_is (hd1_is w8 hb.dO) (hf1_is w5 hb.o)).congr fun t _ _ _ => De_eq p 1 t (by omega)

theorem sweep_is (x0 : Bq) (x1 x2 : Bk2) (x3 : Bo) (x4 x5 : Bw) (x6 : Bq) (hb : Bk p i x0 x1 x2 x3 x4 x5 x6) (f12 : Held Ideal a12) (f13 : Held Ideal a13)
    (h12 : Is2 (n := 2048) (m := 256) (a12.view.read (Elt Ideal) f12) (p.acc O12 p.CK (2 * (i 1).val) (2 * (i 1).val)))
    (h13 : Is2 (n := 2048) (m := 256) (a13.view.read (Elt Ideal) f13) (p.acc O13 p.CV (2 * (i 1).val) (2 * (i 1).val))) :
    Sw p O12 O13 0 (sweep c i w2 w3 w4 w5 w6 w7 w8 w9 w10 w11 w12 w13 x0 x1 x2 x3 x4 x5 x6 f12 f13).1
      (a12.view.read (Elt Ideal) (a12.view.writes (Elt Ideal) f12 (sweep c i w2 w3 w4 w5 w6 w7 w8 w9 w10 w11 w12 w13 x0 x1 x2 x3 x4 x5 x6 f12 f13).2.1))
      (a13.view.read (Elt Ideal) (a13.view.writes (Elt Ideal) f13 (sweep c i w2 w3 w4 w5 w6 w7 w8 w9 w10 w11 w12 w13 x0 x1 x2 x3 x4 x5 x6 f12 f13).2.2)) := by
  have hk := blk_of (p := p) i a2 w2 a3 w3 a4 w4 a5 w5 a6 w6 a7 w7 a8 w8 x0 x1 x2 x3 x4 x5 x6 hb
  have hd := diag_is (p := p) (hb := hk) (i := i) (a3 := a3) (a4 := a4) (a6 := a6) (a7 := a7)
  have h := st_is (p := p) (O12 := O12) (O13 := O13) (hb := hk) (𝒱 := Variants.none) (c := c) (bd := none) (i := i) (w2 := w2) (w3 := w3) (w4 := w4) (w5 := w5) (w6 := w6) (w7 := w7) (w8 := w8) (w9 := w9) (w10 := w10) (w11 := w11) (w12 := w12) (w13 := w13) (a1 := BitVec.ofNat 32 (i 1).val) (c0_i32_102 := 0#32)
    (acc := (dR i a3 a4 a6 a7 (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) (w3.unread x1) (w4.unread x2) (w6.unread x4) (w7.unread x5))) (f12 := f12) (f13 := f13) (hs := ⟨hd.c0, hd.q0, hd.c1, hd.q1, h12, h13⟩) (n := (i 1).val) (hn := le_refl _)
  rw [Nat.sub_self] at h
  exact h

/-- Two pieces side by side cover a block. -/
theorem halves_is {v : View sig .tc .vmem S512x256 .bf16} {X : BufTy.Contents (Elt Ideal) v.ty} {a b : FVec Ideal S512x128 .bf16} {f g : ℕ → ℕ → ℝ} (ha : Is2 a f) (hb : Is2 b g) :
    Is2 (n := 512) (m := 256) (v.read (Elt Ideal) (v.writes (Elt Ideal) X [⟨Rect.unit (s := S512x256) ![0, 128] S512x128.size inb_S512x256_S512x128_0_128, b⟩,
      ⟨Rect.unit (s := S512x256) ![0, 0] S512x128.size inb_S512x256_S512x128_0_0, a⟩])) fun t d => if d < 128 then f t d else g t (d - 128) := by
  intro t d
  dsimp only
  rw [View.read_writes_cons_put v X inb_S512x256_S512x128_0_128 b _ rfl, View.read_writes_cons_put v X inb_S512x256_S512x128_0_0 a _ rfl]
  by_cases hd : d.val < 128
  · rw [if_pos hd]
    have h0 : ¬ ∀ k, (![0, 128] : Fin 2 → ℕ) k ≤ ((ix2 t d : S512x256.Idx) k).val ∧ ((ix2 t d : S512x256.Idx) k).val < (![0, 128] : Fin 2 → ℕ) k + S512x128.size k :=
      fun h => by have h2 := (h 1).1; exact absurd hd (Nat.not_lt.2 h2)
    have h1 : ∀ k, (![0, 0] : Fin 2 → ℕ) k ≤ ((ix2 t d : S512x256.Idx) k).val ∧ ((ix2 t d : S512x256.Idx) k).val < (![0, 0] : Fin 2 → ℕ) k + S512x128.size k := by
      intro k; fin_cases k
      · exact ⟨Nat.zero_le _, by have := t.isLt; show t.val < 0 + 512; omega⟩
      · exact ⟨Nat.zero_le _, by show d.val < 0 + 128; omega⟩
    refine (dif_neg h0).trans ((dif_pos h1).trans ?_)
    rw [← ha t ⟨d.val, hd⟩]
    exact congrArg a (funext fun k => by fin_cases k <;> exact Fin.ext (by simp [Rect.unitLocal, ix2]))
  · rw [if_neg hd]
    have h1 : ∀ k, (![0, 128] : Fin 2 → ℕ) k ≤ ((ix2 t d : S512x256.Idx) k).val ∧ ((ix2 t d : S512x256.Idx) k).val < (![0, 128] : Fin 2 → ℕ) k + S512x128.size k := by
      intro k; fin_cases k
      · exact ⟨Nat.zero_le _, by have := t.isLt; show t.val < 0 + 512; omega⟩
      · exact ⟨by show 128 ≤ d.val; omega, by have := d.isLt; show d.val < 128 + 128; omega⟩
    refine (dif_pos h1).trans ?_
    rw [← hb t ⟨d.val - 128, by omega⟩]
    exact congrArg b (funext fun k => by fin_cases k <;> exact Fin.ext (by simp [Rect.unitLocal, ix2]))

theorem runB_is (hc0 : ¬cond0_0 i) (hc1 : ¬cond0_1 i) (x0 : Bq) (x1 x2 : Bk2) (x3 : Bo) (x4 x5 : Bw) (x6 : Bq) (xs0 xs1 : Bs) :
    (kernelRun0_B (F := Ideal) c i _ w2 _ w3 _ w4 _ w5 _ w6 _ w7 _ w8 _ w9 _ w10 _ w11 _ w12 _ w13 hc0 hc1 x0 x1 x2 x3 x4 x5 x6 xs0 xs1).2.2.2.1 = (sweepB c i w2 w3 w4 w5 w6 w7 w8 w9 w10 w11 w12 w13 x0 x1 x2 x3 x4 x5 x6 xs0 xs1).2.1 ++ (piecesK i w2 w4 w5 w6 w7 w8 w12 x0 x2 x3 x4 x5 x6 xs0)
    ∧ (kernelRun0_B (F := Ideal) c i _ w2 _ w3 _ w4 _ w5 _ w6 _ w7 _ w8 _ w9 _ w10 _ w11 _ w12 _ w13 hc0 hc1 x0 x1 x2 x3 x4 x5 x6 xs0 xs1).2.2.2.2.1 = (sweepB c i w2 w3 w4 w5 w6 w7 w8 w9 w10 w11 w12 w13 x0 x1 x2 x3 x4 x5 x6 xs0 xs1).2.2 ++ (piecesV i w6 w8 w13 x4 x6 xs1)
    ∧ (kernelRun0_B (F := Ideal) c i _ w2 _ w3 _ w4 _ w5 _ w6 _ w7 _ w8 _ w9 _ w10 _ w11 _ w12 _ w13 hc0 hc1 x0 x1 x2 x3 x4 x5 x6 xs0 xs1).1 = [⟨Rect.unit (s := S512x256) ![0, 128] S512x128.size inb_S512x256_S512x128_0_128, k0_pay12 (F := Ideal) (sweepB c i w2 w3 w4 w5 w6 w7 w8 w9 w10 w11 w12 w13 x0 x1 x2 x3 x4 x5 x6 xs0 xs1).1.2.2.2⟩,
      ⟨Rect.unit (s := S512x256) ![0, 0] S512x128.size inb_S512x256_S512x128_0_0, k0_pay11 (F := Ideal) (sweepB c i w2 w3 w4 w5 w6 w7 w8 w9 w10 w11 w12 w13 x0 x1 x2 x3 x4 x5 x6 xs0 xs1).1.2.1⟩] := by
  have h1 := trips_eq i
  have h2 := t2_trips i
  dsimp only [k0_t1_loop, k0_t2_loop, Scf.Loop.trips] at h1 h2
  unfold kernelRun0_B
  dsimp only

  rw [h2, h1]
  exact ⟨rfl, rfl, rfl⟩

theorem runC_is (hc0 : ¬cond0_0 i) (hc1 : cond0_1 i) (x0 : Bq) (x1 x2 : Bk2) (x3 : Bo) (x4 x5 : Bw) (x6 : Bq) (xs0 xs1 : Bs) :
    (kernelRun0_C (F := Ideal) c i _ w2 _ w3 _ w4 _ w5 _ w6 _ w7 _ w8 _ w9 _ w10 _ w11 _ w12 _ w13 hc0 hc1 x0 x1 x2 x3 x4 x5 x6 xs0 xs1).2.2.2.1 = (sweepB c i w2 w3 w4 w5 w6 w7 w8 w9 w10 w11 w12 w13 x0 x1 x2 x3 x4 x5 x6 xs0 xs1).2.1 ++ (piecesK i w2 w4 w5 w6 w7 w8 w12 x0 x2 x3 x4 x5 x6 xs0)
    ∧ (kernelRun0_C (F := Ideal) c i _ w2 _ w3 _ w4 _ w5 _ w6 _ w7 _ w8 _ w9 _ w10 _ w11 _ w12 _ w13 hc0 hc1 x0 x1 x2 x3 x4 x5 x6 xs0 xs1).2.2.2.2.1 = (sweepB c i w2 w3 w4 w5 w6 w7 w8 w9 w10 w11 w12 w13 x0 x1 x2 x3 x4 x5 x6 xs0 xs1).2.2 ++ (piecesV i w6 w8 w13 x4 x6 xs1)
    ∧ (kernelRun0_C (F := Ideal) c i _ w2 _ w3 _ w4 _ w5 _ w6 _ w7 _ w8 _ w9 _ w10 _ w11 _ w12 _ w13 hc0 hc1 x0 x1 x2 x3 x4 x5 x6 xs0 xs1).1 = [⟨Rect.unit (s := S512x256) ![0, 128] S512x128.size inb_S512x256_S512x128_0_128, k0_pay12 (F := Ideal) (sweepB c i w2 w3 w4 w5 w6 w7 w8 w9 w10 w11 w12 w13 x0 x1 x2 x3 x4 x5 x6 xs0 xs1).1.2.2.2⟩,
      ⟨Rect.unit (s := S512x256) ![0, 0] S512x128.size inb_S512x256_S512x128_0_0, k0_pay11 (F := Ideal) (sweepB c i w2 w3 w4 w5 w6 w7 w8 w9 w10 w11 w12 w13 x0 x1 x2 x3 x4 x5 x6 xs0 xs1).1.2.1⟩]
    ∧ (kernelRun0_C (F := Ideal) c i _ w2 _ w3 _ w4 _ w5 _ w6 _ w7 _ w8 _ w9 _ w10 _ w11 _ w12 _ w13 hc0 hc1 x0 x1 x2 x3 x4 x5 x6 xs0 xs1).2.1 = [⟨Rect.unit (s := S2048x256) ![0, 0] S2048x256.size inb_S2048x256_S2048x256_0_0, k0_pay13 (F := Ideal) (a12.view.readAt (Elt Ideal) (Rect.unit (s := S2048x256) ![0, 0] S2048x256.size inb_S2048x256_S2048x256_0_0).toLoadRect (a12.view.writes (Elt Ideal) (w12.unread xs0) ((sweepB c i w2 w3 w4 w5 w6 w7 w8 w9 w10 w11 w12 w13 x0 x1 x2 x3 x4 x5 x6 xs0 xs1).2.1 ++ (piecesK i w2 w4 w5 w6 w7 w8 w12 x0 x2 x3 x4 x5 x6 xs0))))⟩]
    ∧ (kernelRun0_C (F := Ideal) c i _ w2 _ w3 _ w4 _ w5 _ w6 _ w7 _ w8 _ w9 _ w10 _ w11 _ w12 _ w13 hc0 hc1 x0 x1 x2 x3 x4 x5 x6 xs0 xs1).2.2.1 = [⟨Rect.unit (s := S2048x256) ![0, 0] S2048x256.size inb_S2048x256_S2048x256_0_0, k0_pay14 (F := Ideal) (a13.view.readAt (Elt Ideal) (Rect.unit (s := S2048x256) ![0, 0] S2048x256.size inb_S2048x256_S2048x256_0_0).toLoadRect (a13.view.writes (Elt Ideal) (w13.unread xs1) ((sweepB c i w2 w3 w4 w5 w6 w7 w8 w9 w10 w11 w12 w13 x0 x1 x2 x3 x4 x5 x6 xs0 xs1).2.2 ++ (piecesV i w6 w8 w13 x4 x6 xs1))))⟩] := by
  have h1 := trips_eq i
  have h2 := t2_trips i
  dsimp only [k0_t1_loop, k0_t2_loop, Scf.Loop.trips] at h1 h2
  unfold kernelRun0_C
  dsimp only
  unfold kernelRun0_C.sl.v255 kernelRun0_C.sl.v260
  rw [h2, h1]
  exact ⟨rfl, rfl, rfl, rfl, rfl⟩

theorem runA_is (hc0 : cond0_0 i) (hc1 : ¬cond0_1 i) (x0 : Bq) (x1 x2 : Bk2) (x3 : Bo) (x4 x5 : Bw) (x6 : Bq) :
    ∃ o1 o2 o3 o4 p1 p2 p3 p4 : FVec Ideal S256x128 .f32, (o1 = ld1 a12 i 1 (a12.view.writes (Elt Ideal) a12.view.junk zK) ∧ o2 = ld3 a12 i 1 (a12.view.writes (Elt Ideal) a12.view.junk (dK1 i a4 a6 a7 (hd0 a2 (w2.unread x0)) (hd1 a2 (w2.unread x0)) (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) (w4.unread x2) (w6.unread x4) (w7.unread x5) o1 ++ zK)) ∧ o3 = ld1 a12 i 0 (a12.view.writes (Elt Ideal) a12.view.junk (dK2 i a4 a6 a7 (hd0 a2 (w2.unread x0)) (hd1 a2 (w2.unread x0)) (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) (w4.unread x2) (w6.unread x4) (w7.unread x5) o1 o2 ++ zK)) ∧ o4 = ld3 a12 i 0 (a12.view.writes (Elt Ideal) a12.view.junk (dK3 i a4 a6 a7 (hd0 a2 (w2.unread x0)) (hd1 a2 (w2.unread x0)) (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) (w4.unread x2) (w6.unread x4) (w7.unread x5) o1 o2 o3 ++ zK))) ∧ (p1 = ld1 a13 i 1 (a13.view.writes (Elt Ideal) a13.view.junk zV) ∧ p2 = ld3 a13 i 1 (a13.view.writes (Elt Ideal) a13.view.junk (dV1 i a6 (hd0 a8 (w8.unread x6)) (hd1 a8 (w8.unread x6)) (w6.unread x4) p1 ++ zV)) ∧ p3 = ld1 a13 i 0 (a13.view.writes (Elt Ideal) a13.view.junk (dV2 i a6 (hd0 a8 (w8.unread x6)) (hd1 a8 (w8.unread x6)) (w6.unread x4) p1 p2 ++ zV)) ∧ p4 = ld3 a13 i 0 (a13.view.writes (Elt Ideal) a13.view.junk (dV3 i a6 (hd0 a8 (w8.unread x6)) (hd1 a8 (w8.unread x6)) (w6.unread x4) p1 p2 p3 ++ zV)))
    ∧ (kernelRun0_A (F := Ideal) c i _ w2 _ w3 _ w4 _ w5 _ w6 _ w7 _ w8 _ w9 _ w10 _ w11 _ w12 _ w13 hc0 hc1 x0 x1 x2 x3 x4 x5 x6).2.2.2.1 = (sweepA c i w2 w3 w4 w5 w6 w7 w8 w9 w10 w11 w12 w13 x0 x1 x2 x3 x4 x5 x6 o1 o2 o3 o4 p1 p2 p3 p4).2.1 ++ (dK4 i a4 a6 a7 (hd0 a2 (w2.unread x0)) (hd1 a2 (w2.unread x0)) (hd0 a8 (w8.unread x6)) (hd1 a8 (w8.unread x6)) (k0_pay65 (F := Ideal) (hd0 a8 (w8.unread x6)) (hd0 a5 (w5.unread x3))) (k0_pay66 (F := Ideal) (hd1 a8 (w8.unread x6)) (hd1 a5 (w5.unread x3))) (w4.unread x2) (w6.unread x4) (w7.unread x5) o1 o2 o3 o4 ++ zK)
    ∧ (kernelRun0_A (F := Ideal) c i _ w2 _ w3 _ w4 _ w5 _ w6 _ w7 _ w8 _ w9 _ w10 _ w11 _ w12 _ w13 hc0 hc1 x0 x1 x2 x3 x4 x5 x6).2.2.2.2.1 = (sweepA c i w2 w3 w4 w5 w6 w7 w8 w9 w10 w11 w12 w13 x0 x1 x2 x3 x4 x5 x6 o1 o2 o3 o4 p1 p2 p3 p4).2.2 ++ (dV4 i a6 (hd0 a8 (w8.unread x6)) (hd1 a8 (w8.unread x6)) (w6.unread x4) p1 p2 p3 p4 ++ zV)
    ∧ (kernelRun0_A (F := Ideal) c i _ w2 _ w3 _ w4 _ w5 _ w6 _ w7 _ w8 _ w9 _ w10 _ w11 _ w12 _ w13 hc0 hc1 x0 x1 x2 x3 x4 x5 x6).1 = [⟨Rect.unit (s := S512x256) ![0, 128] S512x128.size inb_S512x256_S512x128_0_128, k0_pay12 (F := Ideal) (sweepA c i w2 w3 w4 w5 w6 w7 w8 w9 w10 w11 w12 w13 x0 x1 x2 x3 x4 x5 x6 o1 o2 o3 o4 p1 p2 p3 p4).1.2.2.2⟩,
      ⟨Rect.unit (s := S512x256) ![0, 0] S512x128.size inb_S512x256_S512x128_0_0, k0_pay11 (F := Ideal) (sweepA c i w2 w3 w4 w5 w6 w7 w8 w9 w10 w11 w12 w13 x0 x1 x2 x3 x4 x5 x6 o1 o2 o3 o4 p1 p2 p3 p4).1.2.1⟩] := by
  refine ⟨_, _, _, _, _, _, _, _, ⟨rfl, rfl, rfl, rfl⟩, ⟨rfl, rfl, rfl, rfl⟩, ?_⟩
  have h1 := trips_eq i
  have h2 := t2_trips i
  dsimp only [k0_t1_loop, k0_t2_loop, Scf.Loop.trips] at h1 h2
  unfold kernelRun0_A
  dsimp only
  rw [h2]
  refine ⟨?_, ?_, ?_⟩
  · rw [h1]; rfl
  · rw [h1]; rfl
  · rw [h1]; rfl

theorem Pt.acc_zero (p : Pt) {O : ℕ → ℕ → ℝ} (s d : ℕ) (hc : p.N ≤ s → p.CK s d = 0) : p.acc O p.CK 0 0 s d = O s d + p.CK s d := by
  rw [Pt.acc]
  congr 1
  by_cases h : s < p.N
  · rw [if_pos ⟨by split_ifs <;> omega, h⟩]
  · rw [if_neg (fun h' => h h'.2), hc (by omega)]

theorem Pt.CK_zero (p : Pt) (s d : ℕ) (h : p.N ≤ s) : p.CK s d = 0 := by
  have hN : p.N = 512 * p.i + 512 := rfl
  exact Finset.sum_eq_zero fun t _ => by rw [Pt.DZ, if_neg (by have := t.isLt; omega), zero_mul]

theorem Pt.CV_zero (p : Pt) (s d : ℕ) (h : p.N ≤ s) : p.CV s d = 0 := by
  have hN : p.N = 512 * p.i + 512 := rfl
  exact Finset.sum_eq_zero fun t _ => by rw [p.causal _ _ _ t.isLt (by have := t.isLt; omega), zero_mul]

theorem Pt.acc_all (p : Pt) (O c : ℕ → ℕ → ℝ) {s d : ℕ} (h : p.N ≤ s → c s d = 0) : p.acc O c 0 0 s d = O s d + c s d := by
  rw [Pt.acc]
  congr 1
  by_cases hs : s < p.N
  · rw [if_pos ⟨by split_ifs <;> omega, hs⟩]
  · rw [if_neg (fun h' => hs h'.2), h (by omega)]

/-- A piece that is the whole buffer. -/
theorem whole_is {e : EltTy} {v : View sig .tc .vmem S2048x256 e} {X : BufTy.Contents (Elt Ideal) v.ty} (w : Vec Ideal S2048x256 e) :
    v.read (Elt Ideal) (v.writes (Elt Ideal) X [⟨Rect.unit (s := S2048x256) ![0, 0] S2048x256.size inb_S2048x256_S2048x256_0_0, w⟩]) = w := by
  rw [View.read_writes_cons_put v X inb_S2048x256_S2048x256_0_0 w _ rfl]
  funext y
  have h1 : ∀ k, (![0, 0] : Fin 2 → ℕ) k ≤ (y k).val ∧ (y k).val < (![0, 0] : Fin 2 → ℕ) k + S2048x256.size k := by
    intro k; fin_cases k
    · exact ⟨Nat.zero_le _, lt_of_lt_of_eq (y 0).isLt (Nat.zero_add _).symm⟩
    · exact ⟨Nat.zero_le _, lt_of_lt_of_eq (y 1).isLt (Nat.zero_add _).symm⟩
  refine (dif_pos h1).trans ?_
  exact congrArg w (funext fun k => by fin_cases k <;> exact Fin.ext (by simp [Rect.unitLocal]))

/-- What a point's outputs hold: the queries' gradient. -/
theorem dq_is {a b : FVec Ideal S512x128 .f32} {J : ℕ} (ha : Is2 a (p.DQ 0 J)) (hb : Is2 b (p.DQ 1 J)) (v : View sig .tc .vmem S512x256 .bf16) (X : BufTy.Contents (Elt Ideal) v.ty) :
    Is2 (n := 512) (m := 256) (v.read (Elt Ideal) (v.writes (Elt Ideal) X [⟨Rect.unit (s := S512x256) ![0, 128] S512x128.size inb_S512x256_S512x128_0_128, k0_pay12 (F := Ideal) b⟩,
      ⟨Rect.unit (s := S512x256) ![0, 0] S512x128.size inb_S512x256_S512x128_0_0, k0_pay11 (F := Ideal) a⟩])) fun t d => p.DQ (d / 128) J t (d % 128) * scl :=
  (halves_is (pay11_is ha) (pay12_is hb)).congr fun t d _ hd => by
    split_ifs with h
    · rw [show d / 128 = 0 by omega, show d % 128 = d by omega]
    · rw [show d / 128 = 1 by omega, show d % 128 = d - 128 by omega]

theorem zK_is {M : MA} : Is2 (n := 2048) (m := 256) (M.view.read (Elt Ideal) (M.view.writes (Elt Ideal) M.view.junk zK)) fun _ _ => 0 := by
  rw [whole_is (v := M.view)]; exact pay63_is
theorem zV_is {M : MA} : Is2 (n := 2048) (m := 256) (M.view.read (Elt Ideal) (M.view.writes (Elt Ideal) M.view.junk zV)) fun _ _ => 0 := by
  rw [whole_is (v := M.view)]; exact pay64_is

theorem pointA (hc0 : cond0_0 i) (hc1 : ¬cond0_1 i) (x0 : Bq) (x1 x2 : Bk2) (x3 : Bo) (x4 x5 : Bw) (x6 : Bq) (hb : Bk p i x0 x1 x2 x3 x4 x5 x6)  :
    Is2 (n := 2048) (m := 256) (a12.view.read (Elt Ideal) (a12.view.writes (Elt Ideal) a12.view.junk (kernelRun0_A (F := Ideal) c i _ w2 _ w3 _ w4 _ w5 _ w6 _ w7 _ w8 _ w9 _ w10 _ w11 _ w12 _ w13 hc0 hc1 x0 x1 x2 x3 x4 x5 x6).2.2.2.1)) (p.acc (fun _ _ => 0) p.CK 0 0)
    ∧ Is2 (n := 2048) (m := 256) (a13.view.read (Elt Ideal) (a13.view.writes (Elt Ideal) a13.view.junk (kernelRun0_A (F := Ideal) c i _ w2 _ w3 _ w4 _ w5 _ w6 _ w7 _ w8 _ w9 _ w10 _ w11 _ w12 _ w13 hc0 hc1 x0 x1 x2 x3 x4 x5 x6).2.2.2.2.1)) (p.acc (fun _ _ => 0) p.CV 0 0)
    ∧ (∀ (v : View sig .tc .vmem S512x256 .bf16) (X : BufTy.Contents (Elt Ideal) v.ty), Is2 (n := 512) (m := 256) (v.read (Elt Ideal) (v.writes (Elt Ideal) X (kernelRun0_A (F := Ideal) c i _ w2 _ w3 _ w4 _ w5 _ w6 _ w7 _ w8 _ w9 _ w10 _ w11 _ w12 _ w13 hc0 hc1 x0 x1 x2 x3 x4 x5 x6).1)) fun t d => p.DQ (d / 128) 0 t (d % 128) * scl) := by
  have hk := blk_of (p := p) i a2 w2 a3 w3 a4 w4 a5 w5 a6 w6 a7 w7 a8 w8 x0 x1 x2 x3 x4 x5 x6 hb
  obtain ⟨o1, o2, o3, o4, p1, p2, p3, p4, ⟨eo1, eo2, eo3, eo4⟩, ⟨ep1, ep2, ep3, ep4⟩, e1, e2, e3⟩ := runA_is c i _ w2 _ w3 _ w4 _ w5 _ w6 _ w7 _ w8 _ w9 _ w10 _ w11 _ w12 _ w13 hc0 hc1 x0 x1 x2 x3 x4 x5 x6
  rw [View.writes_append] at eo2 eo3 eo4 ep2 ep3 ep4
  have z12 := zK_is (M := a12)
  have z13 := zV_is (M := a13)
  have ho1 : Is2 o1 fun s d => (fun _ _ => (0:ℝ)) (256 * (2 * (i 1).val + 1) + s) (0 + d) := by rw [eo1]; exact rd2 z12 (k0_off1_eq i 1) _
  have ko1 := dK1_is (p := p) (hb := hk) (i := i) (a3 := a3) (a4 := a4) (a6 := a6) (a7 := a7) (h := z12) (h1 := ho1)
  have ho2 : Is2 o2 fun s d => (fun _ _ => (0:ℝ)) (256 * (2 * (i 1).val + 1) + s) (128 + d) := by rw [eo2]; exact old2 i ko1
  have ko2 := dK2_is (p := p) (hb := hk) (i := i) (a3 := a3) (a4 := a4) (a6 := a6) (a7 := a7) (h := z12) (h1 := ho1) (h2 := ho2)
  have ho3 : Is2 o3 fun s d => (fun _ _ => (0:ℝ)) (256 * (2 * (i 1).val) + s) (0 + d) := by rw [eo3]; exact old3 i ko2
  have ko3 := dK3_is (p := p) (hb := hk) (i := i) (a3 := a3) (a4 := a4) (a6 := a6) (a7 := a7) (h := z12) (h1 := ho1) (h2 := ho2) (h3 := ho3)
  have ho4 : Is2 o4 fun s d => (fun _ _ => (0:ℝ)) (256 * (2 * (i 1).val) + s) (128 + d) := by rw [eo4]; exact old4 i ko3
  have ko4 := dK4_is (p := p) (hb := hk) (i := i) (a3 := a3) (a4 := a4) (a6 := a6) (a7 := a7) (h := z12) (h1 := ho1) (h2 := ho2) (h3 := ho3) (h4 := ho4)
  have hp1 : Is2 p1 fun s d => (fun _ _ => (0:ℝ)) (256 * (2 * (i 1).val + 1) + s) (0 + d) := by rw [ep1]; exact rd2 z13 (k0_off1_eq i 1) _
  have kp1 := dV1_is (p := p) (hb := hk) (i := i) (a3 := a3) (a4 := a4) (a6 := a6) (a7 := a7) (h := z13) (h1 := hp1)
  have hp2 : Is2 p2 fun s d => (fun _ _ => (0:ℝ)) (256 * (2 * (i 1).val + 1) + s) (128 + d) := by rw [ep2]; exact old2 i kp1
  have kp2 := dV2_is (p := p) (hb := hk) (i := i) (a3 := a3) (a4 := a4) (a6 := a6) (a7 := a7) (h := z13) (h1 := hp1) (h2 := hp2)
  have hp3 : Is2 p3 fun s d => (fun _ _ => (0:ℝ)) (256 * (2 * (i 1).val) + s) (0 + d) := by rw [ep3]; exact old3 i kp2
  have kp3 := dV3_is (p := p) (hb := hk) (i := i) (a3 := a3) (a4 := a4) (a6 := a6) (a7 := a7) (h := z13) (h1 := hp1) (h2 := hp2) (h3 := hp3)
  have hp4 : Is2 p4 fun s d => (fun _ _ => (0:ℝ)) (256 * (2 * (i 1).val) + s) (128 + d) := by rw [ep4]; exact old4 i kp3
  have kp4 := dV4_is (p := p) (hb := hk) (i := i) (a3 := a3) (a4 := a4) (a6 := a6) (a7 := a7) (h := z13) (h1 := hp1) (h2 := hp2) (h3 := hp3) (h4 := hp4)
  rw [← View.writes_append] at ko4 kp4
  have hs := sweep_is c i _ w2 _ w3 _ w4 _ w5 _ w6 _ w7 _ w8 _ w9 _ w10 _ w11 _ w12 _ w13 x0 x1 x2 x3 x4 x5 x6 hb _ _ ko4 kp4
  have hk1 := hs.k
  have hv1 := hs.v
  rw [← View.writes_append] at hk1 hv1
  exact ⟨by rw [e1]; exact hk1, by rw [e2]; exact hv1, fun v X => by rw [e3]; exact dq_is hs.q0 hs.q1 v X⟩

theorem pointB (hc0 : ¬cond0_0 i) (hc1 : ¬cond0_1 i) (x0 : Bq) (x1 x2 : Bk2) (x3 : Bo) (x4 x5 : Bw) (x6 : Bq) (xs0 xs1 : Bs) (hb : Bk p i x0 x1 x2 x3 x4 x5 x6) (h12 : Is2 xs0 O12) (h13 : Is2 xs1 O13) :
    Is2 (n := 2048) (m := 256) (a12.view.read (Elt Ideal) (a12.view.writes (Elt Ideal) (w12.unread xs0) (kernelRun0_B (F := Ideal) c i _ w2 _ w3 _ w4 _ w5 _ w6 _ w7 _ w8 _ w9 _ w10 _ w11 _ w12 _ w13 hc0 hc1 x0 x1 x2 x3 x4 x5 x6 xs0 xs1).2.2.2.1)) (p.acc O12 p.CK 0 0)
    ∧ Is2 (n := 2048) (m := 256) (a13.view.read (Elt Ideal) (a13.view.writes (Elt Ideal) (w13.unread xs1) (kernelRun0_B (F := Ideal) c i _ w2 _ w3 _ w4 _ w5 _ w6 _ w7 _ w8 _ w9 _ w10 _ w11 _ w12 _ w13 hc0 hc1 x0 x1 x2 x3 x4 x5 x6 xs0 xs1).2.2.2.2.1)) (p.acc O13 p.CV 0 0)
    ∧ (∀ (v : View sig .tc .vmem S512x256 .bf16) (X : BufTy.Contents (Elt Ideal) v.ty), Is2 (n := 512) (m := 256) (v.read (Elt Ideal) (v.writes (Elt Ideal) X (kernelRun0_B (F := Ideal) c i _ w2 _ w3 _ w4 _ w5 _ w6 _ w7 _ w8 _ w9 _ w10 _ w11 _ w12 _ w13 hc0 hc1 x0 x1 x2 x3 x4 x5 x6 xs0 xs1).1)) fun t d => p.DQ (d / 128) 0 t (d % 128) * scl) := by
  have hk := blk_of (p := p) i a2 w2 a3 w3 a4 w4 a5 w5 a6 w6 a7 w7 a8 w8 x0 x1 x2 x3 x4 x5 x6 hb
  have e12 : Is2 (n := 2048) (m := 256) (a12.view.read (Elt Ideal) (w12.unread xs0)) O12 := by rw [w12.read_unread]; exact h12
  have e13 : Is2 (n := 2048) (m := 256) (a13.view.read (Elt Ideal) (w13.unread xs1)) O13 := by rw [w13.read_unread]; exact h13
  have ho := olds_of_entry i e12
  have hp := olds_of_entry i e13
  have hs := sweep_is c i _ w2 _ w3 _ w4 _ w5 _ w6 _ w7 _ w8 _ w9 _ w10 _ w11 _ w12 _ w13 x0 x1 x2 x3 x4 x5 x6 hb _ _ (dK4_is (p := p) (hb := hk) (i := i) (a3 := a3) (a4 := a4) (a6 := a6) (a7 := a7) (h := e12) (h1 := ho.h1) (h2 := ho.h2) (h3 := ho.h3) (h4 := ho.h4)) (dV4_is (p := p) (hb := hk) (i := i) (a3 := a3) (a4 := a4) (a6 := a6) (a7 := a7) (h := e13) (h1 := hp.h1) (h2 := hp.h2) (h3 := hp.h3) (h4 := hp.h4))
  have hr := runB_is c i _ w2 _ w3 _ w4 _ w5 _ w6 _ w7 _ w8 _ w9 _ w10 _ w11 _ w12 _ w13 hc0 hc1 x0 x1 x2 x3 x4 x5 x6 xs0 xs1
  obtain ⟨r1, r2, r3⟩ := hr
  have hk1 := hs.k
  have hv1 := hs.v
  rw [← View.writes_append] at hk1 hv1
  exact ⟨by rw [r1]; exact hk1, by rw [r2]; exact hv1, fun v X => by rw [r3]; exact dq_is hs.q0 hs.q1 v X⟩

theorem pointC (hc0 : ¬cond0_0 i) (hc1 : cond0_1 i) (x0 : Bq) (x1 x2 : Bk2) (x3 : Bo) (x4 x5 : Bw) (x6 : Bq) (xs0 xs1 : Bs) (hb : Bk p i x0 x1 x2 x3 x4 x5 x6) (h12 : Is2 xs0 O12) (h13 : Is2 xs1 O13) :
    Is2 (n := 2048) (m := 256) (a12.view.read (Elt Ideal) (a12.view.writes (Elt Ideal) (w12.unread xs0) (kernelRun0_C (F := Ideal) c i _ w2 _ w3 _ w4 _ w5 _ w6 _ w7 _ w8 _ w9 _ w10 _ w11 _ w12 _ w13 hc0 hc1 x0 x1 x2 x3 x4 x5 x6 xs0 xs1).2.2.2.1)) (p.acc O12 p.CK 0 0)
    ∧ Is2 (n := 2048) (m := 256) (a13.view.read (Elt Ideal) (a13.view.writes (Elt Ideal) (w13.unread xs1) (kernelRun0_C (F := Ideal) c i _ w2 _ w3 _ w4 _ w5 _ w6 _ w7 _ w8 _ w9 _ w10 _ w11 _ w12 _ w13 hc0 hc1 x0 x1 x2 x3 x4 x5 x6 xs0 xs1).2.2.2.2.1)) (p.acc O13 p.CV 0 0)
    ∧ (∀ (v : View sig .tc .vmem S512x256 .bf16) (X : BufTy.Contents (Elt Ideal) v.ty), Is2 (n := 512) (m := 256) (v.read (Elt Ideal) (v.writes (Elt Ideal) X (kernelRun0_C (F := Ideal) c i _ w2 _ w3 _ w4 _ w5 _ w6 _ w7 _ w8 _ w9 _ w10 _ w11 _ w12 _ w13 hc0 hc1 x0 x1 x2 x3 x4 x5 x6 xs0 xs1).1)) fun t d => p.DQ (d / 128) 0 t (d % 128) * scl)
    ∧ (∀ (v : View sig .tc .vmem S2048x256 .bf16) (X : BufTy.Contents (Elt Ideal) v.ty), Is2 (n := 2048) (m := 256) (v.read (Elt Ideal) (v.writes (Elt Ideal) X (kernelRun0_C (F := Ideal) c i _ w2 _ w3 _ w4 _ w5 _ w6 _ w7 _ w8 _ w9 _ w10 _ w11 _ w12 _ w13 hc0 hc1 x0 x1 x2 x3 x4 x5 x6 xs0 xs1).2.1)) fun s d => p.acc O12 p.CK 0 0 s d * scl)
    ∧ (∀ (v : View sig .tc .vmem S2048x256 .bf16) (X : BufTy.Contents (Elt Ideal) v.ty), Is2 (n := 2048) (m := 256) (v.read (Elt Ideal) (v.writes (Elt Ideal) X (kernelRun0_C (F := Ideal) c i _ w2 _ w3 _ w4 _ w5 _ w6 _ w7 _ w8 _ w9 _ w10 _ w11 _ w12 _ w13 hc0 hc1 x0 x1 x2 x3 x4 x5 x6 xs0 xs1).2.2.1)) (p.acc O13 p.CV 0 0)) := by
  have hk := blk_of (p := p) i a2 w2 a3 w3 a4 w4 a5 w5 a6 w6 a7 w7 a8 w8 x0 x1 x2 x3 x4 x5 x6 hb
  have e12 : Is2 (n := 2048) (m := 256) (a12.view.read (Elt Ideal) (w12.unread xs0)) O12 := by rw [w12.read_unread]; exact h12
  have e13 : Is2 (n := 2048) (m := 256) (a13.view.read (Elt Ideal) (w13.unread xs1)) O13 := by rw [w13.read_unread]; exact h13
  have ho := olds_of_entry i e12
  have hp := olds_of_entry i e13
  have hs := sweep_is c i _ w2 _ w3 _ w4 _ w5 _ w6 _ w7 _ w8 _ w9 _ w10 _ w11 _ w12 _ w13 x0 x1 x2 x3 x4 x5 x6 hb _ _ (dK4_is (p := p) (hb := hk) (i := i) (a3 := a3) (a4 := a4) (a6 := a6) (a7 := a7) (h := e12) (h1 := ho.h1) (h2 := ho.h2) (h3 := ho.h3) (h4 := ho.h4)) (dV4_is (p := p) (hb := hk) (i := i) (a3 := a3) (a4 := a4) (a6 := a6) (a7 := a7) (h := e13) (h1 := hp.h1) (h2 := hp.h2) (h3 := hp.h3) (h4 := hp.h4))
  have hr := runC_is c i _ w2 _ w3 _ w4 _ w5 _ w6 _ w7 _ w8 _ w9 _ w10 _ w11 _ w12 _ w13 hc0 hc1 x0 x1 x2 x3 x4 x5 x6 xs0 xs1
  obtain ⟨r1, r2, r3, r4, r5⟩ := hr
  have hk1 := hs.k
  have hv1 := hs.v
  rw [← View.writes_append] at hk1 hv1
  refine ⟨by rw [r1]; exact hk1, by rw [r2]; exact hv1, fun v X => by rw [r3]; exact dq_is hs.q0 hs.q1 v X, fun v X => ?_, fun v X => ?_⟩
  · rw [r4, whole_is (v := v)]
    refine pay13_is ?_
    rw [View.readAt_full]; exact hk1
  · rw [r5, whole_is (v := v)]
    refine pay14_is ?_
    rw [View.readAt_full]; exact hv1

end Cert.SbIdeal.Hand
-- ==== Proof.SbRefVal.lean ====
/- What the reference computes of the stick-breaking attention, as real numbers, wherever its arguments hold real numbers. -/
module

public import proofs.«01_k».proof.Proof.Gen.SbRefIdeal.Read
public import proofs.«01_k».proof.Proof.SbPoint
public import Idealize.ShloMosaic.Lib.Pointwise
public import Idealize.ShloMosaic.Lib.Tactic
public import Idealize.ShloMosaic.Lib.VecWindow
public import Idealize.ShloMosaic.Lib.Pipeline.ValueKit

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI Idealize.SL.Sem

open Cert.SbRefIdeal.Read

/-- An array of three axes holding real numbers. -/
def Is3 {n0 n m : ℕ} (x : (⟨3, ![n0, n, m]⟩ : Shape).Idx → EReal) (f : ℕ → ℕ → ℕ → ℝ) : Prop :=
  ∀ (a : Fin n0) (b : Fin n) (c : Fin m), x (ix3 a b c) = ((f a b c : ℝ) : EReal)

/-! ## Softplus and the logistic function -/

/-- Softplus as it is computed. -/
def sp (x : ℝ) : ℝ := max x 0 + Real.log (1 + Real.exp (-(max x (-x))))

theorem exp_neg_sp (x : ℝ) : Real.exp (-sp x) = 1 / (1 + Real.exp x) := by
  have h : ∀ y : ℝ, 0 < 1 + Real.exp y := fun y => by have := Real.exp_pos y; linarith
  unfold sp
  rw [Real.exp_neg, Real.exp_add, Real.exp_log (h _), one_div]
  congr 1
  rcases le_total x 0 with hx | hx
  · rw [max_eq_right hx, max_eq_right (by linarith : x ≤ -x), neg_neg, Real.exp_zero, one_mul]
  · rw [max_eq_left hx, max_eq_left (by linarith : -x ≤ x), mul_add, mul_one, ← Real.exp_add, add_neg_cancel, Real.exp_zero, add_comm]

theorem sp_neg (x : ℝ) : sp (-x) = sp x - x := by
  unfold sp
  rw [neg_neg, max_comm (-x) x]
  rcases le_total x 0 with hx | hx
  · rw [max_eq_right hx, max_eq_left (by linarith : (0 : ℝ) ≤ -x)]; ring
  · rw [max_eq_left hx, max_eq_right (by linarith : -x ≤ 0)]; ring

/-- The logistic function of `-z` is one less that of `z`. -/
theorem sig_neg (z : ℝ) : Real.exp (-z - sp (-z)) = 1 - Real.exp (-sp (-z)) := by
  have h := Real.exp_pos z
  rw [show -z - sp (-z) = -sp z by rw [sp_neg]; ring, show -sp (-z) = z + -sp z by rw [sp_neg]; ring, Real.exp_add, exp_neg_sp]
  field_simp
  ring

theorem sig_pos (z : ℝ) : Real.exp (z - sp z) = Real.exp (-sp (-z)) := by rw [sp_neg]; congr 1; ring

theorem log1p_coe (r : ℝ) (h : 0 < 1 + r) : Ideal.log1p (r : EReal) = ((Real.log (1 + r) : ℝ) : EReal) := by
  unfold Ideal.log1p
  rw [← EReal.coe_one, ← EReal.coe_add, Ideal.log_coe, if_neg (not_le.2 h)]

theorem cmpf_une_self (x : EReal) : FloatOps.cmpf (F := Ideal) (φ := .f32) .une x x = 0#1 := by
  show Ideal.cmp .une x x = 0#1
  simp [Ideal.cmp]
theorem cmpf_oeq_top (r : ℝ) : FloatOps.cmpf (F := Ideal) (φ := .f32) .oeq (r : EReal) (⊤ : EReal) = 0#1 := by
  show Ideal.cmp .oeq _ _ = 0#1
  simp [Ideal.cmp]
theorem inf_bits : Ideal.ofBits .f32 0x7F800000#32 = (⊤ : EReal) := by
  simp [Ideal.ofBits, Ideal.ieee]

theorem sp_coe (r : ℝ) : max (r : EReal) 0 + Ideal.log1p (Ideal.exp (-FloatOps.absf (F := Ideal) (φ := .f32) (r : EReal))) = ((sp r : ℝ) : EReal) := by
  have h : FloatOps.absf (F := Ideal) (φ := .f32) (r : EReal) = ((max r (-r) : ℝ) : EReal) := by
    show max (r : EReal) (-(r : EReal)) = _
    rw [← EReal.coe_neg]
    exact (EReal.coe_strictMono.monotone.map_max).symm
  rw [h, ← EReal.coe_neg, Ideal.exp_coe, log1p_coe _ (by have := Real.exp_pos (-(max r (-r))); linarith), ← EReal.coe_zero, show max (r : EReal) ((0 : ℝ) : EReal) = ((max r 0 : ℝ) : EReal) from (EReal.coe_strictMono.monotone.map_max).symm, ← EReal.coe_add]
  rfl

/-- A window of one row's length, slid along the last axis: the sum of the entries it covers. -/
theorem slide_is (lo hi : Fin 3 → ℕ) (L : ℕ) (hl : lo = ![0, 0, L]) (x : (⟨3, ![8, 2048, 2048]⟩ : Shape).Idx → EReal) (f : ℕ → ℕ → ℕ → ℝ) (hx : Is3 x f)
    (init : EReal) (h0 : init = 0) (h : (⟨3, ![8, 2048, 2048]⟩ : Shape).ReduceWindows (![1, 1, 2048] : Fin 3 → ℕ) ![1, 1, 1] lo hi ⟨3, ![8, 2048, 2048]⟩) :
    Is3 (Ideal.hostReduceWindowAdd (![1, 1, 2048] : Fin 3 → ℕ) ![1, 1, 1] lo hi h x init)
      fun a b c => ∑ n : Fin 2048, if L ≤ c + n ∧ c + n - L < 2048 then f a b (c + n - L) else 0 := by
  subst hl h0
  intro a b c
  have fold : ∀ (n : ℕ) (g : Fin n → EReal) (v : EReal), (List.finRange n).foldl (fun r k => r + g k) v = v + ∑ k, g k := fun n g v => by
    rw [Fin.sum_univ_def]
    generalize List.finRange n = l
    induction l generalizing v with
    | nil => simp
    | cons k l ih => rw [List.foldl_cons, ih, List.map_cons, List.sum_cons, add_assoc]
  unfold Ideal.hostReduceWindowAdd Host.reduceWindow
  dsimp only
  rw [fold, zero_add, coe_sum]
  let e : (⟨3, ![1, 1, 2048]⟩ : Shape).Idx ≃ Fin 2048 := ⟨fun i => i 2, fun n => ix3 (0 : Fin 1) (0 : Fin 1) n, fun i => by
    refine funext fun k => ?_
    match k with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl, fun n => rfl⟩
  refine Fintype.sum_equiv ((⟨3, ![1, 1, 2048]⟩ : Shape).rowMajor.symm.trans e) _ _ fun n => ?_
  let i : (⟨3, ![1, 1, 2048]⟩ : Shape).Idx := (⟨3, ![1, 1, 2048]⟩ : Shape).rowMajor.symm n
  have h0 : (i 0).val = 0 := by have h : (i 0).val < 1 := (i 0).isLt; omega
  have h1 : (i 1).val = 0 := by have h : (i 1).val < 1 := (i 1).isLt; omega
  have h2 : (i 2).val < 2048 := (i 2).isLt
  have e2 : (((⟨3, ![1, 1, 2048]⟩ : Shape).rowMajor.symm.trans e) n).val = (i 2).val := rfl
  rw [e2]
  split
  · next hin =>
    have h3 := hin 2
    change L ≤ c.val * 1 + (i 2).val ∧ c.val * 1 + (i 2).val - L < 2048 at h3
    rw [Nat.mul_one] at h3
    rw [if_pos h3]
    refine Eq.trans (congrArg x (funext fun k => ?_)) (hx a b ⟨c.val + (i 2).val - L, h3.2⟩)
    match k with
    | ⟨0, _⟩ => exact Fin.ext (by show a.val * 1 + (i 0).val - 0 = a.val; omega)
    | ⟨1, _⟩ => exact Fin.ext (by show b.val * 1 + (i 1).val - 0 = b.val; omega)
    | ⟨2, _⟩ => exact Fin.ext (by show c.val * 1 + (i 2).val - L = c.val + (i 2).val - L; omega)
  · next hin =>
    rw [if_neg fun h3 => hin fun k => by
      match k with
      | ⟨0, _⟩ => exact ⟨Nat.zero_le _, by show a.val * 1 + (i 0).val - 0 < 8; omega⟩
      | ⟨1, _⟩ => exact ⟨Nat.zero_le _, by show b.val * 1 + (i 1).val - 0 < 2048; omega⟩
      | ⟨2, _⟩ =>
        show L ≤ c.val * 1 + (i 2).val ∧ c.val * 1 + (i 2).val - L < 2048
        rw [Nat.mul_one]
        exact h3]
    exact EReal.coe_zero.symm

section
variable (x0 : FVec Ideal S2048x8192 .bf16) (x1 : FVec Ideal S2048x1024 .bf16) {P D : ℕ → ℕ → ℝ} (hP : Is2 x0 P) (hD : Is2 x1 D)

def zz (P : ℕ → ℕ → ℝ) (h t s : ℕ) : ℝ := (∑ d : Fin 128, P t (3072 + (128 * h + d)) * P s (4096 + (128 * h + d))) * scl

include hP in
theorem q_is : Is3 (val_main_v7 (F := Ideal) x0) fun h t d => P t (3072 + (128 * h + d)) := by
  intro a b c
  pointwise [val_main_v7, val_main_v6, val_main_v1, val_main_v0]
  rw [hP]
  refine congrArg _ (congrArg _ ?_)
  simp only []
  omega
include hP in
theorem k_is : Is3 (val_main_v9 (F := Ideal) x0) fun h t d => P t (4096 + (128 * h + d)) := by
  intro a b c
  pointwise [val_main_v9, val_main_v8, val_main_v3, val_main_v2]
  rw [hP]
  refine congrArg _ (congrArg _ ?_)
  simp only []
  omega
include hP in
theorem v_is : Is3 (val_main_v11 (F := Ideal) x0) fun h t d => P t (5120 + (128 * h + d)) := by
  intro a b c
  pointwise [val_main_v11, val_main_v10, val_main_v5, val_main_v4]
  rw [hP]
  refine congrArg _ (congrArg _ ?_)
  simp only []
  omega
include hD in
theorem do_is : Is3 (val_main_v36 (F := Ideal) x1) fun h t d => D t (128 * h + d) := by
  intro a b c
  pointwise [val_main_v36, val_main_v35, val_main_v34]
  rw [hD]
  refine congrArg _ (congrArg _ ?_)
  simp only []
  omega

include hP in
theorem z_is : Is3 (val_main_v14 (F := Ideal) x0) (zz P) := by
  intro a b c
  pointwise [val_main_v14, val_main_v12, val_main_v13, val_main_cst]
  rw [scl_eq]
  unfold zz
  rw [EReal.coe_mul, coe_sum]
  refine congrArg₂ _ (Finset.sum_congr rfl fun d _ => ?_) rfl
  rw [q_is x0 hP, k_is x0 hP, EReal.coe_mul]

include hP in
theorem sp_is : Is3 (val_main_call0_v1_0 (F := Ideal) x0) fun h t s => sp (zz P h t s) := by
  intro a b c
  pointwise [val_main_call0_v1_0, val_main_call0_call0_v4, val_main_call0_call0_v6, val_main_call0_call0_v11, val_main_call0_call0_v10, val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0, val_main_v22]
  rw [z_is x0 hP, if_neg (not_not.2 rfl), neg_neg, sp_coe]

/-- The part of a position that is not kept, in the logarithm. -/
def l1 (P : ℕ → ℕ → ℝ) (h t s : ℕ) : ℝ := if s < t then -sp (zz P h t s) else 0
/-- What the positions after this one leave. -/
def aft (P : ℕ → ℕ → ℝ) (h t s : ℕ) : ℝ := (∑ n : Fin 2048, if 0 ≤ s + (n : ℕ) ∧ s + (n : ℕ) - 0 < 2048 then l1 P h t (s + n - 0) else 0) - l1 P h t s
/-- The weights before the mask, the weights and the logistic function of the scores. -/
def aw (P : ℕ → ℕ → ℝ) (h t s : ℕ) : ℝ := Real.exp (-sp (-zz P h t s) + aft P h t s)
def am (P : ℕ → ℕ → ℝ) (h t s : ℕ) : ℝ := if s < t then aw P h t s else 0
def bb (P : ℕ → ℕ → ℝ) (h t s : ℕ) : ℝ := Real.exp (-sp (-zz P h t s))

include hP in
theorem l1_is : Is3 (val_main_v24_0 (F := Ideal) x0) (l1 P) := by
  intro a b c
  pointwise [val_main_v24_0, val_main_v24_1, val_main_v23_0, val_main_v21, val_main_v20, val_main_v19, val_main_v18, val_main_v17, val_main_v16, val_main_v15, val_main_call1_v2, val_main_call1_v0, val_main_cst_0]
  refine (select_slt c b (by omega) (by omega) _ _).trans ?_
  rw [sp_is x0 hP]
  unfold l1
  by_cases h : c.val < b.val
  · rw [if_pos h, if_pos h, ← EReal.coe_neg]
  · rw [if_neg h, if_neg h]
    exact Ideal.ofBits_zero_f32
include hP in
theorem aft_is : Is3 (val_main_v26 (F := Ideal) x0) (aft P) := by
  intro a b c
  have e := slide_is (![0, 0, 0]) ![0, 0, 2047] 0 rfl (val_main_v24_0 (F := Ideal) x0) _ (l1_is x0 hP) (val_main_call2_v0 (F := Ideal) (Shape.Idx.first SbRefIdeal.Facts₀.h_S_))
    (by rw [val_main_call2_v0_apply]; exact Ideal.ofBits_zero_f32) SbRefIdeal.Facts₀.reduceWindows_S8x2048x2048_S8x2048x2048_w1s1p0_0_w1s1p0_0_w2048s1p0_2047 a b c
  rw [← Ideal.hostReduceWindowAdd_def (φ := .f32) _ _ _ _ _ .single] at e
  have e' : val_main_v25 (F := Ideal) x0 (ix3 a b c) = ((∑ n : Fin 2048, if 0 ≤ c.val + (n : ℕ) ∧ c.val + (n : ℕ) - 0 < 2048 then l1 P a b (c.val + n - 0) else 0 : ℝ) : EReal) := by
    unfold val_main_v25 Host.reduceWindowAdd
    exact e
  pointwise [val_main_v26]
  rw [e', l1_is x0 hP, ← EReal.coe_sub]
  rfl
include hP in
theorem spn_is : Is3 (val_main_call3_v1_0 (F := Ideal) x0) fun h t s => sp (-zz P h t s) := by
  intro a b c
  pointwise [val_main_call3_v1_0, val_main_call3_call0_v4, val_main_call3_call0_v6, val_main_call3_call0_v11, val_main_call3_call0_v10, val_main_call3_call0_v9, val_main_call3_call0_v8, val_main_call3_call0_v7, val_main_call3_call0_v5, val_main_call3_call0_v3, val_main_call3_call0_v2, val_main_call3_call0_v1, val_main_call3_call0_v0, val_main_call3_call0_cst, val_main_call3_v0]
  rw [z_is x0 hP, if_neg (not_not.2 rfl), ← EReal.coe_neg, sp_coe]
include hP in
theorem aw_is : Is3 (val_main_v29 (F := Ideal) x0) (aw P) := by
  intro a b c
  pointwise [val_main_v29, val_main_v28, val_main_v27_0]
  rw [spn_is x0 hP, aft_is x0 hP, ← EReal.coe_neg, ← EReal.coe_add, Ideal.exp_coe]
  rfl
include hP in
theorem am_is : Is3 (val_main_v30_0 (F := Ideal) x0) (am P) := by
  intro a b c
  pointwise [val_main_v30_0, val_main_v30_1, val_main_v21, val_main_v20, val_main_v19, val_main_v18, val_main_v17, val_main_v16, val_main_v15, val_main_call4_v2, val_main_call4_v0, val_main_cst_1]
  refine (select_slt c b (by omega) (by omega) _ _).trans ?_
  rw [aw_is x0 hP]
  unfold am
  by_cases h : c.val < b.val
  · rw [if_pos h, if_pos h]
  · rw [if_neg h, if_neg h]
    exact Ideal.ofBits_zero_f32
include hP in
theorem bb_is : Is3 (fun i => Ideal.exp (val_main_v27_0 (F := Ideal) x0 i)) (bb P) := by
  intro a b c
  pointwise [val_main_v27_0]
  rw [spn_is x0 hP, ← EReal.coe_neg, Ideal.exp_coe]
  rfl
include hP in
theorem sn_is : Is3 (val_main_v27_1 (F := Ideal) x0) fun h t s => 1 - bb P h t s := by
  intro a b c
  pointwise [val_main_v27_1, val_main_call3_call0_v21, val_main_call3_call0_v20, val_main_call3_call0_v18, val_main_call3_call0_v17, val_main_call3_call0_v16, val_main_call3_call0_v14, val_main_call3_call0_v13, val_main_call3_v0, val_main_call3_call0_cst_0, val_main_call3_call0_cst_2]
  rw [spn_is x0 hP, z_is x0 hP, inf_bits, ← EReal.coe_neg, if_neg (EReal.coe_ne_top _), if_neg (EReal.coe_ne_top _), ← EReal.coe_sub, Ideal.exp_coe]
  exact congrArg _ (sig_neg _)
include hP in
theorem sg_is : Is3 (val_main_v23_1 (F := Ideal) x0) (bb P) := by
  intro a b c
  pointwise [val_main_v23_1, val_main_call0_call0_v21, val_main_call0_call0_v20, val_main_call0_call0_v18, val_main_call0_call0_v17, val_main_call0_call0_v16, val_main_call0_call0_v14, val_main_call0_call0_v13, val_main_call0_v0, val_main_v22, val_main_call0_call0_cst_0, val_main_call0_call0_cst_2]
  rw [sp_is x0 hP, z_is x0 hP, inf_bits, neg_neg, if_neg (EReal.coe_ne_top _), if_neg (EReal.coe_ne_top _), ← EReal.coe_sub, Ideal.exp_coe]
  exact congrArg _ (sig_pos _)

/-- The product of the cotangent with the values, kept where the position is used, times the weight. -/
def gm (P D : ℕ → ℕ → ℝ) (h t s : ℕ) : ℝ := (if s < t then ∑ d : Fin 128, D t (128 * h + d) * P s (5120 + (128 * h + d)) else 0) * aw P h t s
/-- Their sum over the positions before this one. -/
def pre (P D : ℕ → ℕ → ℝ) (h t s : ℕ) : ℝ :=
  if s < t then -gm P D h t s + ∑ n : Fin 2048, (if 2047 ≤ s + (n : ℕ) ∧ s + (n : ℕ) - 2047 < 2048 then gm P D h t (s + n - 2047) else 0) else 0
/-- The cotangent of the scores before the scale. -/
def dz (P D : ℕ → ℕ → ℝ) (h t s : ℕ) : ℝ := -(-gm P D h t s * (1 - bb P h t s)) + -(-(-pre P D h t s * bb P h t s))

include hP in
theorem o_is : Is2 (val_main_v33 (F := Ideal) x0) fun t c => ∑ s : Fin 2048, am P (c / 128) t s * P s (5120 + (128 * (c / 128) + c % 128)) := by
  intro a b
  pointwise [val_main_v33, val_main_v32, val_main_v31]
  rw [coe_sum]
  refine Finset.sum_congr rfl fun s _ => ?_
  rw [am_is x0 hP, v_is x0 hP, EReal.coe_mul]
include hP hD in
theorem dv_is : Is2 (val_main_v62 (F := Ideal) x0 x1) fun s c => ∑ t : Fin 2048, D t (128 * (c / 128) + c % 128) * am P (c / 128) t s := by
  intro a b
  pointwise [val_main_v62, val_main_v55, val_main_v54, val_main_v38, val_main_v37]
  rw [coe_sum]
  refine Finset.sum_congr rfl fun s _ => ?_
  rw [am_is x0 hP, do_is x1 hD, EReal.coe_mul]
include hP hD in
theorem gm_is : Is3 (val_main_v41 (F := Ideal) x0 x1) (gm P D) := by
  intro a b c
  pointwise [val_main_v41, val_main_v40, val_main_v39, val_main_v30_1, val_main_v21, val_main_v20, val_main_v19, val_main_v18, val_main_v17, val_main_v16, val_main_v15, val_main_call5_v0, val_main_call5_cst]
  rw [aw_is x0 hP]
  unfold gm
  refine (select_slt c b (by omega) (by omega) _ _).trans ?_
  rw [EReal.coe_mul]
  by_cases h : c.val < b.val
  · rw [if_pos h, if_pos h, coe_sum]
    refine congrArg₂ _ (Finset.sum_congr rfl fun s _ => ?_) rfl
    rw [do_is x1 hD, v_is x0 hP, EReal.coe_mul]
  · rw [if_neg h, if_neg h, EReal.coe_zero, zero_mul]
include hP hD in
theorem pre_is : Is3 (val_main_v46 (F := Ideal) x0 x1) (pre P D) := by
  intro a b c
  have e := slide_is (![0, 0, 2047]) ![0, 0, 0] 2047 rfl (val_main_v41 (F := Ideal) x0 x1) _ (gm_is x0 x1 hP hD) (val_main_call7_v0 (F := Ideal) (Shape.Idx.first SbRefIdeal.Facts₀.h_S_))
    (by rw [val_main_call7_v0_apply]; exact Ideal.ofBits_zero_f32) SbRefIdeal.Facts₀.reduceWindows_S8x2048x2048_S8x2048x2048_w1s1p0_0_w1s1p0_0_w2048s1p2047_0 a b c
  rw [← Ideal.hostReduceWindowAdd_def (φ := .f32) _ _ _ _ _ .single] at e
  have e' : val_main_v44 (F := Ideal) x0 x1 (ix3 a b c) = ((∑ n : Fin 2048, if 2047 ≤ c.val + (n : ℕ) ∧ c.val + (n : ℕ) - 2047 < 2048 then gm P D a b (c.val + n - 2047) else 0 : ℝ) : EReal) := by
    unfold val_main_v44 Host.reduceWindowAdd
    exact e
  pointwise [val_main_v46, val_main_v45, val_main_v43, val_main_v24_1, val_main_v21, val_main_v20, val_main_v19, val_main_v18, val_main_v17, val_main_v16, val_main_v15, val_main_call8_v0, val_main_call8_cst]
  refine (select_slt c b (by omega) (by omega) _ _).trans ?_
  rw [e', gm_is x0 x1 hP hD]
  unfold pre
  by_cases h : c.val < b.val
  · rw [if_pos h, if_pos h, ← EReal.coe_neg, ← EReal.coe_add]
  · rw [if_neg h, if_neg h]
    rfl
include hP hD in
theorem dz_is : Is3 (val_main_v51 (F := Ideal) x0 x1) fun h t s => dz P D h t s * scl := by
  intro a b c
  pointwise [val_main_v51, val_main_v50, val_main_cst_2, val_main_v49, val_main_v48, val_main_v47, val_main_call9_v1, val_main_call9_v0, val_main_v42, val_main_call6_v1, val_main_call6_v0]
  rw [gm_is x0 x1 hP hD, pre_is x0 x1 hP hD, sn_is x0 hP, sg_is x0 hP, scl_eq]
  unfold dz
  simp only [EReal.coe_mul, EReal.coe_add, EReal.coe_neg]
include hP hD in
theorem dq_ref : Is2 (val_main_v60 (F := Ideal) x0 x1) fun t c => ∑ s : Fin 2048, dz P D (c / 128) t s * scl * P s (4096 + (128 * (c / 128) + c % 128)) := by
  intro a b
  pointwise [val_main_v60, val_main_v59, val_main_v58, val_main_v53]
  rw [coe_sum]
  refine Finset.sum_congr rfl fun s _ => ?_
  rw [dz_is x0 x1 hP hD, k_is x0 hP, EReal.coe_mul, EReal.coe_mul, EReal.coe_mul]
include hP hD in
theorem dk_ref : Is2 (val_main_v61 (F := Ideal) x0 x1) fun s c => ∑ t : Fin 2048, dz P D (c / 128) t s * scl * P t (3072 + (128 * (c / 128) + c % 128)) := by
  intro a b
  pointwise [val_main_v61, val_main_v57, val_main_v56, val_main_v52]
  rw [coe_sum]
  refine Finset.sum_congr rfl fun s _ => ?_
  rw [dz_is x0 x1 hP hD, q_is x0 hP, EReal.coe_mul, EReal.coe_mul, EReal.coe_mul]
end
end Cert.SbIdeal.Hand
-- ==== Proof.SbFwdTile.lean ====
/-
The stick-breaking attention forwards: a tile of the sweep over the keys, on any number of rows, read as real numbers.
-/
module

public import proofs.«01_k».proof.Proof.SbFwdFrame
public import proofs.«01_k».proof.Proof.SbRefVal
public import Idealize.ShloMosaic.Lib.Pointwise
public import Idealize.ShloMosaic.Lib.Tactic

@[expose] public section

set_option maxRecDepth 16384

noncomputable section

namespace Cert.SbFwdIdeal.Hand

open Cert.SbFwdIdeal.Gen
open Idealize.ShloMosaic Idealize.ShloMosaic.TcCoe Idealize.ShloMosaic.Tactic
open Cert.SbIdeal.Hand (Is2 coe_sum slt_iff select_slt tri_slt sp scl scl_eq)

/-! ## The elementwise part -/

/-- The logarithm of the logistic function, as the kernel spells it. -/
def lsz {s : Shape} (z : FVec Ideal s .f32) : FVec Ideal s .f32 :=
  subf (minimumf z (broadcast s (Scalar.ofBits .f32 0x00000000#32 : Ideal .f32)))
    (log (addf (broadcast s (Scalar.ofBits .f32 0x3F800000#32 : Ideal .f32)) (exp (subf (broadcast s (Scalar.ofBits .f32 0x00000000#32 : Ideal .f32)) (absf z)))))

theorem lsz_at {n m : ℕ} {z : FVec Ideal ⟨2, ![n, m]⟩ .f32} {a : Fin n} {b : Fin m} {r : ℝ} (h : z (ix2 a b) = (r : EReal)) :
    lsz z (ix2 a b) = ((-sp (-r) : ℝ) : EReal) := by
  have e : lsz z (ix2 a b) = min (z (ix2 a b)) 0 - Ideal.log (1 + Ideal.exp (0 - max (z (ix2 a b)) (-(z (ix2 a b))))) := by
    pointwise [lsz]
    rfl
  have hp := Real.exp_pos (0 - max r (-r))
  rw [e, h, ← EReal.coe_neg, ← EReal.coe_strictMono.monotone.map_max, ← EReal.coe_zero, ← EReal.coe_strictMono.monotone.map_min, ← EReal.coe_sub, Ideal.exp_coe, ← EReal.coe_one, ← EReal.coe_add,
    Ideal.log_coe, if_neg (by linarith), ← EReal.coe_sub]
  refine congrArg (fun x : ℝ => (x : EReal)) ?_
  unfold sp
  rw [neg_neg, zero_sub, max_comm (-r) r]
  rcases le_total r 0 with hr | hr
  · rw [min_eq_left hr, max_eq_left (a := -r) (by linarith)]; ring
  · rw [min_eq_right hr, max_eq_right (a := -r) (by linarith)]; ring

/-- The strictly lower triangle of ones. -/
def tri : FVec Ideal S256x256 .bf16 :=
  truncf .bf16 (sitofp .f32 (extui 32 (cmpi .sgt (iota .tc S256x256 32 [0] iota_S256x256_d0_w32) (iota .tc S256x256 32 [1] iota_S256x256_d1_w32)) natLt_1_32)) bitsLt_bf16_f32

theorem tri_at (a b : Fin 256) : tri (ix2 a b) = ((if b.val < a.val then 1 else 0 : ℝ) : EReal) := by
  pointwise [tri]
  exact tri_slt b.val a.val (by omega) (by omega)

/-! ## A tile of `R` rows -/

/-- The operations of a tile of `R` rows and 256 columns that are not elementwise, with what each computes. -/
structure Rows (R : ℕ) where
  dot1 : FVec Ideal ⟨2, ![R, 128]⟩ .bf16 → FVec Ideal S256x128 .bf16 → FVec Ideal ⟨2, ![R, 256]⟩ .f32
  dot2 : FVec Ideal ⟨2, ![R, 256]⟩ .bf16 → FVec Ideal S256x256 .bf16 → FVec Ideal ⟨2, ![R, 256]⟩ .f32
  dot3 : FVec Ideal ⟨2, ![R, 256]⟩ .bf16 → FVec Ideal S256x128 .bf16 → FVec Ideal ⟨2, ![R, 128]⟩ .f32
  sum1 : FVec Ideal ⟨2, ![R, 256]⟩ .f32 → FVec Ideal ⟨2, ![R, 1]⟩ .f32
  wide : FVec Ideal ⟨2, ![R, 1]⟩ .f32 → FVec Ideal ⟨2, ![R, 256]⟩ .f32
  dot1_at : ∀ x y a b, dot1 x y (ix2 a b) = ∑ d : Fin 128, x (ix2 a d) * y (ix2 b d)
  dot2_at : ∀ x y a b, dot2 x y (ix2 a b) = ∑ d : Fin 256, x (ix2 a d) * y (ix2 d b)
  dot3_at : ∀ x y a b, dot3 x y (ix2 a b) = ∑ d : Fin 256, x (ix2 a d) * y (ix2 d b)
  sum1_at : ∀ x a b, sum1 x (ix2 a b) = ∑ d : Fin 256, x (ix2 a d)
  wide_at : ∀ x a b, wide x (ix2 a b) = x (ix2 a 0)

def R256 : Rows 256 where
  dot1 x y := matmul (φ₁ := .bf16) dot_S256x128_S256x128_S256x256_1_1_0_0_n_n none x y (constant S256x256 .f32 0x00000000#32)
  dot2 x y := matmul (φ₁ := .bf16) dot_S256x256_S256x256_S256x256_1_0_0_1_n_n none x y (constant S256x256 .f32 0x00000000#32)
  dot3 x y := matmul (φ₁ := .bf16) dot_S256x256_S256x128_S256x128_1_0_0_1_n_n none x y (constant S256x128 .f32 0x00000000#32)
  sum1 x := shapeCast S256x1 (multiReduction (F := Ideal) (φ := .f32) .add [1] S256 x 0x00000000#32 reduces_S256x256_S256 (.inl rfl) rfl) shapeCasts_S256_S256x1
  wide x := broadcastTo S256x256 x broadcasts_S256x1_S256x256
  dot1_at x y a b := by pointwise
  dot2_at x y a b := by pointwise
  dot3_at x y a b := by pointwise
  sum1_at x a b := by pointwise
  wide_at x a b := by pointwise

def R512 : Rows 512 where
  dot1 x y := matmul (φ₁ := .bf16) dot_S512x128_S256x128_S512x256_1_1_0_0_n_n none x y (constant S512x256 .f32 0x00000000#32)
  dot2 x y := matmul (φ₁ := .bf16) dot_S512x256_S256x256_S512x256_1_0_0_1_n_n none x y (constant S512x256 .f32 0x00000000#32)
  dot3 x y := matmul (φ₁ := .bf16) dot_S512x256_S256x128_S512x128_1_0_0_1_n_n none x y (constant S512x128 .f32 0x00000000#32)
  sum1 x := shapeCast S512x1 (multiReduction (F := Ideal) (φ := .f32) .add [1] S512 x 0x00000000#32 reduces_S512x256_S512 (.inl rfl) rfl) shapeCasts_S512_S512x1
  wide x := broadcastTo S512x256 x broadcasts_S512x1_S512x256
  dot1_at x y a b := by pointwise
  dot2_at x y a b := by pointwise
  dot3_at x y a b := by pointwise
  sum1_at x a b := by pointwise
  wide_at x a b := by pointwise

def R768 : Rows 768 where
  dot1 x y := matmul (φ₁ := .bf16) dot_S768x128_S256x128_S768x256_1_1_0_0_n_n none x y (constant S768x256 .f32 0x00000000#32)
  dot2 x y := matmul (φ₁ := .bf16) dot_S768x256_S256x256_S768x256_1_0_0_1_n_n none x y (constant S768x256 .f32 0x00000000#32)
  dot3 x y := matmul (φ₁ := .bf16) dot_S768x256_S256x128_S768x128_1_0_0_1_n_n none x y (constant S768x128 .f32 0x00000000#32)
  sum1 x := shapeCast S768x1 (multiReduction (F := Ideal) (φ := .f32) .add [1] S768 x 0x00000000#32 reduces_S768x256_S768 (.inl rfl) rfl) shapeCasts_S768_S768x1
  wide x := broadcastTo S768x256 x broadcasts_S768x1_S768x256
  dot1_at x y a b := by pointwise
  dot2_at x y a b := by pointwise
  dot3_at x y a b := by pointwise
  sum1_at x a b := by pointwise
  wide_at x a b := by pointwise

def R1024 : Rows 1024 where
  dot1 x y := matmul (φ₁ := .bf16) dot_S1024x128_S256x128_S1024x256_1_1_0_0_n_n none x y (constant S1024x256 .f32 0x00000000#32)
  dot2 x y := matmul (φ₁ := .bf16) dot_S1024x256_S256x256_S1024x256_1_0_0_1_n_n none x y (constant S1024x256 .f32 0x00000000#32)
  dot3 x y := matmul (φ₁ := .bf16) dot_S1024x256_S256x128_S1024x128_1_0_0_1_n_n none x y (constant S1024x128 .f32 0x00000000#32)
  sum1 x := shapeCast S1024x1 (multiReduction (F := Ideal) (φ := .f32) .add [1] S1024 x 0x00000000#32 reduces_S1024x256_S1024 (.inl rfl) rfl) shapeCasts_S1024_S1024x1
  wide x := broadcastTo S1024x256 x broadcasts_S1024x1_S1024x256
  dot1_at x y a b := by pointwise
  dot2_at x y a b := by pointwise
  dot3_at x y a b := by pointwise
  sum1_at x a b := by pointwise
  wide_at x a b := by pointwise

section Step
variable {R : ℕ} (T : Rows R) (M : FVec Ideal ⟨2, ![R, 256]⟩ .f32 → FVec Ideal ⟨2, ![R, 256]⟩ .f32)

/-- The scores. -/
def zT (q : FVec Ideal ⟨2, ![R, 128]⟩ .bf16) (k : FVec Ideal S256x128 .bf16) : FVec Ideal ⟨2, ![R, 256]⟩ .f32 :=
  mulf (T.dot1 q k) (broadcast ⟨2, ![R, 256]⟩ (Scalar.ofBits .f32 0x3DB504F3#32 : Ideal .f32))
/-- The logarithms of what the positions leave, under the mask `M`. -/
def lT (q : FVec Ideal ⟨2, ![R, 128]⟩ .bf16) (k : FVec Ideal S256x128 .bf16) : FVec Ideal ⟨2, ![R, 256]⟩ .bf16 :=
  truncf .bf16 (M (subf (lsz (zT T q k)) (zT T q k))) bitsLt_bf16_f32
/-- The carried sum after the tile. -/
def cT (c : FVec Ideal ⟨2, ![R, 1]⟩ .f32) (q : FVec Ideal ⟨2, ![R, 128]⟩ .bf16) (k : FVec Ideal S256x128 .bf16) : FVec Ideal ⟨2, ![R, 1]⟩ .f32 :=
  addf c (T.sum1 (extf .f32 (lT T M q k) bitsLt_bf16_f32))
/-- The result after the tile. -/
def aT (c : FVec Ideal ⟨2, ![R, 1]⟩ .f32) (o : FVec Ideal ⟨2, ![R, 128]⟩ .f32) (q : FVec Ideal ⟨2, ![R, 128]⟩ .bf16) (k v : FVec Ideal S256x128 .bf16) :
    FVec Ideal ⟨2, ![R, 128]⟩ .f32 :=
  addf o (T.dot3 (truncf .bf16 (M (exp (addf (lsz (zT T q k)) (addf (T.wide c) (T.dot2 (lT T M q k) tri))))) bitsLt_bf16_f32) v)

variable {T M} {Q K V C O : ℕ → ℕ → ℝ} {p : ℕ → ℕ → Prop} [∀ a b, Decidable (p a b)]
  {q : FVec Ideal ⟨2, ![R, 128]⟩ .bf16} {k v : FVec Ideal S256x128 .bf16} {c : FVec Ideal ⟨2, ![R, 1]⟩ .f32} {o : FVec Ideal ⟨2, ![R, 128]⟩ .f32}

/-- The mask `M` keeps the positions `p` and puts zero elsewhere. -/
def Masks (M : FVec Ideal ⟨2, ![R, 256]⟩ .f32 → FVec Ideal ⟨2, ![R, 256]⟩ .f32) (p : ℕ → ℕ → Prop) [∀ a b, Decidable (p a b)] : Prop :=
  ∀ z a b, M z (ix2 a b) = if p a.val b.val then z (ix2 a b) else 0

theorem zT_is (hq : Is2 q Q) (hk : Is2 k K) : Is2 (zT T q k) fun a b => (∑ d : Fin 128, Q a d * K b d) * scl := by
  intro a b
  have e : zT T q k (ix2 a b) = T.dot1 q k (ix2 a b) * (Ideal.ofBits .f32 0x3DB504F3#32) := rfl
  rw [e, T.dot1_at, scl_eq, EReal.coe_mul, coe_sum]
  simp only [hq _ _, hk _ _, EReal.coe_mul]

theorem lT_is (hM : Masks M p) {Z : ℕ → ℕ → ℝ} (hz : Is2 (zT T q k) Z) : Is2 (lT T M q k) fun a b => if p a b then -sp (Z a b) else 0 := by
  intro a b
  have e : lT T M q k (ix2 a b) = M (subf (lsz (zT T q k)) (zT T q k)) (ix2 a b) := rfl
  rw [e, hM]
  dsimp only
  by_cases h : p a.val b.val
  · rw [if_pos h, if_pos h]
    show lsz (zT T q k) (ix2 a b) - zT T q k (ix2 a b) = _
    rw [lsz_at (hz a b), hz a b, ← EReal.coe_sub, Cert.SbIdeal.Hand.sp_neg]
    exact congrArg (fun x : ℝ => (x : EReal)) (by ring)
  · rw [if_neg h, if_neg h]; rfl

theorem cT_is (hM : Masks M p) {Z : ℕ → ℕ → ℝ} (hz : Is2 (zT T q k) Z) (hc : Is2 c C) :
    Is2 (cT T M c q k) fun a b => C a b + ∑ s : Fin 256, if p a s then -sp (Z a s) else 0 := by
  intro a b
  have e : cT T M c q k (ix2 a b) = c (ix2 a b) + T.sum1 (extf .f32 (lT T M q k) bitsLt_bf16_f32) (ix2 a b) := rfl
  have e2 : ∀ s, (extf .f32 (lT T M q k) bitsLt_bf16_f32 : FVec Ideal ⟨2, ![R, 256]⟩ .f32) (ix2 a s) = lT T M q k (ix2 a s) := fun _ => rfl
  rw [e, T.sum1_at, hc a b, EReal.coe_add, coe_sum]
  simp only [e2, lT_is hM hz a _]

theorem aT_is (hM : Masks M p) {Z : ℕ → ℕ → ℝ} (hz : Is2 (zT T q k) Z) (hc : Is2 c C) (ho : Is2 o O) (hv : Is2 v V) :
    Is2 (aT T M c o q k v) fun a d => O a d + ∑ s : Fin 256,
      (if p a s then Real.exp (-sp (-Z a s) + (C a 0 + ∑ x : Fin 256, (if p a x then -sp (Z a x) else 0) * (if s.val < x.val then 1 else 0))) else 0) * V s d := by
  intro a d
  have e : aT T M c o q k v (ix2 a d) = o (ix2 a d) + T.dot3 (truncf .bf16 (M (exp (addf (lsz (zT T q k)) (addf (T.wide c) (T.dot2 (lT T M q k) tri))))) bitsLt_bf16_f32) v (ix2 a d) := rfl
  rw [e, T.dot3_at, ho a d, EReal.coe_add, coe_sum]
  refine congrArg₂ _ rfl (Finset.sum_congr rfl fun s _ => ?_)
  have e2 : ∀ w : FVec Ideal ⟨2, ![R, 256]⟩ .f32, (truncf .bf16 w bitsLt_bf16_f32 : FVec Ideal ⟨2, ![R, 256]⟩ .bf16) (ix2 a s) = w (ix2 a s) := fun _ => rfl
  rw [e2, hM, hv s d, EReal.coe_mul]
  refine congrArg₂ _ ?_ rfl
  by_cases h : p a.val s.val
  · rw [if_pos h, if_pos h]
    have e3 : exp (addf (lsz (zT T q k)) (addf (T.wide c) (T.dot2 (lT T M q k) tri))) (ix2 a s)
        = Ideal.exp (lsz (zT T q k) (ix2 a s) + (T.wide c (ix2 a s) + T.dot2 (lT T M q k) tri (ix2 a s))) := rfl
    rw [e3, lsz_at (hz a s), T.wide_at, T.dot2_at, hc a 0]
    simp only [lT_is hM hz a _, tri_at, ← EReal.coe_mul, ← coe_sum, ← EReal.coe_add, Ideal.exp_coe]
    rfl
  · rw [if_neg h, if_neg h]; rfl

end Step

/-! ## Rows put below rows -/

/-- `y` put below the first `r0` rows of `x`. -/
theorem cat_is {N m r0 R : ℕ} {x : (⟨2, ![N, m]⟩ : Shape).Idx → EReal} {y : (⟨2, ![R, m]⟩ : Shape).Idx → EReal} {f g : ℕ → ℕ → ℝ}
    (hx : Is2 x f) (hy : Is2 y fun a b => g (r0 + a) b) (hfg : ∀ a b, a < r0 → b < m → f a b = g a b) (hN : r0 + R = N)
    (hs : (⟨2, ![N, m]⟩ : Shape).Slices ![0, 0] ⟨2, ![r0, m]⟩) (hc : Shape.Concatenates [⟨2, ![r0, m]⟩, ⟨2, ![R, m]⟩] ⟨2, ![N, m]⟩ 0) :
    Is2 (concatenate ⟨2, ![N, m]⟩ 0 [⟨⟨2, ![r0, m]⟩, extractStridedSlice ⟨2, ![r0, m]⟩ ![0, 0] x hs⟩, ⟨⟨2, ![R, m]⟩, y⟩] hc) g := by
  intro a b
  by_cases ha : a.val < r0
  · rw [concatenate_pair_apply_left 0 _ _ hc (ix2 a b) rfl (ix2 ⟨a.val, ha⟩ b) (by intro k; fin_cases k <;> rfl),
      extractStridedSlice_apply _ _ hs _ (ix2 a b) (by intro k; fin_cases k <;> simp [ix2]), hx a b, hfg a b ha b.isLt]
  · rw [concatenate_pair_apply_right 0 _ _ hc (ix2 a b) rfl rfl (ix2 ⟨a.val - r0, by omega⟩ b)
      (by intro k hk; fin_cases k; exacts [absurd rfl hk, rfl]) (by show a.val - r0 + r0 = a.val; omega), hy _ b]
    exact congrArg (fun n => ((g n b : ℝ) : EReal)) (by show r0 + (a.val - r0) = a.val; omega)

/-- The rows from `r0` on. -/
theorem low_is {N m r0 R : ℕ} {x : (⟨2, ![N, m]⟩ : Shape).Idx → EReal} {f : ℕ → ℕ → ℝ} (hx : Is2 x f) (hN : r0 + R = N)
    (hs : (⟨2, ![N, m]⟩ : Shape).Slices ![r0, 0] ⟨2, ![R, m]⟩) :
    Is2 (extractStridedSlice ⟨2, ![R, m]⟩ ![r0, 0] x hs) fun a b => f (r0 + a) b := by
  intro a b
  rw [extractStridedSlice_apply _ _ hs _ (ix2 ⟨r0 + a.val, by omega⟩ b) (by intro k; fin_cases k <;> simp [ix2]), hx _ b]

end Cert.SbFwdIdeal.Hand

end
-- ==== Proof.SbFwdPoint.lean ====
/-
The stick-breaking attention forwards: a grid point's tiles one after the other, as real numbers.
-/
module

public import proofs.«01_k».proof.Proof.SbFwdTile

@[expose] public section

set_option maxRecDepth 16384

noncomputable section

namespace Cert.SbFwdIdeal.Hand

open Cert.SbFwdIdeal.Gen
open Idealize.ShloMosaic Idealize.ShloMosaic.TcCoe Idealize.ShloMosaic.Tactic
open Cert.SbIdeal.Hand (Is2 coe_sum slt_iff select_slt sp scl zz l1 am aw aft)

/-! ## Sums over the positions from one on -/

theorem ico_fin (f : ℕ → ℝ) (s0 : ℕ) (h : s0 + 256 ≤ 2048) :
    ∑ s ∈ Finset.Ico s0 2048, f s = ∑ s ∈ Finset.Ico (s0 + 256) 2048, f s + ∑ s : Fin 256, f (s0 + s) := by
  rw [← Finset.sum_Ico_consecutive f (Nat.le_add_right s0 256) h, Finset.sum_Ico_eq_sum_range, Nat.add_sub_cancel_left, Finset.sum_range, add_comm]

theorem ico_tail (f : ℕ → ℝ) (s0 b : ℕ) (h : s0 + 256 ≤ 2048) (hb : b < 256) :
    ∑ s ∈ Finset.Ico (s0 + 256) 2048, f s + ∑ x : Fin 256, f (s0 + x) * (if b < x.val then 1 else 0) = ∑ s ∈ Finset.Ico (s0 + b + 1) 2048, f s := by
  have e := ico_fin (fun x => f x * (if s0 + b < x then 1 else 0)) s0 h
  have e1 : ∑ s ∈ Finset.Ico (s0 + 256) 2048, f s * (if s0 + b < s then 1 else 0) = ∑ s ∈ Finset.Ico (s0 + 256) 2048, f s :=
    Finset.sum_congr rfl fun x hx => by rw [if_pos (by have := (Finset.mem_Ico.1 hx).1; omega), mul_one]
  have e2 : ∑ x : Fin 256, f (s0 + x) * (if s0 + b < s0 + x.val then 1 else 0) = ∑ x : Fin 256, f (s0 + x) * (if b < x.val then 1 else 0) :=
    Finset.sum_congr rfl fun x _ => by simp only [Nat.add_lt_add_iff_left]
  rw [e1, e2, ← Finset.sum_Ico_consecutive _ (by omega : s0 ≤ s0 + b + 1) (by omega : s0 + b + 1 ≤ 2048),
    Finset.sum_eq_zero (fun x hx => by rw [if_neg (by have := (Finset.mem_Ico.1 hx).2; omega), mul_zero]), zero_add] at e
  rw [← e]
  exact Finset.sum_congr rfl fun x hx => by rw [if_pos (by have := (Finset.mem_Ico.1 hx).1; omega), mul_one]

/-! ## What the tiles have added up -/

variable (P : ℕ → ℕ → ℝ) (h : ℕ)

/-- The carried sum of row `t` after the positions from `s0` on. -/
def CC (s0 t : ℕ) : ℝ := ∑ s ∈ Finset.Ico s0 2048, l1 P h t s
/-- The weight of position `s` in row `t`. -/
def ww (t s : ℕ) : ℝ := if s < t then Real.exp (-sp (-zz P h t s) + CC P h (s + 1) t) else 0
/-- The result's row `t` after the positions from `s0` on. -/
def AA (s0 t d : ℕ) : ℝ := ∑ s ∈ Finset.Ico s0 2048, ww P h t s * P s (5120 + (128 * h + d))

theorem CC_none (s0 t : ℕ) (ht : t ≤ s0) : CC P h s0 t = 0 :=
  Finset.sum_eq_zero fun s hs => if_neg (by have := (Finset.mem_Ico.1 hs).1; omega)
theorem AA_none (s0 t d : ℕ) (ht : t ≤ s0) : AA P h s0 t d = 0 :=
  Finset.sum_eq_zero fun s hs => by rw [ww, if_neg (by have := (Finset.mem_Ico.1 hs).1; omega), zero_mul]

/-- All the positions taken, the result is the reference's. -/
theorem AA_all (t d : ℕ) : AA P h 0 t d = ∑ s : Fin 2048, am P h t s * P s (5120 + (128 * h + d)) := by
  unfold AA
  rw [Finset.sum_Ico_eq_sum_range, Finset.sum_range]
  refine Finset.sum_congr rfl fun s _ => ?_
  simp only [zero_add]
  refine congrArg₂ _ ?_ rfl
  unfold ww am aw
  have e : CC P h (s.val + 1) t = aft P h t s := by
    unfold CC aft
    have e1 : ∑ n : Fin 2048, (if 0 ≤ s.val + (n : ℕ) ∧ s.val + (n : ℕ) - 0 < 2048 then l1 P h t (s + n - 0) else 0) = ∑ x ∈ Finset.Ico s.val 2048, l1 P h t x := by
      rw [Finset.sum_Ico_eq_sum_range, ← Finset.sum_range (fun n => if 0 ≤ s.val + n ∧ s.val + n - 0 < 2048 then l1 P h t (s.val + n - 0) else 0)]
      refine (Finset.sum_subset (Finset.range_mono (Nat.sub_le _ _)) fun n _ hn => if_neg fun hh => hn (Finset.mem_range.2 (by omega))).symm.trans
        (Finset.sum_congr rfl fun n hn => ?_)
      have := Finset.mem_range.1 hn
      exact if_pos ⟨Nat.zero_le _, by omega⟩
    rw [e1, Finset.sum_eq_sum_Ico_succ_bot s.isLt]
    ring
  rw [e]

variable {P h} {R r0 s0 t0 : ℕ} {T : Rows R} {M : FVec Ideal ⟨2, ![R, 256]⟩ .f32 → FVec Ideal ⟨2, ![R, 256]⟩ .f32}
  {p : ℕ → ℕ → Prop} [∀ a b, Decidable (p a b)]
  {q : FVec Ideal ⟨2, ![R, 128]⟩ .bf16} {k v : FVec Ideal S256x128 .bf16} {c : FVec Ideal ⟨2, ![R, 1]⟩ .f32} {o : FVec Ideal ⟨2, ![R, 128]⟩ .f32}

/-- One tile: rows `t0 + a`, positions `s0 + b`. -/
theorem tile_is (hs : s0 + 256 ≤ 2048) (hM : Masks M p) (hp : ∀ a b, a < R → b < 256 → (p a b ↔ s0 + b < t0 + a))
    (hq : Is2 q fun a d => P (t0 + a) (3072 + (128 * h + d))) (hk : Is2 k fun b d => P (s0 + b) (4096 + (128 * h + d)))
    (hv : Is2 v fun b d => P (s0 + b) (5120 + (128 * h + d))) (hc : Is2 c fun a _ => CC P h (s0 + 256) (t0 + a))
    (ho : Is2 o fun a d => AA P h (s0 + 256) (t0 + a) d) :
    Is2 (cT T M c q k) (fun a _ => CC P h s0 (t0 + a)) ∧ Is2 (aT T M c o q k v) fun a d => AA P h s0 (t0 + a) d := by
  have hz : Is2 (zT T q k) fun a b => zz P h (t0 + a) (s0 + b) := zT_is hq hk
  have hl : ∀ a b, a < R → b < 256 → (if p a b then -sp (zz P h (t0 + a) (s0 + b)) else 0) = l1 P h (t0 + a) (s0 + b) := fun a b ha hb => by
    unfold l1; simp only [hp a b ha hb]
  refine ⟨(cT_is hM hz hc).congr fun a b ha _ => ?_, (aT_is hM hz hc ho hv).congr fun a d ha _ => ?_⟩
  · exact (congrArg₂ _ rfl (Finset.sum_congr rfl fun (s : Fin 256) _ => hl a s ha s.isLt)).trans (ico_fin (l1 P h (t0 + a)) s0 hs).symm
  · refine (congrArg₂ _ rfl (Finset.sum_congr rfl fun s _ => congrArg₂ _ ?_ rfl)).trans
      (ico_fin (fun s => ww P h (t0 + a) s * P s (5120 + (128 * h + d))) s0 hs).symm
    unfold ww
    simp only [hp a s ha s.isLt]
    by_cases hh : s0 + s.val < t0 + a
    · rw [if_pos hh, if_pos hh]
      refine congrArg (fun x => Real.exp (-sp (-zz P h (t0 + a) (s0 + s)) + x)) ?_
      refine (congrArg₂ _ rfl (Finset.sum_congr rfl fun x _ => congrArg₂ _ ?_ rfl)).trans (ico_tail (l1 P h (t0 + a)) s0 s hs s.isLt)
      exact hl a x ha x.isLt
    · rw [if_neg hh, if_neg hh]

/-! ## The tiles of the diagonal -/

/-- Below the diagonal, `n` positions to the right. -/
def mk (n : BitVec 32) : IVec S1024x256 1 :=
  cmpi .slt (addi (iota .tc S1024x256 32 [1] iota_S1024x256_d1_w32) (broadcast S1024x256 n)) (iota .tc S1024x256 32 [0] iota_S1024x256_d0_w32)

/-- The mask of the rows from `r0` on. -/
def mkT (R r0 : ℕ) (n : BitVec 32) (hs : S1024x256.Slices ![r0, 0] ⟨2, ![R, 256]⟩) (z : FVec Ideal ⟨2, ![R, 256]⟩ .f32) : FVec Ideal ⟨2, ![R, 256]⟩ .f32 :=
  select (extractStridedSlice ⟨2, ![R, 256]⟩ ![r0, 0] (mk n) hs) z (broadcast ⟨2, ![R, 256]⟩ (Scalar.ofBits .f32 0x00000000#32 : Ideal .f32))
/-- The mask of all the rows. -/
def mkA (n : BitVec 32) (z : FVec Ideal S1024x256 .f32) : FVec Ideal S1024x256 .f32 :=
  select (mk n) z (broadcast S1024x256 (Scalar.ofBits .f32 0x00000000#32 : Ideal .f32))

theorem mk_sel (n : ℕ) (hn : n < 1024) (a : Fin 1024) (b : Fin 256) (x : EReal) :
    Scalar.select (mk (BitVec.ofNat 32 n) (ix2 a b)) x (0 : EReal) = if n + b.val < a.val then x else 0 := by
  pointwise [mk]
  simp (disch := omega) only [IntOp.addi, ← BitVec.ofNat_add, select_slt]
  simp only [Nat.add_comm]

theorem mkT_is (n : ℕ) (hn : n < 1024) (hR : r0 + R = 1024) (hs : S1024x256.Slices ![r0, 0] ⟨2, ![R, 256]⟩) :
    Masks (mkT R r0 (BitVec.ofNat 32 n) hs) fun a b => n + b < r0 + a := by
  intro z a b
  have e : mkT R r0 (BitVec.ofNat 32 n) hs z (ix2 a b)
      = Scalar.select (extractStridedSlice ⟨2, ![R, 256]⟩ ![r0, 0] (mk (BitVec.ofNat 32 n)) hs (ix2 a b)) (z (ix2 a b)) (Ideal.ofBits .f32 0x00000000#32) := rfl
  rw [e, extractStridedSlice_apply _ _ hs _ (ix2 ⟨r0 + a.val, by omega⟩ b) (by intro k; fin_cases k <;> simp [ix2]), Ideal.ofBits_zero_f32]
  exact mk_sel n hn _ b _

theorem mkA_is (n : ℕ) (hn : n < 1024) : Masks (mkA (BitVec.ofNat 32 n)) fun a b => n + b < a := by
  intro z a b
  have e : mkA (BitVec.ofNat 32 n) z (ix2 a b) = Scalar.select (mk (BitVec.ofNat 32 n) (ix2 a b)) (z (ix2 a b)) (Ideal.ofBits .f32 0x00000000#32) := rfl
  rw [e, Ideal.ofBits_zero_f32]
  exact mk_sel n hn a b _

theorem id_is : Masks (R := R) id fun _ _ => True := fun z a b => (if_pos trivial).symm

section Diag
variable (T) (M)
variable (h1 : S1024x1.Slices ![0, 0] ⟨2, ![r0, 1]⟩) (h2 : S1024x1.Slices ![r0, 0] ⟨2, ![R, 1]⟩)
  (h3 : Shape.Concatenates [⟨2, ![r0, 1]⟩, ⟨2, ![R, 1]⟩] S1024x1 0) (h4 : S1024x128.Slices ![r0, 0] ⟨2, ![R, 128]⟩)
  (h5 : S1024x128.Slices ![0, 0] ⟨2, ![r0, 128]⟩) (h6 : Shape.Concatenates [⟨2, ![r0, 128]⟩, ⟨2, ![R, 128]⟩] S1024x128 0)
variable (c : FVec Ideal S1024x1 .f32) (o : FVec Ideal S1024x128 .f32) (q : FVec Ideal S1024x128 .bf16) (k v : FVec Ideal S256x128 .bf16)

/-- The carried sums after a tile of the rows from `r0` on. -/
def cD : FVec Ideal S1024x1 .f32 :=
  concatenate S1024x1 0 [⟨⟨2, ![r0, 1]⟩, extractStridedSlice ⟨2, ![r0, 1]⟩ ![0, 0] c h1⟩,
    ⟨⟨2, ![R, 1]⟩, cT T M (extractStridedSlice ⟨2, ![R, 1]⟩ ![r0, 0] c h2) (extractStridedSlice ⟨2, ![R, 128]⟩ ![r0, 0] q h4) k⟩] h3
/-- The result after it. -/
def aD : FVec Ideal S1024x128 .f32 :=
  concatenate S1024x128 0 [⟨⟨2, ![r0, 128]⟩, extractStridedSlice ⟨2, ![r0, 128]⟩ ![0, 0] o h5⟩,
    ⟨⟨2, ![R, 128]⟩, aT T M (extractStridedSlice ⟨2, ![R, 1]⟩ ![r0, 0] c h2) (extractStridedSlice ⟨2, ![R, 128]⟩ ![r0, 0] o h4)
      (extractStridedSlice ⟨2, ![R, 128]⟩ ![r0, 0] q h4) k v⟩] h6

variable {T M c o q k v}
theorem diag_is {i : ℕ} (hR : r0 + R = 1024) (hs : 1024 * i + r0 + 256 ≤ 2048) (hM : Masks M fun a b => r0 + b < r0 + a)
    (hq : Is2 q fun a d => P (1024 * i + a) (3072 + (128 * h + d))) (hk : Is2 k fun b d => P (1024 * i + r0 + b) (4096 + (128 * h + d)))
    (hv : Is2 v fun b d => P (1024 * i + r0 + b) (5120 + (128 * h + d))) (hc : Is2 c fun a _ => CC P h (1024 * i + r0 + 256) (1024 * i + a))
    (ho : Is2 o fun a d => AA P h (1024 * i + r0 + 256) (1024 * i + a) d) :
    Is2 (cD T M h1 h2 h3 h4 c q k) (fun a _ => CC P h (1024 * i + r0) (1024 * i + a))
      ∧ Is2 (aD T M h2 h4 h5 h6 c o q k v) fun a d => AA P h (1024 * i + r0) (1024 * i + a) d := by
  have hh := tile_is (T := T) (t0 := 1024 * i + r0) hs hM (fun a b _ _ => by omega)
    ((low_is hq hR h4).congr fun a d _ _ => by rw [Nat.add_assoc (1024 * i) r0 a]) hk hv ((low_is hc hR h2).congr fun a d _ _ => by rw [Nat.add_assoc (1024 * i) r0 a])
    ((low_is ho hR h4).congr fun a d _ _ => by rw [Nat.add_assoc (1024 * i) r0 a])
  refine ⟨cat_is hc (hh.1.congr fun a b _ _ => by rw [Nat.add_assoc (1024 * i) r0 a]) (fun a b ha _ => ?_) hR h1 h3,
    cat_is ho (hh.2.congr fun a b _ _ => by rw [Nat.add_assoc (1024 * i) r0 a]) (fun a b ha _ => ?_) hR h5 h6⟩
  · rw [CC_none P h _ _ (by omega), CC_none P h _ _ (by omega)]
  · rw [AA_none P h _ _ _ (by omega), AA_none P h _ _ _ (by omega)]

end Diag

/-! ## A grid point -/

section Point
variable (q : FVec Ideal S1024x128 .bf16) (k v k' v' : Fin 4 → FVec Ideal S256x128 .bf16)

def c4 : FVec Ideal S1024x1 .f32 := broadcast S1024x1 (Scalar.ofBits .f32 0x00000000#32 : Ideal .f32)
def a4 : FVec Ideal S1024x128 .f32 := broadcast S1024x128 (Scalar.ofBits .f32 0x00000000#32 : Ideal .f32)
abbrev M3 := mkT 256 768 768#32 slices_S1024x256_o768_0_S256x256
abbrev M2 := mkT 512 512 512#32 slices_S1024x256_o512_0_S512x256
abbrev M1 := mkT 768 256 256#32 slices_S1024x256_o256_0_S768x256
def c3 := cD R256 M3 slices_S1024x1_o0_0_S768x1 slices_S1024x1_o768_0_S256x1 concatenates_S768x1_S256x1_S1024x1_d0 slices_S1024x128_o768_0_S256x128 c4 q (k 3)
def a3 := aD R256 M3 slices_S1024x1_o768_0_S256x1 slices_S1024x128_o768_0_S256x128 slices_S1024x128_o0_0_S768x128 concatenates_S768x128_S256x128_S1024x128_d0 c4 a4 q (k 3) (v 3)
def c2 := cD R512 M2 slices_S1024x1_o0_0_S512x1 slices_S1024x1_o512_0_S512x1 concatenates_S512x1_S512x1_S1024x1_d0 slices_S1024x128_o512_0_S512x128 (c3 q k) q (k 2)
def a2 := aD R512 M2 slices_S1024x1_o512_0_S512x1 slices_S1024x128_o512_0_S512x128 slices_S1024x128_o0_0_S512x128 concatenates_S512x128_S512x128_S1024x128_d0 (c3 q k) (a3 q k v) q (k 2) (v 2)
def c1 := cD R768 M1 slices_S1024x1_o0_0_S256x1 slices_S1024x1_o256_0_S768x1 concatenates_S256x1_S768x1_S1024x1_d0 slices_S1024x128_o256_0_S768x128 (c2 q k) q (k 1)
def a1 := aD R768 M1 slices_S1024x1_o256_0_S768x1 slices_S1024x128_o256_0_S768x128 slices_S1024x128_o0_0_S256x128 concatenates_S256x128_S768x128_S1024x128_d0 (c2 q k) (a2 q k v) q (k 1) (v 1)
def c0 := cT R1024 (mkA 0#32) (c1 q k) q (k 0)
def a0 := aT R1024 (mkA 0#32) (c1 q k) (a1 q k v) q (k 0) (v 0)
/-- The four tiles left of the diagonal block. -/
def cL3 := cT R1024 id (c0 q k) q (k' 3)
def aL3 := aT R1024 id (c0 q k) (a0 q k v) q (k' 3) (v' 3)
def cL2 := cT R1024 id (cL3 q k k') q (k' 2)
def aL2 := aT R1024 id (cL3 q k k') (aL3 q k v k' v') q (k' 2) (v' 2)
def cL1 := cT R1024 id (cL2 q k k') q (k' 1)
def aL1 := aT R1024 id (cL2 q k k') (aL2 q k v k' v') q (k' 1) (v' 1)
def aL0 := aT R1024 id (cL1 q k k') (aL1 q k v k' v') q (k' 0) (v' 0)

variable {q k v k' v'} {i : ℕ}

theorem sweep_is (hi : i < 2) (hq : Is2 q fun a d => P (1024 * i + a) (3072 + (128 * h + d)))
    (hk : ∀ j : Fin 4, Is2 (k j) fun b d => P (1024 * i + 256 * j.val + b) (4096 + (128 * h + d)))
    (hv : ∀ j : Fin 4, Is2 (v j) fun b d => P (1024 * i + 256 * j.val + b) (5120 + (128 * h + d))) :
    Is2 (c0 q k) (fun a _ => CC P h (1024 * i) (1024 * i + a)) ∧ Is2 (a0 q k v) fun a d => AA P h (1024 * i) (1024 * i + a) d := by
  have h0 : (Scalar.ofBits .f32 0x00000000#32 : Ideal .f32) = (((0 : ℝ)) : EReal) := Ideal.ofBits_zero_f32
  have e4 : Is2 c4 fun a _ => CC P h (1024 * i + 768 + 256) (1024 * i + a) := fun a b => by
    dsimp only; rw [CC_none P h _ _ (by omega)]; exact h0
  have f4 : Is2 a4 fun a d => AA P h (1024 * i + 768 + 256) (1024 * i + a) d := fun a b => by
    dsimp only; rw [AA_none P h _ _ _ (by omega)]; exact h0
  obtain ⟨e3, f3⟩ := diag_is (T := R256) (M := M3) slices_S1024x1_o0_0_S768x1 slices_S1024x1_o768_0_S256x1 concatenates_S768x1_S256x1_S1024x1_d0
    slices_S1024x128_o768_0_S256x128 slices_S1024x128_o0_0_S768x128 concatenates_S768x128_S256x128_S1024x128_d0 (by omega) (by omega)
    (mkT_is 768 (by omega) (by omega) _) hq (hk 3) (hv 3) e4 f4
  obtain ⟨e2, f2⟩ := diag_is (r0 := 512) (T := R512) (M := M2) slices_S1024x1_o0_0_S512x1 slices_S1024x1_o512_0_S512x1 concatenates_S512x1_S512x1_S1024x1_d0
    slices_S1024x128_o512_0_S512x128 slices_S1024x128_o0_0_S512x128 concatenates_S512x128_S512x128_S1024x128_d0 (by omega) (by omega)
    (mkT_is 512 (by omega) (by omega) _) hq (hk 2) (hv 2) e3 f3
  obtain ⟨e1, f1⟩ := diag_is (r0 := 256) (T := R768) (M := M1) slices_S1024x1_o0_0_S256x1 slices_S1024x1_o256_0_S768x1 concatenates_S256x1_S768x1_S1024x1_d0
    slices_S1024x128_o256_0_S768x128 slices_S1024x128_o0_0_S256x128 concatenates_S256x128_S768x128_S1024x128_d0 (by omega) (by omega)
    (mkT_is 256 (by omega) (by omega) _) hq (hk 1) (hv 1) e2 f2
  exact tile_is (T := R1024) (s0 := 1024 * i) (t0 := 1024 * i) (by omega) (mkA_is 0 (by omega)) (fun a b _ _ => by omega) hq (hk 0) (hv 0) e1 f1

/-- A point of the first block of queries. -/
theorem first_is (hq : Is2 q fun a d => P a (3072 + (128 * h + d)))
    (hk : ∀ j : Fin 4, Is2 (k j) fun b d => P (256 * j.val + b) (4096 + (128 * h + d)))
    (hv : ∀ j : Fin 4, Is2 (v j) fun b d => P (256 * j.val + b) (5120 + (128 * h + d))) :
    Is2 (a0 q k v) fun a d => AA P h 0 a d := by
  have := (sweep_is (P := P) (h := h) (i := 0) (q := q) (k := k) (v := v) (by omega) (by simpa using hq) (by simpa using hk) (by simpa using hv)).2
  simpa using this

/-- A point of the second: its tiles on the diagonal, then the four of the block to the left. -/
theorem second_is (hq : Is2 q fun a d => P (1024 + a) (3072 + (128 * h + d)))
    (hk : ∀ j : Fin 4, Is2 (k j) fun b d => P (1024 + 256 * j.val + b) (4096 + (128 * h + d)))
    (hv : ∀ j : Fin 4, Is2 (v j) fun b d => P (1024 + 256 * j.val + b) (5120 + (128 * h + d)))
    (hk' : ∀ j : Fin 4, Is2 (k' j) fun b d => P (256 * j.val + b) (4096 + (128 * h + d)))
    (hv' : ∀ j : Fin 4, Is2 (v' j) fun b d => P (256 * j.val + b) (5120 + (128 * h + d))) :
    Is2 (aL0 q k v k' v') fun a d => AA P h 0 (1024 + a) d := by
  obtain ⟨e, f⟩ := sweep_is (P := P) (h := h) (i := 1) (q := q) (k := k) (v := v) (by omega) hq hk hv
  obtain ⟨e3, f3⟩ := tile_is (T := R1024) (s0 := 768) (t0 := 1024) (by omega) id_is (fun a b _ hb => iff_of_true trivial (by omega)) hq (hk' 3) (hv' 3) e f
  obtain ⟨e2, f2⟩ := tile_is (T := R1024) (s0 := 512) (t0 := 1024) (by omega) id_is (fun a b _ hb => iff_of_true trivial (by omega)) hq (hk' 2) (hv' 2) e3 f3
  obtain ⟨e1, f1⟩ := tile_is (T := R1024) (s0 := 256) (t0 := 1024) (by omega) id_is (fun a b _ hb => iff_of_true trivial (by omega)) hq (hk' 1) (hv' 1) e2 f2
  exact (tile_is (T := R1024) (s0 := 0) (t0 := 1024) (by omega) id_is (fun a b _ hb => iff_of_true trivial (by omega)) hq (hk' 0) (hv' 0) e1 f1).2

end Point

end Cert.SbFwdIdeal.Hand

end
-- ==== Proof.SbBlocks.lean ====
/-
What the blocks of a grid point hold: the host operations before the launch compute the saved output, weights and
complements in the reference's own terms, and a block is read at its place in the array.
-/
module

public import proofs.«01_k».proof.Proof.SbRefVal
public import Idealize.ShloMosaic.Lib.StableHlo.ReadAt
public import Idealize.ShloMosaic.Lib.Pointwise
public import Idealize.ShloMosaic.Lib.Tactic
public import Idealize.ShloMosaic.Lib.VecWindow
public import Idealize.ShloMosaic.Lib.Pipeline.ValueKit

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD) {P D : ℕ → ℕ → ℝ}

/-! ## What the host hands the kernel -/

theorem V33 : (V m c main_v33 : (⟨S2048x1024, .f32⟩ : BufTy).Contents (Elt Ideal)) = SbRefIdeal.Read.val_main_v33 (F := Ideal) (m ((c : Thread nD τ).loc main_arg0)) := by
  unfold V
  after_reads_simp
  rfl

theorem V36 (h j : Fin 8) (t : Fin 2048) (s : Fin 256) :
    (V m c main_v36 : (⟨S8x8x2048x256, .bf16⟩ : BufTy).Contents (Elt Ideal)) (ix4 h j t s) = SbRefIdeal.Read.val_main_v30_0 (F := Ideal) (m ((c : Thread nD τ).loc main_arg0)) (ix3 h t ⟨j.val * 256 + s.val, by omega⟩) := by
  have e : (V m c main_v36 : (⟨S8x8x2048x256, .bf16⟩ : BufTy).Contents (Elt Ideal)) = transpose S8x8x2048x256 [0, 2, 1, 3] (shapeCast S8x2048x8x256 (truncf (F := Ideal) .bf16 (SbRefIdeal.Read.val_main_v30_0 (F := Ideal) (m ((c : Thread nD τ).loc main_arg0))) bitsLt_bf16_f32) shapeCasts_S8x2048x2048_S8x2048x8x256) transposes_S8x2048x8x256_S8x8x2048x256_0_2_1_3 := by
    unfold V
    after_reads_simp
    rfl
  rw [e]
  pointwise

theorem V40 (h j : Fin 8) (t : Fin 2048) (s : Fin 256) :
    (V m c main_v40 : (⟨S8x8x2048x256, .bf16⟩ : BufTy).Contents (Elt Ideal)) (ix4 h j t s) = Ideal.exp (SbRefIdeal.Read.val_main_v27_0 (F := Ideal) (m ((c : Thread nD τ).loc main_arg0)) (ix3 h t ⟨j.val * 256 + s.val, by omega⟩)) := by
  have e : (V m c main_v40 : (⟨S8x8x2048x256, .bf16⟩ : BufTy).Contents (Elt Ideal)) = transpose S8x8x2048x256 [0, 2, 1, 3] (shapeCast S8x2048x8x256 (truncf (F := Ideal) .bf16 (Host.exp (SbRefIdeal.Read.val_main_v27_0 (F := Ideal) (m ((c : Thread nD τ).loc main_arg0)))) bitsLt_bf16_f32) shapeCasts_S8x2048x2048_S8x2048x8x256) transposes_S8x2048x8x256_S8x8x2048x256_0_2_1_3 := by
    unfold V
    after_reads_simp
    rfl
  rw [e]
  pointwise

/-! ## The blocks of a grid point -/

theorem idx_in (t : Fin cfg0.N) : win0_0.index t = ![t.val % 4, 12 + t.val / 4] ∧ win0_1.index t = ![0, 16 + t.val / 4]
    ∧ win0_2.index t = ![0, 20 + t.val / 4] ∧ win0_3.index t = ![t.val % 4, t.val / 4] ∧ win0_4.index t = ![t.val / 4, 0, t.val % 4, 0]
    ∧ win0_5.index t = ![t.val / 4, 0, t.val % 4, 0] ∧ win0_6.index t = ![t.val % 4, t.val / 4] := by
  revert t; decide +kernel

theorem coord1 (t : Fin cfg0.N) : (grid0.coords t 1).val = t.val % 4 := by
  revert t; decide +kernel

/-- What a point of the grid works on: head pair `h`, block of rows `i`. -/
def pt (P D : ℕ → ℕ → ℝ) (h i : ℕ) : Pt where
  i := i
  Q t c := P (512 * i + t) (3072 + (256 * h + c))
  Do t c := D (512 * i + t) (256 * h + c)
  K s c := P s (4096 + (256 * h + c))
  V s c := P s (5120 + (256 * h + c))
  A hh t s := am P (2 * h + hh) (512 * i + t) s
  B hh t s := bb P (2 * h + hh) (512 * i + t) s
  causal hh t s _ hs := by rw [am, if_neg (by omega)]

variable (t : Fin cfg0.N) (hP : Is2 (n := 2048) (m := 8192) (m ((c : Thread nD τ).loc main_arg0)) P) (hD : Is2 (n := 2048) (m := 1024) (m ((c : Thread nD τ).loc main_arg1)) D)

include hP in
theorem blk0 : Is2 (n := 512) (m := 256) (iblk m c 0 t) (pt P D (t.val / 4) (t.val % 4)).Q := by
  intro a b
  have hN : t.val < 16 := t.isLt
  refine Eq.trans ?_ (hP ⟨512 * (t.val % 4) + a.val, by omega⟩ ⟨3072 + (256 * (t.val / 4) + b.val), by omega⟩)
  unfold iblk
  rw [show V m c (Pipeline.arrRef spec0 0) = m ((c : Thread nD τ).loc main_arg0) from V_main_arg0 m c]
  blk_ext [(idx_in t).1]

include hP in
theorem blk1 : Is2 (n := 2048) (m := 256) (iblk m c 1 t) (pt P D (t.val / 4) (t.val % 4)).K := by
  intro a b
  have hN : t.val < 16 := t.isLt
  refine Eq.trans ?_ (hP ⟨a.val, by omega⟩ ⟨4096 + (256 * (t.val / 4) + b.val), by omega⟩)
  unfold iblk
  rw [show V m c (Pipeline.arrRef spec0 1) = m ((c : Thread nD τ).loc main_arg0) from V_main_arg0 m c]
  blk_ext [(idx_in t).2.1]

include hP in
theorem blk2 : Is2 (n := 2048) (m := 256) (iblk m c 2 t) (pt P D (t.val / 4) (t.val % 4)).V := by
  intro a b
  have hN : t.val < 16 := t.isLt
  refine Eq.trans ?_ (hP ⟨a.val, by omega⟩ ⟨5120 + (256 * (t.val / 4) + b.val), by omega⟩)
  unfold iblk
  rw [show V m c (Pipeline.arrRef spec0 2) = m ((c : Thread nD τ).loc main_arg0) from V_main_arg0 m c]
  blk_ext [(idx_in t).2.2.1]

include hD in
theorem blk6 : Is2 (n := 512) (m := 256) (iblk m c 6 t) (pt P D (t.val / 4) (t.val % 4)).Do := by
  intro a b
  have hN : t.val < 16 := t.isLt
  refine Eq.trans ?_ (hD ⟨512 * (t.val % 4) + a.val, by omega⟩ ⟨256 * (t.val / 4) + b.val, by omega⟩)
  unfold iblk
  rw [show V m c (Pipeline.arrRef spec0 6) = m ((c : Thread nD τ).loc main_arg1) from V_main_arg1 m c]
  blk_ext [(idx_in t).2.2.2.2.2.2]

theorem sum_causal (f : ℕ → ℝ) {n k : ℕ} (hn : n ≤ k) (h : ∀ s, n ≤ s → f s = 0) : ∑ s : Fin k, f s = ∑ s ∈ Finset.range n, f s := by
  rw [Fin.sum_univ_eq_sum_range f k]
  refine (Finset.sum_subset (Finset.range_subset_range.mpr hn) fun s _ hs => h s ?_).symm
  simpa using hs

/-- The saved output, read over the block's causal columns. -/
theorem o_blk (h i a b : ℕ) (hi : i < 4) (ha : a < 512) (hb : b < 256) :
    ∑ s : Fin 2048, am P ((256 * h + b) / 128) (512 * i + a) s * P s (5120 + (128 * ((256 * h + b) / 128) + (256 * h + b) % 128))
      = ∑ s ∈ Finset.range (pt P D h i).N, (pt P D h i).A (b / 128) a s * (pt P D h i).V s b := by
  rw [Nat.div_add_mod, show (256 * h + b) / 128 = 2 * h + b / 128 by omega]
  refine sum_causal (fun s => am P (2 * h + b / 128) (512 * i + a) s * P s (5120 + (256 * h + b))) (n := 512 * i + 512) (by omega) fun s hs => ?_
  rw [am, if_neg (by omega), zero_mul]

theorem read3 (x : (⟨S2048x1024, .f32⟩ : BufTy).Contents (Elt Ideal)) (hx : V m c (Pipeline.arrRef spec0 3) = x) (a : Fin 512) (b : Fin 256) (hN : t.val < 16) :
    iblk m c 3 t (ix2 a b) = x (ix2 (⟨512 * (t.val % 4) + a.val, by omega⟩ : Fin 2048) (⟨256 * (t.val / 4) + b.val, by omega⟩ : Fin 1024)) := by
  unfold iblk
  rw [hx]
  blk_ext [(idx_in t).2.2.2.1]

include hP in
theorem blk3 : Is2 (n := 512) (m := 256) (iblk m c 3 t) fun a b =>
    ∑ s ∈ Finset.range (pt P D (t.val / 4) (t.val % 4)).N, (pt P D (t.val / 4) (t.val % 4)).A (b / 128) a s * (pt P D (t.val / 4) (t.val % 4)).V s b := by
  intro a b
  have hN : t.val < 16 := t.isLt
  have e := o_is (m ((c : Thread nD τ).loc main_arg0)) hP ⟨512 * (t.val % 4) + a.val, by omega⟩ ⟨256 * (t.val / 4) + b.val, by omega⟩
  have e' := o_blk (P := P) (D := D) (t.val / 4) (t.val % 4) a.val b.val (by omega) a.isLt b.isLt
  exact (read3 m c t _ (V33 m c) a b hN).trans (e.trans (congrArg (fun x : ℝ => (x : EReal)) e'))

theorem read4 (x : (⟨S8x8x2048x256, .bf16⟩ : BufTy).Contents (Elt Ideal)) (hx : V m c (Pipeline.arrRef spec0 4) = x) (h : Fin 2) (j : Fin 8) (a : Fin 512) (s : Fin 256) (hN : t.val < 16) :
    iblk m c 4 t (ix4 h j a s) = x (ix4 (⟨2 * (t.val / 4) + h.val, by omega⟩ : Fin 8) j (⟨512 * (t.val % 4) + a.val, by omega⟩ : Fin 2048) s) := by
  unfold iblk
  rw [hx]
  blk_ext [(idx_in t).2.2.2.2.1]

include hP in
theorem blk4 : Is4 (n0 := 2) (n1 := 8) (n := 512) (m := 256) (iblk m c 4 t) fun h j a s => (pt P D (t.val / 4) (t.val % 4)).A h a (256 * j + s) := by
  intro h j a s
  have hN : t.val < 16 := t.isLt
  have e := am_is (m ((c : Thread nD τ).loc main_arg0)) hP ⟨2 * (t.val / 4) + h.val, by omega⟩ ⟨512 * (t.val % 4) + a.val, by omega⟩ ⟨j.val * 256 + s.val, by omega⟩
  have e' := V36 m c ⟨2 * (t.val / 4) + h.val, by omega⟩ j ⟨512 * (t.val % 4) + a.val, by omega⟩ s
  refine (read4 m c t _ rfl h j a s hN).trans (e'.trans (e.trans (congrArg (fun x : ℝ => (x : EReal)) ?_)))
  show am P _ _ (j.val * 256 + s.val) = am P _ _ (256 * j.val + s.val)
  rw [Nat.mul_comm j.val]

theorem read5 (x : (⟨S8x8x2048x256, .bf16⟩ : BufTy).Contents (Elt Ideal)) (hx : V m c (Pipeline.arrRef spec0 5) = x) (h : Fin 2) (j : Fin 8) (a : Fin 512) (s : Fin 256) (hN : t.val < 16) :
    iblk m c 5 t (ix4 h j a s) = x (ix4 (⟨2 * (t.val / 4) + h.val, by omega⟩ : Fin 8) j (⟨512 * (t.val % 4) + a.val, by omega⟩ : Fin 2048) s) := by
  unfold iblk
  rw [hx]
  blk_ext [(idx_in t).2.2.2.2.2.1]

include hP in
theorem blk5 : Is4 (n0 := 2) (n1 := 8) (n := 512) (m := 256) (iblk m c 5 t) fun h j a s => (pt P D (t.val / 4) (t.val % 4)).B h a (256 * j + s) := by
  intro h j a s
  have hN : t.val < 16 := t.isLt
  have e := bb_is (m ((c : Thread nD τ).loc main_arg0)) hP ⟨2 * (t.val / 4) + h.val, by omega⟩ ⟨512 * (t.val % 4) + a.val, by omega⟩ ⟨j.val * 256 + s.val, by omega⟩
  have e' := V40 m c ⟨2 * (t.val / 4) + h.val, by omega⟩ j ⟨512 * (t.val % 4) + a.val, by omega⟩ s
  refine (read5 m c t _ rfl h j a s hN).trans (e'.trans (e.trans (congrArg (fun x : ℝ => (x : EReal)) ?_)))
  show bb P _ _ (j.val * 256 + s.val) = bb P _ _ (256 * j.val + s.val)
  rw [Nat.mul_comm j.val]

include hP hD in
/-- The blocks of a grid point hold what the point works on. -/
theorem blks : Bk (pt P D (t.val / 4) (t.val % 4)) (grid0.coords t) (iblk m c 0 t) (iblk m c 1 t) (iblk m c 2 t) (iblk m c 3 t) (iblk m c 4 t) (iblk m c 5 t) (iblk m c 6 t) where
  i := (coord1 t).symm
  q := blk0 m c t hP
  k := blk1 m c t hP
  v := blk2 m c t hP
  o := blk3 m c t hP
  a := blk4 m c t hP
  b := blk5 m c t hP
  dO := blk6 m c t hD

end Cert.SbIdeal.Hand
-- ==== Proof.SbFold.lean ====
/-
What the buffers hold after every point of the grid, and from it the three results entry by entry.
-/
module

public import proofs.«01_k».proof.Proof.SbBlocks
public import Idealize.ShloMosaic.Lib.Pointwise
public import Idealize.ShloMosaic.Lib.Tactic
public import Idealize.ShloMosaic.Lib.VecWindow
public import Idealize.ShloMosaic.Lib.Pipeline.ValueKit

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD) {P D : ℕ → ℕ → ℝ}
variable (hP : Is2 (n := 2048) (m := 8192) (m ((c : Thread nD τ).loc main_arg0)) P) (hD : Is2 (n := 2048) (m := 1024) (m ((c : Thread nD τ).loc main_arg1)) D)
/-! ## The fold over the grid -/

/-- What stands in the buffers after a point. -/
structure St (P D : ℕ → ℕ → ℝ) (h i : ℕ) (x : Vec Ideal S512x256 .bf16 × Vec Ideal S2048x256 .bf16 × Vec Ideal S2048x256 .bf16 × Vec Ideal S2048x256 .f32 × Vec Ideal S2048x256 .f32) : Prop where
  k : Is2 (n := 2048) (m := 256) x.2.2.2.1 fun s d => ∑ j ∈ Finset.range (i + 1), (pt P D h j).CK s d
  v : Is2 (n := 2048) (m := 256) x.2.2.2.2 fun s d => ∑ j ∈ Finset.range (i + 1), (pt P D h j).CV s d
  q : Is2 (n := 512) (m := 256) x.1 fun a d => (pt P D h i).DQ (d / 128) 0 a (d % 128) * scl
  dk : i = 3 → Is2 (n := 2048) (m := 256) x.2.1 fun s d => (∑ j ∈ Finset.range 4, (pt P D h j).CK s d) * scl
  dv : i = 3 → Is2 (n := 2048) (m := 256) x.2.2.1 fun s d => ∑ j ∈ Finset.range 4, (pt P D h j).CV s d

theorem St.of {h i : ℕ} {x7 : Vec Ideal S512x256 .bf16} {x8 x9 : Vec Ideal S2048x256 .bf16} {x12 x13 : Vec Ideal S2048x256 .f32}
    (k : Is2 (n := 2048) (m := 256) x12 fun s d => ∑ j ∈ Finset.range (i + 1), (pt P D h j).CK s d)
    (v : Is2 (n := 2048) (m := 256) x13 fun s d => ∑ j ∈ Finset.range (i + 1), (pt P D h j).CV s d)
    (q : Is2 (n := 512) (m := 256) x7 fun a d => (pt P D h i).DQ (d / 128) 0 a (d % 128) * scl)
    (dk : i = 3 → Is2 (n := 2048) (m := 256) x8 fun s d => (∑ j ∈ Finset.range 4, (pt P D h j).CK s d) * scl)
    (dv : i = 3 → Is2 (n := 2048) (m := 256) x9 fun s d => ∑ j ∈ Finset.range 4, (pt P D h j).CV s d) :
    St P D h i (x7, x8, x9, x12, x13) := ⟨k, v, q, dk, dv⟩

theorem acc_first (h : ℕ) (f : Pt → ℕ → ℕ → ℝ) (hz : ∀ (p : Pt) (s d : ℕ), p.N ≤ s → f p s d = 0) (s d : ℕ) :
    (pt P D h 0).acc (fun _ _ => 0) (f (pt P D h 0)) 0 0 s d = ∑ j ∈ Finset.range (0 + 1), f (pt P D h j) s d := by
  rw [Pt.acc_all _ _ _ (hz _ s d), zero_add, Finset.sum_range_one]

theorem acc_next (h i : ℕ) (f : Pt → ℕ → ℕ → ℝ) (hz : ∀ (p : Pt) (s d : ℕ), p.N ≤ s → f p s d = 0) (s d : ℕ) :
    (pt P D h (i + 1)).acc (fun s d => ∑ j ∈ Finset.range (i + 1), f (pt P D h j) s d) (f (pt P D h (i + 1))) 0 0 s d
      = ∑ j ∈ Finset.range (i + 1 + 1), f (pt P D h j) s d := by
  rw [Pt.acc_all _ _ _ (hz _ s d)]
  exact (Finset.sum_range_succ (fun j => f (pt P D h j) s d) (i + 1)).symm

include hP hD

theorem st_first (t : Fin cfg0.N) (h0 : t.val % 4 = 0) (h1 : ¬ t.val % 4 = 3) : St P D (t.val / 4) 0 (outsAt0 m c t.val t.isLt) := by
  rw [outsAt0_A m c t h0 h1, caseA]
  have hb := blks m c t hP hD
  rw [h0] at hb
  have r := pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) hb
  obtain ⟨rk, rv, rq⟩ := r
  refine St.of ?_ ?_ ?_ (fun h => absurd h (by decide)) (fun h => absurd h (by decide))
  · unfold sout0_A_0
    exact rk.congr fun s d _ _ => acc_first _ Pt.CK Pt.CK_zero s d
  · unfold sout0_A_1
    exact rv.congr fun s d _ _ => acc_first _ Pt.CV Pt.CV_zero s d
  · unfold out0_A_7
    exact rq VO0_7 VO0_7.junk

theorem st_mid (t : Fin cfg0.N) (i : ℕ) (hi : t.val % 4 = i + 1) (h0 : ¬ t.val % 4 = 0) (h1 : ¬ t.val % 4 = 3)
    (s : St P D (t.val / 4) i (outsAt0 m c (t.val - 1) (Nat.lt_of_le_of_lt (Nat.sub_le _ _) t.isLt))) : St P D (t.val / 4) (i + 1) (outsAt0 m c t.val t.isLt) := by
  rw [outsAt0_B m c t h0 h1, caseB]
  have hb := blks m c t hP hD
  rw [hi] at hb
  obtain ⟨rk, rv, rq⟩ := pointB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ hb s.k s.v
  refine St.of ?_ ?_ ?_ (fun h => absurd h (by clear rk rv rq hb s; omega)) (fun h => absurd h (by clear rk rv rq hb s; omega))
  · unfold sout0_B_0
    exact rk.congr fun s d _ _ => acc_next _ _ Pt.CK Pt.CK_zero s d
  · unfold sout0_B_1
    exact rv.congr fun s d _ _ => acc_next _ _ Pt.CV Pt.CV_zero s d
  · unfold out0_B_7
    exact rq VO0_7 VO0_7.junk

theorem st_last (t : Fin cfg0.N) (hi : t.val % 4 = 2 + 1) (h0 : ¬ t.val % 4 = 0) (h1 : t.val % 4 = 3)
    (s : St P D (t.val / 4) 2 (outsAt0 m c (t.val - 1) (Nat.lt_of_le_of_lt (Nat.sub_le _ _) t.isLt))) : St P D (t.val / 4) (2 + 1) (outsAt0 m c t.val t.isLt) := by
  rw [outsAt0_C m c t h0 h1, caseC]
  have hb := blks m c t hP hD
  rw [hi] at hb
  obtain ⟨rk, rv, rq, rdk, rdv⟩ := pointC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) _ _ hb s.k s.v
  refine St.of ?_ ?_ ?_ (fun _ => ?_) (fun _ => ?_)
  · unfold sout0_C_0
    exact rk.congr fun s d _ _ => acc_next _ _ Pt.CK Pt.CK_zero s d
  · unfold sout0_C_1
    exact rv.congr fun s d _ _ => acc_next _ _ Pt.CV Pt.CV_zero s d
  · unfold out0_C_7
    exact rq VO0_7 VO0_7.junk
  · unfold out0_C_8
    exact (rdk VO0_8 VO0_8.junk).congr fun s d _ _ => congrArg (· * scl) (acc_next _ 2 Pt.CK Pt.CK_zero s d)
  · unfold out0_C_9
    exact (rdv VO0_9 VO0_9.junk).congr fun s d _ _ => acc_next _ 2 Pt.CV Pt.CV_zero s d

/-- After every point. -/
theorem st_all : ∀ (n : ℕ) (hn : n < cfg0.N), St P D (n / 4) (n % 4) (outsAt0 m c n hn) := by
  intro n
  induction n with
  | zero => intro hn; exact st_first m c hP hD ⟨0, hn⟩ rfl (by show ¬ 0 % 4 = 3; omega)
  | succ n ih =>
    intro hn
    have hp := ih (by omega)
    by_cases h0 : (n + 1) % 4 = 0
    · have s := st_first m c hP hD ⟨n + 1, hn⟩ h0 (by show ¬ (n + 1) % 4 = 3; omega)
      rw [h0]; exact s
    · have hd : n / 4 = (n + 1) / 4 := by omega
      rw [hd] at hp
      by_cases h1 : (n + 1) % 4 = 3
      · rw [show n % 4 = 2 by omega] at hp
        have s := st_last m c hP hD ⟨n + 1, hn⟩ h1 h0 h1 hp
        rw [h1]; exact s
      · have s := st_mid m c hP hD ⟨n + 1, hn⟩ (n % 4) (by show (n + 1) % 4 = _; omega) h0 h1 hp
        rw [show (n + 1) % 4 = n % 4 + 1 by omega]; exact s

/-! ## The three results, entry by entry -/

theorem G7_is : Is2 (n := 2048) (m := 1024) (G7 m c) fun r d => (pt P D (d / 256) (r / 512)).DQ (d % 256 / 128) 0 (r % 512) (d % 256 % 128) * scl := by
  intro r d
  have hlt : pt7Of (ix2 r d) < cfg0.N := by
    show 1 * (r.val / 512 - 0) + 4 * (d.val / 256 - 0) < 16
    have := r.isLt; have := d.isLt; omega
  rw [G7, dif_pos hlt, ← outsAt0_sweep m c _ hlt]
  have e := (st_all m c hP hD _ hlt).q ⟨r.val % 512, by omega⟩ ⟨d.val % 256, by omega⟩
  have hp : pt7Of (ix2 r d) = r.val / 512 + 4 * (d.val / 256) := by
    show 1 * (r.val / 512 - 0) + 4 * (d.val / 256 - 0) = _; omega
  have hr := r.isLt
  rw [show pt7Of (ix2 r d) / 4 = d.val / 256 by omega, show pt7Of (ix2 r d) % 4 = r.val / 512 by omega] at e
  refine Eq.trans (congrArg _ ?_) e
  funext k; fin_cases k <;> rfl

end Cert.SbIdeal.Hand
-- ==== Proof.Sb.lean ====
/-
The backward of stick-breaking attention: the kernel's three results are the reference's, entry by entry, over real
numbers.
-/
module

public import proofs.«01_k».proof.Proof.SbFold
public import proofs.«01_k».proof.Proof.Finite
public import proofs.«01_k».proof.Defs
public import proofs.«01_k».proof.Proof.Gen.Pre_finite_sb
public import Idealize.ShloMosaic.Lib.Pointwise
public import Idealize.ShloMosaic.Lib.Tactic
public import Idealize.ShloMosaic.Lib.VecWindow
public import Idealize.ShloMosaic.Lib.Pipeline.ValueKit

@[expose] public section

set_option maxRecDepth 16384

noncomputable section

namespace Cert.SbIdeal.Hand

open Cert.SbIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD) {P D : ℕ → ℕ → ℝ}
variable (hP : Is2 (n := 2048) (m := 8192) (m ((c : Thread nD τ).loc main_arg0)) P) (hD : Is2 (n := 2048) (m := 1024) (m ((c : Thread nD τ).loc main_arg1)) D)

/-! ## The two other results, entry by entry -/
include hP hD

theorem G8_is : Is2 (n := 2048) (m := 1024) (G8 m c) fun s d => (∑ j ∈ Finset.range 4, (pt P D (d / 256) j).CK s (d % 256)) * scl := by
  intro r d
  have hp : pt8Of (ix2 r d) = 4 * (d.val / 256) + 3 := by
    show 4 * (4 * (r.val / 2048 - 0) + 1 * (d.val / 256 - 0)) + 3 = _
    have := r.isLt; omega
  have hlt : pt8Of (ix2 r d) < cfg0.N := by
    rw [hp]; show _ < 16
    have := d.isLt; omega
  rw [G8, dif_pos hlt, ← outsAt0_sweep m c _ hlt]
  have e := (st_all m c hP hD _ hlt).dk (by rw [hp]; omega) ⟨r.val % 2048, by omega⟩ ⟨d.val % 256, by omega⟩
  rw [show pt8Of (ix2 r d) / 4 = d.val / 256 by omega] at e
  refine Eq.trans (congrArg _ ?_) (e.trans (congrArg (fun x : ℝ => (x : EReal)) ?_))
  · funext k; fin_cases k <;> rfl
  · dsimp only; rw [Nat.mod_eq_of_lt r.isLt]

theorem G9_is : Is2 (n := 2048) (m := 1024) (G9 m c) fun s d => ∑ j ∈ Finset.range 4, (pt P D (d / 256) j).CV s (d % 256) := by
  intro r d
  have hp : pt9Of (ix2 r d) = 4 * (d.val / 256) + 3 := by
    show 4 * (4 * (r.val / 2048 - 0) + 1 * (d.val / 256 - 0)) + 3 = _
    have := r.isLt; omega
  have hlt : pt9Of (ix2 r d) < cfg0.N := by
    rw [hp]; show _ < 16
    have := d.isLt; omega
  rw [G9, dif_pos hlt, ← outsAt0_sweep m c _ hlt]
  have e := (st_all m c hP hD _ hlt).dv (by rw [hp]; omega) ⟨r.val % 2048, by omega⟩ ⟨d.val % 256, by omega⟩
  rw [show pt9Of (ix2 r d) / 4 = d.val / 256 by omega] at e
  refine Eq.trans (congrArg _ ?_) (e.trans (congrArg (fun x : ℝ => (x : EReal)) ?_))
  · funext k; fin_cases k <;> rfl
  · dsimp only; rw [Nat.mod_eq_of_lt r.isLt]

omit hP hD

/-! ## The kernel's numbers are the reference's -/

/-- The window sum is the running sum. -/
theorem sum_window (f : ℕ → ℝ) {s : ℕ} (hs : s < 2048) :
    ∑ n : Fin 2048, (if 2047 ≤ s + n.val ∧ s + n.val - 2047 < 2048 then f (s + n.val - 2047) else 0) = ∑ x ∈ Finset.range (s + 1), f x := by
  rw [Fin.sum_univ_eq_sum_range (fun n => if 2047 ≤ s + n ∧ s + n - 2047 < 2048 then f (s + n - 2047) else 0) 2048,
    show 2048 = (2047 - s) + (s + 1) by omega, Finset.sum_range_add, Finset.sum_eq_zero fun n hn => if_neg (by have := Finset.mem_range.mp hn; omega), zero_add]
  refine Finset.sum_congr rfl fun x hx => ?_
  have := Finset.mem_range.mp hx
  rw [if_pos (by omega), show s + (2047 - s + x) - 2047 = x by omega]

theorem gm_eq (h hh i t s : ℕ) : (pt P D h i).G hh t s = gm P D (2 * h + hh) (512 * i + t) s := by
  rw [gm, Pt.G]
  show (∑ d : Fin 128, D (512 * i + t) (256 * h + (128 * hh + d.val)) * P s (5120 + (256 * h + (128 * hh + d.val)))) * am P (2 * h + hh) (512 * i + t) s = _
  rw [am]
  by_cases hs : s < 512 * i + t
  · rw [if_pos hs, if_pos hs]
    refine congrArg (· * _) (Finset.sum_congr rfl fun d _ => ?_)
    rw [show 128 * (2 * h + hh) + d.val = 256 * h + (128 * hh + d.val) by omega]
  · rw [if_neg hs, if_neg hs, mul_zero, zero_mul]

theorem dz_zero (h t s : ℕ) (hs : ¬ s < t) : dz P D h t s = 0 := by
  rw [dz, gm, pre, if_neg hs, if_neg hs]; ring

theorem dz_eq (h hh i t s : ℕ) (hs : s < 2048) : (pt P D h i).DZ hh t s = dz P D (2 * h + hh) (512 * i + t) s := by
  rw [Pt.DZ]
  show (if s < 512 * i + t then _ else _) = _
  by_cases hst : s < 512 * i + t
  · rw [if_pos hst, Pt.Z, dz, pre, if_pos hst, sum_window _ hs, Finset.sum_range_succ, gm_eq]
    simp only [gm_eq]
    show gm P D _ _ s - bb P (2 * h + hh) (512 * i + t) s * _ = _
    ring
  · rw [if_neg hst, dz_zero _ _ _ hst]

theorem dq_eq (t c : ℕ) (ht : t < 2048) : (pt P D (c / 256) (t / 512)).DQ (c % 256 / 128) 0 (t % 512) (c % 256 % 128) * scl
    = ∑ s : Fin 2048, dz P D (c / 128) t s * scl * P s (4096 + (128 * (c / 128) + c % 128)) := by
  rw [sum_causal (fun s => dz P D (c / 128) t s * scl * P s (4096 + (128 * (c / 128) + c % 128))) (n := 512 * (t / 512) + 512) (by omega)
    fun s hs => by rw [dz_zero _ _ _ (by omega), zero_mul, zero_mul], Pt.DQ, Finset.sum_mul]
  rw [show 256 * 0 = 0 from rfl, Finset.range_eq_Ico]
  refine Finset.sum_congr rfl fun s hs => ?_
  have hs := (Finset.mem_Ico.mp hs).2
  rw [dz_eq _ _ _ _ _ (by omega), show 2 * (c / 256) + c % 256 / 128 = c / 128 by omega, Nat.div_add_mod t 512]
  show _ * P s (4096 + (256 * (c / 256) + (128 * (c % 256 / 128) + c % 256 % 128))) * scl = _
  rw [show 256 * (c / 256) + (128 * (c % 256 / 128) + c % 256 % 128) = 128 * (c / 128) + c % 128 by omega]
  ring

theorem sum_blocks (f : ℕ → ℝ) : ∑ t : Fin 2048, f t = ∑ j ∈ Finset.range 4, ∑ a : Fin 512, f (512 * j + a) := by
  rw [Fin.sum_univ_eq_sum_range f 2048, show 2048 = 4 * 512 from rfl, Finset.sum_range_mul_split]
  refine Finset.sum_congr rfl fun j _ => ?_
  rw [← Fin.sum_univ_eq_sum_range (fun b => f (j * 512 + b)) 512, Nat.mul_comm j]

theorem dk_eq (s c : ℕ) (hs : s < 2048) : (∑ j ∈ Finset.range 4, (pt P D (c / 256) j).CK s (c % 256)) * scl
    = ∑ t : Fin 2048, dz P D (c / 128) t s * scl * P t (3072 + (128 * (c / 128) + c % 128)) := by
  rw [sum_blocks fun t => dz P D (c / 128) t s * scl * P t (3072 + (128 * (c / 128) + c % 128)), Finset.sum_mul]
  refine Finset.sum_congr rfl fun j _ => ?_
  rw [Pt.CK, Finset.sum_mul]
  refine Finset.sum_congr rfl fun a _ => ?_
  rw [dz_eq _ _ _ _ _ hs, show 2 * (c / 256) + c % 256 / 128 = c / 128 by omega]
  show _ * P (512 * j + a.val) (3072 + (256 * (c / 256) + c % 256)) * scl = _
  rw [Nat.div_add_mod c 256, Nat.div_add_mod c 128]
  ring

theorem dv_eq (s c : ℕ) : ∑ j ∈ Finset.range 4, (pt P D (c / 256) j).CV s (c % 256)
    = ∑ t : Fin 2048, D t (128 * (c / 128) + c % 128) * am P (c / 128) t s := by
  rw [sum_blocks fun t => D t (128 * (c / 128) + c % 128) * am P (c / 128) t s]
  refine Finset.sum_congr rfl fun j _ => ?_
  rw [Pt.CV]
  refine Finset.sum_congr rfl fun a _ => ?_
  show am P (2 * (c / 256) + c % 256 / 128) (512 * j + a.val) s * D (512 * j + a.val) (256 * (c / 256) + c % 256) = _
  rw [Nat.div_add_mod c 256, Nat.div_add_mod c 128, show 2 * (c / 256) + c % 256 / 128 = c / 128 by omega]
  ring

theorem Is2.ext {n k : ℕ} {x y : (⟨2, ![n, k]⟩ : Shape).Idx → EReal} {f g : ℕ → ℕ → ℝ} (hx : Is2 x f) (hy : Is2 y g)
    (e : ∀ a b, a < n → b < k → f a b = g a b) : x = y := by
  funext i
  have hi : ∃ (a : Fin n) (b : Fin k), i = ix2 a b := ⟨i 0, i 1, by funext a; fin_cases a <;> rfl⟩
  obtain ⟨a, b, rfl⟩ := hi
  rw [hx a b, hy a b, e _ _ a.isLt b.isLt]

/-- A table of real numbers for an array without infinities. -/
theorem exists_real {n k : ℕ} (x : (⟨2, ![n, k]⟩ : Shape).Idx → EReal) (h : ∀ i, x i ≠ ⊤ ∧ x i ≠ ⊥) : ∃ f : ℕ → ℕ → ℝ, Is2 x f :=
  ⟨fun a b => if e : a < n ∧ b < k then (x (ix2 ⟨a, e.1⟩ ⟨b, e.2⟩)).toReal else 0, fun a b => by
    dsimp only
    rw [dif_pos ⟨a.isLt, b.isLt⟩]; exact Finite.coe_toReal (h _)⟩

end Cert.SbIdeal.Hand

namespace Cert.SbIdeal.Claims

open Cert.SbIdeal.Gen Cert.SbIdeal.Hand
open Idealize.ShloMosaic Idealize.ShloMosaic.TcCoe
open Idealize.SL.Sem

theorem algebraic : Cert.algebraic_SbIdeal_SbRefIdeal_pre_finite_sb := by
  intro m g m' g' hpre hag
  refine ⟨fun c => G7 m c, fun c => G8 m c, fun c => G9 m c, run m g, ?_⟩
  refine (θ_run SbRefIdeal.defs _ _).mono (fun r h c => ?_) (SbRefIdeal.Value.run (F := Ideal) m' g')
  obtain ⟨P, hP⟩ := exists_real (n := 2048) (k := 8192) (m ((c : Thread nD τ).loc main_arg0)) (Finite.of_pre _ _ (hpre c).1)
  obtain ⟨D, hD⟩ := exists_real (n := 2048) (k := 1024) (m ((c : Thread nD τ).loc main_arg1)) (Finite.of_pre _ _ (hpre c).2)
  refine ⟨(h c).1.trans ?_, (h c).2.1.trans ?_, (h c).2.2.1.trans ?_, (h c).2.2.2⟩
  · rw [SbRefIdeal.Read.val_main_v60_eq]
    show SbRefIdeal.Read.val_main_v60 (F := Ideal) (m' ((c.tc : Thread SbRefIdeal.nD SbRefIdeal.τ).loc SbRefIdeal.main_arg0)) (m' ((c.tc : Thread SbRefIdeal.nD SbRefIdeal.τ).loc SbRefIdeal.main_arg1)) = G7 m c
    rw [(hag c).1, (hag c).2]
    exact (Is2.ext (G7_is m c hP hD) (dq_ref _ _ hP hD) fun t d ht _ => dq_eq t d ht).symm
  · rw [SbRefIdeal.Read.val_main_v61_eq]
    show SbRefIdeal.Read.val_main_v61 (F := Ideal) (m' ((c.tc : Thread SbRefIdeal.nD SbRefIdeal.τ).loc SbRefIdeal.main_arg0)) (m' ((c.tc : Thread SbRefIdeal.nD SbRefIdeal.τ).loc SbRefIdeal.main_arg1)) = G8 m c
    rw [(hag c).1, (hag c).2]
    exact (Is2.ext (G8_is m c hP hD) (dk_ref _ _ hP hD) fun s d hs _ => dk_eq s d hs).symm
  · rw [SbRefIdeal.Read.val_main_v62_eq]
    show SbRefIdeal.Read.val_main_v62 (F := Ideal) (m' ((c.tc : Thread SbRefIdeal.nD SbRefIdeal.τ).loc SbRefIdeal.main_arg0)) (m' ((c.tc : Thread SbRefIdeal.nD SbRefIdeal.τ).loc SbRefIdeal.main_arg1)) = G9 m c
    rw [(hag c).1, (hag c).2]
    exact (Is2.ext (G9_is m c hP hD) (dv_is _ _ hP hD) fun s d _ _ => dv_eq s d).symm

end Cert.SbIdeal.Claims

end
-- ==== Proof.SbFwd.lean ====
/-
The stick-breaking attention forwards: the result each grid point leaves, the whole result, and the claim that it is
the reference's.
-/
module

public import proofs.«01_k».proof.Proof.SbFwdPoint
public import proofs.«01_k».proof.Proof.Sb
public import proofs.«01_k».proof.Proof.Gen.Pre_finite_sbfwd
public import proofs.«01_k».proof.Proof.Gen.SbFwdRefIdeal.Read
public import Idealize.ShloMosaic.Lib.Pipeline.ValueKit

@[expose] public section

set_option maxRecDepth 16384

noncomputable section

namespace Cert.SbFwdIdeal.Hand

open Cert.SbFwdIdeal.Gen
open Idealize.ShloMosaic Idealize.ShloMosaic.TcCoe Idealize.ShloMosaic.Tactic
open Cert.SbIdeal.Hand (Is2 exists_real am)
open Idealize.SL.Sem

variable (m : (ℓ : Loc nD τ sig) → Buf (Elt Ideal) ℓ) (c : Dev nD)

/-! ## What a grid point leaves -/

theorem hz : ((![0, 0] : Fin 2 → ℕ)) = fun _ => 0 := by funext a; fin_cases a <;> rfl

/-- The rows of a tile of the diagonal block, and of one of the block to the left. -/
abbrev rD (t : Fin cfg0.N) (j : Fin 4) : Rect S2048x128 :=
  (Rect.unit (s := S2048x128) (k0_off1 (grid0.coords t) (BitVec.ofNat 32 j.val)) S256x128.size (k0_off1_inb (grid0.coords t) j))
abbrev rL (t : Fin cfg0.N) (u : Fin (k0_t1_loop (grid0.coords t)).trips) (j : Fin 4) : Rect S2048x128 :=
  (Rect.unit (s := S2048x128) (k0_off9 (grid0.coords t) u (BitVec.ofNat 32 j.val)) S256x128.size (k0_off9_inb (grid0.coords t) u j))

theorem leftO_first (t : Fin cfg0.N) (h : t.val % 2 = 0) :
    leftO m c t = a0 (iblk m c 0 t) (fun j => View.ld (iblk m c 1 t) (rD t j)) (fun j => View.ld (iblk m c 2 t) (rD t j)) := by
  rw [leftO_A m c t h]
  unfold runA0 runA
  dsimp only
  rw [View.canon_unit_zero hz]
  refine Eq.trans (b := a0 (View.readAt (Elt Ideal) (ms0 t).view (Rect.unit (s := S1024x128) ![0, 0] S1024x128.size inb_S1024x128_S1024x128_0_0).toLoadRect ((hs0 t).unread (iblk m c 0 t)))
      (fun j => View.readAt (Elt Ideal) (ms1 t).view (rD t j).toLoadRect ((hs1 t).unread (iblk m c 1 t)))
      (fun j => View.readAt (Elt Ideal) (ms2 t).view (rD t j).toLoadRect ((hs2 t).unread (iblk m c 2 t)))) rfl ?_
  simp only [View.readAt_eq_ld, (hs0 t).read_unread, (hs1 t).read_unread, (hs2 t).read_unread, View.ld_unit_zero (S := S1024x128) hz]
  rfl

theorem leftO_second (t : Fin cfg0.N) (h : ¬ t.val % 2 = 0) :
    leftO m c t = aL0 (iblk m c 0 t) (fun j => View.ld (iblk m c 1 t) (rD t j)) (fun j => View.ld (iblk m c 2 t) (rD t j))
      (fun j => View.ld (iblk m c 1 t) (rL t ⟨0, by rw [tripsB t h]; exact Nat.one_pos⟩ j)) (fun j => View.ld (iblk m c 2 t) (rL t ⟨0, by rw [tripsB t h]; exact Nat.one_pos⟩ j)) := by
  rw [leftO_B m c t h]
  unfold runB0 runB
  dsimp only
  rw [View.canon_unit_zero hz]
  refine Eq.trans (b := aL0 (View.readAt (Elt Ideal) (ms0 t).view (Rect.unit (s := S1024x128) ![0, 0] S1024x128.size inb_S1024x128_S1024x128_0_0).toLoadRect ((hs0 t).unread (iblk m c 0 t)))
      (fun j => View.readAt (Elt Ideal) (ms1 t).view (rD t j).toLoadRect ((hs1 t).unread (iblk m c 1 t)))
      (fun j => View.readAt (Elt Ideal) (ms2 t).view (rD t j).toLoadRect ((hs2 t).unread (iblk m c 2 t)))
      (fun j => View.readAt (Elt Ideal) (ms1 t).view (rL t ⟨0, by rw [tripsB t h]; exact Nat.one_pos⟩ j).toLoadRect ((hs1 t).unread (iblk m c 1 t)))
      (fun j => View.readAt (Elt Ideal) (ms2 t).view (rL t ⟨0, by rw [tripsB t h]; exact Nat.one_pos⟩ j).toLoadRect ((hs2 t).unread (iblk m c 2 t)))) (by sl_kernel_rfl) ?_
  simp only [View.readAt_eq_ld, (hs0 t).read_unread, (hs1 t).read_unread, (hs2 t).read_unread, View.ld_unit_zero (S := S1024x128) hz]
  rfl

/-! ## The blocks -/

theorem idx (t : Fin cfg0.N) : win0_0.index t = ![t.val % 2, 24 + t.val / 2] ∧ win0_1.index t = ![0, 32 + t.val / 2] ∧ win0_2.index t = ![0, 40 + t.val / 2]
    ∧ win0_3.index t = ![t.val % 2, t.val / 2] := by
  revert t; decide +kernel

theorem t_lt (t : Fin cfg0.N) : t.val < 16 := t.isLt

theorem off1_at : ∀ (t : Fin cfg0.N) (j : Fin 4), k0_off1 (grid0.coords t) (BitVec.ofNat 32 j.val) = ![1024 * (t.val % 2) + 256 * j.val, 0] := by decide +kernel
theorem off9_at : ∀ (t : Fin cfg0.N) (u : Fin (k0_t1_loop (grid0.coords t)).trips) (j : Fin 4), k0_off9 (grid0.coords t) u (BitVec.ofNat 32 j.val) = ![256 * j.val, 0] := by
  decide +kernel

theorem emb3 (a : Fin 1024) (d : Fin 128) (t : Fin cfg0.N) : ((View.whole main_v0_0).slice (win0_3.rect t)).emb (ix2 a d)
    = ix2 (⟨t.val % 2 * 1024 + a.val, by omega⟩ : Fin 2048) (⟨t.val / 2 * 128 + d.val, by have := t_lt t; omega⟩ : Fin 1024) := by
  blk_ext [idx t]

theorem read0 (t : Fin cfg0.N) (a : Fin 1024) (d : Fin 128) : iblk m c 0 t (ix2 a d) = m ((c : Thread nD τ).loc main_arg0)
    (ix2 (⟨t.val % 2 * 1024 + a.val, by omega⟩ : Fin 2048) (⟨(24 + t.val / 2) * 128 + d.val, by have := t_lt t; omega⟩ : Fin 8192)) := by
  blk_ext [iblk, V, idx t]
theorem read1 (t : Fin cfg0.N) (a : Fin 2048) (d : Fin 128) : iblk m c 1 t (ix2 a d) = m ((c : Thread nD τ).loc main_arg0)
    (ix2 a (⟨(32 + t.val / 2) * 128 + d.val, by have := t_lt t; omega⟩ : Fin 8192)) := by
  blk_ext [iblk, V, idx t]
theorem read2 (t : Fin cfg0.N) (a : Fin 2048) (d : Fin 128) : iblk m c 2 t (ix2 a d) = m ((c : Thread nD τ).loc main_arg0)
    (ix2 a (⟨(40 + t.val / 2) * 128 + d.val, by have := t_lt t; omega⟩ : Fin 8192)) := by
  blk_ext [iblk, V, idx t]

theorem ld_is {x : Vec Ideal S2048x128 .bf16} {f : ℕ → ℕ → ℝ} (hx : Is2 (n := 2048) (m := 128) x f) {off : Fin 2 → ℕ} {o : ℕ} (e : off = ![o, 0])
    (inb : ∀ a, off a + S256x128.size a ≤ S2048x128.size a) :
    Is2 (n := 256) (m := 128) ((View.ld x (Rect.unit (s := S2048x128) off S256x128.size inb) : Vec Ideal S256x128 .bf16)) fun b d => f (o + b) d := by
  subst e
  intro b d
  have h0 : o + 256 ≤ 2048 := inb 0
  have e : View.ld x (Rect.unit (s := S2048x128) ![o, 0] S256x128.size inb) (ix2 b d) = x (ix2 (⟨o + b.val, by omega⟩ : Fin 2048) d) :=
    congrArg x (funext fun k => by fin_cases k <;> exact Fin.ext (by simp [Rect.emb, Rect.unit, ix2]))
  exact e.trans (hx _ d)

variable {P : ℕ → ℕ → ℝ} (hP : Is2 (n := 2048) (m := 8192) (m ((c : Thread nD τ).loc main_arg0)) P)
include hP

theorem left_is (t : Fin cfg0.N) : Is2 (n := 1024) (m := 128) (leftO m c t) fun a d => AA P (t.val / 2) 0 (1024 * (t.val % 2) + a) d := by
  have hq : Is2 (n := 1024) (m := 128) (iblk m c 0 t) fun a d => P (1024 * (t.val % 2) + a) (3072 + (128 * (t.val / 2) + d)) := fun a d => by
    refine (read0 m c t a d).trans ((hP _ _).trans (congrArg₂ (fun x y => ((P x y : ℝ) : EReal)) ?_ ?_)) <;> dsimp only <;> omega
  have hk : Is2 (n := 2048) (m := 128) (iblk m c 1 t) fun a d => P a (4096 + (128 * (t.val / 2) + d)) := fun a d => by
    refine (read1 m c t a d).trans ((hP _ _).trans (congrArg₂ (fun x y => ((P x y : ℝ) : EReal)) rfl ?_)); dsimp only; omega
  have hv : Is2 (n := 2048) (m := 128) (iblk m c 2 t) fun a d => P a (5120 + (128 * (t.val / 2) + d)) := fun a d => by
    refine (read2 m c t a d).trans ((hP _ _).trans (congrArg₂ (fun x y => ((P x y : ℝ) : EReal)) rfl ?_)); dsimp only; omega
  have kD := fun j : Fin 4 => ld_is hk (off1_at t j) (k0_off1_inb (grid0.coords t) j)
  have vD := fun j : Fin 4 => ld_is hv (off1_at t j) (k0_off1_inb (grid0.coords t) j)
  by_cases h : t.val % 2 = 0
  · rw [leftO_first m c t h]
    simp only [h, Nat.mul_zero, Nat.zero_add] at hq kD vD ⊢
    exact first_is hq kD vD
  · rw [leftO_second m c t h]
    have h1 : t.val % 2 = 1 := by omega
    simp only [h1, Nat.mul_one] at hq kD vD ⊢
    exact second_is hq kD vD (fun j => ld_is hk (off9_at t _ j) (k0_off9_inb (grid0.coords t) _ j)) (fun j => ld_is hv (off9_at t _ j) (k0_off9_inb (grid0.coords t) _ j))

/-- The whole result. -/
theorem final3 : (dats m 0 c).arrAt 3 cfg0.N = SbFwdRefIdeal.Read.val_main_v33 (F := Ideal) (m ((c : Thread nD τ).loc main_arg0)) := by
  refine (dats m 0 c).arrAt_eq_of_covers 3 _ (by decide +kernel) fun t hf y => ?_
  blk_simp
  rw [after3]
  idx_vars y
  rw [emb3]
  refine (left_is m c hP t y0 y1).trans (Eq.trans ?_ (Cert.SbIdeal.Hand.o_is _ hP (⟨t.val % 2 * 1024 + y0.val, by omega⟩ : Fin 2048) (⟨t.val / 2 * 128 + y1.val, by have := t_lt t; omega⟩ : Fin 1024)).symm)
  refine congrArg (fun x : ℝ => (x : EReal)) ?_
  dsimp only
  rw [AA_all, show (t.val / 2 * 128 + y1.val) / 128 = t.val / 2 by omega, show (t.val / 2 * 128 + y1.val) % 128 = y1.val by omega, Nat.mul_comm 1024]

end Cert.SbFwdIdeal.Hand

namespace Cert.SbFwdIdeal.Claims

open Cert.SbFwdIdeal.Gen Cert.SbFwdIdeal.Hand
open Idealize.ShloMosaic Idealize.ShloMosaic.TcCoe
open Idealize.SL.Sem
open Cert.SbIdeal.Hand (exists_real)

theorem algebraic : Cert.algebraic_SbFwdIdeal_SbFwdRefIdeal_pre_finite_sbfwd := by
  intro m g m' g' hpre hag
  refine ⟨fun c => SbFwdRefIdeal.Read.val_main_v33 (F := Ideal) (m ((c : Thread nD τ).loc main_arg0)), ?_, ?_⟩
  · refine (θ_run defs _ _).mono (fun r h c => ?_) (run_blocks m g)
    obtain ⟨P, hP⟩ := exists_real (n := 2048) (k := 8192) (m ((c : Thread nD τ).loc main_arg0)) (Finite.of_pre _ _ (hpre c))
    exact ⟨(h c).1.trans (final3 m c hP), (h c).2⟩
  · refine (θ_run SbFwdRefIdeal.defs _ _).mono (fun r h c => ⟨(h c).1.trans ?_, (h c).2⟩) (SbFwdRefIdeal.Value.run (F := Ideal) m' g')
    rw [SbFwdRefIdeal.Read.val_main_v33_eq, hag c]

end Cert.SbFwdIdeal.Claims

end
-- ==== Proof.NormFwd.lean ====
/- The norm of the rows, a block of rows per point. -/
module

public import proofs.«01_k».proof.Defs
public import proofs.«01_k».proof.Proof.Gen.NormFwdIdeal.Value
public import proofs.«01_k».proof.Proof.Gen.NormFwdRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.NormFwdIdeal.Claims

open Cert.NormFwdIdeal Cert.NormFwdIdeal.Gen

variable (m : (ℓ : Loc nD τ sig) → Buf (Elt Ideal) ℓ)

open NormFwdRefIdeal.Read

theorem hz : (![0, 0] : Fin 2 → Nat) = fun _ => 0 := funext fun a => by fin_cases a <;> rfl

theorem pay (x : Vec Ideal S1024x1024 .f32) (g : Vec Ideal S1x1024 .f32) (a b : Fin 1024) :
    k0_pay1 x g (ix2 a b) = x (ix2 a b) * NormGrad.inv (fun k : Fin 1024 => x (ix2 a k)) * g (ix2 0 b) := by
  unfold_payloads; pointwise

theorem ref (x : FVec Ideal S2048x1024 .f32) (g : FVec Ideal S1024 .f32) (a : Fin 2048) (b : Fin 1024) :
    val_main_v13 (F := Ideal) x g (ix2 a b) = x (ix2 a b) * NormGrad.inv (fun k : Fin 1024 => x (ix2 a k)) * g (ix1 b) := by
  unfold val_main_v13 val_main_v12 val_main_v9 val_main_v8 val_main_v7 val_main_v6 val_main_v4 val_main_v2 val_main_v1 val_main_v0
  pointwise [val_main_cst, val_main_v3, val_main_cst_0, val_main_v5, val_main_cst_1, val_main_v11, val_main_v10]

theorem idx (t : Fin cfg0.N) : win0_0.index t = ![t.val, 0] ∧ win0_1.index t = ![0, 0] ∧ win0_2.index t = ![t.val, 0] := by
  revert t; decide +kernel

/-- The row of a block's element in the whole array. -/
abbrev rowOf (t : Fin cfg0.N) (a : Fin 1024) : Fin 2048 := ⟨t.val * 1024 + a.val, by have h : t.val < 2 := t.isLt; omega⟩

theorem emb (t : Fin cfg0.N) (a b : Fin 1024) : ((View.whole main_v1).slice (win0_2.rect t)).emb (ix2 a b) = ix2 (rowOf t a) b := by
  blk_ext [idx t]

/-- The arguments. -/
abbrev X0 (c : Dev nD) : FVec Ideal S2048x1024 .f32 := m ((c : Thread nD τ).loc main_arg0)
abbrev X1 (c : Dev nD) : FVec Ideal S1024 .f32 := m ((c : Thread nD τ).loc main_arg1)

variable (c : Dev nD) (t : Fin cfg0.N)

theorem read0 (a b : Fin 1024) : iblk m c 0 t (ix2 a b) = X0 m c (ix2 (rowOf t a) b) := by
  unfold iblk
  rw [show V m c (Pipeline.arrRef spec0 0) = X0 m c from V_main_arg0 m c]
  blk_ext [idx t]
theorem V1 : V m c (Pipeline.arrRef spec0 1) = shapeCast S1x1024 (X1 m c) shapeCasts_S1024_S1x1024 := by
  show V m c main_v0 = _
  unfold V; after_reads_simp; rfl
theorem read1 (b : Fin 1024) : iblk m c 1 t (ix2 0 b) = X1 m c (ix1 b) := by
  have h : iblk m c 1 t (ix2 0 b) = shapeCast S1x1024 (X1 m c) shapeCasts_S1024_S1x1024 (ix2 0 b) := by
    unfold iblk
    rw [V1]
    blk_ext [idx t]
  rw [h]; pointwise

theorem final : (dats m 0 c).arrAt 2 cfg0.N = val_main_v13 (F := Ideal) (X0 m c) (X1 m c) := by
  refine (dats m 0 c).arrAt_eq_of_covers 2 _ (by decide +kernel) fun t hf y => ?_
  blk_simp
  rw [after0_2]
  idx_vars y
  rw [emb, ref]
  unfold out0_2
  simp only [View.canon_unit_zero (S := S1024x1024) hz, View.ld_unit_zero (S := S1024x1024) hz, View.ld_unit_zero (S := S1x1024) hz]
  exact (pay _ _ y0 y1).trans (congrArg₂ (fun p q : EReal => p * q)
    (congrArg₂ (fun p q : EReal => p * q) (read0 m c t y0 y1) (congrArg NormGrad.inv (funext fun k => read0 m c t y0 k))) (read1 m c t y1))

theorem algebraic : Cert.algebraic_NormFwdIdeal_NormFwdRefIdeal := by
  intro m g m' g' _ hag
  refine ⟨fun c => val_main_v13 (F := Ideal) (X0 m c) (X1 m c), ?_, ?_⟩
  · exact (θ_run defs _ _).mono (fun r h c => ⟨(h c).1.trans (final m c), (h c).2⟩) (Value.run_blocks m g)
  · refine (θ_run NormFwdRefIdeal.defs _ _).mono (fun r h c => ⟨(h c).1.trans ?_, (h c).2⟩) (NormFwdRefIdeal.Value.run (F := Ideal) m' g')
    rw [val_main_v13_eq, (hag c).1, (hag c).2]

end Cert.NormFwdIdeal.Claims
-- ==== Proof.MemFwd.lean ====
/- The norm of the rows, a block of rows per point. -/
module

public import proofs.«01_k».proof.Defs
public import proofs.«01_k».proof.Proof.Gen.MemFwdIdeal.Value
public import proofs.«01_k».proof.Proof.Gen.MemFwdRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.MemFwdIdeal.Claims

open Cert.MemFwdIdeal Cert.MemFwdIdeal.Gen

variable (m : (ℓ : Loc nD τ sig) → Buf (Elt Ideal) ℓ)

open MemFwdRefIdeal.Read

theorem hz : (![0, 0] : Fin 2 → Nat) = fun _ => 0 := funext fun a => by fin_cases a <;> rfl

theorem pay (x : Vec Ideal S256x1024 .f32) (g : Vec Ideal S1x1024 .f32) (a : Fin 256) (b : Fin 1024) :
    k0_pay1 x g (ix2 a b) = x (ix2 a b) * NormGrad.inv (fun k : Fin 1024 => x (ix2 a k)) * g (ix2 0 b) := by
  unfold_payloads; pointwise

theorem ref (x : FVec Ideal S256x1024 .f32) (g : FVec Ideal S1024 .f32) (a : Fin 256) (b : Fin 1024) :
    val_main_v13 (F := Ideal) x g (ix2 a b) = x (ix2 a b) * NormGrad.inv (fun k : Fin 1024 => x (ix2 a k)) * g (ix1 b) := by
  unfold val_main_v13 val_main_v12 val_main_v9 val_main_v8 val_main_v7 val_main_v6 val_main_v4 val_main_v2 val_main_v1 val_main_v0
  pointwise [val_main_cst, val_main_v3, val_main_cst_0, val_main_v5, val_main_cst_1, val_main_v11, val_main_v10]

theorem idx (t : Fin cfg0.N) : win0_0.index t = ![t.val, 0] ∧ win0_1.index t = ![0, 0] ∧ win0_2.index t = ![t.val, 0] := by
  revert t; decide +kernel

/-- The row of a block's element in the whole array. -/
abbrev rowOf (t : Fin cfg0.N) (a : Fin 256) : Fin 256 := ⟨t.val * 256 + a.val, by have h : t.val < 1 := t.isLt; omega⟩

theorem emb (t : Fin cfg0.N) (a : Fin 256) (b : Fin 1024) : ((View.whole main_v1).slice (win0_2.rect t)).emb (ix2 a b) = ix2 (rowOf t a) b := by
  blk_ext [idx t]

/-- The arguments. -/
abbrev X0 (c : Dev nD) : FVec Ideal S256x1024 .f32 := m ((c : Thread nD τ).loc main_arg0)
abbrev X1 (c : Dev nD) : FVec Ideal S1024 .f32 := m ((c : Thread nD τ).loc main_arg1)

variable (c : Dev nD) (t : Fin cfg0.N)

theorem read0 (a : Fin 256) (b : Fin 1024) : iblk m c 0 t (ix2 a b) = X0 m c (ix2 (rowOf t a) b) := by
  unfold iblk
  rw [show V m c (Pipeline.arrRef spec0 0) = X0 m c from V_main_arg0 m c]
  blk_ext [idx t]
theorem V1 : V m c (Pipeline.arrRef spec0 1) = shapeCast S1x1024 (X1 m c) shapeCasts_S1024_S1x1024 := by
  show V m c main_v0 = _
  unfold V; after_reads_simp; rfl
theorem read1 (b : Fin 1024) : iblk m c 1 t (ix2 0 b) = X1 m c (ix1 b) := by
  have h : iblk m c 1 t (ix2 0 b) = shapeCast S1x1024 (X1 m c) shapeCasts_S1024_S1x1024 (ix2 0 b) := by
    unfold iblk
    rw [V1]
    blk_ext [idx t]
  rw [h]; pointwise

theorem final : (dats m 0 c).arrAt 2 cfg0.N = val_main_v13 (F := Ideal) (X0 m c) (X1 m c) := by
  refine (dats m 0 c).arrAt_eq_of_covers 2 _ (by decide +kernel) fun t hf y => ?_
  blk_simp
  rw [after0_2]
  idx_vars y
  rw [emb, ref]
  unfold out0_2
  simp only [View.canon_unit_zero (S := S256x1024) hz, View.ld_unit_zero (S := S256x1024) hz, View.ld_unit_zero (S := S1x1024) hz]
  exact (pay _ _ y0 y1).trans (congrArg₂ (fun p q : EReal => p * q)
    (congrArg₂ (fun p q : EReal => p * q) (read0 m c t y0 y1) (congrArg NormGrad.inv (funext fun k => read0 m c t y0 k))) (read1 m c t y1))

theorem algebraic : Cert.algebraic_MemFwdIdeal_MemFwdRefIdeal := by
  intro m g m' g' _ hag
  refine ⟨fun c => val_main_v13 (F := Ideal) (X0 m c) (X1 m c), ?_, ?_⟩
  · exact (θ_run defs _ _).mono (fun r h c => ⟨(h c).1.trans (final m c), (h c).2⟩) (Value.run_blocks m g)
  · refine (θ_run MemFwdRefIdeal.defs _ _).mono (fun r h c => ⟨(h c).1.trans ?_, (h c).2⟩) (MemFwdRefIdeal.Value.run (F := Ideal) m' g')
    rw [val_main_v13_eq, (hag c).1, (hag c).2]

end Cert.MemFwdIdeal.Claims
-- ==== Proof.Softmax.lean ====
/- A row of a softmax and its gradient on extended reals: two ways of writing the gradient agree when the row is of real numbers. -/
module

public import Idealize.ShloMosaic.Lib.Pointwise
public import Idealize.ShloMosaic.Lib.Tactic
public import proofs.«01_k».proof.Proof.Reals

@[expose] public section

noncomputable section

namespace Cert.Softmax

open Idealize.ShloMosaic

/-- The scale of the scores, and where the search for the greatest starts. -/
abbrev scale : EReal := Ideal.ofBits .f32 1031798784#32
abbrev low : EReal := Ideal.ofBits .f32 4286578688#32

variable {n : ℕ}

/-- The greatest entry of a row, the exponentials, their sum, the probabilities, and the gradient with respect to the unscaled scores. -/
def big (z : Fin n → EReal) : EReal := Finset.univ.fold max low z
def ex (z : Fin n → EReal) (i : Fin n) : EReal := Ideal.exp (z i - big z)
def total (z : Fin n → EReal) : EReal := ∑ k, ex z k
def prob (z : Fin n → EReal) (i : Fin n) : EReal := Ideal.div (ex z i) (total z)
def grad (z d : Fin n → EReal) (i : Fin n) : EReal := prob z i * (d i - ∑ k, d k * prob z k) * scale

theorem scale_real : ∃ r : ℝ, scale = r := ⟨_, by simp [scale, Ideal.ofBits, Ideal.ieee]; rfl⟩
theorem low_bot : low = ⊥ := by simp [low, Ideal.ofBits, Ideal.ieee]
theorem max_low (x : EReal) : max low x = x := by rw [low_bot]; exact bot_sup_eq x

/-- The greatest of a row of real numbers is a real number. -/
theorem big_real (z : Fin n → EReal) (j : Fin n) (h : ∀ k, ∃ r : ℝ, z k = r) : ∃ r : ℝ, big z = r := by
  refine ⟨_, (EReal.coe_toReal (ne_of_lt ?_) (ne_of_gt ?_)).symm⟩
  · refine (Finset.fold_max_lt ⊤).2 ⟨by rw [low_bot]; exact bot_lt_top, fun k _ => ?_⟩
    obtain ⟨r, hr⟩ := h k
    rw [hr]; exact EReal.coe_lt_top r
  · obtain ⟨r, hr⟩ := h j
    refine lt_of_lt_of_le (EReal.bot_lt_coe r) ?_
    rw [← hr]
    exact (Finset.le_fold_max _).2 (Or.inr ⟨j, Finset.mem_univ _, le_rfl⟩)

/-- The exponentials of a row of real numbers are real numbers with a positive sum. -/
theorem total_real (z : Fin n → EReal) (j : Fin n) (h : ∀ k, ∃ r : ℝ, z k = r) :
    ∃ (E : Fin n → ℝ) (S : ℝ), 0 < S ∧ (∀ k, ex z k = E k) ∧ total z = S := by
  obtain ⟨M, hM⟩ := big_real z j h
  choose r hr using h
  have he : ∀ k, ex z k = (Real.exp (r k - M) : ℝ) := fun k => by
    unfold ex; rw [hM, hr k, ← EReal.coe_sub, Ideal.exp_coe]
  refine ⟨fun k => Real.exp (r k - M), ∑ k, Real.exp (r k - M), Finset.sum_pos (fun k _ => Real.exp_pos _) ⟨j, Finset.mem_univ _⟩, he, ?_⟩
  unfold total
  rw [Finset.sum_congr rfl fun k _ => he k]
  exact Reals.sum_real _ _

/-- The gradient as a sum of the quotient's two derivatives. -/
theorem forms (z d : Fin n → EReal) (i : Fin n) (h : ∀ k, ∃ r : ℝ, z k = r) :
    (Ideal.div (d i) (total z) + -∑ k, d k * Ideal.div 1 (total z * total z) * ex z k) * ex z i * scale = grad z d i := by
  obtain ⟨E, S, hS, hE, hT⟩ := total_real z i h
  have hc : 0 ≤ 1 / S := by positivity
  have hp : ∀ k, prob z k = (E k : EReal) * ((1 / S : ℝ) : EReal) := fun k => by
    unfold prob; rw [hT, Ideal.div_coe hS.ne', hE]
  have hq : ∀ k, d k * Ideal.div 1 (total z * total z) * ex z k = ((1 / S : ℝ) : EReal) * (d k * prob z k) := fun k => by
    rw [hp, hT, hE, ← EReal.coe_mul, Ideal.div_coe (mul_ne_zero hS.ne' hS.ne'), one_mul,
      show (1 / (S * S) : ℝ) = 1 / S * (1 / S) by field_simp, EReal.coe_mul]
    ac_rfl
  unfold grad
  rw [Finset.sum_congr rfl fun k _ => hq k, ← Reals.mul_sum _ hc, ← mul_neg, hT, Ideal.div_coe hS.ne', mul_comm (d i),
    ← EReal.left_distrib_of_nonneg_of_ne_top (EReal.coe_nonneg.2 hc) (EReal.coe_ne_top _), hp i, hE, ← sub_eq_add_neg]
  congr 1
  ac_rfl

end Cert.Softmax

end
-- ==== Proof.Xattn.lean ====
/- The gradients of the cross attention, a head per point. -/
module

public import proofs.«01_k».proof.Defs
public import proofs.«01_k».proof.Proof.Gen.XattnIdeal.Value
public import proofs.«01_k».proof.Proof.Gen.XattnRefIdeal.Read
public import proofs.«01_k».proof.Proof.Finite
public import proofs.«01_k».proof.Proof.Gen.Pre_finite_xattn
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.XattnIdeal.Claims

open Cert.XattnIdeal Cert.XattnIdeal.Gen

variable (m : (ℓ : Loc nD τ sig) → Buf (Elt Ideal) ℓ)

open XattnRefIdeal.Read

theorem hz : (![0, 0] : Fin 2 → Nat) = fun _ => 0 := funext fun a => by fin_cases a <;> rfl

theorem pay7 (u : Vec Ideal S2048x256 .bf16) (v : Vec Ideal S256x256 .bf16) (a : Fin 2048) (b : Fin 256) :
    k0_pay7 u v (ix2 a b) = Softmax.prob (fun k : Fin 256 => (∑ x, u (ix2 a x) * v (ix2 k x)) * Softmax.scale) b := by
  unfold_payloads; pointwise; rfl
theorem pay8 (u : Vec Ideal S2048x256 .bf16) (v w : Vec Ideal S256x256 .bf16) (x : Vec Ideal S2048x256 .bf16) (a : Fin 2048) (b : Fin 256) :
    k0_pay8 u v w x (ix2 a b) = Softmax.grad (fun k : Fin 256 => (∑ y, u (ix2 a y) * v (ix2 k y)) * Softmax.scale) (fun k => ∑ y, x (ix2 a y) * w (ix2 k y)) b := by
  unfold k0_pay8; pointwise; simp only [pay7]; rfl
theorem pay9 (u : Vec Ideal S2048x256 .bf16) (v w : Vec Ideal S256x256 .bf16) (x : Vec Ideal S2048x256 .bf16) (a : Fin 2048) (b : Fin 256) :
    k0_pay9 u v w x (ix2 a b) = ∑ k, k0_pay8 u v w x (ix2 a k) * v (ix2 k b) := by
  unfold k0_pay9; pointwise
theorem pay10 (u : Vec Ideal S2048x256 .bf16) (v w : Vec Ideal S256x256 .bf16) (x : Vec Ideal S2048x256 .bf16) (a b : Fin 256) :
    k0_pay10 u v w x (ix2 a b) = ∑ k, k0_pay8 u v w x (ix2 k a) * u (ix2 k b) := by
  unfold k0_pay10; pointwise
theorem pay11 (u : Vec Ideal S2048x256 .bf16) (v : Vec Ideal S256x256 .bf16) (x : Vec Ideal S2048x256 .bf16) (a b : Fin 256) :
    k0_pay11 u v x (ix2 a b) = ∑ k, k0_pay7 u v (ix2 k a) * x (ix2 k b) := by
  unfold k0_pay11; pointwise
theorem pay51 (x : FVec Ideal S256x256 .f32) : k0_pay5 (k0_pay1 x) = x := by
  funext i; unfold k0_pay5 k0_pay1; pointwise
theorem pay62 (x : FVec Ideal S256x256 .f32) : k0_pay6 (k0_pay2 x) = x := by
  funext i; unfold k0_pay6 k0_pay2; pointwise

section Reference

variable (x0 : FVec Ideal S2048x1024 .bf16) (x1 : FVec Ideal S256x2048 .bf16) (x2 : FVec Ideal S2048x1024 .bf16)

/-- Where a head's entries stand in a row of queries and in the two halves of a row of keys and values. -/
abbrev at_ (h : Fin 4) (b : Fin 256) : Fin 1024 := ⟨h.val * 256 + b.val, by omega⟩
abbrev ky (h : Fin 4) (b : Fin 256) : Fin 2048 := ⟨h.val * 256 + b.val, by omega⟩
abbrev vl (h : Fin 4) (b : Fin 256) : Fin 2048 := ⟨1024 + (h.val * 256 + b.val), by omega⟩

/-- A row of the scores, a row of the gradient with respect to the probabilities, and an entry of the gradient with respect to the products. -/
abbrev zr (h : Fin 4) (a : Fin 2048) (k : Fin 256) : EReal := (∑ x, x0 (ix2 a (at_ h x)) * x1 (ix2 k (ky h x))) * Softmax.scale
abbrev dr (h : Fin 4) (a : Fin 2048) (k : Fin 256) : EReal := ∑ x, x2 (ix2 a (at_ h x)) * x1 (ix2 k (vl h x))
abbrev ds (h : Fin 4) (a : Fin 2048) (k : Fin 256) : EReal := Softmax.grad (zr x0 x1 h a) (dr x1 x2 h a) k

theorem maxRow (v : FVec Ideal XattnRefIdeal.S4x2048x256 .f32) (c : FVec Ideal XattnRefIdeal.S_ .f32) (h : Fin 4) (a : Fin 2048) :
    Host.reduce FloatOps.maximumf v c XattnRefIdeal.Gen.reducesTo_S4x2048x256_S4x2048_d2 XattnRefIdeal.Gen.h_S_ (ix2 h a)
      = Finset.univ.fold max (c (Shape.Idx.first XattnRefIdeal.Gen.h_S_)) fun k : Fin 256 => v (ix3 h a k) := by
  simp only [pointwise]
theorem v9 (h : Fin 4) (a : Fin 2048) (b : Fin 256) : val_main_v9 (F := Ideal) x0 x1 (ix3 h a b) = zr x0 x1 h a b := by
  unfold val_main_v9 val_main_v7
  pointwise [val_main_v8, val_main_cst, val_main_v5, val_main_v3, val_main_v2, val_main_v1, val_main_v0]
theorem v10 (h : Fin 4) (a : Fin 2048) : val_main_v10 (F := Ideal) x0 x1 (ix2 h a) = Softmax.big (zr x0 x1 h a) := by
  unfold val_main_v10
  exact (maxRow _ _ h a).trans (congrArg₂ (fun l f => Finset.univ.fold max l f) (val_main_cst_0_apply _) (funext fun k => v9 x0 x1 h a k))
theorem max16 (v : FVec Ideal XattnRefIdeal.S4x2048 .f32) (h : Fin 4) (a : Fin 2048) : maximumf (val_main_v16 (F := Ideal)) v (ix2 h a) = v (ix2 h a) := by
  pointwise [val_main_v16, val_main_cst_2]
  exact Softmax.max_low _
theorem v17 (h : Fin 4) (a : Fin 2048) : val_main_v17 (F := Ideal) x0 x1 (ix2 h a) = Softmax.big (zr x0 x1 h a) := by
  unfold val_main_v17
  exact (max16 _ h a).trans (v10 x0 x1 h a)
theorem v30 (h : Fin 4) (a : Fin 2048) (b : Fin 256) : val_main_v30 (F := Ideal) x0 x1 (ix3 h a b) = Softmax.ex (zr x0 x1 h a) b := by
  unfold val_main_v30 val_main_v29 val_main_v28 val_main_v27
  pointwise; rw [v9, v17]; rfl
theorem v32 (h : Fin 4) (a : Fin 2048) : val_main_v32 (F := Ideal) x0 x1 (ix3 h a 0) = Softmax.total (zr x0 x1 h a) := by
  unfold val_main_v32 val_main_v31
  pointwise [val_main_cst_8]; simp only [v30]; rfl
theorem v34 (h : Fin 4) (a : Fin 2048) (b : Fin 256) : val_main_v34 (F := Ideal) x0 x1 (ix3 h a b) = Softmax.prob (zr x0 x1 h a) b := by
  unfold val_main_v34 val_main_v33
  pointwise; rw [v30, v32]; rfl
theorem v37 (h : Fin 4) (a : Fin 2048) : val_main_v37 (F := Ideal) x0 x1 (ix3 h a 0) = Ideal.div 1 (Softmax.total (zr x0 x1 h a) * Softmax.total (zr x0 x1 h a)) := by
  unfold val_main_v37 val_main_v35
  pointwise [val_main_v36, val_main_cst_9]; rw [v32]
theorem v44 (h : Fin 4) (a : Fin 2048) (b : Fin 256) : val_main_v44 (F := Ideal) x1 x2 (ix3 h a b) = dr x1 x2 h a b := by
  unfold val_main_v44
  pointwise [val_main_v43, val_main_v42, val_main_v41, val_main_v6, val_main_v4, val_main_v1]
theorem v55 (h : Fin 4) (a : Fin 2048) : val_main_v55 (F := Ideal) x0 x1 x2 (ix2 h a)
    = -∑ k, dr x1 x2 h a k * Ideal.div 1 (Softmax.total (zr x0 x1 h a) * Softmax.total (zr x0 x1 h a)) * Softmax.ex (zr x0 x1 h a) k := by
  unfold val_main_v55 val_main_v52 val_main_v51 val_main_v50 val_main_v49 val_main_v48 val_main_v47
  pointwise [val_main_cst_10, val_main_cst_11]
  refine (Fin.sum_univ_one _).trans ?_
  simp only [v30, v37, v44]
theorem v60 (h0 : ∀ i, x0 i ≠ ⊤ ∧ x0 i ≠ ⊥) (h1 : ∀ i, x1 i ≠ ⊤ ∧ x1 i ≠ ⊥) (h : Fin 4) (a : Fin 2048) (b : Fin 256) :
    val_main_v60 (F := Ideal) x0 x1 x2 (ix3 h a b) = ds x0 x1 x2 h a b := by
  unfold val_main_v60 val_main_v58 val_main_v57 val_main_v56 val_main_v54 val_main_v53
  pointwise [val_main_v59, val_main_cst_12]
  rw [v44, v32, v55, v30]
  refine Softmax.forms _ _ _ fun k => ?_
  obtain ⟨r, hr⟩ := Reals.dot_real (fun x => x0 (ix2 a (at_ h x))) (fun x => x1 (ix2 k (ky h x))) (fun i => h0 _) fun i => h1 _
  obtain ⟨s, hs⟩ := Softmax.scale_real
  exact ⟨r * s, (congrArg₂ (fun p q : EReal => p * q) hr hs).trans (EReal.coe_mul r s).symm⟩
theorem ref72 (h0 : ∀ i, x0 i ≠ ⊤ ∧ x0 i ≠ ⊥) (h1 : ∀ i, x1 i ≠ ⊤ ∧ x1 i ≠ ⊥) (h : Fin 4) (a : Fin 2048) (b : Fin 256) :
    val_main_v72 (F := Ideal) x0 x1 x2 (ix2 a (at_ h b)) = ∑ k, ds x0 x1 x2 h a k * x1 (ix2 k (ky h b)) := by
  unfold val_main_v72 val_main_v68 val_main_v64 val_main_v63
  pointwise [val_main_v5, val_main_v3, val_main_v1]
  simp only [v60 _ _ _ h0 h1]
  have e : (⟨(h.val * 256 + b.val) / 256, by omega⟩ : Fin 4) = h := Fin.ext (by show (h.val * 256 + b.val) / 256 = h.val; omega)
  refine Finset.sum_congr rfl fun k _ => ?_
  refine congrArg₂ (fun p q : EReal => p * q) (congrArg (fun q => ds x0 x1 x2 q a k) e) (congrArg (fun q => x1 (ix2 k q)) (Fin.ext ?_))
  exact Nat.div_add_mod' _ _
theorem ref70 (h0 : ∀ i, x0 i ≠ ⊤ ∧ x0 i ≠ ⊥) (h1 : ∀ i, x1 i ≠ ⊤ ∧ x1 i ≠ ⊥) (h : Fin 4) (a b : Fin 256) :
    val_main_v70 (F := Ideal) x0 x1 x2 (ix2 a (at_ h b)) = ∑ k, ds x0 x1 x2 h k a * x0 (ix2 k (at_ h b)) := by
  unfold val_main_v70 val_main_v69 val_main_v67 val_main_v66 val_main_v62 val_main_v61
  pointwise [val_main_v2, val_main_v0]
  simp only [v60 _ _ _ h0 h1]
  exact dif_pos (at_ h b).isLt
theorem ref71 (h : Fin 4) (a b : Fin 256) :
    val_main_v71 (F := Ideal) x0 x1 x2 (ix2 a (at_ h b)) = ∑ k, Softmax.prob (zr x0 x1 h k) a * x2 (ix2 k (at_ h b)) := by
  unfold val_main_v71 val_main_v69 val_main_v67 val_main_v65 val_main_v46 val_main_v45
  pointwise [val_main_v43, val_main_v42, val_main_v41]
  simp only [v34, mul_comm (x2 _)]

end Reference

/-- What the blocks of a point hold. -/
theorem outs4 (c : Dev nD) (t : Fin cfg0.N) : (outsAt0 m c t).1 = k0_pay9 (iblk m c 0 t) (iblk m c 1 t) (iblk m c 2 t) (iblk m c 3 t) := by
  unfold outsAt0
  dsimp only
  unfold out0_A_4
  rw [View.read_writes_eq_canon _ _ _ (fun y => ?_)]; swap
  · exact cover0_A_4 ..
  unfold kernelRun0_A; dsimp only
  simp only [View.canon_unit_zero (S := S2048x256) hz, View.readAt_eq_ld, (hs0_0 t).read_unread, (hs0_1 t).read_unread, (hs0_2 t).read_unread, (hs0_3 t).read_unread, kernelRun0_A.sl.r, kernelRun0_A.sl.v43, kernelRun0_A.sl.HS0_1, View.readCov_unit_zero (S := S256x256) _ hz, View.ld_unit_zero (S := S2048x256) hz, View.ld_unit_zero (S := S256x256) hz]
theorem outs5 (c : Dev nD) (t : Fin cfg0.N) : (outsAt0 m c t).2.1 = k0_pay10 (iblk m c 0 t) (iblk m c 1 t) (iblk m c 2 t) (iblk m c 3 t) := by
  unfold outsAt0
  dsimp only
  unfold out0_A_5
  rw [View.read_writes_eq_canon _ _ _ (fun y => ?_)]; swap
  · exact cover0_A_5 ..
  unfold kernelRun0_A; dsimp only
  simp only [View.canon_unit_zero (S := S256x256) hz, View.readAt_eq_ld, (hs0_0 t).read_unread, (hs0_1 t).read_unread, (hs0_2 t).read_unread, (hs0_3 t).read_unread, kernelRun0_A.sl.r, kernelRun0_A.sl.v43, kernelRun0_A.sl.HS0_1, View.readCov_unit_zero (S := S256x256) _ hz, View.ld_unit_zero (S := S2048x256) hz, View.ld_unit_zero (S := S256x256) hz]
  exact pay51 _
theorem outs6 (c : Dev nD) (t : Fin cfg0.N) : (outsAt0 m c t).2.2 = k0_pay11 (iblk m c 0 t) (iblk m c 1 t) (iblk m c 3 t) := by
  unfold outsAt0
  dsimp only
  unfold out0_A_6
  rw [View.read_writes_eq_canon _ _ _ (fun y => ?_)]; swap
  · exact cover0_A_6 ..
  unfold kernelRun0_A; dsimp only
  simp only [View.canon_unit_zero (S := S256x256) hz, View.readAt_eq_ld, (hs0_0 t).read_unread, (hs0_1 t).read_unread, (hs0_2 t).read_unread, (hs0_3 t).read_unread, kernelRun0_A.sl.r, kernelRun0_A.sl.r_1, kernelRun0_A.sl.v46, kernelRun0_A.sl.HS1_1, View.readCov_unit_zero (S := S256x256) _ hz, View.ld_unit_zero (S := S2048x256) hz, View.ld_unit_zero (S := S256x256) hz]
  exact pay62 _

theorem idx (t : Fin cfg0.N) : win0_0.index t = ![0, t.val] ∧ win0_1.index t = ![0, t.val] ∧ win0_2.index t = ![0, 4 + t.val]
    ∧ win0_3.index t = ![0, t.val] ∧ win0_4.index t = ![0, t.val] ∧ win0_5.index t = ![0, t.val] ∧ win0_6.index t = ![0, t.val] := by
  revert t; decide +kernel

/-- The head of a point. -/
abbrev hd (t : Fin cfg0.N) : Fin 4 := t

theorem emb4 (t : Fin cfg0.N) (a : Fin 2048) (b : Fin 256) : ((View.whole main_v0_0).slice (win0_4.rect t)).emb (ix2 a b) = ix2 a (at_ (hd t) b) := by
  blk_ext [idx t]
theorem emb5 (t : Fin cfg0.N) (a b : Fin 256) : ((View.whole main_v0_1).slice (win0_5.rect t)).emb (ix2 a b) = ix2 a (at_ (hd t) b) := by
  blk_ext [idx t]
theorem emb6 (t : Fin cfg0.N) (a b : Fin 256) : ((View.whole main_v0_2).slice (win0_6.rect t)).emb (ix2 a b) = ix2 a (at_ (hd t) b) := by
  blk_ext [idx t]

/-- The arguments. -/
abbrev X0 (c : Dev nD) : FVec Ideal S2048x1024 .bf16 := m ((c : Thread nD τ).loc main_arg0)
abbrev X1 (c : Dev nD) : FVec Ideal S256x2048 .bf16 := m ((c : Thread nD τ).loc main_arg1)
abbrev X2 (c : Dev nD) : FVec Ideal S2048x1024 .bf16 := m ((c : Thread nD τ).loc main_arg2)

section Block

variable (c : Dev nD) (t : Fin cfg0.N)

theorem read0 (a : Fin 2048) (b : Fin 256) : iblk m c 0 t (ix2 a b) = X0 m c (ix2 a (at_ (hd t) b)) := by
  unfold iblk
  rw [show V m c (Pipeline.arrRef spec0 0) = m ((c : Thread nD τ).loc main_arg0) from V_main_arg0 m c]
  blk_ext [idx t]
theorem read1 (a b : Fin 256) : iblk m c 1 t (ix2 a b) = X1 m c (ix2 a (ky (hd t) b)) := by
  unfold iblk
  rw [show V m c (Pipeline.arrRef spec0 1) = m ((c : Thread nD τ).loc main_arg1) from V_main_arg1 m c]
  blk_ext [idx t]
theorem read2 (a b : Fin 256) : iblk m c 2 t (ix2 a b) = X1 m c (ix2 a (vl (hd t) b)) := by
  unfold iblk
  rw [show V m c (Pipeline.arrRef spec0 2) = m ((c : Thread nD τ).loc main_arg1) from V_main_arg1 m c]
  blk_ext [idx t]
  show (4 + t.val) * 256 + b.val = 1024 + (t.val * 256 + b.val)
  omega
theorem read3 (a : Fin 2048) (b : Fin 256) : iblk m c 3 t (ix2 a b) = X2 m c (ix2 a (at_ (hd t) b)) := by
  unfold iblk
  rw [show V m c (Pipeline.arrRef spec0 3) = m ((c : Thread nD τ).loc main_arg2) from V_main_arg2 m c]
  blk_ext [idx t]

/-- The pieces of a point at an entry are the reference's for the point's head. -/
theorem z_at (a : Fin 2048) (k : Fin 256) : (∑ x : Fin 256, (fun p q : EReal => p * q) (iblk m c 0 t (ix2 a x)) (iblk m c 1 t (ix2 k x))) * Softmax.scale = zr (X0 m c) (X1 m c) (hd t) a k :=
  congrArg (fun p : EReal => p * Softmax.scale) (Finset.sum_congr rfl fun x _ => congrArg₂ (fun p q : EReal => p * q) (read0 m c t a x) (read1 m c t k x))
theorem d_at (a : Fin 2048) (k : Fin 256) : (∑ x : Fin 256, (fun p q : EReal => p * q) (iblk m c 3 t (ix2 a x)) (iblk m c 2 t (ix2 k x))) = dr (X1 m c) (X2 m c) (hd t) a k :=
  Finset.sum_congr rfl fun x _ => congrArg₂ (fun p q : EReal => p * q) (read3 m c t a x) (read2 m c t k x)
theorem p7_at (a : Fin 2048) (k : Fin 256) : k0_pay7 (iblk m c 0 t) (iblk m c 1 t) (ix2 a k) = Softmax.prob (zr (X0 m c) (X1 m c) (hd t) a) k :=
  (pay7 _ _ a k).trans (congrArg (fun z => Softmax.prob z k) (funext fun x => z_at m c t a x))
theorem p8_at (a : Fin 2048) (k : Fin 256) : k0_pay8 (iblk m c 0 t) (iblk m c 1 t) (iblk m c 2 t) (iblk m c 3 t) (ix2 a k) = ds (X0 m c) (X1 m c) (X2 m c) (hd t) a k :=
  (pay8 _ _ _ _ a k).trans (congrArg₂ (fun z d => Softmax.grad z d k) (funext fun x => z_at m c t a x) (funext fun x => d_at m c t a x))
theorem b4 (a : Fin 2048) (b : Fin 256) : (outsAt0 m c t).1 (ix2 a b) = ∑ k, ds (X0 m c) (X1 m c) (X2 m c) (hd t) a k * X1 m c (ix2 k (ky (hd t) b)) := by
  rw [outs4]
  exact (pay9 _ _ _ _ a b).trans (Finset.sum_congr rfl fun k _ => congrArg₂ (fun p q : EReal => p * q) (p8_at m c t a k) (read1 m c t k b))
theorem b5 (a b : Fin 256) : (outsAt0 m c t).2.1 (ix2 a b) = ∑ k, ds (X0 m c) (X1 m c) (X2 m c) (hd t) k a * X0 m c (ix2 k (at_ (hd t) b)) := by
  rw [outs5]
  exact (pay10 _ _ _ _ a b).trans (Finset.sum_congr rfl fun k _ => congrArg₂ (fun p q : EReal => p * q) (p8_at m c t k a) (read0 m c t k b))
theorem b6 (a b : Fin 256) : (outsAt0 m c t).2.2 (ix2 a b) = ∑ k, Softmax.prob (zr (X0 m c) (X1 m c) (hd t) k) a * X2 m c (ix2 k (at_ (hd t) b)) := by
  rw [outs6]
  exact (pay11 _ _ _ a b).trans (Finset.sum_congr rfl fun k _ => congrArg₂ (fun p q : EReal => p * q) (p7_at m c t k a) (read3 m c t k b))

end Block

theorem final6 (c : Dev nD) : (dats m 0 c).arrAt 6 cfg0.N = val_main_v71 (F := Ideal) (X0 m c) (X1 m c) (X2 m c) := by
  refine (dats m 0 c).arrAt_eq_of_covers 6 _ (by decide +kernel) fun t hf y => ?_
  blk_simp
  rw [after0_6]
  idx_vars y
  rw [emb6, ref71]
  exact b6 m c t y0 y1

section Finals

variable (c : Dev nD) (h0 : ∀ i, X0 m c i ≠ (⊤ : EReal) ∧ X0 m c i ≠ (⊥ : EReal)) (h1 : ∀ i, X1 m c i ≠ (⊤ : EReal) ∧ X1 m c i ≠ (⊥ : EReal))

include h0 h1

theorem final4 : (dats m 0 c).arrAt 4 cfg0.N = val_main_v72 (F := Ideal) (X0 m c) (X1 m c) (X2 m c) := by
  refine (dats m 0 c).arrAt_eq_of_covers 4 _ (by decide +kernel) fun t hf y => ?_
  blk_simp
  rw [after0_4]
  idx_vars y
  rw [emb4, ref72 _ _ _ h0 h1]
  exact b4 m c t y0 y1
theorem final5 : (dats m 0 c).arrAt 5 cfg0.N = val_main_v70 (F := Ideal) (X0 m c) (X1 m c) (X2 m c) := by
  refine (dats m 0 c).arrAt_eq_of_covers 5 _ (by decide +kernel) fun t hf y => ?_
  blk_simp
  rw [after0_5]
  idx_vars y
  rw [emb5, ref70 _ _ _ h0 h1]
  exact b5 m c t y0 y1

end Finals

theorem algebraic : Cert.algebraic_XattnIdeal_XattnRefIdeal_pre_finite_xattn := by
  intro m g m' g' hpre hag
  refine ⟨fun c => val_main_v72 (F := Ideal) (X0 m c) (X1 m c) (X2 m c), fun c => val_main_v70 (F := Ideal) (X0 m c) (X1 m c) (X2 m c),
    fun c => val_main_v71 (F := Ideal) (X0 m c) (X1 m c) (X2 m c), ?_, ?_⟩
  · refine (θ_run defs _ _).mono (fun r h c => ?_) (Value.run_blocks m g)
    have f0 := Finite.of_pre _ _ (hpre c).1
    have f1 := Finite.of_pre _ _ (hpre c).2
    exact ⟨(h c).1.trans (final4 m c f0 f1), (h c).2.1.trans (final5 m c f0 f1), (h c).2.2.1.trans (final6 m c), (h c).2.2.2⟩
  · refine (θ_run XattnRefIdeal.defs _ _).mono (fun r h c => ⟨(h c).1.trans ?_, (h c).2.1.trans ?_, (h c).2.2.1.trans ?_, (h c).2.2.2⟩) (XattnRefIdeal.Value.run (F := Ideal) m' g')
    · rw [val_main_v72_eq, (hag c).1, (hag c).2.1, (hag c).2.2]
    · rw [val_main_v70_eq, (hag c).1, (hag c).2.1, (hag c).2.2]
    · rw [val_main_v71_eq, (hag c).1, (hag c).2.1, (hag c).2.2]

end Cert.XattnIdeal.Claims
-- ==== Proof.XattnFwd.lean ====
/- The cross attention, a head per point. -/
module

public import proofs.«01_k».proof.Proof.Gen.XattnFwdIdeal.Value
public import proofs.«01_k».proof.Proof.Gen.XattnFwdRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.Xattn

@[expose] public section

set_option maxRecDepth 16384

noncomputable section

open Idealize.ShloMosaic Idealize.ShloMosaic.TcCoe Idealize.SL.Sem
open Idealize.ShloMosaic.Pipeline (Dat)

namespace Cert.XattnFwdIdeal.Claims

open Cert.XattnFwdIdeal Cert.XattnFwdIdeal.Gen

variable (m : (ℓ : Loc nD τ sig) → Buf (Elt Ideal) ℓ)

open XattnFwdRefIdeal.Read
open XattnIdeal.Claims (at_ ky vl zr maxRow hz)

theorem pay (u : Vec Ideal S2048x256 .bf16) (v w : Vec Ideal S256x256 .bf16) (a : Fin 2048) (b : Fin 256) :
    k0_pay1 u v w (ix2 a b) = ∑ k, Softmax.prob (fun k : Fin 256 => (∑ x, u (ix2 a x) * v (ix2 k x)) * Softmax.scale) k * w (ix2 k b) := by
  unfold_payloads; pointwise; rfl

section Reference

variable (x0 : FVec Ideal S2048x1024 .bf16) (x1 : FVec Ideal S256x2048 .bf16) (h : Fin 4) (a : Fin 2048) (b : Fin 256)

theorem v9 : val_main_v9 (F := Ideal) x0 x1 (ix3 h a b) = zr x0 x1 h a b := by
  unfold val_main_v9 val_main_v7
  pointwise [val_main_v8, val_main_cst, val_main_v5, val_main_v3, val_main_v2, val_main_v1, val_main_v0]
theorem v10 : val_main_v10 (F := Ideal) x0 x1 (ix2 h a) = Softmax.big (zr x0 x1 h a) := by
  unfold val_main_v10
  exact (maxRow _ _ h a).trans (congrArg₂ (fun l f => Finset.univ.fold max l f) (val_main_cst_0_apply _) (funext fun k => v9 x0 x1 h a k))
theorem low (v : FVec Ideal XattnFwdRefIdeal.S4x2048 .f32) : maximumf (val_main_v11 (F := Ideal)) v (ix2 h a) = v (ix2 h a) := by
  pointwise [val_main_v11, val_main_cst_1]
  exact Softmax.max_low _
theorem v16 : val_main_v16 (F := Ideal) x0 x1 (ix3 h a b) = Softmax.ex (zr x0 x1 h a) b := by
  have e : val_main_v12 (F := Ideal) x0 x1 (ix2 h a) = Softmax.big (zr x0 x1 h a) := by
    unfold val_main_v12
    exact (low h a _).trans (v10 x0 x1 h a)
  unfold val_main_v16 val_main_v15 val_main_v14 val_main_v13
  pointwise; rw [v9, e]; rfl
theorem v20 : val_main_v20 (F := Ideal) x0 x1 (ix3 h a b) = Softmax.prob (zr x0 x1 h a) b := by
  unfold val_main_v20 val_main_v19 val_main_v18 val_main_v17
  pointwise [val_main_cst_2]; simp only [v16]; rfl
theorem ref : val_main_v24 (F := Ideal) x0 x1 (ix2 a (at_ h b)) = ∑ k, Softmax.prob (zr x0 x1 h a) k * x1 (ix2 k (vl h b)) := by
  unfold val_main_v24 val_main_v23 val_main_v22 val_main_v21
  pointwise [val_main_v6, val_main_v4, val_main_v1]
  simp only [v20, mul_comm (x1 _)]
  have e : (⟨(h.val * 256 + b.val) / 256, by omega⟩ : Fin 4) = h := Fin.ext (by show (h.val * 256 + b.val) / 256 = h.val; omega)
  refine Finset.sum_congr rfl fun k _ => ?_
  refine congrArg₂ (fun p q : EReal => p * q) (congrArg (fun q => Softmax.prob (zr x0 x1 q a) k) e) (congrArg (fun q => x1 (ix2 k q)) (Fin.ext ?_))
  exact congrArg (fun q => 1024 + q) (Nat.div_add_mod' _ _)

end Reference

theorem idx (t : Fin cfg0.N) : win0_0.index t = ![0, t.val] ∧ win0_1.index t = ![0, t.val] ∧ win0_2.index t = ![0, 4 + t.val] ∧ win0_3.index t = ![0, t.val] := by
  revert t; decide +kernel

/-- The head of a point. -/
abbrev hd (t : Fin cfg0.N) : Fin 4 := t

theorem emb (t : Fin cfg0.N) (a : Fin 2048) (b : Fin 256) : ((View.whole main_v0).slice (win0_3.rect t)).emb (ix2 a b) = ix2 a (at_ (hd t) b) := by
  blk_ext [idx t]

/-- The arguments. -/
abbrev X0 (c : Dev nD) : FVec Ideal S2048x1024 .bf16 := m ((c : Thread nD τ).loc main_arg0)
abbrev X1 (c : Dev nD) : FVec Ideal S256x2048 .bf16 := m ((c : Thread nD τ).loc main_arg1)

variable (c : Dev nD) (t : Fin cfg0.N)

theorem read0 (a : Fin 2048) (b : Fin 256) : iblk m c 0 t (ix2 a b) = X0 m c (ix2 a (at_ (hd t) b)) := by
  unfold iblk
  rw [show V m c (Pipeline.arrRef spec0 0) = X0 m c from V_main_arg0 m c]
  blk_ext [idx t]
theorem read1 (a b : Fin 256) : iblk m c 1 t (ix2 a b) = X1 m c (ix2 a (ky (hd t) b)) := by
  unfold iblk
  rw [show V m c (Pipeline.arrRef spec0 1) = X1 m c from V_main_arg1 m c]
  blk_ext [idx t]
theorem read2 (a b : Fin 256) : iblk m c 2 t (ix2 a b) = X1 m c (ix2 a (vl (hd t) b)) := by
  unfold iblk
  rw [show V m c (Pipeline.arrRef spec0 2) = X1 m c from V_main_arg1 m c]
  blk_ext [idx t]
  show (4 + t.val) * 256 + b.val = 1024 + (t.val * 256 + b.val)
  omega

theorem final : (dats m 0 c).arrAt 3 cfg0.N = val_main_v24 (F := Ideal) (X0 m c) (X1 m c) := by
  refine (dats m 0 c).arrAt_eq_of_covers 3 _ (by decide +kernel) fun t hf y => ?_
  blk_simp
  rw [after0_3]
  idx_vars y
  rw [emb, ref]
  unfold out0_3
  simp only [View.canon_unit_zero (S := S2048x256) hz, View.ld_unit_zero (S := S2048x256) hz, View.ld_unit_zero (S := S256x256) hz]
  refine (pay _ _ _ y0 y1).trans (Finset.sum_congr rfl fun k _ => congrArg₂ (fun p q : EReal => p * q) (congrArg (fun z => Softmax.prob z k) (funext fun n => ?_)) (read2 m c t k y1))
  exact congrArg (fun p : EReal => p * Softmax.scale) (Finset.sum_congr rfl fun x _ => congrArg₂ (fun p q : EReal => p * q) (read0 m c t y0 x) (read1 m c t n x))

theorem algebraic : Cert.algebraic_XattnFwdIdeal_XattnFwdRefIdeal := by
  intro m g m' g' _ hag
  refine ⟨fun c => val_main_v24 (F := Ideal) (X0 m c) (X1 m c), ?_, ?_⟩
  · exact (θ_run defs _ _).mono (fun r h c => ⟨(h c).1.trans (final m c), (h c).2⟩) (Value.run_blocks m g)
  · refine (θ_run XattnFwdRefIdeal.defs _ _).mono (fun r h c => ⟨(h c).1.trans ?_, (h c).2⟩) (XattnFwdRefIdeal.Value.run (F := Ideal) m' g')
    rw [val_main_v24_eq, (hag c).1, (hag c).2]

end Cert.XattnFwdIdeal.Claims
-- ==== Proof.Conv.lean ====
/- The gradient of the gated short convolution: one block of 256 columns per point against the reference's shifted sums. -/
module

public import proofs.«01_k».proof.Defs
public import proofs.«01_k».proof.Proof.Gen.ConvIdeal.Value
public import proofs.«01_k».proof.Proof.Gen.ConvRefIdeal.Read
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvIdeal.Claims

open Cert.ConvIdeal Cert.ConvIdeal.Gen
open ConvRefIdeal.Read

variable (m : (ℓ : Loc nD τ sig) → Buf (Elt Ideal) ℓ)

/-- Every window's block at point `t`. -/
theorem idx (t : Fin cfg0.N) : win0_0.index t = ![0, t.val] ∧ win0_1.index t = ![0, t.val] ∧ win0_2.index t = ![0, t.val + 4]
    ∧ win0_3.index t = ![0, t.val + 8] ∧ win0_4.index t = ![0, t.val] ∧ win0_5.index t = ![0, t.val] ∧ win0_6.index t = ![0, t.val]
    ∧ win0_7.index t = ![0, t.val] ∧ win0_8.index t = ![0, t.val] := by
  revert t; decide +kernel

theorem t_lt (t : Fin cfg0.N) : t.val < 4 := t.isLt

/-- Where a block's element lies in its array. -/
theorem emb5 (a : Fin 2048) (b : Fin 256) (t : Fin cfg0.N) :
    ((View.whole main_v0_0).slice (win0_5.rect t)).emb (ix2 a b) = ix2 a ⟨t.val * 256 + b.val, by have h := t_lt t; omega⟩ := by
  blk_ext [idx t]
theorem emb6 (a : Fin 2048) (b : Fin 256) (t : Fin cfg0.N) :
    ((View.whole main_v0_1).slice (win0_6.rect t)).emb (ix2 a b) = ix2 a ⟨t.val * 256 + b.val, by have h := t_lt t; omega⟩ := by
  blk_ext [idx t]
theorem emb7 (a : Fin 2048) (b : Fin 256) (t : Fin cfg0.N) :
    ((View.whole main_v0_2).slice (win0_7.rect t)).emb (ix2 a b) = ix2 a ⟨t.val * 256 + b.val, by have h := t_lt t; omega⟩ := by
  blk_ext [idx t]
theorem emb8 (a : Fin 3) (b : Fin 256) (t : Fin cfg0.N) :
    ((View.whole main_v0_3).slice (win0_8.rect t)).emb (ix2 a b) = ix2 a ⟨t.val * 256 + b.val, by have h := t_lt t; omega⟩ := by
  blk_ext [idx t]

/-- What a block reads of its argument. -/
theorem read0 (c : Dev nD) (t : Fin cfg0.N) (a : Fin 2048) (b : Fin 256) : iblk m c 0 t (ix2 a b) =
    m ((c : Thread nD τ).loc main_arg0) (ix2 a ⟨t.val * 256 + b.val, by have h := t_lt t; omega⟩) := by
  blk_ext [iblk, V, idx t]
theorem read1 (c : Dev nD) (t : Fin cfg0.N) (a : Fin 2048) (b : Fin 256) : iblk m c 1 t (ix2 a b) =
    m ((c : Thread nD τ).loc main_arg1) (ix2 a ⟨t.val * 256 + b.val, by have h := t_lt t; omega⟩) := by
  blk_ext [iblk, V, idx t]
theorem read2 (c : Dev nD) (t : Fin cfg0.N) (a : Fin 2048) (b : Fin 256) : iblk m c 2 t (ix2 a b) =
    m ((c : Thread nD τ).loc main_arg1) (ix2 a ⟨1024 + (t.val * 256 + b.val), by have h := t_lt t; omega⟩) := by
  blk_ext [iblk, V, idx t]
theorem read3 (c : Dev nD) (t : Fin cfg0.N) (a : Fin 2048) (b : Fin 256) : iblk m c 3 t (ix2 a b) =
    m ((c : Thread nD τ).loc main_arg1) (ix2 a ⟨2048 + (t.val * 256 + b.val), by have h := t_lt t; omega⟩) := by
  blk_ext [iblk, V, idx t]
theorem read4 (c : Dev nD) (t : Fin cfg0.N) (a : Fin 3) (b : Fin 256) : iblk m c 4 t (ix2 a b) =
    m ((c : Thread nD τ).loc main_arg2) (ix2 a ⟨t.val * 256 + b.val, by have h := t_lt t; omega⟩) := by
  blk_ext [iblk, V, idx t]

/-- Comparisons of row numbers as words. -/
theorem sle_iff (n k : ℕ) (hn : n < 4096) (hk : k < 4096) : (BitVec.ofNat 32 k).sle (BitVec.ofNat 32 n) = decide (k ≤ n) := by
  have h : ∀ j : ℕ, j < 4096 → (BitVec.ofNat 32 j).toInt = j := fun j hj => by
    rw [BitVec.toInt_eq_toNat_of_lt] <;> simp only [BitVec.toNat_ofNat] <;> omega
  simp only [BitVec.sle, h _ hn, h _ hk]
  exact decide_eq_decide.2 (by omega)

theorem slt_iff (n k : ℕ) (hn : n < 4096) (hk : k < 4096) : (BitVec.ofNat 32 n).slt (BitVec.ofNat 32 k) = decide (n < k) := by
  have h : ∀ j : ℕ, j < 4096 → (BitVec.ofNat 32 j).toInt = j := fun j hj => by
    rw [BitVec.toInt_eq_toNat_of_lt] <;> simp only [BitVec.toNat_ofNat] <;> omega
  simp only [BitVec.slt, h _ hn, h _ hk]
  exact decide_eq_decide.2 (by omega)

theorem select_sge (n k : ℕ) (hn : n < 4096) (hk : k < 4096) (x y : EReal) :
    Scalar.select (IntOp.cmpi CmpIPredicate.sge (BitVec.ofNat 32 n) (BitVec.ofNat 32 k)) x y = if n < k then y else x := by
  simp only [Scalar.select, IntOp.cmpi, sle_iff n k hn hk]
  by_cases h : n < k
  · simp [h, Nat.not_le.2 h]
  · simp [h, Nat.le_of_not_lt h]

theorem select_slt (n k : ℕ) (hn : n < 4096) (hk : k < 4096) (x y : EReal) :
    Scalar.select (IntOp.cmpi CmpIPredicate.slt (BitVec.ofNat 32 n) (BitVec.ofNat 32 k)) x y = if n < k then x else y := by
  simp only [Scalar.select, IntOp.cmpi, slt_iff n k hn hk]
  by_cases h : n < k <;> simp [h]

theorem hz : (![0, 0] : Fin 2 → Nat) = fun _ => 0 := funext fun a => by fin_cases a <;> rfl

/-- The output windows' arrays after the run are the reference's results. -/
theorem final5 (c : Dev nD) : (dats m 0 c).arrAt 5 cfg0.N = val_main_v71 (F := Ideal) (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  rw [emb5]
  unfold_payloads
  pointwise [
    val_main_v2, val_main_v3, val_main_v4, val_main_v5, val_main_v6, val_main_cst, val_main_v7, val_main_v8, val_main_v10, val_main_v11,
    val_main_v12, val_main_v13, val_main_v14, val_main_v15, val_main_cst_1, val_main_v16, val_main_v17, val_main_v18, val_main_v19, val_main_v20,
    val_main_v21, val_main_v22, val_main_v23, val_main_v24, val_main_v25, val_main_v26, val_main_v27, val_main_v28, val_main_v29, val_main_v30,
    val_main_v31, val_main_v33, val_main_v35, val_main_v71]
  have ht := t_lt t
  simp (disch := omega) only [show (2#32 : BitVec 32) = BitVec.ofNat 32 2 from rfl, show (1#32 : BitVec 32) = BitVec.ofNat 32 1 from rfl,
    show (2047#32 : BitVec 32) = BitVec.ofNat 32 2047 from rfl, show (2046#32 : BitVec 32) = BitVec.ofNat 32 2046 from rfl,
    select_sge, select_slt, read0, read1, read2, read3, read4]
  have e1 (h) (h' : ¬y0.val < 1) : (⟨(y0.val + 2048 - 1) % 2048, h⟩ : Fin 2048) = ⟨1 + y0.val - 2, by omega⟩ := Fin.ext (by simp only []; omega)
  have e2 (h) (h' : ¬y0.val < 2) : (⟨(y0.val + 2048 - 2) % 2048, h⟩ : Fin 2048) = ⟨y0.val - 2, by omega⟩ := Fin.ext (by simp only []; omega)
  by_cases h2 : y0.val < 2
  · by_cases h1 : y0.val < 1
    · simp only [h1, h2, show 1 + y0.val < 2 by omega, if_true, dif_pos, zero_mul]
    · simp only [h1, h2, show ¬(1 + y0.val < 2) by omega, if_true, if_false, dif_pos, zero_mul, e1 _ h1, dif_neg, not_false_eq_true]
  · simp only [show ¬(y0.val < 1) by omega, h2, show ¬(1 + y0.val < 2) by omega, if_false, e1 _ (show ¬(y0.val < 1) by omega), e2 _ h2, dif_neg, not_false_eq_true]

/-- A sum over rows whose first `k` terms vanish is the sum over the rest. -/
theorem sum_skip (k n : ℕ) (f g : ℕ → EReal) (h : ∀ x, x < k → f x = 0) (h' : ∀ x, x < n → f (x + k) = g x) :
    ∑ x ∈ Finset.range (n + k), f x = ∑ x ∈ Finset.range n, g x := by
  rw [Nat.add_comm n k, Finset.sum_range_add, Finset.sum_eq_zero fun x hx => h x (Finset.mem_range.1 hx), zero_add]
  exact Finset.sum_congr rfl fun x hx => by rw [Nat.add_comm, h' x (Finset.mem_range.1 hx)]

/-- One column of an array, as a function of the row number. -/
theorem col {n q : ℕ} (f : Fin n → Fin q → EReal) (j : Fin q) : ∃ A : ℕ → EReal, ∀ a : Fin n, f a j = A a.val :=
  ⟨fun i => if h : i < n then f ⟨i, h⟩ j else 0, fun a => by simp⟩

/-- The three rows of the taps' gradient, over the arrays' columns. -/
theorem row0 (x0 x1 x2 x3 : Vec Ideal S2048x256 .bf16) (x4 : Vec Ideal S3x256 .f32) (b : Fin 256) (A B C D : ℕ → EReal)
    (hA : ∀ a, x0 (ix2 a b) = A a.val) (hB : ∀ a, x1 (ix2 a b) = B a.val) (hC : ∀ a, x2 (ix2 a b) = C a.val) (hD : ∀ a, x3 (ix2 a b) = D a.val) :
    out0_8 x0 x1 x2 x3 x4 (ix2 0 b) = ∑ x ∈ Finset.range 2046, A (x + 2) * B (x + 2) * (C x * D x) := by
  unfold_out out0_8
  simp only [r0_0, View.ld_unit_zero (S := S2048x256) hz]
  rw [Value.canon8_eq, show (ix2 (0 : Fin 3) b) = r0_2.idx (ix2 (0 : Fin 1) b) from
    funext fun a => Fin.ext (by match a with | ⟨0, _⟩ => rfl | ⟨1, _⟩ => show b.val = 0 + 1 * b.val; omega), ← Value.piece8_0]
  pointwise [k0_pay13, k0_pay5, k0_pay8, k0_pay6, k0_pay3, k0_pay1, k0_pay2, k0_pay4]
  simp (disch := omega) only [show (2#32 : BitVec 32) = BitVec.ofNat 32 2 from rfl, select_sge, hA, hB, hC, hD]
  rw [Fin.sum_univ_eq_sum_range (fun x => if x < 2 then 0 else A x * B x * (C ((x + 2048 - 2) % 2048) * D ((x + 2048 - 2) % 2048))) 2048]
  exact sum_skip 2 2046 _ _ (fun x hx => if_pos hx) fun x hx => by
    rw [if_neg (by omega), show (x + 2 + 2048 - 2) % 2048 = x by omega]

theorem row1 (x0 x1 x2 x3 : Vec Ideal S2048x256 .bf16) (x4 : Vec Ideal S3x256 .f32) (b : Fin 256) (A B C D : ℕ → EReal)
    (hA : ∀ a, x0 (ix2 a b) = A a.val) (hB : ∀ a, x1 (ix2 a b) = B a.val) (hC : ∀ a, x2 (ix2 a b) = C a.val) (hD : ∀ a, x3 (ix2 a b) = D a.val) :
    out0_8 x0 x1 x2 x3 x4 (ix2 1 b) = ∑ x ∈ Finset.range 2047, A (x + 1) * B (x + 1) * (C x * D x) := by
  unfold_out out0_8
  simp only [r0_0, View.ld_unit_zero (S := S2048x256) hz]
  rw [Value.canon8_eq, show (ix2 (1 : Fin 3) b) = r0_3.idx (ix2 (0 : Fin 1) b) from
    funext fun a => Fin.ext (by match a with | ⟨0, _⟩ => rfl | ⟨1, _⟩ => show b.val = 0 + 1 * b.val; omega), ← Value.piece8_1]
  pointwise [k0_pay14, k0_pay5, k0_pay8, k0_pay6, k0_pay3, k0_pay1, k0_pay2, k0_pay4]
  simp (disch := omega) only [show (1#32 : BitVec 32) = BitVec.ofNat 32 1 from rfl, select_sge, hA, hB, hC, hD]
  rw [Fin.sum_univ_eq_sum_range (fun x => if x < 1 then 0 else A x * B x * (C ((x + 2048 - 1) % 2048) * D ((x + 2048 - 1) % 2048))) 2048]
  exact sum_skip 1 2047 _ _ (fun x hx => if_pos hx) fun x hx => by
    rw [if_neg (by omega), show (x + 1 + 2048 - 1) % 2048 = x by omega]

theorem row2 (x0 x1 x2 x3 : Vec Ideal S2048x256 .bf16) (x4 : Vec Ideal S3x256 .f32) (b : Fin 256) (A B C D : ℕ → EReal)
    (hA : ∀ a, x0 (ix2 a b) = A a.val) (hB : ∀ a, x1 (ix2 a b) = B a.val) (hC : ∀ a, x2 (ix2 a b) = C a.val) (hD : ∀ a, x3 (ix2 a b) = D a.val) :
    out0_8 x0 x1 x2 x3 x4 (ix2 2 b) = ∑ x ∈ Finset.range 2048, A x * B x * (C x * D x) := by
  unfold_out out0_8
  simp only [r0_0, View.ld_unit_zero (S := S2048x256) hz]
  rw [Value.canon8_eq, show (ix2 (2 : Fin 3) b) = r0_4.idx (ix2 (0 : Fin 1) b) from
    funext fun a => Fin.ext (by match a with | ⟨0, _⟩ => rfl | ⟨1, _⟩ => show b.val = 0 + 1 * b.val; omega), ← Value.piece8_2]
  pointwise [k0_pay15, k0_pay5, k0_pay8, k0_pay6, k0_pay3, k0_pay1, k0_pay2, k0_pay4]
  simp only [hA, hB, hC, hD]
  exact Fin.sum_univ_eq_sum_range (fun x => A x * B x * (C x * D x)) 2048

/-- The shifted sums of either program at one row: the kernel rotates and masks, the reference pads and slices. -/
theorem tail (A B : ℕ → EReal) (w2 w1 w0 z : EReal) (n : ℕ) (hn : n < 2048) (p : Prop) [Decidable p] (hp : p) :
    ((A n * B n * w2 + if n < 2047 then A ((n + 1) % 2048) * B ((n + 1) % 2048) * w1 else 0)
      + if n < 2046 then A ((n + 2) % 2048) * B ((n + 2) % 2048) * w0 else 0) * z
    = (((if _ : p then B n * A n * w2 else 0)
      + if _ : (1 ≤ 2 + n ∧ 2 + n - 1 < 2048) ∧ p then B (2 + n - 1) * A (2 + n - 1) * w1 else 0)
      + if _ : 2 + n < 2048 ∧ p then B (2 + n) * A (2 + n) * w0 else 0) * z := by
  rw [dif_pos hp, mul_comm (B n)]
  by_cases h2 : n < 2047
  · rw [dif_pos ⟨⟨by omega, by omega⟩, hp⟩, if_pos h2, show (n + 1) % 2048 = n + 1 by omega, show 2 + n - 1 = n + 1 by omega, mul_comm (B (n + 1))]
    by_cases h1 : n < 2046
    · rw [dif_pos ⟨by omega, hp⟩, if_pos h1, show (n + 2) % 2048 = n + 2 by omega, show 2 + n = n + 2 by omega, mul_comm (B (n + 2))]
    · rw [dif_neg (fun h => h1 (by omega)), if_neg h1]
  · rw [dif_neg (fun h => h2 (by omega)), dif_neg (fun h => h2 (by omega)), if_neg h2, if_neg (fun h => h2 (by omega))]

set_option maxHeartbeats 4000000 in
theorem final6 (c : Dev nD) : (dats m 0 c).arrAt 6 cfg0.N = val_main_v72 (F := Ideal) (m ((c : Thread nD τ).loc main_arg0))
    (m ((c : Thread nD τ).loc main_arg1)) (m ((c : Thread nD τ).loc main_arg2)) := by
  refine (dats m 0 c).arrAt_eq_of_covers 6 _ (by decide +kernel) fun t hf y => ?_
  blk_simp
  rw [after0_6]
  frame_out
  idx_vars y
  rw [emb6]
  unfold_payloads
  pointwise [
    val_main_v0, val_main_v1, val_main_v4, val_main_v5, val_main_v11, val_main_v12, val_main_v13, val_main_v19, val_main_v20, val_main_v21,
    val_main_v26, val_main_v27, val_main_v28, val_main_v33, val_main_v34, val_main_v39, val_main_v40, val_main_cst_5, val_main_v44, val_main_v48,
    val_main_v49, val_main_cst_9, val_main_v54, val_main_v55, val_main_v59, val_main_v60, val_main_cst_13, val_main_v65, val_main_v66, val_main_v68,
    val_main_v70, val_main_v72]
  have ht := t_lt t
  simp (disch := omega) only [show (2#32 : BitVec 32) = BitVec.ofNat 32 2 from rfl, show (1#32 : BitVec 32) = BitVec.ofNat 32 1 from rfl,
    show (2047#32 : BitVec 32) = BitVec.ofNat 32 2047 from rfl, show (2046#32 : BitVec 32) = BitVec.ofNat 32 2046 from rfl,
    select_sge, select_slt, read0, read1, read2, read3, read4]
  have hc : t.val * 256 + y1.val < 1024 := by omega
  obtain ⟨A, hA⟩ := col (fun a q => m ((c : Thread nD τ).loc main_arg0) (ix2 a q)) (⟨t.val * 256 + y1.val, hc⟩ : Fin 1024)
  obtain ⟨B, hB⟩ := col (fun a q => m ((c : Thread nD τ).loc main_arg1) (ix2 a q)) (⟨t.val * 256 + y1.val, by omega⟩ : Fin 8192)
  simp only [show (y0.val + 2048 - 2047) % 2048 = (y0.val + 1) % 2048 by omega, show (y0.val + 2048 - 2046) % 2048 = (y0.val + 2) % 2048 by omega]
  simp only [hA, hB]
  exact tail A B _ _ _ _ y0.val y0.isLt _ hc

set_option maxHeartbeats 4000000 in
theorem final7 (c : Dev nD) : (dats m 0 c).arrAt 7 cfg0.N = val_main_v73 (F := Ideal) (m ((c : Thread nD τ).loc main_arg0))
    (m ((c : Thread nD τ).loc main_arg1)) (m ((c : Thread nD τ).loc main_arg2)) := by
  refine (dats m 0 c).arrAt_eq_of_covers 7 _ (by decide +kernel) fun t hf y => ?_
  blk_simp
  rw [after0_7]
  frame_out
  idx_vars y
  rw [emb7]
  unfold_payloads
  pointwise [
    val_main_v0, val_main_v1, val_main_v2, val_main_v3, val_main_v11, val_main_v12, val_main_v13, val_main_v19, val_main_v20, val_main_v21,
    val_main_v26, val_main_v27, val_main_v28, val_main_v33, val_main_v34, val_main_v39, val_main_v40, val_main_cst_5, val_main_v44, val_main_v48,
    val_main_v49, val_main_cst_9, val_main_v54, val_main_v55, val_main_v59, val_main_v60, val_main_cst_13, val_main_v65, val_main_v66, val_main_v68,
    val_main_v69, val_main_v73]
  have ht := t_lt t
  simp (disch := omega) only [show (2#32 : BitVec 32) = BitVec.ofNat 32 2 from rfl, show (1#32 : BitVec 32) = BitVec.ofNat 32 1 from rfl,
    show (2047#32 : BitVec 32) = BitVec.ofNat 32 2047 from rfl, show (2046#32 : BitVec 32) = BitVec.ofNat 32 2046 from rfl,
    select_sge, select_slt, read0, read1, read2, read3, read4]
  have hc : t.val * 256 + y1.val < 1024 := by omega
  obtain ⟨A, hA⟩ := col (fun a q => m ((c : Thread nD τ).loc main_arg0) (ix2 a q)) (⟨t.val * 256 + y1.val, hc⟩ : Fin 1024)
  obtain ⟨B, hB⟩ := col (fun a q => m ((c : Thread nD τ).loc main_arg1) (ix2 a q)) (⟨t.val * 256 + y1.val, by omega⟩ : Fin 8192)
  simp only [show (y0.val + 2048 - 2047) % 2048 = (y0.val + 1) % 2048 by omega, show (y0.val + 2048 - 2046) % 2048 = (y0.val + 2) % 2048 by omega]
  simp only [hA, hB]
  exact (tail A B _ _ _ _ y0.val y0.isLt _ hc).trans (mul_comm _ _)

set_option maxHeartbeats 4000000 in
theorem final8 (c : Dev nD) : (dats m 0 c).arrAt 8 cfg0.N = val_main_v64 (F := Ideal) (m ((c : Thread nD τ).loc main_arg0))
    (m ((c : Thread nD τ).loc main_arg1)) := by
  refine (dats m 0 c).arrAt_eq_of_covers 8 _ (by decide +kernel) fun t hf y => ?_
  blk_simp
  rw [after0_8]
  idx_vars y
  rw [emb8]
  have ht := t_lt t
  have hc : t.val * 256 + y1.val < 1024 := by omega
  obtain ⟨A, hA⟩ := col (fun a q => m ((c : Thread nD τ).loc main_arg0) (ix2 a q)) (⟨t.val * 256 + y1.val, hc⟩ : Fin 1024)
  obtain ⟨B, hB⟩ := col (fun a q => m ((c : Thread nD τ).loc main_arg1) (ix2 a q)) (⟨t.val * 256 + y1.val, by omega⟩ : Fin 8192)
  obtain ⟨C, hC⟩ := col (fun a q => m ((c : Thread nD τ).loc main_arg1) (ix2 a q)) (⟨1024 + (t.val * 256 + y1.val), by omega⟩ : Fin 8192)
  obtain ⟨D, hD⟩ := col (fun a q => m ((c : Thread nD τ).loc main_arg1) (ix2 a q)) (⟨2048 + (t.val * 256 + y1.val), by omega⟩ : Fin 8192)
  pointwise [
    val_main_v0, val_main_v1, val_main_v2, val_main_v3, val_main_v4, val_main_v5, val_main_v6, val_main_cst, val_main_v7, val_main_v8, val_main_v10,
    val_main_v18, val_main_v25, val_main_v33, val_main_v34, val_main_v36, val_main_cst_2, val_main_v37, val_main_v38, val_main_cst_3, val_main_v41,
    val_main_v42, val_main_cst_4, val_main_v43, val_main_v45, val_main_cst_6, val_main_v46, val_main_v47, val_main_cst_7, val_main_v50, val_main_v51,
    val_main_cst_8, val_main_v52, val_main_v53, val_main_v56, val_main_cst_10, val_main_v57, val_main_v58, val_main_cst_11, val_main_v61,
    val_main_v62, val_main_cst_12, val_main_v63, val_main_v64]
  simp only [hA, hB, hC, hD]
  have h0 : ∀ a, iblk m c 0 t (ix2 a y1) = A a.val := fun a => (read0 m c t a y1).trans (hA a)
  have h1 : ∀ a, iblk m c 1 t (ix2 a y1) = B a.val := fun a => (read1 m c t a y1).trans (hB a)
  have h2 : ∀ a, iblk m c 2 t (ix2 a y1) = C a.val := fun a => (read2 m c t a y1).trans (hC a)
  have h3 : ∀ a, iblk m c 3 t (ix2 a y1) = D a.val := fun a => (read3 m c t a y1).trans (hD a)
  match y0 with
  | ⟨0, _⟩ =>
    refine (row0 _ _ _ _ _ y1 A B C D h0 h1 h2 h3).trans ?_
    rw [dif_neg (by simp), dif_neg (by simp), dif_pos ⟨by simp, hc⟩]
    simp only [Fin.sum_univ_one, zero_mul, Finset.sum_const_zero, zero_add]
    rw [← Fin.sum_univ_eq_sum_range (fun x => A (x + 2) * B (x + 2) * (C x * D x))]
    exact Finset.sum_congr rfl fun x _ => by rw [mul_comm, mul_comm (A _), Nat.add_comm]
  | ⟨1, _⟩ =>
    refine (row1 _ _ _ _ _ y1 A B C D h0 h1 h2 h3).trans ?_
    rw [dif_neg (by simp), dif_pos ⟨by simp, hc⟩, dif_neg (by simp)]
    simp only [Fin.sum_univ_one, zero_add, add_zero]
    rw [Fin.sum_univ_eq_sum_range (fun x => (if h : 1 + x < 2 then 0 else C (1 + x - 2) * D (1 + x - 2)) * (B x * A x)) 2048]
    refine (sum_skip 1 2047 _ _ (fun x hx => by rw [dif_pos (by omega), zero_mul]) fun x hx => ?_).symm
    rw [dif_neg (by omega), show 1 + (x + 1) - 2 = x by omega, mul_comm, mul_comm (B _)]
  | ⟨2, _⟩ =>
    refine (row2 _ _ _ _ _ y1 A B C D h0 h1 h2 h3).trans ?_
    rw [dif_pos ⟨by simp, hc⟩, dif_neg (by simp), dif_neg (by simp)]
    simp only [Fin.sum_univ_one, add_zero]
    rw [← Fin.sum_univ_eq_sum_range (fun x => A x * B x * (C x * D x))]
    exact Finset.sum_congr rfl fun x _ => by rw [mul_comm, mul_comm (A _)]

theorem algebraic : Cert.algebraic_ConvIdeal_ConvRefIdeal := by
  intro m g m' g' _ hag
  refine ⟨fun c => val_main_v71 (F := Ideal) (m ((c : Thread nD τ).loc main_arg0)) (m ((c : Thread nD τ).loc main_arg1)) (m ((c : Thread nD τ).loc main_arg2)),
    fun c => val_main_v72 (F := Ideal) (m ((c : Thread nD τ).loc main_arg0)) (m ((c : Thread nD τ).loc main_arg1)) (m ((c : Thread nD τ).loc main_arg2)),
    fun c => val_main_v73 (F := Ideal) (m ((c : Thread nD τ).loc main_arg0)) (m ((c : Thread nD τ).loc main_arg1)) (m ((c : Thread nD τ).loc main_arg2)),
    fun c => val_main_v64 (F := Ideal) (m ((c : Thread nD τ).loc main_arg0)) (m ((c : Thread nD τ).loc main_arg1)), ?_, ?_⟩
  · exact (θ_run defs _ _).mono (fun r h c => ⟨(h c).1.trans (final5 m c), (h c).2.1.trans (final6 m c), (h c).2.2.1.trans (final7 m c),
      (h c).2.2.2.1.trans (final8 m c), (h c).2.2.2.2⟩) (Value.run_blocks m g)
  · refine (θ_run ConvRefIdeal.defs _ _).mono (fun r h c => ⟨(h c).1.trans ?_, (h c).2.1.trans ?_, (h c).2.2.1.trans ?_, (h c).2.2.2.1.trans ?_, (h c).2.2.2.2⟩)
      (ConvRefIdeal.Value.run (F := Ideal) m' g')
    · rw [val_main_v71_eq, (hag c).1, (hag c).2.1, (hag c).2.2]
    · rw [val_main_v72_eq, (hag c).1, (hag c).2.1, (hag c).2.2]
    · rw [val_main_v73_eq, (hag c).1, (hag c).2.1, (hag c).2.2]
    · rw [val_main_v64_eq, (hag c).1, (hag c).2.1]

end Cert.ConvIdeal.Claims
-- ==== Proof.ConvFwd.lean ====
/- The gated short convolution, a block of 256 columns per point. -/
module

public import proofs.«01_k».proof.Proof.Gen.ConvFwdIdeal.Value
public import proofs.«01_k».proof.Proof.Gen.ConvFwdRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.Conv

@[expose] public section

set_option maxRecDepth 16384

noncomputable section

open Idealize.ShloMosaic Idealize.ShloMosaic.TcCoe Idealize.SL.Sem
open Idealize.ShloMosaic.Pipeline (Dat)

namespace Cert.ConvFwdIdeal.Claims

open Cert.ConvFwdIdeal Cert.ConvFwdIdeal.Gen

variable (m : (ℓ : Loc nD τ sig) → Buf (Elt Ideal) ℓ)

open ConvFwdRefIdeal.Read
open ConvIdeal.Claims (hz select_sge)

theorem idx (t : Fin cfg0.N) : win0_0.index t = ![0, t.val] ∧ win0_1.index t = ![0, t.val + 4] ∧ win0_2.index t = ![0, t.val + 8]
    ∧ win0_3.index t = ![0, t.val] ∧ win0_4.index t = ![0, t.val] := by
  revert t; decide +kernel

theorem t_lt (t : Fin cfg0.N) : t.val < 4 := t.isLt

theorem emb (t : Fin cfg0.N) (a : Fin 2048) (b : Fin 256) :
    ((View.whole main_v0).slice (win0_4.rect t)).emb (ix2 a b) = ix2 a ⟨t.val * 256 + b.val, by have h := t_lt t; omega⟩ := by
  blk_ext [idx t]

variable (c : Dev nD) (t : Fin cfg0.N)

theorem read0 (a : Fin 2048) (b : Fin 256) : iblk m c 0 t (ix2 a b) =
    m ((c : Thread nD τ).loc main_arg0) (ix2 a ⟨t.val * 256 + b.val, by have h := t_lt t; omega⟩) := by
  blk_ext [iblk, V, idx t]
theorem read1 (a : Fin 2048) (b : Fin 256) : iblk m c 1 t (ix2 a b) =
    m ((c : Thread nD τ).loc main_arg0) (ix2 a ⟨1024 + (t.val * 256 + b.val), by have h := t_lt t; omega⟩) := by
  blk_ext [iblk, V, idx t]
theorem read2 (a : Fin 2048) (b : Fin 256) : iblk m c 2 t (ix2 a b) =
    m ((c : Thread nD τ).loc main_arg0) (ix2 a ⟨2048 + (t.val * 256 + b.val), by have h := t_lt t; omega⟩) := by
  blk_ext [iblk, V, idx t]
theorem read3 (a : Fin 3) (b : Fin 256) : iblk m c 3 t (ix2 a b) =
    m ((c : Thread nD τ).loc main_arg1) (ix2 a ⟨t.val * 256 + b.val, by have h := t_lt t; omega⟩) := by
  blk_ext [iblk, V, idx t]

/-- The three taps' terms in either order. -/
theorem turn (z p q r : EReal) : z * (p + q + r) = z * (r + q + p) := by
  rw [add_comm (p + q), add_comm p, add_assoc]

theorem final : (dats m 0 c).arrAt 4 cfg0.N = val_main_v31 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  idx_vars y
  rw [emb]
  unfold_payloads
  pointwise [val_main_v0, val_main_v1, val_main_v2, val_main_v3, val_main_v4, val_main_v5, val_main_cst, val_main_v6, val_main_v7, val_main_v8, val_main_v9,
    val_main_v10, val_main_v11, val_main_v12, val_main_v13, val_main_cst_0, val_main_v14, val_main_v15, val_main_v16, val_main_v17, val_main_v18, val_main_v19,
    val_main_v20, val_main_v21, val_main_v22, val_main_v23, val_main_v24, val_main_v25, val_main_v26, val_main_v27, val_main_v28, val_main_v29, val_main_v30, val_main_v31]
  have ht := t_lt t
  simp (disch := omega) only [show (2#32 : BitVec 32) = BitVec.ofNat 32 2 from rfl, show (1#32 : BitVec 32) = BitVec.ofNat 32 1 from rfl, select_sge, read0, read1, read2, read3]
  have e1 (h) (h' : ¬y0.val < 1) : (⟨(y0.val + 2048 - 1) % 2048, h⟩ : Fin 2048) = ⟨1 + y0.val - 2, by omega⟩ := Fin.ext (by simp only []; omega)
  have e2 (h) (h' : ¬y0.val < 2) : (⟨(y0.val + 2048 - 2) % 2048, h⟩ : Fin 2048) = ⟨y0.val - 2, by omega⟩ := Fin.ext (by simp only []; omega)
  by_cases h2 : y0.val < 2
  · by_cases h1 : y0.val < 1
    · simp only [h1, h2, show 1 + y0.val < 2 by omega, if_true, dif_pos, zero_mul]; exact turn _ _ _ _
    · simp only [h1, h2, show ¬(1 + y0.val < 2) by omega, if_true, if_false, dif_pos, zero_mul, e1 _ h1, dif_neg, not_false_eq_true]; exact turn _ _ _ _
  · simp only [show ¬(y0.val < 1) by omega, h2, show ¬(1 + y0.val < 2) by omega, if_false, e1 _ (show ¬(y0.val < 1) by omega), e2 _ h2, dif_neg, not_false_eq_true]; exact turn _ _ _ _

theorem algebraic : Cert.algebraic_ConvFwdIdeal_ConvFwdRefIdeal := by
  intro m g m' g' _ hag
  refine ⟨fun c => val_main_v31 (F := Ideal) (m ((c : Thread nD τ).loc main_arg0)) (m ((c : Thread nD τ).loc main_arg1)), ?_, ?_⟩
  · exact (θ_run defs _ _).mono (fun r h c => ⟨(h c).1.trans (final m c), (h c).2⟩) (Value.run_blocks m g)
  · refine (θ_run ConvFwdRefIdeal.defs _ _).mono (fun r h c => ⟨(h c).1.trans ?_, (h c).2⟩) (ConvFwdRefIdeal.Value.run (F := Ideal) m' g')
    rw [val_main_v31_eq, (hag c).1, (hag c).2]

end Cert.ConvFwdIdeal.Claims
-- ==== Proof.FfnUp.lean ====
/- The up products and the gated unit, a block of rows and columns per point. -/
module

public import proofs.«01_k».proof.Defs
public import proofs.«01_k».proof.Proof.Gen.FfnUpIdeal.Value
public import proofs.«01_k».proof.Proof.Gen.FfnUpRefIdeal.Read
public import Idealize.ShloMosaic.Lib.Pointwise
public import Idealize.ShloMosaic.Lib.Tactic
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnUpIdeal.Claims

open Cert.FfnUpIdeal Cert.FfnUpIdeal.Gen

variable (m : (ℓ : Loc nD τ sig) → Buf (Elt Ideal) ℓ)

open FfnUpRefIdeal.Read

theorem hz : (![0, 0] : Fin 2 → Nat) = fun _ => 0 := funext fun a => by fin_cases a <;> rfl

/-- The gated unit of a gate and a value. -/
abbrev unit (g u : EReal) : EReal := g * Ideal.div 1 (1 + Ideal.exp (-g)) * u

theorem pay3 (x : Vec Ideal S1024x1024 .bf16) (w : Vec Ideal S1024x1408 .bf16) (a : Fin 1024) (b : Fin 1408) :
    k0_pay3 x w (ix3 (0 : Fin 1) a b) = ∑ k, x (ix2 a k) * w (ix2 k b) := by
  unfold_payloads; pointwise
theorem pay4 (x : Vec Ideal S1024x1024 .bf16) (w : Vec Ideal S1024x1408 .bf16) (a : Fin 1024) (b : Fin 1408) :
    k0_pay4 x w (ix3 (0 : Fin 1) a b) = ∑ k, x (ix2 a k) * w (ix2 k b) := by
  unfold_payloads; pointwise
theorem pay5 (x : Vec Ideal S1024x1024 .bf16) (v w : Vec Ideal S1024x1408 .bf16) (a : Fin 1024) (b : Fin 1408) :
    k0_pay5 x v w (ix2 a b) = unit (∑ k, x (ix2 a k) * v (ix2 k b)) (∑ k, x (ix2 a k) * w (ix2 k b)) := by
  unfold_payloads; pointwise; simp only [zero_sub]

theorem emb_half0 (a : Fin 1024) (b : Fin 1408) : (ix3 0 a b : S2x1024x1408.Idx) = r0_2.emb (ix3 (0 : Fin 1) a b) := by
  blk_ext []
theorem emb_half1 (a : Fin 1024) (b : Fin 1408) : (ix3 1 a b : S2x1024x1408.Idx) = r0_3.emb (ix3 (0 : Fin 1) a b) := by
  blk_ext []

section Reference

variable (x0 : FVec Ideal S2048x1024 .bf16) (x1 : FVec Ideal S1024x5632 .bf16) (a : Fin 2048) (b : Fin 2816)

/-- The gate and the value at an entry. -/
abbrev gt : EReal := ∑ k, x0 (ix2 a k) * x1 (ix2 k ⟨b.val, by omega⟩)
abbrev up : EReal := ∑ k, x0 (ix2 a k) * x1 (ix2 k ⟨2816 + b.val, by omega⟩)

theorem v3 : val_main_v3 (F := Ideal) x0 x1 (ix2 a b) = gt x0 x1 a b := by
  unfold val_main_v3 val_main_v2 val_main_v1 val_main_v0; pointwise
theorem v4 : val_main_v4 (F := Ideal) x0 x1 (ix2 a b) = up x0 x1 a b := by
  unfold val_main_v4 val_main_v2 val_main_v1 val_main_v0; pointwise
theorem ref8_0 : val_main_v8 (F := Ideal) x0 x1 (ix3 0 a b) = gt x0 x1 a b := by
  unfold val_main_v8 val_main_v7 val_main_v6 val_main_v5; pointwise; exact v3 x0 x1 a b
theorem ref8_1 : val_main_v8 (F := Ideal) x0 x1 (ix3 1 a b) = up x0 x1 a b := by
  unfold val_main_v8 val_main_v7 val_main_v6 val_main_v5; pointwise; exact v4 x0 x1 a b
theorem ref11 : val_main_v11 (F := Ideal) x0 x1 (ix2 a b) = unit (gt x0 x1 a b) (up x0 x1 a b) := by
  unfold val_main_v11 val_main_v10 val_main_v9 val_main_call0_v5 val_main_call0_v3 val_main_call0_v1 val_main_call0_v0
  pointwise [val_main_call0_cst, val_main_call0_v2, val_main_call0_cst_0, val_main_call0_v4]
  rw [v3, v4]

end Reference

theorem idx (t : Fin cfg0.N) : win0_0.index t = ![t.val / 2, 0] ∧ win0_1.index t = ![0, t.val % 2] ∧ win0_2.index t = ![0, 2 + t.val % 2]
    ∧ win0_3.index t = ![0, t.val / 2, t.val % 2] ∧ win0_4.index t = ![t.val / 2, t.val % 2] := by
  revert t; decide +kernel

/-- The row and the column of a block's element in the whole array. -/
abbrev rowOf (t : Fin cfg0.N) (a : Fin 1024) : Fin 2048 := ⟨t.val / 2 * 1024 + a.val, by have h : t.val < 4 := t.isLt; omega⟩
abbrev colOf (t : Fin cfg0.N) (b : Fin 1408) : Fin 2816 := ⟨t.val % 2 * 1408 + b.val, by omega⟩

theorem emb3 (t : Fin cfg0.N) (h : Fin 2) (a : Fin 1024) (b : Fin 1408) : ((View.whole main_v0_0).slice (win0_3.rect t)).emb (ix3 h a b) = ix3 h (rowOf t a) (colOf t b) := by
  blk_ext [idx t]
theorem emb4 (t : Fin cfg0.N) (a : Fin 1024) (b : Fin 1408) : ((View.whole main_v0_1).slice (win0_4.rect t)).emb (ix2 a b) = ix2 (rowOf t a) (colOf t b) := by
  blk_ext [idx t]

/-- The arguments. -/
abbrev X0 (c : Dev nD) : FVec Ideal S2048x1024 .bf16 := m ((c : Thread nD τ).loc main_arg0)
abbrev X1 (c : Dev nD) : FVec Ideal S1024x5632 .bf16 := m ((c : Thread nD τ).loc main_arg1)

variable (c : Dev nD) (t : Fin cfg0.N)

theorem read0 (a b : Fin 1024) : iblk m c 0 t (ix2 a b) = X0 m c (ix2 (rowOf t a) b) := by
  unfold iblk
  rw [show V m c (Pipeline.arrRef spec0 0) = X0 m c from V_main_arg0 m c]
  blk_ext [idx t]
theorem read1 (a : Fin 1024) (b : Fin 1408) : iblk m c 1 t (ix2 a b) = X1 m c (ix2 a ⟨(colOf t b).val, by omega⟩) := by
  unfold iblk
  rw [show V m c (Pipeline.arrRef spec0 1) = X1 m c from V_main_arg1 m c]
  blk_ext [idx t]
theorem read2 (a : Fin 1024) (b : Fin 1408) : iblk m c 2 t (ix2 a b) = X1 m c (ix2 a ⟨2816 + (colOf t b).val, by omega⟩) := by
  unfold iblk
  rw [show V m c (Pipeline.arrRef spec0 2) = X1 m c from V_main_arg1 m c]
  blk_ext [idx t]

theorem gt_at (a : Fin 1024) (b : Fin 1408) : (∑ k : Fin 1024, (fun p q : EReal => p * q) (iblk m c 0 t (ix2 a k)) (iblk m c 1 t (ix2 k b))) = gt (X0 m c) (X1 m c) (rowOf t a) (colOf t b) :=
  Finset.sum_congr rfl fun k _ => congrArg₂ (fun p q : EReal => p * q) (read0 m c t a k) (read1 m c t k b)
theorem up_at (a : Fin 1024) (b : Fin 1408) : (∑ k : Fin 1024, (fun p q : EReal => p * q) (iblk m c 0 t (ix2 a k)) (iblk m c 2 t (ix2 k b))) = up (X0 m c) (X1 m c) (rowOf t a) (colOf t b) :=
  Finset.sum_congr rfl fun k _ => congrArg₂ (fun p q : EReal => p * q) (read0 m c t a k) (read2 m c t k b)

theorem final3 : (dats m 0 c).arrAt 3 cfg0.N = val_main_v8 (F := Ideal) (X0 m c) (X1 m c) := by
  refine (dats m 0 c).arrAt_eq_of_covers 3 _ (by decide +kernel) fun t hf y => ?_
  blk_simp
  rw [after0_3]
  idx_vars y
  rw [emb3]
  unfold out0_3
  simp only [View.ld_unit_zero (S := S1024x1024) hz, View.ld_unit_zero (S := S1024x1408) hz]
  match y0 with
  | ⟨0, _⟩ =>
    refine Eq.trans ?_ (ref8_0 _ _ (rowOf t y1) (colOf t y2)).symm
    refine Eq.trans ?_ ((pay3 _ _ y1 y2).trans (gt_at m c t y1 y2))
    show View.canon _ (ix3 0 y1 y2) = _
    rw [View.canon_cons_of_not_mem, emb_half0, View.canon_cons_emb]
    intro h
    obtain ⟨j, _, hj⟩ := (LoadRect.mem_set _).1 h 0
    have h0 : (0 : ℕ) = 1 + 1 * j := hj
    omega
  | ⟨1, _⟩ =>
    refine Eq.trans ?_ (ref8_1 _ _ (rowOf t y1) (colOf t y2)).symm
    refine Eq.trans ?_ ((pay4 _ _ y1 y2).trans (up_at m c t y1 y2))
    show View.canon _ (ix3 1 y1 y2) = _
    rw [emb_half1, View.canon_cons_emb]
theorem final4 : (dats m 0 c).arrAt 4 cfg0.N = val_main_v11 (F := Ideal) (X0 m c) (X1 m c) := by
  refine (dats m 0 c).arrAt_eq_of_covers 4 _ (by decide +kernel) fun t hf y => ?_
  blk_simp
  rw [after0_4]
  idx_vars y
  rw [emb4, ref11]
  unfold out0_4
  simp only [View.canon_unit_zero (S := S1024x1408) hz, View.ld_unit_zero (S := S1024x1024) hz, View.ld_unit_zero (S := S1024x1408) hz]
  exact (pay5 _ _ _ y0 y1).trans (congrArg₂ unit (gt_at m c t y0 y1) (up_at m c t y0 y1))

theorem algebraic : Cert.algebraic_FfnUpIdeal_FfnUpRefIdeal := by
  intro m g m' g' _ hag
  refine ⟨fun c => val_main_v8 (F := Ideal) (X0 m c) (X1 m c), fun c => val_main_v11 (F := Ideal) (X0 m c) (X1 m c), ?_, ?_⟩
  · exact (θ_run defs _ _).mono (fun r h c => ⟨(h c).1.trans (final3 m c), (h c).2.1.trans (final4 m c), (h c).2.2⟩) (Value.run_blocks m g)
  · refine (θ_run FfnUpRefIdeal.defs _ _).mono (fun r h c => ⟨(h c).1.trans ?_, (h c).2.1.trans ?_, (h c).2.2⟩) (FfnUpRefIdeal.Value.run (F := Ideal) m' g')
    · rw [val_main_v8_eq, (hag c).1, (hag c).2]
    · rw [val_main_v11_eq, (hag c).1, (hag c).2]

end Cert.FfnUpIdeal.Claims
-- ==== Proof.MixDmerge.lean ====
/- The gradients through the two merge gates, a block of rows and columns per point. -/
module

public import proofs.«01_k».proof.Defs
public import proofs.«01_k».proof.Proof.Gen.MixDmergeIdeal.Value
public import proofs.«01_k».proof.Proof.Gen.MixDmergeRefIdeal.Read
public import Idealize.ShloMosaic.Lib.Pointwise
public import Idealize.ShloMosaic.Lib.Tactic
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MixDmergeIdeal.Claims

open Cert.MixDmergeIdeal Cert.MixDmergeIdeal.Gen

variable (m : (ℓ : Loc nD τ sig) → Buf (Elt Ideal) ℓ)

open MixDmergeRefIdeal.Read

theorem hz : (![0, 0] : Fin 2 → Nat) = fun _ => 0 := funext fun a => by fin_cases a <;> rfl

/-- The pieces of a point: the product, the two gates, and the gradients of the gates' inputs. -/
abbrev dM (c : Dev nD) (t : Fin cfg0.N) : FVec Ideal S1024x512 .f32 := k0_pay10 (iblk m c 0 t) (iblk m c 1 t)
abbrev gA (c : Dev nD) (t : Fin cfg0.N) : FVec Ideal S1024x512 .f32 := k0_pay11 (iblk m c 4 t) (iblk m c 6 t)
abbrev gB (c : Dev nD) (t : Fin cfg0.N) : FVec Ideal S1024x512 .f32 := k0_pay12 (iblk m c 5 t) (iblk m c 7 t)
abbrev dA (c : Dev nD) (t : Fin cfg0.N) : FVec Ideal S1024x512 .f32 :=
  k0_pay13 (iblk m c 0 t) (iblk m c 1 t) (iblk m c 4 t) (iblk m c 6 t) (iblk m c 2 t)

theorem outs_A (c : Dev nD) (t : Fin cfg0.N) (h0 : t.val % 2 = 0) (h1 : ¬t.val % 2 = 1) :
    outsAt0 m c t.val t.isLt = (k0_pay2 (dM m c t) (gA m c t), k0_pay3 (dM m c t) (gB m c t), k0_pay4 (dA m c t),
      k0_pay5 (dM m c t) (gB m c t) (iblk m c 3 t), k0_pay6 (dA m c t), k0_pay7 (dM m c t) (gB m c t) (iblk m c 3 t)) := by
  rw [outsAt0_A m c t h0 h1]
  refine Prod.ext ?_ (Prod.ext ?_ (Prod.ext ?_ (Prod.ext ?_ (Prod.ext ?_ ?_))))
  all_goals
    dsimp only
    first
      | unfold out0_A_8; rw [View.read_writes_eq_canon _ _ _ (fun y => ?_)]; swap; exact cover0_A_8 ..
      | unfold out0_A_9; rw [View.read_writes_eq_canon _ _ _ (fun y => ?_)]; swap; exact cover0_A_9 ..
      | unfold out0_A_10; rw [View.read_writes_eq_canon _ _ _ (fun y => ?_)]; swap; exact cover0_A_10 ..
      | unfold out0_A_11; rw [View.read_writes_eq_canon _ _ _ (fun y => ?_)]; swap; exact cover0_A_11 ..
      | unfold out0_A_12; rw [View.read_writes_eq_canon _ _ _ (fun y => ?_)]; swap; exact cover0_A_12 ..
      | unfold out0_A_13; rw [View.read_writes_eq_canon _ _ _ (fun y => ?_)]; swap; exact cover0_A_13 ..
    unfold kernelRun0_A
    dsimp only
    simp only [View.canon_unit_zero (S := S1024x512) hz, View.canon_unit_zero (S := S1x512) hz, View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, kernelRun0_A.sl.r, kernelRun0_A.sl.r_1, kernelRun0_A.sl.r_2, kernelRun0_A.sl.r_3, View.ld_unit_zero (S := S1024x512) hz,
      View.ld_unit_zero (S := S1024x1024) hz, View.ld_unit_zero (S := S512x1024) hz, View.ld_unit_zero (S := S1x512) hz]

theorem outs_B (c : Dev nD) (t : Fin cfg0.N) (h0 : ¬t.val % 2 = 0) (h1 : t.val % 2 = 1) (p q : FVec Ideal S1x512 .f32)
    (hp : (outsAt0 m c (t.val - 1) (Nat.lt_of_le_of_lt (Nat.sub_le _ _) t.isLt)).2.2.2.2.1 = p)
    (hq : (outsAt0 m c (t.val - 1) (Nat.lt_of_le_of_lt (Nat.sub_le _ _) t.isLt)).2.2.2.2.2 = q) :
    outsAt0 m c t.val t.isLt = (k0_pay2 (dM m c t) (gA m c t), k0_pay3 (dM m c t) (gB m c t), k0_pay4 (dA m c t),
      k0_pay5 (dM m c t) (gB m c t) (iblk m c 3 t), k0_pay8 (dA m c t) p, k0_pay9 (dM m c t) (gB m c t) (iblk m c 3 t) q) := by
  rw [outsAt0_B m c t h0 h1, hp, hq]
  refine Prod.ext ?_ (Prod.ext ?_ (Prod.ext ?_ (Prod.ext ?_ (Prod.ext ?_ ?_))))
  all_goals
    dsimp only
    first
      | unfold out0_B_8; rw [View.read_writes_eq_canon _ _ _ (fun y => ?_)]; swap; exact cover0_B_8 ..
      | unfold out0_B_9; rw [View.read_writes_eq_canon _ _ _ (fun y => ?_)]; swap; exact cover0_B_9 ..
      | unfold out0_B_10; rw [View.read_writes_eq_canon _ _ _ (fun y => ?_)]; swap; exact cover0_B_10 ..
      | unfold out0_B_11; rw [View.read_writes_eq_canon _ _ _ (fun y => ?_)]; swap; exact cover0_B_11 ..
      | unfold out0_B_12; rw [View.read_writes_eq_canon _ _ _ (fun y => ?_)]; swap; exact cover0_B_12 ..
      | unfold out0_B_13; rw [View.read_writes_eq_canon _ _ _ (fun y => ?_)]; swap; exact cover0_B_13 ..
    unfold kernelRun0_B
    dsimp only
    simp only [View.canon_unit_zero (S := S1024x512) hz, View.canon_unit_zero (S := S1x512) hz, View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, kernelRun0_B.sl.r, kernelRun0_B.sl.r_1, kernelRun0_B.sl.r_2, kernelRun0_B.sl.r_3, (hs0_12 t).read_unread, (hs0_13 t).read_unread, View.ld_unit_zero (S := S1024x512) hz,
      View.ld_unit_zero (S := S1024x1024) hz, View.ld_unit_zero (S := S512x1024) hz, View.ld_unit_zero (S := S1x512) hz]

theorem idx (t : Fin cfg0.N) : win0_0.index t = ![t.val % 2, 0] ∧ win0_1.index t = ![t.val / 2, 0] ∧ win0_2.index t = ![t.val % 2, t.val / 2]
    ∧ win0_3.index t = ![t.val % 2, t.val / 2] ∧ win0_4.index t = ![t.val % 2, t.val / 2 + 12] ∧ win0_5.index t = ![t.val % 2, t.val / 2 + 14]
    ∧ win0_6.index t = ![0, t.val / 2] ∧ win0_7.index t = ![0, t.val / 2] := by
  revert t; decide +kernel
theorem idxO (t : Fin cfg0.N) : win0_8.index t = ![t.val % 2, t.val / 2] ∧ win0_9.index t = ![t.val % 2, t.val / 2] ∧ win0_10.index t = ![t.val % 2, t.val / 2]
    ∧ win0_11.index t = ![t.val % 2, t.val / 2] ∧ win0_12.index t = ![0, t.val / 2] ∧ win0_13.index t = ![0, t.val / 2] := by
  revert t; decide +kernel

theorem t_lt (t : Fin cfg0.N) : t.val < 4 := t.isLt

/-- The row and the column of a block's element in the whole array. -/
abbrev rowOf (t : Fin cfg0.N) (a : Fin 1024) : Fin 2048 := ⟨t.val % 2 * 1024 + a.val, by omega⟩
abbrev colOf (t : Fin cfg0.N) (b : Fin 512) : Fin 1024 := ⟨t.val / 2 * 512 + b.val, by have h := t_lt t; omega⟩

theorem emb8 (t : Fin cfg0.N) (a : Fin 1024) (b : Fin 512) : ((View.whole main_v3_0).slice (win0_8.rect t)).emb (ix2 a b) = ix2 (rowOf t a) (colOf t b) := by
  blk_ext [idxO t]
theorem emb9 (t : Fin cfg0.N) (a : Fin 1024) (b : Fin 512) : ((View.whole main_v3_1).slice (win0_9.rect t)).emb (ix2 a b) = ix2 (rowOf t a) (colOf t b) := by
  blk_ext [idxO t]
theorem emb10 (t : Fin cfg0.N) (a : Fin 1024) (b : Fin 512) : ((View.whole main_v3_2).slice (win0_10.rect t)).emb (ix2 a b) = ix2 (rowOf t a) (colOf t b) := by
  blk_ext [idxO t]
theorem emb11 (t : Fin cfg0.N) (a : Fin 1024) (b : Fin 512) : ((View.whole main_v3_3).slice (win0_11.rect t)).emb (ix2 a b) = ix2 (rowOf t a) (colOf t b) := by
  blk_ext [idxO t]
theorem emb12 (t : Fin cfg0.N) (a : Fin 1) (b : Fin 512) : ((View.whole main_v3_4).slice (win0_12.rect t)).emb (ix2 a b) = ix2 a (colOf t b) := by
  blk_ext [idxO t]
theorem emb13 (t : Fin cfg0.N) (a : Fin 1) (b : Fin 512) : ((View.whole main_v3_5).slice (win0_13.rect t)).emb (ix2 a b) = ix2 a (colOf t b) := by
  blk_ext [idxO t]

/-- The arguments. -/
abbrev X0 (c : Dev nD) : FVec Ideal S2048x1024 .bf16 := m ((c : Thread nD τ).loc main_arg0)
abbrev X1 (c : Dev nD) : FVec Ideal S1024x1024 .bf16 := m ((c : Thread nD τ).loc main_arg1)
abbrev X2 (c : Dev nD) : FVec Ideal S2048x1024 .bf16 := m ((c : Thread nD τ).loc main_arg2)
abbrev X3 (c : Dev nD) : FVec Ideal S2048x1024 .bf16 := m ((c : Thread nD τ).loc main_arg3)
abbrev X4 (c : Dev nD) : FVec Ideal S2048x8192 .bf16 := m ((c : Thread nD τ).loc main_arg4)
abbrev X5 (c : Dev nD) : FVec Ideal S2048 .f32 := m ((c : Thread nD τ).loc main_arg5)

theorem read0 (c : Dev nD) (t : Fin cfg0.N) (a b : Fin 1024) : iblk m c 0 t (ix2 a b) = X0 m c (ix2 (rowOf t a) b) := by
  unfold iblk
  rw [show V m c (Pipeline.arrRef spec0 0) = m ((c : Thread nD τ).loc main_arg0) from V_main_arg0 m c]
  blk_ext [idx t]
theorem read1 (c : Dev nD) (t : Fin cfg0.N) (a : Fin 512) (b : Fin 1024) : iblk m c 1 t (ix2 a b) = X1 m c (ix2 (colOf t a) b) := by
  unfold iblk
  rw [show V m c (Pipeline.arrRef spec0 1) = m ((c : Thread nD τ).loc main_arg1) from V_main_arg1 m c]
  blk_ext [idx t]
theorem read2 (c : Dev nD) (t : Fin cfg0.N) (a : Fin 1024) (b : Fin 512) : iblk m c 2 t (ix2 a b) = X2 m c (ix2 (rowOf t a) (colOf t b)) := by
  unfold iblk
  rw [show V m c (Pipeline.arrRef spec0 2) = m ((c : Thread nD τ).loc main_arg2) from V_main_arg2 m c]
  blk_ext [idx t]
theorem read3 (c : Dev nD) (t : Fin cfg0.N) (a : Fin 1024) (b : Fin 512) : iblk m c 3 t (ix2 a b) = X3 m c (ix2 (rowOf t a) (colOf t b)) := by
  unfold iblk
  rw [show V m c (Pipeline.arrRef spec0 3) = m ((c : Thread nD τ).loc main_arg3) from V_main_arg3 m c]
  blk_ext [idx t]
theorem read4 (c : Dev nD) (t : Fin cfg0.N) (a : Fin 1024) (b : Fin 512) :
    iblk m c 4 t (ix2 a b) = X4 m c (ix2 (rowOf t a) ⟨6144 + (colOf t b).val, by omega⟩) := by
  unfold iblk
  rw [show V m c (Pipeline.arrRef spec0 4) = m ((c : Thread nD τ).loc main_arg4) from V_main_arg4 m c]
  blk_ext [idx t]
theorem read5 (c : Dev nD) (t : Fin cfg0.N) (a : Fin 1024) (b : Fin 512) :
    iblk m c 5 t (ix2 a b) = X4 m c (ix2 (rowOf t a) ⟨6144 + (1024 + (colOf t b).val), by omega⟩) := by
  unfold iblk
  rw [show V m c (Pipeline.arrRef spec0 5) = m ((c : Thread nD τ).loc main_arg4) from V_main_arg4 m c]
  blk_ext [idx t]

theorem V6 (c : Dev nD) : V m c (Pipeline.arrRef spec0 6) = extractStridedSlice S1x1024 ![0, 0] (shapeCast S1x2048 (X5 m c) shapeCasts_S2048_S1x2048) slices_S1x2048_S1x1024_0_0 := by
  show V m c main_v1 = _
  unfold V; after_reads_simp; rfl
theorem V7 (c : Dev nD) : V m c (Pipeline.arrRef spec0 7) = extractStridedSlice S1x1024 ![0, 1024] (shapeCast S1x2048 (X5 m c) shapeCasts_S2048_S1x2048) slices_S1x2048_S1x1024_0_1024 := by
  show V m c main_v2 = _
  unfold V; after_reads_simp; rfl
theorem bias0 (x : FVec Ideal S2048 .f32) (b : Fin 1024) :
    extractStridedSlice S1x1024 ![0, 0] (shapeCast S1x2048 x shapeCasts_S2048_S1x2048) slices_S1x2048_S1x1024_0_0 (ix2 0 b) = x (ix1 ⟨b.val, by omega⟩) := by
  pointwise
theorem bias1 (x : FVec Ideal S2048 .f32) (b : Fin 1024) :
    extractStridedSlice S1x1024 ![0, 1024] (shapeCast S1x2048 x shapeCasts_S2048_S1x2048) slices_S1x2048_S1x1024_0_1024 (ix2 0 b) = x (ix1 ⟨1024 + b.val, by omega⟩) := by
  pointwise
theorem read6 (c : Dev nD) (t : Fin cfg0.N) (b : Fin 512) (x) (hx : V m c (Pipeline.arrRef spec0 6) = x) : iblk m c 6 t (ix2 0 b) = x (ix2 0 (colOf t b)) := by
  unfold iblk
  rw [hx]
  blk_ext [idx t]
theorem read7 (c : Dev nD) (t : Fin cfg0.N) (b : Fin 512) (x) (hx : V m c (Pipeline.arrRef spec0 7) = x) : iblk m c 7 t (ix2 0 b) = x (ix2 0 (colOf t b)) := by
  unfold iblk
  rw [hx]
  blk_ext [idx t]

/-- One gate, from its input and its bias. -/
abbrev sg (x y : EReal) : EReal := Ideal.div 1 (1 + Ideal.exp (-(x + y)))

theorem pay10 (u : Vec Ideal S1024x1024 .bf16) (v : Vec Ideal S512x1024 .bf16) (a : Fin 1024) (b : Fin 512) :
    k0_pay10 u v (ix2 a b) = ∑ x, u (ix2 a x) * v (ix2 b x) := by
  unfold_payloads; pointwise
theorem pay11 (u : Vec Ideal S1024x512 .bf16) (v : Vec Ideal S1x512 .f32) (a : Fin 1024) (b : Fin 512) :
    k0_pay11 u v (ix2 a b) = sg (u (ix2 a b)) (v (ix2 0 b)) := by
  unfold_payloads; pointwise; rw [zero_sub]
theorem pay12 (u : Vec Ideal S1024x512 .bf16) (v : Vec Ideal S1x512 .f32) (a : Fin 1024) (b : Fin 512) :
    k0_pay12 u v (ix2 a b) = sg (u (ix2 a b)) (v (ix2 0 b)) := by
  unfold_payloads; pointwise; rw [zero_sub]
theorem pay1 (d g : FVec Ideal S1024x512 .f32) (x : Vec Ideal S1024x512 .bf16) (i : S1024x512.Idx) :
    k0_pay1 d g x i = d i * x i * g i * (1 - g i) := by
  unfold_payloads; pointwise
theorem pay13 (u : Vec Ideal S1024x1024 .bf16) (v : Vec Ideal S512x1024 .bf16) (p : Vec Ideal S1024x512 .bf16) (q : Vec Ideal S1x512 .f32)
    (x : Vec Ideal S1024x512 .bf16) (i : S1024x512.Idx) :
    k0_pay13 u v p q x i = k0_pay10 u v i * x i * k0_pay11 p q i * (1 - k0_pay11 p q i) := by
  unfold k0_pay13; pointwise
theorem pay6 (x : FVec Ideal S1024x512 .f32) (b : Fin 512) : k0_pay6 x (ix2 0 b) = ∑ a, x (ix2 a b) := by
  unfold_payloads; pointwise
theorem pay7 (d g : FVec Ideal S1024x512 .f32) (x : Vec Ideal S1024x512 .bf16) (b : Fin 512) : k0_pay7 d g x (ix2 0 b) = ∑ a, k0_pay1 d g x (ix2 a b) := by
  unfold k0_pay7; pointwise
theorem pay8 (x : FVec Ideal S1024x512 .f32) (p : Vec Ideal S1x512 .f32) (b : Fin 512) : k0_pay8 x p (ix2 0 b) = p (ix2 0 b) + ∑ a, x (ix2 a b) := by
  unfold_payloads; pointwise
theorem pay9 (d g : FVec Ideal S1024x512 .f32) (x : Vec Ideal S1024x512 .bf16) (p : Vec Ideal S1x512 .f32) (b : Fin 512) :
    k0_pay9 d g x p (ix2 0 b) = p (ix2 0 b) + ∑ a, k0_pay1 d g x (ix2 a b) := by
  unfold k0_pay9 k0_pay7; pointwise

section Reference

variable (x0 : FVec Ideal S2048x1024 .bf16) (x1 : FVec Ideal S1024x1024 .bf16) (x2 x3 : FVec Ideal S2048x1024 .bf16) (x4 : FVec Ideal S2048x8192 .bf16)
  (x5 : FVec Ideal S2048 .f32)

/-- The incoming gradient of the merge, the two gates and the gradients of their inputs, entry by entry. -/
abbrev dm (a : Fin 2048) (b : Fin 1024) : EReal := ∑ x, x0 (ix2 a x) * x1 (ix2 b x)
abbrev g0 (a : Fin 2048) (b : Fin 1024) : EReal := sg (x4 (ix2 a ⟨6144 + b.val, by omega⟩)) (x5 (ix1 ⟨b.val, by omega⟩))
abbrev g1 (a : Fin 2048) (b : Fin 1024) : EReal := sg (x4 (ix2 a ⟨6144 + (1024 + b.val), by omega⟩)) (x5 (ix1 ⟨1024 + b.val, by omega⟩))
abbrev e0 (a : Fin 2048) (b : Fin 1024) : EReal := dm x0 x1 a b * x2 (ix2 a b) * g0 x4 x5 a b * (1 - g0 x4 x5 a b)
abbrev e1 (a : Fin 2048) (b : Fin 1024) : EReal := dm x0 x1 a b * x3 (ix2 a b) * g1 x4 x5 a b * (1 - g1 x4 x5 a b)

theorem v13 (a b : Fin 2048) : val_main_v13 (F := Ideal) x4 x5 (ix2 a b) = sg (x4 (ix2 a ⟨6144 + b.val, by omega⟩)) (x5 (ix1 b)) := by
  pointwise [val_main_v13, val_main_v12, val_main_v11, val_main_v10, val_main_v9, val_main_v8, val_main_v7, val_main_v6, val_main_v5, val_main_v4, val_main_v3, val_main_cst, val_main_cst_0]
theorem v24 (a : Fin 2048) (b : Fin 1024) : val_main_v24 (F := Ideal) x0 x1 (ix2 a b) = dm x0 x1 a b := by
  pointwise [val_main_v24, val_main_v23, val_main_v0]
theorem v30_0 (a : Fin 2048) (b : Fin 1024) : val_main_v30 (F := Ideal) x0 x1 x2 x3 x4 x5 (ix2 a ⟨b.val, by omega⟩) = e0 x0 x1 x2 x4 x5 a b := by
  have h : val_main_v29 (F := Ideal) x0 x1 x2 x3 (ix2 a ⟨b.val, by omega⟩) = val_main_v24 (F := Ideal) x0 x1 (ix2 a b) * x2 (ix2 a b) := by
    unfold val_main_v29; pointwise [val_main_v28, val_main_v1]
  rw [val_main_v30_apply, h, v24]
  pointwise [val_main_v16, val_main_v15, val_main_v14, val_main_cst_1]
  rw [v13, ← mul_assoc]
theorem v30_1 (a : Fin 2048) (b : Fin 1024) : val_main_v30 (F := Ideal) x0 x1 x2 x3 x4 x5 (ix2 a ⟨1024 + b.val, by omega⟩) = e1 x0 x1 x3 x4 x5 a b := by
  have h : val_main_v29 (F := Ideal) x0 x1 x2 x3 (ix2 a ⟨1024 + b.val, by omega⟩) = val_main_v24 (F := Ideal) x0 x1 (ix2 a b) * x3 (ix2 a b) := by
    unfold val_main_v29; pointwise [val_main_v26, val_main_v2]
  rw [val_main_v30_apply, h, v24]
  pointwise [val_main_v16, val_main_v15, val_main_v14, val_main_cst_1]
  rw [v13, ← mul_assoc]
theorem ref40 (a : Fin 2048) (b : Fin 1024) : val_main_v40 (F := Ideal) x0 x1 x4 x5 (ix2 a b) = dm x0 x1 a b * g0 x4 x5 a b := by
  unfold val_main_v40 val_main_v27 val_main_v17
  pointwise
  rw [v13, v24, mul_comm]
theorem ref41 (a : Fin 2048) (b : Fin 1024) : val_main_v41 (F := Ideal) x0 x1 x4 x5 (ix2 a b) = dm x0 x1 a b * g1 x4 x5 a b := by
  unfold val_main_v41 val_main_v25 val_main_v18
  pointwise
  rw [v13, v24, mul_comm]
theorem ref35 (a : Fin 2048) (b : Fin 1024) : val_main_v35 (F := Ideal) x0 x1 x2 x3 x4 x5 (ix2 a b) = e0 x0 x1 x2 x4 x5 a b := by
  unfold val_main_v35 val_main_v34
  pointwise
  exact v30_0 x0 x1 x2 x3 x4 x5 a b
theorem ref36 (a : Fin 2048) (b : Fin 1024) : val_main_v36 (F := Ideal) x0 x1 x2 x3 x4 x5 (ix2 a b) = e1 x0 x1 x3 x4 x5 a b := by
  unfold val_main_v36 val_main_v34
  pointwise
  exact v30_1 x0 x1 x2 x3 x4 x5 a b
theorem v37 (b : Fin 2048) : val_main_v37 (F := Ideal) x0 x1 x2 x3 x4 x5 (ix2 0 b) = ∑ a, val_main_v30 (F := Ideal) x0 x1 x2 x3 x4 x5 (ix2 a b) := by
  unfold val_main_v37 val_main_v33 val_main_v32 val_main_v31
  pointwise [val_main_cst_2, val_main_cst_3]
  exact Fin.sum_univ_one _
theorem ref38 (b : Fin 1024) : val_main_v38 (F := Ideal) x0 x1 x2 x3 x4 x5 (ix2 0 b) = ∑ a, e0 x0 x1 x2 x4 x5 a b := by
  unfold val_main_v38
  pointwise
  exact (v37 x0 x1 x2 x3 x4 x5 _).trans (Finset.sum_congr rfl fun a _ => v30_0 x0 x1 x2 x3 x4 x5 a b)
theorem ref39 (b : Fin 1024) : val_main_v39 (F := Ideal) x0 x1 x2 x3 x4 x5 (ix2 0 b) = ∑ a, e1 x0 x1 x3 x4 x5 a b := by
  unfold val_main_v39
  pointwise
  exact (v37 x0 x1 x2 x3 x4 x5 _).trans (Finset.sum_congr rfl fun a _ => v30_1 x0 x1 x2 x3 x4 x5 a b)

end Reference

section Block

variable (c : Dev nD) (t : Fin cfg0.N)

/-- The pieces of a point at an entry are the reference's at the entry's place in the whole arrays. -/
theorem dM_at (a : Fin 1024) (b : Fin 512) : dM m c t (ix2 a b) = dm (X0 m c) (X1 m c) (rowOf t a) (colOf t b) :=
  (pay10 _ _ a b).trans (Finset.sum_congr rfl fun (x : Fin 1024) _ => congrArg₂ (fun p q : EReal => p * q) (read0 m c t a x) (read1 m c t b x))
theorem gA_at (a : Fin 1024) (b : Fin 512) : gA m c t (ix2 a b) = g0 (X4 m c) (X5 m c) (rowOf t a) (colOf t b) :=
  (pay11 _ _ a b).trans (congrArg₂ sg (read4 m c t a b) ((read6 m c t b _ (V6 m c)).trans (bias0 _ _)))
theorem gB_at (a : Fin 1024) (b : Fin 512) : gB m c t (ix2 a b) = g1 (X4 m c) (X5 m c) (rowOf t a) (colOf t b) :=
  (pay12 _ _ a b).trans (congrArg₂ sg (read5 m c t a b) ((read7 m c t b _ (V7 m c)).trans (bias1 _ _)))
theorem input_grad (d x g d' x' g' : EReal) (hd : d = d') (hx : x = x') (hg : g = g') : d * x * g * (1 - g) = d' * x' * g' * (1 - g') := by
  rw [hd, hx, hg]
theorem dA_at (a : Fin 1024) (b : Fin 512) : dA m c t (ix2 a b) = e0 (X0 m c) (X1 m c) (X2 m c) (X4 m c) (X5 m c) (rowOf t a) (colOf t b) :=
  (pay13 _ _ _ _ _ _).trans (input_grad _ _ _ _ _ _ (dM_at m c t a b) (read2 m c t a b) (gA_at m c t a b))
theorem dB_at (a : Fin 1024) (b : Fin 512) : k0_pay1 (dM m c t) (gB m c t) (iblk m c 3 t) (ix2 a b)
    = e1 (X0 m c) (X1 m c) (X3 m c) (X4 m c) (X5 m c) (rowOf t a) (colOf t b) :=
  (pay1 _ _ _ _).trans (input_grad _ _ _ _ _ _ (dM_at m c t a b) (read3 m c t a b) (gB_at m c t a b))

/-- What the four blocks of a point hold, on either branch. -/
theorem outs4 : (outsAt0 m c t.val t.isLt).1 = k0_pay2 (dM m c t) (gA m c t) ∧ (outsAt0 m c t.val t.isLt).2.1 = k0_pay3 (dM m c t) (gB m c t)
    ∧ (outsAt0 m c t.val t.isLt).2.2.1 = k0_pay4 (dA m c t) ∧ (outsAt0 m c t.val t.isLt).2.2.2.1 = k0_pay5 (dM m c t) (gB m c t) (iblk m c 3 t) := by
  by_cases h : t.val % 2 = 0
  · rw [outs_A m c t h (by omega)]; exact ⟨rfl, rfl, rfl, rfl⟩
  · rw [outs_B m c t h (by omega) _ _ rfl rfl]; exact ⟨rfl, rfl, rfl, rfl⟩

/-- A sum over the rows is the sum over the two blocks of rows. -/
theorem sum_rows (f : Fin 2048 → EReal) (b : Fin 512) (s : Fin cfg0.N) (hs : s.val % 2 = 0) (ht : t.val % 2 = 1) :
    (∑ a, f (rowOf s a)) + ∑ a, f (rowOf t a) = ∑ a, f a := by
  refine Eq.trans ?_ (Fin.sum_univ_add (a := 1024) (b := 1024) f).symm
  refine congrArg₂ (· + ·) (Finset.sum_congr rfl fun a _ => congrArg f (Fin.ext ?_)) (Finset.sum_congr rfl fun a _ => congrArg f (Fin.ext ?_))
  · show s.val % 2 * 1024 + a.val = a.val
    omega
  · show t.val % 2 * 1024 + a.val = 1024 + a.val
    omega

/-- The two rows of sums at the second of a column block's points. -/
theorem sums (ht : t.val % 2 = 1) (b : Fin 512) :
    (outsAt0 m c t.val t.isLt).2.2.2.2.1 (ix2 0 b) = ∑ a, e0 (X0 m c) (X1 m c) (X2 m c) (X4 m c) (X5 m c) a (colOf t b)
    ∧ (outsAt0 m c t.val t.isLt).2.2.2.2.2 (ix2 0 b) = ∑ a, e1 (X0 m c) (X1 m c) (X3 m c) (X4 m c) (X5 m c) a (colOf t b) := by
  have hl := t_lt t
  obtain ⟨s, hs⟩ : ∃ s : Fin cfg0.N, s.val = t.val - 1 := ⟨⟨t.val - 1, Nat.lt_of_le_of_lt (Nat.sub_le _ _) t.isLt⟩, rfl⟩
  have hs2 : s.val % 2 = 0 := by omega
  have hc : colOf s b = colOf t b := Fin.ext (by show s.val / 2 * 512 + b.val = t.val / 2 * 512 + b.val; omega)
  have e := outs_A m c s hs2 (by omega)
  have e' : outsAt0 m c (t.val - 1) (Nat.lt_of_le_of_lt (Nat.sub_le _ _) t.isLt) = outsAt0 m c s.val s.isLt := by congr 1; exact hs.symm
  rw [outs_B m c t (by omega) ht (k0_pay6 (dA m c s)) (k0_pay7 (dM m c s) (gB m c s) (iblk m c 3 s)) (by rw [e', e]) (by rw [e', e])]
  refine ⟨?_, ?_⟩
  · refine (pay8 _ _ b).trans (Eq.trans ?_ (sum_rows t (fun a => e0 (X0 m c) (X1 m c) (X2 m c) (X4 m c) (X5 m c) a (colOf t b)) b s hs2 ht))
    refine congrArg₂ (fun p q : EReal => p + q) ((pay6 _ b).trans (Finset.sum_congr rfl fun a _ => ?_)) (Finset.sum_congr rfl fun a _ => dA_at m c t a b)
    rw [dA_at m c s a b, hc]
  · refine (pay9 _ _ _ _ b).trans (Eq.trans ?_ (sum_rows t (fun a => e1 (X0 m c) (X1 m c) (X3 m c) (X4 m c) (X5 m c) a (colOf t b)) b s hs2 ht))
    refine congrArg₂ (fun p q : EReal => p + q) ((pay7 _ _ _ b).trans (Finset.sum_congr rfl fun a _ => ?_)) (Finset.sum_congr rfl fun a _ => dB_at m c t a b)
    rw [dB_at m c s a b, hc]

end Block

theorem final8 (c : Dev nD) : (dats m 0 c).arrAt 8 cfg0.N = val_main_v40 (F := Ideal) (X0 m c) (X1 m c) (X4 m c) (X5 m c) := by
  refine (dats m 0 c).arrAt_eq_of_covers 8 _ (by decide +kernel) fun t hf y => ?_
  blk_simp
  rw [after0_8]
  idx_vars y
  rw [emb8, ref40, (outs4 m c t).1]
  exact congrArg₂ (fun p q : EReal => p * q) (dM_at m c t y0 y1) (gA_at m c t y0 y1)
theorem final9 (c : Dev nD) : (dats m 0 c).arrAt 9 cfg0.N = val_main_v41 (F := Ideal) (X0 m c) (X1 m c) (X4 m c) (X5 m c) := by
  refine (dats m 0 c).arrAt_eq_of_covers 9 _ (by decide +kernel) fun t hf y => ?_
  blk_simp
  rw [after0_9]
  idx_vars y
  rw [emb9, ref41, (outs4 m c t).2.1]
  exact congrArg₂ (fun p q : EReal => p * q) (dM_at m c t y0 y1) (gB_at m c t y0 y1)
theorem final10 (c : Dev nD) : (dats m 0 c).arrAt 10 cfg0.N = val_main_v35 (F := Ideal) (X0 m c) (X1 m c) (X2 m c) (X3 m c) (X4 m c) (X5 m c) := by
  refine (dats m 0 c).arrAt_eq_of_covers 10 _ (by decide +kernel) fun t hf y => ?_
  blk_simp
  rw [after0_10]
  idx_vars y
  rw [emb10, ref35, (outs4 m c t).2.2.1]
  exact dA_at m c t y0 y1
theorem final11 (c : Dev nD) : (dats m 0 c).arrAt 11 cfg0.N = val_main_v36 (F := Ideal) (X0 m c) (X1 m c) (X2 m c) (X3 m c) (X4 m c) (X5 m c) := by
  refine (dats m 0 c).arrAt_eq_of_covers 11 _ (by decide +kernel) fun t hf y => ?_
  blk_simp
  rw [after0_11]
  idx_vars y
  rw [emb11, ref36, (outs4 m c t).2.2.2]
  exact dB_at m c t y0 y1
theorem odd12 : ∀ t : Fin cfg0.N, ((cfg0.win 12).flush t = true → t.val % 2 = 1) ∧ ((cfg0.win 13).flush t = true → t.val % 2 = 1) := by decide +kernel
theorem final12 (c : Dev nD) : (dats m 0 c).arrAt 12 cfg0.N = val_main_v38 (F := Ideal) (X0 m c) (X1 m c) (X2 m c) (X3 m c) (X4 m c) (X5 m c) := by
  refine (dats m 0 c).arrAt_eq_of_covers 12 _ (by decide +kernel) fun t hf y => ?_
  blk_simp
  rw [after0_12]
  idx_vars y
  obtain rfl : y0 = 0 := Subsingleton.elim _ _
  rw [emb12, ref38]
  exact (sums m c t ((odd12 t).1 hf) y1).1
theorem final13 (c : Dev nD) : (dats m 0 c).arrAt 13 cfg0.N = val_main_v39 (F := Ideal) (X0 m c) (X1 m c) (X2 m c) (X3 m c) (X4 m c) (X5 m c) := by
  refine (dats m 0 c).arrAt_eq_of_covers 13 _ (by decide +kernel) fun t hf y => ?_
  blk_simp
  rw [after0_13]
  idx_vars y
  obtain rfl : y0 = 0 := Subsingleton.elim _ _
  rw [emb13, ref39]
  exact (sums m c t ((odd12 t).2 hf) y1).2

theorem algebraic : Cert.algebraic_MixDmergeIdeal_MixDmergeRefIdeal := by
  intro m g m' g' _ hag
  refine ⟨fun c => val_main_v40 (F := Ideal) (X0 m c) (X1 m c) (X4 m c) (X5 m c), fun c => val_main_v41 (F := Ideal) (X0 m c) (X1 m c) (X4 m c) (X5 m c),
    fun c => val_main_v35 (F := Ideal) (X0 m c) (X1 m c) (X2 m c) (X3 m c) (X4 m c) (X5 m c), fun c => val_main_v36 (F := Ideal) (X0 m c) (X1 m c) (X2 m c) (X3 m c) (X4 m c) (X5 m c),
    fun c => val_main_v38 (F := Ideal) (X0 m c) (X1 m c) (X2 m c) (X3 m c) (X4 m c) (X5 m c), fun c => val_main_v39 (F := Ideal) (X0 m c) (X1 m c) (X2 m c) (X3 m c) (X4 m c) (X5 m c), ?_, ?_⟩
  · exact (θ_run defs _ _).mono (fun r h c => ⟨(h c).1.trans (final8 m c), (h c).2.1.trans (final9 m c), (h c).2.2.1.trans (final10 m c),
      (h c).2.2.2.1.trans (final11 m c), (h c).2.2.2.2.1.trans (final12 m c), (h c).2.2.2.2.2.1.trans (final13 m c), (h c).2.2.2.2.2.2⟩) (Value.run_blocks m g)
  · refine (θ_run MixDmergeRefIdeal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (MixDmergeRefIdeal.Value.run (F := Ideal) m' g')
    · rw [val_main_v40_eq, (hag c).1, (hag c).2.1, (hag c).2.2.2.2.1, (hag c).2.2.2.2.2]
    · rw [val_main_v41_eq, (hag c).1, (hag c).2.1, (hag c).2.2.2.2.1, (hag c).2.2.2.2.2]
    all_goals
      first | rw [val_main_v35_eq] | rw [val_main_v36_eq] | rw [val_main_v38_eq] | rw [val_main_v39_eq]
      rw [(hag c).1, (hag c).2.1, (hag c).2.2.1, (hag c).2.2.2.1, (hag c).2.2.2.2.1, (hag c).2.2.2.2.2]

end Cert.MixDmergeIdeal.Claims
-- ==== Proof.MixMerge.lean ====
/- The two merge products and their gated sum, a block of rows and columns per point. -/
module

public import proofs.«01_k».proof.Proof.Gen.MixMergeIdeal.Value
public import proofs.«01_k».proof.Proof.Gen.MixMergeRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.MixDmerge

@[expose] public section

set_option maxRecDepth 16384

noncomputable section

open Idealize.ShloMosaic Idealize.ShloMosaic.TcCoe Idealize.SL.Sem
open Idealize.ShloMosaic.Pipeline (Dat)

namespace Cert.MixMergeIdeal.Claims

open Cert.MixMergeIdeal Cert.MixMergeIdeal.Gen

variable (m : (ℓ : Loc nD τ sig) → Buf (Elt Ideal) ℓ)

open MixMergeRefIdeal.Read
open MixDmergeIdeal.Claims (sg g0 g1 hz)

theorem pay3 (u : Vec Ideal S1024x1024 .bf16) (v : Vec Ideal S1024x512 .bf16) (a : Fin 1024) (b : Fin 512) :
    k0_pay3 u v (ix2 a b) = ∑ x, u (ix2 a x) * v (ix2 x b) := by
  unfold_payloads; pointwise
theorem pay4 (u : Vec Ideal S1024x1024 .f32) (v : Vec Ideal S1024x512 .bf16) (a : Fin 1024) (b : Fin 512) :
    k0_pay4 u v (ix2 a b) = ∑ x, u (ix2 a x) * v (ix2 x b) := by
  unfold_payloads; pointwise
theorem pay7 (u : Vec Ideal S1024x1024 .bf16) (v : Vec Ideal S1024x512 .bf16) (i : S1024x512.Idx) : k0_pay7 u v i = k0_pay3 u v i := by
  unfold k0_pay7; pointwise
theorem pay1 (u : FVec Ideal S1024x512 .f32) (i : S1024x512.Idx) : k0_pay1 u i = u i := by
  unfold_payloads; pointwise
theorem pay5 (u : Vec Ideal S1024x512 .bf16) (v : Vec Ideal S1x512 .f32) (a : Fin 1024) (b : Fin 512) :
    k0_pay5 u v (ix2 a b) = sg (u (ix2 a b)) (v (ix2 0 b)) := by
  unfold_payloads; pointwise; rw [zero_sub]
theorem pay6 (u : Vec Ideal S1024x512 .bf16) (v : Vec Ideal S1x512 .f32) (a : Fin 1024) (b : Fin 512) :
    k0_pay6 u v (ix2 a b) = sg (u (ix2 a b)) (v (ix2 0 b)) := by
  unfold_payloads; pointwise; rw [zero_sub]

/-- The two products weighed by the two gates. -/
abbrev mix (p q g h : EReal) : EReal := g * p + h * q

theorem pay2 (p q g h : FVec Ideal S1024x512 .f32) (i : S1024x512.Idx) : k0_pay2 p q g h i = mix (p i) (q i) (g i) (h i) := by
  unfold_payloads; pointwise

section Reference

variable (x0 : FVec Ideal S2048x1024 .bf16) (x1 : FVec Ideal S2048x1024 .f32) (x2 x3 : FVec Ideal S1024x1024 .bf16) (x4 : FVec Ideal S2048x8192 .bf16)
  (x5 : FVec Ideal S2048 .f32)

theorem v15 (a b : Fin 2048) : val_main_v15 (F := Ideal) x4 x5 (ix2 a b) = sg (x4 (ix2 a ⟨6144 + b.val, by omega⟩)) (x5 (ix1 b)) := by
  pointwise [val_main_v15, val_main_v14, val_main_v13, val_main_v12, val_main_v11, val_main_v10, val_main_v9, val_main_v8, val_main_v7, val_main_v6, val_main_v5, val_main_cst, val_main_cst_0]
theorem v2 (a : Fin 2048) (b : Fin 1024) : val_main_v2 (F := Ideal) x0 x2 (ix2 a b) = ∑ k, x0 (ix2 a k) * x2 (ix2 k b) := by
  pointwise [val_main_v2, val_main_v1, val_main_v0]
theorem v4 (a : Fin 2048) (b : Fin 1024) : val_main_v4 (F := Ideal) x1 x3 (ix2 a b) = ∑ k, x1 (ix2 a k) * x3 (ix2 k b) := by
  pointwise [val_main_v4, val_main_v3]
theorem ref18 (i : S2048x1024.Idx) : val_main_v18 (F := Ideal) x0 x2 i = val_main_v2 (F := Ideal) x0 x2 i := by
  unfold val_main_v18; pointwise
theorem ref19 (i : S2048x1024.Idx) : val_main_v19 (F := Ideal) x1 x3 i = val_main_v4 (F := Ideal) x1 x3 i := by
  unfold val_main_v19; pointwise
theorem ref23 (a : Fin 2048) (b : Fin 1024) : val_main_v23 (F := Ideal) x0 x1 x2 x3 x4 x5 (ix2 a b)
    = mix (val_main_v2 (F := Ideal) x0 x2 (ix2 a b)) (val_main_v4 (F := Ideal) x1 x3 (ix2 a b)) (g0 x4 x5 a b) (g1 x4 x5 a b) := by
  unfold val_main_v23 val_main_v22 val_main_v21 val_main_v20 val_main_v17 val_main_v16
  pointwise
  rw [v15, v15]

end Reference

theorem idx (t : Fin cfg0.N) : win0_0.index t = ![t.val / 2, 0] ∧ win0_1.index t = ![t.val / 2, 0] ∧ win0_2.index t = ![0, t.val % 2] ∧ win0_3.index t = ![0, t.val % 2]
    ∧ win0_4.index t = ![t.val / 2, t.val % 2 + 12] ∧ win0_5.index t = ![t.val / 2, t.val % 2 + 14] ∧ win0_6.index t = ![0, t.val % 2] ∧ win0_7.index t = ![0, t.val % 2]
    ∧ win0_8.index t = ![t.val / 2, t.val % 2] ∧ win0_9.index t = ![t.val / 2, t.val % 2] ∧ win0_10.index t = ![t.val / 2, t.val % 2] := by
  revert t; decide +kernel

/-- The row and the column of a block's element in the whole array. -/
abbrev rowOf (t : Fin cfg0.N) (a : Fin 1024) : Fin 2048 := ⟨t.val / 2 * 1024 + a.val, by have h : t.val < 4 := t.isLt; omega⟩
abbrev colOf (t : Fin cfg0.N) (b : Fin 512) : Fin 1024 := ⟨t.val % 2 * 512 + b.val, by omega⟩

variable (c : Dev nD) (t : Fin cfg0.N) (a : Fin 1024) (b : Fin 512)

theorem emb8 : ((View.whole main_v3_0).slice (win0_8.rect t)).emb (ix2 a b) = ix2 (rowOf t a) (colOf t b) := by
  blk_ext [idx t]
theorem emb9 : ((View.whole main_v3_1).slice (win0_9.rect t)).emb (ix2 a b) = ix2 (rowOf t a) (colOf t b) := by
  blk_ext [idx t]
theorem emb10 : ((View.whole main_v3_2).slice (win0_10.rect t)).emb (ix2 a b) = ix2 (rowOf t a) (colOf t b) := by
  blk_ext [idx t]

/-- The arguments. -/
abbrev X0 : FVec Ideal S2048x1024 .bf16 := m ((c : Thread nD τ).loc main_arg0)
abbrev X1 : FVec Ideal S2048x1024 .f32 := m ((c : Thread nD τ).loc main_arg1)
abbrev X2 : FVec Ideal S1024x1024 .bf16 := m ((c : Thread nD τ).loc main_arg2)
abbrev X3 : FVec Ideal S1024x1024 .bf16 := m ((c : Thread nD τ).loc main_arg3)
abbrev X4 : FVec Ideal S2048x8192 .bf16 := m ((c : Thread nD τ).loc main_arg4)
abbrev X5 : FVec Ideal S2048 .f32 := m ((c : Thread nD τ).loc main_arg5)

theorem read0 (k : Fin 1024) : iblk m c 0 t (ix2 a k) = X0 m c (ix2 (rowOf t a) k) := by
  unfold iblk
  rw [show V m c (Pipeline.arrRef spec0 0) = X0 m c from V_main_arg0 m c]
  blk_ext [idx t]
theorem read1 (k : Fin 1024) : iblk m c 1 t (ix2 a k) = X1 m c (ix2 (rowOf t a) k) := by
  unfold iblk
  rw [show V m c (Pipeline.arrRef spec0 1) = X1 m c from V_main_arg1 m c]
  blk_ext [idx t]
theorem read2 : iblk m c 2 t (ix2 a b) = X2 m c (ix2 a (colOf t b)) := by
  unfold iblk
  rw [show V m c (Pipeline.arrRef spec0 2) = X2 m c from V_main_arg2 m c]
  blk_ext [idx t]
theorem read3 : iblk m c 3 t (ix2 a b) = X3 m c (ix2 a (colOf t b)) := by
  unfold iblk
  rw [show V m c (Pipeline.arrRef spec0 3) = X3 m c from V_main_arg3 m c]
  blk_ext [idx t]
theorem read4 : iblk m c 4 t (ix2 a b) = X4 m c (ix2 (rowOf t a) ⟨6144 + (colOf t b).val, by omega⟩) := by
  unfold iblk
  rw [show V m c (Pipeline.arrRef spec0 4) = X4 m c from V_main_arg4 m c]
  blk_ext [idx t]
theorem read5 : iblk m c 5 t (ix2 a b) = X4 m c (ix2 (rowOf t a) ⟨6144 + (1024 + (colOf t b).val), by omega⟩) := by
  unfold iblk
  rw [show V m c (Pipeline.arrRef spec0 5) = X4 m c from V_main_arg4 m c]
  blk_ext [idx t]
theorem V6 : V m c (Pipeline.arrRef spec0 6) = extractStridedSlice S1x1024 ![0, 0] (shapeCast S1x2048 (X5 m c) shapeCasts_S2048_S1x2048) slices_S1x2048_S1x1024_0_0 := by
  show V m c main_v1 = _
  unfold V; after_reads_simp; rfl
theorem V7 : V m c (Pipeline.arrRef spec0 7) = extractStridedSlice S1x1024 ![0, 1024] (shapeCast S1x2048 (X5 m c) shapeCasts_S2048_S1x2048) slices_S1x2048_S1x1024_0_1024 := by
  show V m c main_v2 = _
  unfold V; after_reads_simp; rfl
theorem read6 : iblk m c 6 t (ix2 0 b) = X5 m c (ix1 ⟨(colOf t b).val, by omega⟩) := by
  refine Eq.trans ?_ (MixDmergeIdeal.Claims.bias0 (X5 m c) (colOf t b))
  unfold iblk
  rw [V6]
  blk_ext [idx t]
theorem read7 : iblk m c 7 t (ix2 0 b) = X5 m c (ix1 ⟨1024 + (colOf t b).val, by omega⟩) := by
  refine Eq.trans ?_ (MixDmergeIdeal.Claims.bias1 (X5 m c) (colOf t b))
  unfold iblk
  rw [V7]
  blk_ext [idx t]

/-- The two products and the two gates of a point are the reference's. -/
theorem p_at : k0_pay3 (iblk m c 0 t) (iblk m c 2 t) (ix2 a b) = val_main_v2 (F := Ideal) (X0 m c) (X2 m c) (ix2 (rowOf t a) (colOf t b)) :=
  (pay3 _ _ a b).trans ((Finset.sum_congr rfl fun (x : Fin 1024) _ => congrArg₂ (fun p q : EReal => p * q) (read0 m c t a x) (read2 m c t x b)).trans (v2 _ _ _ _).symm)
theorem q_at : k0_pay4 (iblk m c 1 t) (iblk m c 3 t) (ix2 a b) = val_main_v4 (F := Ideal) (X1 m c) (X3 m c) (ix2 (rowOf t a) (colOf t b)) :=
  (pay4 _ _ a b).trans ((Finset.sum_congr rfl fun (x : Fin 1024) _ => congrArg₂ (fun p q : EReal => p * q) (read1 m c t a x) (read3 m c t x b)).trans (v4 _ _ _ _).symm)
theorem gA_at : k0_pay5 (iblk m c 4 t) (iblk m c 6 t) (ix2 a b) = g0 (X4 m c) (X5 m c) (rowOf t a) (colOf t b) :=
  (pay5 _ _ a b).trans (congrArg₂ sg (read4 m c t a b) (read6 m c t b))
theorem gB_at : k0_pay6 (iblk m c 5 t) (iblk m c 7 t) (ix2 a b) = g1 (X4 m c) (X5 m c) (rowOf t a) (colOf t b) :=
  (pay6 _ _ a b).trans (congrArg₂ sg (read5 m c t a b) (read7 m c t b))
theorem mix_at {p q g h p' q' g' h' : EReal} (hp : p = p') (hq : q = q') (hg : g = g') (hh : h = h') : mix p q g h = mix p' q' g' h' := by
  rw [hp, hq, hg, hh]

theorem final8 : (dats m 0 c).arrAt 8 cfg0.N = val_main_v18 (F := Ideal) (X0 m c) (X2 m c) := by
  refine (dats m 0 c).arrAt_eq_of_covers 8 _ (by decide +kernel) fun t hf y => ?_
  blk_simp
  rw [after0_8]
  idx_vars y
  rw [emb8, ref18]
  unfold out0_8
  simp only [View.canon_unit_zero (S := S1024x512) hz, View.ld_unit_zero (S := S1024x1024) hz, View.ld_unit_zero (S := S1024x512) hz]
  exact (pay7 _ _ _).trans (p_at m c t y0 y1)
theorem final9 : (dats m 0 c).arrAt 9 cfg0.N = val_main_v19 (F := Ideal) (X1 m c) (X3 m c) := by
  refine (dats m 0 c).arrAt_eq_of_covers 9 _ (by decide +kernel) fun t hf y => ?_
  blk_simp
  rw [after0_9]
  idx_vars y
  rw [emb9, ref19]
  unfold out0_9 k0_pay8
  simp only [View.canon_unit_zero (S := S1024x512) hz, View.ld_unit_zero (S := S1024x1024) hz, View.ld_unit_zero (S := S1024x512) hz]
  exact (pay1 _ _).trans (q_at m c t y0 y1)
theorem final10 : (dats m 0 c).arrAt 10 cfg0.N = val_main_v23 (F := Ideal) (X0 m c) (X1 m c) (X2 m c) (X3 m c) (X4 m c) (X5 m c) := by
  refine (dats m 0 c).arrAt_eq_of_covers 10 _ (by decide +kernel) fun t hf y => ?_
  blk_simp
  rw [after0_10]
  idx_vars y
  rw [emb10, ref23]
  unfold out0_10 k0_pay8
  simp only [View.canon_unit_zero (S := S1024x512) hz, View.ld_unit_zero (S := S1024x1024) hz, View.ld_unit_zero (S := S1024x512) hz, View.ld_unit_zero (S := S1x512) hz]
  exact (pay2 _ _ _ _ _).trans (mix_at (p_at m c t y0 y1) (q_at m c t y0 y1) (gA_at m c t y0 y1) (gB_at m c t y0 y1))

theorem algebraic : Cert.algebraic_MixMergeIdeal_MixMergeRefIdeal := by
  intro m g m' g' _ hag
  refine ⟨fun c => val_main_v18 (F := Ideal) (X0 m c) (X2 m c), fun c => val_main_v19 (F := Ideal) (X1 m c) (X3 m c),
    fun c => val_main_v23 (F := Ideal) (X0 m c) (X1 m c) (X2 m c) (X3 m c) (X4 m c) (X5 m c), ?_, ?_⟩
  · exact (θ_run defs _ _).mono (fun r h c => ⟨(h c).1.trans (final8 m c), (h c).2.1.trans (final9 m c), (h c).2.2.1.trans (final10 m c), (h c).2.2.2⟩) (Value.run_blocks m g)
  · refine (θ_run MixMergeRefIdeal.defs _ _).mono (fun r h c => ⟨(h c).1.trans ?_, (h c).2.1.trans ?_, (h c).2.2.1.trans ?_, (h c).2.2.2⟩) (MixMergeRefIdeal.Value.run (F := Ideal) m' g')
    all_goals obtain ⟨h0, h1, h2, h3, h4, h5⟩ := hag c
    · rw [val_main_v18_eq, h0, h2]
    · rw [val_main_v19_eq, h1, h3]
    · rw [val_main_v23_eq, h0, h1, h2, h3, h4, h5]

end Cert.MixMergeIdeal.Claims
-- ==== Proof.MixOut.lean ====
/- The output product added to the stream and the norm of the sum, a block of rows per point. -/
module

public import proofs.«01_k».proof.Defs
public import proofs.«01_k».proof.Proof.Gen.MixOutIdeal.Value
public import proofs.«01_k».proof.Proof.Gen.MixOutRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.MixOutIdeal.Claims

open Cert.MixOutIdeal Cert.MixOutIdeal.Gen

variable (m : (ℓ : Loc nD τ sig) → Buf (Elt Ideal) ℓ)

open MixOutRefIdeal.Read

theorem hz : (![0, 0] : Fin 2 → Nat) = fun _ => 0 := funext fun a => by fin_cases a <;> rfl

/-- A row of the stream after the product is added. -/
abbrev row (x0 : FVec Ideal S2048x1024 .bf16) (x1 : FVec Ideal S1024x1024 .bf16) (x2 : FVec Ideal S2048x1024 .f32) (a : Fin 2048) (b : Fin 1024) : EReal :=
  x2 (ix2 a b) + ∑ k, x0 (ix2 a k) * x1 (ix2 k b)

theorem pay1 (u w : Vec Ideal S1024x1024 .bf16) (h : Vec Ideal S1024x1024 .f32) (a b : Fin 1024) :
    k0_pay1 u w h (ix2 a b) = h (ix2 a b) + ∑ k, u (ix2 a k) * w (ix2 k b) := by
  unfold_payloads; pointwise
theorem pay2 (u w : Vec Ideal S1024x1024 .bf16) (h : Vec Ideal S1024x1024 .f32) (g : Vec Ideal S1x1024 .f32) (a b : Fin 1024) :
    k0_pay2 u w h g (ix2 a b) = k0_pay1 u w h (ix2 a b) * NormGrad.inv (fun k : Fin 1024 => k0_pay1 u w h (ix2 a k)) * g (ix2 0 b) := by
  unfold k0_pay2; pointwise

section Reference

variable (x0 : FVec Ideal S2048x1024 .bf16) (x1 : FVec Ideal S1024x1024 .bf16) (x2 : FVec Ideal S2048x1024 .f32) (x3 : FVec Ideal S1024 .f32)

theorem ref3 (a : Fin 2048) (b : Fin 1024) : val_main_v3 (F := Ideal) x0 x1 x2 (ix2 a b) = row x0 x1 x2 a b := by
  unfold val_main_v3 val_main_v2 val_main_v1 val_main_v0
  pointwise
theorem ref17 (a : Fin 2048) (b : Fin 1024) :
    val_main_v17 (F := Ideal) x0 x1 x2 x3 (ix2 a b) = row x0 x1 x2 a b * NormGrad.inv (row x0 x1 x2 a) * x3 (ix1 b) := by
  unfold val_main_v17 val_main_v16 val_main_v13 val_main_v12 val_main_v11 val_main_v10 val_main_v8 val_main_v6 val_main_v5 val_main_v4
  pointwise [val_main_cst, val_main_v7, val_main_cst_0, val_main_v9, val_main_cst_1, val_main_v15, val_main_v14]
  simp only [ref3]

end Reference

theorem idx (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] := by
  revert t; decide +kernel

/-- The row of a block's element in the whole array. -/
abbrev rowOf (t : Fin cfg0.N) (a : Fin 1024) : Fin 2048 := ⟨t.val * 1024 + a.val, by have h : t.val < 2 := t.isLt; omega⟩

theorem emb4 (t : Fin cfg0.N) (a b : Fin 1024) : ((View.whole main_v1_0).slice (win0_4.rect t)).emb (ix2 a b) = ix2 (rowOf t a) b := by
  blk_ext [idx t]
theorem emb5 (t : Fin cfg0.N) (a b : Fin 1024) : ((View.whole main_v1_1).slice (win0_5.rect t)).emb (ix2 a b) = ix2 (rowOf t a) b := by
  blk_ext [idx t]

/-- The arguments. -/
abbrev X0 (c : Dev nD) : FVec Ideal S2048x1024 .bf16 := m ((c : Thread nD τ).loc main_arg0)
abbrev X1 (c : Dev nD) : FVec Ideal S1024x1024 .bf16 := m ((c : Thread nD τ).loc main_arg1)
abbrev X2 (c : Dev nD) : FVec Ideal S2048x1024 .f32 := m ((c : Thread nD τ).loc main_arg2)
abbrev X3 (c : Dev nD) : FVec Ideal S1024 .f32 := m ((c : Thread nD τ).loc main_arg3)

variable (c : Dev nD) (t : Fin cfg0.N)

theorem read0 (a b : Fin 1024) : iblk m c 0 t (ix2 a b) = X0 m c (ix2 (rowOf t a) b) := by
  unfold iblk
  rw [show V m c (Pipeline.arrRef spec0 0) = X0 m c from V_main_arg0 m c]
  blk_ext [idx t]
theorem read1 (a b : Fin 1024) : iblk m c 1 t (ix2 a b) = X1 m c (ix2 a b) := by
  unfold iblk
  rw [show V m c (Pipeline.arrRef spec0 1) = X1 m c from V_main_arg1 m c]
  blk_ext [idx t]
theorem read2 (a b : Fin 1024) : iblk m c 2 t (ix2 a b) = X2 m c (ix2 (rowOf t a) b) := by
  unfold iblk
  rw [show V m c (Pipeline.arrRef spec0 2) = X2 m c from V_main_arg2 m c]
  blk_ext [idx t]
theorem V3 : V m c (Pipeline.arrRef spec0 3) = shapeCast S1x1024 (X3 m c) shapeCasts_S1024_S1x1024 := by
  show V m c main_v0 = _
  unfold V; after_reads_simp; rfl
theorem read3 (b : Fin 1024) : iblk m c 3 t (ix2 0 b) = X3 m c (ix1 b) := by
  have h : iblk m c 3 t (ix2 0 b) = shapeCast S1x1024 (X3 m c) shapeCasts_S1024_S1x1024 (ix2 0 b) := by
    unfold iblk
    rw [V3]
    blk_ext [idx t]
  rw [h]; pointwise

theorem p1_at (a b : Fin 1024) : k0_pay1 (iblk m c 0 t) (iblk m c 1 t) (iblk m c 2 t) (ix2 a b) = row (X0 m c) (X1 m c) (X2 m c) (rowOf t a) b :=
  (pay1 _ _ _ a b).trans (congrArg₂ (fun p q : EReal => p + q) (read2 m c t a b)
    (Finset.sum_congr rfl fun (x : Fin 1024) _ => congrArg₂ (fun p q : EReal => p * q) (read0 m c t a x) (read1 m c t x b)))

theorem final4 : (dats m 0 c).arrAt 4 cfg0.N = val_main_v3 (F := Ideal) (X0 m c) (X1 m c) (X2 m c) := by
  refine (dats m 0 c).arrAt_eq_of_covers 4 _ (by decide +kernel) fun t hf y => ?_
  blk_simp
  rw [after0_4]
  idx_vars y
  rw [emb4, ref3]
  unfold out0_4
  simp only [View.canon_unit_zero (S := S1024x1024) hz, View.ld_unit_zero (S := S1024x1024) hz, View.ld_unit_zero (S := S1x1024) hz]
  exact p1_at m c t y0 y1
theorem final5 : (dats m 0 c).arrAt 5 cfg0.N = val_main_v17 (F := Ideal) (X0 m c) (X1 m c) (X2 m c) (X3 m c) := by
  refine (dats m 0 c).arrAt_eq_of_covers 5 _ (by decide +kernel) fun t hf y => ?_
  blk_simp
  rw [after0_5]
  idx_vars y
  rw [emb5, ref17]
  unfold out0_5
  simp only [View.canon_unit_zero (S := S1024x1024) hz, View.ld_unit_zero (S := S1024x1024) hz, View.ld_unit_zero (S := S1x1024) hz]
  exact (pay2 _ _ _ _ y0 y1).trans (congrArg₂ (fun p q : EReal => p * q)
    (congrArg₂ (fun p q : EReal => p * q) (p1_at m c t y0 y1) (congrArg NormGrad.inv (funext fun k => p1_at m c t y0 k))) (read3 m c t y1))

theorem algebraic : Cert.algebraic_MixOutIdeal_MixOutRefIdeal := by
  intro m g m' g' _ hag
  refine ⟨fun c => val_main_v3 (F := Ideal) (X0 m c) (X1 m c) (X2 m c), fun c => val_main_v17 (F := Ideal) (X0 m c) (X1 m c) (X2 m c) (X3 m c), ?_, ?_⟩
  · exact (θ_run defs _ _).mono (fun r h c => ⟨(h c).1.trans (final4 m c), (h c).2.1.trans (final5 m c), (h c).2.2⟩) (Value.run_blocks m g)
  · refine (θ_run MixOutRefIdeal.defs _ _).mono (fun r h c => ⟨(h c).1.trans ?_, (h c).2.1.trans ?_, (h c).2.2⟩) (MixOutRefIdeal.Value.run (F := Ideal) m' g')
    · rw [val_main_v3_eq, (hag c).1, (hag c).2.1, (hag c).2.2.1]
    · rw [val_main_v17_eq, (hag c).1, (hag c).2.1, (hag c).2.2.1, (hag c).2.2.2]

end Cert.MixOutIdeal.Claims
-- ==== Proof.DownLoss.lean ====
/- The down product, the loss and the gradients of the last norm, a block of rows per point. -/
module

public import proofs.«01_k».proof.Defs
public import proofs.«01_k».proof.Proof.Gen.DownLossIdeal.Value
public import proofs.«01_k».proof.Proof.Gen.DownLossRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.NormGrad

@[expose] public section

set_option maxRecDepth 16384

noncomputable section

open Idealize.ShloMosaic Idealize.ShloMosaic.TcCoe Idealize.SL.Sem
open Idealize.ShloMosaic.Pipeline (Dat)

namespace Cert.DownLossIdeal.Claims

open Cert.DownLossIdeal Cert.DownLossIdeal.Gen

variable (m : (ℓ : Loc nD τ sig) → Buf (Elt Ideal) ℓ)

open DownLossRefIdeal.Read

theorem hz : (![0, 0] : Fin 2 → Nat) = fun _ => 0 := funext fun a => by fin_cases a <;> rfl

/-- A half, one part of 1024, and two. -/
abbrev half : EReal := Ideal.ofBits .f32 1056964608#32
abbrev tiny : EReal := Ideal.ofBits .f32 981467136#32
abbrev two : EReal := Ideal.ofBits .f32 1073741824#32

theorem half_real : half = ((1 / 2 : ℝ) : EReal) := by
  simp [half, Ideal.ofBits, Ideal.ieee]; norm_num; rw [← EReal.coe_mul]; norm_num
theorem tiny_real : tiny = ((1 / 1024 : ℝ) : EReal) := by
  simp [tiny, Ideal.ofBits, Ideal.ieee]; norm_num; rw [← EReal.coe_mul]; norm_num
theorem two_real : two = ((2 : ℝ) : EReal) := by
  simp [two, Ideal.ofBits, Ideal.ieee]; norm_num; rw [← EReal.coe_mul]; norm_num

/-- The factor of the error's gradient in the two forms. -/
theorem factors (e : EReal) : Ideal.div half NormGrad.cols * (two * e) = e * tiny := by
  rw [NormGrad.cols_real, Ideal.div_coe (by norm_num), half_real, two_real, tiny_real, ← mul_assoc, ← EReal.coe_mul, ← EReal.coe_mul, mul_comm]
  norm_num

theorem pay6 (h : Vec Ideal S512x1024 .f32) (u : Vec Ideal S512x2816 .bf16) (w : Vec Ideal S2816x1024 .bf16) (a : Fin 512) (b : Fin 1024) :
    k0_pay6 h u w (ix2 a b) = h (ix2 a b) + half * ∑ k, u (ix2 a k) * w (ix2 k b) := by
  unfold_payloads; pointwise
theorem pay7 (h : Vec Ideal S512x1024 .f32) (u : Vec Ideal S512x2816 .bf16) (w : Vec Ideal S2816x1024 .bf16) (a : Fin 512) :
    k0_pay7 h u w (ix2 a 0) = NormGrad.inv fun k : Fin 1024 => k0_pay6 h u w (ix2 a k) := by
  unfold k0_pay7; pointwise
theorem pay8 (h : Vec Ideal S512x1024 .f32) (u : Vec Ideal S512x2816 .bf16) (w : Vec Ideal S2816x1024 .bf16) (a : Fin 512) (b : Fin 1024) :
    k0_pay8 h u w (ix2 a b) = k0_pay6 h u w (ix2 a b) * NormGrad.inv fun k : Fin 1024 => k0_pay6 h u w (ix2 a k) := by
  unfold k0_pay8; pointwise; rw [pay7]
theorem pay10 (h : Vec Ideal S512x1024 .f32) (u : Vec Ideal S512x2816 .bf16) (w : Vec Ideal S2816x1024 .bf16) (g : Vec Ideal S1x1024 .f32) (y : Vec Ideal S512x1024 .f32) (a : Fin 512) (b : Fin 1024) :
    k0_pay10 h u w g y (ix2 a b) = k0_pay8 h u w (ix2 a b) * g (ix2 0 b) - y (ix2 a b) := by
  unfold k0_pay10 k0_pay9; pointwise
theorem pay11 (h : Vec Ideal S512x1024 .f32) (u : Vec Ideal S512x2816 .bf16) (w : Vec Ideal S2816x1024 .bf16) (g : Vec Ideal S1x1024 .f32) (y : Vec Ideal S512x1024 .f32) (a : Fin 512) (b : Fin 1024) :
    k0_pay11 h u w g y (ix2 a b) = k0_pay10 h u w g y (ix2 a b) * tiny := by
  unfold k0_pay11; pointwise
theorem pay12 (h : Vec Ideal S512x1024 .f32) (u : Vec Ideal S512x2816 .bf16) (w : Vec Ideal S2816x1024 .bf16) (g : Vec Ideal S1x1024 .f32) (y : Vec Ideal S512x1024 .f32) (a : Fin 512) (b : Fin 1024) :
    k0_pay12 h u w g y (ix2 a b) = NormGrad.grad (fun k => k0_pay11 h u w g y (ix2 a k)) (fun k => k0_pay6 h u w (ix2 a k)) (fun k => g (ix2 0 k)) b := by
  unfold k0_pay12 k0_pay9; pointwise; simp only [pay7, pay8]
theorem pay1 (x : FVec Ideal S512x1024 .f32) (a : Fin 512) (b : Fin 1024) : k0_pay1 x (ix2 a b) = half * x (ix2 a b) := by
  unfold_payloads; pointwise
theorem pay2 (x d : FVec Ideal S512x1024 .f32) (b : Fin 1024) : k0_pay2 x d (ix2 0 b) = ∑ a, d (ix2 a b) * x (ix2 a b) := by
  unfold_payloads; pointwise
theorem pay3 (e : FVec Ideal S512x1024 .f32) (b : Fin 128) : k0_pay3 e (ix2 0 b) = ∑ a : Fin 512, half * Ideal.div (∑ k : Fin 1024, e (ix2 a k) * e (ix2 a k)) NormGrad.cols := by
  unfold_payloads; pointwise
theorem pay4 (x d : FVec Ideal S512x1024 .f32) (p : Vec Ideal S1x1024 .f32) (b : Fin 1024) : k0_pay4 x d p (ix2 0 b) = p (ix2 0 b) + ∑ a, d (ix2 a b) * x (ix2 a b) := by
  unfold k0_pay4; pointwise; rw [pay2]
theorem pay5 (e : FVec Ideal S512x1024 .f32) (p : Vec Ideal S1x128 .f32) (b : Fin 128) : k0_pay5 e p (ix2 0 b) = p (ix2 0 b) + k0_pay3 e (ix2 0 b) := by
  unfold k0_pay5; pointwise

section Reference

variable (x0 : FVec Ideal S2048x2816 .bf16) (x1 : FVec Ideal S2816x1024 .bf16) (x2 x3 : FVec Ideal S2048x1024 .f32) (x4 : FVec Ideal S1024 .f32)

/-- A row of the norm's input, of the error, of the gradient arriving at the norm, and the loss of a row. -/
abbrev row (a : Fin 2048) (b : Fin 1024) : EReal := x2 (ix2 a b) + half * ∑ k, x0 (ix2 a k) * x1 (ix2 k b)
abbrev er (a : Fin 2048) (b : Fin 1024) : EReal := row x0 x1 x2 a b * NormGrad.inv (row x0 x1 x2 a) * x4 (ix1 b) - x3 (ix2 a b)

abbrev dr (a : Fin 2048) (b : Fin 1024) : EReal := er x0 x1 x2 x3 x4 a b * tiny
abbrev ls (a : Fin 2048) : EReal := half * Ideal.div (∑ k, er x0 x1 x2 x3 x4 a k * er x0 x1 x2 x3 x4 a k) NormGrad.cols

theorem v5 (a : Fin 2048) (b : Fin 1024) : val_main_v5 (F := Ideal) x0 x1 x2 (ix2 a b) = row x0 x1 x2 a b := by
  unfold val_main_v5 val_main_v4 val_main_v2 val_main_v1 val_main_v0
  pointwise [val_main_v3, val_main_cst]
theorem v12 (a : Fin 2048) : val_main_v12 (F := Ideal) x0 x1 x2 (ix2 a 0) = NormGrad.sq (row x0 x1 x2 a) := by
  unfold val_main_v12 val_main_v10 val_main_v8 val_main_v7 val_main_v6
  pointwise [val_main_v11, val_main_v9, val_main_cst_0, val_main_cst_1, val_main_cst_2]
  simp only [v5]
theorem v13 (a : Fin 2048) : val_main_v13 (F := Ideal) x0 x1 x2 (ix2 a 0) = NormGrad.inv (row x0 x1 x2 a) := by
  unfold val_main_v13; pointwise; rw [v12]
theorem v16 (a : Fin 2048) : val_main_v16 (F := Ideal) x0 x1 x2 (ix2 a 0) = NormGrad.mhalf * Ideal.div (NormGrad.inv (row x0 x1 x2 a)) (NormGrad.sq (row x0 x1 x2 a)) := by
  unfold val_main_v16 val_main_v14
  pointwise [val_main_v15, val_main_cst_3]
  rw [v12, v13]
theorem v18 (a : Fin 2048) (b : Fin 1024) : val_main_v18 (F := Ideal) x0 x1 x2 (ix2 a b) = row x0 x1 x2 a b * NormGrad.inv (row x0 x1 x2 a) := by
  unfold val_main_v18 val_main_v17; pointwise; rw [v5, v13]
theorem v22 (a : Fin 2048) (b : Fin 1024) : val_main_v22 (F := Ideal) x0 x1 x2 x3 x4 (ix2 a b) = er x0 x1 x2 x3 x4 a b := by
  unfold val_main_v22 val_main_v21
  pointwise [val_main_v20, val_main_v19]
  rw [v18]
theorem v30 : val_main_v30 (F := Ideal) x0 x1 x2 x3 x4 ix0 = ∑ a, ls x0 x1 x2 x3 x4 a := by
  unfold val_main_v30 val_main_v29 val_main_v28 val_main_v26 val_main_v23
  pointwise [val_main_cst_5, val_main_v27, val_main_cst_6, val_main_cst_7, val_main_cst_8]
  simp only [v22]
  have h := Reals.mul_sum (1 / 2) (by norm_num) fun a => Ideal.div (∑ k, er x0 x1 x2 x3 x4 a k * er x0 x1 x2 x3 x4 a k) NormGrad.cols
  rwa [← half_real] at h
theorem v36 (a : Fin 2048) (b : Fin 1024) : val_main_v36 (F := Ideal) x0 x1 x2 x3 x4 (ix2 a b) = dr x0 x1 x2 x3 x4 a b := by
  unfold val_main_v36 val_main_v25
  pointwise [val_main_v35, val_main_v34, val_main_v33, val_main_v32, val_main_v31, val_main_v24, val_main_cst_4, val_main_cst_9, val_main_cst_10, val_main_cst_11]
  rw [v22]
  exact factors _
theorem v41 (a : Fin 2048) (b : Fin 1024) : val_main_v41 (F := Ideal) x0 x1 x2 x3 x4 (ix2 a b) = dr x0 x1 x2 x3 x4 a b * x4 (ix1 b) := by
  unfold val_main_v41
  pointwise [val_main_v40, val_main_v19]
  rw [v36]
theorem v52 (a : Fin 2048) (b : Fin 1024) : val_main_v52 (F := Ideal) x0 x1 x2 x3 x4 (ix2 a b) = NormGrad.factor (dr x0 x1 x2 x3 x4 a) (row x0 x1 x2 a) fun k => x4 (ix1 k) := by
  unfold val_main_v52 val_main_v51 val_main_v50 val_main_v48 val_main_v45 val_main_v44 val_main_v43
  pointwise [val_main_cst_14, val_main_cst_16, val_main_v49, val_main_cst_15]
  refine (Fin.sum_univ_one _).trans ?_
  simp only [v5, v41]
  rw [v16]
theorem ref56 (a : Fin 2048) (b : Fin 1024) :
    val_main_v56 (F := Ideal) x0 x1 x2 x3 x4 (ix2 a b) = NormGrad.grad (dr x0 x1 x2 x3 x4 a) (row x0 x1 x2 a) (fun k => x4 (ix1 k)) b := by
  unfold val_main_v56 val_main_v55 val_main_v54 val_main_v53 val_main_v47 val_main_v46
  pointwise
  rw [v41, v52, v13, v5]
  have h := NormGrad.forms 0 (dr x0 x1 x2 x3 x4 a) (row x0 x1 x2 a) (fun k => x4 (ix1 k)) b
  rwa [zero_add, zero_add] at h
theorem ref59 (a : Fin 2048) (b : Fin 1024) : val_main_v59 (F := Ideal) x0 x1 x2 x3 x4 (ix2 a b) = half * val_main_v56 (F := Ideal) x0 x1 x2 x3 x4 (ix2 a b) := by
  unfold val_main_v59 val_main_v58
  pointwise [val_main_v57, val_main_cst_17]
theorem ref60 (b : Fin 1024) : val_main_v60 (F := Ideal) x0 x1 x2 x3 x4 (ix2 0 b) = ∑ a, dr x0 x1 x2 x3 x4 a b * (row x0 x1 x2 a b * NormGrad.inv (row x0 x1 x2 a)) := by
  unfold val_main_v60 val_main_v42 val_main_v39 val_main_v38 val_main_v37
  pointwise [val_main_cst_12, val_main_cst_13]
  refine (Fin.sum_univ_one _).trans (Finset.sum_congr rfl fun a _ => ?_)
  rw [v18, v36, mul_comm]
theorem ref61 (b : Fin 128) : val_main_v61 (F := Ideal) x0 x1 x2 x3 x4 (ix2 0 b) = ∑ a, ls x0 x1 x2 x3 x4 a := by
  unfold val_main_v61; pointwise; exact v30 x0 x1 x2 x3 x4

end Reference

/-- The pieces of a point: the norm's output, the error and its gradient, the gradient of the norm's input. -/
abbrev p8 (c : Dev nD) (t : Fin cfg0.N) : FVec Ideal S512x1024 .f32 := k0_pay8 (iblk m c 2 t) (iblk m c 0 t) (iblk m c 1 t)
abbrev p10 (c : Dev nD) (t : Fin cfg0.N) : FVec Ideal S512x1024 .f32 := k0_pay10 (iblk m c 2 t) (iblk m c 0 t) (iblk m c 1 t) (iblk m c 4 t) (iblk m c 3 t)
abbrev p11 (c : Dev nD) (t : Fin cfg0.N) : FVec Ideal S512x1024 .f32 := k0_pay11 (iblk m c 2 t) (iblk m c 0 t) (iblk m c 1 t) (iblk m c 4 t) (iblk m c 3 t)
abbrev p12 (c : Dev nD) (t : Fin cfg0.N) : FVec Ideal S512x1024 .f32 := k0_pay12 (iblk m c 2 t) (iblk m c 0 t) (iblk m c 1 t) (iblk m c 4 t) (iblk m c 3 t)

theorem outs_A (c : Dev nD) (t : Fin cfg0.N) (h0 : t.val % 4 = 0) (h1 : ¬1 ≤ t.val) :
    outsAt0 m c t.val t.isLt = (p12 m c t, k0_pay1 (p12 m c t), k0_pay2 (p8 m c t) (p11 m c t), k0_pay3 (p10 m c t)) := by
  rw [outsAt0_A m c t h0 h1]
  refine Prod.ext ?_ (Prod.ext ?_ (Prod.ext ?_ ?_))
  all_goals
    dsimp only
    first
      | unfold out0_A_5; rw [View.read_writes_eq_canon _ _ _ (fun y => ?_)]; swap; exact cover0_A_5 ..
      | unfold out0_A_6; rw [View.read_writes_eq_canon _ _ _ (fun y => ?_)]; swap; exact cover0_A_6 ..
      | unfold out0_A_7; rw [View.read_writes_eq_canon _ _ _ (fun y => ?_)]; swap; exact cover0_A_7 ..
      | unfold out0_A_8; rw [View.read_writes_eq_canon _ _ _ (fun y => ?_)]; swap; exact cover0_A_8 ..
    unfold kernelRun0_A
    dsimp only
    simp only [View.canon_unit_zero (S := S512x1024) hz, View.canon_unit_zero (S := S1x1024) hz, View.canon_unit_zero (S := S1x128) hz, View.readAt_eq_ld, (hs0_0 t).read_unread, (hs0_1 t).read_unread, (hs0_2 t).read_unread, (hs0_3 t).read_unread,
      (hs0_4 t).read_unread, kernelRun0_A.sl.r, kernelRun0_A.sl.r_1, kernelRun0_A.sl.r_2, kernelRun0_A.sl.r_3, View.ld_unit_zero (S := S512x1024) hz, View.ld_unit_zero (S := S512x2816) hz, View.ld_unit_zero (S := S2816x1024) hz, View.ld_unit_zero (S := S1x1024) hz, View.ld_unit_zero (S := S1x128) hz]

theorem outs_B (c : Dev nD) (t : Fin cfg0.N) (h0 : ¬t.val % 4 = 0) (h1 : 1 ≤ t.val) (p : FVec Ideal S1x1024 .f32) (q : FVec Ideal S1x128 .f32)
    (hp : (outsAt0 m c (t.val - 1) (Nat.lt_of_le_of_lt (Nat.sub_le _ _) t.isLt)).2.2 = (p, q)) :
    outsAt0 m c t.val t.isLt = (p12 m c t, k0_pay1 (p12 m c t), k0_pay4 (p8 m c t) (p11 m c t) p, k0_pay5 (p10 m c t) q) := by
  rw [outsAt0_B m c t h0 h1, hp]
  refine Prod.ext ?_ (Prod.ext ?_ (Prod.ext ?_ ?_))
  all_goals
    dsimp only
    first
      | unfold out0_B_5; rw [View.read_writes_eq_canon _ _ _ (fun y => ?_)]; swap; exact cover0_B_5 ..
      | unfold out0_B_6; rw [View.read_writes_eq_canon _ _ _ (fun y => ?_)]; swap; exact cover0_B_6 ..
      | unfold out0_B_7; rw [View.read_writes_eq_canon _ _ _ (fun y => ?_)]; swap; exact cover0_B_7 ..
      | unfold out0_B_8; rw [View.read_writes_eq_canon _ _ _ (fun y => ?_)]; swap; exact cover0_B_8 ..
    unfold kernelRun0_B
    dsimp only
    simp only [View.canon_unit_zero (S := S512x1024) hz, View.canon_unit_zero (S := S1x1024) hz, View.canon_unit_zero (S := S1x128) hz, View.readAt_eq_ld, (hs0_0 t).read_unread, (hs0_1 t).read_unread, (hs0_2 t).read_unread, (hs0_3 t).read_unread,
      (hs0_4 t).read_unread, (hs0_7 t).read_unread, (hs0_8 t).read_unread, kernelRun0_B.sl.r, kernelRun0_B.sl.r_1, kernelRun0_B.sl.r_2, kernelRun0_B.sl.r_3, View.ld_unit_zero (S := S512x1024) hz, View.ld_unit_zero (S := S512x2816) hz, View.ld_unit_zero (S := S2816x1024) hz, View.ld_unit_zero (S := S1x1024) hz, View.ld_unit_zero (S := S1x128) hz]

theorem idx (t : Fin cfg0.N) : win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] ∧ win0_8.index t = ![0, 0] := by
  revert t; decide +kernel

theorem t_lt (t : Fin cfg0.N) : t.val < 4 := t.isLt

/-- The row of a block's element in the whole array. -/
abbrev rowOf (t : Fin cfg0.N) (a : Fin 512) : Fin 2048 := ⟨t.val * 512 + a.val, by have h := t_lt t; omega⟩

theorem emb5 (t : Fin cfg0.N) (a : Fin 512) (b : Fin 1024) : ((View.whole main_v1_0).slice (win0_5.rect t)).emb (ix2 a b) = ix2 (rowOf t a) b := by
  blk_ext [idx t]
theorem emb6 (t : Fin cfg0.N) (a : Fin 512) (b : Fin 1024) : ((View.whole main_v1_1).slice (win0_6.rect t)).emb (ix2 a b) = ix2 (rowOf t a) b := by
  blk_ext [idx t]
theorem emb7 (t : Fin cfg0.N) (a : Fin 1) (b : Fin 1024) : ((View.whole main_v1_2).slice (win0_7.rect t)).emb (ix2 a b) = ix2 a b := by
  blk_ext [idx t]
theorem emb8 (t : Fin cfg0.N) (a : Fin 1) (b : Fin 128) : ((View.whole main_v1_3).slice (win0_8.rect t)).emb (ix2 a b) = ix2 a b := by
  blk_ext [idx t]

/-- The arguments. -/
abbrev X0 (c : Dev nD) : FVec Ideal S2048x2816 .bf16 := m ((c : Thread nD τ).loc main_arg0)
abbrev X1 (c : Dev nD) : FVec Ideal S2816x1024 .bf16 := m ((c : Thread nD τ).loc main_arg1)
abbrev X2 (c : Dev nD) : FVec Ideal S2048x1024 .f32 := m ((c : Thread nD τ).loc main_arg2)
abbrev X3 (c : Dev nD) : FVec Ideal S2048x1024 .f32 := m ((c : Thread nD τ).loc main_arg3)
abbrev X4 (c : Dev nD) : FVec Ideal S1024 .f32 := m ((c : Thread nD τ).loc main_arg4)

section Block

variable (c : Dev nD) (t : Fin cfg0.N)

theorem read0 (a : Fin 512) (b : Fin 2816) : iblk m c 0 t (ix2 a b) = X0 m c (ix2 (rowOf t a) b) := by
  unfold iblk
  rw [show V m c (Pipeline.arrRef spec0 0) = m ((c : Thread nD τ).loc main_arg0) from V_main_arg0 m c]
  blk_ext [idx t]
theorem read1 (a : Fin 2816) (b : Fin 1024) : iblk m c 1 t (ix2 a b) = X1 m c (ix2 a b) := by
  unfold iblk
  rw [show V m c (Pipeline.arrRef spec0 1) = m ((c : Thread nD τ).loc main_arg1) from V_main_arg1 m c]
  blk_ext [idx t]
theorem read2 (a : Fin 512) (b : Fin 1024) : iblk m c 2 t (ix2 a b) = X2 m c (ix2 (rowOf t a) b) := by
  unfold iblk
  rw [show V m c (Pipeline.arrRef spec0 2) = m ((c : Thread nD τ).loc main_arg2) from V_main_arg2 m c]
  blk_ext [idx t]
theorem read3 (a : Fin 512) (b : Fin 1024) : iblk m c 3 t (ix2 a b) = X3 m c (ix2 (rowOf t a) b) := by
  unfold iblk
  rw [show V m c (Pipeline.arrRef spec0 3) = m ((c : Thread nD τ).loc main_arg3) from V_main_arg3 m c]
  blk_ext [idx t]
theorem V4 : V m c (Pipeline.arrRef spec0 4) = shapeCast S1x1024 (X4 m c) shapeCasts_S1024_S1x1024 := by
  show V m c main_v0 = _
  unfold V; after_reads_simp; rfl
theorem read4 (b : Fin 1024) : iblk m c 4 t (ix2 0 b) = X4 m c (ix1 b) := by
  have h : iblk m c 4 t (ix2 0 b) = shapeCast S1x1024 (X4 m c) shapeCasts_S1024_S1x1024 (ix2 0 b) := by
    unfold iblk
    rw [V4]
    blk_ext [idx t]
  rw [h]; pointwise

/-- The pieces of a point at an entry are the reference's at the entry's place in the whole arrays. -/
theorem p6_at (a : Fin 512) (b : Fin 1024) : k0_pay6 (iblk m c 2 t) (iblk m c 0 t) (iblk m c 1 t) (ix2 a b) = row (X0 m c) (X1 m c) (X2 m c) (rowOf t a) b :=
  (pay6 _ _ _ a b).trans (congrArg₂ (fun p q : EReal => p + half * q) (read2 m c t a b)
    (Finset.sum_congr rfl fun (x : Fin 2816) _ => congrArg₂ (fun p q : EReal => p * q) (read0 m c t a x) (read1 m c t x b)))
theorem p8_at (a : Fin 512) (b : Fin 1024) : p8 m c t (ix2 a b) = row (X0 m c) (X1 m c) (X2 m c) (rowOf t a) b * NormGrad.inv (row (X0 m c) (X1 m c) (X2 m c) (rowOf t a)) :=
  (pay8 _ _ _ a b).trans (congrArg₂ (fun p q : EReal => p * q) (p6_at m c t a b) (congrArg NormGrad.inv (funext fun k => p6_at m c t a k)))
theorem p10_at (a : Fin 512) (b : Fin 1024) : p10 m c t (ix2 a b) = er (X0 m c) (X1 m c) (X2 m c) (X3 m c) (X4 m c) (rowOf t a) b :=
  (pay10 _ _ _ _ _ a b).trans (congrArg₂ (fun p q : EReal => p - q) (congrArg₂ (fun p q : EReal => p * q) (p8_at m c t a b) (read4 m c t b)) (read3 m c t a b))
theorem p11_at (a : Fin 512) (b : Fin 1024) : p11 m c t (ix2 a b) = dr (X0 m c) (X1 m c) (X2 m c) (X3 m c) (X4 m c) (rowOf t a) b :=
  (pay11 _ _ _ _ _ a b).trans (congrArg (fun p : EReal => p * tiny) (p10_at m c t a b))
theorem p12_at (a : Fin 512) (b : Fin 1024) : p12 m c t (ix2 a b) = val_main_v56 (F := Ideal) (X0 m c) (X1 m c) (X2 m c) (X3 m c) (X4 m c) (ix2 (rowOf t a) b) :=
  (pay12 _ _ _ _ _ a b).trans ((NormGrad.grad_congr (fun k => p11_at m c t a k) (fun k => p6_at m c t a k) (fun k => read4 m c t k) b).trans (ref56 _ _ _ _ _ _ _).symm)
theorem p2_at (b : Fin 1024) : ∑ a : Fin 512, p11 m c t (ix2 a b) * p8 m c t (ix2 a b)
    = NormGrad.part (fun a => dr (X0 m c) (X1 m c) (X2 m c) (X3 m c) (X4 m c) a b * (row (X0 m c) (X1 m c) (X2 m c) a b * NormGrad.inv (row (X0 m c) (X1 m c) (X2 m c) a))) t.val t.isLt :=
  Finset.sum_congr rfl fun a _ => congrArg₂ (fun p q : EReal => p * q) (p11_at m c t a b) (p8_at m c t a b)
theorem p3_at (b : Fin 128) : k0_pay3 (p10 m c t) (ix2 0 b) = NormGrad.part (ls (X0 m c) (X1 m c) (X2 m c) (X3 m c) (X4 m c)) t.val t.isLt :=
  (pay3 _ b).trans (Finset.sum_congr rfl fun a _ => congrArg (fun p : EReal => half * Ideal.div p NormGrad.cols)
    (Finset.sum_congr rfl fun k _ => congrArg₂ (fun p q : EReal => p * q) (p10_at m c t a k) (p10_at m c t a k)))

/-- What the first two blocks of a point hold, on either branch. -/
theorem outs2 : (outsAt0 m c t.val t.isLt).1 = p12 m c t ∧ (outsAt0 m c t.val t.isLt).2.1 = k0_pay1 (p12 m c t) := by
  by_cases h : t.val % 4 = 0
  · rw [outs_A m c t h (by have := t_lt t; omega)]; exact ⟨rfl, rfl⟩
  · rw [outs_B m c t h (by omega) _ _ rfl]; exact ⟨rfl, rfl⟩

/-- The row of sums and the loss at the last point. -/
theorem sums (b : Fin 1024) : (outsAt0 m c 3 (show 3 < cfg0.N from by decide)).2.2.1 (ix2 0 b)
    = ∑ a, dr (X0 m c) (X1 m c) (X2 m c) (X3 m c) (X4 m c) a b * (row (X0 m c) (X1 m c) (X2 m c) a b * NormGrad.inv (row (X0 m c) (X1 m c) (X2 m c) a)) := by
  refine NormGrad.accumulated _ (fun n hn => (outsAt0 m c n hn).2.2.1 (ix2 0 b)) ?_ fun n hn => ?_
  · exact (congrFun (congrArg (fun p => p.2.2.1) (outs_A m c ⟨0, by decide⟩ rfl (by decide))) (ix2 0 b)).trans ((pay2 _ _ b).trans (p2_at m c _ b))
  · exact (congrFun (congrArg (fun p => p.2.2.1) (outs_B m c ⟨n + 1, hn⟩ (by show ¬(n + 1) % 4 = 0; omega) (by show 1 ≤ n + 1; omega) _ _ rfl)) (ix2 0 b)).trans
      ((pay4 _ _ _ b).trans (congrArg₂ (fun p q : EReal => p + q) rfl (p2_at m c _ b)))
theorem loss (b : Fin 128) : (outsAt0 m c 3 (show 3 < cfg0.N from by decide)).2.2.2 (ix2 0 b) = ∑ a, ls (X0 m c) (X1 m c) (X2 m c) (X3 m c) (X4 m c) a := by
  refine NormGrad.accumulated _ (fun n hn => (outsAt0 m c n hn).2.2.2 (ix2 0 b)) ?_ fun n hn => ?_
  · exact (congrFun (congrArg (fun p => p.2.2.2) (outs_A m c ⟨0, by decide⟩ rfl (by decide))) (ix2 0 b)).trans (p3_at m c _ b)
  · exact (congrFun (congrArg (fun p => p.2.2.2) (outs_B m c ⟨n + 1, hn⟩ (by show ¬(n + 1) % 4 = 0; omega) (by show 1 ≤ n + 1; omega) _ _ rfl)) (ix2 0 b)).trans
      ((pay5 _ _ b).trans (congrArg₂ (fun p q : EReal => p + q) rfl (p3_at m c _ b)))

end Block

theorem last7 : ∀ t : Fin cfg0.N, (cfg0.win 7).flush t = true → t.val = 3 := by decide +kernel
theorem last8 : ∀ t : Fin cfg0.N, (cfg0.win 8).flush t = true → t.val = 3 := by decide +kernel

section Finals

variable (c : Dev nD)

theorem final5 : (dats m 0 c).arrAt 5 cfg0.N = val_main_v56 (F := Ideal) (X0 m c) (X1 m c) (X2 m c) (X3 m c) (X4 m c) := by
  refine (dats m 0 c).arrAt_eq_of_covers 5 _ (by decide +kernel) fun t hf y => ?_
  blk_simp
  rw [after0_5]
  idx_vars y
  rw [emb5, (outs2 m c t).1]
  exact p12_at m c t y0 y1
theorem final6 : (dats m 0 c).arrAt 6 cfg0.N = val_main_v59 (F := Ideal) (X0 m c) (X1 m c) (X2 m c) (X3 m c) (X4 m c) := by
  refine (dats m 0 c).arrAt_eq_of_covers 6 _ (by decide +kernel) fun t hf y => ?_
  blk_simp
  rw [after0_6]
  idx_vars y
  rw [emb6, ref59, (outs2 m c t).2]
  exact (pay1 _ y0 y1).trans (congrArg (fun p : EReal => half * p) (p12_at m c t y0 y1))
theorem final7 : (dats m 0 c).arrAt 7 cfg0.N = val_main_v60 (F := Ideal) (X0 m c) (X1 m c) (X2 m c) (X3 m c) (X4 m c) := by
  refine (dats m 0 c).arrAt_eq_of_covers 7 _ (by decide +kernel) fun t hf y => ?_
  blk_simp
  rw [after0_7]
  idx_vars y
  obtain rfl : y0 = 0 := Subsingleton.elim _ _
  rw [emb7, ref60]
  obtain rfl : t = ⟨3, by decide⟩ := Fin.ext (last7 t hf)
  exact sums m c y1
theorem final8 : (dats m 0 c).arrAt 8 cfg0.N = val_main_v61 (F := Ideal) (X0 m c) (X1 m c) (X2 m c) (X3 m c) (X4 m c) := by
  refine (dats m 0 c).arrAt_eq_of_covers 8 _ (by decide +kernel) fun t hf y => ?_
  blk_simp
  rw [after0_8]
  idx_vars y
  obtain rfl : y0 = 0 := Subsingleton.elim _ _
  rw [emb8, ref61]
  obtain rfl : t = ⟨3, by decide⟩ := Fin.ext (last8 t hf)
  exact loss m c y1

end Finals

theorem algebraic : Cert.algebraic_DownLossIdeal_DownLossRefIdeal := by
  intro m g m' g' _ hag
  refine ⟨fun c => val_main_v56 (F := Ideal) (X0 m c) (X1 m c) (X2 m c) (X3 m c) (X4 m c), fun c => val_main_v59 (F := Ideal) (X0 m c) (X1 m c) (X2 m c) (X3 m c) (X4 m c),
    fun c => val_main_v60 (F := Ideal) (X0 m c) (X1 m c) (X2 m c) (X3 m c) (X4 m c), fun c => val_main_v61 (F := Ideal) (X0 m c) (X1 m c) (X2 m c) (X3 m c) (X4 m c), ?_, ?_⟩
  · exact (θ_run defs _ _).mono (fun r h c => ⟨(h c).1.trans (final5 m c), (h c).2.1.trans (final6 m c), (h c).2.2.1.trans (final7 m c), (h c).2.2.2.1.trans (final8 m c), (h c).2.2.2.2⟩) (Value.run_blocks m g)
  · refine (θ_run DownLossRefIdeal.defs _ _).mono (fun r h c => ⟨(h c).1.trans ?_, (h c).2.1.trans ?_, (h c).2.2.1.trans ?_, (h c).2.2.2.1.trans ?_, (h c).2.2.2.2⟩) (DownLossRefIdeal.Value.run (F := Ideal) m' g')
    · rw [val_main_v56_eq, (hag c).1, (hag c).2.1, (hag c).2.2.1, (hag c).2.2.2.1, (hag c).2.2.2.2]
    · rw [val_main_v59_eq, (hag c).1, (hag c).2.1, (hag c).2.2.1, (hag c).2.2.2.1, (hag c).2.2.2.2]
    · rw [val_main_v60_eq, (hag c).1, (hag c).2.1, (hag c).2.2.1, (hag c).2.2.2.1, (hag c).2.2.2.2]
    · rw [val_main_v61_eq, (hag c).1, (hag c).2.1, (hag c).2.2.1, (hag c).2.2.2.1, (hag c).2.2.2.2]

end Cert.DownLossIdeal.Claims
-- ==== Proof.FfnDown.lean ====
/- The down product added to the stream and the norm of the sum, a block of rows per point. -/
module

public import proofs.«01_k».proof.Proof.Gen.FfnDownIdeal.Value
public import proofs.«01_k».proof.Proof.Gen.FfnDownRefIdeal.Read
public import Idealize.ShloMosaic.Lib.Pointwise
public import Idealize.ShloMosaic.Lib.Tactic
public import Idealize.ShloMosaic.Lib.Pipeline.ValueKit
public import Idealize.ShloMosaic.Lib.StableHlo.ReadAt
public import proofs.«01_k».proof.Proof.DownLoss

@[expose] public section

set_option maxRecDepth 16384

noncomputable section

open Idealize.ShloMosaic Idealize.ShloMosaic.TcCoe Idealize.SL.Sem
open Idealize.ShloMosaic.Pipeline (Dat)

namespace Cert.FfnDownIdeal.Claims

open Cert.FfnDownIdeal Cert.FfnDownIdeal.Gen

variable (m : (ℓ : Loc nD τ sig) → Buf (Elt Ideal) ℓ)

open FfnDownRefIdeal.Read
open DownLossIdeal.Claims (half row hz)

theorem pay1 (u : Vec Ideal S512x2816 .bf16) (w : Vec Ideal S2816x1024 .bf16) (h : Vec Ideal S512x1024 .f32) (a : Fin 512) (b : Fin 1024) :
    k0_pay1 u w h (ix2 a b) = h (ix2 a b) + half * ∑ k, u (ix2 a k) * w (ix2 k b) := by
  unfold_payloads; pointwise
theorem pay2 (u : Vec Ideal S512x2816 .bf16) (w : Vec Ideal S2816x1024 .bf16) (h : Vec Ideal S512x1024 .f32) (g : Vec Ideal S1x1024 .f32) (a : Fin 512) (b : Fin 1024) :
    k0_pay2 u w h g (ix2 a b) = k0_pay1 u w h (ix2 a b) * NormGrad.inv (fun k : Fin 1024 => k0_pay1 u w h (ix2 a k)) * g (ix2 0 b) := by
  unfold k0_pay2; pointwise

section Reference

variable (x0 : FVec Ideal S2048x2816 .bf16) (x1 : FVec Ideal S2816x1024 .bf16) (x2 : FVec Ideal S2048x1024 .f32) (x3 : FVec Ideal S1024 .f32)

theorem ref5 (a : Fin 2048) (b : Fin 1024) : val_main_v5 (F := Ideal) x0 x1 x2 (ix2 a b) = row x0 x1 x2 a b := by
  unfold val_main_v5 val_main_v4 val_main_v2 val_main_v1 val_main_v0
  pointwise [val_main_v3, val_main_cst]
theorem ref19 (a : Fin 2048) (b : Fin 1024) :
    val_main_v19 (F := Ideal) x0 x1 x2 x3 (ix2 a b) = row x0 x1 x2 a b * NormGrad.inv (row x0 x1 x2 a) * x3 (ix1 b) := by
  unfold val_main_v19 val_main_v18 val_main_v15 val_main_v14 val_main_v13 val_main_v12 val_main_v10 val_main_v8 val_main_v7 val_main_v6
  pointwise [val_main_cst_0, val_main_v9, val_main_cst_1, val_main_v11, val_main_cst_2, val_main_v17, val_main_v16]
  simp only [ref5]

end Reference

theorem idx (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] := by
  revert t; decide +kernel

/-- The row of a block's element in the whole array. -/
abbrev rowOf (t : Fin cfg0.N) (a : Fin 512) : Fin 2048 := ⟨t.val * 512 + a.val, by have h : t.val < 4 := t.isLt; omega⟩

theorem emb4 (t : Fin cfg0.N) (a : Fin 512) (b : Fin 1024) : ((View.whole main_v1_0).slice (win0_4.rect t)).emb (ix2 a b) = ix2 (rowOf t a) b := by
  blk_ext [idx t]
theorem emb5 (t : Fin cfg0.N) (a : Fin 512) (b : Fin 1024) : ((View.whole main_v1_1).slice (win0_5.rect t)).emb (ix2 a b) = ix2 (rowOf t a) b := by
  blk_ext [idx t]

/-- The arguments. -/
abbrev X0 (c : Dev nD) : FVec Ideal S2048x2816 .bf16 := m ((c : Thread nD τ).loc main_arg0)
abbrev X1 (c : Dev nD) : FVec Ideal S2816x1024 .bf16 := m ((c : Thread nD τ).loc main_arg1)
abbrev X2 (c : Dev nD) : FVec Ideal S2048x1024 .f32 := m ((c : Thread nD τ).loc main_arg2)
abbrev X3 (c : Dev nD) : FVec Ideal S1024 .f32 := m ((c : Thread nD τ).loc main_arg3)

variable (c : Dev nD) (t : Fin cfg0.N)

theorem read0 (a : Fin 512) (b : Fin 2816) : iblk m c 0 t (ix2 a b) = X0 m c (ix2 (rowOf t a) b) := by
  unfold iblk
  rw [show V m c (Pipeline.arrRef spec0 0) = X0 m c from V_main_arg0 m c]
  blk_ext [idx t]
theorem read1 (a : Fin 2816) (b : Fin 1024) : iblk m c 1 t (ix2 a b) = X1 m c (ix2 a b) := by
  unfold iblk
  rw [show V m c (Pipeline.arrRef spec0 1) = X1 m c from V_main_arg1 m c]
  blk_ext [idx t]
theorem read2 (a : Fin 512) (b : Fin 1024) : iblk m c 2 t (ix2 a b) = X2 m c (ix2 (rowOf t a) b) := by
  unfold iblk
  rw [show V m c (Pipeline.arrRef spec0 2) = X2 m c from V_main_arg2 m c]
  blk_ext [idx t]
theorem V3 : V m c (Pipeline.arrRef spec0 3) = shapeCast S1x1024 (X3 m c) shapeCasts_S1024_S1x1024 := by
  show V m c main_v0 = _
  unfold V; after_reads_simp; rfl
theorem read3 (b : Fin 1024) : iblk m c 3 t (ix2 0 b) = X3 m c (ix1 b) := by
  have h : iblk m c 3 t (ix2 0 b) = shapeCast S1x1024 (X3 m c) shapeCasts_S1024_S1x1024 (ix2 0 b) := by
    unfold iblk
    rw [V3]
    blk_ext [idx t]
  rw [h]; pointwise

theorem p1_at (a : Fin 512) (b : Fin 1024) : k0_pay1 (iblk m c 0 t) (iblk m c 1 t) (iblk m c 2 t) (ix2 a b) = row (X0 m c) (X1 m c) (X2 m c) (rowOf t a) b :=
  (pay1 _ _ _ a b).trans (congrArg₂ (fun p q : EReal => p + half * q) (read2 m c t a b)
    (Finset.sum_congr rfl fun (x : Fin 2816) _ => congrArg₂ (fun p q : EReal => p * q) (read0 m c t a x) (read1 m c t x b)))

theorem final4 : (dats m 0 c).arrAt 4 cfg0.N = val_main_v5 (F := Ideal) (X0 m c) (X1 m c) (X2 m c) := by
  refine (dats m 0 c).arrAt_eq_of_covers 4 _ (by decide +kernel) fun t hf y => ?_
  blk_simp
  rw [after0_4]
  idx_vars y
  rw [emb4, ref5]
  unfold out0_4
  simp only [View.canon_unit_zero (S := S512x1024) hz, View.ld_unit_zero (S := S512x2816) hz, View.ld_unit_zero (S := S2816x1024) hz, View.ld_unit_zero (S := S512x1024) hz, View.ld_unit_zero (S := S1x1024) hz]
  exact p1_at m c t y0 y1
theorem final5 : (dats m 0 c).arrAt 5 cfg0.N = val_main_v19 (F := Ideal) (X0 m c) (X1 m c) (X2 m c) (X3 m c) := by
  refine (dats m 0 c).arrAt_eq_of_covers 5 _ (by decide +kernel) fun t hf y => ?_
  blk_simp
  rw [after0_5]
  idx_vars y
  rw [emb5, ref19]
  unfold out0_5
  simp only [View.canon_unit_zero (S := S512x1024) hz, View.ld_unit_zero (S := S512x2816) hz, View.ld_unit_zero (S := S2816x1024) hz, View.ld_unit_zero (S := S512x1024) hz, View.ld_unit_zero (S := S1x1024) hz]
  exact (pay2 _ _ _ _ y0 y1).trans (congrArg₂ (fun p q : EReal => p * q)
    (congrArg₂ (fun p q : EReal => p * q) (p1_at m c t y0 y1) (congrArg NormGrad.inv (funext fun k => p1_at m c t y0 k))) (read3 m c t y1))

theorem algebraic : Cert.algebraic_FfnDownIdeal_FfnDownRefIdeal := by
  intro m g m' g' _ hag
  refine ⟨fun c => val_main_v5 (F := Ideal) (X0 m c) (X1 m c) (X2 m c), fun c => val_main_v19 (F := Ideal) (X0 m c) (X1 m c) (X2 m c) (X3 m c), ?_, ?_⟩
  · exact (θ_run defs _ _).mono (fun r h c => ⟨(h c).1.trans (final4 m c), (h c).2.1.trans (final5 m c), (h c).2.2⟩) (Value.run_blocks m g)
  · refine (θ_run FfnDownRefIdeal.defs _ _).mono (fun r h c => ⟨(h c).1.trans ?_, (h c).2.1.trans ?_, (h c).2.2⟩) (FfnDownRefIdeal.Value.run (F := Ideal) m' g')
    · rw [val_main_v5_eq, (hag c).1, (hag c).2.1, (hag c).2.2.1]
    · rw [val_main_v19_eq, (hag c).1, (hag c).2.1, (hag c).2.2.1, (hag c).2.2.2]

end Cert.FfnDownIdeal.Claims
-- ==== Proof.Frames.lean ====
/- The frames of the references: each runs, and leaves its arguments as they were. -/
module

public import proofs.«01_k».proof.Defs
public import proofs.«01_k».proof.Proof.Gen.FfnDownRefIdeal.Run
public import Idealize.ShloMosaic.Lib.Quiescent

@[expose] public section

set_option maxRecDepth 16384

noncomputable section

open Idealize.ShloMosaic Idealize.ShloMosaic.TcCoe Idealize.SL.Sem

namespace Cert.Frames

theorem ConvRef : quiescent_ConvRefIdeal := fun m ρ _ =>
  (θ_run ConvRefIdeal.defs _ _).mono (fun r h => ⟨fun c => (h c).2.2.2.2, sem_eq_zero_of_no_sems (by decide) r.2⟩)
    (ConvRefIdeal.Value.run m ρ)

theorem MemNormRef : quiescent_MemNormRefIdeal := fun m ρ _ =>
  (θ_run MemNormRefIdeal.defs _ _).mono (fun r h => ⟨fun c => (h c).2, sem_eq_zero_of_no_sems (by decide) r.2⟩)
    (MemNormRefIdeal.Value.run m ρ)

theorem FfnDguRef : quiescent_FfnDguRefIdeal := fun m ρ _ =>
  (θ_run FfnDguRefIdeal.defs _ _).mono (fun r h => ⟨fun c => (h c).2, sem_eq_zero_of_no_sems (by decide) r.2⟩)
    (FfnDguRefIdeal.Value.run m ρ)

theorem MixDmergeRef : quiescent_MixDmergeRefIdeal := fun m ρ _ =>
  (θ_run MixDmergeRefIdeal.defs _ _).mono (fun r h => ⟨fun c => (h c).2.2.2.2.2.2, sem_eq_zero_of_no_sems (by decide) r.2⟩)
    (MixDmergeRefIdeal.Value.run m ρ)

theorem CrossDnRef : quiescent_CrossDnRefIdeal := fun m ρ _ =>
  (θ_run CrossDnRefIdeal.defs _ _).mono (fun r h => ⟨fun c => (h c).2.2.2, sem_eq_zero_of_no_sems (by decide) r.2⟩)
    (CrossDnRefIdeal.Value.run m ρ)

theorem MixDnRef : quiescent_MixDnRefIdeal := fun m ρ _ =>
  (θ_run MixDnRefIdeal.defs _ _).mono (fun r h => ⟨fun c => (h c).2.2.2, sem_eq_zero_of_no_sems (by decide) r.2⟩)
    (MixDnRefIdeal.Value.run m ρ)

theorem Ffn2DnRef : quiescent_Ffn2DnRefIdeal := fun m ρ _ =>
  (θ_run Ffn2DnRefIdeal.defs _ _).mono (fun r h => ⟨fun c => (h c).2.2.2, sem_eq_zero_of_no_sems (by decide) r.2⟩)
    (Ffn2DnRefIdeal.Value.run m ρ)

theorem Ffn1DnRef : quiescent_Ffn1DnRefIdeal := fun m ρ _ =>
  (θ_run Ffn1DnRefIdeal.defs _ _).mono (fun r h => ⟨fun c => (h c).2.2, sem_eq_zero_of_no_sems (by decide) r.2⟩)
    (Ffn1DnRefIdeal.Value.run m ρ)

theorem DownLossRef : quiescent_DownLossRefIdeal := fun m ρ _ =>
  (θ_run DownLossRefIdeal.defs _ _).mono (fun r h => ⟨fun c => (h c).2.2.2.2, sem_eq_zero_of_no_sems (by decide) r.2⟩)
    (DownLossRefIdeal.Value.run m ρ)

theorem XattnRef : quiescent_XattnRefIdeal := fun m ρ _ =>
  (θ_run XattnRefIdeal.defs _ _).mono (fun r h => ⟨fun c => (h c).2.2.2, sem_eq_zero_of_no_sems (by decide) r.2⟩)
    (XattnRefIdeal.Value.run m ρ)

theorem SbRef : quiescent_SbRefIdeal := fun m ρ _ =>
  (θ_run SbRefIdeal.defs _ _).mono (fun r h => ⟨fun c => (h c).2.2.2, sem_eq_zero_of_no_sems (by decide) r.2⟩)
    (SbRefIdeal.Value.run m ρ)

theorem SbFwdRef : quiescent_SbFwdRefIdeal := fun m ρ _ =>
  (θ_run SbFwdRefIdeal.defs _ _).mono (fun r h => ⟨fun c => (h c).2, sem_eq_zero_of_no_sems (by decide) r.2⟩)
    (SbFwdRefIdeal.Value.run m ρ)

theorem NormFwdRef : quiescent_NormFwdRefIdeal := fun m ρ _ =>
  (θ_run NormFwdRefIdeal.defs _ _).mono (fun r h => ⟨fun c => (h c).2, sem_eq_zero_of_no_sems (by decide) r.2⟩)
    (NormFwdRefIdeal.Value.run m ρ)

theorem MemFwdRef : quiescent_MemFwdRefIdeal := fun m ρ _ =>
  (θ_run MemFwdRefIdeal.defs _ _).mono (fun r h => ⟨fun c => (h c).2, sem_eq_zero_of_no_sems (by decide) r.2⟩)
    (MemFwdRefIdeal.Value.run m ρ)

theorem XattnFwdRef : quiescent_XattnFwdRefIdeal := fun m ρ _ =>
  (θ_run XattnFwdRefIdeal.defs _ _).mono (fun r h => ⟨fun c => (h c).2, sem_eq_zero_of_no_sems (by decide) r.2⟩)
    (XattnFwdRefIdeal.Value.run m ρ)

theorem ConvFwdRef : quiescent_ConvFwdRefIdeal := fun m ρ _ =>
  (θ_run ConvFwdRefIdeal.defs _ _).mono (fun r h => ⟨fun c => (h c).2, sem_eq_zero_of_no_sems (by decide) r.2⟩)
    (ConvFwdRefIdeal.Value.run m ρ)

theorem FfnUpRef : quiescent_FfnUpRefIdeal := fun m ρ _ =>
  (θ_run FfnUpRefIdeal.defs _ _).mono (fun r h => ⟨fun c => (h c).2.2, sem_eq_zero_of_no_sems (by decide) r.2⟩)
    (FfnUpRefIdeal.Value.run m ρ)

theorem MixMergeRef : quiescent_MixMergeRefIdeal := fun m ρ _ =>
  (θ_run MixMergeRefIdeal.defs _ _).mono (fun r h => ⟨fun c => (h c).2.2.2, sem_eq_zero_of_no_sems (by decide) r.2⟩)
    (MixMergeRefIdeal.Value.run m ρ)

theorem MixOutRef : quiescent_MixOutRefIdeal := fun m ρ _ =>
  (θ_run MixOutRefIdeal.defs _ _).mono (fun r h => ⟨fun c => (h c).2.2, sem_eq_zero_of_no_sems (by decide) r.2⟩)
    (MixOutRefIdeal.Value.run m ρ)

theorem FfnDownRef : quiescent_FfnDownRefIdeal := fun m ρ _ =>
  (θ_run FfnDownRefIdeal.defs _ _).mono (fun r h => ⟨fun c => (h c).2.2, sem_eq_zero_of_no_sems (by decide) r.2⟩)
    (FfnDownRefIdeal.Value.run m ρ)

end Cert.Frames
-- ==== Proof.SbBits.lean ====
/- The stick-breaking gradient: the frame of the rounded program. -/
module

public import proofs.«01_k».proof.Proof.SbFrame
public import proofs.«01_k».proof.Proof.Gen.Sb
public import Idealize.ShloMosaic.PureOps.BitExact
public import Idealize.ShloMosaic.Lib.Tactic

@[expose] public section

set_option maxRecDepth 16384

noncomputable section

namespace Cert.Sb.Hand

open Idealize.ShloMosaic Idealize.ShloMosaic.TcCoe Idealize.SL.Sem

/-- What the frame of the rounded program says. -/
abbrev Says : Prop := ∀ (m : (ℓ : Loc nD τ sig) → Buf (Elt Bits) ℓ) (ρ : Dev nD → PrngReg),
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

end Cert.Sb.Hand

namespace Cert.SbIdeal.Hand

open Idealize.ShloMosaic Idealize.ShloMosaic.TcCoe Idealize.SL.Sem

/-- What the frame of the ideal program's text says at bit patterns. -/
abbrev Says : Prop := ∀ (m : (ℓ : Loc nD τ sig) → Buf (Elt Bits) ℓ) (ρ : Dev nD → PrngReg),
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

end Cert.SbIdeal.Hand

/-- The rounded program's text is the ideal one's, so its frame is the same theorem, read at bit patterns. -/
theorem Cert.Sb.Hand.same : Cert.SbIdeal.Hand.Says = Cert.Sb.Hand.Says := by sl_kernel_rfl

theorem Cert.Sb.Hand.frame : Cert.Sb.Hand.Says := Cert.Sb.Hand.same ▸ fun m ρ => Cert.SbIdeal.Hand.frame (F := Idealize.ShloMosaic.Bits) m ρ

end
-- ==== Proof.SbFwdBits.lean ====
/- The stick-breaking attention forwards: the frame of the rounded program. -/
module

public import proofs.«01_k».proof.Proof.SbFwdFrame
public import proofs.«01_k».proof.Proof.Gen.SbFwd
public import Idealize.ShloMosaic.PureOps.BitExact
public import Idealize.ShloMosaic.Lib.Tactic

@[expose] public section

set_option maxRecDepth 16384

noncomputable section

namespace Cert.SbFwd.Hand

open Idealize.ShloMosaic Idealize.ShloMosaic.TcCoe Idealize.SL.Sem

/-- What the frame of the rounded program says. -/
abbrev Says : Prop := ∀ (m : (ℓ : Loc nD τ sig) → Buf (Elt Bits) ℓ) (ρ : Dev nD → PrngReg),
    θ_run defs (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0)

end Cert.SbFwd.Hand

namespace Cert.SbFwdIdeal.Hand

open Idealize.ShloMosaic Idealize.ShloMosaic.TcCoe Idealize.SL.Sem

/-- What the frame of the ideal program's text says at bit patterns. -/
abbrev Says : Prop := ∀ (m : (ℓ : Loc nD τ sig) → Buf (Elt Bits) ℓ) (ρ : Dev nD → PrngReg),
    θ_run defs (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0)

end Cert.SbFwdIdeal.Hand

/-- The rounded program's text is the ideal one's, so its frame is the same theorem, read at bit patterns. -/
theorem Cert.SbFwd.Hand.same : Cert.SbFwdIdeal.Hand.Says = Cert.SbFwd.Hand.Says := by sl_kernel_rfl

theorem Cert.SbFwd.Hand.frame : Cert.SbFwd.Hand.Says := Cert.SbFwd.Hand.same ▸ fun m ρ => Cert.SbFwdIdeal.Hand.frame (F := Idealize.ShloMosaic.Bits) m ρ

end
-- ==== Proof.lean ====
/- Every claim from the modules that prove it. -/
module

public import proofs.«01_k».proof.Proof.MemNorm
public import proofs.«01_k».proof.Proof.FfnDgu
public import proofs.«01_k».proof.Proof.CrossDn
public import proofs.«01_k».proof.Proof.MixDn
public import proofs.«01_k».proof.Proof.Ffn2Dn
public import proofs.«01_k».proof.Proof.Ffn1Dn
public import proofs.«01_k».proof.Proof.SbFwd
public import proofs.«01_k».proof.Proof.NormFwd
public import proofs.«01_k».proof.Proof.MemFwd
public import proofs.«01_k».proof.Proof.XattnFwd
public import proofs.«01_k».proof.Proof.ConvFwd
public import proofs.«01_k».proof.Proof.FfnUp
public import proofs.«01_k».proof.Proof.MixMerge
public import proofs.«01_k».proof.Proof.MixOut
public import proofs.«01_k».proof.Proof.FfnDown
public import proofs.«01_k».proof.Proof.Frames
public import proofs.«01_k».proof.Proof.Gen.Conv.Frame
public import proofs.«01_k».proof.Proof.Gen.MemNorm.Frame
public import proofs.«01_k».proof.Proof.Gen.FfnDgu.Frame
public import proofs.«01_k».proof.Proof.Gen.MixDmerge.Frame
public import proofs.«01_k».proof.Proof.Gen.CrossDn.Frame
public import proofs.«01_k».proof.Proof.Gen.MixDn.Frame
public import proofs.«01_k».proof.Proof.Gen.Ffn2Dn.Frame
public import proofs.«01_k».proof.Proof.Gen.Ffn1Dn.Frame
public import proofs.«01_k».proof.Proof.Gen.DownLoss.Frame
public import proofs.«01_k».proof.Proof.Gen.Xattn.Frame
public import proofs.«01_k».proof.Proof.SbBits
public import proofs.«01_k».proof.Proof.SbFwdBits
public import proofs.«01_k».proof.Proof.Gen.NormFwd.Frame
public import proofs.«01_k».proof.Proof.Gen.MemFwd.Frame
public import proofs.«01_k».proof.Proof.Gen.XattnFwd.Frame
public import proofs.«01_k».proof.Proof.Gen.ConvFwd.Frame
public import proofs.«01_k».proof.Proof.Gen.FfnUp.Frame
public import proofs.«01_k».proof.Proof.Gen.MixMerge.Frame
public import proofs.«01_k».proof.Proof.Gen.MixOut.Frame
public import proofs.«01_k».proof.Proof.Gen.FfnDown.Frame

@[expose] public section

noncomputable section

open Idealize.ShloMosaic Idealize.SL.Sem

namespace Cert.Proof

theorem claim : Cert.Claim :=
  ⟨Conv.Gen.facts,
    ConvIdeal.Gen.facts,
    ConvRefIdeal.Gen.facts,
    MemNorm.Gen.facts,
    MemNormIdeal.Gen.facts,
    MemNormRefIdeal.Gen.facts,
    FfnDgu.Gen.facts,
    FfnDguIdeal.Gen.facts,
    FfnDguRefIdeal.Gen.facts,
    MixDmerge.Gen.facts,
    MixDmergeIdeal.Gen.facts,
    MixDmergeRefIdeal.Gen.facts,
    CrossDn.Gen.facts,
    CrossDnIdeal.Gen.facts,
    CrossDnRefIdeal.Gen.facts,
    MixDn.Gen.facts,
    MixDnIdeal.Gen.facts,
    MixDnRefIdeal.Gen.facts,
    Ffn2Dn.Gen.facts,
    Ffn2DnIdeal.Gen.facts,
    Ffn2DnRefIdeal.Gen.facts,
    Ffn1Dn.Gen.facts,
    Ffn1DnIdeal.Gen.facts,
    Ffn1DnRefIdeal.Gen.facts,
    DownLoss.Gen.facts,
    DownLossIdeal.Gen.facts,
    DownLossRefIdeal.Gen.facts,
    Xattn.Gen.facts,
    XattnIdeal.Gen.facts,
    XattnRefIdeal.Gen.facts,
    Sb.Gen.facts,
    SbIdeal.Gen.facts,
    SbRefIdeal.Gen.facts,
    SbFwd.Gen.facts,
    SbFwdIdeal.Gen.facts,
    SbFwdRefIdeal.Gen.facts,
    NormFwd.Gen.facts,
    NormFwdIdeal.Gen.facts,
    NormFwdRefIdeal.Gen.facts,
    MemFwd.Gen.facts,
    MemFwdIdeal.Gen.facts,
    MemFwdRefIdeal.Gen.facts,
    XattnFwd.Gen.facts,
    XattnFwdIdeal.Gen.facts,
    XattnFwdRefIdeal.Gen.facts,
    ConvFwd.Gen.facts,
    ConvFwdIdeal.Gen.facts,
    ConvFwdRefIdeal.Gen.facts,
    FfnUp.Gen.facts,
    FfnUpIdeal.Gen.facts,
    FfnUpRefIdeal.Gen.facts,
    MixMerge.Gen.facts,
    MixMergeIdeal.Gen.facts,
    MixMergeRefIdeal.Gen.facts,
    MixOut.Gen.facts,
    MixOutIdeal.Gen.facts,
    MixOutRefIdeal.Gen.facts,
    FfnDown.Gen.facts,
    FfnDownIdeal.Gen.facts,
    FfnDownRefIdeal.Gen.facts,
    Pre_finite_ffndgu.Gen.facts,
    Pre_finite_xattn.Gen.facts,
    Pre_finite_sb.Gen.facts,
    Pre_finite_sbfwd.Gen.facts,
    fun m ρ _ => Conv.Gen.frame m ρ,
    fun m ρ _ => ConvIdeal.Gen.frame m ρ,
    Frames.ConvRef,
    fun m ρ _ => MemNorm.Gen.frame m ρ,
    fun m ρ _ => MemNormIdeal.Gen.frame m ρ,
    Frames.MemNormRef,
    fun m ρ _ => FfnDgu.Gen.frame m ρ,
    fun m ρ _ => FfnDguIdeal.Gen.frame m ρ,
    fun m ρ _ => FfnDguIdeal.Gen.frame m ρ,
    Frames.FfnDguRef,
    fun m ρ _ => Frames.FfnDguRef m ρ trivial,
    fun m ρ _ => MixDmerge.Gen.frame m ρ,
    fun m ρ _ => MixDmergeIdeal.Gen.frame m ρ,
    Frames.MixDmergeRef,
    fun m ρ _ => CrossDn.Gen.frame m ρ,
    fun m ρ _ => CrossDnIdeal.Gen.frame m ρ,
    Frames.CrossDnRef,
    fun m ρ _ => MixDn.Gen.frame m ρ,
    fun m ρ _ => MixDnIdeal.Gen.frame m ρ,
    Frames.MixDnRef,
    fun m ρ _ => Ffn2Dn.Gen.frame m ρ,
    fun m ρ _ => Ffn2DnIdeal.Gen.frame m ρ,
    Frames.Ffn2DnRef,
    fun m ρ _ => Ffn1Dn.Gen.frame m ρ,
    fun m ρ _ => Ffn1DnIdeal.Gen.frame m ρ,
    Frames.Ffn1DnRef,
    fun m ρ _ => DownLoss.Gen.frame m ρ,
    fun m ρ _ => DownLossIdeal.Gen.frame m ρ,
    Frames.DownLossRef,
    fun m ρ _ => Xattn.Gen.frame m ρ,
    fun m ρ _ => XattnIdeal.Gen.frame m ρ,
    fun m ρ _ => XattnIdeal.Gen.frame m ρ,
    Frames.XattnRef,
    fun m ρ _ => Frames.XattnRef m ρ trivial,
    fun m ρ _ => Sb.Hand.frame m ρ,
    fun m ρ _ => SbIdeal.Hand.frame m ρ,
    fun m ρ _ => SbIdeal.Hand.frame m ρ,
    Frames.SbRef,
    fun m ρ _ => Frames.SbRef m ρ trivial,
    fun m ρ _ => SbFwd.Hand.frame m ρ,
    fun m ρ _ => SbFwdIdeal.Hand.frame m ρ,
    fun m ρ _ => SbFwdIdeal.Hand.frame m ρ,
    Frames.SbFwdRef,
    fun m ρ _ => Frames.SbFwdRef m ρ trivial,
    fun m ρ _ => NormFwd.Gen.frame m ρ,
    fun m ρ _ => NormFwdIdeal.Gen.frame m ρ,
    Frames.NormFwdRef,
    fun m ρ _ => MemFwd.Gen.frame m ρ,
    fun m ρ _ => MemFwdIdeal.Gen.frame m ρ,
    Frames.MemFwdRef,
    fun m ρ _ => XattnFwd.Gen.frame m ρ,
    fun m ρ _ => XattnFwdIdeal.Gen.frame m ρ,
    Frames.XattnFwdRef,
    fun m ρ _ => ConvFwd.Gen.frame m ρ,
    fun m ρ _ => ConvFwdIdeal.Gen.frame m ρ,
    Frames.ConvFwdRef,
    fun m ρ _ => FfnUp.Gen.frame m ρ,
    fun m ρ _ => FfnUpIdeal.Gen.frame m ρ,
    Frames.FfnUpRef,
    fun m ρ _ => MixMerge.Gen.frame m ρ,
    fun m ρ _ => MixMergeIdeal.Gen.frame m ρ,
    Frames.MixMergeRef,
    fun m ρ _ => MixOut.Gen.frame m ρ,
    fun m ρ _ => MixOutIdeal.Gen.frame m ρ,
    Frames.MixOutRef,
    fun m ρ _ => FfnDown.Gen.frame m ρ,
    fun m ρ _ => FfnDownIdeal.Gen.frame m ρ,
    Frames.FfnDownRef,
    trivial,
    ConvIdeal.Claims.algebraic,
    trivial,
    MemNormIdeal.Claims.algebraic,
    trivial,
    FfnDguIdeal.Claims.algebraic,
    trivial,
    MixDmergeIdeal.Claims.algebraic,
    trivial,
    CrossDnIdeal.Claims.algebraic,
    trivial,
    MixDnIdeal.Claims.algebraic,
    trivial,
    Ffn2DnIdeal.Claims.algebraic,
    trivial,
    Ffn1DnIdeal.Claims.algebraic,
    trivial,
    DownLossIdeal.Claims.algebraic,
    trivial,
    XattnIdeal.Claims.algebraic,
    trivial,
    SbIdeal.Claims.algebraic,
    trivial,
    SbFwdIdeal.Claims.algebraic,
    trivial,
    NormFwdIdeal.Claims.algebraic,
    trivial,
    MemFwdIdeal.Claims.algebraic,
    trivial,
    XattnFwdIdeal.Claims.algebraic,
    trivial,
    ConvFwdIdeal.Claims.algebraic,
    trivial,
    FfnUpIdeal.Claims.algebraic,
    trivial,
    MixMergeIdeal.Claims.algebraic,
    trivial,
    MixOutIdeal.Claims.algebraic,
    trivial,
    FfnDownIdeal.Claims.algebraic⟩

end Cert.Proof
